-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_ffn [hPre_finite_ffn : Cert.Pre_finite_ffn.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_ffn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_ffn [hPre_finite_ffn : Cert.Pre_finite_ffn.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_ffn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_ffn [hKernel6Ideal : Cert.Kernel6Ideal.Facts] [hPre_finite_ffn : Cert.Pre_finite_ffn.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_ffn m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_ffn [hReference6Ideal : Cert.Reference6Ideal.Facts] [hPre_finite_ffn : Cert.Pre_finite_ffn.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_ffn m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def preserves_Kernel_KernelIdeal : Prop :=
  IdealRules.named_const.Statement Cert.KernelIdeal.κ "gelu_c" .bf16 0x3D37#16 ((12003091 / 268435456 : ℝ) : EReal)
  ∧ IdealRules.named_const.Statement Cert.KernelIdeal.κ "gelu_k" .bf16 0x3F4C#16 ((6693141 / 8388608 : ℝ) : EReal)
  ∧ IdealRules.named_const.Statement Cert.KernelIdeal.κ "gelu_3c" .bf16 0x3E09#16 ((36009273 / 268435456 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v414) = v0 c
          ∧ r.2.mem ((c.tc : Thread Cert.ReferenceIdeal.nD Cert.ReferenceIdeal.τ).loc Cert.ReferenceIdeal.main_v409) = v1 c
          ∧ r.2.mem ((c.tc : Thread Cert.ReferenceIdeal.nD Cert.ReferenceIdeal.τ).loc Cert.ReferenceIdeal.main_v334) = v2 c
          ∧ r.2.mem ((c.tc : Thread Cert.ReferenceIdeal.nD Cert.ReferenceIdeal.τ).loc Cert.ReferenceIdeal.main_v412) = v3 c
          ∧ r.2.mem ((c.tc : Thread Cert.ReferenceIdeal.nD Cert.ReferenceIdeal.τ).loc Cert.ReferenceIdeal.main_v259) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v68) = v2 c
          ∧ r.2.mem ((c.tc : Thread Cert.Reference2Ideal.nD Cert.Reference2Ideal.τ).loc Cert.Reference2Ideal.main_v71) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v79) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v75) = v2 c
          ∧ r.2.mem ((c.tc : Thread Cert.Reference3Ideal.nD Cert.Reference3Ideal.τ).loc Cert.Reference3Ideal.main_v78) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_ffn [hKernel6Ideal : Cert.Kernel6Ideal.Facts] [hReference6Ideal : Cert.Reference6Ideal.Facts] [hPre_finite_ffn : Cert.Pre_finite_ffn.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_ffn m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_v34) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_v22) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v59) = v0 c
          ∧ r.2.mem ((c.tc : Thread Cert.Reference10Ideal.nD Cert.Reference10Ideal.τ).loc Cert.Reference10Ideal.main_v61) = v1 c
          ∧ r.2.mem ((c.tc : Thread Cert.Reference10Ideal.nD Cert.Reference10Ideal.τ).loc Cert.Reference10Ideal.main_v63) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v29) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)) (v2 : (c : Dev Cert.Kernel15Ideal.nD) → Buf (Elt Ideal) ((c.tc : Thread Cert.Kernel15Ideal.nD Cert.Kernel15Ideal.τ).loc Cert.Kernel15Ideal.main_v2_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_v2_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v33) = v0 c
          ∧ r.2.mem ((c.tc : Thread Cert.Reference15Ideal.nD Cert.Reference15Ideal.τ).loc Cert.Reference15Ideal.main_v35) = v1 c
          ∧ r.2.mem ((c.tc : Thread Cert.Reference15Ideal.nD Cert.Reference15Ideal.τ).loc Cert.Reference15Ideal.main_v37) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v11) = v0 c
          ∧ r.2.mem ((c.tc : Thread Cert.Reference16Ideal.nD Cert.Reference16Ideal.τ).loc Cert.Reference16Ideal.main_v13) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v11) = v0 c
          ∧ r.2.mem ((c.tc : Thread Cert.Reference17Ideal.nD Cert.Reference17Ideal.τ).loc Cert.Reference17Ideal.main_v13) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v32) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_ffn (hKernel6Ideal := hKernel6Ideal) (hPre_finite_ffn := hPre_finite_ffn)
    ∧ quiescent_Reference6Ideal (hReference6Ideal := hReference6Ideal)
    ∧ quiescent_Reference6Ideal_pre_finite_ffn (hReference6Ideal := hReference6Ideal) (hPre_finite_ffn := hPre_finite_ffn)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_ffn (hKernel6Ideal := hKernel6Ideal) (hReference6Ideal := hReference6Ideal) (hPre_finite_ffn := hPre_finite_ffn)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S8192x6144 : Shape := ⟨2, ![8192, 6144]⟩
abbrev S8192x1536 : Shape := ⟨2, ![8192, 1536]⟩
abbrev S8192x3072 : Shape := ⟨2, ![8192, 3072]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S_ : Shape := ⟨0, ![]⟩
abbrev S8192x1024 : Shape := ⟨2, ![8192, 1024]⟩

class Facts : Prop where
  slices_S8192x6144_S8192x1536_0_0 : S8192x6144.Slices ![0, 0] S8192x1536
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  slices_S8192x1536_S8192x1024_0_0 : S8192x1536.Slices ![0, 0] S8192x1024
  bcast_S_S8192x1024 : S_.BroadcastsInDim S8192x1024 (![] : Fin 0 → Fin S8192x1024.rank)
  reducesTo_S8192x1024_S_d0_1 : S8192x1024.ReducesTo [0, 1] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_arg8 : FVec F S512 .f32) (main_v32 : IVec S_ 1) (main_v33 : FVec F S4x128x128 .f32) (main_v34 : FVec F S4x128x128 .f32) : IVec S_ 1 :=
  let main_v35 : IVec S4x128x128 1 := cmpf .olt main_v33 main_v34
  let main_c_11 : IVec S_ 1 := constantI S_ 1 1#1
  let main_v36 : IVec S_ 1 := (fun x v => Host.reduce IntOp.andi x v reducesTo_S4x128x128_S_d0_1_2 h_S_) main_v35 main_c_11
  let main_v37 : IVec S_ 1 := andi main_v32 main_v36
  let main_v38 : FVec F S512 .f32 := Host.absf main_arg8
  let main_cst_12 : FVec F S_ .f32 := constant S_ .f32 0x7F800000#32
  let main_v39 : FVec F S512 .f32 := broadcastInDim S512 ![] bcast_S_S512 main_cst_12
  let main_v40 : IVec S512 1 := cmpf .olt main_v38 main_v39
  let main_c_13 : IVec S_ 1 := constantI S_ 1 1#1
  let main_v41 : IVec S_ 1 := (fun x v => Host.reduce IntOp.andi x v reducesTo_S512_S_d0 h_S_) main_v40 main_c_13
  let main_v42 : IVec S_ 1 := andi main_v37 main_v41
  main_v42

def fn_part1 {F : FTy → Type} [FloatOps F] (main_arg4 : FVec F S512 .f32) (main_arg5 : FVec F S4x128x128 .f32) (main_arg6 : FVec F S4x128 .f32) (main_arg7 : FVec F S4x128x128 .f32) (main_arg8 : FVec F S512 .f32) (main_v17 : IVec S_ 1) : IVec S_ 1 :=
  let main_v18 : FVec F S512 .f32 := Host.absf main_arg4
  let main_cst_4 : FVec F S_ .f32 := constant S_ .f32 0x7F800000#32
  let main_v19 : FVec F S512 .f32 := broadcastInDim S512 ![] bcast_S_S512 main_cst_4
  let main_v20 : IVec S512 1 := cmpf .olt main_v18 main_v19
  let main_c_5 : IVec S_ 1 := constantI S_ 1 1#1
  let main_v21 : IVec S_ 1 := (fun x v => Host.reduce IntOp.andi x v reducesTo_S512_S_d0 h_S_) main_v20 main_c_5
  let main_v22 : IVec S_ 1 := andi main_v17 main_v21
  let main_v23 : FVec F S4x128x128 .f32 := Host.absf main_arg5
  let main_cst_6 : FVec F S_ .f32 := constant S_ .f32 0x7F800000#32
  let main_v24 : FVec F S4x128x128 .f32 := broadcastInDim S4x128x128 ![] bcast_S_S4x128x128 main_cst_6
  let main_v25 : IVec S4x128x128 1 := cmpf .olt main_v23 main_v24
  let main_c_7 : IVec S_ 1 := constantI S_ 1 1#1
  let main_v26 : IVec S_ 1 := (fun x v => Host.reduce IntOp.andi x v reducesTo_S4x128x128_S_d0_1_2 h_S_) main_v25 main_c_7
  let main_v27 : IVec S_ 1 := andi main_v22 main_v26
  let main_v28 : FVec F S4x128 .f32 := Host.absf main_arg6
  let main_cst_8 : FVec F S_ .f32 := constant S_ .f32 0x7F800000#32
  let main_v29 : FVec F S4x128 .f32 := broadcastInDim S4x128 ![] bcast_S_S4x128 main_cst_8
  let main_v30 : IVec S4x128 1 := cmpf .olt main_v28 main_v29
  let main_c_9 : IVec S_ 1 := constantI S_ 1 1#1
  let main_v31 : IVec S_ 1 := (fun x v => Host.reduce IntOp.andi x v reducesTo_S4x128_S_d0_1 h_S_) main_v30 main_c_9
  let main_v32 : IVec S_ 1 := andi main_v27 main_v31
  let main_v33 : FVec F S4x128x128 .f32 := Host.absf main_arg7
  let main_cst_10 : FVec F S_ .f32 := constant S_ .f32 0x7F800000#32
  let main_v34 : FVec F S4x128x128 .f32 := broadcastInDim S4x128x128 ![] bcast_S_S4x128x128 main_cst_10
  fn_part2 (F := F) main_arg8 main_v32 main_v33 main_v34

def fn {F : FTy → Type} [FloatOps F] (main_arg0 : FVec F S8192x6144 .bf16) (main_arg1 : FVec F S8192x1536 .bf16) (main_arg2 : FVec F S8192x3072 .bf16) (main_arg3 : FVec F S512 .f32) (main_arg4 : FVec F S512 .f32) (main_arg5 : FVec F S4x128x128 .f32) (main_arg6 : FVec F S4x128 .f32) (main_arg7 : FVec F S4x128x128 .f32) (main_arg8 : FVec F S512 .f32) (main_arg9 : FVec F S3x512 .f32) : IVec S_ 1 :=
  let main_v0 : FVec F S8192x1536 .bf16 := (extractStridedSlice S8192x1536 ![0, 0] · slices_S8192x6144_S8192x1536_0_0) main_arg0
  let main_v1 : FVec F S8192x1536 .f32 := (extf .f32 · bitsLt_bf16_f32) main_v0
  let main_v2 : FVec F S8192x1536 .f32 := Host.absf main_v1
  let main_cst : FVec F S_ .f32 := constant S_ .f32 0x7F800000#32
  let main_v3 : FVec F S8192x1536 .f32 := broadcastInDim S8192x1536 ![] bcast_S_S8192x1536 main_cst
  let main_v4 : IVec S8192x1536 1 := cmpf .olt main_v2 main_v3
  let main_c : IVec S_ 1 := constantI S_ 1 1#1
  let main_v5 : IVec S_ 1 := (fun x v => Host.reduce IntOp.andi x v reducesTo_S8192x1536_S_d0_1 h_S_) main_v4 main_c
  let main_v6 : FVec F S8192x1024 .bf16 := (extractStridedSlice S8192x1024 ![0, 0] · slices_S8192x1536_S8192x1024_0_0) main_arg1
  let main_v7 : FVec F S8192x1024 .f32 := (extf .f32 · bitsLt_bf16_f32) main_v6
  let main_v8 : FVec F S8192x1024 .f32 := Host.absf main_v7
  let main_cst_0 : FVec F S_ .f32 := constant S_ .f32 0x7F800000#32
  let main_v9 : FVec F S8192x1024 .f32 := broadcastInDim S8192x1024 ![] bcast_S_S8192x1024 main_cst_0
  let main_v10 : IVec S8192x1024 1 := cmpf .olt main_v8 main_v9
  let main_c_1 : IVec S_ 1 := constantI S_ 1 1#1
  let main_v11 : IVec S_ 1 := (fun x v => Host.reduce IntOp.andi x v reducesTo_S8192x1024_S_d0_1 h_S_) main_v10 main_c_1
  let main_v12 : IVec S_ 1 := andi main_v5 main_v11
  let main_v13 : FVec F S512 .f32 := Host.absf main_arg3
  let main_cst_2 : FVec F S_ .f32 := constant S_ .f32 0x7F800000#32
  let main_v14 : FVec F S512 .f32 := broadcastInDim S512 ![] bcast_S_S512 main_cst_2
  let main_v15 : IVec S512 1 := cmpf .olt main_v13 main_v14
  let main_c_3 : IVec S_ 1 := constantI S_ 1 1#1
  let main_v16 : IVec S_ 1 := (fun x v => Host.reduce IntOp.andi x v reducesTo_S512_S_d0 h_S_) main_v15 main_c_3
  let main_v17 : IVec S_ 1 := andi main_v12 main_v16
  fn_part1 (F := F) main_arg4 main_arg5 main_arg6 main_arg7 main_arg8 main_v17
-- ==== Pre_finite_ffn.lean ====
abbrev S8192x1024 : Shape := ⟨2, ![8192, 1024]⟩
abbrev S8192x2816 : Shape := ⟨2, ![8192, 2816]⟩
abbrev S2816x1024 : Shape := ⟨2, ![2816, 1024]⟩
abbrev S2x6x1024 : Shape := ⟨3, ![2, 6, 1024]⟩
abbrev S_ : Shape := ⟨0, ![]⟩
abbrev S2x1x1024 : Shape := ⟨3, ![2, 1, 1024]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S2x6x1024_S2x1x1024_0_5_0 : S2x6x1024.Slices ![0, 5, 0] S2x1x1024
  bcast_S_S2x1x1024 : S_.BroadcastsInDim S2x1x1024 (![] : Fin 0 → Fin S2x1x1024.rank)
  reducesTo_S2x1x1024_S_d0_1_2 : S2x1x1024.ReducesTo [0, 1, 2] S_
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v15 : IVec S_ 1) (main_v17 : FVec F S2816x1024 .f32) : IVec S_ 1 :=
  let main_cst_4 : FVec F S_ .f32 := constant S_ .f32 0x7F800000#32
  let main_v18 : FVec F S2816x1024 .f32 := broadcastInDim S2816x1024 ![] bcast_S_S2816x1024 main_cst_4
  let main_v19 : IVec S2816x1024 1 := cmpf .olt main_v17 main_v18
  let main_c_5 : IVec S_ 1 := constantI S_ 1 1#1
  let main_v20 : IVec S_ 1 := (fun x v => Host.reduce IntOp.andi x v reducesTo_S2816x1024_S_d0_1 h_S_) main_v19 main_c_5
  let main_v21 : IVec S_ 1 := andi main_v15 main_v20
  main_v21

def fn {F : FTy → Type} [FloatOps F] (main_arg0 : FVec F S8192x1024 .f32) (main_arg1 : FVec F S8192x1024 .bf16) (main_arg2 : FVec F S8192x2816 .bf16) (main_arg3 : FVec F S8192x2816 .bf16) (main_arg4 : FVec F S2816x1024 .bf16) (main_arg5 : FVec F S2x6x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2x1x1024 .f32 := (extractStridedSlice S2x1x1024 ![0, 5, 0] · slices_S2x6x1024_S2x1x1024_0_5_0) main_arg5
  let main_v5 : FVec F S2x1x1024 .f32 := Host.absf main_v4
  let main_cst_0 : FVec F S_ .f32 := constant S_ .f32 0x7F800000#32
  let main_v6 : FVec F S2x1x1024 .f32 := broadcastInDim S2x1x1024 ![] bcast_S_S2x1x1024 main_cst_0
  let main_v7 : IVec S2x1x1024 1 := cmpf .olt main_v5 main_v6
  let main_c_1 : IVec S_ 1 := constantI S_ 1 1#1
  let main_v8 : IVec S_ 1 := (fun x v => Host.reduce IntOp.andi x v reducesTo_S2x1x1024_S_d0_1_2 h_S_) main_v7 main_c_1
  let main_v9 : IVec S_ 1 := andi main_v3 main_v8
  let main_v10 : FVec F S8192x2816 .f32 := (extf .f32 · bitsLt_bf16_f32) main_arg3
  let main_v11 : FVec F S8192x2816 .f32 := Host.absf main_v10
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v9 main_v14
  let main_v16 : FVec F S2816x1024 .f32 := (extf .f32 · bitsLt_bf16_f32) main_arg4
  let main_v17 : FVec F S2816x1024 .f32 := Host.absf main_v16
  fn_part1 (F := F) main_v15 main_v17
-- ==== Kernel.lean ====
abbrev S8192x6144 : Shape := ⟨2, ![8192, 6144]⟩
abbrev S8192x1536 : Shape := ⟨2, ![8192, 1536]⟩
abbrev S8192x3072 : Shape := ⟨2, ![8192, 3072]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S_ : Shape := ⟨0, ![]⟩
abbrev S8x512 : Shape := ⟨2, ![8, 512]⟩
abbrev S1 : Shape := ⟨1, ![1]⟩
abbrev S128x128 : Shape := ⟨2, ![128, 128]⟩
abbrev S128x4 : Shape := ⟨2, ![128, 4]⟩
abbrev S256x3072 : Shape := ⟨2, ![256, 3072]⟩
abbrev S16x512 : Shape := ⟨2, ![16, 512]⟩
abbrev S16x1024 : Shape := ⟨2, ![16, 1024]⟩
abbrev S256x1536 : Shape := ⟨2, ![256, 1536]⟩
abbrev S256x6144 : Shape := ⟨2, ![256, 6144]⟩
abbrev S1x512 : Shape := ⟨2, ![1, 512]⟩
abbrev S256x512 : Shape := ⟨2, ![256, 512]⟩
abbrev S256 : Shape := ⟨1, ![256]⟩
abbrev S256x1 : Shape := ⟨2, ![256, 1]⟩
abbrev S1x128x128 : Shape := ⟨3, ![1, 128, 128]⟩
abbrev S128x1 : Shape := ⟨2, ![128, 1]⟩
abbrev S128x512 : Shape := ⟨2, ![128, 512]⟩
abbrev S272x512 : Shape := ⟨2, ![272, 512]⟩
abbrev S272x128 : Shape := ⟨2, ![272, 128]⟩
abbrev S256x128 : Shape := ⟨2, ![256, 128]⟩
abbrev S128 : Shape := ⟨1, ![128]⟩
abbrev S272x1 : Shape := ⟨2, ![272, 1]⟩
abbrev S16x128 : Shape := ⟨2, ![16, 128]⟩

abbrev nBuf : Space → Nat
  | .hbm => 37
  | .vmem => 27
  | .smem => 0
  | _ => 0

abbrev bufTy : (tb : Table) → Fin (tcTables nBuf tb) → BufTy
  | .hbm, ⟨0, _⟩ => ⟨S8192x6144, .bf16⟩
  | .hbm, ⟨1, _⟩ => ⟨S8192x1536, .bf16⟩
  | .hbm, ⟨2, _⟩ => ⟨S8192x3072, .bf16⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S4x128x128, .f32⟩
  | .hbm, ⟨8, _⟩ => ⟨S512, .f32⟩
  | .hbm, ⟨9, _⟩ => ⟨S3x512, .f32⟩
  | .hbm, ⟨10, _⟩ => ⟨S_, .f32⟩
  | .hbm, ⟨11, _⟩ => ⟨S8x512, .f32⟩
  | .hbm, ⟨12, _⟩ => ⟨S_, .i32⟩
  | .hbm, ⟨13, _⟩ => ⟨S1, .i32⟩
  | .hbm, ⟨14, _⟩ => ⟨S8x512, .f32⟩
  | .hbm, ⟨15, _⟩ => ⟨S_, .i32⟩
  | .hbm, ⟨16, _⟩ => ⟨S1, .i32⟩
  | .hbm, ⟨17, _⟩ => ⟨S8x512, .f32⟩
  | .hbm, ⟨18, _⟩ => ⟨S_, .i32⟩
  | .hbm, ⟨19, _⟩ => ⟨S1, .i32⟩
  | .hbm, ⟨20, _⟩ => ⟨S8x512, .f32⟩
  | .hbm, ⟨21, _⟩ => ⟨S_, .f32⟩
  | .hbm, ⟨22, _⟩ => ⟨S8x512, .f32⟩
  | .hbm, ⟨23, _⟩ => ⟨S_, .i32⟩
  | .hbm, ⟨24, _⟩ => ⟨S1, .i32⟩
  | .hbm, ⟨25, _⟩ => ⟨S8x512, .f32⟩
  | .hbm, ⟨26, _⟩ => ⟨S_, .f32⟩
  | .hbm, ⟨27, _⟩ => ⟨S128x128, .f32⟩
  | .hbm, ⟨28, _⟩ => ⟨S128x4, .f32⟩
  | .hbm, ⟨29, _⟩ => ⟨S_, .i32⟩
  | .hbm, ⟨30, _⟩ => ⟨S1, .i32⟩
  | .hbm, ⟨31, _⟩ => ⟨S128x128, .f32⟩
  | .hbm, ⟨32, _⟩ => ⟨S8192x6144, .bf16⟩
  | .hbm, ⟨33, _⟩ => ⟨S8x512, .f32⟩
  | .hbm, ⟨34, _⟩ => ⟨S4x128x128, .f32⟩
  | .hbm, ⟨35, _⟩ => ⟨S128x128, .f32⟩
  | .hbm, ⟨36, _⟩ => ⟨S4x128x128, .f32⟩
  | .local _ .vmem, ⟨0, _⟩ => ⟨S256x3072, .bf16⟩
  | .local _ .vmem, ⟨1, _⟩ => ⟨S256x3072, .bf16⟩
  | .local _ .vmem, ⟨2, _⟩ => ⟨S16x512, .bf16⟩
  | .local _ .vmem, ⟨3, _⟩ => ⟨S16x512, .bf16⟩
  | .local _ .vmem, ⟨4, _⟩ => ⟨S16x1024, .bf16⟩
  | .local _ .vmem, ⟨5, _⟩ => ⟨S16x1024, .bf16⟩
  | .local _ .vmem, ⟨6, _⟩ => ⟨S16x512, .bf16⟩
  | .local _ .vmem, ⟨7, _⟩ => ⟨S16x512, .bf16⟩
  | .local _ .vmem, ⟨8, _⟩ => ⟨S256x1536, .bf16⟩
  | .local _ .vmem, ⟨9, _⟩ => ⟨S256x1536, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S256x3072, .bf16⟩
  | .local _ .vmem, ⟨15, _⟩ => ⟨S256x3072, .bf16⟩
  | .local _ .vmem, ⟨16, _⟩ => ⟨S8x512, .f32⟩
  | .local _ .vmem, ⟨17, _⟩ => ⟨S8x512, .f32⟩
  | .local _ .vmem, ⟨18, _⟩ => ⟨S4x128x128, .f32⟩
  | .local _ .vmem, ⟨19, _⟩ => ⟨S128x128, .f32⟩
  | .local _ .vmem, ⟨20, _⟩ => ⟨S4x128x128, .f32⟩
  | .local _ .vmem, ⟨21, _⟩ => ⟨S256x6144, .bf16⟩
  | .local _ .vmem, ⟨22, _⟩ => ⟨S256x6144, .bf16⟩
  | .local _ .vmem, ⟨23, _⟩ => ⟨S8x512, .f32⟩
  | .local _ .vmem, ⟨24, _⟩ => ⟨S4x128x128, .f32⟩
  | .local _ .vmem, ⟨25, _⟩ => ⟨S128x128, .f32⟩
  | .local _ .vmem, ⟨26, _⟩ => ⟨S4x128x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_c_5 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev main_v14_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x6144 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
variable {F : FTy → Type} [FloatOps F] [Named F]
def κ : String → Option EReal := fun
  | "gelu_3c" => some ((36009273 / 268435456 : ℝ) : EReal)
  | "gelu_c" => some ((12003091 / 268435456 : ℝ) : EReal)
  | "gelu_k" => some ((6693141 / 8388608 : ℝ) : EReal)
  | _ => none
-- ==== ReferenceIdeal.lean ====
abbrev S8192x6144 : Shape := ⟨2, ![8192, 6144]⟩
abbrev S8192x1536 : Shape := ⟨2, ![8192, 1536]⟩
abbrev S8192x3072 : Shape := ⟨2, ![8192, 3072]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S2x4096x6144 : Shape := ⟨3, ![2, 4096, 6144]⟩
abbrev S2x4096x1536 : Shape := ⟨3, ![2, 4096, 1536]⟩
abbrev S2x4096x512 : Shape := ⟨3, ![2, 4096, 512]⟩
abbrev S2x4096x3072 : Shape := ⟨3, ![2, 4096, 3072]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x32x128x4x128 : Shape := ⟨5, ![2, 32, 128, 4, 128]⟩
abbrev S128x128 : Shape := ⟨2, ![128, 128]⟩
abbrev S1x128x128 : Shape := ⟨3, ![1, 128, 128]⟩
abbrev S4x2x32x128x128 : Shape := ⟨5, ![4, 2, 32, 128, 128]⟩
abbrev S128x4 : Shape := ⟨2, ![128, 4]⟩
abbrev S1x1x128x4x1 : Shape := ⟨5, ![1, 1, 128, 4, 1]⟩
abbrev S2x1x512 : Shape := ⟨3, ![2, 1, 512]⟩
abbrev S2x4097x512 : Shape := ⟨3, ![2, 4097, 512]⟩
abbrev S4096 : Shape := ⟨1, ![4096]⟩
abbrev S2x4097x128 : Shape := ⟨3, ![2, 4097, 128]⟩
abbrev S2x1x128 : Shape := ⟨3, ![2, 1, 128]⟩
abbrev S2x4098x128 : Shape := ⟨3, ![2, 4098, 128]⟩
abbrev S2x4096x128 : Shape := ⟨3, ![2, 4096, 128]⟩
abbrev S1x4096x1 : Shape := ⟨3, ![1, 4096, 1]⟩
abbrev S2x3x128 : Shape := ⟨3, ![2, 3, 128]⟩
abbrev S2x4100x128 : Shape := ⟨3, ![2, 4100, 128]⟩
abbrev S2x7x128 : Shape := ⟨3, ![2, 7, 128]⟩
abbrev S2x4104x128 : Shape := ⟨3, ![2, 4104, 128]⟩
abbrev S2x15x128 : Shape := ⟨3, ![2, 15, 128]⟩
abbrev S2x4112x128 : Shape := ⟨3, ![2, 4112, 128]⟩
abbrev S2x4096x1x128 : Shape := ⟨4, ![2, 4096, 1, 128]⟩
abbrev S2x4096x4x128 : Shape := ⟨4, ![2, 4096, 4, 128]⟩
abbrev S4x128x2x4096 : Shape := ⟨4, ![4, 128, 2, 4096]⟩
abbrev S2x2x512 : Shape := ⟨3, ![2, 2, 512]⟩
abbrev S2x4098x512 : Shape := ⟨3, ![2, 4098, 512]⟩
abbrev S1x512 : Shape := ⟨2, ![1, 512]⟩
abbrev S4x2x4096x128 : Shape := ⟨4, ![4, 2, 4096, 128]⟩
abbrev S2x512 : Shape := ⟨2, ![2, 512]⟩
abbrev S8x512 : Shape := ⟨2, ![8, 512]⟩
abbrev S128x124 : Shape := ⟨2, ![128, 124]⟩

abbrev nBuf : Space → Nat
  | .hbm => 537
  | .vmem => 0
  | .smem => 0
  | _ => 0

abbrev hbmTy0_0 (i : Nat) : BufTy := match i % 128 with
  | 0 => ⟨S8192x6144, .bf16⟩
  | 1 => ⟨S8192x1536, .bf16⟩
  | 2 => ⟨S8192x3072, .bf16⟩
  | 3 => ⟨S512, .f32⟩
  | 4 => ⟨S512, .f32⟩
  | 5 => ⟨S4x128x128, .f32⟩
  | 6 => ⟨S4x128, .f32⟩
  | 7 => ⟨S4x128x128, .f32⟩
  | 8 => ⟨S512, .f32⟩
  | 9 => ⟨S3x512, .f32⟩
  | 10 => ⟨S8192x6144, .f32⟩
  | 11 => ⟨S2x4096x6144, .f32⟩
  | 12 => ⟨S8192x1536, .f32⟩
  | 13 => ⟨S2x4096x1536, .f32⟩
  | 14 => ⟨S2x4096x512, .f32⟩
  | 15 => ⟨S2x4096x512, .f32⟩
  | 16 => ⟨S2x4096x512, .f32⟩
  | 17 => ⟨S8192x3072, .f32⟩
  | 18 => ⟨S2x4096x3072, .f32⟩
  | 19 => ⟨S2x4096x512, .f32⟩
  | 20 => ⟨S2x4096x512, .f32⟩
  | 21 => ⟨S2x4096x512, .f32⟩
  | 22 => ⟨S2x4096x512, .f32⟩
  | 23 => ⟨S2x4096x512, .f32⟩
  | 24 => ⟨S2x4096x512, .f32⟩
  | 25 => ⟨S2x4096x512, .f32⟩
  | 26 => ⟨S2x4096x512, .f32⟩
  | 27 => ⟨S2x4096x512, .f32⟩
  | 28 => ⟨S_, .f32⟩
  | 29 => ⟨S2x4096x512, .f32⟩
  | 30 => ⟨S2x4096x512, .f32⟩
  | 31 => ⟨S_, .f32⟩
  | 32 => ⟨S2x4096x512, .f32⟩
  | 33 => ⟨S2x4096x512, .f32⟩
  | 34 => ⟨S2x4096x512, .f32⟩
  | 35 => ⟨S_, .f32⟩
  | 36 => ⟨S2x4096x512, .f32⟩
  | 37 => ⟨S2x4096x512, .f32⟩
  | 38 => ⟨S2x4096x512, .f32⟩
  | 39 => ⟨S_, .f32⟩
  | 40 => ⟨S2x4096x512, .f32⟩
  | 41 => ⟨S2x4096x512, .f32⟩
  | 42 => ⟨S_, .f32⟩
  | 43 => ⟨S2x4096x512, .f32⟩
  | 44 => ⟨S2x4096x512, .f32⟩
  | 45 => ⟨S2x4096x512, .f32⟩
  | 46 => ⟨S_, .f32⟩
  | 47 => ⟨S2x4096x512, .f32⟩
  | 48 => ⟨S2x4096x512, .f32⟩
  | 49 => ⟨S_, .f32⟩
  | 50 => ⟨S2x4096x512, .f32⟩
  | 51 => ⟨S2x4096x512, .f32⟩
  | 52 => ⟨S2x4096x512, .f32⟩
  | 53 => ⟨S2x4096x512, .f32⟩
  | 54 => ⟨S2x4096x512, .f32⟩
  | 55 => ⟨S2x4096x512, .f32⟩
  | 56 => ⟨S_, .f32⟩
  | 57 => ⟨S2x4096x512, .f32⟩
  | 58 => ⟨S2x4096x512, .f32⟩
  | 59 => ⟨S_, .f32⟩
  | 60 => ⟨S2x4096x512, .f32⟩
  | 61 => ⟨S2x4096x512, .f32⟩
  | 62 => ⟨S2x4096x512, .f32⟩
  | 63 => ⟨S_, .f32⟩
  | 64 => ⟨S2x4096x512, .f32⟩
  | 65 => ⟨S2x4096x512, .f32⟩
  | 66 => ⟨S2x4096x512, .f32⟩
  | 67 => ⟨S_, .f32⟩
  | 68 => ⟨S2x4096x512, .f32⟩
  | 69 => ⟨S2x4096x512, .f32⟩
  | 70 => ⟨S_, .f32⟩
  | 71 => ⟨S2x4096x512, .f32⟩
  | 72 => ⟨S2x4096x512, .f32⟩
  | 73 => ⟨S2x4096x512, .f32⟩
  | 74 => ⟨S_, .f32⟩
  | 75 => ⟨S2x4096x512, .f32⟩
  | 76 => ⟨S2x4096x512, .f32⟩
  | 77 => ⟨S_, .f32⟩
  | 78 => ⟨S2x4096x512, .f32⟩
  | 79 => ⟨S2x4096x512, .f32⟩
  | 80 => ⟨S2x4096x512, .f32⟩
  | 81 => ⟨S_, .f32⟩
  | 82 => ⟨S2x4096, .f32⟩
  | 83 => ⟨S2x4096x1, .f32⟩
  | 84 => ⟨S_, .f32⟩
  | 85 => ⟨S2x4096x1, .f32⟩
  | 86 => ⟨S2x4096x1, .f32⟩
  | 87 => ⟨S2x4096x512, .f32⟩
  | 88 => ⟨S2x4096x512, .f32⟩
  | 89 => ⟨S2x4096x512, .f32⟩
  | 90 => ⟨S_, .f32⟩
  | 91 => ⟨S2x4096x512, .f32⟩
  | 92 => ⟨S2x4096x512, .f32⟩
  | 93 => ⟨S_, .f32⟩
  | 94 => ⟨S2x4096, .f32⟩
  | 95 => ⟨S2x4096x1, .f32⟩
  | 96 => ⟨S_, .f32⟩
  | 97 => ⟨S2x4096x1, .f32⟩
  | 98 => ⟨S2x4096x1, .f32⟩
  | 99 => ⟨S2x4096x512, .f32⟩
  | 100 => ⟨S2x4096x512, .f32⟩
  | 101 => ⟨S_, .f32⟩
  | 102 => ⟨S2x4096x1, .f32⟩
  | 103 => ⟨S2x4096x1, .f32⟩
  | 104 => ⟨S2x4096x1, .f32⟩
  | 105 => ⟨S2x4096x1, .f32⟩
  | 106 => ⟨S_, .f32⟩
  | 107 => ⟨S2x4096x1, .f32⟩
  | 108 => ⟨S2x4096x1, .f32⟩
  | 109 => ⟨S2x4096x512, .f32⟩
  | 110 => ⟨S2x4096x512, .f32⟩
  | 111 => ⟨S1x1x512, .f32⟩
  | 112 => ⟨S2x4096x512, .f32⟩
  | 113 => ⟨S2x4096x512, .f32⟩
  | 114 => ⟨S1x1x512, .f32⟩
  | 115 => ⟨S2x4096x512, .f32⟩
  | 116 => ⟨S2x4096x512, .f32⟩
  | 117 => ⟨S2x32x128x4x128, .f32⟩
  | 118 => ⟨S_, .f32⟩
  | 119 => ⟨S128x128, .f32⟩
  | 120 => ⟨S128x128, .i32⟩
  | 121 => ⟨S_, .i32⟩
  | 122 => ⟨S128x128, .i32⟩
  | 123 => ⟨S128x128, .i32⟩
  | 124 => ⟨S128x128, .i32⟩
  | 125 => ⟨S128x128, .i1⟩
  | 126 => ⟨S_, .f32⟩
  | 127 => ⟨S128x128, .f32⟩
  | _ => ⟨S8192x6144, .bf16⟩

abbrev hbmTy0_1 (i : Nat) : BufTy := match i % 128 with
  | 0 => ⟨S128x128, .f32⟩
  | 1 => ⟨S1x128x128, .f32⟩
  | 2 => ⟨S4x128x128, .f32⟩
  | 3 => ⟨S4x128x128, .f32⟩
  | 4 => ⟨S4x2x32x128x128, .f32⟩
  | 5 => ⟨S2x32x128x4x128, .f32⟩
  | 6 => ⟨S128x4, .f32⟩
  | 7 => ⟨S1x1x128x4x1, .f32⟩
  | 8 => ⟨S2x32x128x4x128, .f32⟩
  | 9 => ⟨S2x32x128x4x128, .f32⟩
  | 10 => ⟨S2x4096x512, .f32⟩
  | 11 => ⟨S2x4096x512, .f32⟩
  | 12 => ⟨S_, .f32⟩
  | 13 => ⟨S2x1x512, .f32⟩
  | 14 => ⟨S_, .f32⟩
  | 15 => ⟨S_, .f32⟩
  | 16 => ⟨S2x4096x512, .f32⟩
  | 17 => ⟨S2x4097x512, .f32⟩
  | 18 => ⟨S_, .f32⟩
  | 19 => ⟨S2x1x512, .f32⟩
  | 20 => ⟨S4096, .i32⟩
  | 21 => ⟨S2x4097x128, .f32⟩
  | 22 => ⟨S_, .f32⟩
  | 23 => ⟨S2x1x128, .f32⟩
  | 24 => ⟨S2x4098x128, .f32⟩
  | 25 => ⟨S_, .f32⟩
  | 26 => ⟨S2x1x128, .f32⟩
  | 27 => ⟨S2x4096x128, .f32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S4096, .f32⟩
  | 35 => ⟨S1x4096x1, .f32⟩
  | 36 => ⟨S2x4096x128, .f32⟩
  | 37 => ⟨S2x4096x128, .f32⟩
  | 38 => ⟨S2x4096x128, .f32⟩
  | 39 => ⟨S2x4096x128, .f32⟩
  | 40 => ⟨S2x4096x128, .f32⟩
  | 41 => ⟨S2x4096x128, .f32⟩
  | 42 => ⟨S2x4097x128, .f32⟩
  | 43 => ⟨S_, .f32⟩
  | 44 => ⟨S2x3x128, .f32⟩
  | 45 => ⟨S2x4100x128, .f32⟩
  | 46 => ⟨S_, .f32⟩
  | 47 => ⟨S2x3x128, .f32⟩
  | 48 => ⟨S2x4096x128, .f32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .f32⟩
  | 56 => ⟨S1x4096x1, .f32⟩
  | 57 => ⟨S2x4096x128, .f32⟩
  | 58 => ⟨S2x4096x128, .f32⟩
  | 59 => ⟨S2x4096x128, .f32⟩
  | 60 => ⟨S2x4096x128, .f32⟩
  | 61 => ⟨S2x4096x128, .f32⟩
  | 62 => ⟨S2x4096x128, .f32⟩
  | 63 => ⟨S2x4097x128, .f32⟩
  | 64 => ⟨S_, .f32⟩
  | 65 => ⟨S2x7x128, .f32⟩
  | 66 => ⟨S2x4104x128, .f32⟩
  | 67 => ⟨S_, .f32⟩
  | 68 => ⟨S2x7x128, .f32⟩
  | 69 => ⟨S2x4096x128, .f32⟩
  | 70 => ⟨S_, .i32⟩
  | 71 => ⟨S4096, .i32⟩
  | 72 => ⟨S4096, .i32⟩
  | 73 => ⟨S_, .i32⟩
  | 74 => ⟨S4096, .i32⟩
  | 75 => ⟨S4096, .i32⟩
  | 76 => ⟨S4096, .f32⟩
  | 77 => ⟨S1x4096x1, .f32⟩
  | 78 => ⟨S2x4096x128, .f32⟩
  | 79 => ⟨S2x4096x128, .f32⟩
  | 80 => ⟨S2x4096x128, .f32⟩
  | 81 => ⟨S2x4096x128, .f32⟩
  | 82 => ⟨S2x4096x128, .f32⟩
  | 83 => ⟨S2x4096x128, .f32⟩
  | 84 => ⟨S2x4097x128, .f32⟩
  | 85 => ⟨S_, .f32⟩
  | 86 => ⟨S2x15x128, .f32⟩
  | 87 => ⟨S2x4112x128, .f32⟩
  | 88 => ⟨S_, .f32⟩
  | 89 => ⟨S2x15x128, .f32⟩
  | 90 => ⟨S2x4096x128, .f32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096, .f32⟩
  | 98 => ⟨S1x4096x1, .f32⟩
  | 99 => ⟨S2x4096x128, .f32⟩
  | 100 => ⟨S2x4096x128, .f32⟩
  | 101 => ⟨S2x4096x128, .f32⟩
  | 102 => ⟨S2x4096x128, .f32⟩
  | 103 => ⟨S2x4096x128, .f32⟩
  | 104 => ⟨S2x4096x128, .f32⟩
  | 105 => ⟨S2x4096x1x128, .f32⟩
  | 106 => ⟨S2x4096x1x128, .f32⟩
  | 107 => ⟨S2x4096x1x128, .f32⟩
  | 108 => ⟨S2x4096x1x128, .f32⟩
  | 109 => ⟨S2x4096x4x128, .f32⟩
  | 110 => ⟨S4x128x2x4096, .f32⟩
  | 111 => ⟨S2x4096x4x128, .f32⟩
  | 112 => ⟨S2x4096x512, .f32⟩
  | 113 => ⟨S1x1x512, .f32⟩
  | 114 => ⟨S2x4096x512, .f32⟩
  | 115 => ⟨S2x4096x512, .f32⟩
  | 116 => ⟨S2x4096x512, .f32⟩
  | 117 => ⟨S_, .f32⟩
  | 118 => ⟨S2x2x512, .f32⟩
  | 119 => ⟨S2x4098x512, .f32⟩
  | 120 => ⟨S_, .f32⟩
  | 121 => ⟨S2x2x512, .f32⟩
  | 122 => ⟨S1x512, .f32⟩
  | 123 => ⟨S512, .f32⟩
  | 124 => ⟨S2x4096x512, .f32⟩
  | 125 => ⟨S1x1x512, .f32⟩
  | 126 => ⟨S2x4096x512, .f32⟩
  | 127 => ⟨S2x4096x512, .f32⟩
  | _ => ⟨S8192x6144, .bf16⟩

abbrev hbmTy0_2 (i : Nat) : BufTy := match i % 128 with
  | 0 => ⟨S1x512, .f32⟩
  | 1 => ⟨S512, .f32⟩
  | 2 => ⟨S2x4096x512, .f32⟩
  | 3 => ⟨S1x1x512, .f32⟩
  | 4 => ⟨S2x4096x512, .f32⟩
  | 5 => ⟨S2x4096x512, .f32⟩
  | 6 => ⟨S2x4096x512, .f32⟩
  | 7 => ⟨S1x512, .f32⟩
  | 8 => ⟨S512, .f32⟩
  | 9 => ⟨S2x4096x512, .f32⟩
  | 10 => ⟨S1x1x512, .f32⟩
  | 11 => ⟨S2x4096x512, .f32⟩
  | 12 => ⟨S2x4096x512, .f32⟩
  | 13 => ⟨S2x4096x512, .f32⟩
  | 14 => ⟨S2x4096x512, .f32⟩
  | 15 => ⟨S2x4096x3072, .f32⟩
  | 16 => ⟨S_, .f32⟩
  | 17 => ⟨S2x4096x6144, .f32⟩
  | 18 => ⟨S2x4096x512, .f32⟩
  | 19 => ⟨S2x4096x512, .f32⟩
  | 20 => ⟨S2x4096x512, .f32⟩
  | 21 => ⟨S2x4096x512, .f32⟩
  | 22 => ⟨S2x4096x512, .f32⟩
  | 23 => ⟨S_, .f32⟩
  | 24 => ⟨S512, .f32⟩
  | 25 => ⟨S1x1x512, .f32⟩
  | 26 => ⟨S_, .f32⟩
  | 27 => ⟨S512, .f32⟩
  | 28 => ⟨S_, .f32⟩
  | 29 => ⟨S2x4098x512, .f32⟩
  | 30 => ⟨S1x512, .f32⟩
  | 31 => ⟨S_, .f32⟩
  | 32 => ⟨S3x512, .f32⟩
  | 33 => ⟨S2x4096x512, .f32⟩
  | 34 => ⟨S2x4096x512, .f32⟩
  | 35 => ⟨S2x4096x512, .f32⟩
  | 36 => ⟨S_, .f32⟩
  | 37 => ⟨S512, .f32⟩
  | 38 => ⟨S1x1x512, .f32⟩
  | 39 => ⟨S_, .f32⟩
  | 40 => ⟨S512, .f32⟩
  | 41 => ⟨S_, .f32⟩
  | 42 => ⟨S2x4098x512, .f32⟩
  | 43 => ⟨S2x4098x512, .f32⟩
  | 44 => ⟨S1x512, .f32⟩
  | 45 => ⟨S_, .f32⟩
  | 46 => ⟨S3x512, .f32⟩
  | 47 => ⟨S3x512, .f32⟩
  | 48 => ⟨S2x4096x512, .f32⟩
  | 49 => ⟨S2x4096x512, .f32⟩
  | 50 => ⟨S2x4096x512, .f32⟩
  | 51 => ⟨S_, .f32⟩
  | 52 => ⟨S512, .f32⟩
  | 53 => ⟨S1x1x512, .f32⟩
  | 54 => ⟨S_, .f32⟩
  | 55 => ⟨S512, .f32⟩
  | 56 => ⟨S_, .f32⟩
  | 57 => ⟨S2x4098x512, .f32⟩
  | 58 => ⟨S2x4098x512, .f32⟩
  | 59 => ⟨S1x512, .f32⟩
  | 60 => ⟨S_, .f32⟩
  | 61 => ⟨S3x512, .f32⟩
  | 62 => ⟨S3x512, .f32⟩
  | 63 => ⟨S2x2x512, .f32⟩
  | 64 => ⟨S2x4096x512, .f32⟩
  | 65 => ⟨S2x4096x512, .f32⟩
  | 66 => ⟨S2x4096x512, .f32⟩
  | 67 => ⟨S2x4096x512, .f32⟩
  | 68 => ⟨S_, .f32⟩
  | 69 => ⟨S512, .f32⟩
  | 70 => ⟨S1x1x512, .f32⟩
  | 71 => ⟨S2x4096x512, .f32⟩
  | 72 => ⟨S2x4096x512, .f32⟩
  | 73 => ⟨S_, .f32⟩
  | 74 => ⟨S512, .f32⟩
  | 75 => ⟨S2x4096x4x128, .f32⟩
  | 76 => ⟨S4x128x2x4096, .f32⟩
  | 77 => ⟨S4x2x4096x128, .f32⟩
  | 78 => ⟨S2x4096x4x128, .f32⟩
  | 79 => ⟨S4x128x128, .f32⟩
  | 80 => ⟨S4x128x128, .f32⟩
  | 81 => ⟨S2x4096x1x128, .f32⟩
  | 82 => ⟨S2x4096x128, .f32⟩
  | 83 => ⟨S2x4096x1x128, .f32⟩
  | 84 => ⟨S2x4096x128, .f32⟩
  | 85 => ⟨S2x4096x1x128, .f32⟩
  | 86 => ⟨S2x4096x128, .f32⟩
  | 87 => ⟨S2x4096x1x128, .f32⟩
  | 88 => ⟨S2x4096x128, .f32⟩
  | 89 => ⟨S2x4096x128, .f32⟩
  | 90 => ⟨S_, .f32⟩
  | 91 => ⟨S2x4096x512, .f32⟩
  | 92 => ⟨S2x4096x128, .f32⟩
  | 93 => ⟨S2x4096x128, .f32⟩
  | 94 => ⟨S2x4096x128, .f32⟩
  | 95 => ⟨S_, .f32⟩
  | 96 => ⟨S2x4097x128, .f32⟩
  | 97 => ⟨S_, .f32⟩
  | 98 => ⟨S2x4112x128, .f32⟩
  | 99 => ⟨S2x15x128, .f32⟩
  | 100 => ⟨S2x4097x128, .f32⟩
  | 101 => ⟨S2x4097x128, .f32⟩
  | 102 => ⟨S_, .f32⟩
  | 103 => ⟨S2x4097x512, .f32⟩
  | 104 => ⟨S2x4096x128, .f32⟩
  | 105 => ⟨S_, .f32⟩
  | 106 => ⟨S2x4096x512, .f32⟩
  | 107 => ⟨S2x4096x512, .f32⟩
  | 108 => ⟨S2x4096x128, .f32⟩
  | 109 => ⟨S2x4096x128, .f32⟩
  | 110 => ⟨S2x4096x128, .f32⟩
  | 111 => ⟨S_, .f32⟩
  | 112 => ⟨S2x4097x128, .f32⟩
  | 113 => ⟨S_, .f32⟩
  | 114 => ⟨S2x4104x128, .f32⟩
  | 115 => ⟨S2x7x128, .f32⟩
  | 116 => ⟨S2x4097x128, .f32⟩
  | 117 => ⟨S2x4097x128, .f32⟩
  | 118 => ⟨S_, .f32⟩
  | 119 => ⟨S2x4097x512, .f32⟩
  | 120 => ⟨S2x4097x512, .f32⟩
  | 121 => ⟨S2x4096x128, .f32⟩
  | 122 => ⟨S_, .f32⟩
  | 123 => ⟨S2x4096x512, .f32⟩
  | 124 => ⟨S2x4096x512, .f32⟩
  | 125 => ⟨S2x4096x128, .f32⟩
  | 126 => ⟨S2x4096x128, .f32⟩
  | 127 => ⟨S2x4096x128, .f32⟩
  | _ => ⟨S8192x6144, .bf16⟩

abbrev hbmTy0_3 (i : Nat) : BufTy := match i % 128 with
  | 0 => ⟨S_, .f32⟩
  | 1 => ⟨S2x4097x128, .f32⟩
  | 2 => ⟨S_, .f32⟩
  | 3 => ⟨S2x4100x128, .f32⟩
  | 4 => ⟨S2x3x128, .f32⟩
  | 5 => ⟨S2x4097x128, .f32⟩
  | 6 => ⟨S2x4097x128, .f32⟩
  | 7 => ⟨S_, .f32⟩
  | 8 => ⟨S2x4097x512, .f32⟩
  | 9 => ⟨S2x4097x512, .f32⟩
  | 10 => ⟨S2x4096x128, .f32⟩
  | 11 => ⟨S_, .f32⟩
  | 12 => ⟨S2x4096x512, .f32⟩
  | 13 => ⟨S2x4096x512, .f32⟩
  | 14 => ⟨S2x4096x128, .f32⟩
  | 15 => ⟨S2x4096x128, .f32⟩
  | 16 => ⟨S2x4096x128, .f32⟩
  | 17 => ⟨S_, .f32⟩
  | 18 => ⟨S2x4097x128, .f32⟩
  | 19 => ⟨S_, .f32⟩
  | 20 => ⟨S2x4098x128, .f32⟩
  | 21 => ⟨S2x1x128, .f32⟩
  | 22 => ⟨S2x4097x128, .f32⟩
  | 23 => ⟨S2x4097x128, .f32⟩
  | 24 => ⟨S_, .f32⟩
  | 25 => ⟨S2x4097x512, .f32⟩
  | 26 => ⟨S2x4097x512, .f32⟩
  | 27 => ⟨S2x1x512, .f32⟩
  | 28 => ⟨S2x4096x512, .f32⟩
  | 29 => ⟨S_, .f32⟩
  | 30 => ⟨S_, .f32⟩
  | 31 => ⟨S2x4096x512, .f32⟩
  | 32 => ⟨S2x4096x512, .f32⟩
  | 33 => ⟨S2x4096x512, .f32⟩
  | 34 => ⟨S2x4096x512, .f32⟩
  | 35 => ⟨S2x32x128x4x128, .f32⟩
  | 36 => ⟨S_, .f32⟩
  | 37 => ⟨S128x4, .f32⟩
  | 38 => ⟨S1x1x128x4x1, .f32⟩
  | 39 => ⟨S_, .f32⟩
  | 40 => ⟨S128x4, .f32⟩
  | 41 => ⟨S4x128, .f32⟩
  | 42 => ⟨S4x2x32x128x128, .f32⟩
  | 43 => ⟨S4x128x128, .f32⟩
  | 44 => ⟨S4x2x32x128x128, .f32⟩
  | 45 => ⟨S2x32x128x4x128, .f32⟩
  | 46 => ⟨S4x128x128, .f32⟩
  | 47 => ⟨S4x128x128, .f32⟩
  | 48 => ⟨S2x4096x512, .f32⟩
  | 49 => ⟨S_, .f32⟩
  | 50 => ⟨S512, .f32⟩
  | 51 => ⟨S1x1x512, .f32⟩
  | 52 => ⟨S_, .f32⟩
  | 53 => ⟨S512, .f32⟩
  | 54 => ⟨S2x4096x512, .f32⟩
  | 55 => ⟨S_, .f32⟩
  | 56 => ⟨S512, .f32⟩
  | 57 => ⟨S1x1x512, .f32⟩
  | 58 => ⟨S2x4096x512, .f32⟩
  | 59 => ⟨S2x4096x512, .f32⟩
  | 60 => ⟨S_, .f32⟩
  | 61 => ⟨S512, .f32⟩
  | 62 => ⟨S2x4096x512, .f32⟩
  | 63 => ⟨S_, .f32⟩
  | 64 => ⟨S2x4096, .f32⟩
  | 65 => ⟨S2x4096x1, .f32⟩
  | 66 => ⟨S2x4096x512, .f32⟩
  | 67 => ⟨S2x4096x512, .f32⟩
  | 68 => ⟨S2x4096x1, .f32⟩
  | 69 => ⟨S2x4096x512, .f32⟩
  | 70 => ⟨S_, .f32⟩
  | 71 => ⟨S2x4096, .f32⟩
  | 72 => ⟨S2x4096x1, .f32⟩
  | 73 => ⟨S_, .f32⟩
  | 74 => ⟨S2x4096x1, .f32⟩
  | 75 => ⟨S2x4096x1, .f32⟩
  | 76 => ⟨S_, .f32⟩
  | 77 => ⟨S2x4096, .f32⟩
  | 78 => ⟨S2x4096x512, .f32⟩
  | 79 => ⟨S2x4096x512, .f32⟩
  | 80 => ⟨S2x4096x512, .f32⟩
  | 81 => ⟨S_, .f32⟩
  | 82 => ⟨S2x4096, .f32⟩
  | 83 => ⟨S2x4096x1, .f32⟩
  | 84 => ⟨S2x4096x512, .f32⟩
  | 85 => ⟨S2x4096x1, .f32⟩
  | 86 => ⟨S_, .f32⟩
  | 87 => ⟨S2x4096x1, .f32⟩
  | 88 => ⟨S2x4096x1, .f32⟩
  | 89 => ⟨S_, .f32⟩
  | 90 => ⟨S2x4096, .f32⟩
  | 91 => ⟨S2x4096x512, .f32⟩
  | 92 => ⟨S2x4096x512, .f32⟩
  | 93 => ⟨S2x4096x512, .f32⟩
  | 94 => ⟨S2x4096x512, .f32⟩
  | 95 => ⟨S_, .f32⟩
  | 96 => ⟨S2x4096x512, .f32⟩
  | 97 => ⟨S2x4096x512, .f32⟩
  | 98 => ⟨S2x4096x512, .f32⟩
  | 99 => ⟨S_, .f32⟩
  | 100 => ⟨S2x4096x512, .f32⟩
  | 101 => ⟨S2x4096x512, .f32⟩
  | 102 => ⟨S2x4096x512, .f32⟩
  | 103 => ⟨S_, .f32⟩
  | 104 => ⟨S2x4096x512, .f32⟩
  | 105 => ⟨S2x4096x512, .f32⟩
  | 106 => ⟨S2x4096x512, .f32⟩
  | 107 => ⟨S2x4096x512, .f32⟩
  | 108 => ⟨S2x4096x512, .f32⟩
  | 109 => ⟨S2x4096x512, .f32⟩
  | 110 => ⟨S_, .f32⟩
  | 111 => ⟨S2x4096x512, .f32⟩
  | 112 => ⟨S2x4096x512, .f32⟩
  | 113 => ⟨S2x4096x512, .f32⟩
  | 114 => ⟨S_, .f32⟩
  | 115 => ⟨S2x4096x512, .f32⟩
  | 116 => ⟨S2x4096x512, .f32⟩
  | 117 => ⟨S2x4096x512, .f32⟩
  | 118 => ⟨S_, .f32⟩
  | 119 => ⟨S2x4096x512, .f32⟩
  | 120 => ⟨S2x4096x512, .f32⟩
  | 121 => ⟨S2x4096x512, .f32⟩
  | 122 => ⟨S2x4096x512, .f32⟩
  | 123 => ⟨S_, .f32⟩
  | 124 => ⟨S2x4096x6144, .f32⟩
  | 125 => ⟨S2x4096x6144, .f32⟩
  | 126 => ⟨S_, .f32⟩
  | 127 => ⟨S2x4096x6144, .f32⟩
  | _ => ⟨S8192x6144, .bf16⟩

abbrev hbmTy0_4 (i : Nat) : BufTy := match i % 128 with
  | 0 => ⟨S2x4096x6144, .f32⟩
  | 1 => ⟨S_, .f32⟩
  | 2 => ⟨S2x4096x6144, .f32⟩
  | 3 => ⟨S2x4096x6144, .f32⟩
  | 4 => ⟨S_, .f32⟩
  | 5 => ⟨S2x4096x6144, .f32⟩
  | 6 => ⟨S2x4096x6144, .f32⟩
  | 7 => ⟨S_, .f32⟩
  | 8 => ⟨S2x4096x6144, .f32⟩
  | 9 => ⟨S2x4096x6144, .f32⟩
  | 10 => ⟨S_, .f32⟩
  | 11 => ⟨S2x4096x6144, .f32⟩
  | 12 => ⟨S2x4096x6144, .f32⟩
  | 13 => ⟨S1x512, .f32⟩
  | 14 => ⟨S1x512, .f32⟩
  | 15 => ⟨S1x512, .f32⟩
  | 16 => ⟨S_, .f32⟩
  | 17 => ⟨S2x512, .f32⟩
  | 18 => ⟨S8x512, .f32⟩
  | 19 => ⟨S128x4, .f32⟩
  | 20 => ⟨S_, .f32⟩
  | 21 => ⟨S128x124, .f32⟩
  | 22 => ⟨S128x128, .f32⟩
  | 23 => ⟨S8192x6144, .f32⟩
  | 24 => ⟨S8192x6144, .bf16⟩
  | _ => ⟨S8192x6144, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_v65 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_cst_17 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_19 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_20 : Ref sig .tc := ⟨.hbm, 118, rfl⟩
abbrev main_v87 : Ref sig .tc := ⟨.hbm, 119, rfl⟩
abbrev main_call0_v0 : Ref sig .tc := ⟨.hbm, 120, rfl⟩
abbrev main_call0_c : Ref sig .tc := ⟨.hbm, 121, rfl⟩
abbrev main_call0_v1 : Ref sig .tc := ⟨.hbm, 122, rfl⟩
abbrev main_call0_v2 : Ref sig .tc := ⟨.hbm, 123, rfl⟩
abbrev main_call0_v3 : Ref sig .tc := ⟨.hbm, 124, rfl⟩
abbrev main_call0_v4 : Ref sig .tc := ⟨.hbm, 125, rfl⟩
abbrev main_call0_cst : Ref sig .tc := ⟨.hbm, 126, rfl⟩
abbrev main_call0_v5 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_21 : Ref sig .tc := ⟨.hbm, 140, rfl⟩
abbrev main_v100 : Ref sig .tc := ⟨.hbm, 141, rfl⟩
abbrev main_call1_call0_cst : Ref sig .tc := ⟨.hbm, 142, rfl⟩
abbrev main_call1_call0_v0 : Ref sig .tc := ⟨.hbm, 143, rfl⟩
abbrev main_v101 : Ref sig .tc := ⟨.hbm, 144, rfl⟩
abbrev main_v102 : Ref sig .tc := ⟨.hbm, 145, rfl⟩
abbrev main_cst_22 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_23 : Ref sig .tc := ⟨.hbm, 150, rfl⟩
abbrev main_v106 : Ref sig .tc := ⟨.hbm, 151, rfl⟩
abbrev main_v107 : Ref sig .tc := ⟨.hbm, 152, rfl⟩
abbrev main_cst_24 : Ref sig .tc := ⟨.hbm, 153, rfl⟩
abbrev main_v108 : Ref sig .tc := ⟨.hbm, 154, rfl⟩
abbrev main_v109 : Ref sig .tc := ⟨.hbm, 155, rfl⟩
abbrev main_c : Ref sig .tc := ⟨.hbm, 156, rfl⟩
abbrev main_v110 : Ref sig .tc := ⟨.hbm, 157, rfl⟩
abbrev main_v111 : Ref sig .tc := ⟨.hbm, 158, rfl⟩
abbrev main_c_25 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_26 : Ref sig .tc := ⟨.hbm, 171, rfl⟩
abbrev main_v123 : Ref sig .tc := ⟨.hbm, 172, rfl⟩
abbrev main_v124 : Ref sig .tc := ⟨.hbm, 173, rfl⟩
abbrev main_cst_27 : Ref sig .tc := ⟨.hbm, 174, rfl⟩
abbrev main_v125 : Ref sig .tc := ⟨.hbm, 175, rfl⟩
abbrev main_v126 : Ref sig .tc := ⟨.hbm, 176, rfl⟩
abbrev main_c_28 : Ref sig .tc := ⟨.hbm, 177, rfl⟩
abbrev main_v127 : Ref sig .tc := ⟨.hbm, 178, rfl⟩
abbrev main_v128 : Ref sig .tc := ⟨.hbm, 179, rfl⟩
abbrev main_c_29 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_30 : Ref sig .tc := ⟨.hbm, 192, rfl⟩
abbrev main_v140 : Ref sig .tc := ⟨.hbm, 193, rfl⟩
abbrev main_v141 : Ref sig .tc := ⟨.hbm, 194, rfl⟩
abbrev main_cst_31 : Ref sig .tc := ⟨.hbm, 195, rfl⟩
abbrev main_v142 : Ref sig .tc := ⟨.hbm, 196, rfl⟩
abbrev main_v143 : Ref sig .tc := ⟨.hbm, 197, rfl⟩
abbrev main_c_32 : Ref sig .tc := ⟨.hbm, 198, rfl⟩
abbrev main_v144 : Ref sig .tc := ⟨.hbm, 199, rfl⟩
abbrev main_v145 : Ref sig .tc := ⟨.hbm, 200, rfl⟩
abbrev main_c_33 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_34 : Ref sig .tc := ⟨.hbm, 213, rfl⟩
abbrev main_v157 : Ref sig .tc := ⟨.hbm, 214, rfl⟩
abbrev main_v158 : Ref sig .tc := ⟨.hbm, 215, rfl⟩
abbrev main_cst_35 : Ref sig .tc := ⟨.hbm, 216, rfl⟩
abbrev main_v159 : Ref sig .tc := ⟨.hbm, 217, rfl⟩
abbrev main_v160 : Ref sig .tc := ⟨.hbm, 218, rfl⟩
abbrev main_c_36 : Ref sig .tc := ⟨.hbm, 219, rfl⟩
abbrev main_v161 : Ref sig .tc := ⟨.hbm, 220, rfl⟩
abbrev main_v162 : Ref sig .tc := ⟨.hbm, 221, rfl⟩
abbrev main_c_37 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_38 : Ref sig .tc := ⟨.hbm, 245, rfl⟩
abbrev main_v185 : Ref sig .tc := ⟨.hbm, 246, rfl⟩
abbrev main_v186 : Ref sig .tc := ⟨.hbm, 247, rfl⟩
abbrev main_cst_39 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_cst_40 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_cst_41 : Ref sig .tc := ⟨.hbm, 279, rfl⟩
abbrev main_v216 : Ref sig .tc := ⟨.hbm, 280, rfl⟩
abbrev main_v217 : Ref sig .tc := ⟨.hbm, 281, rfl⟩
abbrev main_cst_42 : Ref sig .tc := ⟨.hbm, 282, rfl⟩
abbrev main_v218 : Ref sig .tc := ⟨.hbm, 283, rfl⟩
abbrev main_cst_43 : Ref sig .tc := ⟨.hbm, 284, rfl⟩
abbrev main_v219 : Ref sig .tc := ⟨.hbm, 285, rfl⟩
abbrev main_v220 : Ref sig .tc := ⟨.hbm, 286, rfl⟩
abbrev main_cst_44 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_cst_45 : Ref sig .tc := ⟨.hbm, 292, rfl⟩
abbrev main_v225 : Ref sig .tc := ⟨.hbm, 293, rfl⟩
abbrev main_v226 : Ref sig .tc := ⟨.hbm, 294, rfl⟩
abbrev main_cst_46 : Ref sig .tc := ⟨.hbm, 295, rfl⟩
abbrev main_v227 : Ref sig .tc := ⟨.hbm, 296, rfl⟩
abbrev main_cst_47 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_cst_48 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_cst_49 : Ref sig .tc := ⟨.hbm, 307, rfl⟩
abbrev main_v236 : Ref sig .tc := ⟨.hbm, 308, rfl⟩
abbrev main_v237 : Ref sig .tc := ⟨.hbm, 309, rfl⟩
abbrev main_cst_50 : Ref sig .tc := ⟨.hbm, 310, rfl⟩
abbrev main_v238 : Ref sig .tc := ⟨.hbm, 311, rfl⟩
abbrev main_cst_51 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_cst_52 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_cst_53 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_cst_54 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_cst_55 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_cst_56 : Ref sig .tc := ⟨.hbm, 351, rfl⟩
abbrev main_v273 : Ref sig .tc := ⟨.hbm, 352, rfl⟩
abbrev main_cst_57 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_cst_58 : Ref sig .tc := ⟨.hbm, 358, rfl⟩
abbrev main_v278 : Ref sig .tc := ⟨.hbm, 359, rfl⟩
abbrev main_v279 : Ref sig .tc := ⟨.hbm, 360, rfl⟩
abbrev main_cst_59 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_cst_60 : Ref sig .tc := ⟨.hbm, 367, rfl⟩
abbrev main_v285 : Ref sig .tc := ⟨.hbm, 368, rfl⟩
abbrev main_cst_61 : Ref sig .tc := ⟨.hbm, 369, rfl⟩
abbrev main_v286 : Ref sig .tc := ⟨.hbm, 370, rfl⟩
abbrev main_v287 : Ref sig .tc := ⟨.hbm, 371, rfl⟩
abbrev main_v288 : Ref sig .tc := ⟨.hbm, 372, rfl⟩
abbrev main_v289 : Ref sig .tc := ⟨.hbm, 373, rfl⟩
abbrev main_cst_62 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_cst_63 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_cst_64 : Ref sig .tc := ⟨.hbm, 384, rfl⟩
abbrev main_v298 : Ref sig .tc := ⟨.hbm, 385, rfl⟩
abbrev main_cst_65 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_cst_66 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_cst_67 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_v310 : Ref sig .tc := ⟨.hbm, 400, rfl⟩
abbrev main_cst_68 : Ref sig .tc := ⟨.hbm, 401, rfl⟩
abbrev main_v311 : Ref sig .tc := ⟨.hbm, 402, rfl⟩
abbrev main_cst_69 : Ref sig .tc := ⟨.hbm, 403, rfl⟩
abbrev main_v312 : Ref sig .tc := ⟨.hbm, 404, rfl⟩
abbrev main_v313 : Ref sig .tc := ⟨.hbm, 405, rfl⟩
abbrev main_v314 : Ref sig .tc := ⟨.hbm, 406, rfl⟩
abbrev main_v315 : Ref sig .tc := ⟨.hbm, 407, rfl⟩
abbrev main_cst_70 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_call2_call0_cst : Ref sig .tc := ⟨.hbm, 413, rfl⟩
abbrev main_call2_call0_v0 : Ref sig .tc := ⟨.hbm, 414, rfl⟩
abbrev main_v320 : Ref sig .tc := ⟨.hbm, 415, rfl⟩
abbrev main_v321 : Ref sig .tc := ⟨.hbm, 416, rfl⟩
abbrev main_v322 : Ref sig .tc := ⟨.hbm, 417, rfl⟩
abbrev main_v323 : Ref sig .tc := ⟨.hbm, 418, rfl⟩
abbrev main_v324 : Ref sig .tc := ⟨.hbm, 419, rfl⟩
abbrev main_cst_71 : Ref sig .tc := ⟨.hbm, 420, rfl⟩
abbrev main_v325 : Ref sig .tc := ⟨.hbm, 421, rfl⟩
abbrev main_v326 : Ref sig .tc := ⟨.hbm, 422, rfl⟩
abbrev main_cst_72 : Ref sig .tc := ⟨.hbm, 423, rfl⟩
abbrev main_v327 : Ref sig .tc := ⟨.hbm, 424, rfl⟩
abbrev main_v328 : Ref sig .tc := ⟨.hbm, 425, rfl⟩
abbrev main_v329 : Ref sig .tc := ⟨.hbm, 426, rfl⟩
abbrev main_v330 : Ref sig .tc := ⟨.hbm, 427, rfl⟩
abbrev main_v331 : Ref sig .tc := ⟨.hbm, 428, rfl⟩
abbrev main_v332 : Ref sig .tc := ⟨.hbm, 429, rfl⟩
abbrev main_v333 : Ref sig .tc := ⟨.hbm, 430, rfl⟩
abbrev main_v334 : Ref sig .tc := ⟨.hbm, 431, rfl⟩
abbrev main_v335 : Ref sig .tc := ⟨.hbm, 432, rfl⟩
abbrev main_cst_73 : Ref sig .tc := ⟨.hbm, 433, rfl⟩
abbrev main_v336 : Ref sig .tc := ⟨.hbm, 434, rfl⟩
abbrev main_v337 : Ref sig .tc := ⟨.hbm, 435, rfl⟩
abbrev main_cst_74 : Ref sig .tc := ⟨.hbm, 436, rfl⟩
abbrev main_v338 : Ref sig .tc := ⟨.hbm, 437, rfl⟩
abbrev main_v339 : Ref sig .tc := ⟨.hbm, 438, rfl⟩
abbrev main_cst_75 : Ref sig .tc := ⟨.hbm, 439, rfl⟩
abbrev main_v340 : Ref sig .tc := ⟨.hbm, 440, rfl⟩
abbrev main_v341 : Ref sig .tc := ⟨.hbm, 441, rfl⟩
abbrev main_v342 : Ref sig .tc := ⟨.hbm, 442, rfl⟩
abbrev main_v343 : Ref sig .tc := ⟨.hbm, 443, rfl⟩
abbrev main_cst_76 : Ref sig .tc := ⟨.hbm, 444, rfl⟩
abbrev main_v344 : Ref sig .tc := ⟨.hbm, 445, rfl⟩
abbrev main_v345 : Ref sig .tc := ⟨.hbm, 446, rfl⟩
abbrev main_cst_77 : Ref sig .tc := ⟨.hbm, 447, rfl⟩
abbrev main_v346 : Ref sig .tc := ⟨.hbm, 448, rfl⟩
abbrev main_v347 : Ref sig .tc := ⟨.hbm, 449, rfl⟩
abbrev main_v348 : Ref sig .tc := ⟨.hbm, 450, rfl⟩
abbrev main_v349 : Ref sig .tc := ⟨.hbm, 451, rfl⟩
abbrev main_v350 : Ref sig .tc := ⟨.hbm, 452, rfl⟩
abbrev main_v351 : Ref sig .tc := ⟨.hbm, 453, rfl⟩
abbrev main_cst_78 : Ref sig .tc := ⟨.hbm, 454, rfl⟩
abbrev main_v352 : Ref sig .tc := ⟨.hbm, 455, rfl⟩
abbrev main_v353 : Ref sig .tc := ⟨.hbm, 456, rfl⟩
abbrev main_cst_79 : Ref sig .tc := ⟨.hbm, 457, rfl⟩
abbrev main_v354 : Ref sig .tc := ⟨.hbm, 458, rfl⟩
abbrev main_v355 : Ref sig .tc := ⟨.hbm, 459, rfl⟩
abbrev main_cst_80 : Ref sig .tc := ⟨.hbm, 460, rfl⟩
abbrev main_v356 : Ref sig .tc := ⟨.hbm, 461, rfl⟩
abbrev main_v357 : Ref sig .tc := ⟨.hbm, 462, rfl⟩
abbrev main_v358 : Ref sig .tc := ⟨.hbm, 463, rfl⟩
abbrev main_v359 : Ref sig .tc := ⟨.hbm, 464, rfl⟩
abbrev main_cst_81 : Ref sig .tc := ⟨.hbm, 465, rfl⟩
abbrev main_v360 : Ref sig .tc := ⟨.hbm, 466, rfl⟩
abbrev main_v361 : Ref sig .tc := ⟨.hbm, 467, rfl⟩
abbrev main_v362 : Ref sig .tc := ⟨.hbm, 468, rfl⟩
abbrev main_v363 : Ref sig .tc := ⟨.hbm, 469, rfl⟩
abbrev main_cst_82 : Ref sig .tc := ⟨.hbm, 470, rfl⟩
abbrev main_v364 : Ref sig .tc := ⟨.hbm, 471, rfl⟩
abbrev main_v365 : Ref sig .tc := ⟨.hbm, 472, rfl⟩
abbrev main_cst_83 : Ref sig .tc := ⟨.hbm, 473, rfl⟩
abbrev main_v366 : Ref sig .tc := ⟨.hbm, 474, rfl⟩
abbrev main_v367 : Ref sig .tc := ⟨.hbm, 475, rfl⟩
abbrev main_v368 : Ref sig .tc := ⟨.hbm, 476, rfl⟩
abbrev main_v369 : Ref sig .tc := ⟨.hbm, 477, rfl⟩
abbrev main_v370 : Ref sig .tc := ⟨.hbm, 478, rfl⟩
abbrev main_cst_84 : Ref sig .tc := ⟨.hbm, 479, rfl⟩
abbrev main_v371 : Ref sig .tc := ⟨.hbm, 480, rfl⟩
abbrev main_v372 : Ref sig .tc := ⟨.hbm, 481, rfl⟩
abbrev main_v373 : Ref sig .tc := ⟨.hbm, 482, rfl⟩
abbrev main_cst_85 : Ref sig .tc := ⟨.hbm, 483, rfl⟩
abbrev main_v374 : Ref sig .tc := ⟨.hbm, 484, rfl⟩
abbrev main_v375 : Ref sig .tc := ⟨.hbm, 485, rfl⟩
abbrev main_v376 : Ref sig .tc := ⟨.hbm, 486, rfl⟩
abbrev main_cst_86 : Ref sig .tc := ⟨.hbm, 487, rfl⟩
abbrev main_v377 : Ref sig .tc := ⟨.hbm, 488, rfl⟩
abbrev main_v378 : Ref sig .tc := ⟨.hbm, 489, rfl⟩
abbrev main_v379 : Ref sig .tc := ⟨.hbm, 490, rfl⟩
abbrev main_v380 : Ref sig .tc := ⟨.hbm, 491, rfl⟩
abbrev main_v381 : Ref sig .tc := ⟨.hbm, 492, rfl⟩
abbrev main_v382 : Ref sig .tc := ⟨.hbm, 493, rfl⟩
abbrev main_cst_87 : Ref sig .tc := ⟨.hbm, 494, rfl⟩
abbrev main_v383 : Ref sig .tc := ⟨.hbm, 495, rfl⟩
abbrev main_v384 : Ref sig .tc := ⟨.hbm, 496, rfl⟩
abbrev main_v385 : Ref sig .tc := ⟨.hbm, 497, rfl⟩
abbrev main_cst_88 : Ref sig .tc := ⟨.hbm, 498, rfl⟩
abbrev main_v386 : Ref sig .tc := ⟨.hbm, 499, rfl⟩
abbrev main_v387 : Ref sig .tc := ⟨.hbm, 500, rfl⟩
abbrev main_v388 : Ref sig .tc := ⟨.hbm, 501, rfl⟩
abbrev main_cst_89 : Ref sig .tc := ⟨.hbm, 502, rfl⟩
abbrev main_v389 : Ref sig .tc := ⟨.hbm, 503, rfl⟩
abbrev main_v390 : Ref sig .tc := ⟨.hbm, 504, rfl⟩
abbrev main_v391 : Ref sig .tc := ⟨.hbm, 505, rfl⟩
abbrev main_v392 : Ref sig .tc := ⟨.hbm, 506, rfl⟩
abbrev main_cst_90 : Ref sig .tc := ⟨.hbm, 507, rfl⟩
abbrev main_v393 : Ref sig .tc := ⟨.hbm, 508, rfl⟩
abbrev main_v394 : Ref sig .tc := ⟨.hbm, 509, rfl⟩
abbrev main_cst_91 : Ref sig .tc := ⟨.hbm, 510, rfl⟩
abbrev main_v395 : Ref sig .tc := ⟨.hbm, 511, rfl⟩
abbrev main_v396 : Ref sig .tc := ⟨.hbm, 512, rfl⟩
abbrev main_cst_92 : Ref sig .tc := ⟨.hbm, 513, rfl⟩
abbrev main_v397 : Ref sig .tc := ⟨.hbm, 514, rfl⟩
abbrev main_v398 : Ref sig .tc := ⟨.hbm, 515, rfl⟩
abbrev main_cst_93 : Ref sig .tc := ⟨.hbm, 516, rfl⟩
abbrev main_v399 : Ref sig .tc := ⟨.hbm, 517, rfl⟩
abbrev main_v400 : Ref sig .tc := ⟨.hbm, 518, rfl⟩
abbrev main_cst_94 : Ref sig .tc := ⟨.hbm, 519, rfl⟩
abbrev main_v401 : Ref sig .tc := ⟨.hbm, 520, rfl⟩
abbrev main_v402 : Ref sig .tc := ⟨.hbm, 521, rfl⟩
abbrev main_cst_95 : Ref sig .tc := ⟨.hbm, 522, rfl⟩
abbrev main_v403 : Ref sig .tc := ⟨.hbm, 523, rfl⟩
abbrev main_v404 : Ref sig .tc := ⟨.hbm, 524, rfl⟩
abbrev main_v405 : Ref sig .tc := ⟨.hbm, 525, rfl⟩
abbrev main_v406 : Ref sig .tc := ⟨.hbm, 526, rfl⟩
abbrev main_v407 : Ref sig .tc := ⟨.hbm, 527, rfl⟩
abbrev main_cst_96 : Ref sig .tc := ⟨.hbm, 528, rfl⟩
abbrev main_v408 : Ref sig .tc := ⟨.hbm, 529, rfl⟩
abbrev main_v409 : Ref sig .tc := ⟨.hbm, 530, rfl⟩
abbrev main_v410 : Ref sig .tc := ⟨.hbm, 531, rfl⟩
abbrev main_cst_97 : Ref sig .tc := ⟨.hbm, 532, rfl⟩
abbrev main_v411 : Ref sig .tc := ⟨.hbm, 533, rfl⟩
abbrev main_v412 : Ref sig .tc := ⟨.hbm, 534, rfl⟩
abbrev main_v413 : Ref sig .tc := ⟨.hbm, 535, rfl⟩
abbrev main_v414 : Ref sig .tc := ⟨.hbm, 536, rfl⟩

abbrev nD : Nat := 1
abbrev τ : Topo := Topo.v7x

variable {F : FTy → Type} [FloatOps F]
-- ==== Kernel2.lean ====
abbrev S8192x6144 : Shape := ⟨2, ![8192, 6144]⟩
abbrev S1024x6144 : Shape := ⟨2, ![1024, 6144]⟩
abbrev S8192x1024 : Shape := ⟨2, ![8192, 1024]⟩
abbrev S1024 : Shape := ⟨1, ![1024]⟩
abbrev S2x6x1024 : Shape := ⟨3, ![2, 6, 1024]⟩
abbrev S_ : Shape := ⟨0, ![]⟩
abbrev S2x8x1024 : Shape := ⟨3, ![2, 8, 1024]⟩
abbrev S1x1024 : Shape := ⟨2, ![1, 1024]⟩
abbrev S8x1024 : Shape := ⟨2, ![8, 1024]⟩
abbrev S512x6144 : Shape := ⟨2, ![512, 6144]⟩
abbrev S512x1024 : Shape := ⟨2, ![512, 1024]⟩
abbrev S1x8x1024 : Shape := ⟨3, ![1, 8, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S2x6x1024, .f32⟩
  | .hbm, ⟨6, _⟩ => ⟨S_, .i32⟩
  | .hbm, ⟨7, _⟩ => ⟨S_, .f32⟩
  | .hbm, ⟨8, _⟩ => ⟨S2x8x1024, .f32⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S2x8x1024, .f32⟩
  | .hbm, ⟨13, _⟩ => ⟨S8x1024, .f32⟩
  | .local _ .vmem, ⟨0, _⟩ => ⟨S512x6144, .bf16⟩
  | .local _ .vmem, ⟨1, _⟩ => ⟨S512x6144, .bf16⟩
  | .local _ .vmem, ⟨2, _⟩ => ⟨S1024x6144, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x8x1024, .f32⟩
  | .local _ .vmem, ⟨9, _⟩ => ⟨S1x8x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x8x1024, .f32⟩
  | .local _ .vmem, ⟨15, _⟩ => ⟨S1x8x1024, .f32⟩
  | .local _ .vmem, ⟨16, _⟩ => ⟨S8x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x6144 : Shape := ⟨2, ![8192, 6144]⟩
abbrev S1024x6144 : Shape := ⟨2, ![1024, 6144]⟩
abbrev S8192x1024 : Shape := ⟨2, ![8192, 1024]⟩
abbrev S1024 : Shape := ⟨1, ![1024]⟩
abbrev S2x6x1024 : Shape := ⟨3, ![2, 6, 1024]⟩
abbrev S2x1x1024 : Shape := ⟨3, ![2, 1, 1024]⟩
abbrev S2x1024 : Shape := ⟨2, ![2, 1024]⟩
abbrev S2x4096x1024 : Shape := ⟨3, ![2, 4096, 1024]⟩
abbrev S2x4096x6144 : Shape := ⟨3, ![2, 4096, 6144]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x8x1024 : Shape := ⟨3, ![2, 8, 1024]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S2x6x1024, .f32⟩
  | .hbm, ⟨6, _⟩ => ⟨S1024x6144, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1024, .f32⟩
  | .hbm, ⟨11, _⟩ => ⟨S2x4096x1024, .f32⟩
  | .hbm, ⟨12, _⟩ => ⟨S8192x6144, .f32⟩
  | .hbm, ⟨13, _⟩ => ⟨S2x4096x6144, .f32⟩
  | .hbm, ⟨14, _⟩ => ⟨S2x4096x1024, .f32⟩
  | .hbm, ⟨15, _⟩ => ⟨S2x4096x1024, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1024, .f32⟩
  | .hbm, ⟨31, _⟩ => ⟨S2x4096x1024, .f32⟩
  | .hbm, ⟨32, _⟩ => ⟨S1x1x1024, .f32⟩
  | .hbm, ⟨33, _⟩ => ⟨S2x4096x1024, .f32⟩
  | .hbm, ⟨34, _⟩ => ⟨S2x4096x1024, .f32⟩
  | .hbm, ⟨35, _⟩ => ⟨S2x1x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x4096x1024, .f32⟩
  | .hbm, ⟨40, _⟩ => ⟨S2x4096x1024, .f32⟩
  | .hbm, ⟨41, _⟩ => ⟨S2x1x1024, .f32⟩
  | .hbm, ⟨42, _⟩ => ⟨S2x4096x1024, .f32⟩
  | .hbm, ⟨43, _⟩ => ⟨S2x4096x1024, .f32⟩
  | .hbm, ⟨44, _⟩ => ⟨S2x4096x6144, .f32⟩
  | .hbm, ⟨45, _⟩ => ⟨S2x4096x1024, .f32⟩
  | .hbm, ⟨46, _⟩ => ⟨S_, .f32⟩
  | .hbm, ⟨47, _⟩ => ⟨S2x1024, .f32⟩
  | .hbm, ⟨48, _⟩ => ⟨S2x1x1024, .f32⟩
  | .hbm, ⟨49, _⟩ => ⟨S_, .f32⟩
  | .hbm, ⟨50, _⟩ => ⟨S2x1024, .f32⟩
  | .hbm, ⟨51, _⟩ => ⟨S2x4096x1024, .f32⟩
  | .hbm, ⟨52, _⟩ => ⟨S_, .f32⟩
  | .hbm, ⟨53, _⟩ => ⟨S2x1024, .f32⟩
  | .hbm, ⟨54, _⟩ => ⟨S2x1x1024, .f32⟩
  | .hbm, ⟨55, _⟩ => ⟨S2x4096x1024, .f32⟩
  | .hbm, ⟨56, _⟩ => ⟨S2x4096x1024, .f32⟩
  | .hbm, ⟨57, _⟩ => ⟨S_, .f32⟩
  | .hbm, ⟨58, _⟩ => ⟨S2x1024, .f32⟩
  | .hbm, ⟨59, _⟩ => ⟨S2x4096x1024, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S2x4096x1024, .f32⟩
  | .hbm, ⟨64, _⟩ => ⟨S2x4096x1024, .f32⟩
  | .hbm, ⟨65, _⟩ => ⟨S_, .f32⟩
  | .hbm, ⟨66, _⟩ => ⟨S1024, .f32⟩
  | .hbm, ⟨67, _⟩ => ⟨S2x4096x1024, .f32⟩
  | .hbm, ⟨68, _⟩ => ⟨S_, .f32⟩
  | .hbm, ⟨69, _⟩ => ⟨S2x4096, .f32⟩
  | .hbm, ⟨70, _⟩ => ⟨S2x4096x1, .f32⟩
  | .hbm, ⟨71, _⟩ => ⟨S2x4096x1024, .f32⟩
  | .hbm, ⟨72, _⟩ => ⟨S2x4096x1024, .f32⟩
  | .hbm, ⟨73, _⟩ => ⟨S2x4096x1024, .f32⟩
  | .hbm, ⟨74, _⟩ => ⟨S2x4096x1, .f32⟩
  | .hbm, ⟨75, _⟩ => ⟨S_, .f32⟩
  | .hbm, ⟨76, _⟩ => ⟨S2x4096x1, .f32⟩
  | .hbm, ⟨77, _⟩ => ⟨S2x4096x1, .f32⟩
  | .hbm, ⟨78, _⟩ => ⟨S_, .f32⟩
  | .hbm, ⟨79, _⟩ => ⟨S2x4096, .f32⟩
  | .hbm, ⟨80, _⟩ => ⟨S2x4096x1024, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S2x4096x1024, .f32⟩
  | .hbm, ⟨85, _⟩ => ⟨S2x1x1024, .f32⟩
  | .hbm, ⟨86, _⟩ => ⟨S2x1x1024, .f32⟩
  | .hbm, ⟨87, _⟩ => ⟨S_, .f32⟩
  | .hbm, ⟨88, _⟩ => ⟨S2x6x1024, .f32⟩
  | .hbm, ⟨89, _⟩ => ⟨S2x8x1024, .f32⟩
  | .hbm, ⟨90, _⟩ => ⟨S1x1024, .f32⟩
  | .hbm, ⟨91, _⟩ => ⟨S_, .f32⟩
  | .hbm, ⟨92, _⟩ => ⟨S7x1024, .f32⟩
  | .hbm, ⟨93, _⟩ => ⟨S8x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Kernel3.lean ====
abbrev S8192x2816 : Shape := ⟨2, ![8192, 2816]⟩
abbrev S1024x5632 : Shape := ⟨2, ![1024, 5632]⟩
abbrev S8192x1024 : Shape := ⟨2, ![8192, 1024]⟩
abbrev S1024 : Shape := ⟨1, ![1024]⟩
abbrev S2x6x1024 : Shape := ⟨3, ![2, 6, 1024]⟩
abbrev S_ : Shape := ⟨0, ![]⟩
abbrev S2x8x1024 : Shape := ⟨3, ![2, 8, 1024]⟩
abbrev S1x1024 : Shape := ⟨2, ![1, 1024]⟩
abbrev S8x1024 : Shape := ⟨2, ![8, 1024]⟩
abbrev S512x2816 : Shape := ⟨2, ![512, 2816]⟩
abbrev S1024x2816 : Shape := ⟨2, ![1024, 2816]⟩
abbrev S512x1024 : Shape := ⟨2, ![512, 1024]⟩
abbrev S1x8x1024 : Shape := ⟨3, ![1, 8, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S2x6x1024, .f32⟩
  | .hbm, ⟨7, _⟩ => ⟨S_, .i32⟩
  | .hbm, ⟨8, _⟩ => ⟨S_, .f32⟩
  | .hbm, ⟨9, _⟩ => ⟨S2x8x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S2x8x1024, .f32⟩
  | .hbm, ⟨14, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x8x1024, .f32⟩
  | .local _ .vmem, ⟨12, _⟩ => ⟨S1x8x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x8x1024, .f32⟩
  | .local _ .vmem, ⟨18, _⟩ => ⟨S1x8x1024, .f32⟩
  | .local _ .vmem, ⟨19, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S8192x2816 : Shape := ⟨2, ![8192, 2816]⟩
abbrev S1024x5632 : Shape := ⟨2, ![1024, 5632]⟩
abbrev S8192x1024 : Shape := ⟨2, ![8192, 1024]⟩
abbrev S1024 : Shape := ⟨1, ![1024]⟩
abbrev S2x6x1024 : Shape := ⟨3, ![2, 6, 1024]⟩
abbrev S2x1x1024 : Shape := ⟨3, ![2, 1, 1024]⟩
abbrev S2x1024 : Shape := ⟨2, ![2, 1024]⟩
abbrev S2x4096x1024 : Shape := ⟨3, ![2, 4096, 1024]⟩
abbrev S2x4096x2816 : Shape := ⟨3, ![2, 4096, 2816]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x5632 : Shape := ⟨3, ![2, 4096, 5632]⟩
abbrev S2x8x1024 : Shape := ⟨3, ![2, 8, 1024]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S2x6x1024, .f32⟩
  | .hbm, ⟨7, _⟩ => ⟨S1024x5632, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x4096x1024, .f32⟩
  | .hbm, ⟨13, _⟩ => ⟨S8192x2816, .f32⟩
  | .hbm, ⟨14, _⟩ => ⟨S2x4096x2816, .f32⟩
  | .hbm, ⟨15, _⟩ => ⟨S8192x2816, .f32⟩
  | .hbm, ⟨16, _⟩ => ⟨S2x4096x2816, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x1024, .f32⟩
  | .hbm, ⟨34, _⟩ => ⟨S2x4096x1024, .f32⟩
  | .hbm, ⟨35, _⟩ => ⟨S1x1x1024, .f32⟩
  | .hbm, ⟨36, _⟩ => ⟨S2x4096x1024, .f32⟩
  | .hbm, ⟨37, _⟩ => ⟨S2x4096x1024, .f32⟩
  | .hbm, ⟨38, _⟩ => ⟨S2x1x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x4096x1024, .f32⟩
  | .hbm, ⟨43, _⟩ => ⟨S2x4096x1024, .f32⟩
  | .hbm, ⟨44, _⟩ => ⟨S2x1x1024, .f32⟩
  | .hbm, ⟨45, _⟩ => ⟨S2x4096x1024, .f32⟩
  | .hbm, ⟨46, _⟩ => ⟨S2x4096x1024, .f32⟩
  | .hbm, ⟨47, _⟩ => ⟨S2x4096x5632, .f32⟩
  | .hbm, ⟨48, _⟩ => ⟨S2x4096x2816, .f32⟩
  | .hbm, ⟨49, _⟩ => ⟨S2x4096x2816, .f32⟩
  | .hbm, ⟨50, _⟩ => ⟨S_, .f32⟩
  | .hbm, ⟨51, _⟩ => ⟨S2x4096x5632, .f32⟩
  | .hbm, ⟨52, _⟩ => ⟨S_, .f32⟩
  | .hbm, ⟨53, _⟩ => ⟨S2x4096x5632, .f32⟩
  | .hbm, ⟨54, _⟩ => ⟨S2x4096x5632, .f32⟩
  | .hbm, ⟨55, _⟩ => ⟨S2x4096x1024, .f32⟩
  | .hbm, ⟨56, _⟩ => ⟨S_, .f32⟩
  | .hbm, ⟨57, _⟩ => ⟨S2x1024, .f32⟩
  | .hbm, ⟨58, _⟩ => ⟨S2x1x1024, .f32⟩
  | .hbm, ⟨59, _⟩ => ⟨S_, .f32⟩
  | .hbm, ⟨60, _⟩ => ⟨S2x1024, .f32⟩
  | .hbm, ⟨61, _⟩ => ⟨S2x4096x1024, .f32⟩
  | .hbm, ⟨62, _⟩ => ⟨S_, .f32⟩
  | .hbm, ⟨63, _⟩ => ⟨S2x1024, .f32⟩
  | .hbm, ⟨64, _⟩ => ⟨S2x1x1024, .f32⟩
  | .hbm, ⟨65, _⟩ => ⟨S2x4096x1024, .f32⟩
  | .hbm, ⟨66, _⟩ => ⟨S2x4096x1024, .f32⟩
  | .hbm, ⟨67, _⟩ => ⟨S_, .f32⟩
  | .hbm, ⟨68, _⟩ => ⟨S2x1024, .f32⟩
  | .hbm, ⟨69, _⟩ => ⟨S2x4096x1024, .f32⟩
  | .hbm, ⟨70, _⟩ => ⟨S_, .f32⟩
  | .hbm, ⟨71, _⟩ => ⟨S1024, .f32⟩
  | .hbm, ⟨72, _⟩ => ⟨S1x1x1024, .f32⟩
  | .hbm, ⟨73, _⟩ => ⟨S2x4096x1024, .f32⟩
  | .hbm, ⟨74, _⟩ => ⟨S2x4096x1024, .f32⟩
  | .hbm, ⟨75, _⟩ => ⟨S_, .f32⟩
  | .hbm, ⟨76, _⟩ => ⟨S1024, .f32⟩
  | .hbm, ⟨77, _⟩ => ⟨S2x4096x1024, .f32⟩
  | .hbm, ⟨78, _⟩ => ⟨S_, .f32⟩
  | .hbm, ⟨79, _⟩ => ⟨S2x4096, .f32⟩
  | .hbm, ⟨80, _⟩ => ⟨S2x4096x1, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S2x4096x1, .f32⟩
  | .hbm, ⟨85, _⟩ => ⟨S_, .f32⟩
  | .hbm, ⟨86, _⟩ => ⟨S2x4096x1, .f32⟩
  | .hbm, ⟨87, _⟩ => ⟨S2x4096x1, .f32⟩
  | .hbm, ⟨88, _⟩ => ⟨S_, .f32⟩
  | .hbm, ⟨89, _⟩ => ⟨S2x4096, .f32⟩
  | .hbm, ⟨90, _⟩ => ⟨S2x4096x1024, .f32⟩
  | .hbm, ⟨91, _⟩ => ⟨S2x4096x1024, .f32⟩
  | .hbm, ⟨92, _⟩ => ⟨S2x4096x1024, .f32⟩
  | .hbm, ⟨93, _⟩ => ⟨S2x4096x1024, .f32⟩
  | .hbm, ⟨94, _⟩ => ⟨S2x4096x1024, .f32⟩
  | .hbm, ⟨95, _⟩ => ⟨S2x1x1024, .f32⟩
  | .hbm, ⟨96, _⟩ => ⟨S2x1x1024, .f32⟩
  | .hbm, ⟨97, _⟩ => ⟨S_, .f32⟩
  | .hbm, ⟨98, _⟩ => ⟨S2x6x1024, .f32⟩
  | .hbm, ⟨99, _⟩ => ⟨S2x8x1024, .f32⟩
  | .hbm, ⟨100, _⟩ => ⟨S1x1024, .f32⟩
  | .hbm, ⟨101, _⟩ => ⟨S_, .f32⟩
  | .hbm, ⟨102, _⟩ => ⟨S7x1024, .f32⟩
  | .hbm, ⟨103, _⟩ => ⟨S8x1024, .f32⟩
  | .hbm, ⟨104, _⟩ => ⟨S8192x1024, .f32⟩
  | .hbm, ⟨105, _⟩ => ⟨S8192x1024, .f32⟩
  | .hbm, ⟨106, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_16 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel4.lean ====
abbrev S8192x1024 : Shape := ⟨2, ![8192, 1024]⟩
abbrev S8192x6144 : Shape := ⟨2, ![8192, 6144]⟩
abbrev S1024x6144 : Shape := ⟨2, ![1024, 6144]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S1024x6144, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x6144 : Shape := ⟨2, ![8192, 6144]⟩
abbrev S2x4096x1024 : Shape := ⟨3, ![2, 4096, 1024]⟩
abbrev S2x4096x6144 : Shape := ⟨3, ![2, 4096, 6144]⟩
abbrev S6144x1024 : Shape := ⟨2, ![6144, 1024]⟩
abbrev S1024x6144 : Shape := ⟨2, ![1024, 6144]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x1024, .f32⟩
  | .hbm, ⟨3, _⟩ => ⟨S2x4096x1024, .f32⟩
  | .hbm, ⟨4, _⟩ => ⟨S8192x6144, .f32⟩
  | .hbm, ⟨5, _⟩ => ⟨S2x4096x6144, .f32⟩
  | .hbm, ⟨6, _⟩ => ⟨S6144x1024, .f32⟩
  | .hbm, ⟨7, _⟩ => ⟨S1024x6144, .f32⟩
  | .hbm, ⟨8, _⟩ => ⟨S1024x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S8192x2816 : Shape := ⟨2, ![8192, 2816]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond7 (i : grid0.Coords) : BitVec 1 :=
  let arg1 : BitVec 32 := BitVec.ofNat 32 (i 1).val
  let c3_i32 : BitVec 32 := 3#32
  let v6 : BitVec 1 := Scalar.cmpi .eq arg1 c3_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c0_i32 : BitVec 32 := 0#32
  let v1 : BitVec 32 := Scalar.select v0 arg1 c0_i32
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S8192x1024 : Shape := ⟨2, ![8192, 1024]⟩
abbrev S8192x2816 : Shape := ⟨2, ![8192, 2816]⟩
abbrev S2x4096x1024 : Shape := ⟨3, ![2, 4096, 1024]⟩
abbrev S2x4096x2816 : Shape := ⟨3, ![2, 4096, 2816]⟩
abbrev S_ : Shape := ⟨0, ![]⟩
abbrev S2x4096x5632 : Shape := ⟨3, ![2, 4096, 5632]⟩
abbrev S5632x1024 : Shape := ⟨2, ![5632, 1024]⟩
abbrev S1024x5632 : Shape := ⟨2, ![1024, 5632]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x1024, .f32⟩
  | .hbm, ⟨4, _⟩ => ⟨S2x4096x1024, .f32⟩
  | .hbm, ⟨5, _⟩ => ⟨S8192x2816, .f32⟩
  | .hbm, ⟨6, _⟩ => ⟨S2x4096x2816, .f32⟩
  | .hbm, ⟨7, _⟩ => ⟨S8192x2816, .f32⟩
  | .hbm, ⟨8, _⟩ => ⟨S2x4096x2816, .f32⟩
  | .hbm, ⟨9, _⟩ => ⟨S_, .f32⟩
  | .hbm, ⟨10, _⟩ => ⟨S2x4096x5632, .f32⟩
  | .hbm, ⟨11, _⟩ => ⟨S_, .f32⟩
  | .hbm, ⟨12, _⟩ => ⟨S2x4096x5632, .f32⟩
  | .hbm, ⟨13, _⟩ => ⟨S2x4096x5632, .f32⟩
  | .hbm, ⟨14, _⟩ => ⟨S5632x1024, .f32⟩
  | .hbm, ⟨15, _⟩ => ⟨S1024x5632, .f32⟩
  | .hbm, ⟨16, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S8192x1024 : Shape := ⟨2, ![8192, 1024]⟩
abbrev S8192x2816 : Shape := ⟨2, ![8192, 2816]⟩
abbrev S2816x1024 : Shape := ⟨2, ![2816, 1024]⟩
abbrev S2x6x1024 : Shape := ⟨3, ![2, 6, 1024]⟩
abbrev S_ : Shape := ⟨0, ![]⟩
abbrev S2x8x1024 : Shape := ⟨3, ![2, 8, 1024]⟩
abbrev S256x1024 : Shape := ⟨2, ![256, 1024]⟩
abbrev S1x8x1024 : Shape := ⟨3, ![1, 8, 1024]⟩
abbrev S256x2816 : Shape := ⟨2, ![256, 2816]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S2x6x1024, .f32⟩
  | .hbm, ⟨6, _⟩ => ⟨S_, .i32⟩
  | .hbm, ⟨7, _⟩ => ⟨S_, .f32⟩
  | .hbm, ⟨8, _⟩ => ⟨S2x8x1024, .f32⟩
  | .hbm, ⟨9, _⟩ => ⟨S8192x1024, .bf16⟩
  | .hbm, ⟨10, _⟩ => ⟨S2x8x1024, .f32⟩
  | .hbm, ⟨11, _⟩ => ⟨S8192x2816, .bf16⟩
  | .hbm, ⟨12, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x8x1024, .f32⟩
  | .local _ .vmem, ⟨5, _⟩ => ⟨S1x8x1024, .f32⟩
  | .local _ .vmem, ⟨6, _⟩ => ⟨S2816x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x1024, .bf16⟩
  | .local _ .vmem, ⟨12, _⟩ => ⟨S256x1024, .bf16⟩
  | .local _ .vmem, ⟨13, _⟩ => ⟨S1x8x1024, .f32⟩
  | .local _ .vmem, ⟨14, _⟩ => ⟨S1x8x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c16_i32 : BitVec 32 := 16#32
  let c0_i32_25 : BitVec 32 := 0#32
  let v37 : BitVec 1 := Scalar.cmpi .eq c16_i32 c0_i32_25
  let c1_i32 : BitVec 32 := 1#32
  let v38 : BitVec 32 := Scalar.select v37 c1_i32 c16_i32
  let v39 : BitVec 32 := Scalar.remsi arg0 v38
  let c0_i32_27 : BitVec 32 := 0#32
  let v41 : BitVec 1 := Scalar.cmpi .slt v39 c0_i32_27
  let c0_i32_28 : BitVec 32 := 0#32
  let v42 : BitVec 1 := Scalar.cmpi .slt v38 c0_i32_28
  let v43 : BitVec 1 := Scalar.xori v41 v42
  let c0_i32_26 : BitVec 32 := 0#32
  let v40 : BitVec 1 := Scalar.cmpi .ne v39 c0_i32_26
  let v44 : BitVec 1 := Scalar.andi v43 v40
  let v45 : BitVec 32 := Scalar.addi v39 v38
  let v46 : BitVec 32 := Scalar.select v44 v45 v39
  let c0_i32_29 : BitVec 32 := 0#32
  let v47 : BitVec 1 := Scalar.cmpi .eq v46 c0_i32_29
  let v48 : BitVec 32 := Scalar.extui v47
  let c0_i32_30 : BitVec 32 := 0#32
  let v49 : BitVec 1 := Scalar.cmpi .ne v48 c0_i32_30
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S8192x1024 : Shape := ⟨2, ![8192, 1024]⟩
abbrev S8192x2816 : Shape := ⟨2, ![8192, 2816]⟩
abbrev S2816x1024 : Shape := ⟨2, ![2816, 1024]⟩
abbrev S2x6x1024 : Shape := ⟨3, ![2, 6, 1024]⟩
abbrev S2x4096x1024 : Shape := ⟨3, ![2, 4096, 1024]⟩
abbrev S2x4096x2816 : Shape := ⟨3, ![2, 4096, 2816]⟩
abbrev S2x1x1024 : Shape := ⟨3, ![2, 1, 1024]⟩
abbrev S2x1024 : Shape := ⟨2, ![2, 1024]⟩
abbrev S_ : Shape := ⟨0, ![]⟩
abbrev S2x7x1024 : Shape := ⟨3, ![2, 7, 1024]⟩
abbrev S2x8x1024 : Shape := ⟨3, ![2, 8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S2x6x1024, .f32⟩
  | .hbm, ⟨6, _⟩ => ⟨S2816x1024, .f32⟩
  | .hbm, ⟨7, _⟩ => ⟨S8192x1024, .f32⟩
  | .hbm, ⟨8, _⟩ => ⟨S2x4096x1024, .f32⟩
  | .hbm, ⟨9, _⟩ => ⟨S8192x2816, .f32⟩
  | .hbm, ⟨10, _⟩ => ⟨S2x4096x2816, .f32⟩
  | .hbm, ⟨11, _⟩ => ⟨S8192x2816, .f32⟩
  | .hbm, ⟨12, _⟩ => ⟨S2x4096x2816, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S_, .f32⟩
  | .hbm, ⟨23, _⟩ => ⟨S2x1024, .f32⟩
  | .hbm, ⟨24, _⟩ => ⟨S2x1x1024, .f32⟩
  | .hbm, ⟨25, _⟩ => ⟨S_, .f32⟩
  | .hbm, ⟨26, _⟩ => ⟨S2x1024, .f32⟩
  | .hbm, ⟨27, _⟩ => ⟨S2x4096x2816, .f32⟩
  | .hbm, ⟨28, _⟩ => ⟨S2x4096x2816, .f32⟩
  | .hbm, ⟨29, _⟩ => ⟨S_, .f32⟩
  | .hbm, ⟨30, _⟩ => ⟨S2x4096x2816, .f32⟩
  | .hbm, ⟨31, _⟩ => ⟨S2x4096x2816, .f32⟩
  | .hbm, ⟨32, _⟩ => ⟨S_, .f32⟩
  | .hbm, ⟨33, _⟩ => ⟨S2x4096x2816, .f32⟩
  | .hbm, ⟨34, _⟩ => ⟨S2x4096x2816, .f32⟩
  | .hbm, ⟨35, _⟩ => ⟨S_, .f32⟩
  | .hbm, ⟨36, _⟩ => ⟨S2x4096x2816, .f32⟩
  | .hbm, ⟨37, _⟩ => ⟨S2x4096x2816, .f32⟩
  | .hbm, ⟨38, _⟩ => ⟨S2x4096x2816, .f32⟩
  | .hbm, ⟨39, _⟩ => ⟨S2x4096x2816, .f32⟩
  | .hbm, ⟨40, _⟩ => ⟨S2x4096x2816, .f32⟩
  | .hbm, ⟨41, _⟩ => ⟨S2x4096x1024, .f32⟩
  | .hbm, ⟨42, _⟩ => ⟨S2x4096x2816, .f32⟩
  | .hbm, ⟨43, _⟩ => ⟨S2x4096x2816, .f32⟩
  | .hbm, ⟨44, _⟩ => ⟨S2x4096x2816, .f32⟩
  | .hbm, ⟨45, _⟩ => ⟨S2x4096x2816, .f32⟩
  | .hbm, ⟨46, _⟩ => ⟨S2x4096x2816, .f32⟩
  | .hbm, ⟨47, _⟩ => ⟨S2x4096x2816, .f32⟩
  | .hbm, ⟨48, _⟩ => ⟨S2x4096x2816, .f32⟩
  | .hbm, ⟨49, _⟩ => ⟨S2x1x1024, .f32⟩
  | .hbm, ⟨50, _⟩ => ⟨S_, .f32⟩
  | .hbm, ⟨51, _⟩ => ⟨S2x7x1024, .f32⟩
  | .hbm, ⟨52, _⟩ => ⟨S2x8x1024, .f32⟩
  | .hbm, ⟨53, _⟩ => ⟨S8192x1024, .f32⟩
  | .hbm, ⟨54, _⟩ => ⟨S8192x1024, .bf16⟩
  | .hbm, ⟨55, _⟩ => ⟨S8192x2816, .f32⟩
  | .hbm, ⟨56, _⟩ => ⟨S8192x2816, .bf16⟩
  | .hbm, ⟨57, _⟩ => ⟨S8192x2816, .f32⟩
  | .hbm, ⟨58, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Kernel7.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2816 : Shape := ⟨2, ![8192, 2816]⟩
abbrev S8192x1024 : Shape := ⟨2, ![8192, 1024]⟩
abbrev S2x4096x2816 : Shape := ⟨3, ![2, 4096, 2816]⟩
abbrev S2x4096x1024 : Shape := ⟨3, ![2, 4096, 1024]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2x4096x2816, .f32⟩
  | .hbm, ⟨4, _⟩ => ⟨S8192x1024, .f32⟩
  | .hbm, ⟨5, _⟩ => ⟨S2x4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2x6x1024 : Shape := ⟨3, ![2, 6, 1024]⟩
abbrev S_ : Shape := ⟨0, ![]⟩
abbrev S2x8x1024 : Shape := ⟨3, ![2, 8, 1024]⟩
abbrev S512x1024 : Shape := ⟨2, ![512, 1024]⟩
abbrev S1x8x1024 : Shape := ⟨3, ![1, 8, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S2x6x1024, .f32⟩
  | .hbm, ⟨4, _⟩ => ⟨S_, .i32⟩
  | .hbm, ⟨5, _⟩ => ⟨S_, .f32⟩
  | .hbm, ⟨6, _⟩ => ⟨S2x8x1024, .f32⟩
  | .hbm, ⟨7, _⟩ => ⟨S8192x1024, .bf16⟩
  | .hbm, ⟨8, _⟩ => ⟨S2x8x1024, .f32⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x8x1024, .f32⟩
  | .local _ .vmem, ⟨5, _⟩ => ⟨S1x8x1024, .f32⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S1x8x1024, .f32⟩
  | .local _ .vmem, ⟨10, _⟩ => ⟨S1x8x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c8_i32 : BitVec 32 := 8#32
  let c0_i32_14 : BitVec 32 := 0#32
  let v18 : BitVec 1 := Scalar.cmpi .eq c8_i32 c0_i32_14
  let c1_i32 : BitVec 32 := 1#32
  let v19 : BitVec 32 := Scalar.select v18 c1_i32 c8_i32
  let v20 : BitVec 32 := Scalar.remsi arg0 v19
  let c0_i32_16 : BitVec 32 := 0#32
  let v22 : BitVec 1 := Scalar.cmpi .slt v20 c0_i32_16
  let c0_i32_17 : BitVec 32 := 0#32
  let v23 : BitVec 1 := Scalar.cmpi .slt v19 c0_i32_17
  let v24 : BitVec 1 := Scalar.xori v22 v23
  let c0_i32_15 : BitVec 32 := 0#32
  let v21 : BitVec 1 := Scalar.cmpi .ne v20 c0_i32_15
  let v25 : BitVec 1 := Scalar.andi v24 v21
  let v26 : BitVec 32 := Scalar.addi v20 v19
  let v27 : BitVec 32 := Scalar.select v25 v26 v20
  let c0_i32_18 : BitVec 32 := 0#32
  let v28 : BitVec 1 := Scalar.cmpi .eq v27 c0_i32_18
  let v29 : BitVec 32 := Scalar.extui v28
  let c0_i32_19 : BitVec 32 := 0#32
  let v30 : BitVec 1 := Scalar.cmpi .ne v29 c0_i32_19
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S8192x1024 : Shape := ⟨2, ![8192, 1024]⟩
abbrev S1024x1024 : Shape := ⟨2, ![1024, 1024]⟩
abbrev S2x6x1024 : Shape := ⟨3, ![2, 6, 1024]⟩
abbrev S2x1x1024 : Shape := ⟨3, ![2, 1, 1024]⟩
abbrev S2x1024 : Shape := ⟨2, ![2, 1024]⟩
abbrev S2x4096x1024 : Shape := ⟨3, ![2, 4096, 1024]⟩
abbrev S_ : Shape := ⟨0, ![]⟩
abbrev S2x7x1024 : Shape := ⟨3, ![2, 7, 1024]⟩
abbrev S2x8x1024 : Shape := ⟨3, ![2, 8, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S2x6x1024, .f32⟩
  | .hbm, ⟨4, _⟩ => ⟨S1024x1024, .f32⟩
  | .hbm, ⟨5, _⟩ => ⟨S2x1x1024, .f32⟩
  | .hbm, ⟨6, _⟩ => ⟨S2x1024, .f32⟩
  | .hbm, ⟨7, _⟩ => ⟨S8192x1024, .f32⟩
  | .hbm, ⟨8, _⟩ => ⟨S2x4096x1024, .f32⟩
  | .hbm, ⟨9, _⟩ => ⟨S2x1x1024, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S_, .f32⟩
  | .hbm, ⟨17, _⟩ => ⟨S2x1024, .f32⟩
  | .hbm, ⟨18, _⟩ => ⟨S2x1x1024, .f32⟩
  | .hbm, ⟨19, _⟩ => ⟨S_, .f32⟩
  | .hbm, ⟨20, _⟩ => ⟨S2x1024, .f32⟩
  | .hbm, ⟨21, _⟩ => ⟨S2x4096x1024, .f32⟩
  | .hbm, ⟨22, _⟩ => ⟨S2x1x1024, .f32⟩
  | .hbm, ⟨23, _⟩ => ⟨S_, .f32⟩
  | .hbm, ⟨24, _⟩ => ⟨S2x7x1024, .f32⟩
  | .hbm, ⟨25, _⟩ => ⟨S2x8x1024, .f32⟩
  | .hbm, ⟨26, _⟩ => ⟨S8192x1024, .f32⟩
  | .hbm, ⟨27, _⟩ => ⟨S8192x1024, .bf16⟩
  | .hbm, ⟨28, _⟩ => ⟨S8192x1024, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S2x4096x1024 : Shape := ⟨3, ![2, 4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S2x4096x1024, .f32⟩
  | .hbm, ⟨4, _⟩ => ⟨S8192x1024, .f32⟩
  | .hbm, ⟨5, _⟩ => ⟨S2x4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S8192x1536 : Shape := ⟨2, ![8192, 1536]⟩
abbrev S8192x6144 : Shape := ⟨2, ![8192, 6144]⟩
abbrev S512x1024 : Shape := ⟨2, ![512, 1024]⟩
abbrev S8192x3072 : Shape := ⟨2, ![8192, 3072]⟩
abbrev S512x1536 : Shape := ⟨2, ![512, 1536]⟩
abbrev S512x3072 : Shape := ⟨2, ![512, 3072]⟩
abbrev S512x512 : Shape := ⟨2, ![512, 512]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x6144, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S8192x3072, .bf16⟩
  | .hbm, ⟨7, _⟩ => ⟨S8192x3072, .bf16⟩
  | .hbm, ⟨8, _⟩ => ⟨S8192x1536, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x3072, .bf16⟩
  | .local _ .vmem, ⟨5, _⟩ => ⟨S512x3072, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x3072, .bf16⟩
  | .local _ .vmem, ⟨10, _⟩ => ⟨S512x3072, .bf16⟩
  | .local _ .vmem, ⟨11, _⟩ => ⟨S512x3072, .bf16⟩
  | .local _ .vmem, ⟨12, _⟩ => ⟨S512x3072, .bf16⟩
  | .local _ .vmem, ⟨13, _⟩ => ⟨S512x1536, .bf16⟩
  | .local _ .vmem, ⟨14, _⟩ => ⟨S512x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8192x1024 : Shape := ⟨2, ![8192, 1024]⟩
abbrev S8192x1536 : Shape := ⟨2, ![8192, 1536]⟩
abbrev S8192x6144 : Shape := ⟨2, ![8192, 6144]⟩
abbrev S512x1024 : Shape := ⟨2, ![512, 1024]⟩
abbrev S2x4096x1536 : Shape := ⟨3, ![2, 4096, 1536]⟩
abbrev S2x4096x512 : Shape := ⟨3, ![2, 4096, 512]⟩
abbrev S2x4096x1024 : Shape := ⟨3, ![2, 4096, 1024]⟩
abbrev S8192x3072 : Shape := ⟨2, ![8192, 3072]⟩
abbrev S2x4096x3072 : Shape := ⟨3, ![2, 4096, 3072]⟩
abbrev S_ : Shape := ⟨0, ![]⟩
abbrev S2x4096x3x1024 : Shape := ⟨4, ![2, 4096, 3, 1024]⟩
abbrev S2x4096x1x1024 : Shape := ⟨4, ![2, 4096, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x6144, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S8192x1024, .f32⟩
  | .hbm, ⟨10, _⟩ => ⟨S8192x1536, .f32⟩
  | .hbm, ⟨11, _⟩ => ⟨S8192x6144, .f32⟩
  | .hbm, ⟨12, _⟩ => ⟨S2x4096x1536, .f32⟩
  | .hbm, ⟨13, _⟩ => ⟨S2x4096x512, .f32⟩
  | .hbm, ⟨14, _⟩ => ⟨S2x4096x512, .f32⟩
  | .hbm, ⟨15, _⟩ => ⟨S2x4096x512, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S8192x3072, .f32⟩
  | .hbm, ⟨20, _⟩ => ⟨S2x4096x3072, .f32⟩
  | .hbm, ⟨21, _⟩ => ⟨S2x4096x3072, .f32⟩
  | .hbm, ⟨22, _⟩ => ⟨S2x4096x3072, .f32⟩
  | .hbm, ⟨23, _⟩ => ⟨S_, .f32⟩
  | .hbm, ⟨24, _⟩ => ⟨S2x4096x3072, .f32⟩
  | .hbm, ⟨25, _⟩ => ⟨S2x4096x3072, .f32⟩
  | .hbm, ⟨26, _⟩ => ⟨S_, .f32⟩
  | .hbm, ⟨27, _⟩ => ⟨S2x4096x3072, .f32⟩
  | .hbm, ⟨28, _⟩ => ⟨S2x4096x3072, .f32⟩
  | .hbm, ⟨29, _⟩ => ⟨S_, .f32⟩
  | .hbm, ⟨30, _⟩ => ⟨S2x4096x3072, .f32⟩
  | .hbm, ⟨31, _⟩ => ⟨S2x4096x3072, .f32⟩
  | .hbm, ⟨32, _⟩ => ⟨S2x4096x3072, .f32⟩
  | .hbm, ⟨33, _⟩ => ⟨S2x4096x3x1024, .f32⟩
  | .hbm, ⟨34, _⟩ => ⟨S2x4096x1x1024, .f32⟩
  | .hbm, ⟨35, _⟩ => ⟨S2x4096x1024, .f32⟩
  | .hbm, ⟨36, _⟩ => ⟨S2x4096x1024, .f32⟩
  | .hbm, ⟨37, _⟩ => ⟨S2x4096x1x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x1x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S2x4096x1024, .f32⟩
  | .hbm, ⟨48, _⟩ => ⟨S2x4096x1x1024, .f32⟩
  | .hbm, ⟨49, _⟩ => ⟨S_, .f32⟩
  | .hbm, ⟨50, _⟩ => ⟨S2x4096x3x1024, .f32⟩
  | .hbm, ⟨51, _⟩ => ⟨S2x4096x1024, .f32⟩
  | .hbm, ⟨52, _⟩ => ⟨S2x4096x1024, .f32⟩
  | .hbm, ⟨53, _⟩ => ⟨S2x4096x1x1024, .f32⟩
  | .hbm, ⟨54, _⟩ => ⟨S_, .f32⟩
  | .hbm, ⟨55, _⟩ => ⟨S2x4096x3x1024, .f32⟩
  | .hbm, ⟨56, _⟩ => ⟨S2x4096x3x1024, .f32⟩
  | .hbm, ⟨57, _⟩ => ⟨S2x4096x1024, .f32⟩
  | .hbm, ⟨58, _⟩ => ⟨S2x4096x1024, .f32⟩
  | .hbm, ⟨59, _⟩ => ⟨S2x4096x1x1024, .f32⟩
  | .hbm, ⟨60, _⟩ => ⟨S_, .f32⟩
  | .hbm, ⟨61, _⟩ => ⟨S2x4096x3x1024, .f32⟩
  | .hbm, ⟨62, _⟩ => ⟨S2x4096x3x1024, .f32⟩
  | .hbm, ⟨63, _⟩ => ⟨S2x4096x3072, .f32⟩
  | .hbm, ⟨64, _⟩ => ⟨S2x4096x3072, .f32⟩
  | .hbm, ⟨65, _⟩ => ⟨S2x4096x512, .f32⟩
  | .hbm, ⟨66, _⟩ => ⟨S2x4096x512, .f32⟩
  | .hbm, ⟨67, _⟩ => ⟨S2x4096x512, .f32⟩
  | .hbm, ⟨68, _⟩ => ⟨S2x4096x3072, .f32⟩
  | .hbm, ⟨69, _⟩ => ⟨S2x4096x1536, .f32⟩
  | .hbm, ⟨70, _⟩ => ⟨S8192x3072, .f32⟩
  | .hbm, ⟨71, _⟩ => ⟨S8192x3072, .bf16⟩
  | .hbm, ⟨72, _⟩ => ⟨S8192x3072, .f32⟩
  | .hbm, ⟨73, _⟩ => ⟨S8192x3072, .bf16⟩
  | .hbm, ⟨74, _⟩ => ⟨S8192x1536, .f32⟩
  | .hbm, ⟨75, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== Kernel11.lean ====
abbrev S8192x1536 : Shape := ⟨2, ![8192, 1536]⟩
abbrev S8192x3072 : Shape := ⟨2, ![8192, 3072]⟩
abbrev S512x1024 : Shape := ⟨2, ![512, 1024]⟩
abbrev S4096x512 : Shape := ⟨2, ![4096, 512]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1536 : Shape := ⟨2, ![8192, 1536]⟩
abbrev S8192x3072 : Shape := ⟨2, ![8192, 3072]⟩
abbrev S8192x512 : Shape := ⟨2, ![8192, 512]⟩
abbrev S8192x1024 : Shape := ⟨2, ![8192, 1024]⟩
abbrev S2x4096x512 : Shape := ⟨3, ![2, 4096, 512]⟩
abbrev S2x4096x1024 : Shape := ⟨3, ![2, 4096, 1024]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S8192x512, .bf16⟩
  | .hbm, ⟨3, _⟩ => ⟨S8192x1024, .bf16⟩
  | .hbm, ⟨4, _⟩ => ⟨S8192x512, .f32⟩
  | .hbm, ⟨5, _⟩ => ⟨S2x4096x512, .f32⟩
  | .hbm, ⟨6, _⟩ => ⟨S8192x1024, .f32⟩
  | .hbm, ⟨7, _⟩ => ⟨S2x4096x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel12.lean ====
abbrev S8192x1536 : Shape := ⟨2, ![8192, 1536]⟩
abbrev S8192x3072 : Shape := ⟨2, ![8192, 3072]⟩
abbrev S512x1024 : Shape := ⟨2, ![512, 1024]⟩
abbrev S4096x512 : Shape := ⟨2, ![4096, 512]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1536 : Shape := ⟨2, ![8192, 1536]⟩
abbrev S8192x3072 : Shape := ⟨2, ![8192, 3072]⟩
abbrev S8192x512 : Shape := ⟨2, ![8192, 512]⟩
abbrev S8192x1024 : Shape := ⟨2, ![8192, 1024]⟩
abbrev S2x4096x512 : Shape := ⟨3, ![2, 4096, 512]⟩
abbrev S2x4096x1024 : Shape := ⟨3, ![2, 4096, 1024]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S8192x512, .bf16⟩
  | .hbm, ⟨3, _⟩ => ⟨S8192x1024, .bf16⟩
  | .hbm, ⟨4, _⟩ => ⟨S8192x512, .f32⟩
  | .hbm, ⟨5, _⟩ => ⟨S2x4096x512, .f32⟩
  | .hbm, ⟨6, _⟩ => ⟨S8192x1024, .f32⟩
  | .hbm, ⟨7, _⟩ => ⟨S2x4096x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel13.lean ====
abbrev S8192x1536 : Shape := ⟨2, ![8192, 1536]⟩
abbrev S8192x3072 : Shape := ⟨2, ![8192, 3072]⟩
abbrev S512x1024 : Shape := ⟨2, ![512, 1024]⟩
abbrev S4096x512 : Shape := ⟨2, ![4096, 512]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1536 : Shape := ⟨2, ![8192, 1536]⟩
abbrev S8192x3072 : Shape := ⟨2, ![8192, 3072]⟩
abbrev S8192x512 : Shape := ⟨2, ![8192, 512]⟩
abbrev S8192x1024 : Shape := ⟨2, ![8192, 1024]⟩
abbrev S2x4096x512 : Shape := ⟨3, ![2, 4096, 512]⟩
abbrev S2x4096x1024 : Shape := ⟨3, ![2, 4096, 1024]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x3072, .bf16⟩
  | .hbm, ⟨2, _⟩ => ⟨S8192x512, .bf16⟩
  | .hbm, ⟨3, _⟩ => ⟨S8192x1024, .bf16⟩
  | .hbm, ⟨4, _⟩ => ⟨S8192x512, .f32⟩
  | .hbm, ⟨5, _⟩ => ⟨S2x4096x512, .f32⟩
  | .hbm, ⟨6, _⟩ => ⟨S8192x1024, .f32⟩
  | .hbm, ⟨7, _⟩ => ⟨S2x4096x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S2x6x1024 : Shape := ⟨3, ![2, 6, 1024]⟩
abbrev S1024x6144 : Shape := ⟨2, ![1024, 6144]⟩
abbrev S_ : Shape := ⟨0, ![]⟩
abbrev S2x8x1024 : Shape := ⟨3, ![2, 8, 1024]⟩
abbrev S1x1024 : Shape := ⟨2, ![1, 1024]⟩
abbrev S8192x6144 : Shape := ⟨2, ![8192, 6144]⟩
abbrev S1024x1024 : Shape := ⟨2, ![1024, 1024]⟩
abbrev S1x8x1024 : Shape := ⟨3, ![1, 8, 1024]⟩
abbrev S1024x1536 : Shape := ⟨2, ![1024, 1536]⟩
abbrev S1024x1 : Shape := ⟨2, ![1024, 1]⟩
abbrev S1x1x1024 : Shape := ⟨3, ![1, 1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x6x1024, .f32⟩
  | .hbm, ⟨3, _⟩ => ⟨S1024x6144, .bf16⟩
  | .hbm, ⟨4, _⟩ => ⟨S_, .i32⟩
  | .hbm, ⟨5, _⟩ => ⟨S_, .f32⟩
  | .hbm, ⟨6, _⟩ => ⟨S2x8x1024, .f32⟩
  | .hbm, ⟨7, _⟩ => ⟨S1x1024, .f32⟩
  | .hbm, ⟨8, _⟩ => ⟨S8192x6144, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x8x1024, .f32⟩
  | .local _ .vmem, ⟨4, _⟩ => ⟨S1x8x1024, .f32⟩
  | .local _ .vmem, ⟨5, _⟩ => ⟨S1024x1536, .bf16⟩
  | .local _ .vmem, ⟨6, _⟩ => ⟨S1024x1536, .bf16⟩
  | .local _ .vmem, ⟨7, _⟩ => ⟨S1024x1536, .bf16⟩
  | .local _ .vmem, ⟨8, _⟩ => ⟨S1024x1536, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S8192x1024 : Shape := ⟨2, ![8192, 1024]⟩
abbrev S1024 : Shape := ⟨1, ![1024]⟩
abbrev S2x6x1024 : Shape := ⟨3, ![2, 6, 1024]⟩
abbrev S1024x6144 : Shape := ⟨2, ![1024, 6144]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1x1024 : Shape := ⟨3, ![2, 1, 1024]⟩
abbrev S2x1024 : Shape := ⟨2, ![2, 1024]⟩
abbrev S2x4096x6144 : Shape := ⟨3, ![2, 4096, 6144]⟩
abbrev S8192x6144 : Shape := ⟨2, ![8192, 6144]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x6x1024, .f32⟩
  | .hbm, ⟨3, _⟩ => ⟨S1024x6144, .bf16⟩
  | .hbm, ⟨4, _⟩ => ⟨S1024x6144, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S2x1x1024, .f32⟩
  | .hbm, ⟨23, _⟩ => ⟨S2x1024, .f32⟩
  | .hbm, ⟨24, _⟩ => ⟨S2x1x1024, .f32⟩
  | .hbm, ⟨25, _⟩ => ⟨S2x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x4096x1024, .f32⟩
  | .hbm, ⟨31, _⟩ => ⟨S2x4096x1024, .f32⟩
  | .hbm, ⟨32, _⟩ => ⟨S2x1x1024, .f32⟩
  | .hbm, ⟨33, _⟩ => ⟨S2x4096x1024, .f32⟩
  | .hbm, ⟨34, _⟩ => ⟨S2x4096x1024, .f32⟩
  | .hbm, ⟨35, _⟩ => ⟨S2x4096x6144, .f32⟩
  | .hbm, ⟨36, _⟩ => ⟨S8192x6144, .f32⟩
  | .hbm, ⟨37, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel15.lean ====
abbrev S8192x1024 : Shape := ⟨2, ![8192, 1024]⟩
abbrev S1024 : Shape := ⟨1, ![1024]⟩
abbrev S2x6x1024 : Shape := ⟨3, ![2, 6, 1024]⟩
abbrev S1024x5632 : Shape := ⟨2, ![1024, 5632]⟩
abbrev S_ : Shape := ⟨0, ![]⟩
abbrev S2x8x1024 : Shape := ⟨3, ![2, 8, 1024]⟩
abbrev S1x1024 : Shape := ⟨2, ![1, 1024]⟩
abbrev S8192x2816 : Shape := ⟨2, ![8192, 2816]⟩
abbrev S512x1024 : Shape := ⟨2, ![512, 1024]⟩
abbrev S1x8x1024 : Shape := ⟨3, ![1, 8, 1024]⟩
abbrev S1024x2816 : Shape := ⟨2, ![1024, 2816]⟩
abbrev S512x2816 : Shape := ⟨2, ![512, 2816]⟩
abbrev S512 : Shape := ⟨1, ![512]⟩
abbrev S512x1 : Shape := ⟨2, ![512, 1]⟩
abbrev S1x1x1024 : Shape := ⟨3, ![1, 1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x6x1024, .f32⟩
  | .hbm, ⟨3, _⟩ => ⟨S1024x5632, .bf16⟩
  | .hbm, ⟨4, _⟩ => ⟨S_, .i32⟩
  | .hbm, ⟨5, _⟩ => ⟨S_, .f32⟩
  | .hbm, ⟨6, _⟩ => ⟨S2x8x1024, .f32⟩
  | .hbm, ⟨7, _⟩ => ⟨S1x1024, .f32⟩
  | .hbm, ⟨8, _⟩ => ⟨S8192x2816, .bf16⟩
  | .hbm, ⟨9, _⟩ => ⟨S8192x2816, .bf16⟩
  | .hbm, ⟨10, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x8x1024, .f32⟩
  | .local _ .vmem, ⟨4, _⟩ => ⟨S1x8x1024, .f32⟩
  | .local _ .vmem, ⟨5, _⟩ => ⟨S1024x2816, .bf16⟩
  | .local _ .vmem, ⟨6, _⟩ => ⟨S1024x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S8192x1024 : Shape := ⟨2, ![8192, 1024]⟩
abbrev S1024 : Shape := ⟨1, ![1024]⟩
abbrev S2x6x1024 : Shape := ⟨3, ![2, 6, 1024]⟩
abbrev S1024x5632 : Shape := ⟨2, ![1024, 5632]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1x1024 : Shape := ⟨3, ![2, 1, 1024]⟩
abbrev S2x1024 : Shape := ⟨2, ![2, 1024]⟩
abbrev S2x4096x5632 : Shape := ⟨3, ![2, 4096, 5632]⟩
abbrev S2x4096x2816 : Shape := ⟨3, ![2, 4096, 2816]⟩
abbrev S8192x2816 : Shape := ⟨2, ![8192, 2816]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x6x1024, .f32⟩
  | .hbm, ⟨3, _⟩ => ⟨S1024x5632, .bf16⟩
  | .hbm, ⟨4, _⟩ => ⟨S1024x5632, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S2x1x1024, .f32⟩
  | .hbm, ⟨23, _⟩ => ⟨S2x1024, .f32⟩
  | .hbm, ⟨24, _⟩ => ⟨S2x1x1024, .f32⟩
  | .hbm, ⟨25, _⟩ => ⟨S2x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x4096x1024, .f32⟩
  | .hbm, ⟨31, _⟩ => ⟨S2x4096x1024, .f32⟩
  | .hbm, ⟨32, _⟩ => ⟨S2x1x1024, .f32⟩
  | .hbm, ⟨33, _⟩ => ⟨S2x4096x1024, .f32⟩
  | .hbm, ⟨34, _⟩ => ⟨S2x4096x1024, .f32⟩
  | .hbm, ⟨35, _⟩ => ⟨S2x4096x5632, .f32⟩
  | .hbm, ⟨36, _⟩ => ⟨S2x4096x2816, .f32⟩
  | .hbm, ⟨37, _⟩ => ⟨S2x4096x2816, .f32⟩
  | .hbm, ⟨38, _⟩ => ⟨S2x4096x2816, .f32⟩
  | .hbm, ⟨39, _⟩ => ⟨S2x4096x2816, .f32⟩
  | .hbm, ⟨40, _⟩ => ⟨S_, .f32⟩
  | .hbm, ⟨41, _⟩ => ⟨S2x4096x2816, .f32⟩
  | .hbm, ⟨42, _⟩ => ⟨S2x4096x2816, .f32⟩
  | .hbm, ⟨43, _⟩ => ⟨S_, .f32⟩
  | .hbm, ⟨44, _⟩ => ⟨S2x4096x2816, .f32⟩
  | .hbm, ⟨45, _⟩ => ⟨S2x4096x2816, .f32⟩
  | .hbm, ⟨46, _⟩ => ⟨S2x4096x2816, .f32⟩
  | .hbm, ⟨47, _⟩ => ⟨S2x4096x2816, .f32⟩
  | .hbm, ⟨48, _⟩ => ⟨S8192x2816, .f32⟩
  | .hbm, ⟨49, _⟩ => ⟨S8192x2816, .bf16⟩
  | .hbm, ⟨50, _⟩ => ⟨S8192x2816, .f32⟩
  | .hbm, ⟨51, _⟩ => ⟨S8192x2816, .bf16⟩
  | .hbm, ⟨52, _⟩ => ⟨S8192x2816, .f32⟩
  | .hbm, ⟨53, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Kernel16.lean ====
abbrev S8192x2816 : Shape := ⟨2, ![8192, 2816]⟩
abbrev S2816x1024 : Shape := ⟨2, ![2816, 1024]⟩
abbrev S8192x1024 : Shape := ⟨2, ![8192, 1024]⟩
abbrev S2x6x1024 : Shape := ⟨3, ![2, 6, 1024]⟩
abbrev S_ : Shape := ⟨0, ![]⟩
abbrev S2x8x1024 : Shape := ⟨3, ![2, 8, 1024]⟩
abbrev S512x2816 : Shape := ⟨2, ![512, 2816]⟩
abbrev S512x1024 : Shape := ⟨2, ![512, 1024]⟩
abbrev S1x8x1024 : Shape := ⟨3, ![1, 8, 1024]⟩
abbrev S1x1x1024 : Shape := ⟨3, ![1, 1, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S2x6x1024, .f32⟩
  | .hbm, ⟨4, _⟩ => ⟨S_, .i32⟩
  | .hbm, ⟨5, _⟩ => ⟨S_, .f32⟩
  | .hbm, ⟨6, _⟩ => ⟨S2x8x1024, .f32⟩
  | .hbm, ⟨7, _⟩ => ⟨S8192x1024, .f32⟩
  | .hbm, ⟨8, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x8x1024, .f32⟩
  | .local _ .vmem, ⟨6, _⟩ => ⟨S1x8x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference16Ideal.lean ====
abbrev S8192x2816 : Shape := ⟨2, ![8192, 2816]⟩
abbrev S2816x1024 : Shape := ⟨2, ![2816, 1024]⟩
abbrev S8192x1024 : Shape := ⟨2, ![8192, 1024]⟩
abbrev S2x6x1024 : Shape := ⟨3, ![2, 6, 1024]⟩
abbrev S2x4096x2816 : Shape := ⟨3, ![2, 4096, 2816]⟩
abbrev S2x4096x1024 : Shape := ⟨3, ![2, 4096, 1024]⟩
abbrev S2x1x1024 : Shape := ⟨3, ![2, 1, 1024]⟩
abbrev S2x1024 : Shape := ⟨2, ![2, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S2x6x1024, .f32⟩
  | .hbm, ⟨4, _⟩ => ⟨S8192x2816, .f32⟩
  | .hbm, ⟨5, _⟩ => ⟨S2x4096x2816, .f32⟩
  | .hbm, ⟨6, _⟩ => ⟨S2816x1024, .f32⟩
  | .hbm, ⟨7, _⟩ => ⟨S2x4096x1024, .f32⟩
  | .hbm, ⟨8, _⟩ => ⟨S2x4096x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S2x6x1024 : Shape := ⟨3, ![2, 6, 1024]⟩
abbrev S_ : Shape := ⟨0, ![]⟩
abbrev S2x8x1024 : Shape := ⟨3, ![2, 8, 1024]⟩
abbrev S1x8x1024 : Shape := ⟨3, ![1, 8, 1024]⟩
abbrev S1x1x1024 : Shape := ⟨3, ![1, 1, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S2x6x1024, .f32⟩
  | .hbm, ⟨4, _⟩ => ⟨S_, .i32⟩
  | .hbm, ⟨5, _⟩ => ⟨S_, .f32⟩
  | .hbm, ⟨6, _⟩ => ⟨S2x8x1024, .f32⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x8x1024, .f32⟩
  | .local _ .vmem, ⟨6, _⟩ => ⟨S1x8x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference17Ideal.lean ====
abbrev S8192x1024 : Shape := ⟨2, ![8192, 1024]⟩
abbrev S1024x1024 : Shape := ⟨2, ![1024, 1024]⟩
abbrev S2x6x1024 : Shape := ⟨3, ![2, 6, 1024]⟩
abbrev S2x4096x1024 : Shape := ⟨3, ![2, 4096, 1024]⟩
abbrev S2x1x1024 : Shape := ⟨3, ![2, 1, 1024]⟩
abbrev S2x1024 : Shape := ⟨2, ![2, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S2x6x1024, .f32⟩
  | .hbm, ⟨4, _⟩ => ⟨S8192x1024, .f32⟩
  | .hbm, ⟨5, _⟩ => ⟨S2x4096x1024, .f32⟩
  | .hbm, ⟨6, _⟩ => ⟨S1024x1024, .f32⟩
  | .hbm, ⟨7, _⟩ => ⟨S2x4096x1024, .f32⟩
  | .hbm, ⟨8, _⟩ => ⟨S2x4096x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel18.lean ====
abbrev S8192x1536 : Shape := ⟨2, ![8192, 1536]⟩
abbrev S8192x6144 : Shape := ⟨2, ![8192, 6144]⟩
abbrev S512x1024 : Shape := ⟨2, ![512, 1024]⟩
abbrev S8192x1024 : Shape := ⟨2, ![8192, 1024]⟩
abbrev S512x1536 : Shape := ⟨2, ![512, 1536]⟩
abbrev S512x3072 : Shape := ⟨2, ![512, 3072]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x1536, .bf16⟩
  | .hbm, ⟨1, _⟩ => ⟨S8192x6144, .bf16⟩
  | .hbm, ⟨2, _⟩ => ⟨S512x1024, .bf16⟩
  | .hbm, ⟨3, _⟩ => ⟨S512x1024, .bf16⟩
  | .hbm, ⟨4, _⟩ => ⟨S512x1024, .bf16⟩
  | .hbm, ⟨5, _⟩ => ⟨S8192x1024, .bf16⟩
  | .local _ .vmem, ⟨0, _⟩ => ⟨S512x1536, .bf16⟩
  | .local _ .vmem, ⟨1, _⟩ => ⟨S512x1536, .bf16⟩
  | .local _ .vmem, ⟨2, _⟩ => ⟨S512x3072, .bf16⟩
  | .local _ .vmem, ⟨3, _⟩ => ⟨S512x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S8192x1536 : Shape := ⟨2, ![8192, 1536]⟩
abbrev S8192x6144 : Shape := ⟨2, ![8192, 6144]⟩
abbrev S512x1024 : Shape := ⟨2, ![512, 1024]⟩
abbrev S2x4096x1536 : Shape := ⟨3, ![2, 4096, 1536]⟩
abbrev S2x4096x512 : Shape := ⟨3, ![2, 4096, 512]⟩
abbrev S2x4096x1024 : Shape := ⟨3, ![2, 4096, 1024]⟩
abbrev S8192x3072 : Shape := ⟨2, ![8192, 3072]⟩
abbrev S_ : Shape := ⟨0, ![]⟩
abbrev S2x4096x3x1024 : Shape := ⟨4, ![2, 4096, 3, 1024]⟩
abbrev S2x4096x1x1024 : Shape := ⟨4, ![2, 4096, 1, 1024]⟩
abbrev S8192x1024 : Shape := ⟨2, ![8192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x6144, .bf16⟩
  | .hbm, ⟨2, _⟩ => ⟨S512x1024, .bf16⟩
  | .hbm, ⟨3, _⟩ => ⟨S512x1024, .bf16⟩
  | .hbm, ⟨4, _⟩ => ⟨S512x1024, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S8192x1536, .f32⟩
  | .hbm, ⟨9, _⟩ => ⟨S8192x6144, .f32⟩
  | .hbm, ⟨10, _⟩ => ⟨S2x4096x1536, .f32⟩
  | .hbm, ⟨11, _⟩ => ⟨S2x4096x512, .f32⟩
  | .hbm, ⟨12, _⟩ => ⟨S2x4096x1024, .f32⟩
  | .hbm, ⟨13, _⟩ => ⟨S2x4096x512, .f32⟩
  | .hbm, ⟨14, _⟩ => ⟨S2x4096x1024, .f32⟩
  | .hbm, ⟨15, _⟩ => ⟨S2x4096x512, .f32⟩
  | .hbm, ⟨16, _⟩ => ⟨S2x4096x1024, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S_, .f32⟩
  | .hbm, ⟨24, _⟩ => ⟨S8192x3072, .f32⟩
  | .hbm, ⟨25, _⟩ => ⟨S8192x3072, .f32⟩
  | .hbm, ⟨26, _⟩ => ⟨S2x4096x3x1024, .f32⟩
  | .hbm, ⟨27, _⟩ => ⟨S2x4096x1x1024, .f32⟩
  | .hbm, ⟨28, _⟩ => ⟨S2x4096x1024, .f32⟩
  | .hbm, ⟨29, _⟩ => ⟨S2x4096x1024, .f32⟩
  | .hbm, ⟨30, _⟩ => ⟨S2x4096x1x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S8192x1024, .f32⟩
  | .hbm, ⟨39, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Proof.Rd.lean ====
/- Reading an array of extended reals as a function of natural-number coordinates.

   `Rd x f` says that the array `x` holds, at every index, the embedding of `f` at the index's coordinates. The values of
   `f` are reals where the computation subtracts or divides, and extended reals where it only adds and multiplies: `Emb` is
   the embedding of either. Each operation of the two programs has one lemma here that turns the readings of its operands
   into a reading of its result. -/
module

public import Idealize.ShloMosaic.Lib.MatmulPlain
public import Idealize.ShloMosaic.Lib.KernelVsHost
public import Idealize.ShloMosaic.Lib.ValueLayoutCasts
public import Idealize.ShloMosaic.Lib.Pointwise.Reduce

@[expose] public section

set_option maxRecDepth 16384

noncomputable section

namespace Cert.Rd

open Idealize.ShloMosaic

/-- A semiring-like type of values inside the extended reals. -/
class Emb (α : Type) [AddCommMonoid α] [Mul α] where
  up : α → EReal
  up_zero : up 0 = 0
  up_add : ∀ a b, up (a + b) = up a + up b
  up_mul : ∀ a b, up (a * b) = up a * up b

instance : Emb ℝ := ⟨fun r => (r : EReal), EReal.coe_zero, EReal.coe_add, EReal.coe_mul⟩
instance : Emb EReal := ⟨fun r => r, rfl, fun _ _ => rfl, fun _ _ => rfl⟩

theorem up_real (r : ℝ) : Emb.up r = (r : EReal) := rfl
theorem up_ereal (r : EReal) : Emb.up r = r := rfl

/-- The coordinates of an index. -/
abbrev at' {s : Shape} (i : s.Idx) : Fin s.rank → ℕ := fun a => (i a).val

variable {α : Type} [AddCommMonoid α] [Mul α] [Emb α]

theorem up_sum {ι : Type} (S : Finset ι) (f : ι → α) : Emb.up (∑ k ∈ S, f k) = ∑ k ∈ S, Emb.up (f k) := by
  classical
  induction S using Finset.induction_on with
  | empty => simpa using Emb.up_zero
  | insert a S ha ih => rw [Finset.sum_insert ha, Finset.sum_insert ha, Emb.up_add, ih]

theorem up_sum_fin (K : ℕ) (f : ℕ → α) (x : Fin K → EReal) (h : ∀ k : Fin K, x k = Emb.up (f k.val)) :
    ∑ k : Fin K, x k = Emb.up (∑ k ∈ Finset.range K, f k) := by
  rw [up_sum, ← Fin.sum_univ_eq_sum_range (fun k => Emb.up (f k)) K]
  exact Finset.sum_congr rfl fun k _ => h k

/-- The array `x` holds `f` of the coordinates. -/
def Rd {s : Shape} (x : s.Idx → EReal) (f : (Fin s.rank → ℕ) → α) : Prop :=
  ∀ i : s.Idx, x i = Emb.up (f (at' i))

section Any
variable {s : Shape} {φ ψ : FTy} {x y : FVec Ideal s φ} {f g : (Fin s.rank → ℕ) → α}

theorem Rd.congr {x : s.Idx → EReal} (h : Rd x f) (e : ∀ c : Fin s.rank → ℕ, (∀ a, c a < s.size a) → f c = g c) : Rd x g := fun i => by
  rw [h i, e _ fun a => (i a).isLt]

theorem Rd.ext {x y : s.Idx → EReal} (h : Rd x f) (h' : Rd y f) : x = y := funext fun i => by rw [h i, h' i]

theorem Rd.of_eq {x y : s.Idx → EReal} (h : Rd x f) (e : y = x) : Rd y f := e ▸ h

/-- A layout operation read through its index map. -/
theorem Rd.of_apply {t : Shape} {x : s.Idx → EReal} {y : t.Idx → EReal} {g : (Fin t.rank → ℕ) → α} (h : Rd x f)
    {idx : t.Idx → s.Idx} (e : ∀ i, y i = x (idx i)) (hf : ∀ i, f (at' (idx i)) = g (at' i)) : Rd y g := fun i => by
  rw [e i, h (idx i), hf i]

theorem Rd.addf (hx : Rd x f) (hy : Rd y g) : Rd (addf x y) fun c => f c + g c := fun i => by
  show x i + y i = _; rw [hx i, hy i, Emb.up_add]
theorem Rd.mulf (hx : Rd x f) (hy : Rd y g) : Rd (mulf x y) fun c => f c * g c := fun i => by
  show x i * y i = _; rw [hx i, hy i, Emb.up_mul]
theorem Rd.extf (hx : Rd x f) (h : φ.bits < ψ.bits) : Rd (extf ψ x h) f := hx
theorem Rd.truncf (hx : Rd x f) (h : ψ.bits < φ.bits) : Rd (truncf ψ x h) f := hx

theorem Rd.splat {v : EReal} {r : α} (h : v = Emb.up r) : Rd (broadcast s v) fun _ => r := fun _ => h
theorem Rd.const {b : BitVec φ.bits} {r : α} (h : Ideal.ofBits φ b = Emb.up r) : Rd (constant (F := Ideal) s φ b) fun _ => r :=
  fun _ => h

theorem Rd.select {m : IVec s 1} {P : (Fin s.rank → ℕ) → Prop} [DecidablePred P] (hm : ∀ i, m i = 1 ↔ P (at' i))
    {x y : s.Idx → EReal} (hx : Rd x f) (hy : Rd y g) : Rd (select m x y) fun c => if P c then f c else g c := fun i => by
  show (if m i = 1 then x i else y i) = _
  by_cases h : P (at' i)
  · rw [if_pos ((hm i).2 h), hx i]; exact congrArg Emb.up (if_pos h).symm
  · rw [if_neg fun h' => h ((hm i).1 h'), hy i]; exact congrArg Emb.up (if_neg h).symm

/-- A reading by extended reals that are the values `g` is. -/
theorem Rd.real {x : s.Idx → EReal} {f : (Fin s.rank → ℕ) → EReal} (h : Rd x f) {g : (Fin s.rank → ℕ) → α}
    (e : ∀ c : Fin s.rank → ℕ, (∀ a, c a < s.size a) → f c = Emb.up (g c)) : Rd x g := fun i => by
  rw [h i]; exact e _ fun a => (i a).isLt

end Any

section Real
variable {s : Shape} {φ ψ : FTy} {x y : FVec Ideal s φ} {f g : (Fin s.rank → ℕ) → ℝ}

theorem Rd.subf (hx : Rd x f) (hy : Rd y g) : Rd (subf x y) fun c => f c - g c := fun i => by
  show x i - y i = _; rw [hx i, hy i]; exact (EReal.coe_sub _ _).symm
theorem Rd.divf' (hx : Rd x f) (hy : Rd y g) (h0 : ∀ c : Fin s.rank → ℕ, (∀ a, c a < s.size a) → g c ≠ 0) (i : s.Idx) :
    Ideal.div (x i) (y i) = Emb.up (f (at' i) / g (at' i)) := by
  rw [hx i, hy i, up_real, up_real, Ideal.div_coe (h0 _ fun a => (i a).isLt), up_real, ← EReal.coe_mul, mul_one_div]
theorem Rd.divf (hx : Rd x f) (hy : Rd y g) (h0 : ∀ c : Fin s.rank → ℕ, (∀ a, c a < s.size a) → g c ≠ 0) :
    Rd (divf x y) fun c => f c / g c := Rd.divf' hx hy h0
theorem Rd.hdivf (hx : Rd x f) (hy : Rd y g) (h0 : ∀ c : Fin s.rank → ℕ, (∀ a, c a < s.size a) → g c ≠ 0) :
    Rd (Host.divf x y) fun c => f c / g c := Rd.divf' hx hy h0
theorem Rd.tanh (hx : Rd x f) : Rd (tanh x) fun c => Real.tanh (f c) := fun i => by
  show Ideal.tanh (x i) = _; rw [hx i]; rfl
theorem Rd.htanh (hx : Rd x f) : Rd (Host.tanh x) fun c => Real.tanh (f c) := fun i => by
  show Ideal.tanh (x i) = _; rw [hx i]; rfl
theorem Rd.hnegf (hx : Rd x f) : Rd (Host.negf x) fun c => -f c := fun i => by
  show -(x i) = _; rw [hx i]; exact (EReal.coe_neg _).symm
theorem Rd.rsqrt' (hx : Rd x f) (h0 : ∀ c : Fin s.rank → ℕ, (∀ a, c a < s.size a) → 0 < f c) (i : s.Idx) :
    Ideal.rsqrt (x i) = Emb.up (Real.sqrt (f (at' i)))⁻¹ := by
  have h := h0 (at' i) fun a => (i a).isLt
  rw [hx i, up_real, Ideal.rsqrt_coe, if_neg (not_lt.2 h.le), if_neg h.ne']; rfl
theorem Rd.rsqrt (hx : Rd x f) (h0 : ∀ c : Fin s.rank → ℕ, (∀ a, c a < s.size a) → 0 < f c) :
    Rd (rsqrt x) fun c => (Real.sqrt (f c))⁻¹ := Rd.rsqrt' hx h0
theorem Rd.hrsqrt (hx : Rd x f) (h0 : ∀ c : Fin s.rank → ℕ, (∀ a, c a < s.size a) → 0 < f c) :
    Rd (Host.rsqrt x) fun c => (Real.sqrt (f c))⁻¹ := Rd.rsqrt' hx h0
theorem Rd.minimumf (hx : Rd x f) (hy : Rd y g) : Rd (minimumf x y) fun c => min (f c) (g c) := fun i => by
  show min (x i) (y i) = _; rw [hx i, hy i]; exact (EReal.coe_strictMono.monotone.map_min).symm

end Real

section Layout
variable {n : ℕ} {d e : Fin n → ℕ} {f : (Fin n → ℕ) → α}

theorem Rd.slice {x : (⟨n, d⟩ : Shape).Idx → EReal} (hx : Rd x f) (off : Fin n → ℕ) (h : (⟨n, d⟩ : Shape).Slices off ⟨n, e⟩) :
    Rd (extractStridedSlice ⟨n, e⟩ off x h) fun c => f fun a => off a + c a := fun i => by
  let k : (⟨n, d⟩ : Shape).Idx := fun a => ⟨off a + (i a).val, by
    have h2 := h.2 a; have := (i a).isLt; simp only [Fin.cast_eq_self] at h2; show _ < d a; exact lt_of_lt_of_le (Nat.add_lt_add_left this _) h2⟩
  rw [extractStridedSlice_apply off x h i k fun a => rfl, hx k]

theorem Rd.roll {x : (⟨n, d⟩ : Shape).Idx → EReal} (hx : Rd x f) (a : Fin n) (sb : BitVec 32) (h : (⟨n, d⟩ : Shape).Rotates a none) :
    Rd (dynamicRotate a sb none x h) fun c => f fun b => if b = a then (c b + d b - sb.toNat % d b) % d b else c b := fun i => by
  let k : (⟨n, d⟩ : Shape).Idx := fun b => ⟨if b = a then ((i b).val + d b - sb.toNat % d b) % d b else (i b).val, by
    have := (i b).isLt
    have h0 : 0 < d b := lt_of_le_of_lt (Nat.zero_le _) this
    split
    · exact Nat.mod_lt _ h0
    · exact this⟩
  rw [dynamicRotate_apply a sb x h i k fun b => rfl, hx k]

/-- Two pieces along an axis: the second reads the target behind the first. -/
theorem Rd.cat2 {d₁ d₂ : Fin n → ℕ} {a : Fin n} {x₁ : (⟨n, d₁⟩ : Shape).Idx → EReal} {x₂ : (⟨n, d₂⟩ : Shape).Idx → EReal}
    (h : Shape.Concatenates [⟨n, d₁⟩, ⟨n, d₂⟩] ⟨n, e⟩ a) (p : ℕ) (hp : d₁ a = p)
    (h₁ : Rd x₁ f) (h₂ : Rd x₂ fun c => f fun b => if b = a then p + c b else c b) :
    Rd (concatenate ⟨n, e⟩ a [⟨⟨n, d₁⟩, x₁⟩, ⟨⟨n, d₂⟩, x₂⟩] h) f := fun i => by
  subst hp
  have hz₁ := (h.2.1 ⟨n, d₁⟩ (by simp)).2
  have hz₂ := (h.2.1 ⟨n, d₂⟩ (by simp)).2
  have hs := h.2.2
  simp at hs hz₁ hz₂
  by_cases hlt : (i a).val < d₁ a
  · let k : (⟨n, d₁⟩ : Shape).Idx := fun b => ⟨(i b).val, by
      by_cases hb : b = a
      · rw [hb]; exact hlt
      · have := hz₁ b hb; show _ < d₁ b; rw [this]; exact (i b).isLt⟩
    rw [concatenate_pair_apply_left a x₁ x₂ h i rfl k fun b => rfl, h₁ k]
  · have hia := (i a).isLt
    let k : (⟨n, d₂⟩ : Shape).Idx := fun b => ⟨if b = a then (i b).val - d₁ a else (i b).val, by
      by_cases hb : b = a
      · subst hb; rw [if_pos rfl]; show _ < d₂ b; change (i b).val < e b at hia; omega
      · rw [if_neg hb]; have := hz₂ b hb; show _ < d₂ b; rw [this]; exact (i b).isLt⟩
    rw [concatenate_pair_apply_right a x₁ x₂ h i rfl rfl k
      (fun b hb => by have hb' : b ≠ a := hb; show (if b = a then _ else _) = _; rw [if_neg hb']; rfl)
      (by show (if a = a then (i a).val - d₁ a else _) + d₁ a = (i a).val; rw [if_pos rfl]; omega), h₂ k]
    refine congrArg (fun c => Emb.up (f c)) (funext fun b => ?_)
    by_cases hb : b = a
    · subst hb
      show (if b = b then d₁ b + (if b = b then (i b).val - d₁ b else (i b).val) else _) = (i b).val
      rw [if_pos rfl, if_pos rfl]; omega
    · show (if b = a then _ else if b = a then _ else (i b).val) = (i b).val
      rw [if_neg hb, if_neg hb]

/-- Four pieces along an axis. -/
theorem Rd.cat4 {d₁ d₂ d₃ d₄ : Fin n → ℕ} {a : Fin n} {x₁ : (⟨n, d₁⟩ : Shape).Idx → EReal} {x₂ : (⟨n, d₂⟩ : Shape).Idx → EReal}
    {x₃ : (⟨n, d₃⟩ : Shape).Idx → EReal} {x₄ : (⟨n, d₄⟩ : Shape).Idx → EReal}
    (h : Shape.Concatenates [⟨n, d₁⟩, ⟨n, d₂⟩, ⟨n, d₃⟩, ⟨n, d₄⟩] ⟨n, e⟩ a) (p q r : ℕ) (hp : d₁ a = p) (hq : p + d₂ a = q) (hr : q + d₃ a = r)
    (h₁ : Rd x₁ f) (h₂ : Rd x₂ fun c => f fun b => if b = a then p + c b else c b)
    (h₃ : Rd x₃ fun c => f fun b => if b = a then q + c b else c b) (h₄ : Rd x₄ fun c => f fun b => if b = a then r + c b else c b) :
    Rd (concatenate ⟨n, e⟩ a [⟨⟨n, d₁⟩, x₁⟩, ⟨⟨n, d₂⟩, x₂⟩, ⟨⟨n, d₃⟩, x₃⟩, ⟨⟨n, d₄⟩, x₄⟩] h) f := by
  subst hp hq hr
  have hz₁ : ∀ b, b ≠ a → d₁ b = e b := (h.2.1 ⟨n, d₁⟩ (by simp)).2
  have hz₂ : ∀ b, b ≠ a → d₂ b = e b := (h.2.1 ⟨n, d₂⟩ (by simp)).2
  have hz₃ : ∀ b, b ≠ a → d₃ b = e b := (h.2.1 ⟨n, d₃⟩ (by simp)).2
  have hz₄ : ∀ b, b ≠ a → d₄ b = e b := (h.2.1 ⟨n, d₄⟩ (by simp)).2
  have hs : d₁ a + (d₂ a + (d₃ a + d₄ a)) = e a := by have := h.2.2; simpa using this
  have key : ∀ (k : ℕ) (dk : Fin n → ℕ) (xk : (⟨n, dk⟩ : Shape).Idx → EReal) (pre : ℕ) (i : (⟨n, e⟩ : Shape).Idx)
      (hz : ∀ b, b ≠ a → dk b = e b) (hk : k < 4)
      (hx : [(⟨⟨n, d₁⟩, x₁⟩ : (s : Shape) × (s.Idx → EReal)), ⟨⟨n, d₂⟩, x₂⟩, ⟨⟨n, d₃⟩, x₃⟩, ⟨⟨n, d₄⟩, x₄⟩][k] = ⟨⟨n, dk⟩, xk⟩)
      (hpre : ((([(⟨⟨n, d₁⟩, x₁⟩ : (s : Shape) × (s.Idx → EReal)), ⟨⟨n, d₂⟩, x₂⟩, ⟨⟨n, d₃⟩, x₃⟩, ⟨⟨n, d₄⟩, x₄⟩].take k).map (·.1)).map
        fun s => if h : s.rank = n then s.size (a.cast h.symm) else 0).sum = pre)
      (hlo : pre ≤ (i a).val) (hhi : (i a).val < pre + dk a)
      (hr : Rd xk fun c => f fun b => if b = a then pre + c b else c b),
      concatenate ⟨n, e⟩ a [⟨⟨n, d₁⟩, x₁⟩, ⟨⟨n, d₂⟩, x₂⟩, ⟨⟨n, d₃⟩, x₃⟩, ⟨⟨n, d₄⟩, x₄⟩] h i = Emb.up (f (at' i)) := by
    intro k dk xk pre i hz hk hx hpre hlo hhi hr
    let j : (⟨n, dk⟩ : Shape).Idx := fun b => ⟨if b = a then (i b).val - pre else (i b).val, by
      by_cases hb : b = a
      · subst hb; rw [if_pos rfl]; show _ < dk b; omega
      · rw [if_neg hb]; have := hz b hb; show _ < dk b; rw [this]; exact (i b).isLt⟩
    rw [concatenate_apply_piece (t := ⟨n, e⟩) a [⟨⟨n, d₁⟩, x₁⟩, ⟨⟨n, d₂⟩, x₂⟩, ⟨⟨n, d₃⟩, x₃⟩, ⟨⟨n, d₄⟩, x₄⟩] h i k hk ⟨n, dk⟩ xk hx rfl pre hpre j
      (fun b hb => by have hb' : b ≠ a := hb; show (if b = a then _ else _) = _; rw [if_neg hb']; rfl)
      (by show pre + (if a = a then (i a).val - pre else _) = (i a).val; rw [if_pos rfl]; omega), hr j]
    refine congrArg (fun c => Emb.up (f c)) (funext fun b => ?_)
    by_cases hb : b = a
    · subst hb
      show (if b = b then pre + (if b = b then (i b).val - pre else (i b).val) else _) = (i b).val
      rw [if_pos rfl, if_pos rfl]; omega
    · show (if b = a then _ else if b = a then _ else (i b).val) = (i b).val
      rw [if_neg hb, if_neg hb]
  intro i
  have hia : (i a).val < e a := (i a).isLt
  by_cases c1 : (i a).val < d₁ a
  · refine key 0 d₁ x₁ 0 i hz₁ (by omega) rfl (by simp) (Nat.zero_le _) (by omega) (h₁.congr fun c _ => congrArg f (funext fun b => ?_))
    by_cases hb : b = a
    · rw [if_pos hb, Nat.zero_add]
    · rw [if_neg hb]
  by_cases c2 : (i a).val < d₁ a + d₂ a
  · exact key 1 d₂ x₂ _ i hz₂ (by omega) rfl (by simp) (by omega) (by omega) h₂
  by_cases c3 : (i a).val < d₁ a + d₂ a + d₃ a
  · exact key 2 d₃ x₃ _ i hz₃ (by omega) rfl (by simp) (by omega) (by omega) h₃
  · exact key 3 d₄ x₄ _ i hz₄ (by omega) rfl (by simp [Nat.add_assoc]) (by omega) (by omega) h₄

end Layout

section Ranks
variable {m n k : ℕ}

theorem Rd.bcastTo {r : ℕ} {d e : Fin r → ℕ} {f : (Fin r → ℕ) → α} {x : (⟨r, d⟩ : Shape).Idx → EReal} (hx : Rd x f)
    (h : (⟨r, d⟩ : Shape).Broadcasts ⟨r, e⟩) :
    Rd (broadcastTo ⟨r, e⟩ x h) fun c => f fun a => if d a = 1 then 0 else c a := fun i => by
  have hlt : ∀ a : Fin r, (if d a = 1 then 0 else (i a).val) < d a := fun a => by
    have h2 := h.2 a
    have hi := (i a).isLt
    split
    · omega
    · rename_i hd
      rcases h2 with h2 | h2
      · exact absurd h2 hd
      · have h3 : d a = e a := by simpa using h2
        rw [h3]; exact hi
  rw [broadcastTo_apply x h i (fun a => ⟨_, hlt a⟩) fun a => ?_, hx _]
  show (if d a = 1 then 0 else (i a).val) = if d a = 1 then 0 else _
  split
  · rfl
  · exact congrArg (fun b : Fin r => (i b).val) (Fin.ext (by simp))

theorem Rd.castSelf {s : Shape} {f : (Fin s.rank → ℕ) → α} {x : s.Idx → EReal} (hx : Rd x f) (h : s.ShapeCasts s) :
    Rd (shapeCast s x h) f := fun i => by
  rw [shapeCast_apply x h i i rfl, hx i]

theorem Rd.castDrop {f : (Fin 3 → ℕ) → α} {x : (⟨3, ![1, m, n]⟩ : Shape).Idx → EReal} (hx : Rd x f)
    (h : (⟨3, ![1, m, n]⟩ : Shape).ShapeCasts ⟨2, ![m, n]⟩) :
    Rd (shapeCast ⟨2, ![m, n]⟩ x h) fun c => f ![0, c 0, c 1] := fun i => by
  rw [shapeCast_apply x h i (ix3 0 (i 0) (i 1)) (by rw [Shape.rowMajor_val_three, Shape.rowMajor_val_two]; simp), hx _]
  exact congrArg (fun c => Emb.up (f c)) (funext fun a => by fin_cases a <;> rfl)

theorem Rd.castAdd {f : (Fin 2 → ℕ) → α} {x : (⟨2, ![m, n]⟩ : Shape).Idx → EReal} (hx : Rd x f)
    (h : (⟨2, ![m, n]⟩ : Shape).ShapeCasts ⟨3, ![1, m, n]⟩) :
    Rd (shapeCast ⟨3, ![1, m, n]⟩ x h) fun c => f ![c 1, c 2] := fun i => by
  have h0 : (i 0).val = 0 := by have := (i 0).isLt; simp at this; omega
  rw [shapeCast_apply x h i (ix2 (i 1) (i 2)) (by rw [Shape.rowMajor_val_three, Shape.rowMajor_val_two]; simp [h0]), hx _]
  exact congrArg (fun c => Emb.up (f c)) (funext fun a => by fin_cases a <;> rfl)

theorem Rd.castCol {f : (Fin 1 → ℕ) → α} {x : (⟨1, ![m]⟩ : Shape).Idx → EReal} (hx : Rd x f)
    (h : (⟨1, ![m]⟩ : Shape).ShapeCasts ⟨2, ![m, 1]⟩) :
    Rd (shapeCast ⟨2, ![m, 1]⟩ x h) fun c => f ![c 0] := fun i => by
  have h0 : (i 1).val = 0 := by have := (i 1).isLt; simp at this; omega
  rw [shapeCast_apply x h i (ix1 (i 0)) (by rw [Shape.rowMajor_val_one, Shape.rowMajor_val_two]; simp [h0]), hx _]
  exact congrArg (fun c => Emb.up (f c)) (funext fun a => by fin_cases a; rfl)

theorem Rd.castRow {f : (Fin 1 → ℕ) → α} {x : (⟨1, ![n]⟩ : Shape).Idx → EReal} (hx : Rd x f)
    (h : (⟨1, ![n]⟩ : Shape).ShapeCasts ⟨2, ![1, n]⟩) :
    Rd (shapeCast ⟨2, ![1, n]⟩ x h) fun c => f ![c 1] := fun i => by
  have h0 : (i 0).val = 0 := by have := (i 0).isLt; simp at this; omega
  rw [shapeCast_apply x h i (ix1 (i 1)) (by rw [Shape.rowMajor_val_one, Shape.rowMajor_val_two]; simp [h0]), hx _]
  exact congrArg (fun c => Emb.up (f c)) (funext fun a => by fin_cases a; rfl)

theorem Rd.red0 {f : (Fin 2 → ℕ) → α} {x : FVec Ideal ⟨2, ![m, n]⟩ .f32} (hx : Rd x f) (acc : BitVec FTy.f32.bits)
    (h : (⟨2, ![m, n]⟩ : Shape).Reduces [0] ⟨1, ![n]⟩) (hφ : FKind.Formats .f32) (hacc : acc = FKind.add.neutral .f32 hφ) :
    Rd (multiReduction .add [0] ⟨1, ![n]⟩ x acc h hφ hacc) fun c => ∑ k ∈ Finset.range m, f ![k, c 0] := fun j => by
  rw [Ideal.multiReduction_add_single]
  refine up_sum_fin m (fun k => f ![k, (j 0).val]) _ fun k => ?_
  rw [hx _]
  exact congrArg (fun c => Emb.up (f c)) (funext fun a => by fin_cases a <;> rfl)

theorem Rd.red1 {f : (Fin 2 → ℕ) → α} {x : FVec Ideal ⟨2, ![m, n]⟩ .f32} (hx : Rd x f) (acc : BitVec FTy.f32.bits)
    (h : (⟨2, ![m, n]⟩ : Shape).Reduces [1] ⟨1, ![m]⟩) (hφ : FKind.Formats .f32) (hacc : acc = FKind.add.neutral .f32 hφ) :
    Rd (multiReduction .add [1] ⟨1, ![m]⟩ x acc h hφ hacc) fun c => ∑ k ∈ Finset.range n, f ![c 0, k] := fun j => by
  rw [Ideal.multiReduction_add_single]
  refine up_sum_fin n (fun k => f ![(j 0).val, k]) _ fun k => ?_
  rw [hx _]
  exact congrArg (fun c => Emb.up (f c)) (funext fun a => by fin_cases a <;> rfl)

end Ranks

section Contract
variable {sl sr so : Shape} {φl φr : FTy}

/-- A product that contracts one axis. -/
theorem Rd.dot (D : DotDims sl sr so) (prec : Option ContractPrecision) (K : ℕ)
    (L : (Fin so.rank → ℕ) → ℕ → (Fin sl.rank → ℕ)) (R : (Fin so.rank → ℕ) → ℕ → (Fin sr.rank → ℕ))
    {l : FVec Ideal sl φl} {r : FVec Ideal sr φr} {acc : FVec Ideal so .f32}
    {f : (Fin sl.rank → ℕ) → α} {g : (Fin sr.rank → ℕ) → α} {z : (Fin so.rank → ℕ) → α}
    (hl : Rd l f) (hrr : Rd r g) (ha : Rd acc z) (hr : D.contr.rank = 1 := by rfl) (hs : D.contr.size ⟨0, by omega⟩ = K := by rfl)
    (hL : ∀ j k, at' (D.lhsIdx j k) = L (at' j) (k ⟨0, by omega⟩).val := by exact fun j k => funext fun a => by fin_cases a <;> rfl)
    (hR : ∀ j k, at' (D.rhsIdx j k) = R (at' j) (k ⟨0, by omega⟩).val := by exact fun j k => funext fun a => by fin_cases a <;> rfl) :
    Rd (matmul D prec l r acc) fun c => z c + ∑ k ∈ Finset.range K, f (L c k) * g (R c k) := fun j => by
  show Ideal.matmul D l r acc j = _
  rw [show Ideal.matmul D l r acc j = acc j + ∑ k : D.contr.Idx, l (D.lhsIdx j k) * r (D.rhsIdx j k) from rfl,
    ← Equiv.sum_comp (ValueIdx.contrEquiv1 D K hr hs).symm, ha j, Emb.up_add,
    up_sum_fin K (fun k => f (L (at' j) k) * g (R (at' j) k)) _ fun k => ?_]
  rw [hl _, hrr _, hL, hR, ValueIdx.contrEquiv1_symm_val, Emb.up_mul]

end Contract

end Cert.Rd

end
-- ==== Proof.HostRd.lean ====
/- Reading the host's sums, products, paddings and running sums. -/
module

public import proofs.«01_k».proof.Proof.Rd
public import Idealize.ShloMosaic.Lib.IdealHost

@[expose] public section

set_option maxRecDepth 16384

noncomputable section

namespace Cert.Rd

open Idealize.ShloMosaic

variable {α : Type} [AddCommMonoid α] [Mul α] [Emb α]

section Sums
variable {s t : Shape}

/-- A sum over one reduced axis, from its unfolding. -/
theorem Rd.of_sum {x : s.Idx → EReal} {y : t.Idx → EReal} {f : (Fin s.rank → ℕ) → α} {K : ℕ} (hx : Rd x f) {z : EReal} (hz : z = Emb.up (0 : α))
    {idx : t.Idx → Fin K → s.Idx} (e : ∀ i, y i = z + ∑ k : Fin K, x (idx i k)) (g : (Fin t.rank → ℕ) → ℕ → α)
    (hf : ∀ i k, f (at' (idx i k)) = g (at' i) k.val) : Rd y fun c => ∑ k ∈ Finset.range K, g c k := fun i => by
  rw [e, hz, Emb.up_zero, zero_add]
  exact up_sum_fin K (g (at' i)) _ fun k => by rw [hx, hf]

/-- A product with one contracted axis, from its unfolding. -/
theorem Rd.of_dot {u : Shape} {x : s.Idx → EReal} {x' : u.Idx → EReal} {y : t.Idx → EReal} {f : (Fin s.rank → ℕ) → α} {f' : (Fin u.rank → ℕ) → α} {K : ℕ}
    (hx : Rd x f) (hx' : Rd x' f') {idx : t.Idx → Fin K → s.Idx} {idx' : t.Idx → Fin K → u.Idx}
    (e : ∀ i, y i = ∑ k : Fin K, x (idx i k) * x' (idx' i k)) (g : (Fin t.rank → ℕ) → ℕ → α)
    (hf : ∀ i k, f (at' (idx i k)) * f' (at' (idx' i k)) = g (at' i) k.val) : Rd y fun c => ∑ k ∈ Finset.range K, g c k := fun i => by
  rw [e]
  exact up_sum_fin K (g (at' i)) _ fun k => by rw [hx, hx', ← Emb.up_mul, hf]

/-- The elements that reduce to an index, enumerated. -/
theorem sum_drop {axes : List (Fin s.rank)} (h : s.ReducesTo axes t) (j : t.Idx) {ι : Type} [Fintype ι] (e : ι → s.Idx) (he : Function.Injective e)
    (hd : ∀ i, h.drop i = j ↔ ∃ k, e k = i) (x : s.Idx → EReal) (z : EReal) : Ideal.hostReduceAdd h x z j = z + ∑ k, x (e k) := by
  classical
  rw [Ideal.hostReduceAdd, show (Finset.univ.filter fun i => h.drop i = j) = Finset.univ.map ⟨e, he⟩ by
    ext i; simp [hd], Finset.sum_map]
  rfl

variable {φ : FTy}

/-- A host sum over the first two axes of three. -/
theorem Rd.hred01 {m n k : ℕ} {u : Shape} {f : (Fin 3 → ℕ) → α} {x : FVec Ideal ⟨3, ![m, n, k]⟩ φ} (hx : Rd x f) {v : FVec Ideal u φ} (hv : ∀ i, v i = Emb.up (0 : α))
    (h : (⟨3, ![m, n, k]⟩ : Shape).ReducesTo [0, 1] ⟨1, ![k]⟩) (hu : 0 < u.numel) :
    Rd (s := ⟨1, ![k]⟩) (Host.reduceAdd x v h hu) fun c => ∑ a ∈ Finset.range m, ∑ b ∈ Finset.range n, f ![a, b, c 0] := fun j => by
  show Ideal.hostReduceAdd h x (v _) j = _
  rw [sum_drop h j (ι := Fin m × Fin n) (fun p => ix3 p.1 p.2 (j 0)) (fun p q e => Prod.ext (congrFun e 0) (congrFun e 1)) (fun i => ?_), hv, Emb.up_zero, zero_add,
    Fintype.sum_prod_type]
  · refine up_sum_fin m (fun a => ∑ b ∈ Finset.range n, f ![a, b, (j 0).val]) _ fun a => up_sum_fin n (fun b => f ![a.val, b, (j 0).val]) _ fun b => ?_
    rw [hx _]
    exact congrArg (fun c => Emb.up (f c)) (funext fun a => by fin_cases a <;> rfl)
  · constructor
    · intro e
      refine ⟨(i 0, i 1), funext fun a => Fin.ext ?_⟩
      match a with
      | ⟨0, _⟩ | ⟨1, _⟩ => rfl
      | ⟨2, _⟩ => exact (congrArg Fin.val (congrFun e 0)).symm
    · rintro ⟨p, rfl⟩
      funext a
      match a with
      | ⟨0, _⟩ => exact Fin.ext rfl

/-- A host sum over the axes 0, 1 and 4 of five. -/
theorem Rd.hred014 {m n k l o : ℕ} {u : Shape} {f : (Fin 5 → ℕ) → α} {x : FVec Ideal ⟨5, ![m, n, k, l, o]⟩ φ} (hx : Rd x f) {v : FVec Ideal u φ} (hv : ∀ i, v i = Emb.up (0 : α))
    (h : (⟨5, ![m, n, k, l, o]⟩ : Shape).ReducesTo [0, 1, 4] ⟨2, ![k, l]⟩) (hu : 0 < u.numel) :
    Rd (s := ⟨2, ![k, l]⟩) (Host.reduceAdd x v h hu)
      fun c => ∑ a ∈ Finset.range m, ∑ b ∈ Finset.range n, ∑ d ∈ Finset.range o, f ![a, b, c 0, c 1, d] := fun j => by
  show Ideal.hostReduceAdd h x (v _) j = _
  rw [sum_drop h j (ι := Fin m × Fin n × Fin o) (fun p => ix5 p.1 p.2.1 (j 0) (j 1) p.2.2)
    (fun p q e => Prod.ext (congrFun e 0) (Prod.ext (congrFun e 1) (congrFun e 4))) (fun i => ?_), hv, Emb.up_zero, zero_add,
    Fintype.sum_prod_type]
  · refine up_sum_fin m (fun a => ∑ b ∈ Finset.range n, ∑ d ∈ Finset.range o, f ![a, b, (j 0).val, (j 1).val, d]) _ fun a => ?_
    rw [Fintype.sum_prod_type]
    refine up_sum_fin n (fun b => ∑ d ∈ Finset.range o, f ![a.val, b, (j 0).val, (j 1).val, d]) _ fun b => ?_
    refine up_sum_fin o (fun d => f ![a.val, b.val, (j 0).val, (j 1).val, d]) _ fun d => ?_
    rw [hx _]
    exact congrArg (fun c => Emb.up (f c)) (funext fun a => by fin_cases a <;> rfl)
  · constructor
    · intro e
      refine ⟨(i 0, i 1, i 4), funext fun a => Fin.ext ?_⟩
      match a with
      | ⟨0, _⟩ | ⟨1, _⟩ => rfl
      | ⟨2, _⟩ => exact (congrArg Fin.val (congrFun e 0)).symm
      | ⟨3, _⟩ => exact (congrArg Fin.val (congrFun e 1)).symm
      | ⟨4, _⟩ => rfl
    · rintro ⟨p, rfl⟩
      funext a
      match a with | ⟨0, _⟩ | ⟨1, _⟩ => exact Fin.ext rfl

end Sums

section Contract
variable {sl sr so : Shape} {φl φr φo : FTy}

/-- A host product that contracts two axes. -/
theorem Rd.hdot2 (D : DotDims sl sr so) (prec : Option ContractPrecision) (A B : ℕ) (hr : D.contr.rank = 2) (h0 : D.contr.size ⟨0, by omega⟩ = A)
    (h1 : D.contr.size ⟨1, by omega⟩ = B)
    (L : (Fin so.rank → ℕ) → ℕ → ℕ → (Fin sl.rank → ℕ)) (R : (Fin so.rank → ℕ) → ℕ → ℕ → (Fin sr.rank → ℕ))
    (hL : ∀ j k, at' (D.lhsIdx j k) = L (at' j) (k ⟨0, by omega⟩).val (k ⟨1, by omega⟩).val)
    (hR : ∀ j k, at' (D.rhsIdx j k) = R (at' j) (k ⟨0, by omega⟩).val (k ⟨1, by omega⟩).val)
    {l : FVec Ideal sl φl} {r : FVec Ideal sr φr} {f : (Fin sl.rank → ℕ) → α} {g : (Fin sr.rank → ℕ) → α} (hl : Rd l f) (hrr : Rd r g) :
    Rd (s := so) (Host.dotGeneral (F := Ideal) D prec l r) fun c => ∑ a ∈ Finset.range A, ∑ b ∈ Finset.range B, f (L c a b) * g (R c a b) := fun j => by
  simp only [Host.dotGeneral]
  rw [Ideal.dotGeneral_apply, ValueIdx.sum_contr2 D A B hr h0 h1]
  refine up_sum_fin A (fun a => ∑ b ∈ Finset.range B, f (L (at' j) a b) * g (R (at' j) a b)) _ fun a => up_sum_fin B (fun b => f (L (at' j) a.val b) * g (R (at' j) a.val b)) _ fun b => ?_
  rw [hl _, hrr _, hL, hR, ValueIdx.contrEquiv2_symm_val0, ValueIdx.contrEquiv2_symm_val1, Emb.up_mul]

/-- Three contracted axes. -/
def contrEquiv3 (D : DotDims sl sr so) (n0 n1 n2 : ℕ) (hr : D.contr.rank = 3)
    (h0 : D.contr.size ⟨0, by omega⟩ = n0) (h1 : D.contr.size ⟨1, by omega⟩ = n1) (h2 : D.contr.size ⟨2, by omega⟩ = n2) :
    D.contr.Idx ≃ Fin n0 × Fin n1 × Fin n2 where
  toFun q := ((q ⟨0, by omega⟩).cast h0, (q ⟨1, by omega⟩).cast h1, (q ⟨2, by omega⟩).cast h2)
  invFun p := fun a =>
    if ha : a.val = 0 then p.1.cast (h0.symm.trans (congrArg D.contr.size (Fin.ext ha.symm)))
    else if hb : a.val = 1 then p.2.1.cast (h1.symm.trans (congrArg D.contr.size (Fin.ext hb.symm)))
    else p.2.2.cast (h2.symm.trans (congrArg D.contr.size (Fin.ext (by have := a.isLt; show 2 = a.val; omega))))
  left_inv q := by
    have p0 : 0 < D.contr.rank := by omega
    have p1 : 1 < D.contr.rank := by omega
    have p2 : 2 < D.contr.rank := by omega
    funext a
    by_cases ha : a.val = 0
    · obtain rfl : a = ⟨0, p0⟩ := Fin.ext ha
      simp
    by_cases hb : a.val = 1
    · obtain rfl : a = ⟨1, p1⟩ := Fin.ext hb
      simp
    · obtain rfl : a = ⟨2, p2⟩ := Fin.ext (by have := a.isLt; show a.val = 2; omega)
      simp
  right_inv p := by
    refine Prod.ext (Fin.ext ?_) (Prod.ext (Fin.ext ?_) (Fin.ext ?_)) <;> simp

/-- A host product that contracts three axes. -/
theorem Rd.hdot3 (D : DotDims sl sr so) (prec : Option ContractPrecision) (A B C : ℕ) (hr : D.contr.rank = 3) (h0 : D.contr.size ⟨0, by omega⟩ = A)
    (h1 : D.contr.size ⟨1, by omega⟩ = B) (h2 : D.contr.size ⟨2, by omega⟩ = C)
    (L : (Fin so.rank → ℕ) → ℕ → ℕ → ℕ → (Fin sl.rank → ℕ)) (R : (Fin so.rank → ℕ) → ℕ → ℕ → ℕ → (Fin sr.rank → ℕ))
    (hL : ∀ j k, at' (D.lhsIdx j k) = L (at' j) (k ⟨0, by omega⟩).val (k ⟨1, by omega⟩).val (k ⟨2, by omega⟩).val)
    (hR : ∀ j k, at' (D.rhsIdx j k) = R (at' j) (k ⟨0, by omega⟩).val (k ⟨1, by omega⟩).val (k ⟨2, by omega⟩).val)
    {l : FVec Ideal sl φl} {r : FVec Ideal sr φr} {f : (Fin sl.rank → ℕ) → α} {g : (Fin sr.rank → ℕ) → α} (hl : Rd l f) (hrr : Rd r g) :
    Rd (s := so) (Host.dotGeneral (F := Ideal) D prec l r)
      fun c => ∑ a ∈ Finset.range A, ∑ b ∈ Finset.range B, ∑ d ∈ Finset.range C, f (L c a b d) * g (R c a b d) := fun j => by
  simp only [Host.dotGeneral]
  rw [Ideal.dotGeneral_apply, ← Equiv.sum_comp (contrEquiv3 D A B C hr h0 h1 h2).symm, Fintype.sum_prod_type]
  refine up_sum_fin A (fun a => ∑ b ∈ Finset.range B, ∑ d ∈ Finset.range C, f (L (at' j) a b d) * g (R (at' j) a b d)) _ fun a => ?_
  rw [Fintype.sum_prod_type]
  refine up_sum_fin B (fun b => ∑ d ∈ Finset.range C, f (L (at' j) a.val b d) * g (R (at' j) a.val b d)) _ fun b => ?_
  refine up_sum_fin C (fun d => f (L (at' j) a.val b.val d) * g (R (at' j) a.val b.val d)) _ fun d => ?_
  rw [hl _, hrr _, hL, hR, ← Emb.up_mul]
  simp [contrEquiv3]

end Contract

section Pad
variable {n : ℕ} {d e : Fin n → ℕ} {f : (Fin n → ℕ) → α} {u : Shape}

/-- Padding by zeros at the edges. -/
theorem Rd.pad {x : (⟨n, d⟩ : Shape).Idx → EReal} (hx : Rd x f) (lo hi : Fin n → ℕ) {int : Fin n → ℕ} (h0 : ∀ a, int a = 0) {v : u.Idx → EReal} (hv : ∀ i, v i = Emb.up (0 : α))
    (h : (⟨n, d⟩ : Shape).Pads lo hi int ⟨n, e⟩) (hu : 0 < u.numel) :
    Rd (pad ⟨n, e⟩ lo hi int x v h hu) fun c => if ∀ a, lo a ≤ c a ∧ c a < lo a + d a then f fun a => c a - lo a else 0 := fun i => by
  by_cases hc : ∀ a, lo a ≤ (i a).val ∧ (i a).val < lo a + d a
  · let k : (⟨n, d⟩ : Shape).Idx := fun a => ⟨(i a).val - lo a, by have := hc a; show _ < d a; omega⟩
    rw [pad_apply_of_inside lo hi int x v h hu i k fun a => by
      have := (hc a).1
      show (i a).val = lo a + ((i a).val - lo a) * (int a + 1)
      rw [h0]; omega, hx k]
    exact congrArg Emb.up (if_pos hc).symm
  · obtain ⟨a, ha⟩ := not_forall.1 hc
    rw [pad_apply_of_not_inside lo hi int x v h hu i a fun ⟨q1, _, q3⟩ => ha ⟨q1, by
      rw [h0] at q3
      change ((i a).val - lo a) / (0 + 1) < d a at q3
      change lo a ≤ (i a).val at q1
      rw [Nat.zero_add, Nat.div_one] at q3
      omega⟩, hv]
    exact congrArg Emb.up (if_neg hc).symm

end Pad

section Window

theorem foldl_add_fin {N : ℕ} (g : Fin N → EReal) (z : EReal) : (List.finRange N).foldl (fun r n => r + g n) z = z + ∑ n, g n := by
  rw [← List.sum_ofFn, List.ofFn_eq_map]
  generalize List.finRange N = l
  induction l generalizing z with
  | nil => simp
  | cons a l ih => rw [List.foldl_cons, ih, List.map_cons, List.sum_cons, add_assoc]

/-- One place of such a window. -/
theorem win_step {m N k : ℕ} {f : (Fin 3 → ℕ) → α} {x : (⟨3, ![m, N, k]⟩ : Shape).Idx → EReal} (hx : Rd x f) (lo : ℕ) (j : (⟨3, ![m, N, k]⟩ : Shape).Idx) (p : Fin 3 → ℕ) (n : ℕ)
    (h0 : p 0 = (j 0).val) (h1 : p 1 = (j 1).val + n) (h2 : p 2 = (j 2).val)
    {_ : Decidable (∀ a : Fin 3, (![0, lo, 0] : Fin 3 → ℕ) a ≤ p a ∧ p a - (![0, lo, 0] : Fin 3 → ℕ) a < (![m, N, k] : Fin 3 → ℕ) a)} :
    (if hin : ∀ a : Fin 3, (![0, lo, 0] : Fin 3 → ℕ) a ≤ p a ∧ p a - (![0, lo, 0] : Fin 3 → ℕ) a < (![m, N, k] : Fin 3 → ℕ) a
      then x fun a => ⟨p a - (![0, lo, 0] : Fin 3 → ℕ) a, (hin a).2⟩ else 0)
      = Emb.up (if lo ≤ (j 1).val + n ∧ (j 1).val + n - lo < N then f ![(j 0).val, (j 1).val + n - lo, (j 2).val] else 0) := by
  have hj0 : (j 0).val < m := (j 0).isLt
  have hj2 : (j 2).val < k := (j 2).isLt
  by_cases hc : lo ≤ (j 1).val + n ∧ (j 1).val + n - lo < N
  · rw [dif_pos (fun a => by
      match a with
      | ⟨0, _⟩ => exact ⟨Nat.zero_le _, by show p 0 - 0 < m; omega⟩
      | ⟨1, _⟩ => exact ⟨by show lo ≤ p 1; omega, by show p 1 - lo < N; omega⟩
      | ⟨2, _⟩ => exact ⟨Nat.zero_le _, by show p 2 - 0 < k; omega⟩), hx _]
    rw [if_pos hc]
    refine congrArg (fun c => Emb.up (f c)) (funext fun a => ?_)
    match a with
    | ⟨0, _⟩ => show p 0 - 0 = (j 0).val; omega
    | ⟨1, _⟩ => show p 1 - lo = (j 1).val + n - lo; omega
    | ⟨2, _⟩ => show p 2 - 0 = (j 2).val; omega
  · rw [dif_neg (fun h' => hc ⟨by have := (h' 1).1; change lo ≤ p 1 at this; omega,
      by have := (h' 1).2; change p 1 - lo < N at this; omega⟩), if_neg hc, Emb.up_zero]

/-- Running sums along the middle axis of three: a window as long as the axis. -/
theorem Rd.win {m N k : ℕ} {u : Shape} {φ : FTy} {f : (Fin 3 → ℕ) → α} {x : FVec Ideal ⟨3, ![m, N, k]⟩ φ} (hx : Rd x f) {v : FVec Ideal u φ} (hv : ∀ i, v i = Emb.up (0 : α)) (lo hi : ℕ)
    (h : (⟨3, ![m, N, k]⟩ : Shape).ReduceWindows (![1, N, 1] : Fin 3 → ℕ) ![1, 1, 1] ![0, lo, 0] ![0, hi, 0] ⟨3, ![m, N, k]⟩) (hu : 0 < u.numel) :
    Rd (s := ⟨3, ![m, N, k]⟩) (Host.reduceWindowAdd ![1, N, 1] ![1, 1, 1] ![0, lo, 0] ![0, hi, 0] x v h hu)
      fun c => ∑ n ∈ Finset.range N, if lo ≤ c 1 + n ∧ c 1 + n - lo < N then f ![c 0, c 1 + n - lo, c 2] else 0 := fun j => by
  show Ideal.hostReduceWindowAdd _ _ _ _ h x (v _) j = _
  rw [hv, Emb.up_zero]
  unfold Ideal.hostReduceWindowAdd Host.reduceWindow
  dsimp only
  rw [foldl_add_fin, zero_add]
  have hW : (⟨3, ![1, N, 1]⟩ : Shape).numel = N := by simp [Shape.numel, Fin.prod_univ_three]
  rw [← Equiv.sum_comp (finCongr hW).symm]
  refine up_sum_fin N (fun n => if lo ≤ (j 1).val + n ∧ (j 1).val + n - lo < N then f ![(j 0).val, (j 1).val + n - lo, (j 2).val] else 0) _ fun n => ?_
  have hm : ((⟨3, ![1, N, 1]⟩ : Shape).rowMajor.symm ((finCongr hW).symm n)) = ix3 0 n 0 := by
    rw [Equiv.symm_apply_eq]
    refine Fin.ext ?_
    rw [Shape.rowMajor_val_three]
    simp
  refine win_step hx lo j (fun a => (j (Fin.cast rfl a)).val * (![1, 1, 1] : Fin 3 → ℕ) a + ((⟨3, ![1, N, 1]⟩ : Shape).rowMajor.symm ((finCongr hW).symm n) a).val) n.val ?_ ?_ ?_
  all_goals dsimp only; rw [hm]
  · show (j 0).val * 1 + 0 = _; omega
  · show (j 1).val * 1 + n.val = _; omega
  · show (j 2).val * 1 + 0 = _; omega

end Window

end Cert.Rd

end
-- ==== Proof.RdMem.lean ====
/- Readings of what a grid point loads and stores: a load through a unit-stride rectangle shifts the coordinates, and what a
   list of stores leaves is read store by store, the newest first. -/
module

public import proofs.«01_k».proof.Proof.Rd
public import Idealize.ShloMosaic.Lib.WritesUnit

@[expose] public section

noncomputable section

namespace Cert.Rd

open Idealize.ShloMosaic

variable {α : Type} [AddCommMonoid α] [Mul α] [Emb α] {s : Shape}

theorem Rd.up {x : s.Idx → EReal} {f : (Fin s.rank → ℕ) → α} (h : Rd x f) : Rd x fun c => Emb.up (f c) := h

theorem Rd.ld {x : s.Idx → EReal} {f : (Fin s.rank → ℕ) → α} (h : Rd x f) (off size : Fin s.rank → ℕ) (inb : ∀ a, off a + size a ≤ s.size a) :
    Rd (s := (Rect.unit off size inb).shape) (fun i => x ((Rect.unit off size inb).idx i)) fun c => f fun a => off a + c a := fun i => by
  refine (h _).trans (congrArg (fun c => Emb.up (f c)) (funext fun a => ?_))
  show off a + 1 * (i a).val = off a + (i a).val
  rw [Nat.one_mul]

/-- `x` holds `G` at the indices of `P`. -/
def On (x : s.Idx → EReal) (G : (Fin s.rank → ℕ) → EReal) (P : (Fin s.rank → ℕ) → Prop) : Prop := ∀ i : s.Idx, P (at' i) → x i = G (at' i)

theorem On.all {x : s.Idx → EReal} {G : (Fin s.rank → ℕ) → EReal} (h : On x G fun _ => True) : Rd x G := fun i => h i trivial

theorem On.none {x : s.Idx → EReal} {G : (Fin s.rank → ℕ) → EReal} {P : (Fin s.rank → ℕ) → Prop}
    (h : ∀ c : Fin s.rank → ℕ, (∀ a, c a < s.size a) → ¬P c) : On x G P := fun i hi => absurd hi (h _ fun a => (i a).isLt)

theorem On.of {x : s.Idx → EReal} {F G : (Fin s.rank → ℕ) → EReal} {P : (Fin s.rank → ℕ) → Prop} (hx : Rd x F)
    (h : ∀ c : Fin s.rank → ℕ, (∀ a, c a < s.size a) → P c → F c = G c) : On x G P := fun i hi => (hx i).trans (h _ (fun a => (i a).isLt) hi)

/-! Stores, for elements `e` whose ideal values `u` reads as extended reals. -/
variable {e : EltTy} (u : Elt Ideal e → EReal) {sig : RefSig} {κ : Kind} {sp : Space} (v : View sig κ sp s e) (f : v.ty.Contents (Elt Ideal))

theorem On.cons {off size : Fin s.rank → ℕ} (inb : ∀ a, off a + size a ≤ s.size a) (w : (Rect.unit off size inb).shape.Idx → Elt Ideal e)
    (L : List (View.Piece (Elt Ideal) s e)) {G : (Fin s.rank → ℕ) → EReal} {P : (Fin s.rank → ℕ) → Prop}
    {x y : s.Idx → Elt Ideal e} (ex : v.read (Elt Ideal) (v.writes (Elt Ideal) f ((⟨Rect.unit off size inb, w⟩ : View.Piece (Elt Ideal) s e) :: L)) = x)
    (ey : v.read (Elt Ideal) (v.writes (Elt Ideal) f L) = y)
    (hw : Rd (s := (Rect.unit off size inb).shape) (fun i => u (w i)) fun c => G fun a => off a + c a)
    (h : On (fun i => u (y i)) G fun c => P c ∧ ¬∀ a, off a ≤ c a ∧ c a < off a + size a) :
    On (fun i => u (x i)) G P := fun i hi => by
  by_cases hb : ∀ a, off a ≤ (i a).val ∧ (i a).val < off a + size a
  · have he : ∀ a, (i a).val = off a + (Rect.unitLocal (s := s) (off := off) (size := size) i hb a).val := fun a => by
      have := hb a
      rw [Rect.unitLocal_val]
      omega
    show u (x i) = _
    rw [← ex, View.read_writes_cons_unit_of_mem v f inb w L i (Rect.unitLocal (s := s) (off := off) (size := size) i hb) rfl he]
    refine (hw _).trans (congrArg G (funext fun a => ?_))
    exact (he a).symm
  · refine Eq.trans (congrArg u ?_) (h i ⟨hi, hb⟩)
    rw [← ex, ← ey]
    obtain ⟨a, ha⟩ := not_forall.mp hb
    exact View.read_writes_cons_unit_of_not_mem v f inb w L i rfl a (by omega)

end Cert.Rd

end
-- ==== Proof.Spec.lean ====
/- What the backward pass of the three mixers computes, over natural-number coordinates.

   `Re` collects the inputs whose arithmetic is read in the reals (spatial gating unit and pooling), `Cv` those of the gated
   convolution, read in the extended reals. Row `r` counts tokens over both sequences of 4096; column `c` runs over the 512
   channels of a branch; head (or pool group) of a channel is `c / 128`, a token's place in its chunk `r % 128`. -/
module

public import Idealize.ShloMosaic.PureOps.Ideal.Laws

@[expose] public section

noncomputable section

namespace Cert.Spec

/-- The two constants of the tanh form of gelu and the epsilon of the layer norm, each the number its 32-bit word is. -/
def K : ℝ := 6693141 / 8388608
def C : ℝ := 12003091 / 268435456
def eps : ℝ := 8796093 / 8796093022208

def th (x : ℝ) : ℝ := Real.tanh (K * (x + C * x * x * x))
def gelu (x : ℝ) : ℝ := 1 / 2 * x * (1 + th x)
/-- The derivative of `gelu`. -/
def dgelu (x : ℝ) : ℝ := 1 / 2 * (1 + th x) + 1 / 2 * x * (1 - th x * th x) * K * (1 + 3 * C * x * x)

structure Re where
  (u v x da db : ℕ → ℕ → ℝ)
  (g b ps : ℕ → ℝ)
  (ws pw : ℕ → ℕ → ℕ → ℝ)
  (bs : ℕ → ℕ → ℝ)

namespace Re
variable (S : Re)

/-! The spatial gating unit. -/
def vg (r c : ℕ) : ℝ := gelu (S.v r c)
def mu (r : ℕ) : ℝ := (∑ c ∈ Finset.range 512, S.vg r c) / 512
def vc (r c : ℕ) : ℝ := S.vg r c - S.mu r
def va (r : ℕ) : ℝ := (∑ c ∈ Finset.range 512, S.vc r c * S.vc r c) / 512 + eps
def rs (r : ℕ) : ℝ := (Real.sqrt (S.va r))⁻¹
def vh (r c : ℕ) : ℝ := S.vc r c * S.rs r
def vn (r c : ℕ) : ℝ := S.vh r c * S.g c + S.b c
/-- The causal mixing weights of a head. -/
def wt (h t k : ℕ) : ℝ := if k ≤ t then S.ws h t k else 0
/-- The mixed tokens of chunk `n`. -/
def sC (n t c : ℕ) : ℝ := ∑ k ∈ Finset.range 128, S.wt (c / 128) t k * S.vn (128 * n + k) c + S.bs (c / 128) t
def s (r c : ℕ) : ℝ := S.sC (r / 128) (r % 128) c
def du (r c : ℕ) : ℝ := S.da r c * S.s r c * dgelu (S.u r c)
def ds (r c : ℕ) : ℝ := S.da r c * gelu (S.u r c)
def dvnC (n k c : ℕ) : ℝ := ∑ t ∈ Finset.range 128, S.wt (c / 128) t k * S.ds (128 * n + t) c
def dvn (r c : ℕ) : ℝ := S.dvnC (r / 128) (r % 128) c
def dh (r c : ℕ) : ℝ := S.dvn r c * S.g c
def dvg (r c : ℕ) : ℝ := S.rs r * (S.dh r c - (∑ k ∈ Finset.range 512, S.dh r k) / 512
  - S.vh r c * ((∑ k ∈ Finset.range 512, S.dh r k * S.vh r k) / 512))
def dv (r c : ℕ) : ℝ := S.dvg r c * dgelu (S.v r c)
def pvG (c : ℕ) : ℝ := ∑ r ∈ Finset.range 8192, S.dvn r c * S.vh r c
def pvB (c : ℕ) : ℝ := ∑ r ∈ Finset.range 8192, S.dvn r c
def dwsC (n h t k : ℕ) : ℝ := ∑ e ∈ Finset.range 128, S.ds (128 * n + t) (128 * h + e) * S.vn (128 * n + k) (128 * h + e)
def dws (h t k : ℕ) : ℝ := if k ≤ t then ∑ n ∈ Finset.range 64, S.dwsC n h t k else 0
def dbsC (n t h : ℕ) : ℝ := ∑ e ∈ Finset.range 128, S.ds (128 * n + t) (128 * h + e)
def dbs (t h : ℕ) : ℝ := ∑ n ∈ Finset.range 64, S.dbsC n t h

/-! The causal pooling. -/
def win (c : ℕ) : ℕ := 2 ^ (c / 128 + 1)
def cnt (r c : ℕ) : ℝ := min (((r % 4096 + 1 : ℕ) : ℝ)) ((win c : ℕ) : ℝ)
def lag (r c : ℕ) : ℝ := ∑ j ∈ Finset.range (win c), if j ≤ r % 4096 then S.x (r - j) c else 0
def p (r c : ℕ) : ℝ := S.lag r c / cnt r c - S.x r c
def q (r c : ℕ) : ℝ := ∑ k ∈ Finset.range 128, S.p r (128 * (c / 128) + k) * S.pw (c / 128) k (c % 128)
def dq (r c : ℕ) : ℝ := S.db r c * S.ps c
def dp (r c : ℕ) : ℝ := ∑ e ∈ Finset.range 128, S.dq r (128 * (c / 128) + e) * S.pw (c / 128) (c % 128) e
def lead (r c : ℕ) : ℝ := ∑ j ∈ Finset.range (win c), if r % 4096 + j < 4096 then S.dp (r + j) c / cnt (r + j) c else 0
def dx (r c : ℕ) : ℝ := S.lead r c - S.dp r c
def pvS (c : ℕ) : ℝ := ∑ r ∈ Finset.range 8192, S.db r c * S.q r c
def dpw (g k e : ℕ) : ℝ := ∑ r ∈ Finset.range 8192, S.p r (128 * g + k) * S.dq r (128 * g + e)

end Re

structure Cv where
  (bg cg hc dc : ℕ → ℕ → EReal)
  (cw : ℕ → ℕ → EReal)

namespace Cv
variable (S : Cv)

/-! The gated causal convolution of width three. -/
def zc (r c : ℕ) : EReal := S.cg r c * S.hc r c
def zs (j r c : ℕ) : EReal := if j ≤ r % 4096 then S.zc (r - j) c else 0
def y (r c : ℕ) : EReal := S.cw 0 c * S.zs 2 r c + S.cw 1 c * S.zs 1 r c + S.cw 2 c * S.zc r c
def dbg (r c : ℕ) : EReal := S.dc r c * S.y r c
def dy (r c : ℕ) : EReal := S.dc r c * S.bg r c
def dys (j r c : ℕ) : EReal := if r % 4096 + j < 4096 then S.dy (r + j) c else 0
def dzc (r c : ℕ) : EReal := S.cw 2 c * S.dy r c + S.cw 1 c * S.dys 1 r c + S.cw 0 c * S.dys 2 r c
def dcg (r c : ℕ) : EReal := S.dzc r c * S.hc r c
def dhc (r c : ℕ) : EReal := S.dzc r c * S.cg r c
def pv2 (c : ℕ) : EReal := ∑ r ∈ Finset.range 8192, S.dy r c * S.zs 2 r c
def pv1 (c : ℕ) : EReal := ∑ r ∈ Finset.range 8192, S.dy r c * S.zs 1 r c
def pv0 (c : ℕ) : EReal := ∑ r ∈ Finset.range 8192, S.dy r c * S.zc r c

end Cv

theorem Re.cnt_pos (r c : ℕ) : 0 < Re.cnt r c := by
  unfold Re.cnt Re.win
  exact lt_min (by positivity) (by positivity)

theorem Re.va_pos (S : Re) (r : ℕ) : 0 < S.va r := by
  have : 0 ≤ ∑ c ∈ Finset.range 512, S.vc r c * S.vc r c := Finset.sum_nonneg fun c _ => mul_self_nonneg _
  unfold Re.va eps
  positivity

end Cert.Spec

end
-- ==== Proof.RefMath.lean ====
/- The identities that turn the reference's order of computing into the specification's. -/
module

public import proofs.«01_k».proof.Proof.Spec

@[expose] public section

noncomputable section

namespace Cert.Rf

open Cert.Spec

/-! Gelu and its derivative. -/
theorem th_eq (x : ℝ) : Real.tanh (K * (x + C * (x * x * x))) = th x := congrArg Real.tanh (by ring)
theorem gelu_eq (x : ℝ) : x * (1 / 2 * (1 + th x)) = gelu x := by unfold gelu; ring
theorem dgelu_eq (x d : ℝ) : d * (1 / 2 * (1 + th x)) + K * (1 / 2 * (x * d) * ((1 + th x) * (1 - th x)))
    + C * (K * (1 / 2 * (x * d) * ((1 + th x) * (1 - th x)))) * (3 * (x * x)) = d * dgelu x := by
  unfold dgelu; ring

/-! Sums over tokens. -/
theorem sum_mul {α : Type} [AddCommMonoid α] (m n : ℕ) (F : ℕ → α) : (∑ a ∈ Finset.range m, ∑ b ∈ Finset.range n, F (n * a + b)) = ∑ r ∈ Finset.range (m * n), F r := by
  induction m with
  | zero => simp
  | succ m ih => rw [Finset.sum_range_succ, ih, Nat.succ_mul, Finset.sum_range_add, Nat.mul_comm n m]

theorem sum_tok {α : Type} [AddCommMonoid α] (F : ℕ → α) : (∑ a ∈ Finset.range 2, ∑ b ∈ Finset.range 4096, F (4096 * a + b)) = ∑ r ∈ Finset.range 8192, F r := sum_mul 2 4096 F
theorem sum_chunk {α : Type} [AddCommMonoid α] (F : ℕ → α) : (∑ a ∈ Finset.range 2, ∑ b ∈ Finset.range 32, F (32 * a + b)) = ∑ r ∈ Finset.range 64, F r := sum_mul 2 32 F

/-! The backward pass of the normalisation. -/
theorem sum_vc (S : Re) (r : ℕ) : (∑ c ∈ Finset.range 512, S.vc r c) = 0 := by
  unfold Re.vc
  rw [Finset.sum_sub_distrib, Finset.sum_const, Finset.card_range, Re.mu, nsmul_eq_mul]
  push_cast; ring

theorem rs_sq (S : Re) (r : ℕ) : S.rs r * S.rs r * S.va r = 1 := by
  have h := S.va_pos r
  unfold Re.rs
  rw [← mul_inv, Real.mul_self_sqrt h.le, inv_mul_cancel₀ h.ne']

theorem rs_div (S : Re) (r : ℕ) : S.rs r / S.va r = S.rs r * S.rs r * S.rs r := by
  rw [div_eq_iff (S.va_pos r).ne']
  linear_combination (-S.rs r) * rs_sq S r

theorem ln_eq (S : Re) (r c : ℕ) :
    let m := (∑ k ∈ Finset.range 512, S.vc r k * S.dh r k) * (-(1 / 2) * (S.rs r / S.va r)) / 512
    S.dh r c * S.rs r + m * (2 * S.vc r c)
      + ((∑ k ∈ Finset.range 512, -(S.dh r k * S.rs r)) + ∑ k ∈ Finset.range 512, -(m * (2 * S.vc r k))) / 512 = S.dvg r c := by
  intro m
  have h1 : (∑ k ∈ Finset.range 512, -(m * (2 * S.vc r k))) = 0 := by
    rw [Finset.sum_neg_distrib, ← Finset.mul_sum, ← Finset.mul_sum, sum_vc]; ring
  have h2 : (∑ k ∈ Finset.range 512, -(S.dh r k * S.rs r)) = -((∑ k ∈ Finset.range 512, S.dh r k) * S.rs r) := by
    rw [Finset.sum_neg_distrib, Finset.sum_mul]
  have h3 : (∑ k ∈ Finset.range 512, S.dh r k * S.vh r k) = (∑ k ∈ Finset.range 512, S.vc r k * S.dh r k) * S.rs r := by
    rw [Finset.sum_mul]
    exact Finset.sum_congr rfl fun k _ => by unfold Re.vh; ring
  rw [h1, h2]
  unfold Re.dvg
  rw [h3]
  simp only [m]
  rw [rs_div]
  unfold Re.vh
  ring

/-! The pooling windows. -/
theorem win_eq (g c : ℕ) (h : c / 128 = g) : Re.win c = 2 ^ (g + 1) := by unfold Re.win; rw [h]
theorem win_pos (c : ℕ) : 1 ≤ Re.win c := Nat.one_le_two_pow

/-- The sum of the first `n` tokens of sequence `a`. -/
def pre (S : Re) (a n c : ℕ) : ℝ := ∑ j ∈ Finset.range n, S.x (4096 * a + j) c

/-- A window of length `N` ending at `t` holds the first `t + 1` entries. -/
theorem cum_eq {α : Type} [AddCommMonoid α] (N t : ℕ) (ht : t < N) (g : ℕ → α) :
    (∑ n ∈ Finset.range N, if N - 1 ≤ t + n ∧ t + n - (N - 1) < N then g (t + n - (N - 1)) else 0) = ∑ j ∈ Finset.range (t + 1), g j := by
  obtain ⟨k, rfl⟩ : ∃ k, N = k + (t + 1) := ⟨N - (t + 1), by omega⟩
  rw [Finset.sum_range_add, Finset.sum_eq_zero, zero_add]
  · refine Finset.sum_congr rfl fun j hj => ?_
    have := Finset.mem_range.1 hj
    rw [if_pos ⟨by omega, by omega⟩]
    exact congrArg g (by omega)
  · intro n hn
    have := Finset.mem_range.1 hn
    rw [if_neg (by omega)]

theorem lag_sum (w t : ℕ) (g : ℕ → ℝ) :
    (∑ j ∈ Finset.range w, if j ≤ t then g (t - j) else 0) = (∑ j ∈ Finset.range (t + 1), g j) - ∑ j ∈ Finset.range (t + 1 - w), g j := by
  induction w with
  | zero => simp
  | succ w ih =>
    rw [Finset.sum_range_succ, ih]
    by_cases h : w ≤ t
    · have e : (∑ j ∈ Finset.range (t + 1 - w), g j) = (∑ j ∈ Finset.range (t + 1 - (w + 1)), g j) + g (t - w) := by
        rw [show t + 1 - w = (t - w) + 1 by omega, Finset.sum_range_succ, show t + 1 - (w + 1) = t - w by omega]
      rw [if_pos h, e]
      ring
    · rw [if_neg h, show t + 1 - w = 0 by omega, show t + 1 - (w + 1) = 0 by omega, add_zero]

theorem cnt_eq (a t g c : ℕ) (ht : t < 4096) (hc : c / 128 = g) : Re.cnt (4096 * a + t) c = min ((t + 1 : ℕ) : ℝ) ((2 ^ (g + 1) : ℕ) : ℝ) := by
  unfold Re.cnt
  rw [win_eq g c hc, show (4096 * a + t) % 4096 = t by omega]

/-- The reference's mean over the window less the token itself. -/
theorem p_eq (S : Re) (w g a t c : ℕ) (hw : 2 ^ (g + 1) = w) (ht : t < 4096) (hc : c / 128 = g) :
    (pre S a (1 + t) c - if t < w - 1 then 0 else pre S a (t - (w - 1)) c) / min ((t + 1 : ℕ) : ℝ) (w : ℝ) - S.x (4096 * a + t) c = S.p (4096 * a + t) c := by
  have hp : 1 ≤ w := hw ▸ Nat.one_le_two_pow
  have h1 : (if t < w - 1 then 0 else pre S a (t - (w - 1)) c) = pre S a (t + 1 - w) c := by
    split
    · rw [show t + 1 - w = 0 by omega]; rfl
    · rw [show t - (w - 1) = t + 1 - w by omega]
  unfold Re.p
  rw [h1, cnt_eq a t g c ht hc, hw]
  congr 2
  unfold Re.lag
  rw [win_eq g c hc, hw, show (4096 * a + t) % 4096 = t by omega]
  have h2 := lag_sum w t fun j => S.x (4096 * a + j) c
  rw [Nat.add_comm 1 t]
  refine Eq.trans h2.symm (Finset.sum_congr rfl fun j _ => ?_)
  split
  · exact congrArg (S.x · c) (by omega)
  · rfl

/-- The gradient of a token's window sum, before it is gathered. -/
def E (S : Re) (r c : ℕ) : ℝ := S.dp r c / Re.cnt r c

/-- The gradient of the running sum at place `n`. -/
def Dn (S : Re) (a n c : ℕ) : ℝ := (if 1 ≤ n then E S (4096 * a + (n - 1)) c else 0)
  + if n + (Re.win c - 1) < 4096 then -E S (4096 * a + (n + (Re.win c - 1))) c else 0

theorem lead_sum (N w t : ℕ) (e : ℕ → ℝ) (he : ∀ n, N ≤ n → e n = 0) :
    (∑ n ∈ Finset.range N, (e (t + n) + -e (t + n + w))) = ∑ j ∈ Finset.range w, e (t + j) := by
  have h1 : (∑ n ∈ Finset.range w, e (t + n)) + ∑ n ∈ Finset.range N, e (t + n + w) = ∑ n ∈ Finset.range N, e (t + n) := by
    have h2 := Finset.sum_range_add (fun n => e (t + n)) w N
    have h3 := Finset.sum_range_add (fun n => e (t + n)) N w
    rw [Nat.add_comm N w] at h3
    have h4 : (∑ x ∈ Finset.range w, e (t + (N + x))) = 0 := Finset.sum_eq_zero fun x _ => he _ (by omega)
    rw [h4, add_zero] at h3
    rw [← h3, h2]
    congr 1
    exact Finset.sum_congr rfl fun n _ => congrArg e (by omega)
  rw [Finset.sum_add_distrib, Finset.sum_neg_distrib, ← h1]
  ring

/-- Gathering the running sum's gradient from the end gives the leading window. -/
theorem lead_eq (S : Re) (a t c : ℕ) (ht : t < 4096) :
    (∑ n ∈ Finset.range 4096, if 0 ≤ t + n ∧ t + n - 0 < 4096 then Dn S a (1 + (t + n - 0)) c else 0) = S.lead (4096 * a + t) c := by
  have hw := win_pos c
  have h := lead_sum 4096 (Re.win c) t (fun n => if n < 4096 then E S (4096 * a + n) c else 0) fun n hn => if_neg (by omega)
  unfold Re.lead
  rw [show (4096 * a + t) % 4096 = t by omega]
  refine Eq.trans (Finset.sum_congr rfl fun n hn => ?_) (h.trans (Finset.sum_congr rfl fun j _ => ?_))
  · have := Finset.mem_range.1 hn
    by_cases h1 : t + n < 4096
    · rw [if_pos ⟨by omega, by omega⟩, if_pos h1]
      unfold Dn
      rw [if_pos (by omega), show 1 + (t + n - 0) - 1 = t + n by omega, show 1 + (t + n - 0) + (Re.win c - 1) = t + n + Re.win c by omega]
      congr 1
      split <;> simp
    · rw [if_neg (by omega), if_neg h1, if_neg (by omega)]
      simp
  · split
    · unfold E; rw [Nat.add_assoc]
    · rfl

/-! Bands of columns. -/
theorem four {f0 f1 f2 f3 g : ℝ} (k : ℕ) (hk : k < 512) (h0 : k < 128 → f0 = g) (h1 : 128 ≤ k → k < 256 → f1 = g) (h2 : 256 ≤ k → k < 384 → f2 = g)
    (h3 : 384 ≤ k → f3 = g) :
    (if 384 ≤ k ∧ k < 384 + 128 then f3 else 0) + (if 256 ≤ k ∧ k < 256 + 128 then f2 else 0) + (if 128 ≤ k ∧ k < 128 + 128 then f1 else 0)
      + (if 0 ≤ k ∧ k < 0 + 128 then f0 else 0) = g := by
  by_cases c0 : k < 128
  · rw [if_neg (by omega), if_neg (by omega), if_neg (by omega), if_pos (by omega), h0 c0]; simp
  by_cases c1 : k < 256
  · rw [if_neg (by omega), if_neg (by omega), if_pos (by omega), if_neg (by omega), h1 (by omega) c1]; simp
  by_cases c2 : k < 384
  · rw [if_neg (by omega), if_pos (by omega), if_neg (by omega), if_neg (by omega), h2 (by omega) c2]; simp
  · rw [if_pos (by omega), if_neg (by omega), if_neg (by omega), if_neg (by omega), h3 (by omega)]; simp

theorem seven {fG f5 f4 f3 f2 f1 f0 : EReal} (k : ℕ) (hk : k < 6144) :
    (if 3072 ≤ k ∧ k < 3072 + 3072 then fG else 0) + (if 2560 ≤ k ∧ k < 2560 + 512 then f5 else 0) + (if 2048 ≤ k ∧ k < 2048 + 512 then f4 else 0)
      + (if 1536 ≤ k ∧ k < 1536 + 512 then f3 else 0) + (if 1024 ≤ k ∧ k < 1024 + 512 then f2 else 0) + (if 512 ≤ k ∧ k < 512 + 512 then f1 else 0)
      + (if 0 ≤ k ∧ k < 0 + 512 then f0 else 0)
    = if k < 512 then f0 else if k < 1024 then f1 else if k < 1536 then f2 else if k < 2048 then f3 else if k < 2560 then f4 else if k < 3072 then f5 else fG := by
  by_cases c0 : k < 512
  · rw [if_pos c0, if_neg (by omega), if_neg (by omega), if_neg (by omega), if_neg (by omega), if_neg (by omega), if_neg (by omega), if_pos (by omega)]; simp
  rw [if_neg c0]
  by_cases c1 : k < 1024
  · rw [if_pos c1, if_neg (by omega), if_neg (by omega), if_neg (by omega), if_neg (by omega), if_neg (by omega), if_pos (by omega), if_neg (by omega)]; simp
  rw [if_neg c1]
  by_cases c2 : k < 1536
  · rw [if_pos c2, if_neg (by omega), if_neg (by omega), if_neg (by omega), if_neg (by omega), if_pos (by omega), if_neg (by omega), if_neg (by omega)]; simp
  rw [if_neg c2]
  by_cases c3 : k < 2048
  · rw [if_pos c3, if_neg (by omega), if_neg (by omega), if_neg (by omega), if_pos (by omega), if_neg (by omega), if_neg (by omega), if_neg (by omega)]; simp
  rw [if_neg c3]
  by_cases c4 : k < 2560
  · rw [if_pos c4, if_neg (by omega), if_neg (by omega), if_pos (by omega), if_neg (by omega), if_neg (by omega), if_neg (by omega), if_neg (by omega)]; simp
  rw [if_neg c4]
  by_cases c5 : k < 3072
  · rw [if_pos c5, if_neg (by omega), if_pos (by omega), if_neg (by omega), if_neg (by omega), if_neg (by omega), if_neg (by omega), if_neg (by omega)]; simp
  · rw [if_neg c5, if_pos (by omega), if_neg (by omega), if_neg (by omega), if_neg (by omega), if_neg (by omega), if_neg (by omega), if_neg (by omega)]; simp

end Cert.Rf

end
-- ==== Proof.Arr.lean ====
/- Arrays as functions of natural coordinates, and the ten arrays the backward pass is given. -/
module

public import proofs.«01_k».proof.Proof.Rd
public import proofs.«01_k».proof.Proof.Spec

@[expose] public section

noncomputable section

namespace Cert.Rd

open Idealize.ShloMosaic

/-- The entries of `x` by their coordinates, zero outside. -/
def ar {s : Shape} (x : s.Idx → EReal) (c : Fin s.rank → ℕ) : EReal := if h : ∀ a, c a < s.size a then x fun a => ⟨c a, h a⟩ else 0

theorem ar_of {s : Shape} (x : s.Idx → EReal) (i : s.Idx) (c : Fin s.rank → ℕ) (h : ∀ a, (i a).val = c a) : x i = ar x c := by
  have e : c = at' i := funext fun a => (h a).symm
  subst e
  rw [ar, dif_pos fun a => (i a).isLt]

theorem Rd.ar {s : Shape} (x : s.Idx → EReal) : Rd x (ar x) := fun i => ar_of x i _ fun _ => rfl

/-- Every entry of `x` is a real number. -/
def Fin' {s : Shape} (x : s.Idx → EReal) : Prop := ∀ i, x i ≠ ⊥ ∧ x i ≠ ⊤

theorem ar_real {s : Shape} {x : s.Idx → EReal} (h : Fin' x) (c : Fin s.rank → ℕ) : ar x c = ((ar x c).toReal : EReal) := by
  rw [ar]
  split
  · exact (EReal.coe_toReal (h _).2 (h _).1).symm
  · rfl

end Cert.Rd

namespace Cert.Spec

/-- The entries of the ten arrays: `z`, `dcat`, `dgl`, then the parameters. -/
structure Args where
  (Z D G : ℕ → ℕ → EReal)
  (g b : ℕ → EReal)
  (ws : ℕ → ℕ → ℕ → EReal)
  (bs : ℕ → ℕ → EReal)
  (pw : ℕ → ℕ → ℕ → EReal)
  (ps : ℕ → EReal)
  (cw : ℕ → ℕ → EReal)

namespace Args
variable (A : Args)

def S : Re where
  u r c := (A.Z r c).toReal
  v r c := (A.Z r (512 + c)).toReal
  x r c := (A.Z r (1024 + c)).toReal
  da r c := (A.D r c).toReal
  db r c := (A.D r (512 + c)).toReal
  g c := (A.g c).toReal
  b c := (A.b c).toReal
  ps c := (A.ps c).toReal
  ws h t k := (A.ws h t k).toReal
  pw h t k := (A.pw h t k).toReal
  bs h t := (A.bs h t).toReal

def T : Cv where
  bg r c := A.Z r (1536 + c)
  cg r c := A.Z r (2048 + c)
  hc r c := A.Z r (2560 + c)
  dc r c := A.D r (1024 + c)
  cw := A.cw

/-- What the spatial gating unit and the pooling read is real. -/
structure Real : Prop where
  z : ∀ r c, c < 1536 → A.Z r c = ((A.Z r c).toReal : EReal)
  d : ∀ r c, c < 1024 → A.D r c = ((A.D r c).toReal : EReal)
  g : ∀ c, A.g c = ((A.g c).toReal : EReal)
  b : ∀ c, A.b c = ((A.b c).toReal : EReal)
  ps : ∀ c, A.ps c = ((A.ps c).toReal : EReal)
  ws : ∀ h t k, A.ws h t k = ((A.ws h t k).toReal : EReal)
  pw : ∀ h t k, A.pw h t k = ((A.pw h t k).toReal : EReal)
  bs : ∀ h t, A.bs h t = ((A.bs h t).toReal : EReal)

end Args

end Cert.Spec

end
-- ==== Proof.Consts.lean ====
/- The float words of the two programs, read as numbers. -/
module

public import proofs.«01_k».proof.Proof.Spec
public import proofs.«01_k».proof.KernelIdeal
public import proofs.«01_k».proof.ReferenceIdeal

@[expose] public section

noncomputable section

namespace Cert.Consts

open Idealize.ShloMosaic Cert.Spec

theorem f0 : Ideal.ofBits .f32 0x00000000#32 = ((0 : ℝ) : EReal) := by
  simp [Ideal.ofBits, Ideal.ieee, -EReal.coe_mul]
theorem f1 : Ideal.ofBits .f32 0x3F800000#32 = ((1 : ℝ) : EReal) := by
  simp [Ideal.ofBits, Ideal.ieee, -EReal.coe_mul]; norm_num
theorem f2 : Ideal.ofBits .f32 0x40000000#32 = ((2 : ℝ) : EReal) := by
  simp [Ideal.ofBits, Ideal.ieee, -EReal.coe_mul]; norm_num
theorem f3 : Ideal.ofBits .f32 0x40400000#32 = ((3 : ℝ) : EReal) := by
  simp [Ideal.ofBits, Ideal.ieee, -EReal.coe_mul]; norm_num
theorem f4 : Ideal.ofBits .f32 0x40800000#32 = ((4 : ℝ) : EReal) := by
  simp [Ideal.ofBits, Ideal.ieee, -EReal.coe_mul]; norm_num
theorem f8 : Ideal.ofBits .f32 0x41000000#32 = ((8 : ℝ) : EReal) := by
  simp [Ideal.ofBits, Ideal.ieee, -EReal.coe_mul]; norm_num
theorem f16 : Ideal.ofBits .f32 0x41800000#32 = ((16 : ℝ) : EReal) := by
  simp [Ideal.ofBits, Ideal.ieee, -EReal.coe_mul]; norm_num
theorem f512 : Ideal.ofBits .f32 0x44000000#32 = ((512 : ℝ) : EReal) := by
  simp [Ideal.ofBits, Ideal.ieee, -EReal.coe_mul]; norm_num
theorem fhalf : Ideal.ofBits .f32 0x3F000000#32 = ((1 / 2 : ℝ) : EReal) := by
  simp [Ideal.ofBits, Ideal.ieee, -EReal.coe_mul]; norm_num
theorem fmhalf : Ideal.ofBits .f32 0xBF000000#32 = ((-(1 / 2) : ℝ) : EReal) := by
  simp [Ideal.ofBits, Ideal.ieee, -EReal.coe_mul]; norm_num
theorem feps : Ideal.ofBits .f32 0x358637BD#32 = ((eps : ℝ) : EReal) := by
  simp [Ideal.ofBits, Ideal.ieee, -EReal.coe_mul, eps]; norm_num
theorem fC : Ideal.ofBits .f32 0x3D372713#32 = ((C : ℝ) : EReal) := by
  simp [Ideal.ofBits, Ideal.ieee, -EReal.coe_mul, C]; norm_num
theorem fK : Ideal.ofBits .f32 0x3F4C422A#32 = ((K : ℝ) : EReal) := by
  simp [Ideal.ofBits, Ideal.ieee, -EReal.coe_mul, K]; norm_num
theorem h1 : Ideal.ofBits .bf16 0x3F80#16 = ((1 : ℝ) : EReal) := by
  simp [Ideal.ofBits, Ideal.ieee, -EReal.coe_mul]; norm_num
theorem hhalf : Ideal.ofBits .bf16 0x3F00#16 = ((1 / 2 : ℝ) : EReal) := by
  simp [Ideal.ofBits, Ideal.ieee, -EReal.coe_mul]; norm_num

theorem kC : Named.named (F := Ideal) Cert.KernelIdeal.κ "gelu_c" (φ := .bf16) 0x3D37#16 = ((C : ℝ) : EReal) :=
  IdealRules.named_const.ideal_named_scalar _ _ _ _ rfl
theorem kK : Named.named (F := Ideal) Cert.KernelIdeal.κ "gelu_k" (φ := .bf16) 0x3F4C#16 = ((K : ℝ) : EReal) :=
  IdealRules.named_const.ideal_named_scalar _ _ _ _ rfl
theorem k3C : Named.named (F := Ideal) Cert.KernelIdeal.κ "gelu_3c" (φ := .bf16) 0x3E09#16 = ((3 * C : ℝ) : EReal) := by
  rw [show (3 * C : ℝ) = 36009273 / 268435456 by unfold C; norm_num]
  exact IdealRules.named_const.ideal_named_scalar _ _ _ _ rfl

end Cert.Consts

end
-- ==== Proof.RefBase.lean ====
/- What the reference is given, read as the backward pass's arrays, and the shapes its readings take. -/
module

public import proofs.«01_k».proof.Proof.HostRd
public import proofs.«01_k».proof.Proof.RdMem
public import proofs.«01_k».proof.Proof.RefMath
public import proofs.«01_k».proof.Proof.Arr
public import proofs.«01_k».proof.Proof.Consts
public import proofs.«01_k».proof.Proof.Gen.ReferenceIdeal.Read
public import Idealize.ShloMosaic.Lib.WordCmp

@[expose] public section

set_option maxRecDepth 16384

noncomputable section

namespace Cert.Rf

open Idealize.ShloMosaic Cert.Rd Cert.Spec Cert.ReferenceIdeal Cert.ReferenceIdeal.Read

section Readings
variable {α : Type}
/-- Tokens by channels: two sequences of 4096 tokens. -/
abbrev tok (F : ℕ → ℕ → α) : (Fin 3 → ℕ) → α := fun c => F (4096 * c 0 + c 1) (c 2)
abbrev col (F : ℕ → α) : (Fin 3 → ℕ) → α := fun c => F (4096 * c 0 + c 1)
abbrev row2 (F : ℕ → α) : (Fin 2 → ℕ) → α := fun c => F (4096 * c 0 + c 1)
abbrev lane (F : ℕ → α) : (Fin 3 → ℕ) → α := fun c => F (c 2)
abbrev vec (F : ℕ → α) : (Fin 1 → ℕ) → α := fun c => F (c 0)
/-- Chunks of 128 tokens, by heads of 128 channels. -/
abbrev ch (F : ℕ → ℕ → ℕ → α) : (Fin 5 → ℕ) → α := fun c => F (32 * c 0 + c 1) (c 2) (128 * c 3 + c 4)
/-- Tokens by groups of 128 channels. -/
abbrev grp (F : ℕ → ℕ → α) : (Fin 4 → ℕ) → α := fun c => F (4096 * c 0 + c 1) (128 * c 2 + c 3)
abbrev pln (F : ℕ → ℕ → ℕ → α) : (Fin 3 → ℕ) → α := fun c => F (c 0) (c 1) (c 2)
end Readings

/-- The ten arguments hold the arrays. -/
structure In (A : Args) (x0 : (⟨S8192x6144, .bf16⟩ : BufTy).Contents (Elt Ideal)) (x1 : (⟨S8192x1536, .bf16⟩ : BufTy).Contents (Elt Ideal))
    (x2 : (⟨S8192x3072, .bf16⟩ : BufTy).Contents (Elt Ideal)) (x3 x4 : (⟨S512, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S512, .f32⟩ : BufTy).Contents (Elt Ideal))
    (x9 : (⟨S3x512, .f32⟩ : BufTy).Contents (Elt Ideal)) : Prop where
  z : Rd (s := S8192x6144) x0 fun c => A.Z (c 0) (c 1)
  d : Rd (s := S8192x1536) x1 fun c => A.D (c 0) (c 1)
  gl : Rd (s := S8192x3072) x2 fun c => A.G (c 0) (c 1)
  g : Rd (s := S512) x3 (vec A.g)
  b : Rd (s := S512) x4 (vec A.b)
  ws : Rd (s := S4x128x128) x5 (pln A.ws)
  bs : Rd (s := S4x128) x6 fun c => A.bs (c 0) (c 1)
  pw : Rd (s := S4x128x128) x7 (pln A.pw)
  ps : Rd (s := S512) x8 (vec A.ps)
  cw : Rd (s := S3x512) x9 fun c => A.cw (c 0) (c 1)

variable {α : Type} [AddCommMonoid α] [Mul α] [Emb α]

theorem cg1 {β γ : Type} (F : β → γ) {a a' : β} (h : a = a') : F a = F a' := congrArg F h
theorem cg2 {β γ δ : Type} (F : β → γ → δ) {a a' : β} {b b' : γ} (h : a = a') (h' : b = b') : F a b = F a' b' := congrArg₂ F h h'
theorem cg3 {β γ δ ε : Type} (F : β → γ → δ → ε) {a a' : β} {b b' : γ} {c c' : δ} (h : a = a') (h' : b = b') (h'' : c = c') : F a b c = F a' b' c' := by
  rw [h, h', h'']
theorem cg4 {β γ δ ε ζ : Type} (F : β → γ → δ → ε → ζ) {a a' : β} {b b' : γ} {c c' : δ} {d d' : ε} (h : a = a') (h' : b = b') (h'' : c = c') (h3 : d = d') :
    F a b c d = F a' b' c' d' := by
  rw [h, h', h'', h3]

/-- One piece of several along an axis. -/
theorem Rd.piece {n : ℕ} {e : Fin n → ℕ} {a : Fin n} {f : (Fin n → ℕ) → α} (L : List ((s : Shape) × (s.Idx → EReal))) (h : Shape.Concatenates (L.map (·.1)) ⟨n, e⟩ a)
    (i : (⟨n, e⟩ : Shape).Idx) (k : ℕ) (hk : k < L.length) (dk : Fin n → ℕ) (xk : (⟨n, dk⟩ : Shape).Idx → EReal) (hx : L[k] = ⟨⟨n, dk⟩, xk⟩) (pre : ℕ)
    (hpre : (((L.take k).map (·.1)).map fun s => if h : s.rank = n then s.size (a.cast h.symm) else 0).sum = pre)
    (hz : ∀ b, b ≠ a → dk b = e b) (hlo : pre ≤ (i a).val) (hhi : (i a).val < pre + dk a)
    (hr : Rd xk fun c => f fun b => if b = a then pre + c b else c b) : concatenate ⟨n, e⟩ a L h i = Emb.up (f (at' i)) := by
  let j : (⟨n, dk⟩ : Shape).Idx := fun b => ⟨if b = a then (i b).val - pre else (i b).val, by
    by_cases hb : b = a
    · subst hb; rw [if_pos rfl]; show _ < dk b; omega
    · rw [if_neg hb]; have := hz b hb; show _ < dk b; rw [this]; exact (i b).isLt⟩
  rw [concatenate_apply_piece (t := ⟨n, e⟩) a L h i k hk ⟨n, dk⟩ xk hx rfl pre hpre j
    (fun b hb => by have hb' : b ≠ a := hb; show (if b = a then _ else _) = _; rw [if_neg hb']; rfl)
    (by show pre + (if a = a then (i a).val - pre else _) = (i a).val; rw [if_pos rfl]; omega), hr j]
  refine congrArg (fun c => Emb.up (f c)) (funext fun b => ?_)
  by_cases hb : b = a
  · subst hb
    show (if b = b then pre + (if b = b then (i b).val - pre else (i b).val) else _) = (i b).val
    rw [if_pos rfl, if_pos rfl]; omega
  · show (if b = a then _ else if b = a then _ else (i b).val) = (i b).val
    rw [if_neg hb, if_neg hb]

/-- A scalar spread over a shape. -/
theorem scal {s : Shape} {x : S_.Idx → EReal} {r : α} (h : ∀ i, x i = Emb.up r) (hb : S_.BroadcastsInDim s ![]) : Rd (broadcastInDim s ![] hb x) fun _ => r :=
  fun _ => h _

theorem z0 (i : S_.Idx) : constant (F := Ideal) S_ .f32 0x00000000#32 i = Emb.up (0 : ℝ) := Consts.f0
theorem z0E (i : S_.Idx) : constant (F := Ideal) S_ .f32 0x00000000#32 i = Emb.up (0 : EReal) := Consts.f0

/-- A sum over all tokens, taken in the reference's two steps. -/
theorem colsum {F : ℕ → ℕ → α} {x : FVec Ideal S2x4096x512 .f32} (hx : Rd x (tok F)) {v w : FVec Ideal S_ .f32} (hv : ∀ i, v i = Emb.up (0 : α)) (hw : ∀ i, w i = Emb.up (0 : α))
    (h1 : S2x4096x512.ReducesTo [0, 1] S512) (hu : 0 < S_.numel) (h2 : S512.ShapeCasts S1x1x512) (h3 : S1x1x512.ReducesTo [0, 1] S512) :
    Rd (s := S512) (Host.reduceAdd (shapeCast S1x1x512 (Host.reduceAdd x v h1 hu) h2) w h3 hu) (vec fun c => ∑ r ∈ Finset.range 8192, F r c) := by
  have e1 := Rd.hred01 (m := 2) (n := 4096) (k := 512) hx hv h1 hu
  have e2 : Rd (s := S1x1x512) (shapeCast S1x1x512 (Host.reduceAdd x v h1 hu) h2) (lane fun c => ∑ r ∈ Finset.range 8192, F r c) := fun i => by
    have b0 : (i 0).val < 1 := (i 0).isLt
    have b1 : (i 1).val < 1 := (i 1).isLt
    rw [shapeCast_apply _ h2 i (ValueIdx.ix1 (i 2)) (by
      rw [Shape.rowMajor_val_three, Shape.rowMajor_val_one]
      show (i 2).val = ((i 0).val * 1 + (i 1).val) * 512 + (i 2).val; omega), e1 _]
    exact congrArg Emb.up (sum_tok fun r => F r (i 2).val)
  refine (Rd.hred01 (m := 1) (n := 1) (k := 512) e2 hw h3 hu).congr fun c _ => ?_
  simp only [Finset.sum_range_one]
  rfl

/-- Padding along the last axis of three. -/
theorem padCol {m n k e : ℕ} {f : (Fin 3 → ℕ) → α} {x : (⟨3, ![m, n, k]⟩ : Shape).Idx → EReal} (hx : Rd x f) (lo hi : ℕ) {u : Shape} {v : u.Idx → EReal} (hv : ∀ i, v i = Emb.up (0 : α))
    (h : (⟨3, ![m, n, k]⟩ : Shape).Pads ![0, 0, lo] ![0, 0, hi] ![0, 0, 0] ⟨3, ![m, n, e]⟩) (hu : 0 < u.numel) :
    Rd (s := ⟨3, ![m, n, e]⟩) (pad ⟨3, ![m, n, e]⟩ ![0, 0, lo] ![0, 0, hi] ![0, 0, 0] x v h hu) fun c => if lo ≤ c 2 ∧ c 2 < lo + k then f ![c 0, c 1, c 2 - lo] else 0 :=
  (Rd.pad hx ![0, 0, lo] ![0, 0, hi] (fun a => by match a with | ⟨0, _⟩ => rfl | ⟨1, _⟩ => rfl | ⟨2, _⟩ => rfl) hv h hu).congr fun c hc => by
    have h0 : c 0 < m := hc 0
    have h1 : c 1 < n := hc 1
    refine if_congr ⟨fun q => q 2, fun q a => ?_⟩ (congrArg f (funext fun a => ?_)) rfl
    · match a with
      | ⟨0, _⟩ => exact ⟨Nat.zero_le _, by show c 0 < 0 + m; omega⟩
      | ⟨1, _⟩ => exact ⟨Nat.zero_le _, by show c 1 < 0 + n; omega⟩
      | ⟨2, _⟩ => exact q
    · match a with | ⟨0, _⟩ | ⟨1, _⟩ | ⟨2, _⟩ => rfl

/-- Padding along the middle axis of three. -/
theorem padMid {m n k e : ℕ} {f : (Fin 3 → ℕ) → α} {x : (⟨3, ![m, n, k]⟩ : Shape).Idx → EReal} (hx : Rd x f) (lo hi : ℕ) {u : Shape} {v : u.Idx → EReal} (hv : ∀ i, v i = Emb.up (0 : α))
    (h : (⟨3, ![m, n, k]⟩ : Shape).Pads ![0, lo, 0] ![0, hi, 0] ![0, 0, 0] ⟨3, ![m, e, k]⟩) (hu : 0 < u.numel) :
    Rd (s := ⟨3, ![m, e, k]⟩) (pad ⟨3, ![m, e, k]⟩ ![0, lo, 0] ![0, hi, 0] ![0, 0, 0] x v h hu) fun c => if lo ≤ c 1 ∧ c 1 < lo + n then f ![c 0, c 1 - lo, c 2] else 0 :=
  (Rd.pad hx ![0, lo, 0] ![0, hi, 0] (fun a => by match a with | ⟨0, _⟩ => rfl | ⟨1, _⟩ => rfl | ⟨2, _⟩ => rfl) hv h hu).congr fun c hc => by
    have h0 : c 0 < m := hc 0
    have h2 : c 2 < k := hc 2
    refine if_congr ⟨fun q => q 1, fun q a => ?_⟩ (congrArg f (funext fun a => ?_)) rfl
    · match a with
      | ⟨0, _⟩ => exact ⟨Nat.zero_le _, by show c 0 < 0 + m; omega⟩
      | ⟨1, _⟩ => exact q
      | ⟨2, _⟩ => exact ⟨Nat.zero_le _, by show c 2 < 0 + k; omega⟩
    · match a with | ⟨0, _⟩ | ⟨1, _⟩ | ⟨2, _⟩ => rfl

/-- Padding along the first axis of two. -/
theorem padRow {m k e : ℕ} {f : (Fin 2 → ℕ) → α} {x : (⟨2, ![m, k]⟩ : Shape).Idx → EReal} (hx : Rd x f) (lo hi : ℕ) {u : Shape} {v : u.Idx → EReal} (hv : ∀ i, v i = Emb.up (0 : α))
    (h : (⟨2, ![m, k]⟩ : Shape).Pads ![lo, 0] ![hi, 0] ![0, 0] ⟨2, ![e, k]⟩) (hu : 0 < u.numel) :
    Rd (s := ⟨2, ![e, k]⟩) (pad ⟨2, ![e, k]⟩ ![lo, 0] ![hi, 0] ![0, 0] x v h hu) fun c => if lo ≤ c 0 ∧ c 0 < lo + m then f ![c 0 - lo, c 1] else 0 :=
  (Rd.pad hx ![lo, 0] ![hi, 0] (fun a => by match a with | ⟨0, _⟩ => rfl | ⟨1, _⟩ => rfl) hv h hu).congr fun c hc => by
    have h1 : c 1 < k := hc 1
    refine if_congr ⟨fun q => q 0, fun q a => ?_⟩ (congrArg f (funext fun a => ?_)) rfl
    · match a with
      | ⟨0, _⟩ => exact q
      | ⟨1, _⟩ => exact ⟨Nat.zero_le _, by show c 1 < 0 + k; omega⟩
    · match a with | ⟨0, _⟩ | ⟨1, _⟩ => rfl

/-- Zeros in front, along the middle axis of three. -/
theorem catMid {m n k p e : ℕ} {f : (Fin 3 → ℕ) → α} {z : (⟨3, ![m, p, k]⟩ : Shape).Idx → EReal} (hz : Rd z fun _ => (0 : α)) {x : (⟨3, ![m, n, k]⟩ : Shape).Idx → EReal} (hx : Rd x f)
    (h : Shape.Concatenates [⟨3, ![m, p, k]⟩, ⟨3, ![m, n, k]⟩] ⟨3, ![m, e, k]⟩ 1) :
    Rd (s := ⟨3, ![m, e, k]⟩) (concatenate ⟨3, ![m, e, k]⟩ 1 [⟨⟨3, ![m, p, k]⟩, z⟩, ⟨⟨3, ![m, n, k]⟩, x⟩] h) fun c => if c 1 < p then 0 else f ![c 0, c 1 - p, c 2] := by
  refine Rd.cat2 (n := 3) (a := 1) h p rfl (hz.congr fun c hc => (if_pos (show c 1 < p from hc 1)).symm) (hx.congr fun c hc => ?_)
  show f c = if p + c 1 < p then 0 else f ![c 0, p + c 1 - p, c 2]
  rw [if_neg (by omega)]
  refine congrArg f (funext fun a => ?_)
  match a with
  | ⟨0, _⟩ => rfl
  | ⟨1, _⟩ => show c 1 = p + c 1 - p; omega
  | ⟨2, _⟩ => rfl

/-- The number of tokens in a window, as the reference counts it. -/
theorem cnt_word (t : ℕ) (ht : t < 4096) (w : ℕ) (hw : w < 4096) :
    (FloatOps.sitofp (F := Ideal) .f32 (IntOp.minsi (IntOp.addi (BitVec.ofNat 32 t) 1#32) (BitVec.ofNat 32 w)) : EReal)
      = ((min ((t + 1 : ℕ) : ℝ) (w : ℝ) : ℝ) : EReal) := by
  have e1 : IntOp.addi (BitVec.ofNat 32 t) 1#32 = BitVec.ofNat 32 (t + 1) := (BitVec.ofNat_add t 1).symm
  have i1 : (BitVec.ofNat 32 (t + 1)).toInt = ((t + 1 : ℕ) : ℤ) := WordCmp.toInt_ofNat_of_lt (by norm_num; omega)
  have i2 : (BitVec.ofNat 32 w).toInt = (w : ℤ) := WordCmp.toInt_ofNat_of_lt (by norm_num; omega)
  rw [e1]
  have e2 : (IntOp.minsi (BitVec.ofNat 32 (t + 1)) (BitVec.ofNat 32 w)).toInt = ((min (t + 1) w : ℕ) : ℤ) := by
    unfold IntOp.minsi
    by_cases h : t + 1 < w
    · rw [if_pos (by unfold BitVec.slt; rw [i1, i2]; simpa using by omega), i1, Nat.min_eq_left h.le]
    · rw [if_neg (by unfold BitVec.slt; rw [i1, i2]; simpa using by omega), i2, Nat.min_eq_right (by omega)]
  show ((((IntOp.minsi (BitVec.ofNat 32 (t + 1)) (BitVec.ofNat 32 w)).toInt : ℤ) : ℝ) : EReal) = _
  rw [e2]
  push_cast
  rfl

end Cert.Rf

end
-- ==== Proof.RefIn.lean ====
/- The arguments of the reference, split into branches. -/
module

public import proofs.«01_k».proof.Proof.RefBase

@[expose] public section

set_option maxRecDepth 16384

noncomputable section

namespace Cert.Rf

open Idealize.ShloMosaic Cert.Rd Cert.Spec Cert.Consts Cert.ReferenceIdeal Cert.ReferenceIdeal.Gen Cert.ReferenceIdeal.Read

variable {A : Args} {x0 : (⟨S8192x6144, .bf16⟩ : BufTy).Contents (Elt Ideal)} {x1 : (⟨S8192x1536, .bf16⟩ : BufTy).Contents (Elt Ideal)}
  {x2 : (⟨S8192x3072, .bf16⟩ : BufTy).Contents (Elt Ideal)} {x3 x4 : (⟨S512, .f32⟩ : BufTy).Contents (Elt Ideal)}
  {x5 : (⟨S4x128x128, .f32⟩ : BufTy).Contents (Elt Ideal)} {x6 : (⟨S4x128, .f32⟩ : BufTy).Contents (Elt Ideal)}
  {x7 : (⟨S4x128x128, .f32⟩ : BufTy).Contents (Elt Ideal)} {x8 : (⟨S512, .f32⟩ : BufTy).Contents (Elt Ideal)}
  {x9 : (⟨S3x512, .f32⟩ : BufTy).Contents (Elt Ideal)} (I : In A x0 x1 x2 x3 x4 x5 x6 x7 x8 x9) (hr : A.Real)
include I hr

theorem va3 : Rd (s := S512) x3 (fun c : Fin 1 → ℕ => (A.S.g) (c 0)) :=
  I.g.real fun c _ => hr.g _

theorem va4 : Rd (s := S512) x4 (fun c : Fin 1 → ℕ => (A.S.b) (c 0)) :=
  I.b.real fun c _ => hr.b _

theorem va5 : Rd (s := S4x128x128) x5 (fun c : Fin 3 → ℕ => (A.S.ws) (c 0) (c 1) (c 2)) :=
  I.ws.real fun c _ => hr.ws _ _ _

theorem va6 : Rd (s := S4x128) x6 (fun c : Fin 2 → ℕ => (A.S.bs) (c 0) (c 1)) :=
  I.bs.real fun c _ => hr.bs _ _

theorem va7 : Rd (s := S4x128x128) x7 (fun c : Fin 3 → ℕ => (A.S.pw) (c 0) (c 1) (c 2)) :=
  I.pw.real fun c _ => hr.pw _ _ _

theorem va8 : Rd (s := S512) x8 (fun c : Fin 1 → ℕ => (A.S.ps) (c 0)) :=
  I.ps.real fun c _ => hr.ps _

theorem va9 : Rd (s := S3x512) x9 (fun c : Fin 2 → ℕ => (A.T.cw) (c 0) (c 1)) :=
  I.cw

theorem v0 : Rd (s := S8192x6144) (val_main_v0 (F := Ideal) x0) (fun c : Fin 2 → ℕ => (A.Z) (c 0) (c 1)) :=
  I.z.extf _

theorem v1 : Rd (s := S2x4096x6144) (val_main_v1 (F := Ideal) x0) (fun c : Fin 3 → ℕ => (A.Z) (4096*c 0+c 1) (c 2)) :=
  Rd.of_apply (v0 I hr) (val_main_v1_apply x0) fun i => by have h0 : (i 0).val < 2 := (i 0).isLt; have h1 : (i 1).val < 4096 := (i 1).isLt; have h2 : (i 2).val < 6144 := (i 2).isLt; exact cg2 (A.Z) (show ((((i 0).val * 4096 + (i 1).val) * 6144 + (i 2).val) / 6144) = 4096*(i 0).val+(i 1).val by omega) (show ((((i 0).val * 4096 + (i 1).val) * 6144 + (i 2).val) % 6144) = (i 2).val by omega)

theorem v2 : Rd (s := S8192x1536) (val_main_v2 (F := Ideal) x1) (fun c : Fin 2 → ℕ => (A.D) (c 0) (c 1)) :=
  I.d.extf _

theorem v3 : Rd (s := S2x4096x1536) (val_main_v3 (F := Ideal) x1) (fun c : Fin 3 → ℕ => (A.D) (4096*c 0+c 1) (c 2)) :=
  Rd.of_apply (v2 I hr) (val_main_v3_apply x1) fun i => by have h0 : (i 0).val < 2 := (i 0).isLt; have h1 : (i 1).val < 4096 := (i 1).isLt; have h2 : (i 2).val < 1536 := (i 2).isLt; exact cg2 (A.D) (show ((((i 0).val * 4096 + (i 1).val) * 1536 + (i 2).val) / 1536) = 4096*(i 0).val+(i 1).val by omega) (show ((((i 0).val * 4096 + (i 1).val) * 1536 + (i 2).val) % 1536) = (i 2).val by omega)

theorem v7 : Rd (s := S8192x3072) (val_main_v7 (F := Ideal) x2) (fun c : Fin 2 → ℕ => (A.G) (c 0) (c 1)) :=
  I.gl.extf _

theorem v8 : Rd (s := S2x4096x3072) (val_main_v8 (F := Ideal) x2) (fun c : Fin 3 → ℕ => (A.G) (4096*c 0+c 1) (c 2)) :=
  Rd.of_apply (v7 I hr) (val_main_v8_apply x2) fun i => by have h0 : (i 0).val < 2 := (i 0).isLt; have h1 : (i 1).val < 4096 := (i 1).isLt; have h2 : (i 2).val < 3072 := (i 2).isLt; exact cg2 (A.G) (show ((((i 0).val * 4096 + (i 1).val) * 3072 + (i 2).val) / 3072) = 4096*(i 0).val+(i 1).val by omega) (show ((((i 0).val * 4096 + (i 1).val) * 3072 + (i 2).val) % 3072) = (i 2).val by omega)

theorem v4 : Rd (s := S2x4096x512) (val_main_v4 (F := Ideal) x1) (fun c : Fin 3 → ℕ => (A.S.da) (4096*c 0+c 1) (c 2)) :=
  (Rd.of_apply (t := S2x4096x512) (g := (fun c : Fin 3 → ℕ => (A.D) (4096*c 0+c 1) (c 2))) (v3 I hr) (val_main_v4_apply x1) fun i => rfl).real fun c hc => hr.d _ _ (by have h : c 2 < 512 := hc 2; omega)

theorem v5 : Rd (s := S2x4096x512) (val_main_v5 (F := Ideal) x1) (fun c : Fin 3 → ℕ => (A.S.db) (4096*c 0+c 1) (c 2)) :=
  (Rd.of_apply (t := S2x4096x512) (g := (fun c : Fin 3 → ℕ => (A.D) (4096*c 0+c 1) (512+c 2))) (v3 I hr) (val_main_v5_apply x1) fun i => rfl).real fun c hc => hr.d _ _ (by have h : c 2 < 512 := hc 2; omega)

theorem v6 : Rd (s := S2x4096x512) (val_main_v6 (F := Ideal) x1) (fun c : Fin 3 → ℕ => (A.T.dc) (4096*c 0+c 1) (c 2)) :=
  Rd.of_apply (v3 I hr) (val_main_v6_apply x1) fun i => rfl

theorem v9 : Rd (s := S2x4096x512) (val_main_v9 (F := Ideal) x0) (fun c : Fin 3 → ℕ => (A.S.u) (4096*c 0+c 1) (c 2)) :=
  (Rd.of_apply (t := S2x4096x512) (g := (fun c : Fin 3 → ℕ => (A.Z) (4096*c 0+c 1) (c 2))) (v1 I hr) (val_main_v9_apply x0) fun i => rfl).real fun c hc => hr.z _ _ (by have h : c 2 < 512 := hc 2; omega)

theorem v10 : Rd (s := S2x4096x512) (val_main_v10 (F := Ideal) x0) (fun c : Fin 3 → ℕ => (A.S.v) (4096*c 0+c 1) (c 2)) :=
  (Rd.of_apply (t := S2x4096x512) (g := (fun c : Fin 3 → ℕ => (A.Z) (4096*c 0+c 1) (512+c 2))) (v1 I hr) (val_main_v10_apply x0) fun i => rfl).real fun c hc => hr.z _ _ (by have h : c 2 < 512 := hc 2; omega)

theorem v11 : Rd (s := S2x4096x512) (val_main_v11 (F := Ideal) x0) (fun c : Fin 3 → ℕ => (A.S.x) (4096*c 0+c 1) (c 2)) :=
  (Rd.of_apply (t := S2x4096x512) (g := (fun c : Fin 3 → ℕ => (A.Z) (4096*c 0+c 1) (1024+c 2))) (v1 I hr) (val_main_v11_apply x0) fun i => rfl).real fun c hc => hr.z _ _ (by have h : c 2 < 512 := hc 2; omega)

theorem v12 : Rd (s := S2x4096x512) (val_main_v12 (F := Ideal) x0) (fun c : Fin 3 → ℕ => (A.T.bg) (4096*c 0+c 1) (c 2)) :=
  Rd.of_apply (v1 I hr) (val_main_v12_apply x0) fun i => rfl

theorem v13 : Rd (s := S2x4096x512) (val_main_v13 (F := Ideal) x0) (fun c : Fin 3 → ℕ => (A.T.cg) (4096*c 0+c 1) (c 2)) :=
  Rd.of_apply (v1 I hr) (val_main_v13_apply x0) fun i => rfl

theorem v14 : Rd (s := S2x4096x512) (val_main_v14 (F := Ideal) x0) (fun c : Fin 3 → ℕ => (A.T.hc) (4096*c 0+c 1) (c 2)) :=
  Rd.of_apply (v1 I hr) (val_main_v14_apply x0) fun i => rfl

end Cert.Rf

end
-- ==== Proof.RefGate.lean ====
/- The spatial gating unit of the reference, forward. -/
module

public import proofs.«01_k».proof.Proof.RefIn

@[expose] public section

set_option maxRecDepth 16384

noncomputable section

namespace Cert.Rf

open Idealize.ShloMosaic Cert.Rd Cert.Spec Cert.Consts Cert.ReferenceIdeal Cert.ReferenceIdeal.Gen Cert.ReferenceIdeal.Read

variable {A : Args} {x0 : (⟨S8192x6144, .bf16⟩ : BufTy).Contents (Elt Ideal)} {x1 : (⟨S8192x1536, .bf16⟩ : BufTy).Contents (Elt Ideal)}
  {x2 : (⟨S8192x3072, .bf16⟩ : BufTy).Contents (Elt Ideal)} {x3 x4 : (⟨S512, .f32⟩ : BufTy).Contents (Elt Ideal)}
  {x5 : (⟨S4x128x128, .f32⟩ : BufTy).Contents (Elt Ideal)} {x6 : (⟨S4x128, .f32⟩ : BufTy).Contents (Elt Ideal)}
  {x7 : (⟨S4x128x128, .f32⟩ : BufTy).Contents (Elt Ideal)} {x8 : (⟨S512, .f32⟩ : BufTy).Contents (Elt Ideal)}
  {x9 : (⟨S3x512, .f32⟩ : BufTy).Contents (Elt Ideal)} (I : In A x0 x1 x2 x3 x4 x5 x6 x7 x8 x9) (hr : A.Real)
include I hr

theorem v19 : Rd (s := S2x4096x512) (val_main_v19 (F := Ideal) x0) (fun c : Fin 3 → ℕ => (fun r c => 3*(A.S.u r c*A.S.u r c)) (4096*c 0+c 1) (c 2)) :=
  (scal (fun _ => f3) _).mulf ((v9 I hr).mulf (v9 I hr))

theorem v25 : Rd (s := S2x4096x512) (val_main_v25 (F := Ideal) x0) (fun c : Fin 3 → ℕ => (fun r c => th (A.S.u r c)) (4096*c 0+c 1) (c 2)) :=
  ((scal (fun _ => fK) _).mulf ((v9 I hr).addf ((scal (fun _ => fC) _).mulf (((v9 I hr).mulf (v9 I hr)).mulf (v9 I hr))))).htanh.congr fun c _ => th_eq _

theorem v30 : Rd (s := S2x4096x512) (val_main_v30 (F := Ideal) x0) (fun c : Fin 3 → ℕ => (fun r c => (1+th (A.S.u r c))*(1-th (A.S.u r c))) (4096*c 0+c 1) (c 2)) :=
  ((scal (fun _ => f1) _).addf (v25 I hr)).mulf ((scal (fun _ => f1) _).subf (v25 I hr))

theorem v34 : Rd (s := S2x4096x512) (val_main_v34 (F := Ideal) x0) (fun c : Fin 3 → ℕ => (fun r c => 1/2*(1+th (A.S.u r c))) (4096*c 0+c 1) (c 2)) :=
  (scal (fun _ => fhalf) _).mulf ((scal (fun _ => f1) _).addf (v25 I hr))

theorem v35 : Rd (s := S2x4096x512) (val_main_v35 (F := Ideal) x0) (fun c : Fin 3 → ℕ => (fun r c => gelu (A.S.u r c)) (4096*c 0+c 1) (c 2)) :=
  ((v9 I hr).mulf (v34 I hr)).congr fun c _ => gelu_eq _

theorem v40 : Rd (s := S2x4096x512) (val_main_v40 (F := Ideal) x0) (fun c : Fin 3 → ℕ => (fun r c => 3*(A.S.v r c*A.S.v r c)) (4096*c 0+c 1) (c 2)) :=
  (scal (fun _ => f3) _).mulf ((v10 I hr).mulf (v10 I hr))

theorem v46 : Rd (s := S2x4096x512) (val_main_v46 (F := Ideal) x0) (fun c : Fin 3 → ℕ => (fun r c => th (A.S.v r c)) (4096*c 0+c 1) (c 2)) :=
  ((scal (fun _ => fK) _).mulf ((v10 I hr).addf ((scal (fun _ => fC) _).mulf (((v10 I hr).mulf (v10 I hr)).mulf (v10 I hr))))).htanh.congr fun c _ => th_eq _

theorem v51 : Rd (s := S2x4096x512) (val_main_v51 (F := Ideal) x0) (fun c : Fin 3 → ℕ => (fun r c => (1+th (A.S.v r c))*(1-th (A.S.v r c))) (4096*c 0+c 1) (c 2)) :=
  ((scal (fun _ => f1) _).addf (v46 I hr)).mulf ((scal (fun _ => f1) _).subf (v46 I hr))

theorem v55 : Rd (s := S2x4096x512) (val_main_v55 (F := Ideal) x0) (fun c : Fin 3 → ℕ => (fun r c => 1/2*(1+th (A.S.v r c))) (4096*c 0+c 1) (c 2)) :=
  (scal (fun _ => fhalf) _).mulf ((scal (fun _ => f1) _).addf (v46 I hr))

theorem v56 : Rd (s := S2x4096x512) (val_main_v56 (F := Ideal) x0) (fun c : Fin 3 → ℕ => (A.S.vg) (4096*c 0+c 1) (c 2)) :=
  ((v10 I hr).mulf (v55 I hr)).congr fun c _ => gelu_eq _

theorem v57 : Rd (s := S2x4096) (val_main_v57 (F := Ideal) x0) (fun c : Fin 2 → ℕ => (fun r => ∑ k ∈ Finset.range 512, A.S.vg r k) (4096*c 0+c 1)) :=
  Rd.of_sum (v56 I hr) f0 (val_main_v57_apply x0) (fun c k => A.S.vg (4096*c 0+c 1) k) fun i k => rfl

theorem v58 : Rd (s := S2x4096x1) (val_main_v58 (F := Ideal) x0) (fun c : Fin 3 → ℕ => (fun r => ∑ k ∈ Finset.range 512, A.S.vg r k) (4096*c 0+c 1)) :=
  Rd.of_apply (v57 I hr) (val_main_v58_apply x0) fun i => rfl

theorem v60 : Rd (s := S2x4096x1) (val_main_v60 (F := Ideal) x0) (fun c : Fin 3 → ℕ => (A.S.mu) (4096*c 0+c 1)) :=
  (v58 I hr).hdivf (scal (fun _ => f512) _) (fun c _ => by norm_num)

theorem v61 : Rd (s := S2x4096x512) (val_main_v61 (F := Ideal) x0) (fun c : Fin 3 → ℕ => (A.S.mu) (4096*c 0+c 1)) :=
  Rd.of_apply (v60 I hr) (val_main_v61_apply x0) fun i => rfl

theorem v62 : Rd (s := S2x4096x512) (val_main_v62 (F := Ideal) x0) (fun c : Fin 3 → ℕ => (A.S.vc) (4096*c 0+c 1) (c 2)) :=
  (v56 I hr).subf (v61 I hr)

theorem v65 : Rd (s := S2x4096x512) (val_main_v65 (F := Ideal) x0) (fun c : Fin 3 → ℕ => (fun r c => 2*A.S.vc r c) (4096*c 0+c 1) (c 2)) :=
  (scal (fun _ => f2) _).mulf (v62 I hr)

theorem v66 : Rd (s := S2x4096) (val_main_v66 (F := Ideal) x0) (fun c : Fin 2 → ℕ => (fun r => ∑ k ∈ Finset.range 512, A.S.vc r k * A.S.vc r k) (4096*c 0+c 1)) :=
  Rd.of_sum ((v62 I hr).mulf (v62 I hr)) f0 (val_main_v66_apply x0) (fun c k => A.S.vc (4096*c 0+c 1) k * A.S.vc (4096*c 0+c 1) k) fun i k => rfl

theorem v67 : Rd (s := S2x4096x1) (val_main_v67 (F := Ideal) x0) (fun c : Fin 3 → ℕ => (fun r => ∑ k ∈ Finset.range 512, A.S.vc r k * A.S.vc r k) (4096*c 0+c 1)) :=
  Rd.of_apply (v66 I hr) (val_main_v67_apply x0) fun i => rfl

theorem v70 : Rd (s := S2x4096x512) (val_main_v70 (F := Ideal) x0) (fun c : Fin 3 → ℕ => (A.S.mu) (4096*c 0+c 1)) :=
  Rd.of_apply (v60 I hr) (val_main_v70_apply x0) fun i => rfl

theorem v71 : Rd (s := S2x4096x512) (val_main_v71 (F := Ideal) x0) (fun c : Fin 3 → ℕ => (A.S.vc) (4096*c 0+c 1) (c 2)) :=
  (v56 I hr).subf (v70 I hr)

theorem v73 : Rd (s := S2x4096x1) (val_main_v73 (F := Ideal) x0) (fun c : Fin 3 → ℕ => (A.S.va) (4096*c 0+c 1)) :=
  ((v67 I hr).hdivf (scal (fun _ => f512) _) (fun c _ => by norm_num)).addf (scal (fun _ => feps) _)

theorem v74 : Rd (s := S2x4096x1) (val_main_v74 (F := Ideal) x0) (fun c : Fin 3 → ℕ => (A.S.rs) (4096*c 0+c 1)) :=
  (v73 I hr).hrsqrt fun c _ => A.S.va_pos _

theorem v75 : Rd (s := S2x4096x1) (val_main_v75 (F := Ideal) x0) (fun c : Fin 3 → ℕ => (fun r => A.S.rs r / A.S.va r) (4096*c 0+c 1)) :=
  (v74 I hr).hdivf (v73 I hr) fun c _ => (A.S.va_pos _).ne'

theorem v77 : Rd (s := S2x4096x1) (val_main_v77 (F := Ideal) x0) (fun c : Fin 3 → ℕ => (fun r => -(1/2)*(A.S.rs r / A.S.va r)) (4096*c 0+c 1)) :=
  (scal (fun _ => fmhalf) _).mulf (v75 I hr)

theorem v78 : Rd (s := S2x4096x512) (val_main_v78 (F := Ideal) x0) (fun c : Fin 3 → ℕ => (A.S.rs) (4096*c 0+c 1)) :=
  Rd.of_apply (v74 I hr) (val_main_v78_apply x0) fun i => rfl

theorem v79 : Rd (s := S2x4096x512) (val_main_v79 (F := Ideal) x0) (fun c : Fin 3 → ℕ => (A.S.vh) (4096*c 0+c 1) (c 2)) :=
  (v71 I hr).mulf (v78 I hr)

theorem v80 : Rd (s := S1x1x512) (val_main_v80 (F := Ideal) x3) (fun c : Fin 3 → ℕ => (A.S.g) (c 2)) :=
  Rd.of_apply (va3 I hr) (val_main_v80_apply x3) fun i => rfl

theorem v81 : Rd (s := S2x4096x512) (val_main_v81 (F := Ideal) x3) (fun c : Fin 3 → ℕ => (A.S.g) (c 2)) :=
  Rd.of_apply (v80 I hr) (val_main_v81_apply x3) fun i => rfl

theorem v83 : Rd (s := S1x1x512) (val_main_v83 (F := Ideal) x4) (fun c : Fin 3 → ℕ => (A.S.b) (c 2)) :=
  Rd.of_apply (va4 I hr) (val_main_v83_apply x4) fun i => rfl

theorem v84 : Rd (s := S2x4096x512) (val_main_v84 (F := Ideal) x4) (fun c : Fin 3 → ℕ => (A.S.b) (c 2)) :=
  Rd.of_apply (v83 I hr) (val_main_v84_apply x4) fun i => rfl

theorem v85 : Rd (s := S2x4096x512) (val_main_v85 (F := Ideal) x0 x3 x4) (fun c : Fin 3 → ℕ => (A.S.vn) (4096*c 0+c 1) (c 2)) :=
  ((v79 I hr).mulf (v81 I hr)).addf (v84 I hr)

theorem v86 : Rd (s := S2x32x128x4x128) (val_main_v86 (F := Ideal) x0 x3 x4) (fun c : Fin 5 → ℕ => (A.S.vn) (128*(32*c 0+c 1)+c 2) (128*c 3+c 4)) :=
  Rd.of_apply (v85 I hr) (val_main_v86_apply x0 x3 x4) fun i => by have h0 : (i 0).val < 2 := (i 0).isLt; have h1 : (i 1).val < 32 := (i 1).isLt; have h2 : (i 2).val < 128 := (i 2).isLt; have h3 : (i 3).val < 4 := (i 3).isLt; have h4 : (i 4).val < 128 := (i 4).isLt; exact cg2 (A.S.vn) (show 4096*((((((i 0).val * 32 + (i 1).val) * 128 + (i 2).val) * 4 + (i 3).val) * 128 + (i 4).val) / 2097152)+((((((i 0).val * 32 + (i 1).val) * 128 + (i 2).val) * 4 + (i 3).val) * 128 + (i 4).val) / 512 % 4096) = 128*(32*(i 0).val+(i 1).val)+(i 2).val by omega) (show ((((((i 0).val * 32 + (i 1).val) * 128 + (i 2).val) * 4 + (i 3).val) * 128 + (i 4).val) % 512) = 128*(i 3).val+(i 4).val by omega)

omit I hr in
theorem mask (i : S128x128.Idx) : (val_main_call0_v4 (F := Ideal) : IVec S128x128 1) i = 1 ↔ (i 1).val ≤ (i 0).val := by
  have h0 : (i 0).val < 128 := (i 0).isLt
  have h1 : (i 1).val < 128 := (i 1).isLt
  show IntOp.cmpi .sge (IntOp.addi (BitVec.ofNat 32 (i 0).val) 0#32) (BitVec.ofNat 32 (i 1).val) = 1#1 ↔ _
  rw [show IntOp.addi (BitVec.ofNat 32 (i 0).val) 0#32 = BitVec.ofNat 32 (i 0).val from BitVec.add_zero _, WordCmp.cmpi_sge_eq, WordCmp.ofBool_decide_eq_one_iff,
    WordCmp.toInt_ofNat_of_lt (by norm_num; omega), WordCmp.toInt_ofNat_of_lt (by norm_num; omega)]
  exact Int.ofNat_le

theorem v88 : Rd (s := S128x128) (val_main_v88 (F := Ideal)) (fun c : Fin 2 → ℕ => (fun t k => if k ≤ t then (1:ℝ) else 0) (c 0) (c 1)) :=
  Rd.select (P := fun c => c 1 ≤ c 0) mask (scal (fun _ => f1) _) (scal (fun _ => f0) _)

theorem v89 : Rd (s := S1x128x128) (val_main_v89 (F := Ideal)) (fun c : Fin 3 → ℕ => (fun t k => if k ≤ t then (1:ℝ) else 0) (c 1) (c 2)) :=
  Rd.of_apply (v88 I hr) val_main_v89_apply fun i => rfl

theorem v90 : Rd (s := S4x128x128) (val_main_v90 (F := Ideal)) (fun c : Fin 3 → ℕ => (fun t k => if k ≤ t then (1:ℝ) else 0) (c 1) (c 2)) :=
  Rd.of_apply (v89 I hr) val_main_v90_apply fun i => rfl

theorem v91 : Rd (s := S4x128x128) (val_main_v91 (F := Ideal) x5) (fun c : Fin 3 → ℕ => (A.S.wt) (c 0) (c 1) (c 2)) :=
  ((va5 I hr).mulf (v90 I hr)).congr fun c _ => by show _ * ite _ _ _ = ite _ _ _; rw [mul_ite, mul_one, mul_zero]

theorem v92 : Rd (s := S4x2x32x128x128) (val_main_v92 (F := Ideal) x0 x3 x4 x5) (fun c : Fin 5 → ℕ => (fun h n e t => ∑ k ∈ Finset.range 128, A.S.vn (128*n+k) (128*h+e) * A.S.wt h t k) (c 0) (32*c 1+c 2) (c 3) (c 4)) :=
  Rd.of_dot (v86 I hr) (v91 I hr) (val_main_v92_apply x0 x3 x4 x5) (fun c k => A.S.vn (128*(32*c 1+c 2)+k) (128*c 0+c 3) * A.S.wt (c 0) (c 4) k) fun i k => rfl

theorem v93 : Rd (s := S2x32x128x4x128) (val_main_v93 (F := Ideal) x0 x3 x4 x5) (fun c : Fin 5 → ℕ => (fun h n e t => ∑ k ∈ Finset.range 128, A.S.vn (128*n+k) (128*h+e) * A.S.wt h t k) (c 3) (32*c 0+c 1) (c 4) (c 2)) :=
  Rd.of_apply (v92 I hr) (val_main_v93_apply x0 x3 x4 x5) fun i => rfl

theorem v94 : Rd (s := S128x4) (val_main_v94 (F := Ideal) x6) (fun c : Fin 2 → ℕ => (A.S.bs) (c 1) (c 0)) :=
  Rd.of_apply (va6 I hr) (val_main_v94_apply x6) fun i => rfl

theorem v95 : Rd (s := S1x1x128x4x1) (val_main_v95 (F := Ideal) x6) (fun c : Fin 5 → ℕ => (A.S.bs) (c 3) (c 2)) :=
  Rd.of_apply (v94 I hr) (val_main_v95_apply x6) fun i => rfl

theorem v96 : Rd (s := S2x32x128x4x128) (val_main_v96 (F := Ideal) x6) (fun c : Fin 5 → ℕ => (A.S.bs) (c 3) (c 2)) :=
  Rd.of_apply (v95 I hr) (val_main_v96_apply x6) fun i => rfl

theorem v97 : Rd (s := S2x32x128x4x128) (val_main_v97 (F := Ideal) x0 x3 x4 x5 x6) (fun c : Fin 5 → ℕ => (A.S.sC) (32*c 0+c 1) (c 2) (128*c 3+c 4)) :=
  ((v93 I hr).addf (v96 I hr)).congr fun c hc => by
    have h : c 4 < 128 := hc 4
    show _ = A.S.sC (32*c 0+c 1) (c 2) (128*c 3+c 4)
    unfold Re.sC
    rw [show (128*c 3+c 4)/128 = c 3 by omega]
    exact congrArg (· + _) (Finset.sum_congr rfl fun k _ => mul_comm _ _)

theorem v98 : Rd (s := S2x4096x512) (val_main_v98 (F := Ideal) x0 x3 x4 x5 x6) (fun c : Fin 3 → ℕ => (A.S.s) (4096*c 0+c 1) (c 2)) :=
  Rd.of_apply (v97 I hr) (val_main_v98_apply x0 x3 x4 x5 x6) fun i => by have h0 : (i 0).val < 2 := (i 0).isLt; have h1 : (i 1).val < 4096 := (i 1).isLt; have h2 : (i 2).val < 512 := (i 2).isLt; exact cg3 (A.S.sC) (show 32*((((i 0).val * 4096 + (i 1).val) * 512 + (i 2).val) / 2097152)+((((i 0).val * 4096 + (i 1).val) * 512 + (i 2).val) / 65536 % 32) = (4096*(i 0).val+(i 1).val)/128 by omega) (show ((((i 0).val * 4096 + (i 1).val) * 512 + (i 2).val) / 512 % 128) = (4096*(i 0).val+(i 1).val)%128 by omega) (show 128*((((i 0).val * 4096 + (i 1).val) * 512 + (i 2).val) / 128 % 4)+((((i 0).val * 4096 + (i 1).val) * 512 + (i 2).val) % 128) = (i 2).val by omega)

end Cert.Rf

end
-- ==== Proof.RefGateB.lean ====
/- The spatial gating unit of the reference, backward. -/
module

public import proofs.«01_k».proof.Proof.RefGate

@[expose] public section

set_option maxRecDepth 16384

noncomputable section

namespace Cert.Rf

open Idealize.ShloMosaic Cert.Rd Cert.Spec Cert.Consts Cert.ReferenceIdeal Cert.ReferenceIdeal.Gen Cert.ReferenceIdeal.Read

/-- The two scalars of a token that the backward pass of the normalisation spreads over its channels. -/
def lnm (S : Re) (r : ℕ) : ℝ := (∑ k ∈ Finset.range 512, S.vc r k * S.dh r k) * (-(1 / 2) * (S.rs r / S.va r)) / 512
def lnd (S : Re) (r : ℕ) : ℝ := ((∑ k ∈ Finset.range 512, -(S.dh r k * S.rs r)) + ∑ k ∈ Finset.range 512, -(lnm S r * (2 * S.vc r k))) / 512

variable {A : Args} {x0 : (⟨S8192x6144, .bf16⟩ : BufTy).Contents (Elt Ideal)} {x1 : (⟨S8192x1536, .bf16⟩ : BufTy).Contents (Elt Ideal)}
  {x2 : (⟨S8192x3072, .bf16⟩ : BufTy).Contents (Elt Ideal)} {x3 x4 : (⟨S512, .f32⟩ : BufTy).Contents (Elt Ideal)}
  {x5 : (⟨S4x128x128, .f32⟩ : BufTy).Contents (Elt Ideal)} {x6 : (⟨S4x128, .f32⟩ : BufTy).Contents (Elt Ideal)}
  {x7 : (⟨S4x128x128, .f32⟩ : BufTy).Contents (Elt Ideal)} {x8 : (⟨S512, .f32⟩ : BufTy).Contents (Elt Ideal)}
  {x9 : (⟨S3x512, .f32⟩ : BufTy).Contents (Elt Ideal)} (I : In A x0 x1 x2 x3 x4 x5 x6 x7 x8 x9) (hr : A.Real)
include I hr

theorem v322 : Rd (s := S2x4096x512) (val_main_v322 (F := Ideal) x0 x1) (fun c : Fin 3 → ℕ => (A.S.ds) (4096*c 0+c 1) (c 2)) :=
  ((v35 I hr).mulf (v4 I hr)).congr fun c _ => mul_comm _ _

theorem v323 : Rd (s := S2x4096x512) (val_main_v323 (F := Ideal) x0 x1 x3 x4 x5 x6) (fun c : Fin 3 → ℕ => (fun r c => A.S.da r c*A.S.s r c) (4096*c 0+c 1) (c 2)) :=
  (v4 I hr).mulf (v98 I hr)

theorem v324 : Rd (s := S2x32x128x4x128) (val_main_v324 (F := Ideal) x0 x1) (fun c : Fin 5 → ℕ => (A.S.ds) (128*(32*c 0+c 1)+c 2) (128*c 3+c 4)) :=
  Rd.of_apply (v322 I hr) (val_main_v324_apply x0 x1) fun i => by have h0 : (i 0).val < 2 := (i 0).isLt; have h1 : (i 1).val < 32 := (i 1).isLt; have h2 : (i 2).val < 128 := (i 2).isLt; have h3 : (i 3).val < 4 := (i 3).isLt; have h4 : (i 4).val < 128 := (i 4).isLt; exact cg2 (A.S.ds) (show 4096*((((((i 0).val * 32 + (i 1).val) * 128 + (i 2).val) * 4 + (i 3).val) * 128 + (i 4).val) / 2097152)+((((((i 0).val * 32 + (i 1).val) * 128 + (i 2).val) * 4 + (i 3).val) * 128 + (i 4).val) / 512 % 4096) = 128*(32*(i 0).val+(i 1).val)+(i 2).val by omega) (show ((((((i 0).val * 32 + (i 1).val) * 128 + (i 2).val) * 4 + (i 3).val) * 128 + (i 4).val) % 512) = 128*(i 3).val+(i 4).val by omega)

theorem v325 : Rd (s := S128x4) (val_main_v325 (F := Ideal) x0 x1) (fun c : Fin 2 → ℕ => (A.S.dbs) (c 0) (c 1)) :=
  (Rd.hred014 (v324 I hr) (fun _ => f0) _ _).congr fun c _ => sum_chunk fun n => A.S.dbsC n (c 0) (c 1)

theorem v326 : Rd (s := S1x1x128x4x1) (val_main_v326 (F := Ideal) x0 x1) (fun c : Fin 5 → ℕ => (A.S.dbs) (c 2) (c 3)) :=
  Rd.of_apply (v325 I hr) (val_main_v326_apply x0 x1) fun i => by have h0 : (i 0).val < 1 := (i 0).isLt; have h1 : (i 1).val < 1 := (i 1).isLt; have h2 : (i 2).val < 128 := (i 2).isLt; have h3 : (i 3).val < 4 := (i 3).isLt; have h4 : (i 4).val < 1 := (i 4).isLt; exact cg2 (A.S.dbs) (show ((((((i 0).val * 1 + (i 1).val) * 128 + (i 2).val) * 4 + (i 3).val) * 1 + (i 4).val) / 4) = (i 2).val by omega) (show ((((((i 0).val * 1 + (i 1).val) * 128 + (i 2).val) * 4 + (i 3).val) * 1 + (i 4).val) % 4) = (i 3).val by omega)

theorem v327 : Rd (s := S128x4) (val_main_v327 (F := Ideal) x0 x1) (fun c : Fin 2 → ℕ => (A.S.dbs) (c 0) (c 1)) :=
  (Rd.hred014 (m := 1) (n := 1) (o := 1) (v326 I hr) (fun _ => f0) _ _).congr fun c _ => by simp only [Finset.sum_range_one]; rfl

theorem v328 : Rd (s := S4x128) (val_main_v328 (F := Ideal) x0 x1) (fun c : Fin 2 → ℕ => (A.S.dbs) (c 1) (c 0)) :=
  Rd.of_apply (v327 I hr) (val_main_v328_apply x0 x1) fun i => rfl

theorem v410 : Rd (s := S128x4) (val_main_v410 (F := Ideal) x0 x1) (fun c : Fin 2 → ℕ => (A.S.dbs) (c 0) (c 1)) :=
  Rd.of_apply (v328 I hr) (val_main_v410_apply x0 x1) fun i => rfl

theorem v412 : Rd (s := S128x128) (val_main_v412 (F := Ideal) x0 x1) (fun c : Fin 2 → ℕ => (fun t l => if l < 4 then A.S.dbs t l else 0) (c 0) (c 1)) :=
  Rd.cat2 (n := 2) (a := 1) (d₁ := ![128, 4]) (d₂ := ![128, 124]) (e := ![128, 128]) _ 4 rfl ((v410 I hr).congr fun c hc => (if_pos (hc 1)).symm)
    ((scal (fun _ => f0) _).congr fun c _ => (if_neg (show ¬ 4 + c 1 < 4 by omega)).symm)

theorem v329 : Rd (s := S4x2x32x128x128) (val_main_v329 (F := Ideal) x0 x1) (fun c : Fin 5 → ℕ => (A.S.ds) (128*(32*c 1+c 2)+c 4) (128*c 0+c 3)) :=
  Rd.of_apply (v324 I hr) (val_main_v329_apply x0 x1) fun i => rfl

theorem v330 : Rd (s := S4x128x128) (val_main_v330 (F := Ideal) x0 x1 x3 x4) (fun c : Fin 3 → ℕ => (fun h t k => ∑ n ∈ Finset.range 64, A.S.dwsC n h t k) (c 0) (c 1) (c 2)) :=
  (Rd.hdot3 dot_S4x2x32x128x128_S2x32x128x4x128_S4x128x128_123_014_4_2_0_3 none 2 32 128 rfl rfl rfl rfl (fun c a b d => ![c 0, a, b, d, c 1]) (fun c a b d => ![a, b, c 2, c 0, d])
    (fun j k => funext fun a => by match a with | ⟨0, _⟩ => rfl | ⟨1, _⟩ => rfl | ⟨2, _⟩ => rfl | ⟨3, _⟩ => rfl | ⟨4, _⟩ => rfl)
    (fun j k => funext fun a => by match a with | ⟨0, _⟩ => rfl | ⟨1, _⟩ => rfl | ⟨2, _⟩ => rfl | ⟨3, _⟩ => rfl | ⟨4, _⟩ => rfl) (v329 I hr) (v86 I hr)).congr fun c _ =>
    sum_chunk fun n => A.S.dwsC n (c 0) (c 1) (c 2)

theorem v333 : Rd (s := S4x128x128) (val_main_v333 (F := Ideal)) (fun c : Fin 3 → ℕ => (fun t k => if k ≤ t then (1:ℝ) else 0) (c 1) (c 2)) :=
  Rd.of_apply (v89 I hr) val_main_v333_apply fun i => rfl

theorem v334 : Rd (s := S4x128x128) (val_main_v334 (F := Ideal) x0 x1 x3 x4) (fun c : Fin 3 → ℕ => (A.S.dws) (c 0) (c 1) (c 2)) :=
  ((v330 I hr).mulf (v333 I hr)).congr fun c _ => by show _ * ite _ _ _ = ite _ _ _; rw [mul_ite, mul_one, mul_zero]

theorem v331 : Rd (s := S4x2x32x128x128) (val_main_v331 (F := Ideal) x0 x1 x5) (fun c : Fin 5 → ℕ => (fun h n e k => ∑ t ∈ Finset.range 128, A.S.ds (128*n+t) (128*h+e) * A.S.wt h t k) (c 0) (32*c 1+c 2) (c 3) (c 4)) :=
  Rd.of_dot (v329 I hr) (v91 I hr) (val_main_v331_apply x0 x1 x5) (fun c k => A.S.ds (128*(32*c 1+c 2)+k) (128*c 0+c 3) * A.S.wt (c 0) k (c 4)) fun i k => rfl

theorem v332 : Rd (s := S2x32x128x4x128) (val_main_v332 (F := Ideal) x0 x1 x5) (fun c : Fin 5 → ℕ => (A.S.dvnC) (32*c 0+c 1) (c 2) (128*c 3+c 4)) :=
  (Rd.of_apply (t := S2x32x128x4x128) (g := (fun c : Fin 5 → ℕ => (fun h n e k => ∑ t ∈ Finset.range 128, A.S.ds (128*n+t) (128*h+e) * A.S.wt h t k) (c 3) (32*c 0+c 1) (c 4) (c 2))) (v331 I hr) (val_main_v332_apply x0 x1 x5) fun i => rfl).congr fun c hc => by
    have h : c 4 < 128 := hc 4
    show _ = A.S.dvnC (32*c 0+c 1) (c 2) (128*c 3+c 4)
    unfold Re.dvnC
    rw [show (128*c 3+c 4)/128 = c 3 by omega]
    exact Finset.sum_congr rfl fun k _ => mul_comm _ _

theorem v335 : Rd (s := S2x4096x512) (val_main_v335 (F := Ideal) x0 x1 x5) (fun c : Fin 3 → ℕ => (A.S.dvn) (4096*c 0+c 1) (c 2)) :=
  Rd.of_apply (v332 I hr) (val_main_v335_apply x0 x1 x5) fun i => by have h0 : (i 0).val < 2 := (i 0).isLt; have h1 : (i 1).val < 4096 := (i 1).isLt; have h2 : (i 2).val < 512 := (i 2).isLt; exact cg3 (A.S.dvnC) (show 32*((((i 0).val * 4096 + (i 1).val) * 512 + (i 2).val) / 2097152)+((((i 0).val * 4096 + (i 1).val) * 512 + (i 2).val) / 65536 % 32) = (4096*(i 0).val+(i 1).val)/128 by omega) (show ((((i 0).val * 4096 + (i 1).val) * 512 + (i 2).val) / 512 % 128) = (4096*(i 0).val+(i 1).val)%128 by omega) (show 128*((((i 0).val * 4096 + (i 1).val) * 512 + (i 2).val) / 128 % 4)+((((i 0).val * 4096 + (i 1).val) * 512 + (i 2).val) % 128) = (i 2).val by omega)

theorem v338 : Rd (s := S512) (val_main_v338 (F := Ideal) x0 x1 x5) (fun c : Fin 1 → ℕ => (A.S.pvB) (c 0)) :=
  colsum (F := A.S.dvn) (v335 I hr) (fun _ => f0) (fun _ => f0) _ _ _ _

theorem v344 : Rd (s := S512) (val_main_v344 (F := Ideal) x0 x1 x5) (fun c : Fin 1 → ℕ => (A.S.pvG) (c 0)) :=
  (colsum (F := fun r c => A.S.vh r c * A.S.dvn r c) ((v79 I hr).mulf (v335 I hr)) (fun _ => f0) (fun _ => f0) _ _ _ _).congr fun c _ => Finset.sum_congr rfl fun r _ => mul_comm _ _

theorem v342 : Rd (s := S2x4096x512) (val_main_v342 (F := Ideal) x3) (fun c : Fin 3 → ℕ => (A.S.g) (c 2)) :=
  Rd.of_apply (v80 I hr) (val_main_v342_apply x3) fun i => rfl

theorem v343 : Rd (s := S2x4096x512) (val_main_v343 (F := Ideal) x0 x1 x3 x5) (fun c : Fin 3 → ℕ => (A.S.dh) (4096*c 0+c 1) (c 2)) :=
  (v335 I hr).mulf (v342 I hr)

theorem v346 : Rd (s := S2x4096) (val_main_v346 (F := Ideal) x0 x1 x3 x5) (fun c : Fin 2 → ℕ => (fun r => ∑ k ∈ Finset.range 512, A.S.vc r k * A.S.dh r k) (4096*c 0+c 1)) :=
  Rd.of_sum ((v71 I hr).mulf (v343 I hr)) f0 (val_main_v346_apply x0 x1 x3 x5) (fun c k => A.S.vc (4096*c 0+c 1) k * A.S.dh (4096*c 0+c 1) k) fun i k => rfl

theorem v347 : Rd (s := S2x4096x1) (val_main_v347 (F := Ideal) x0 x1 x3 x5) (fun c : Fin 3 → ℕ => (fun r => ∑ k ∈ Finset.range 512, A.S.vc r k * A.S.dh r k) (4096*c 0+c 1)) :=
  Rd.of_apply (v346 I hr) (val_main_v347_apply x0 x1 x3 x5) fun i => by have h0 : (i 0).val < 2 := (i 0).isLt; have h1 : (i 1).val < 4096 := (i 1).isLt; have h2 : (i 2).val < 1 := (i 2).isLt; exact cg1 (fun r => ∑ k ∈ Finset.range 512, A.S.vc r k * A.S.dh r k) (show 4096*((((i 0).val * 4096 + (i 1).val) * 1 + (i 2).val) / 4096)+((((i 0).val * 4096 + (i 1).val) * 1 + (i 2).val) % 4096) = 4096*(i 0).val+(i 1).val by omega)

theorem v348 : Rd (s := S2x4096x512) (val_main_v348 (F := Ideal) x0) (fun c : Fin 3 → ℕ => (A.S.rs) (4096*c 0+c 1)) :=
  Rd.of_apply (v74 I hr) (val_main_v348_apply x0) fun i => rfl

theorem v349 : Rd (s := S2x4096x512) (val_main_v349 (F := Ideal) x0 x1 x3 x5) (fun c : Fin 3 → ℕ => (fun r c => A.S.dh r c * A.S.rs r) (4096*c 0+c 1) (c 2)) :=
  (v343 I hr).mulf (v348 I hr)

theorem v355 : Rd (s := S2x4096x1) (val_main_v355 (F := Ideal) x0 x1 x3 x5) (fun c : Fin 3 → ℕ => (lnm A.S) (4096*c 0+c 1)) :=
  ((v347 I hr).mulf (v77 I hr)).hdivf (scal (fun _ => f512) _) (fun c _ => by norm_num)

theorem v356 : Rd (s := S2x4096) (val_main_v356 (F := Ideal) x0 x1 x3 x5) (fun c : Fin 2 → ℕ => (lnm A.S) (4096*c 0+c 1)) :=
  (Rd.of_sum (v355 I hr) f0 (val_main_v356_apply x0 x1 x3 x5) (fun c k => lnm A.S (4096*c 0+c 1)) fun i k => rfl).congr fun c _ => Finset.sum_range_one _

theorem v357 : Rd (s := S2x4096x512) (val_main_v357 (F := Ideal) x0 x1 x3 x5) (fun c : Fin 3 → ℕ => (lnm A.S) (4096*c 0+c 1)) :=
  Rd.of_apply (v356 I hr) (val_main_v357_apply x0 x1 x3 x5) fun i => rfl

theorem v358 : Rd (s := S2x4096x512) (val_main_v358 (F := Ideal) x0 x1 x3 x5) (fun c : Fin 3 → ℕ => (fun r c => lnm A.S r * (2 * A.S.vc r c)) (4096*c 0+c 1) (c 2)) :=
  (v357 I hr).mulf (v65 I hr)

theorem v352 : Rd (s := S2x4096) (val_main_v352 (F := Ideal) x0 x1 x3 x5) (fun c : Fin 2 → ℕ => (fun r => ∑ k ∈ Finset.range 512, -(A.S.dh r k * A.S.rs r)) (4096*c 0+c 1)) :=
  Rd.of_sum (v349 I hr).hnegf f0 (val_main_v352_apply x0 x1 x3 x5) (fun c k => -(A.S.dh (4096*c 0+c 1) k * A.S.rs (4096*c 0+c 1))) fun i k => rfl

theorem v353 : Rd (s := S2x4096x1) (val_main_v353 (F := Ideal) x0 x1 x3 x5) (fun c : Fin 3 → ℕ => (fun r => ∑ k ∈ Finset.range 512, -(A.S.dh r k * A.S.rs r)) (4096*c 0+c 1)) :=
  Rd.of_apply (v352 I hr) (val_main_v353_apply x0 x1 x3 x5) fun i => by have h0 : (i 0).val < 2 := (i 0).isLt; have h1 : (i 1).val < 4096 := (i 1).isLt; have h2 : (i 2).val < 1 := (i 2).isLt; exact cg1 (fun r => ∑ k ∈ Finset.range 512, -(A.S.dh r k * A.S.rs r)) (show 4096*((((i 0).val * 4096 + (i 1).val) * 1 + (i 2).val) / 4096)+((((i 0).val * 4096 + (i 1).val) * 1 + (i 2).val) % 4096) = 4096*(i 0).val+(i 1).val by omega)

theorem v360 : Rd (s := S2x4096) (val_main_v360 (F := Ideal) x0 x1 x3 x5) (fun c : Fin 2 → ℕ => (fun r => ∑ k ∈ Finset.range 512, -(lnm A.S r * (2 * A.S.vc r k))) (4096*c 0+c 1)) :=
  Rd.of_sum (v358 I hr).hnegf f0 (val_main_v360_apply x0 x1 x3 x5) (fun c k => -(lnm A.S (4096*c 0+c 1) * (2 * A.S.vc (4096*c 0+c 1) k))) fun i k => rfl

theorem v361 : Rd (s := S2x4096x1) (val_main_v361 (F := Ideal) x0 x1 x3 x5) (fun c : Fin 3 → ℕ => (fun r => ∑ k ∈ Finset.range 512, -(lnm A.S r * (2 * A.S.vc r k))) (4096*c 0+c 1)) :=
  Rd.of_apply (v360 I hr) (val_main_v361_apply x0 x1 x3 x5) fun i => by have h0 : (i 0).val < 2 := (i 0).isLt; have h1 : (i 1).val < 4096 := (i 1).isLt; have h2 : (i 2).val < 1 := (i 2).isLt; exact cg1 (fun r => ∑ k ∈ Finset.range 512, -(lnm A.S r * (2 * A.S.vc r k))) (show 4096*((((i 0).val * 4096 + (i 1).val) * 1 + (i 2).val) / 4096)+((((i 0).val * 4096 + (i 1).val) * 1 + (i 2).val) % 4096) = 4096*(i 0).val+(i 1).val by omega)

theorem v365 : Rd (s := S2x4096x1) (val_main_v365 (F := Ideal) x0 x1 x3 x5) (fun c : Fin 3 → ℕ => (lnd A.S) (4096*c 0+c 1)) :=
  ((v353 I hr).addf (v361 I hr)).hdivf (scal (fun _ => f512) _) (fun c _ => by norm_num)

theorem v366 : Rd (s := S2x4096) (val_main_v366 (F := Ideal) x0 x1 x3 x5) (fun c : Fin 2 → ℕ => (lnd A.S) (4096*c 0+c 1)) :=
  (Rd.of_sum (v365 I hr) f0 (val_main_v366_apply x0 x1 x3 x5) (fun c k => lnd A.S (4096*c 0+c 1)) fun i k => rfl).congr fun c _ => Finset.sum_range_one _

theorem v367 : Rd (s := S2x4096x512) (val_main_v367 (F := Ideal) x0 x1 x3 x5) (fun c : Fin 3 → ℕ => (lnd A.S) (4096*c 0+c 1)) :=
  Rd.of_apply (v366 I hr) (val_main_v367_apply x0 x1 x3 x5) fun i => rfl

theorem v368 : Rd (s := S2x4096x512) (val_main_v368 (F := Ideal) x0 x1 x3 x5) (fun c : Fin 3 → ℕ => (A.S.dvg) (4096*c 0+c 1) (c 2)) :=
  (((v349 I hr).addf (v358 I hr)).addf (v367 I hr)).congr fun c _ => ln_eq A.S _ _

theorem v380 : Rd (s := S2x4096x512) (val_main_v380 (F := Ideal) x0 x1 x3 x5) (fun c : Fin 3 → ℕ => (A.S.dv) (4096*c 0+c 1) (c 2)) :=
  ((((v368 I hr).mulf (v55 I hr)).addf ((scal (fun _ => fK) _).mulf (((scal (fun _ => fhalf) _).mulf ((v10 I hr).mulf (v368 I hr))).mulf (v51 I hr)))).addf (((scal (fun _ => fC) _).mulf ((scal (fun _ => fK) _).mulf (((scal (fun _ => fhalf) _).mulf ((v10 I hr).mulf (v368 I hr))).mulf (v51 I hr)))).mulf (v40 I hr))).congr fun c _ => dgelu_eq _ _

theorem v392 : Rd (s := S2x4096x512) (val_main_v392 (F := Ideal) x0 x1 x3 x4 x5 x6) (fun c : Fin 3 → ℕ => (A.S.du) (4096*c 0+c 1) (c 2)) :=
  ((((v323 I hr).mulf (v34 I hr)).addf ((scal (fun _ => fK) _).mulf (((scal (fun _ => fhalf) _).mulf ((v9 I hr).mulf (v323 I hr))).mulf (v30 I hr)))).addf (((scal (fun _ => fC) _).mulf ((scal (fun _ => fK) _).mulf (((scal (fun _ => fhalf) _).mulf ((v9 I hr).mulf (v323 I hr))).mulf (v30 I hr)))).mulf (v19 I hr))).congr fun c _ => dgelu_eq _ _

end Cert.Rf

end
-- ==== Proof.RefPool.lean ====
/- The causal pooling of the reference, forward. -/
module

public import proofs.«01_k».proof.Proof.RefIn

@[expose] public section

set_option maxRecDepth 16384

noncomputable section

namespace Cert.Rf

open Idealize.ShloMosaic Cert.Rd Cert.Spec Cert.Consts Cert.ReferenceIdeal Cert.ReferenceIdeal.Gen Cert.ReferenceIdeal.Read

variable {A : Args} {x0 : (⟨S8192x6144, .bf16⟩ : BufTy).Contents (Elt Ideal)} {x1 : (⟨S8192x1536, .bf16⟩ : BufTy).Contents (Elt Ideal)}
  {x2 : (⟨S8192x3072, .bf16⟩ : BufTy).Contents (Elt Ideal)} {x3 x4 : (⟨S512, .f32⟩ : BufTy).Contents (Elt Ideal)}
  {x5 : (⟨S4x128x128, .f32⟩ : BufTy).Contents (Elt Ideal)} {x6 : (⟨S4x128, .f32⟩ : BufTy).Contents (Elt Ideal)}
  {x7 : (⟨S4x128x128, .f32⟩ : BufTy).Contents (Elt Ideal)} {x8 : (⟨S512, .f32⟩ : BufTy).Contents (Elt Ideal)}
  {x9 : (⟨S3x512, .f32⟩ : BufTy).Contents (Elt Ideal)} (I : In A x0 x1 x2 x3 x4 x5 x6 x7 x8 x9) (hr : A.Real)
include I hr

theorem v101 : Rd (s := S2x4096x512) (val_main_v101 (F := Ideal) x0) (fun c : Fin 3 → ℕ => (pre A.S) (c 0) (c 1+1) (c 2)) :=
  (Rd.win (m := 2) (N := 4096) (k := 512) (v11 I hr) (fun _ => f0) 4095 0 _ _).congr fun c hc => cum_eq 4096 (c 1) (hc 1) fun j => A.S.x (4096*c 0+j) (c 2)

theorem v102 : Rd (s := S2x4097x512) (val_main_v102 (F := Ideal) x0) (fun c : Fin 3 → ℕ => (pre A.S) (c 0) (c 1) (c 2)) :=
  (catMid (p := 1) (scal (fun _ => f0) _) (v101 I hr) _).congr fun c _ => by
    show (if c 1 < 1 then 0 else pre A.S (c 0) (c 1 - 1 + 1) (c 2)) = pre A.S (c 0) (c 1) (c 2)
    by_cases h : c 1 < 1
    · rw [if_pos h, show c 1 = 0 by omega]; rfl
    · rw [if_neg h, show c 1 - 1 + 1 = c 1 by omega]

theorem v105 : Rd (s := S2x4097x128) (val_main_v105 (F := Ideal) x0) (fun c : Fin 3 → ℕ => (pre A.S) (c 0) (c 1) (0+c 2)) :=
  Rd.of_apply (v102 I hr) (val_main_v105_apply x0) fun i => by have h2 : (i 2).val < 128 := (i 2).isLt; exact cg3 (pre A.S) rfl rfl (show ((i 2).val) = 0+(i 2).val by omega)

theorem v107 : Rd (s := S2x4098x128) (val_main_v107 (F := Ideal) x0) (fun c : Fin 3 → ℕ => (fun a n c => if n < 1 then 0 else pre A.S a (n - 1) (0+c)) (c 0) (c 1) (c 2)) :=
  catMid (p := 1) (scal (fun _ => f0) _) (v105 I hr) _

theorem v109 : Rd (s := S2x4096x128) (val_main_v109 (F := Ideal) x0) (fun c : Fin 3 → ℕ => (fun a n c => if n < 1 then 0 else pre A.S a (n - 1) (0+c)) (c 0) (c 1) (c 2)) :=
  Rd.of_apply (v107 I hr) (val_main_v109_apply x0) fun i => rfl

theorem v114 : Rd (s := S4096) (val_main_v114 (F := Ideal)) (fun c : Fin 1 → ℕ => (fun t => min ((t+1 : ℕ) : ℝ) ((2 : ℕ) : ℝ)) (c 0)) :=
  fun i => cnt_word (i 0).val (i 0).isLt 2 (by norm_num)

theorem v115 : Rd (s := S1x4096x1) (val_main_v115 (F := Ideal)) (fun c : Fin 3 → ℕ => (fun t => min ((t+1 : ℕ) : ℝ) ((2 : ℕ) : ℝ)) (c 1)) :=
  Rd.of_apply (v114 I hr) val_main_v115_apply fun i => rfl

theorem v118 : Rd (s := S2x4096x128) (val_main_v118 (F := Ideal)) (fun c : Fin 3 → ℕ => (fun t => min ((t+1 : ℕ) : ℝ) ((2 : ℕ) : ℝ)) (c 1)) :=
  Rd.of_apply (v115 I hr) val_main_v118_apply fun i => rfl

theorem v116 : Rd (s := S2x4096x128) (val_main_v116 (F := Ideal) x0) (fun c : Fin 3 → ℕ => (pre A.S) (c 0) (1+c 1) (0+c 2)) :=
  Rd.of_apply (v105 I hr) (val_main_v116_apply x0) fun i => rfl

theorem v120 : Rd (s := S2x4096x128) (val_main_v120 (F := Ideal) x0) (fun c : Fin 3 → ℕ => (A.S.x) (4096*c 0+c 1) (0+c 2)) :=
  Rd.of_apply (v11 I hr) (val_main_v120_apply x0) fun i => by have h2 : (i 2).val < 128 := (i 2).isLt; exact cg2 (A.S.x) rfl (show ((i 2).val) = 0+(i 2).val by omega)

theorem v121 : Rd (s := S2x4096x128) (val_main_v121 (F := Ideal) x0) (fun c : Fin 3 → ℕ => (A.S.p) (4096*c 0+c 1) (0+c 2)) :=
  (((v116 I hr).subf (v109 I hr)).hdivf (v118 I hr) fun c _ => (lt_min (by positivity) (by positivity)).ne').subf (v120 I hr) |>.congr fun c hc => p_eq A.S 2 0 (c 0) (c 1) (0+c 2) rfl (hc 1) (by have h : c 2 < 128 := hc 2; omega)

theorem v173 : Rd (s := S2x4096x1x128) (val_main_v173 (F := Ideal) x0) (fun c : Fin 4 → ℕ => (A.S.p) (4096*c 0+c 1) (0+c 3)) :=
  Rd.of_apply (v121 I hr) (val_main_v173_apply x0) fun i => rfl

theorem v122 : Rd (s := S2x4097x128) (val_main_v122 (F := Ideal) x0) (fun c : Fin 3 → ℕ => (pre A.S) (c 0) (c 1) (128+c 2)) :=
  Rd.of_apply (v102 I hr) (val_main_v122_apply x0) fun i => rfl

theorem v124 : Rd (s := S2x4100x128) (val_main_v124 (F := Ideal) x0) (fun c : Fin 3 → ℕ => (fun a n c => if n < 3 then 0 else pre A.S a (n - 3) (128+c)) (c 0) (c 1) (c 2)) :=
  catMid (p := 3) (scal (fun _ => f0) _) (v122 I hr) _

theorem v126 : Rd (s := S2x4096x128) (val_main_v126 (F := Ideal) x0) (fun c : Fin 3 → ℕ => (fun a n c => if n < 3 then 0 else pre A.S a (n - 3) (128+c)) (c 0) (c 1) (c 2)) :=
  Rd.of_apply (v124 I hr) (val_main_v126_apply x0) fun i => rfl

theorem v131 : Rd (s := S4096) (val_main_v131 (F := Ideal)) (fun c : Fin 1 → ℕ => (fun t => min ((t+1 : ℕ) : ℝ) ((4 : ℕ) : ℝ)) (c 0)) :=
  fun i => cnt_word (i 0).val (i 0).isLt 4 (by norm_num)

theorem v132 : Rd (s := S1x4096x1) (val_main_v132 (F := Ideal)) (fun c : Fin 3 → ℕ => (fun t => min ((t+1 : ℕ) : ℝ) ((4 : ℕ) : ℝ)) (c 1)) :=
  Rd.of_apply (v131 I hr) val_main_v132_apply fun i => rfl

theorem v135 : Rd (s := S2x4096x128) (val_main_v135 (F := Ideal)) (fun c : Fin 3 → ℕ => (fun t => min ((t+1 : ℕ) : ℝ) ((4 : ℕ) : ℝ)) (c 1)) :=
  Rd.of_apply (v132 I hr) val_main_v135_apply fun i => rfl

theorem v133 : Rd (s := S2x4096x128) (val_main_v133 (F := Ideal) x0) (fun c : Fin 3 → ℕ => (pre A.S) (c 0) (1+c 1) (128+c 2)) :=
  Rd.of_apply (v122 I hr) (val_main_v133_apply x0) fun i => rfl

theorem v137 : Rd (s := S2x4096x128) (val_main_v137 (F := Ideal) x0) (fun c : Fin 3 → ℕ => (A.S.x) (4096*c 0+c 1) (128+c 2)) :=
  Rd.of_apply (v11 I hr) (val_main_v137_apply x0) fun i => rfl

theorem v138 : Rd (s := S2x4096x128) (val_main_v138 (F := Ideal) x0) (fun c : Fin 3 → ℕ => (A.S.p) (4096*c 0+c 1) (128+c 2)) :=
  (((v133 I hr).subf (v126 I hr)).hdivf (v135 I hr) fun c _ => (lt_min (by positivity) (by positivity)).ne').subf (v137 I hr) |>.congr fun c hc => p_eq A.S 4 1 (c 0) (c 1) (128+c 2) rfl (hc 1) (by have h : c 2 < 128 := hc 2; omega)

theorem v174 : Rd (s := S2x4096x1x128) (val_main_v174 (F := Ideal) x0) (fun c : Fin 4 → ℕ => (A.S.p) (4096*c 0+c 1) (128+c 3)) :=
  Rd.of_apply (v138 I hr) (val_main_v174_apply x0) fun i => rfl

theorem v139 : Rd (s := S2x4097x128) (val_main_v139 (F := Ideal) x0) (fun c : Fin 3 → ℕ => (pre A.S) (c 0) (c 1) (256+c 2)) :=
  Rd.of_apply (v102 I hr) (val_main_v139_apply x0) fun i => rfl

theorem v141 : Rd (s := S2x4104x128) (val_main_v141 (F := Ideal) x0) (fun c : Fin 3 → ℕ => (fun a n c => if n < 7 then 0 else pre A.S a (n - 7) (256+c)) (c 0) (c 1) (c 2)) :=
  catMid (p := 7) (scal (fun _ => f0) _) (v139 I hr) _

theorem v143 : Rd (s := S2x4096x128) (val_main_v143 (F := Ideal) x0) (fun c : Fin 3 → ℕ => (fun a n c => if n < 7 then 0 else pre A.S a (n - 7) (256+c)) (c 0) (c 1) (c 2)) :=
  Rd.of_apply (v141 I hr) (val_main_v143_apply x0) fun i => rfl

theorem v148 : Rd (s := S4096) (val_main_v148 (F := Ideal)) (fun c : Fin 1 → ℕ => (fun t => min ((t+1 : ℕ) : ℝ) ((8 : ℕ) : ℝ)) (c 0)) :=
  fun i => cnt_word (i 0).val (i 0).isLt 8 (by norm_num)

theorem v149 : Rd (s := S1x4096x1) (val_main_v149 (F := Ideal)) (fun c : Fin 3 → ℕ => (fun t => min ((t+1 : ℕ) : ℝ) ((8 : ℕ) : ℝ)) (c 1)) :=
  Rd.of_apply (v148 I hr) val_main_v149_apply fun i => rfl

theorem v152 : Rd (s := S2x4096x128) (val_main_v152 (F := Ideal)) (fun c : Fin 3 → ℕ => (fun t => min ((t+1 : ℕ) : ℝ) ((8 : ℕ) : ℝ)) (c 1)) :=
  Rd.of_apply (v149 I hr) val_main_v152_apply fun i => rfl

theorem v150 : Rd (s := S2x4096x128) (val_main_v150 (F := Ideal) x0) (fun c : Fin 3 → ℕ => (pre A.S) (c 0) (1+c 1) (256+c 2)) :=
  Rd.of_apply (v139 I hr) (val_main_v150_apply x0) fun i => rfl

theorem v154 : Rd (s := S2x4096x128) (val_main_v154 (F := Ideal) x0) (fun c : Fin 3 → ℕ => (A.S.x) (4096*c 0+c 1) (256+c 2)) :=
  Rd.of_apply (v11 I hr) (val_main_v154_apply x0) fun i => rfl

theorem v155 : Rd (s := S2x4096x128) (val_main_v155 (F := Ideal) x0) (fun c : Fin 3 → ℕ => (A.S.p) (4096*c 0+c 1) (256+c 2)) :=
  (((v150 I hr).subf (v143 I hr)).hdivf (v152 I hr) fun c _ => (lt_min (by positivity) (by positivity)).ne').subf (v154 I hr) |>.congr fun c hc => p_eq A.S 8 2 (c 0) (c 1) (256+c 2) rfl (hc 1) (by have h : c 2 < 128 := hc 2; omega)

theorem v175 : Rd (s := S2x4096x1x128) (val_main_v175 (F := Ideal) x0) (fun c : Fin 4 → ℕ => (A.S.p) (4096*c 0+c 1) (256+c 3)) :=
  Rd.of_apply (v155 I hr) (val_main_v175_apply x0) fun i => rfl

theorem v156 : Rd (s := S2x4097x128) (val_main_v156 (F := Ideal) x0) (fun c : Fin 3 → ℕ => (pre A.S) (c 0) (c 1) (384+c 2)) :=
  Rd.of_apply (v102 I hr) (val_main_v156_apply x0) fun i => rfl

theorem v158 : Rd (s := S2x4112x128) (val_main_v158 (F := Ideal) x0) (fun c : Fin 3 → ℕ => (fun a n c => if n < 15 then 0 else pre A.S a (n - 15) (384+c)) (c 0) (c 1) (c 2)) :=
  catMid (p := 15) (scal (fun _ => f0) _) (v156 I hr) _

theorem v160 : Rd (s := S2x4096x128) (val_main_v160 (F := Ideal) x0) (fun c : Fin 3 → ℕ => (fun a n c => if n < 15 then 0 else pre A.S a (n - 15) (384+c)) (c 0) (c 1) (c 2)) :=
  Rd.of_apply (v158 I hr) (val_main_v160_apply x0) fun i => rfl

theorem v165 : Rd (s := S4096) (val_main_v165 (F := Ideal)) (fun c : Fin 1 → ℕ => (fun t => min ((t+1 : ℕ) : ℝ) ((16 : ℕ) : ℝ)) (c 0)) :=
  fun i => cnt_word (i 0).val (i 0).isLt 16 (by norm_num)

theorem v166 : Rd (s := S1x4096x1) (val_main_v166 (F := Ideal)) (fun c : Fin 3 → ℕ => (fun t => min ((t+1 : ℕ) : ℝ) ((16 : ℕ) : ℝ)) (c 1)) :=
  Rd.of_apply (v165 I hr) val_main_v166_apply fun i => rfl

theorem v169 : Rd (s := S2x4096x128) (val_main_v169 (F := Ideal)) (fun c : Fin 3 → ℕ => (fun t => min ((t+1 : ℕ) : ℝ) ((16 : ℕ) : ℝ)) (c 1)) :=
  Rd.of_apply (v166 I hr) val_main_v169_apply fun i => rfl

theorem v167 : Rd (s := S2x4096x128) (val_main_v167 (F := Ideal) x0) (fun c : Fin 3 → ℕ => (pre A.S) (c 0) (1+c 1) (384+c 2)) :=
  Rd.of_apply (v156 I hr) (val_main_v167_apply x0) fun i => rfl

theorem v171 : Rd (s := S2x4096x128) (val_main_v171 (F := Ideal) x0) (fun c : Fin 3 → ℕ => (A.S.x) (4096*c 0+c 1) (384+c 2)) :=
  Rd.of_apply (v11 I hr) (val_main_v171_apply x0) fun i => rfl

theorem v172 : Rd (s := S2x4096x128) (val_main_v172 (F := Ideal) x0) (fun c : Fin 3 → ℕ => (A.S.p) (4096*c 0+c 1) (384+c 2)) :=
  (((v167 I hr).subf (v160 I hr)).hdivf (v169 I hr) fun c _ => (lt_min (by positivity) (by positivity)).ne').subf (v171 I hr) |>.congr fun c hc => p_eq A.S 16 3 (c 0) (c 1) (384+c 2) rfl (hc 1) (by have h : c 2 < 128 := hc 2; omega)

theorem v176 : Rd (s := S2x4096x1x128) (val_main_v176 (F := Ideal) x0) (fun c : Fin 4 → ℕ => (A.S.p) (4096*c 0+c 1) (384+c 3)) :=
  Rd.of_apply (v172 I hr) (val_main_v176_apply x0) fun i => rfl

theorem v177 : Rd (s := S2x4096x4x128) (val_main_v177 (F := Ideal) x0) (fun c : Fin 4 → ℕ => (A.S.p) (4096*c 0+c 1) (128*c 2+c 3)) :=
  Rd.cat4 (n := 4) (a := 2) (d₁ := ![2, 4096, 1, 128]) (d₂ := ![2, 4096, 1, 128]) (d₃ := ![2, 4096, 1, 128]) (d₄ := ![2, 4096, 1, 128]) (e := ![2, 4096, 4, 128]) _ 1 2 3 rfl rfl rfl ((v173 I hr).congr fun c hc => cg2 A.S.p rfl (show 0+c 3 = 128*c 2+c 3 by have h : c 2 < 1 := hc 2; omega)) ((v174 I hr).congr fun c hc => cg2 A.S.p rfl (show 128+c 3 = 128*(1 + c 2)+c 3 by have h : c 2 < 1 := hc 2; omega)) ((v175 I hr).congr fun c hc => cg2 A.S.p rfl (show 256+c 3 = 128*(2 + c 2)+c 3 by have h : c 2 < 1 := hc 2; omega)) ((v176 I hr).congr fun c hc => cg2 A.S.p rfl (show 384+c 3 = 128*(3 + c 2)+c 3 by have h : c 2 < 1 := hc 2; omega))

theorem v178 : Rd (s := S4x128x2x4096) (val_main_v178 (F := Ideal) x0 x7) (fun c : Fin 4 → ℕ => (fun g r e => ∑ k ∈ Finset.range 128, A.S.pw g k e * A.S.p r (128*g+k)) (c 0) (4096*c 2+c 3) (c 1)) :=
  Rd.of_dot (va7 I hr) (v177 I hr) (val_main_v178_apply x0 x7) (fun c k => A.S.pw (c 0) k (c 1) * A.S.p (4096*c 2+c 3) (128*c 0+k)) fun i k => rfl

theorem v179 : Rd (s := S2x4096x4x128) (val_main_v179 (F := Ideal) x0 x7) (fun c : Fin 4 → ℕ => (A.S.q) (4096*c 0+c 1) (128*c 2+c 3)) :=
  (Rd.of_apply (t := S2x4096x4x128) (g := (fun c : Fin 4 → ℕ => (fun g r e => ∑ k ∈ Finset.range 128, A.S.pw g k e * A.S.p r (128*g+k)) (c 2) (4096*c 0+c 1) (c 3))) (v178 I hr) (val_main_v179_apply x0 x7) fun i => rfl).congr fun c hc => by
    have h : c 3 < 128 := hc 3
    show _ = A.S.q (4096*c 0+c 1) (128*c 2+c 3)
    unfold Re.q
    rw [show (128*c 2+c 3)/128 = c 2 by omega, show (128*c 2+c 3)%128 = c 3 by omega]
    exact Finset.sum_congr rfl fun k _ => mul_comm _ _

theorem v180 : Rd (s := S2x4096x512) (val_main_v180 (F := Ideal) x0 x7) (fun c : Fin 3 → ℕ => (A.S.q) (4096*c 0+c 1) (c 2)) :=
  Rd.of_apply (v179 I hr) (val_main_v180_apply x0 x7) fun i => by have h0 : (i 0).val < 2 := (i 0).isLt; have h1 : (i 1).val < 4096 := (i 1).isLt; have h2 : (i 2).val < 512 := (i 2).isLt; exact cg2 (A.S.q) (show 4096*((((i 0).val * 4096 + (i 1).val) * 512 + (i 2).val) / 2097152)+((((i 0).val * 4096 + (i 1).val) * 512 + (i 2).val) / 512 % 4096) = 4096*(i 0).val+(i 1).val by omega) (show 128*((((i 0).val * 4096 + (i 1).val) * 512 + (i 2).val) / 128 % 4)+((((i 0).val * 4096 + (i 1).val) * 512 + (i 2).val) % 128) = (i 2).val by omega)

end Cert.Rf

end
-- ==== Proof.RefPoolB.lean ====
/- The causal pooling of the reference, backward. -/
module

public import proofs.«01_k».proof.Proof.RefPool

@[expose] public section

set_option maxRecDepth 16384

noncomputable section

namespace Cert.Rf

open Idealize.ShloMosaic Cert.Rd Cert.Spec Cert.Consts Cert.ReferenceIdeal Cert.ReferenceIdeal.Gen Cert.ReferenceIdeal.Read

theorem E_eq (S : Re) (g a t c : ℕ) (ht : t < 4096) (hc : c / 128 = g) :
    S.dp (4096 * a + t) c / min ((t + 1 : ℕ) : ℝ) ((2 ^ (g + 1) : ℕ) : ℝ) = E S (4096 * a + t) c := by
  unfold E; rw [cnt_eq a t g c ht hc]

theorem Dn_eq (S : Re) (w g a n c : ℕ) (hw : 2 ^ (g + 1) = w) (hn : n < 4097) (hc : c / 128 = g) :
    (if 1 ≤ n ∧ n < 1 + 4096 then E S (4096 * a + (n - 1)) c else 0)
      + (if 0 ≤ w - 1 + n ∧ w - 1 + n < 0 + 4096 then -E S (4096 * a + (w - 1 + n - 0)) c else 0) = Dn S a n c := by
  unfold Dn
  rw [win_eq g c hc, hw]
  refine congrArg₂ (· + ·) (if_congr (by omega) rfl rfl) (if_congr (by omega) ?_ rfl)
  exact congrArg (fun k => -E S k c) (by omega)

variable {A : Args} {x0 : (⟨S8192x6144, .bf16⟩ : BufTy).Contents (Elt Ideal)} {x1 : (⟨S8192x1536, .bf16⟩ : BufTy).Contents (Elt Ideal)}
  {x2 : (⟨S8192x3072, .bf16⟩ : BufTy).Contents (Elt Ideal)} {x3 x4 : (⟨S512, .f32⟩ : BufTy).Contents (Elt Ideal)}
  {x5 : (⟨S4x128x128, .f32⟩ : BufTy).Contents (Elt Ideal)} {x6 : (⟨S4x128, .f32⟩ : BufTy).Contents (Elt Ideal)}
  {x7 : (⟨S4x128x128, .f32⟩ : BufTy).Contents (Elt Ideal)} {x8 : (⟨S512, .f32⟩ : BufTy).Contents (Elt Ideal)}
  {x9 : (⟨S3x512, .f32⟩ : BufTy).Contents (Elt Ideal)} (I : In A x0 x1 x2 x3 x4 x5 x6 x7 x8 x9) (hr : A.Real)
include I hr

theorem v253 : Rd (s := S512) (val_main_v253 (F := Ideal) x0 x1 x7) (fun c : Fin 1 → ℕ => (A.S.pvS) (c 0)) :=
  (colsum (F := fun r c => A.S.q r c * A.S.db r c) ((v180 I hr).mulf (v5 I hr)) (fun _ => f0) (fun _ => f0) _ _ _ _).congr fun c _ => Finset.sum_congr rfl fun r _ => mul_comm _ _

theorem v181 : Rd (s := S1x1x512) (val_main_v181 (F := Ideal) x8) (fun c : Fin 3 → ℕ => (A.S.ps) (c 2)) :=
  Rd.of_apply (va8 I hr) (val_main_v181_apply x8) fun i => rfl

theorem v251 : Rd (s := S2x4096x512) (val_main_v251 (F := Ideal) x8) (fun c : Fin 3 → ℕ => (A.S.ps) (c 2)) :=
  Rd.of_apply (v181 I hr) (val_main_v251_apply x8) fun i => rfl

theorem v252 : Rd (s := S2x4096x512) (val_main_v252 (F := Ideal) x1 x8) (fun c : Fin 3 → ℕ => (A.S.dq) (4096*c 0+c 1) (c 2)) :=
  (v5 I hr).mulf (v251 I hr)

theorem v254 : Rd (s := S2x4096x4x128) (val_main_v254 (F := Ideal) x1 x8) (fun c : Fin 4 → ℕ => (A.S.dq) (4096*c 0+c 1) (128*c 2+c 3)) :=
  Rd.of_apply (v252 I hr) (val_main_v254_apply x1 x8) fun i => by have h0 : (i 0).val < 2 := (i 0).isLt; have h1 : (i 1).val < 4096 := (i 1).isLt; have h2 : (i 2).val < 4 := (i 2).isLt; have h3 : (i 3).val < 128 := (i 3).isLt; exact cg2 (A.S.dq) (show 4096*(((((i 0).val * 4096 + (i 1).val) * 4 + (i 2).val) * 128 + (i 3).val) / 2097152)+(((((i 0).val * 4096 + (i 1).val) * 4 + (i 2).val) * 128 + (i 3).val) / 512 % 4096) = 4096*(i 0).val+(i 1).val by omega) (show (((((i 0).val * 4096 + (i 1).val) * 4 + (i 2).val) * 128 + (i 3).val) % 512) = 128*(i 2).val+(i 3).val by omega)

theorem v255 : Rd (s := S4x128x2x4096) (val_main_v255 (F := Ideal) x1 x8) (fun c : Fin 4 → ℕ => (A.S.dq) (4096*c 2+c 3) (128*c 0+c 1)) :=
  Rd.of_apply (v254 I hr) (val_main_v255_apply x1 x8) fun i => rfl

theorem v256 : Rd (s := S4x2x4096x128) (val_main_v256 (F := Ideal) x1 x7 x8) (fun c : Fin 4 → ℕ => (fun g r k => ∑ e ∈ Finset.range 128, A.S.dq r (128*g+e) * A.S.pw g k e) (c 0) (4096*c 1+c 2) (c 3)) :=
  Rd.of_dot (v255 I hr) (va7 I hr) (val_main_v256_apply x1 x7 x8) (fun c k => A.S.dq (4096*c 1+c 2) (128*c 0+k) * A.S.pw (c 0) (c 3) k) fun i k => rfl

theorem v257 : Rd (s := S2x4096x4x128) (val_main_v257 (F := Ideal) x1 x7 x8) (fun c : Fin 4 → ℕ => (A.S.dp) (4096*c 0+c 1) (128*c 2+c 3)) :=
  (Rd.of_apply (t := S2x4096x4x128) (g := (fun c : Fin 4 → ℕ => (fun g r k => ∑ e ∈ Finset.range 128, A.S.dq r (128*g+e) * A.S.pw g k e) (c 2) (4096*c 0+c 1) (c 3))) (v256 I hr) (val_main_v257_apply x1 x7 x8) fun i => rfl).congr fun c hc => by
    have h : c 3 < 128 := hc 3
    show _ = A.S.dp (4096*c 0+c 1) (128*c 2+c 3)
    unfold Re.dp
    rw [show (128*c 2+c 3)/128 = c 2 by omega, show (128*c 2+c 3)%128 = c 3 by omega]

theorem v258 : Rd (s := S4x128x128) (val_main_v258 (F := Ideal) x0 x1 x8) (fun c : Fin 3 → ℕ => (fun g e k => ∑ r ∈ Finset.range 8192, A.S.p r (128*g+k) * A.S.dq r (128*g+e)) (c 0) (c 1) (c 2)) :=
  (Rd.hdot2 dot_S4x128x2x4096_S2x4096x4x128_S4x128x128_23_01_1_3_0_2 none 2 4096 rfl rfl rfl (fun c a b => ![c 0, c 1, a, b]) (fun c a b => ![a, b, c 0, c 2])
    (fun j k => funext fun a => by match a with | ⟨0, _⟩ => rfl | ⟨1, _⟩ => rfl | ⟨2, _⟩ => rfl | ⟨3, _⟩ => rfl)
    (fun j k => funext fun a => by match a with | ⟨0, _⟩ => rfl | ⟨1, _⟩ => rfl | ⟨2, _⟩ => rfl | ⟨3, _⟩ => rfl) (v255 I hr) (v177 I hr)).congr fun c _ => by
    refine Eq.trans ?_ (sum_tok fun r => A.S.p r (128*c 0+c 2) * A.S.dq r (128*c 0+c 1))
    exact Finset.sum_congr rfl fun a _ => Finset.sum_congr rfl fun b _ => mul_comm _ _

theorem v259 : Rd (s := S4x128x128) (val_main_v259 (F := Ideal) x0 x1 x8) (fun c : Fin 3 → ℕ => (A.S.dpw) (c 0) (c 1) (c 2)) :=
  Rd.of_apply (v258 I hr) (val_main_v259_apply x0 x1 x8) fun i => rfl

theorem v260 : Rd (s := S2x4096x1x128) (val_main_v260 (F := Ideal) x1 x7 x8) (fun c : Fin 4 → ℕ => (A.S.dp) (4096*c 0+c 1) (128*(0+c 2)+c 3)) :=
  Rd.of_apply (v257 I hr) (val_main_v260_apply x1 x7 x8) fun i => by have h2 : (i 2).val < 1 := (i 2).isLt; have h3 : (i 3).val < 128 := (i 3).isLt; exact cg2 (A.S.dp) rfl (show 128*((i 2).val)+((i 3).val) = 128*(0+(i 2).val)+(i 3).val by omega)

theorem v261 : Rd (s := S2x4096x128) (val_main_v261 (F := Ideal) x1 x7 x8) (fun c : Fin 3 → ℕ => (A.S.dp) (4096*c 0+c 1) (0+c 2)) :=
  Rd.of_apply (v260 I hr) (val_main_v261_apply x1 x7 x8) fun i => by have h0 : (i 0).val < 2 := (i 0).isLt; have h1 : (i 1).val < 4096 := (i 1).isLt; have h2 : (i 2).val < 128 := (i 2).isLt; exact cg2 (A.S.dp) (show 4096*((((i 0).val * 4096 + (i 1).val) * 128 + (i 2).val) / 524288)+((((i 0).val * 4096 + (i 1).val) * 128 + (i 2).val) / 128 % 4096) = 4096*(i 0).val+(i 1).val by omega) (show 128*(0+(0))+((((i 0).val * 4096 + (i 1).val) * 128 + (i 2).val) % 128) = 0+(i 2).val by omega)

theorem v308 : Rd (s := S2x4096x128) (val_main_v308 (F := Ideal)) (fun c : Fin 3 → ℕ => (fun t => min ((t+1 : ℕ) : ℝ) ((2 : ℕ) : ℝ)) (c 1)) :=
  Rd.of_apply (v115 I hr) val_main_v308_apply fun i => rfl

theorem v309 : Rd (s := S2x4096x128) (val_main_v309 (F := Ideal) x1 x7 x8) (fun c : Fin 3 → ℕ => (E A.S) (4096*c 0+c 1) (0+c 2)) :=
  ((v261 I hr).hdivf (v308 I hr) fun c _ => (lt_min (by positivity) (by positivity)).ne').congr fun c hc => E_eq A.S 0 (c 0) (c 1) (0+c 2) (hc 1) (by have h : c 2 < 128 := hc 2; omega)

theorem v312 : Rd (s := S2x4098x128) (val_main_v312 (F := Ideal) x1 x7 x8) (fun c : Fin 3 → ℕ => (fun a n c => if 0 ≤ n ∧ n < 0+4096 then -E A.S (4096*a+(n-0)) (0+c) else 0) (c 0) (c 1) (c 2)) :=
  padMid (v309 I hr).hnegf 0 2 (fun _ => f0) _ _

theorem v314 : Rd (s := S2x4097x128) (val_main_v314 (F := Ideal) x1 x7 x8) (fun c : Fin 3 → ℕ => (fun a n c => if 0 ≤ n ∧ n < 0+4096 then -E A.S (4096*a+(n-0)) (0+c) else 0) (c 0) (1+c 1) (c 2)) :=
  Rd.of_apply (v312 I hr) (val_main_v314_apply x1 x7 x8) fun i => rfl

theorem v315 : Rd (s := S2x4097x128) (val_main_v315 (F := Ideal) x1 x7 x8) (fun c : Fin 3 → ℕ => (Dn A.S) (c 0) (c 1) (0+c 2)) :=
  ((padMid (v309 I hr) 1 0 (fun _ => f0) _ _).addf (v314 I hr)).congr fun c hc => Dn_eq A.S 2 0 (c 0) (c 1) (0+c 2) rfl (hc 1) (by have h : c 2 < 128 := hc 2; omega)

theorem v262 : Rd (s := S2x4096x1x128) (val_main_v262 (F := Ideal) x1 x7 x8) (fun c : Fin 4 → ℕ => (A.S.dp) (4096*c 0+c 1) (128*(1+c 2)+c 3)) :=
  Rd.of_apply (v257 I hr) (val_main_v262_apply x1 x7 x8) fun i => rfl

theorem v263 : Rd (s := S2x4096x128) (val_main_v263 (F := Ideal) x1 x7 x8) (fun c : Fin 3 → ℕ => (A.S.dp) (4096*c 0+c 1) (128+c 2)) :=
  Rd.of_apply (v262 I hr) (val_main_v263_apply x1 x7 x8) fun i => by have h0 : (i 0).val < 2 := (i 0).isLt; have h1 : (i 1).val < 4096 := (i 1).isLt; have h2 : (i 2).val < 128 := (i 2).isLt; exact cg2 (A.S.dp) (show 4096*((((i 0).val * 4096 + (i 1).val) * 128 + (i 2).val) / 524288)+((((i 0).val * 4096 + (i 1).val) * 128 + (i 2).val) / 128 % 4096) = 4096*(i 0).val+(i 1).val by omega) (show 128*(1+(0))+((((i 0).val * 4096 + (i 1).val) * 128 + (i 2).val) % 128) = 128+(i 2).val by omega)

theorem v295 : Rd (s := S2x4096x128) (val_main_v295 (F := Ideal)) (fun c : Fin 3 → ℕ => (fun t => min ((t+1 : ℕ) : ℝ) ((4 : ℕ) : ℝ)) (c 1)) :=
  Rd.of_apply (v132 I hr) val_main_v295_apply fun i => rfl

theorem v296 : Rd (s := S2x4096x128) (val_main_v296 (F := Ideal) x1 x7 x8) (fun c : Fin 3 → ℕ => (E A.S) (4096*c 0+c 1) (128+c 2)) :=
  ((v263 I hr).hdivf (v295 I hr) fun c _ => (lt_min (by positivity) (by positivity)).ne').congr fun c hc => E_eq A.S 1 (c 0) (c 1) (128+c 2) (hc 1) (by have h : c 2 < 128 := hc 2; omega)

theorem v299 : Rd (s := S2x4100x128) (val_main_v299 (F := Ideal) x1 x7 x8) (fun c : Fin 3 → ℕ => (fun a n c => if 0 ≤ n ∧ n < 0+4096 then -E A.S (4096*a+(n-0)) (128+c) else 0) (c 0) (c 1) (c 2)) :=
  padMid (v296 I hr).hnegf 0 4 (fun _ => f0) _ _

theorem v301 : Rd (s := S2x4097x128) (val_main_v301 (F := Ideal) x1 x7 x8) (fun c : Fin 3 → ℕ => (fun a n c => if 0 ≤ n ∧ n < 0+4096 then -E A.S (4096*a+(n-0)) (128+c) else 0) (c 0) (3+c 1) (c 2)) :=
  Rd.of_apply (v299 I hr) (val_main_v301_apply x1 x7 x8) fun i => rfl

theorem v302 : Rd (s := S2x4097x128) (val_main_v302 (F := Ideal) x1 x7 x8) (fun c : Fin 3 → ℕ => (Dn A.S) (c 0) (c 1) (128+c 2)) :=
  ((padMid (v296 I hr) 1 0 (fun _ => f0) _ _).addf (v301 I hr)).congr fun c hc => Dn_eq A.S 4 1 (c 0) (c 1) (128+c 2) rfl (hc 1) (by have h : c 2 < 128 := hc 2; omega)

theorem v264 : Rd (s := S2x4096x1x128) (val_main_v264 (F := Ideal) x1 x7 x8) (fun c : Fin 4 → ℕ => (A.S.dp) (4096*c 0+c 1) (128*(2+c 2)+c 3)) :=
  Rd.of_apply (v257 I hr) (val_main_v264_apply x1 x7 x8) fun i => rfl

theorem v265 : Rd (s := S2x4096x128) (val_main_v265 (F := Ideal) x1 x7 x8) (fun c : Fin 3 → ℕ => (A.S.dp) (4096*c 0+c 1) (256+c 2)) :=
  Rd.of_apply (v264 I hr) (val_main_v265_apply x1 x7 x8) fun i => by have h0 : (i 0).val < 2 := (i 0).isLt; have h1 : (i 1).val < 4096 := (i 1).isLt; have h2 : (i 2).val < 128 := (i 2).isLt; exact cg2 (A.S.dp) (show 4096*((((i 0).val * 4096 + (i 1).val) * 128 + (i 2).val) / 524288)+((((i 0).val * 4096 + (i 1).val) * 128 + (i 2).val) / 128 % 4096) = 4096*(i 0).val+(i 1).val by omega) (show 128*(2+(0))+((((i 0).val * 4096 + (i 1).val) * 128 + (i 2).val) % 128) = 256+(i 2).val by omega)

theorem v282 : Rd (s := S2x4096x128) (val_main_v282 (F := Ideal)) (fun c : Fin 3 → ℕ => (fun t => min ((t+1 : ℕ) : ℝ) ((8 : ℕ) : ℝ)) (c 1)) :=
  Rd.of_apply (v149 I hr) val_main_v282_apply fun i => rfl

theorem v283 : Rd (s := S2x4096x128) (val_main_v283 (F := Ideal) x1 x7 x8) (fun c : Fin 3 → ℕ => (E A.S) (4096*c 0+c 1) (256+c 2)) :=
  ((v265 I hr).hdivf (v282 I hr) fun c _ => (lt_min (by positivity) (by positivity)).ne').congr fun c hc => E_eq A.S 2 (c 0) (c 1) (256+c 2) (hc 1) (by have h : c 2 < 128 := hc 2; omega)

theorem v286 : Rd (s := S2x4104x128) (val_main_v286 (F := Ideal) x1 x7 x8) (fun c : Fin 3 → ℕ => (fun a n c => if 0 ≤ n ∧ n < 0+4096 then -E A.S (4096*a+(n-0)) (256+c) else 0) (c 0) (c 1) (c 2)) :=
  padMid (v283 I hr).hnegf 0 8 (fun _ => f0) _ _

theorem v288 : Rd (s := S2x4097x128) (val_main_v288 (F := Ideal) x1 x7 x8) (fun c : Fin 3 → ℕ => (fun a n c => if 0 ≤ n ∧ n < 0+4096 then -E A.S (4096*a+(n-0)) (256+c) else 0) (c 0) (7+c 1) (c 2)) :=
  Rd.of_apply (v286 I hr) (val_main_v288_apply x1 x7 x8) fun i => rfl

theorem v289 : Rd (s := S2x4097x128) (val_main_v289 (F := Ideal) x1 x7 x8) (fun c : Fin 3 → ℕ => (Dn A.S) (c 0) (c 1) (256+c 2)) :=
  ((padMid (v283 I hr) 1 0 (fun _ => f0) _ _).addf (v288 I hr)).congr fun c hc => Dn_eq A.S 8 2 (c 0) (c 1) (256+c 2) rfl (hc 1) (by have h : c 2 < 128 := hc 2; omega)

theorem v266 : Rd (s := S2x4096x1x128) (val_main_v266 (F := Ideal) x1 x7 x8) (fun c : Fin 4 → ℕ => (A.S.dp) (4096*c 0+c 1) (128*(3+c 2)+c 3)) :=
  Rd.of_apply (v257 I hr) (val_main_v266_apply x1 x7 x8) fun i => rfl

theorem v267 : Rd (s := S2x4096x128) (val_main_v267 (F := Ideal) x1 x7 x8) (fun c : Fin 3 → ℕ => (A.S.dp) (4096*c 0+c 1) (384+c 2)) :=
  Rd.of_apply (v266 I hr) (val_main_v267_apply x1 x7 x8) fun i => by have h0 : (i 0).val < 2 := (i 0).isLt; have h1 : (i 1).val < 4096 := (i 1).isLt; have h2 : (i 2).val < 128 := (i 2).isLt; exact cg2 (A.S.dp) (show 4096*((((i 0).val * 4096 + (i 1).val) * 128 + (i 2).val) / 524288)+((((i 0).val * 4096 + (i 1).val) * 128 + (i 2).val) / 128 % 4096) = 4096*(i 0).val+(i 1).val by omega) (show 128*(3+(0))+((((i 0).val * 4096 + (i 1).val) * 128 + (i 2).val) % 128) = 384+(i 2).val by omega)

theorem v270 : Rd (s := S2x4096x128) (val_main_v270 (F := Ideal)) (fun c : Fin 3 → ℕ => (fun t => min ((t+1 : ℕ) : ℝ) ((16 : ℕ) : ℝ)) (c 1)) :=
  Rd.of_apply (v166 I hr) val_main_v270_apply fun i => rfl

theorem v271 : Rd (s := S2x4096x128) (val_main_v271 (F := Ideal) x1 x7 x8) (fun c : Fin 3 → ℕ => (E A.S) (4096*c 0+c 1) (384+c 2)) :=
  ((v267 I hr).hdivf (v270 I hr) fun c _ => (lt_min (by positivity) (by positivity)).ne').congr fun c hc => E_eq A.S 3 (c 0) (c 1) (384+c 2) (hc 1) (by have h : c 2 < 128 := hc 2; omega)

theorem v274 : Rd (s := S2x4112x128) (val_main_v274 (F := Ideal) x1 x7 x8) (fun c : Fin 3 → ℕ => (fun a n c => if 0 ≤ n ∧ n < 0+4096 then -E A.S (4096*a+(n-0)) (384+c) else 0) (c 0) (c 1) (c 2)) :=
  padMid (v271 I hr).hnegf 0 16 (fun _ => f0) _ _

theorem v276 : Rd (s := S2x4097x128) (val_main_v276 (F := Ideal) x1 x7 x8) (fun c : Fin 3 → ℕ => (fun a n c => if 0 ≤ n ∧ n < 0+4096 then -E A.S (4096*a+(n-0)) (384+c) else 0) (c 0) (15+c 1) (c 2)) :=
  Rd.of_apply (v274 I hr) (val_main_v276_apply x1 x7 x8) fun i => rfl

theorem v277 : Rd (s := S2x4097x128) (val_main_v277 (F := Ideal) x1 x7 x8) (fun c : Fin 3 → ℕ => (Dn A.S) (c 0) (c 1) (384+c 2)) :=
  ((padMid (v271 I hr) 1 0 (fun _ => f0) _ _).addf (v276 I hr)).congr fun c hc => Dn_eq A.S 16 3 (c 0) (c 1) (384+c 2) rfl (hc 1) (by have h : c 2 < 128 := hc 2; omega)

theorem v317 : Rd (s := S2x4097x512) (val_main_v317 (F := Ideal) x1 x7 x8) (fun c : Fin 3 → ℕ => (Dn A.S) (c 0) (c 1) (c 2)) :=
  ((((padCol (v277 I hr) 384 0 (fun _ => f0) _ _).addf (padCol (v289 I hr) 256 128 (fun _ => f0) _ _)).addf (padCol (v302 I hr) 128 256 (fun _ => f0) _ _)).addf (padCol (v315 I hr) 0 384 (fun _ => f0) _ _)).congr fun c hc => four (c 2) (hc 2) (fun h0 => cg3 (Dn A.S) rfl rfl (show 0+(c 2-0) = c 2 by omega)) (fun h h0 => cg3 (Dn A.S) rfl rfl (show 128+(c 2-128) = c 2 by omega))
    (fun h h0 => cg3 (Dn A.S) rfl rfl (show 256+(c 2-256) = c 2 by omega)) (fun h0 => cg3 (Dn A.S) rfl rfl (show 384+(c 2-384) = c 2 by omega))

theorem v307 : Rd (s := S2x4096x512) (val_main_v307 (F := Ideal) x1 x7 x8) (fun c : Fin 3 → ℕ => (fun r c => -A.S.dp r c) (4096*c 0+c 1) (c 2)) :=
  ((((padCol (v267 I hr).hnegf 384 0 (fun _ => f0) _ _).addf (padCol (v265 I hr).hnegf 256 128 (fun _ => f0) _ _)).addf (padCol (v263 I hr).hnegf 128 256 (fun _ => f0) _ _)).addf (padCol (v261 I hr).hnegf 0 384 (fun _ => f0) _ _)).congr fun c hc => four (c 2) (hc 2) (fun h0 => cg2 (fun r c => -A.S.dp r c) rfl (show 0+(c 2-0) = c 2 by omega)) (fun h h0 => cg2 (fun r c => -A.S.dp r c) rfl (show 128+(c 2-128) = c 2 by omega))
    (fun h h0 => cg2 (fun r c => -A.S.dp r c) rfl (show 256+(c 2-256) = c 2 by omega)) (fun h0 => cg2 (fun r c => -A.S.dp r c) rfl (show 384+(c 2-384) = c 2 by omega))

theorem v319 : Rd (s := S2x4096x512) (val_main_v319 (F := Ideal) x1 x7 x8) (fun c : Fin 3 → ℕ => (Dn A.S) (c 0) (1+c 1) (c 2)) :=
  Rd.of_apply (v317 I hr) (val_main_v319_apply x1 x7 x8) fun i => rfl

theorem v320 : Rd (s := S2x4096x512) (val_main_v320 (F := Ideal) x1 x7 x8) (fun c : Fin 3 → ℕ => (A.S.lead) (4096*c 0+c 1) (c 2)) :=
  (Rd.win (m := 2) (N := 4096) (k := 512) (v319 I hr) (fun _ => f0) 0 4095 _ _).congr fun c hc => lead_eq A.S (c 0) (c 1) (c 2) (hc 1)

theorem v321 : Rd (s := S2x4096x512) (val_main_v321 (F := Ideal) x1 x7 x8) (fun c : Fin 3 → ℕ => (A.S.dx) (4096*c 0+c 1) (c 2)) :=
  ((v307 I hr).addf (v320 I hr)).congr fun c _ => neg_add_eq_sub _ _

end Cert.Rf

end
-- ==== Proof.RefConv.lean ====
/- The gated convolution of the reference, forward and backward. -/
module

public import proofs.«01_k».proof.Proof.RefIn

@[expose] public section

set_option maxRecDepth 16384

noncomputable section

namespace Cert.Rf

open Idealize.ShloMosaic Cert.Rd Cert.Spec Cert.Consts Cert.ReferenceIdeal Cert.ReferenceIdeal.Gen Cert.ReferenceIdeal.Read

/-! The convolution's shifts. -/
theorem zs_eq (T : Cv) (j n a t c : ℕ) (ht : t < 4096) (hn : n + j = t + 2) : (if n < 2 then 0 else T.zc (4096 * a + (n - 2)) c) = T.zs j (4096 * a + t) c := by
  unfold Cv.zs
  rw [show (4096 * a + t) % 4096 = t by omega]
  by_cases h : n < 2
  · rw [if_pos h, if_neg (by omega)]
  · rw [if_neg h, if_pos (by omega)]; exact congrArg (T.zc · c) (by omega)

/-- The gradient of the padded products: three taps, each shifted by its place. -/
def pad3 (T : Cv) (a n c : ℕ) : EReal := (if 2 ≤ n ∧ n < 2 + 4096 then T.cw 2 c * T.dy (4096 * a + (n - 2)) c else 0)
  + (if 1 ≤ n ∧ n < 1 + 4096 then T.cw 1 c * T.dy (4096 * a + (n - 1)) c else 0)
  + if 0 ≤ n ∧ n < 0 + 4096 then T.cw 0 c * T.dy (4096 * a + (n - 0)) c else 0

theorem dzc_eq (T : Cv) (a t c : ℕ) (ht : t < 4096) : pad3 T a (2 + t) c = T.dzc (4096 * a + t) c := by
  unfold pad3 Cv.dzc Cv.dys
  rw [show (4096 * a + t) % 4096 = t by omega, mul_ite, mul_ite, mul_zero, mul_zero]
  refine congrArg₂ (· + ·) (congrArg₂ (· + ·) ?_ (if_congr (by omega) ?_ rfl)) (if_congr (by omega) ?_ rfl)
  · rw [if_pos (by omega), show 2 + t - 2 = t by omega]
  · exact congrArg (fun k => T.cw 1 c * T.dy k c) (by omega)
  · exact congrArg (fun k => T.cw 0 c * T.dy k c) (by omega)

/-- The gradients of the three taps, row by row. -/
def pvRow (T : Cv) (j c : ℕ) : EReal := if j = 0 then T.pv2 c else if j = 1 then T.pv1 c else T.pv0 c

theorem pvRow_eq (T : Cv) (j c : ℕ) (hj : j < 3) : (if 2 ≤ j ∧ j < 2 + 1 then T.pv0 c else 0) + (if 1 ≤ j ∧ j < 1 + 1 then T.pv1 c else 0)
    + (if 0 ≤ j ∧ j < 0 + 1 then T.pv2 c else 0) = pvRow T j c := by
  unfold pvRow
  interval_cases j <;> simp

variable {A : Args} {x0 : (⟨S8192x6144, .bf16⟩ : BufTy).Contents (Elt Ideal)} {x1 : (⟨S8192x1536, .bf16⟩ : BufTy).Contents (Elt Ideal)}
  {x2 : (⟨S8192x3072, .bf16⟩ : BufTy).Contents (Elt Ideal)} {x3 x4 : (⟨S512, .f32⟩ : BufTy).Contents (Elt Ideal)}
  {x5 : (⟨S4x128x128, .f32⟩ : BufTy).Contents (Elt Ideal)} {x6 : (⟨S4x128, .f32⟩ : BufTy).Contents (Elt Ideal)}
  {x7 : (⟨S4x128x128, .f32⟩ : BufTy).Contents (Elt Ideal)} {x8 : (⟨S512, .f32⟩ : BufTy).Contents (Elt Ideal)}
  {x9 : (⟨S3x512, .f32⟩ : BufTy).Contents (Elt Ideal)} (I : In A x0 x1 x2 x3 x4 x5 x6 x7 x8 x9) (hr : A.Real)
include I hr

theorem v184 : Rd (s := S2x4096x512) (val_main_v184 (F := Ideal) x0) (fun c : Fin 3 → ℕ => (A.T.zc) (4096*c 0+c 1) (c 2)) :=
  (v13 I hr).mulf (v14 I hr)

theorem v186 : Rd (s := S2x4098x512) (val_main_v186 (F := Ideal) x0) (fun c : Fin 3 → ℕ => (fun a n c => if n < 2 then (0 : EReal) else A.T.zc (4096*a+(n-2)) c) (c 0) (c 1) (c 2)) :=
  catMid (p := 2) (scal z0E _) (v184 I hr) _

theorem v190 : Rd (s := S2x4096x512) (val_main_v190 (F := Ideal) x0) (fun c : Fin 3 → ℕ => (A.T.zs 2) (4096*c 0+c 1) (c 2)) :=
  (Rd.of_apply (t := S2x4096x512) (g := (fun c : Fin 3 → ℕ => (fun a n c => if n < 2 then (0 : EReal) else A.T.zc (4096*a+(n-2)) c) (c 0) (c 1) (c 2))) (v186 I hr) (val_main_v190_apply x0) fun i => rfl).congr fun c hc => zs_eq A.T 2 (c 1) (c 0) (c 1) (c 2) (hc 1) (by omega)

theorem v196 : Rd (s := S2x4096x512) (val_main_v196 (F := Ideal) x0) (fun c : Fin 3 → ℕ => (A.T.zs 1) (4096*c 0+c 1) (c 2)) :=
  (Rd.of_apply (t := S2x4096x512) (g := (fun c : Fin 3 → ℕ => (fun a n c => if n < 2 then (0 : EReal) else A.T.zc (4096*a+(n-2)) c) (c 0) (1+c 1) (c 2))) (v186 I hr) (val_main_v196_apply x0) fun i => rfl).congr fun c hc => zs_eq A.T 1 (1+c 1) (c 0) (c 1) (c 2) (hc 1) (by omega)

theorem v203 : Rd (s := S2x4096x512) (val_main_v203 (F := Ideal) x0) (fun c : Fin 3 → ℕ => (A.T.zc) (4096*c 0+c 1) (c 2)) :=
  (Rd.of_apply (t := S2x4096x512) (g := (fun c : Fin 3 → ℕ => (fun a n c => if n < 2 then (0 : EReal) else A.T.zc (4096*a+(n-2)) c) (c 0) (2+c 1) (c 2))) (v186 I hr) (val_main_v203_apply x0) fun i => rfl).congr fun c hc => (zs_eq A.T 0 (2+c 1) (c 0) (c 1) (c 2) (hc 1) (by omega)).trans (if_pos (Nat.zero_le _))

theorem v188 : Rd (s := S1x512) (val_main_v188 (F := Ideal) x9) (fun c : Fin 2 → ℕ => (A.T.cw) (0+c 0) (c 1)) :=
  Rd.of_apply (va9 I hr) (val_main_v188_apply x9) fun i => by have h0 : (i 0).val < 1 := (i 0).isLt; exact cg2 (A.T.cw) (show ((i 0).val) = 0+(i 0).val by omega) rfl

theorem v189 : Rd (s := S512) (val_main_v189 (F := Ideal) x9) (fun c : Fin 1 → ℕ => (A.T.cw) (0) (c 0)) :=
  Rd.of_apply (v188 I hr) (val_main_v189_apply x9) fun i => by have h0 : (i 0).val < 512 := (i 0).isLt; exact cg2 (A.T.cw) (show 0+(0) = 0 by omega) (show (((i 0).val) % 512) = (i 0).val by omega)

theorem v191 : Rd (s := S1x1x512) (val_main_v191 (F := Ideal) x9) (fun c : Fin 3 → ℕ => (A.T.cw) (0) (c 2)) :=
  Rd.of_apply (v189 I hr) (val_main_v191_apply x9) fun i => rfl

theorem v192 : Rd (s := S2x4096x512) (val_main_v192 (F := Ideal) x9) (fun c : Fin 3 → ℕ => (A.T.cw) (0) (c 2)) :=
  Rd.of_apply (v191 I hr) (val_main_v192_apply x9) fun i => rfl

theorem v233 : Rd (s := S2x4096x512) (val_main_v233 (F := Ideal) x9) (fun c : Fin 3 → ℕ => (A.T.cw) (0) (c 2)) :=
  Rd.of_apply (v191 I hr) (val_main_v233_apply x9) fun i => rfl

theorem v194 : Rd (s := S1x512) (val_main_v194 (F := Ideal) x9) (fun c : Fin 2 → ℕ => (A.T.cw) (1+c 0) (c 1)) :=
  Rd.of_apply (va9 I hr) (val_main_v194_apply x9) fun i => rfl

theorem v195 : Rd (s := S512) (val_main_v195 (F := Ideal) x9) (fun c : Fin 1 → ℕ => (A.T.cw) (1) (c 0)) :=
  Rd.of_apply (v194 I hr) (val_main_v195_apply x9) fun i => by have h0 : (i 0).val < 512 := (i 0).isLt; exact cg2 (A.T.cw) (show 1+(0) = 1 by omega) (show (((i 0).val) % 512) = (i 0).val by omega)

theorem v197 : Rd (s := S1x1x512) (val_main_v197 (F := Ideal) x9) (fun c : Fin 3 → ℕ => (A.T.cw) (1) (c 2)) :=
  Rd.of_apply (v195 I hr) (val_main_v197_apply x9) fun i => rfl

theorem v198 : Rd (s := S2x4096x512) (val_main_v198 (F := Ideal) x9) (fun c : Fin 3 → ℕ => (A.T.cw) (1) (c 2)) :=
  Rd.of_apply (v197 I hr) (val_main_v198_apply x9) fun i => rfl

theorem v222 : Rd (s := S2x4096x512) (val_main_v222 (F := Ideal) x9) (fun c : Fin 3 → ℕ => (A.T.cw) (1) (c 2)) :=
  Rd.of_apply (v197 I hr) (val_main_v222_apply x9) fun i => rfl

theorem v201 : Rd (s := S1x512) (val_main_v201 (F := Ideal) x9) (fun c : Fin 2 → ℕ => (A.T.cw) (2+c 0) (c 1)) :=
  Rd.of_apply (va9 I hr) (val_main_v201_apply x9) fun i => rfl

theorem v202 : Rd (s := S512) (val_main_v202 (F := Ideal) x9) (fun c : Fin 1 → ℕ => (A.T.cw) (2) (c 0)) :=
  Rd.of_apply (v201 I hr) (val_main_v202_apply x9) fun i => by have h0 : (i 0).val < 512 := (i 0).isLt; exact cg2 (A.T.cw) (show 2+(0) = 2 by omega) (show (((i 0).val) % 512) = (i 0).val by omega)

theorem v204 : Rd (s := S1x1x512) (val_main_v204 (F := Ideal) x9) (fun c : Fin 3 → ℕ => (A.T.cw) (2) (c 2)) :=
  Rd.of_apply (v202 I hr) (val_main_v204_apply x9) fun i => rfl

theorem v205 : Rd (s := S2x4096x512) (val_main_v205 (F := Ideal) x9) (fun c : Fin 3 → ℕ => (A.T.cw) (2) (c 2)) :=
  Rd.of_apply (v204 I hr) (val_main_v205_apply x9) fun i => rfl

theorem v213 : Rd (s := S2x4096x512) (val_main_v213 (F := Ideal) x9) (fun c : Fin 3 → ℕ => (A.T.cw) (2) (c 2)) :=
  Rd.of_apply (v204 I hr) (val_main_v213_apply x9) fun i => rfl

theorem v207 : Rd (s := S2x4096x512) (val_main_v207 (F := Ideal) x0 x9) (fun c : Fin 3 → ℕ => (A.T.y) (4096*c 0+c 1) (c 2)) :=
  (((v192 I hr).mulf (v190 I hr)).addf ((v198 I hr).mulf (v196 I hr))).addf ((v205 I hr).mulf (v203 I hr))

theorem v211 : Rd (s := S2x4096x512) (val_main_v211 (F := Ideal) x0 x1) (fun c : Fin 3 → ℕ => (A.T.dy) (4096*c 0+c 1) (c 2)) :=
  ((v12 I hr).mulf (v6 I hr)).congr fun c _ => mul_comm _ _

theorem v212 : Rd (s := S2x4096x512) (val_main_v212 (F := Ideal) x0 x1 x9) (fun c : Fin 3 → ℕ => (A.T.dbg) (4096*c 0+c 1) (c 2)) :=
  (v6 I hr).mulf (v207 I hr)

theorem v218 : Rd (s := S512) (val_main_v218 (F := Ideal) x0 x1) (fun c : Fin 1 → ℕ => (A.T.pv0) (c 0)) :=
  colsum (F := fun r c => A.T.dy r c * A.T.zc r c) ((v211 I hr).mulf (v203 I hr)) z0E z0E _ _ _ _

theorem v227 : Rd (s := S512) (val_main_v227 (F := Ideal) x0 x1) (fun c : Fin 1 → ℕ => (A.T.pv1) (c 0)) :=
  colsum (F := fun r c => A.T.dy r c * A.T.zs 1 r c) ((v211 I hr).mulf (v196 I hr)) z0E z0E _ _ _ _

theorem v238 : Rd (s := S512) (val_main_v238 (F := Ideal) x0 x1) (fun c : Fin 1 → ℕ => (A.T.pv2) (c 0)) :=
  colsum (F := fun r c => A.T.dy r c * A.T.zs 2 r c) ((v211 I hr).mulf (v190 I hr)) z0E z0E _ _ _ _

theorem v240 : Rd (s := S2x4098x512) (val_main_v240 (F := Ideal) x0 x1 x9) (fun c : Fin 3 → ℕ => (pad3 A.T) (c 0) (c 1) (c 2)) :=
  ((padMid ((v213 I hr).mulf (v211 I hr)) 2 0 z0E _ _).addf (padMid ((v222 I hr).mulf (v211 I hr)) 1 1 z0E _ _)).addf (padMid ((v233 I hr).mulf (v211 I hr)) 0 2 z0E _ _)

theorem v245 : Rd (s := S2x4096x512) (val_main_v245 (F := Ideal) x0 x1 x9) (fun c : Fin 3 → ℕ => (A.T.dzc) (4096*c 0+c 1) (c 2)) :=
  (Rd.of_apply (t := S2x4096x512) (g := (fun c : Fin 3 → ℕ => (pad3 A.T) (c 0) (2+c 1) (c 2))) (v240 I hr) (val_main_v245_apply x0 x1 x9) fun i => rfl).congr fun c hc => dzc_eq A.T (c 0) (c 1) (c 2) (hc 1)

theorem v246 : Rd (s := S2x4096x512) (val_main_v246 (F := Ideal) x0 x1 x9) (fun c : Fin 3 → ℕ => (A.T.dhc) (4096*c 0+c 1) (c 2)) :=
  ((v13 I hr).mulf (v245 I hr)).congr fun c _ => mul_comm _ _

theorem v247 : Rd (s := S2x4096x512) (val_main_v247 (F := Ideal) x0 x1 x9) (fun c : Fin 3 → ℕ => (A.T.dcg) (4096*c 0+c 1) (c 2)) :=
  (v245 I hr).mulf (v14 I hr)

theorem v220 : Rd (s := S1x512) (val_main_v220 (F := Ideal) x0 x1) (fun c : Fin 2 → ℕ => (A.T.pv0) (c 1)) :=
  Rd.of_apply (v218 I hr) (val_main_v220_apply x0 x1) fun i => rfl

theorem v230 : Rd (s := S1x512) (val_main_v230 (F := Ideal) x0 x1) (fun c : Fin 2 → ℕ => (A.T.pv1) (c 1)) :=
  Rd.of_apply (v227 I hr) (val_main_v230_apply x0 x1) fun i => rfl

theorem v241 : Rd (s := S1x512) (val_main_v241 (F := Ideal) x0 x1) (fun c : Fin 2 → ℕ => (A.T.pv2) (c 1)) :=
  Rd.of_apply (v238 I hr) (val_main_v241_apply x0 x1) fun i => rfl

theorem v243 : Rd (s := S3x512) (val_main_v243 (F := Ideal) x0 x1) (fun c : Fin 2 → ℕ => (pvRow A.T) (c 0) (c 1)) :=
  (((padRow (m := 1) (v220 I hr) 2 0 z0E _ _).addf (padRow (m := 1) (v230 I hr) 1 1 z0E _ _)).addf (padRow (m := 1) (v241 I hr) 0 2 z0E _ _)).congr fun c hc => pvRow_eq A.T (c 0) (c 1) (hc 0)

end Cert.Rf

end
-- ==== Proof.PayGate.lean ====
/- The kernel's values of the spatial gating unit at block `i`: gelu, layer norm and the mixed tokens. -/
module

public import proofs.«01_k».proof.Proof.Gen.KernelIdeal.Skeleton
public import proofs.«01_k».proof.Proof.Consts
public import proofs.«01_k».proof.Proof.Rd

@[expose] public section

set_option maxRecDepth 16384

noncomputable section

namespace Cert.Ker

open Idealize.ShloMosaic Cert.KernelIdeal Cert.KernelIdeal.Gen Cert.Spec Cert.Rd

/-- Block `i` of 256 token rows of an array over tokens and channels. -/
abbrev blk {α : Type} (i : ℕ) (F : ℕ → ℕ → α) : (Fin 2 → ℕ) → α := fun c => F (256 * i + c 0) (c 1)
/-- A row vector's entries, and a plane of a stack. -/
abbrev row {α : Type} (F : ℕ → α) : (Fin 2 → ℕ) → α := fun c => F (c 1)
abbrev pl {α : Type} (F : ℕ → ℕ → α) : (Fin 3 → ℕ) → α := fun c => F (c 1) (c 2)

theorem z2 {s : Shape} : Rd (broadcast s (Scalar.ofBits (F := Ideal) .f32 0x00000000#32)) fun _ => (0 : ℝ) := Rd.splat Consts.f0
theorem z2' {s : Shape} : Rd (constant (F := Ideal) s .f32 0x00000000#32) fun _ => (0 : ℝ) := Rd.const Consts.f0

section
variable {x y : Vec Ideal S256x512 .bf16} {f g : (Fin 2 → ℕ) → ℝ}

theorem pay16 (h : Rd x f) : Rd (k0_pay16 x) fun c => th (f c) :=
  (((Rd.splat Consts.kK).mulf (h.addf ((((Rd.splat Consts.kC).mulf h).mulf h).mulf h))).tanh :)
theorem pay18 (h : Rd x f) : Rd (k0_pay18 x) fun c => th (f c) :=
  (((Rd.splat Consts.kK).mulf (h.addf ((((Rd.splat Consts.kC).mulf h).mulf h).mulf h))).tanh :)
theorem pay17 (h : Rd x f) : Rd (k0_pay17 x) fun c => gelu (f c) :=
  ((Rd.splat Consts.hhalf).mulf h).mulf ((Rd.splat Consts.h1).addf (pay16 h))
theorem pay19 (h : Rd x f) : Rd (k0_pay19 x) fun c => 1 / 2 * f c :=
  (Rd.splat Consts.hhalf).mulf h
end

section
variable (S : Re) (i : ℕ) {t w : Vec Ideal S256x512 .bf16} (ht : Rd t fun c => th (blk i S.v c)) (hw : Rd w fun c => 1 / 2 * blk i S.v c)

abbrev one16 : Ideal .bf16 := Scalar.ofBits .bf16 0x3F80#16

include ht hw
theorem pay20 : Rd (k0_pay20 t w one16) (blk i S.vc) := by
  have h74 : Rd (extf .f32 (mulf w (addf (broadcast S256x512 one16) t)) bitsLt_bf16_f32) (blk i S.vg) :=
    hw.mulf ((Rd.splat Consts.h1).addf ht)
  exact (h74.subf ((((h74.red1 _ reduces_S256x512_S256 (.inl rfl) rfl).castCol shapeCasts_S256_S256x1).divf (Rd.splat Consts.f512)
    fun _ _ => by norm_num).bcastTo broadcasts_S256x1_S256x512) :)

theorem pay21 : Rd (k0_pay21 t w one16) fun c => S.rs (256 * i + c 0) := by
  have h := pay20 S i ht hw
  refine ((((((h.mulf h).red1 _ reduces_S256x512_S256 (.inl rfl) rfl).castCol shapeCasts_S256_S256x1).divf (Rd.splat Consts.f512)
    fun _ _ => by norm_num).addf (Rd.splat Consts.feps)).rsqrt fun c _ => ?_ :)
  exact S.va_pos (256 * i + c 0)

theorem pay22 : Rd (k0_pay22 t w one16) (blk i S.vh) :=
  (pay20 S i ht hw).mulf ((pay21 S i ht hw).bcastTo broadcasts_S256x1_S256x512)

variable {g b : Vec Ideal S1x512 .f32} (hg : Rd g (row S.g)) (hb : Rd b (row S.b))
include hg hb
theorem pay23 : Rd (k0_pay23 g b t w one16) (blk i S.vn) :=
  ((pay22 S i ht hw).mulf (hg.bcastTo broadcasts_S1x512_S256x512)).addf (hb.bcastTo broadcasts_S1x512_S256x512)
end

/-! The mask, the mixing weights and the mixed tokens. -/

theorem le_word : ∀ a b : Fin 128, (BitVec.ofBool ((BitVec.ofNat 32 b.val).sle (BitVec.ofNat 32 a.val)) = 1#1 ↔ b.val ≤ a.val) := by
  decide +kernel

theorem pay24 (i : S128x128.Idx) : k0_pay24 i = 1 ↔ (i 1).val ≤ (i 0).val := by
  refine Iff.trans (Eq.to_iff (congrArg (· = 1#1) ?_)) (le_word (i 0) (i 1))
  show BitVec.ofBool ((iota .tc S128x128 32 [1] iota_S128x128_d1_w32 i).sle (iota .tc S128x128 32 [0] iota_S128x128_d0_w32 i)) = _
  rw [iota_single_apply, iota_single_apply]
theorem pay56 (i : S128x128.Idx) : k0_pay56 i = 1 ↔ (i 1).val ≤ (i 0).val := pay24 i

section
variable (S : Re) {x : Vec Ideal S1x128x128 .f32}

theorem pay25 (h : ℕ) (hx : Rd x (pl (S.ws h))) : Rd (k0_pay25 x) fun c => S.wt h (c 0) (c 1) :=
  (Rd.select (P := fun c : Fin 2 → ℕ => c 1 ≤ c 0) pay24 (hx.castDrop shapeCasts_S1x128x128_S128x128) z2 :)
theorem pay26 (h : ℕ) (hx : Rd x (pl (S.ws h))) : Rd (k0_pay26 x) fun c => S.wt h (c 0) (c 1) :=
  (Rd.select (P := fun c : Fin 2 → ℕ => c 1 ≤ c 0) pay24 (hx.castDrop shapeCasts_S1x128x128_S128x128) z2 :)
theorem pay27 (h : ℕ) (hx : Rd x (pl (S.ws h))) : Rd (k0_pay27 x) fun c => S.wt h (c 0) (c 1) :=
  (Rd.select (P := fun c : Fin 2 → ℕ => c 1 ≤ c 0) pay24 (hx.castDrop shapeCasts_S1x128x128_S128x128) z2 :)
theorem pay28 (h : ℕ) (hx : Rd x (pl (S.ws h))) : Rd (k0_pay28 k0_pay24 x) fun c => S.wt h (c 0) (c 1) :=
  (Rd.select (P := fun c : Fin 2 → ℕ => c 1 ≤ c 0) pay24 (hx.castDrop shapeCasts_S1x128x128_S128x128) z2 :)
end

/-! The products. -/
section
variable {φ ψ : FTy} {f g z : (Fin 2 → ℕ) → ℝ}

theorem dot128 {l : FVec Ideal S128x128 φ} {r : FVec Ideal S128x128 ψ} (hl : Rd l f) (hr : Rd r g) :
    Rd (matmul dot_S128x128_S128x128_S128x128_1_0_0_1_n_n none l r (constant S128x128 .f32 0x00000000#32))
      fun c => ∑ k ∈ Finset.range 128, f ![c 0, k] * g ![k, c 1] :=
  (Rd.dot dot_S128x128_S128x128_S128x128_1_0_0_1_n_n none 128 (fun c k => ![c 0, k]) (fun c k => ![k, c 1])
    hl hr z2').congr
    fun c _ => zero_add _
theorem dot128t0 {l : FVec Ideal S128x128 φ} {r : FVec Ideal S128x128 ψ} (hl : Rd l f) (hr : Rd r g) :
    Rd (matmul dot_S128x128_S128x128_S128x128_0_0_1_1_n_n none l r (constant S128x128 .f32 0x00000000#32))
      fun c => ∑ k ∈ Finset.range 128, f ![k, c 0] * g ![k, c 1] :=
  (Rd.dot dot_S128x128_S128x128_S128x128_0_0_1_1_n_n none 128 (fun c k => ![k, c 0]) (fun c k => ![k, c 1])
    hl hr z2').congr
    fun c _ => zero_add _
theorem dot128t1 {l : FVec Ideal S128x128 φ} {r : FVec Ideal S128x128 ψ} (hl : Rd l f) (hr : Rd r g) :
    Rd (matmul dot_S128x128_S128x128_S128x128_1_1_0_0_n_n none l r (constant S128x128 .f32 0x00000000#32))
      fun c => ∑ k ∈ Finset.range 128, f ![c 0, k] * g ![c 1, k] :=
  (Rd.dot dot_S128x128_S128x128_S128x128_1_1_0_0_n_n none 128 (fun c k => ![c 0, k]) (fun c k => ![c 1, k])
    hl hr z2').congr
    fun c _ => zero_add _
theorem dot256 {l : FVec Ideal S256x128 φ} {r : FVec Ideal S128x128 ψ} (hl : Rd l f) (hr : Rd r g) :
    Rd (matmul dot_S256x128_S128x128_S256x128_1_0_0_1_n_n none l r (constant S256x128 .f32 0x00000000#32))
      fun c => ∑ k ∈ Finset.range 128, f ![c 0, k] * g ![k, c 1] :=
  (Rd.dot dot_S256x128_S128x128_S256x128_1_0_0_1_n_n none 128 (fun c k => ![c 0, k]) (fun c k => ![k, c 1])
    hl hr z2').congr
    fun c _ => zero_add _
theorem dot256t1 {l : FVec Ideal S256x128 φ} {r : FVec Ideal S128x128 ψ} (hl : Rd l f) (hr : Rd r g) :
    Rd (matmul dot_S256x128_S128x128_S256x128_1_1_0_0_n_n none l r (constant S256x128 .f32 0x00000000#32))
      fun c => ∑ k ∈ Finset.range 128, f ![c 0, k] * g ![c 1, k] :=
  (Rd.dot dot_S256x128_S128x128_S256x128_1_1_0_0_n_n none 128 (fun c k => ![c 0, k]) (fun c k => ![c 1, k])
    hl hr z2').congr
    fun c _ => zero_add _
theorem dot16t1 {l : FVec Ideal S16x128 φ} {r : FVec Ideal S128x128 ψ} (hl : Rd l f) (hr : Rd r g) :
    Rd (matmul dot_S16x128_S128x128_S16x128_1_1_0_0_n_n none l r (constant S16x128 .f32 0x00000000#32))
      fun c => ∑ k ∈ Finset.range 128, f ![c 0, k] * g ![c 1, k] :=
  (Rd.dot dot_S16x128_S128x128_S16x128_1_1_0_0_n_n none 128 (fun c k => ![c 0, k]) (fun c k => ![c 1, k])
    hl hr z2').congr
    fun c _ => zero_add _
theorem dot256t0 {l : FVec Ideal S256x128 φ} {r : FVec Ideal S256x128 ψ} (hl : Rd l f) (hr : Rd r g) :
    Rd (matmul dot_S256x128_S256x128_S128x128_0_0_1_1_n_n none l r (constant S128x128 .f32 0x00000000#32))
      fun c => ∑ k ∈ Finset.range 256, f ![k, c 0] * g ![k, c 1] :=
  (Rd.dot dot_S256x128_S256x128_S128x128_0_0_1_1_n_n none 256 (fun c k => ![k, c 0]) (fun c k => ![k, c 1])
    hl hr z2').congr
    fun c _ => zero_add _
end

/-! One head of one chunk of the mixed tokens, then all of them. -/
section
variable (S : Re) (i : ℕ) {v : FVec Ideal S256x512 .bf16} (hv : Rd v (blk i S.vn))
  {w : FVec Ideal S128x128 .bf16} {b : Vec Ideal S128x1 .f32}

theorem piece (n h : ℕ) (hv : Rd v (blk i S.vn)) (hw : Rd w fun c => S.wt h (c 0) (c 1)) (hb : Rd b fun c => S.bs h (c 0))
    (hs : S256x512.Slices ![128 * n, 128 * h] S128x128) :
    Rd (addf (matmul dot_S128x128_S128x128_S128x128_1_0_0_1_n_n none w (extractStridedSlice S128x128 ![128 * n, 128 * h] v hs)
      (constant S128x128 .f32 0x00000000#32)) (broadcastTo S128x128 (shapeCast S128x1 b shapeCasts_S128x1_S128x1) broadcasts_S128x1_S128x128))
      fun c => S.sC (2 * i + n) (c 0) (128 * h + c 1) := by
  refine ((dot128 hw (hv.slice _ hs)).addf ((hb.castSelf shapeCasts_S128x1_S128x1).bcastTo broadcasts_S128x1_S128x128)).congr fun c hc => ?_
  have h1 : c 1 < 128 := hc 1
  unfold Re.sC
  rw [show (128 * h + c 1) / 128 = h by omega]
  refine congrArg₂ (· + ·) (Finset.sum_congr rfl fun k hk => ?_) rfl
  show S.wt h (c 0) k * S.vn (256 * i + (128 * n + k)) (128 * h + c 1) = _
  rw [show 256 * i + (128 * n + k) = 128 * (2 * i + n) + k by omega]

theorem pieceT (n h : ℕ) {v : FVec Ideal S256x512 .bf16} (hv : Rd v (blk i S.ds)) {w : FVec Ideal S128x128 .bf16}
    (hw : Rd w fun c => S.wt h (c 0) (c 1)) (hs : S256x512.Slices ![128 * n, 128 * h] S128x128) :
    Rd (matmul dot_S128x128_S128x128_S128x128_0_0_1_1_n_n none w (extractStridedSlice S128x128 ![128 * n, 128 * h] v hs)
      (constant S128x128 .f32 0x00000000#32)) fun c => S.dvnC (2 * i + n) (c 0) (128 * h + c 1) := by
  refine (dot128t0 hw (hv.slice _ hs)).congr fun c hc => ?_
  have h1 : c 1 < 128 := hc 1
  unfold Re.dvnC
  rw [show (128 * h + c 1) / 128 = h by omega]
  refine Finset.sum_congr rfl fun k hk => ?_
  show S.wt h k (c 0) * S.ds (256 * i + (128 * n + k)) (128 * h + c 1) = _
  rw [show 256 * i + (128 * n + k) = 128 * (2 * i + n) + k by omega]

theorem pieceW (n h : ℕ) {v w : FVec Ideal S256x512 .bf16} (hv : Rd v (blk i S.ds)) (hw : Rd w (blk i S.vn))
    (hs hs' : S256x512.Slices ![128 * n, 128 * h] S128x128) :
    Rd (matmul dot_S128x128_S128x128_S128x128_1_1_0_0_n_n none (extractStridedSlice S128x128 ![128 * n, 128 * h] v hs)
      (extractStridedSlice S128x128 ![128 * n, 128 * h] w hs')
      (constant S128x128 .f32 0x00000000#32)) fun c => S.dwsC (2 * i + n) h (c 0) (c 1) := by
  refine (dot128t1 (hv.slice _ hs) (hw.slice _ hs')).congr fun c hc => Finset.sum_congr rfl fun k hk => ?_
  show S.ds (256 * i + (128 * n + c 0)) (128 * h + k) * S.vn (256 * i + (128 * n + c 1)) (128 * h + k) = _
  rw [show ∀ x, 256 * i + (128 * n + x) = 128 * (2 * i + n) + x by intro x; omega, show ∀ x, 256 * i + (128 * n + x) = 128 * (2 * i + n) + x by intro x; omega]

theorem chunk0 (F : ℕ → ℕ → ℕ → ℝ) {x y : FVec Ideal S128x512 .f32} (hx : Rd x fun c => F (2 * i) (c 0) (c 1)) (hy : Rd y fun c => F (2 * i + 1) (c 0) (c 1)) :
    Rd (concatenate S256x512 0 [⟨S128x512, x⟩, ⟨S128x512, y⟩] concatenates_S128x512_S128x512_S256x512_d0)
      (blk i fun r c => F (r / 128) (r % 128) c) := by
  refine Rd.cat2 _ 128 rfl (hx.congr fun c hc => ?_) (hy.congr fun c hc => ?_)
  · have h0 : c 0 < 128 := hc 0
    show F (2 * i) (c 0) (c 1) = F ((256 * i + c 0) / 128) ((256 * i + c 0) % 128) (c 1)
    rw [show (256 * i + c 0) / 128 = 2 * i by omega, show (256 * i + c 0) % 128 = c 0 by omega]
  · have h0 : c 0 < 128 := hc 0
    show F (2 * i + 1) (c 0) (c 1) = F ((256 * i + (128 + c 0)) / 128) ((256 * i + (128 + c 0)) % 128) (c 1)
    rw [show (256 * i + (128 + c 0)) / 128 = 2 * i + 1 by omega, show (256 * i + (128 + c 0)) % 128 = c 0 by omega]

section
variable {w0 w1 w2 w3 : FVec Ideal S128x128 .bf16} (h0 : Rd w0 fun c => S.wt 0 (c 0) (c 1)) (h1 : Rd w1 fun c => S.wt 1 (c 0) (c 1))
  (h2 : Rd w2 fun c => S.wt 2 (c 0) (c 1)) (h3 : Rd w3 fun c => S.wt 3 (c 0) (c 1))
  {b0 b1 b2 b3 : Vec Ideal S128x1 .f32} (hb0 : Rd b0 fun c => S.bs 0 (c 0)) (hb1 : Rd b1 fun c => S.bs 1 (c 0))
  (hb2 : Rd b2 fun c => S.bs 2 (c 0)) (hb3 : Rd b3 fun c => S.bs 3 (c 0))
  {x : Vec Ideal S1x128x128 .f32} (hx : Rd x (pl (S.ws 3)))

include hv h0 h1 h2 hb0 hb1 hb2 hb3 hx in
theorem pay29 : Rd (k0_pay29 v k0_pay24 w0 w1 w2 x b0 b1 b2 b3) fun c => S.sC (2 * i) (c 0) (c 1) :=
  Rd.cat4 (f := fun c : Fin 2 → ℕ => S.sC (2 * i) (c 0) (c 1)) concatenates_S128x128_S128x128_S128x128_S128x128_S128x512_d1 128 256 384 rfl rfl rfl
    ((piece S i 0 0 hv h0 hb0 slices_S256x512_o0_0_S128x128).congr fun c _ => congrArg (S.sC (2 * i + 0) (c 0)) (Nat.zero_add (c 1)))
    (piece S i 0 1 hv h1 hb1 slices_S256x512_o0_128_S128x128) (piece S i 0 2 hv h2 hb2 slices_S256x512_o0_256_S128x128)
    (piece S i 0 3 hv (pay28 S 3 hx) hb3 slices_S256x512_o0_384_S128x128)

include hv h0 h1 h2 h3 hb0 hb1 hb2 hb3 in
theorem pay32 {s0 : FVec Ideal S128x512 .f32} (hs0 : Rd s0 fun c => S.sC (2 * i) (c 0) (c 1)) :
    Rd (k0_pay32 v w2 w3 s0 (k0_pay30 v w0 b0) (k0_pay31 v w1) b1 b2 b3) (blk i S.s) :=
  chunk0 i S.sC hs0 (Rd.cat4 (f := fun c : Fin 2 → ℕ => S.sC (2 * i + 1) (c 0) (c 1)) concatenates_S128x128_S128x128_S128x128_S128x128_S128x512_d1 128 256 384 rfl rfl rfl
    ((piece S i 1 0 hv h0 hb0 slices_S256x512_o128_0_S128x128).congr fun c _ => congrArg (S.sC (2 * i + 1) (c 0)) (Nat.zero_add (c 1)))
    (piece S i 1 1 hv h1 hb1 slices_S256x512_o128_128_S128x128) (piece S i 1 2 hv h2 hb2 slices_S256x512_o128_256_S128x128)
    (piece S i 1 3 hv h3 hb3 slices_S256x512_o128_384_S128x128))
end

/-! The gradients of the mixed tokens, of the weights' argument and of the weights. -/
section
variable {d : Vec Ideal S256x1536 .bf16} {u : FVec Ideal S256x512 .bf16} {s : FVec Ideal S256x512 .f32}

theorem pay61 (hd : Rd (k0_pay53 d) (blk i S.da)) (hs : Rd s (blk i S.s)) : Rd (k0_pay61 s d) (blk i fun r c => S.da r c * S.s r c) :=
  hd.mulf hs
theorem pay62 (hd : Rd (k0_pay53 d) (blk i S.da)) (hu : Rd u (blk i fun r c => gelu (S.u r c))) : Rd (k0_pay62 u d) (blk i S.ds) :=
  hd.mulf hu
theorem pay63 (hd : Rd (k0_pay53 d) (blk i S.da)) (hu : Rd u (blk i fun r c => gelu (S.u r c))) : Rd (k0_pay63 u d) (blk i S.ds) :=
  hd.mulf hu

/-- The sum over the two chunks of the block. -/
abbrev two (F : ℕ → ℝ) : ℝ := F (2 * i) + F (2 * i + 1)

variable (hd : Rd (k0_pay53 d) (blk i S.da)) (hu : Rd u (blk i fun r c => gelu (S.u r c)))
include hd hu

theorem pay75 : Rd (k0_pay75 (k0_pay62 u d) (k0_pay66 u d)) fun c => two i fun n => S.ds (128 * n + c 0) (c 1) := by
  have h := pay62 S i hd hu
  refine ((z2.addf (h.slice ![0, 0] slices_S256x512_o0_0_S128x512)).addf (h.slice ![128, 0] slices_S256x512_o128_0_S128x512) :).congr fun c _ => ?_
  show 0 + S.ds (256 * i + (0 + c 0)) (0 + c 1) + S.ds (256 * i + (128 + c 0)) (0 + c 1) = S.ds (128 * (2 * i) + c 0) (c 1) + S.ds (128 * (2 * i + 1) + c 0) (c 1)
  rw [zero_add, zero_add, zero_add, show 256 * i + (128 + c 0) = 128 * (2 * i + 1) + c 0 by omega, show 256 * i + c 0 = 128 * (2 * i) + c 0 by omega]

section
variable {w0 w1 w2 w3 : FVec Ideal S128x128 .bf16} (h0 : Rd w0 fun c => S.wt 0 (c 0) (c 1)) (h1 : Rd w1 fun c => S.wt 1 (c 0) (c 1))
  (h2 : Rd w2 fun c => S.wt 2 (c 0) (c 1)) (h3 : Rd w3 fun c => S.wt 3 (c 0) (c 1))
include h0 h1 h2 h3
theorem pay83 : Rd (k0_pay83 w0 w1 w2 w3 (k0_pay63 u d) (k0_pay68 u w0 d) (k0_pay71 u w1 d) (k0_pay73 u d)
    (constant S128x128 .f32 0x00000000#32)) (blk i S.dvn) := by
  have h := pay63 S i hd hu
  exact chunk0 i S.dvnC
    (Rd.cat4 (f := fun c : Fin 2 → ℕ => S.dvnC (2 * i) (c 0) (c 1)) concatenates_S128x128_S128x128_S128x128_S128x128_S128x512_d1 128 256 384 rfl rfl rfl
      ((pieceT S i 0 0 h h0 slices_S256x512_o0_0_S128x128).congr fun c _ => congrArg (S.dvnC (2 * i + 0) (c 0)) (Nat.zero_add (c 1)))
      (pieceT S i 0 1 h h1 slices_S256x512_o0_128_S128x128) (pieceT S i 0 2 h h2 slices_S256x512_o0_256_S128x128)
      (pieceT S i 0 3 h h3 slices_S256x512_o0_384_S128x128))
    (Rd.cat4 (f := fun c : Fin 2 → ℕ => S.dvnC (2 * i + 1) (c 0) (c 1)) concatenates_S128x128_S128x128_S128x128_S128x128_S128x512_d1 128 256 384 rfl rfl rfl
      ((pieceT S i 1 0 h h0 slices_S256x512_o128_0_S128x128).congr fun c _ => congrArg (S.dvnC (2 * i + 1) (c 0)) (Nat.zero_add (c 1)))
      (pieceT S i 1 1 h h1 slices_S256x512_o128_128_S128x128) (pieceT S i 1 2 h h2 slices_S256x512_o128_256_S128x128)
      (pieceT S i 1 3 h h3 slices_S256x512_o128_384_S128x128))
end

section
variable (hv : Rd v (blk i S.vn)) {o : Vec Ideal S1x128x128 .f32} {F : ℕ → ℕ → ℝ} (ho : Rd o (pl F))
include hv ho

/-- What a block adds to the weights' gradient of head `h`. -/
abbrev dwsAdd (h t k : ℕ) : ℝ := if k ≤ t then two i fun n => S.dwsC n h t k else 0

theorem pay85 : Rd (k0_pay86 (k0_pay85 v k0_pay56 (k0_pay63 u d) (k0_pay69 u v d) o)) (pl fun t k => F t k + dwsAdd S i 0 t k) := by
  have h := pay63 S i hd hu
  refine (((ho.castDrop shapeCasts_S1x128x128_S128x128).addf (Rd.select (P := fun c : Fin 2 → ℕ => c 1 ≤ c 0) pay56
    ((z2.addf (pieceW S i 0 0 h hv slices_S256x512_o0_0_S128x128 slices_S256x512_o0_0_S128x128)).addf
      (pieceW S i 1 0 h hv slices_S256x512_o128_0_S128x128 slices_S256x512_o128_0_S128x128)) z2)).castAdd shapeCasts_S128x128_S1x128x128 :).congr
    fun c _ => ?_
  exact congrArg (fun z => F (c 1) (c 2) + if c 2 ≤ c 1 then z + S.dwsC (2 * i + 1) 0 (c 1) (c 2) else 0) (zero_add (S.dwsC (2 * i) 0 (c 1) (c 2)))
theorem pay87 : Rd (k0_pay87 k0_pay56 (k0_pay78 v (k0_pay63 u d) (k0_pay72 u v d)) o) (pl fun t k => F t k + dwsAdd S i 1 t k) := by
  have h := pay63 S i hd hu
  refine (((ho.castDrop shapeCasts_S1x128x128_S128x128).addf (Rd.select (P := fun c : Fin 2 → ℕ => c 1 ≤ c 0) pay56
    ((z2.addf (pieceW S i 0 1 h hv slices_S256x512_o0_128_S128x128 slices_S256x512_o0_128_S128x128)).addf
      (pieceW S i 1 1 h hv slices_S256x512_o128_128_S128x128 slices_S256x512_o128_128_S128x128)) z2)).castAdd shapeCasts_S128x128_S1x128x128 :).congr
    fun c _ => ?_
  exact congrArg (fun z => F (c 1) (c 2) + if c 2 ≤ c 1 then z + S.dwsC (2 * i + 1) 1 (c 1) (c 2) else 0) (zero_add (S.dwsC (2 * i) 1 (c 1) (c 2)))
theorem pay89 : Rd (k0_pay90 (k0_pay89 k0_pay56 (k0_pay80 v (k0_pay63 u d) k0_pay64 (k0_pay73 u d)) o)) (pl fun t k => F t k + dwsAdd S i 2 t k) := by
  have h := pay63 S i hd hu
  refine (((ho.castDrop shapeCasts_S1x128x128_S128x128).addf (Rd.select (P := fun c : Fin 2 → ℕ => c 1 ≤ c 0) pay56
    ((z2.addf (pieceW S i 0 2 h hv slices_S256x512_o0_256_S128x128 slices_S256x512_o0_256_S128x128)).addf
      (pieceW S i 1 2 h hv slices_S256x512_o128_256_S128x128 slices_S256x512_o128_256_S128x128)) z2)).castAdd shapeCasts_S128x128_S1x128x128 :).congr
    fun c _ => ?_
  exact congrArg (fun z => F (c 1) (c 2) + if c 2 ≤ c 1 then z + S.dwsC (2 * i + 1) 2 (c 1) (c 2) else 0) (zero_add (S.dwsC (2 * i) 2 (c 1) (c 2)))
theorem pay91 : Rd (k0_pay91 k0_pay56 (k0_pay82 v (k0_pay63 u d) k0_pay65) o) (pl fun t k => F t k + dwsAdd S i 3 t k) := by
  have h := pay63 S i hd hu
  refine (((ho.castDrop shapeCasts_S1x128x128_S128x128).addf (Rd.select (P := fun c : Fin 2 → ℕ => c 1 ≤ c 0) pay56
    ((z2.addf (pieceW S i 0 3 h hv slices_S256x512_o0_384_S128x128 slices_S256x512_o0_384_S128x128)).addf
      (pieceW S i 1 3 h hv slices_S256x512_o128_384_S128x128 slices_S256x512_o128_384_S128x128)) z2)).castAdd shapeCasts_S128x128_S1x128x128 :).congr
    fun c _ => ?_
  exact congrArg (fun z => F (c 1) (c 2) + if c 2 ≤ c 1 then z + S.dwsC (2 * i + 1) 3 (c 1) (c 2) else 0) (zero_add (S.dwsC (2 * i) 3 (c 1) (c 2)))
end
end
end

end Cert.Ker

end
-- ==== Proof.PayGate2.lean ====
/- The kernel's sums of the spatial gating unit at block `i`, and the gradients of its two arguments. -/
module

public import proofs.«01_k».proof.Proof.PayGate

@[expose] public section

set_option maxRecDepth 16384

noncomputable section

namespace Cert.Ker

open Idealize.ShloMosaic Cert.KernelIdeal Cert.KernelIdeal.Gen Cert.Spec Cert.Rd

/-! The gradient of the position bias: one lane per head. -/

theorem lane_word : ∀ (h : Fin 4) (a : Fin 128), (BitVec.ofBool (BitVec.ofNat 32 a.val == BitVec.ofNat 32 h.val) = 1#1 ↔ a.val = h.val) := by
  decide +kernel

abbrev lanes : IVec S128x128 32 := iota .tc S128x128 32 [1] iota_S128x128_d1_w32

theorem lane (h : Fin 4) (i : S128x128.Idx) : cmpi .eq lanes (broadcast S128x128 (BitVec.ofNat 32 h.val)) i = 1 ↔ (i 1).val = h.val := by
  refine Iff.trans (Eq.to_iff (congrArg (· = 1#1) ?_)) (lane_word h (i 1))
  show BitVec.ofBool (iota .tc S128x128 32 [1] iota_S128x128_d1_w32 i == BitVec.ofNat 32 h.val) = _
  rw [iota_single_apply]

section
variable (S : Re) (i : ℕ) {x : FVec Ideal S128x512 .f32} (hx : Rd x fun c => two i fun n => S.ds (128 * n + c 0) (c 1))

/-- What a block adds to the bias' gradient. -/
abbrev dbsAdd (t l : ℕ) : ℝ := if l < 4 then two i fun n => S.dbsC n t l else 0

theorem rowsum (h : ℕ) (hx : Rd x fun c => two i fun n => S.ds (128 * n + c 0) (c 1)) (hs : S128x512.Slices ![0, 128 * h] S128x128) :
    Rd (broadcastTo S128x128 (shapeCast S128x1 (shapeCast S128x1 (multiReduction .add [1] S128
      (extractStridedSlice S128x128 ![0, 128 * h] x hs) 0x00000000#32 reduces_S128x128_S128 (.inl rfl) rfl) shapeCasts_S128_S128x1)
        shapeCasts_S128x1_S128x1) broadcasts_S128x1_S128x128) fun c => two i fun n => S.dbsC n (c 0) h := by
  refine (((((hx.slice _ hs).red1 _ reduces_S128x128_S128 (.inl rfl) rfl).castCol shapeCasts_S128_S128x1).castSelf shapeCasts_S128x1_S128x1).bcastTo
    broadcasts_S128x1_S128x128 :).congr fun c _ => ?_
  refine Eq.trans ?_ Finset.sum_add_distrib
  refine Finset.sum_congr rfl fun k _ => ?_
  show S.ds (128 * (2 * i) + (0 + c 0)) (128 * h + k) + S.ds (128 * (2 * i + 1) + (0 + c 0)) (128 * h + k) = _
  rw [zero_add]

include hx in
theorem pay92 {F : ℕ → ℕ → ℝ} {o : Vec Ideal S128x128 .f32} (ho : Rd o fun c => F (c 0) (c 1)) :
    Rd (k0_pay92 x lanes (k0_pay88 x lanes k0_pay84) o) fun c => F (c 0) (c 1) + dbsAdd S i (c 0) (c 1) := by
  have st (h : Fin 4) (hs : S128x512.Slices ![0, 128 * h.val] S128x128) := Rd.select (P := fun c : Fin 2 → ℕ => c 1 = h.val) (lane h)
    (rowsum S i h.val hx hs) z2
  refine ((ho.castSelf shapeCasts_S128x128_S128x128).addf ((((z2.addf (st 0 slices_S128x512_o0_0_S128x128)).addf (st 1 slices_S128x512_o0_128_S128x128)).addf
    (st 2 slices_S128x512_o0_256_S128x128)).addf (st 3 slices_S128x512_o0_384_S128x128)) :).congr fun c _ => ?_
  refine congrArg (F (c 0) (c 1) + ·) ?_
  generalize c 1 = l
  show 0 + (if l = 0 then _ else (0 : ℝ)) + (if l = 1 then _ else (0 : ℝ)) + (if l = 2 then _ else (0 : ℝ)) + (if l = 3 then _ else (0 : ℝ)) = _
  unfold dbsAdd
  by_cases h4 : l < 4
  · rw [if_pos h4]
    interval_cases l <;> simp
  · rw [if_neg h4, if_neg (by omega), if_neg (by omega), if_neg (by omega), if_neg (by omega)]
    simp
end

/-! Rows of the sums over tokens, in the reals and in the extended reals. -/
section
variable {α : Type} [AddCommMonoid α] [Mul α] [Emb α]

theorem rowacc {f : (Fin 2 → ℕ) → α} {x : FVec Ideal S256x512 .f32} (hx : Rd x f) {F : ℕ → α} {o : FVec Ideal S1x512 .f32} (ho : Rd o (row F)) :
    Rd (addf o (shapeCast S1x512 (multiReduction .add [0] S512 x 0x00000000#32 reduces_S256x512_S512 (.inl rfl) rfl) shapeCasts_S512_S1x512))
      (row fun c => F c + ∑ t ∈ Finset.range 256, f ![t, c]) :=
  ho.addf ((hx.red0 _ reduces_S256x512_S512 (.inl rfl) rfl).castRow shapeCasts_S512_S1x512)
end

theorem mean {x : FVec Ideal S256x512 .f32} {f : (Fin 2 → ℕ) → ℝ} (hx : Rd x f) :
    Rd (broadcastTo S256x512 (divf (shapeCast S256x1 (multiReduction .add [1] S256 x 0x00000000#32 reduces_S256x512_S256 (.inl rfl) rfl)
      shapeCasts_S256_S256x1) (broadcast S256x1 (Scalar.ofBits (F := Ideal) .f32 0x44000000#32))) broadcasts_S256x1_S256x512)
      fun c => (∑ k ∈ Finset.range 512, f ![c 0, k]) / 512 :=
  (((hx.red1 _ reduces_S256x512_S256 (.inl rfl) rfl).castCol shapeCasts_S256_S256x1).divf (Rd.splat Consts.f512)
    fun _ _ => by norm_num).bcastTo broadcasts_S256x1_S256x512

section
variable (S : Re) (i : ℕ)

/-- A block's share of a sum over all tokens. -/
abbrev part {α : Type} [AddCommMonoid α] (F : ℕ → α) : α := ∑ t ∈ Finset.range 256, F (256 * i + t)

variable {vn' dvn vh : FVec Ideal S256x512 .f32} (hdvn : Rd dvn (blk i S.dvn)) (hvh : Rd vh (blk i S.vh))

include hdvn hvh in
theorem pay95 {F : ℕ → ℝ} {o : Vec Ideal S1x512 .f32} (ho : Rd o (row F)) :
    Rd (k0_pay95 (k0_pay93 o) (k0_pay94 vh dvn)) (row fun c => F c + part i fun r => S.dvn r c * S.vh r c) :=
  rowacc (hdvn.mulf hvh) (ho.castSelf shapeCasts_S1x512_S1x512)
include hdvn in
theorem pay96 {F : ℕ → ℝ} {o : Vec Ideal S1x512 .f32} (ho : Rd o (row F)) :
    Rd (k0_pay96 dvn o) (row fun c => F c + part i fun r => S.dvn r c) :=
  rowacc hdvn (ho.castSelf shapeCasts_S1x512_S1x512)

include hdvn hvh in
theorem pay97 {g : FVec Ideal S1x512 .f32} (hg : Rd g (row S.g)) {rs : FVec Ideal S256x1 .f32} (hrs : Rd rs fun c => S.rs (256 * i + c 0)) :
    Rd (k0_pay97 g rs vh dvn) (blk i S.dvg) := by
  have h450 := hdvn.mulf (hg.bcastTo broadcasts_S1x512_S256x512)
  exact ((hrs.bcastTo broadcasts_S256x1_S256x512).mulf ((h450.subf (mean h450)).subf (hvh.mulf (mean (h450.mulf hvh)))) :)

theorem pay101 {u t : Vec Ideal S256x512 .bf16} (hu : Rd u (blk i S.u)) (ht : Rd t fun c => th (blk i S.u c))
    {d : FVec Ideal S256x512 .f32} (hd : Rd d (blk i fun r c => S.da r c * S.s r c)) :
    Rd (k0_pay136 (k0_pay101 u d (k0_pay98 t) (k0_pay99 u t) (k0_pay100 u))) (blk i S.du) :=
  hd.mulf (((Rd.splat Consts.hhalf).mulf ((Rd.splat Consts.h1).addf ht)).addf
    (((((Rd.splat Consts.hhalf).mulf hu).mulf ((Rd.splat Consts.h1).subf (ht.mulf ht))).mulf (Rd.splat Consts.kK)).mulf
      ((Rd.splat Consts.h1).addf (((Rd.splat Consts.k3C).mulf hu).mulf hu))))

theorem pay102 {v t : Vec Ideal S256x512 .bf16} (hu : Rd v (blk i S.v)) (ht : Rd t fun c => th (blk i S.v c))
    {d : FVec Ideal S256x512 .f32} (hd : Rd d (blk i S.dvg)) :
    Rd (k0_pay137 (k0_pay102 v t d)) (blk i S.dv) :=
  hd.mulf (((Rd.splat Consts.hhalf).mulf ((Rd.splat Consts.h1).addf ht)).addf
    (((((Rd.splat Consts.hhalf).mulf hu).mulf ((Rd.splat Consts.h1).subf (ht.mulf ht))).mulf (Rd.splat Consts.kK)).mulf
      ((Rd.splat Consts.h1).addf (((Rd.splat Consts.k3C).mulf hu).mulf hu))))
end

end Cert.Ker

end
-- ==== Proof.PayConv.lean ====
/- The kernel's values of the gated convolution at block `i`, in the extended reals, and the two scalars that switch the
   neighbouring rows off at a sequence's ends. -/
module

public import proofs.«01_k».proof.Proof.PayGate2

@[expose] public section

set_option maxRecDepth 16384

noncomputable section

namespace Cert.Ker

open Idealize.ShloMosaic Cert.KernelIdeal Cert.KernelIdeal.Gen Cert.Spec Cert.Rd

/-! The scalars: 0 where the block is the first (the last) of its sequence, else 1. -/

theorem first_word : ∀ n : Fin 32, (Scalar.cmpi .eq (Scalar.select (Scalar.andi (Scalar.xori
    (Scalar.cmpi .slt (Scalar.remsi (BitVec.ofNat 32 n.val) (Scalar.select (Scalar.cmpi .eq 16#32 0#32) 1#32 16#32)) 0#32)
    (Scalar.cmpi .slt (Scalar.select (Scalar.cmpi .eq 16#32 0#32) 1#32 16#32) 0#32))
    (Scalar.cmpi .ne (Scalar.remsi (BitVec.ofNat 32 n.val) (Scalar.select (Scalar.cmpi .eq 16#32 0#32) 1#32 16#32)) 0#32))
    (Scalar.addi (Scalar.remsi (BitVec.ofNat 32 n.val) (Scalar.select (Scalar.cmpi .eq 16#32 0#32) 1#32 16#32)) (Scalar.select (Scalar.cmpi .eq 16#32 0#32) 1#32 16#32))
    (Scalar.remsi (BitVec.ofNat 32 n.val) (Scalar.select (Scalar.cmpi .eq 16#32 0#32) 1#32 16#32))) 0#32 = 1#1 ↔ n.val % 16 = 0) := by
  decide +kernel
theorem last_word : ∀ n : Fin 32, (Scalar.cmpi .eq (Scalar.select (Scalar.andi (Scalar.xori
    (Scalar.cmpi .slt (Scalar.remsi (BitVec.ofNat 32 n.val) (Scalar.select (Scalar.cmpi .eq 16#32 0#32) 1#32 16#32)) 0#32)
    (Scalar.cmpi .slt (Scalar.select (Scalar.cmpi .eq 16#32 0#32) 1#32 16#32) 0#32))
    (Scalar.cmpi .ne (Scalar.remsi (BitVec.ofNat 32 n.val) (Scalar.select (Scalar.cmpi .eq 16#32 0#32) 1#32 16#32)) 0#32))
    (Scalar.addi (Scalar.remsi (BitVec.ofNat 32 n.val) (Scalar.select (Scalar.cmpi .eq 16#32 0#32) 1#32 16#32)) (Scalar.select (Scalar.cmpi .eq 16#32 0#32) 1#32 16#32))
    (Scalar.remsi (BitVec.ofNat 32 n.val) (Scalar.select (Scalar.cmpi .eq 16#32 0#32) 1#32 16#32))) 15#32 = 1#1 ↔ n.val % 16 = 15) := by
  decide +kernel

theorem pay5 (j : grid0.Coords) : k0_pay5 (F := Ideal) j = if (j 0).val % 16 = 0 then (0 : EReal) else 1 := by
  have hw := first_word (j 0)
  show (if _ = 1#1 then Ideal.ofBits .f32 0x00000000#32 else Ideal.ofBits .f32 0x3F800000#32) = _
  rw [Consts.f0, Consts.f1, EReal.coe_zero, EReal.coe_one]
  by_cases h : (j 0).val % 16 = 0
  · rw [if_pos h, if_pos (hw.2 h)]
  · rw [if_neg h, if_neg fun h' => h (hw.1 h')]
theorem pay6 (j : grid0.Coords) : k0_pay6 (F := Ideal) j = if (j 0).val % 16 = 15 then (0 : EReal) else 1 := by
  have hw := last_word (j 0)
  show (if _ = 1#1 then Ideal.ofBits .f32 0x00000000#32 else Ideal.ofBits .f32 0x3F800000#32) = _
  rw [Consts.f0, Consts.f1, EReal.coe_zero, EReal.coe_one]
  by_cases h : (j 0).val % 16 = 15
  · rw [if_pos h, if_pos (hw.2 h)]
  · rw [if_neg h, if_neg fun h' => h (hw.1 h')]

section
variable {α : Type} [AddCommMonoid α] [Mul α] [Emb α]

theorem keep {s : Shape} {φ : FTy} {x : FVec Ideal s φ} {f : (Fin s.rank → ℕ) → α} (h : Rd x f) {P : Prop} [Decidable P] {v : EReal}
    (hv : v = if P then (0 : EReal) else 1) : Rd (mulf x (broadcast s v : FVec Ideal s φ)) fun c => if P then 0 else f c := fun i => by
  show x i * v = _
  by_cases hP : P
  · rw [hv, if_pos hP, mul_zero]; simp only [if_pos hP]; exact Emb.up_zero.symm
  · rw [hv, if_neg hP, mul_one, h i]; simp only [if_neg hP]
end

/-- The rows before and after the block, where they are read. -/
abbrev pre (i t : ℕ) : ℕ := 16 * (16 * i - 1) + t
abbrev post (i t : ℕ) : ℕ := 16 * min (16 * (i + 1)) 511 + t

section
variable (S : Cv) (j : grid0.Coords)

variable {bg cg hc : FVec Ideal S256x512 .f32} (hbg : Rd bg (blk (j 0).val S.bg)) (hcg : Rd cg (blk (j 0).val S.cg)) (hhc : Rd hc (blk (j 0).val S.hc))
  {x : Vec Ideal S16x1024 .bf16}
  (hx : Rd x fun c => if c 1 < 512 then S.cg (pre (j 0).val (c 0)) (c 1) else S.hc (pre (j 0).val (c 0)) (c 1 - 512))

include hcg hhc in
theorem pay46 : Rd (k0_pay46 cg hc) (blk (j 0).val S.zc) := hcg.mulf hhc

include hcg hhc hx in
theorem pay47 : Rd (k0_pay47 (k0_pay8 j x) cg hc)
    fun c => if (j 0).val % 16 = 0 ∧ c 0 < 16 then 0 else S.zc (256 * (j 0).val + c 0 - 16) (c 1) := by
  have h8 : Rd (k0_pay8 j x) fun c => if (j 0).val % 16 = 0 then 0 else if c 1 < 512 then S.cg (pre (j 0).val (c 0)) (c 1) else S.hc (pre (j 0).val (c 0)) (c 1 - 512) :=
    keep hx (pay5 j)
  refine Rd.cat2 concatenates_S16x512_S256x512_S272x512_d0 16 rfl
    (((h8.slice ![0, 0] slices_S16x1024_o0_0_S16x512).mulf (h8.slice ![0, 512] slices_S16x1024_o0_512_S16x512)).congr fun c hb => ?_)
    ((pay46 S j hcg hhc).congr fun c hb => ?_)
  · have h0 : c 0 < 16 := hb 0
    have h1 : c 1 < 512 := hb 1
    show (if (j 0).val % 16 = 0 then 0 else if 0 + c 1 < 512 then S.cg (pre (j 0).val (0 + c 0)) (0 + c 1) else S.hc (pre (j 0).val (0 + c 0)) (0 + c 1 - 512)) *
      (if (j 0).val % 16 = 0 then 0 else if 512 + c 1 < 512 then S.cg (pre (j 0).val (0 + c 0)) (512 + c 1) else S.hc (pre (j 0).val (0 + c 0)) (512 + c 1 - 512)) =
      if (j 0).val % 16 = 0 ∧ c 0 < 16 then 0 else S.zc (256 * (j 0).val + c 0 - 16) (c 1)
    by_cases h : (j 0).val % 16 = 0
    · rw [if_pos h, if_pos h, if_pos ⟨h, h0⟩, mul_zero]
    · rw [if_neg h, if_neg h, if_neg (show ¬ ((j 0).val % 16 = 0 ∧ c 0 < 16) from fun h' => h h'.1), if_pos (show 0 + c 1 < 512 by omega), if_neg (show ¬ 512 + c 1 < 512 by omega), Nat.add_sub_cancel_left,
        Nat.zero_add, Nat.zero_add]
      unfold Cv.zc pre
      rw [show 16 * (16 * (j 0).val - 1) + c 0 = 256 * (j 0).val + c 0 - 16 by omega]
  · show S.zc (256 * (j 0).val + c 0) (c 1) = if (j 0).val % 16 = 0 ∧ 16 + c 0 < 16 then 0 else S.zc (256 * (j 0).val + (16 + c 0) - 16) (c 1)
    rw [if_neg (by omega), show 256 * (j 0).val + (16 + c 0) - 16 = 256 * (j 0).val + c 0 by omega]

theorem zs_of (n t c : ℕ) (hn : n ≤ 2) (ht : t < 256) :
    (if (j 0).val % 16 = 0 ∧ (16 + t + 272 - n % 272) % 272 < 16 then 0 else S.zc (256 * (j 0).val + (16 + t + 272 - n % 272) % 272 - 16) c) = S.zs n (256 * (j 0).val + t) c := by
  unfold Cv.zs
  have e : (16 + t + 272 - n % 272) % 272 = 16 + t - n := by omega
  rw [e]
  by_cases h : n ≤ (256 * (j 0).val + t) % 4096
  · rw [if_pos h, if_neg (by omega), show 256 * (j 0).val + (16 + t - n) - 16 = 256 * (j 0).val + t - n by omega]
  · rw [if_neg h, if_pos (by omega)]

include hcg hhc hx in
theorem pay48 : Rd (k0_pay48 (k0_pay8 j x) cg hc) (blk (j 0).val (S.zs 1)) :=
  (((pay47 S j hcg hhc hx).roll 0 1#32 rotates_S272x512_d0).slice ![16, 0] slices_S272x512_o16_0_S256x512).congr fun c hb => by
    refine Eq.trans ?_ (zs_of S j 1 (c 0) (c 1) (by omega) (hb 0))
    exact congrArg (fun y => if (j 0).val % 16 = 0 ∧ (16 + c 0 + 272 - 1) % 272 < 16 then 0 else S.zc (256 * (j 0).val + (16 + c 0 + 272 - 1) % 272 - 16) y) (Nat.zero_add (c 1))
include hcg hhc hx in
theorem pay49 : Rd (k0_pay49 (k0_pay8 j x) cg hc) (blk (j 0).val (S.zs 2)) :=
  (((pay47 S j hcg hhc hx).roll 0 2#32 rotates_S272x512_d0).slice ![16, 0] slices_S272x512_o16_0_S256x512).congr fun c hb => by
    refine Eq.trans ?_ (zs_of S j 2 (c 0) (c 1) (by omega) (hb 0))
    exact congrArg (fun y => if (j 0).val % 16 = 0 ∧ (16 + c 0 + 272 - 2) % 272 < 16 then 0 else S.zc (256 * (j 0).val + (16 + c 0 + 272 - 2) % 272 - 16) y) (Nat.zero_add (c 1))

variable {w0 w1 w2 : Vec Ideal S1x512 .f32} (h0 : Rd w0 (row (S.cw 0))) (h1 : Rd w1 (row (S.cw 1))) (h2 : Rd w2 (row (S.cw 2)))

theorem wide {w : Vec Ideal S1x512 .f32} {F : ℕ → EReal} (h : Rd w (row F)) :
    Rd (broadcastTo S256x512 (shapeCast S1x512 w shapeCasts_S1x512_S1x512) broadcasts_S1x512_S256x512) (row F) :=
  (h.castSelf shapeCasts_S1x512_S1x512).bcastTo broadcasts_S1x512_S256x512

include hcg hhc hx h0 h1 h2 in
theorem pay51 : Rd (k0_pay51 (k0_pay46 cg hc) (k0_pay48 (k0_pay8 j x) cg hc) (k0_pay50 (k0_pay8 j x) cg hc w0) w1 w2) (blk (j 0).val S.y) :=
  (((wide h0).mulf (pay49 S j hcg hhc hx)).addf ((wide h1).mulf (pay48 S j hcg hhc hx))).addf ((wide h2).mulf (pay46 S j hcg hhc))

variable {dc y : FVec Ideal S256x512 .f32} (hdc : Rd dc (blk (j 0).val S.dc))

include hdc in
theorem pay128 (hy : Rd y (blk (j 0).val S.y)) : Rd (k0_pay2 (k0_pay128 y dc)) (blk (j 0).val S.dbg) := hdc.mulf hy
include hdc hbg in
theorem pay129 : Rd (k0_pay129 bg dc) (blk (j 0).val S.dy) := hdc.mulf hbg

variable {z2 z1 z0 : FVec Ideal S256x512 .f32} {F : ℕ → EReal} {o : Vec Ideal S1x512 .f32} (ho : Rd o (row F))
include hdc hbg ho
theorem pay130 (hz : Rd z2 (blk (j 0).val (S.zs 2))) : Rd (k0_pay130 bg z2 dc o) (row fun c => F c + part (j 0).val fun r => S.dy r c * S.zs 2 r c) :=
  rowacc ((pay129 S j hbg hdc).mulf hz) (ho.castSelf shapeCasts_S1x512_S1x512)
theorem pay131 (hz : Rd z1 (blk (j 0).val (S.zs 1))) : Rd (k0_pay131 bg z1 dc o) (row fun c => F c + part (j 0).val fun r => S.dy r c * S.zs 1 r c) :=
  rowacc ((pay129 S j hbg hdc).mulf hz) (ho.castSelf shapeCasts_S1x512_S1x512)
theorem pay132 (hz : Rd z0 (blk (j 0).val S.zc)) : Rd (k0_pay132 z0 (k0_pay129 bg dc) o) (row fun c => F c + part (j 0).val fun r => S.dy r c * S.zc r c) :=
  rowacc ((pay129 S j hbg hdc).mulf hz) (ho.castSelf shapeCasts_S1x512_S1x512)
omit hbg hdc ho

variable {a b : Vec Ideal S16x512 .bf16} (ha : Rd a fun c => S.dc (post (j 0).val (c 0)) (c 1)) (hb : Rd b fun c => S.bg (post (j 0).val (c 0)) (c 1))

theorem dys_of (n t c : ℕ) (hn : n ≤ 2) (hi : (j 0).val < 32) (ht : t < 256) :
    (if (j 0).val % 16 = 15 ∧ 256 ≤ t + n then 0 else S.dy (256 * (j 0).val + (t + n)) c) = S.dys n (256 * (j 0).val + t) c := by
  unfold Cv.dys
  by_cases h : (256 * (j 0).val + t) % 4096 + n < 4096
  · rw [if_pos h, if_neg (by omega), Nat.add_assoc]
  · rw [if_neg h, if_pos (by omega)]

include hbg hdc ha hb in
theorem dye : Rd (concatenate S272x512 0 [⟨S256x512, k0_pay129 bg dc⟩, ⟨S16x512, mulf (mulf (extf .f32 a bitsLt_bf16_f32) (extf .f32 b bitsLt_bf16_f32))
      (broadcast S16x512 (k0_pay6 (F := Ideal) j))⟩] concatenates_S256x512_S16x512_S272x512_d0)
    fun c => if (j 0).val % 16 = 15 ∧ 256 ≤ c 0 then 0 else S.dy (256 * (j 0).val + c 0) (c 1) := by
  have hi : (j 0).val < 32 := (j 0).isLt
  refine Rd.cat2 concatenates_S256x512_S16x512_S272x512_d0 256 rfl ((pay129 S j hbg hdc).congr fun c hb => ?_)
    ((keep (Rd.mulf ha hb) (pay6 j)).congr fun c hb => ?_)
  · have h0 : c 0 < 256 := hb 0
    exact (if_neg (by omega)).symm
  · show (if (j 0).val % 16 = 15 then 0 else S.dc (post (j 0).val (c 0)) (c 1) * S.bg (post (j 0).val (c 0)) (c 1)) =
      if (j 0).val % 16 = 15 ∧ 256 ≤ 256 + c 0 then 0 else S.dy (256 * (j 0).val + (256 + c 0)) (c 1)
    by_cases h : (j 0).val % 16 = 15
    · rw [if_pos h, if_pos ⟨h, by omega⟩]
    · rw [if_neg h, if_neg fun h' => h h'.1]
      unfold Cv.dy post
      rw [show 16 * min (16 * ((j 0).val + 1)) 511 + c 0 = 256 * (j 0).val + (256 + c 0) by omega]

include hbg hdc ha hb h0 h1 h2 in
theorem pay133 : Rd (k0_pay133 (k0_pay6 (F := Ideal) j) (k0_pay129 bg dc) a b w2 w1 w0) (blk (j 0).val S.dzc) := by
  have hi : (j 0).val < 32 := (j 0).isLt
  have hd := dye S j hbg hdc ha hb
  have u1 := ((hd.roll 0 271#32 rotates_S272x512_d0).slice ![0, 0] slices_S272x512_o0_0_S256x512).congr (g := blk (j 0).val (S.dys 1)) fun c hb => by
    have h0 : c 0 < 256 := hb 0
    refine Eq.trans ?_ (dys_of S j 1 (c 0) (c 1) (by omega) hi h0)
    show (if (j 0).val % 16 = 15 ∧ 256 ≤ (0 + c 0 + 272 - 271 % 272) % 272 then 0 else S.dy (256 * (j 0).val + (0 + c 0 + 272 - 271 % 272) % 272) (0 + c 1)) = _
    rw [show (0 + c 0 + 272 - 271 % 272) % 272 = c 0 + 1 by omega, Nat.zero_add]
  have u2 := ((hd.roll 0 270#32 rotates_S272x512_d0).slice ![0, 0] slices_S272x512_o0_0_S256x512).congr (g := blk (j 0).val (S.dys 2)) fun c hb => by
    have h0 : c 0 < 256 := hb 0
    refine Eq.trans ?_ (dys_of S j 2 (c 0) (c 1) (by omega) hi h0)
    show (if (j 0).val % 16 = 15 ∧ 256 ≤ (0 + c 0 + 272 - 270 % 272) % 272 then 0 else S.dy (256 * (j 0).val + (0 + c 0 + 272 - 270 % 272) % 272) (0 + c 1)) = _
    rw [show (0 + c 0 + 272 - 270 % 272) % 272 = c 0 + 2 by omega, Nat.zero_add]
  exact (((wide h2).mulf (pay129 S j hbg hdc)).addf ((wide h1).mulf u1)).addf ((wide h0).mulf u2)

include hbg hdc ha hb h0 h1 h2 in
theorem pay134 (hhc : Rd hc (blk (j 0).val S.hc)) : Rd (k0_pay3 (k0_pay134 (k0_pay6 (F := Ideal) j) hc (k0_pay129 bg dc) a b w2 w1 w0)) (blk (j 0).val S.dcg) :=
  (pay133 S j hbg h0 h1 h2 hdc ha hb).mulf hhc
include hbg hdc ha hb h0 h1 h2 in
theorem pay135 (hcg : Rd cg (blk (j 0).val S.cg)) : Rd (k0_pay4 (k0_pay135 (k0_pay6 (F := Ideal) j) cg (k0_pay129 bg dc) a b w2 w1 w0)) (blk (j 0).val S.dhc) :=
  (pay133 S j hbg h0 h1 h2 hdc ha hb).mulf hcg

end

end Cert.Ker

end
-- ==== Proof.PayPool.lean ====
/- The kernel's values of the causal pooling at block `i`. The window sums are built by doubling: each turn adds the sum so
   far, moved by its own length. -/
module

public import proofs.«01_k».proof.Proof.PayConv

@[expose] public section

set_option maxRecDepth 16384

noncomputable section

namespace Cert.Ker

open Idealize.ShloMosaic Cert.KernelIdeal Cert.KernelIdeal.Gen Cert.Spec Cert.Rd

/-! Positions in the sequence, from one. -/

/-- The printed remainder of the row number by the sequence's length, plus one. -/
abbrev posWord (a b : BitVec 32) : BitVec 32 :=
  let d : BitVec 32 := Scalar.select (Scalar.cmpi .eq 4096#32 0#32) 1#32 4096#32
  let r : BitVec 32 := Scalar.remsi (Scalar.addi a (Scalar.addi (Scalar.muli b 256#32) 0#32)) d
  Scalar.addi (Scalar.select (Scalar.andi (Scalar.xori (Scalar.cmpi .slt r 0#32) (Scalar.cmpi .slt d 0#32)) (Scalar.cmpi .ne r 0#32)) (Scalar.addi r d) r) 1#32

theorem posWord_val : ∀ (n : Fin 32) (a : Fin 272), (posWord (BitVec.ofNat 32 a.val) (BitVec.ofNat 32 n.val)).toInt = ((256 * n.val + a.val) % 4096 + 1 : ℕ) := by
  decide +kernel

abbrev pos (i a : ℕ) : ℝ := (((256 * i + a) % 4096 + 1 : ℕ) : ℝ)

theorem pos_word (n : Fin 32) (a : ℕ) (ha : a < 272) :
    (((posWord (BitVec.ofNat 32 a) (BitVec.ofNat 32 n.val)).toInt : ℝ) : EReal) = Emb.up (pos n.val a) := by
  have h := posWord_val n ⟨a, ha⟩
  rw [h]; rfl

theorem pay34 (n : Fin 32) : Rd (k0_pay34 (F := Ideal) (BitVec.ofNat 32 n.val)) fun c => pos n.val (c 0) := fun i => by
  refine Eq.trans ?_ (pos_word n (i 0).val (by have : (i 0).val < 256 := (i 0).isLt; omega))
  exact congrArg (fun w => (((posWord w (BitVec.ofNat 32 n.val)).toInt : ℝ) : EReal)) (iota_single_apply .tc S256x1 32 0 iota_S256x1_d0_w32 i)
theorem pay107 (n : Fin 32) : Rd (k0_pay107 (F := Ideal) (BitVec.ofNat 32 n.val)) fun c => pos n.val (c 0) := fun i => by
  refine Eq.trans ?_ (pos_word n (i 0).val (i 0).isLt)
  exact congrArg (fun w => (((posWord w (BitVec.ofNat 32 n.val)).toInt : ℝ) : EReal)) (iota_single_apply .tc S272x1 32 0 iota_S272x1_d0_w32 i)

section
variable {s : Shape} {f : (Fin s.rank → ℕ) → ℝ} {x : FVec Ideal s .f32} (h : Rd x f)
include h
theorem min2 : Rd (minimumf x (broadcast s (Scalar.ofBits (F := Ideal) .f32 0x40000000#32))) fun c => min (f c) (2 : ℕ) :=
  h.minimumf (Rd.splat (Consts.f2.trans (by norm_num [Rd.up_real])))
theorem min4 : Rd (minimumf x (broadcast s (Scalar.ofBits (F := Ideal) .f32 0x40800000#32))) fun c => min (f c) (4 : ℕ) :=
  h.minimumf (Rd.splat (Consts.f4.trans (by norm_num [Rd.up_real])))
theorem min8 : Rd (minimumf x (broadcast s (Scalar.ofBits (F := Ideal) .f32 0x41000000#32))) fun c => min (f c) (8 : ℕ) :=
  h.minimumf (Rd.splat (Consts.f8.trans (by norm_num [Rd.up_real])))
theorem min16 : Rd (minimumf x (broadcast s (Scalar.ofBits (F := Ideal) .f32 0x41800000#32))) fun c => min (f c) (16 : ℕ) :=
  h.minimumf (Rd.splat (Consts.f16.trans (by norm_num [Rd.up_real])))
end

/-! Doubling, towards earlier rows and towards later ones. -/
section
variable {E : ℕ → ℕ → ℝ} {x : FVec Ideal S272x128 .f32}

theorem down1 (hx : Rd x fun c => E (c 0) (c 1)) : Rd x fun c => ∑ j ∈ Finset.range 1, E ((c 0 + 272 - j) % 272) (c 1) :=
  hx.congr fun c hc => by
    have h0 : c 0 < 272 := hc 0
    rw [Finset.sum_range_one, show (c 0 + 272 - 0) % 272 = c 0 by omega]
theorem down (n : ℕ) (sb : BitVec 32) (hs : sb.toNat = n) (hn : n ≤ 8) (hx : Rd x fun c => ∑ j ∈ Finset.range n, E ((c 0 + 272 - j) % 272) (c 1)) :
    Rd (addf x (dynamicRotate 0 sb none x rotates_S272x128_d0)) fun c => ∑ j ∈ Finset.range (n + n), E ((c 0 + 272 - j) % 272) (c 1) :=
  (hx.addf (hx.roll 0 sb rotates_S272x128_d0)).congr fun c hc => by
    have h0 : c 0 < 272 := hc 0
    rw [Finset.sum_range_add]
    refine congrArg₂ (· + ·) rfl (Finset.sum_congr rfl fun j hj => ?_)
    have hj := Finset.mem_range.1 hj
    show E (((c 0 + 272 - sb.toNat % 272) % 272 + 272 - j) % 272) (c 1) = E ((c 0 + 272 - (n + j)) % 272) (c 1)
    rw [hs, show ((c 0 + 272 - n % 272) % 272 + 272 - j) % 272 = (c 0 + 272 - (n + j)) % 272 by omega]
theorem ahead1 (hx : Rd x fun c => E (c 0) (c 1)) : Rd x fun c => ∑ j ∈ Finset.range 1, E ((c 0 + j) % 272) (c 1) :=
  hx.congr fun c hc => by
    have h0 : c 0 < 272 := hc 0
    rw [Finset.sum_range_one, show (c 0 + 0) % 272 = c 0 by omega]
theorem ahead (n : ℕ) (sb : BitVec 32) (hs : sb.toNat = 272 - n) (h1 : 0 < n) (hn : n ≤ 8) (hx : Rd x fun c => ∑ j ∈ Finset.range n, E ((c 0 + j) % 272) (c 1)) :
    Rd (addf x (dynamicRotate 0 sb none x rotates_S272x128_d0)) fun c => ∑ j ∈ Finset.range (n + n), E ((c 0 + j) % 272) (c 1) :=
  (hx.addf (hx.roll 0 sb rotates_S272x128_d0)).congr fun c hc => by
    have h0 : c 0 < 272 := hc 0
    rw [Finset.sum_range_add]
    refine congrArg₂ (· + ·) rfl (Finset.sum_congr rfl fun j hj => ?_)
    have hj := Finset.mem_range.1 hj
    show E (((c 0 + 272 - sb.toNat % 272) % 272 + j) % 272) (c 1) = E ((c 0 + (n + j)) % 272) (c 1)
    rw [hs, show ((c 0 + 272 - (272 - n) % 272) % 272 + j) % 272 = (c 0 + (n + j)) % 272 by omega]
end

section
variable (S : Re) (j : grid0.Coords)

/-- The rows of the block with the sixteen before it. -/
abbrev ext (i a c : ℕ) : ℝ := if i % 16 = 0 ∧ a < 16 then 0 else S.x (256 * i + a - 16) c

variable {x : FVec Ideal S256x512 .f32} (hx : Rd x (blk (j 0).val S.x))

include hx in
theorem pay33 {h : Vec Ideal S16x512 .bf16} (hh : Rd h fun c => S.x (pre (j 0).val (c 0)) (c 1)) :
    Rd (k0_pay33 (k0_pay7 j h) x) fun c => ext S (j 0).val (c 0) (c 1) := by
  refine Rd.cat2 concatenates_S16x512_S256x512_S272x512_d0 16 rfl ((keep hh (pay5 j)).congr fun c hb => ?_) (hx.congr fun c hb => ?_)
  · have h0 : c 0 < 16 := hb 0
    show (if (j 0).val % 16 = 0 then 0 else S.x (pre (j 0).val (c 0)) (c 1)) = if (j 0).val % 16 = 0 ∧ c 0 < 16 then 0 else S.x (256 * (j 0).val + c 0 - 16) (c 1)
    by_cases h : (j 0).val % 16 = 0
    · rw [if_pos h, if_pos ⟨h, h0⟩]
    · rw [if_neg h, if_neg (fun h' : (j 0).val % 16 = 0 ∧ c 0 < 16 => h h'.1)]
      unfold pre
      rw [show 16 * (16 * (j 0).val - 1) + c 0 = 256 * (j 0).val + c 0 - 16 by omega]
  · show S.x (256 * (j 0).val + c 0) (c 1) = if (j 0).val % 16 = 0 ∧ 16 + c 0 < 16 then 0 else S.x (256 * (j 0).val + (16 + c 0) - 16) (c 1)
    rw [if_neg (by omega), show 256 * (j 0).val + (16 + c 0) - 16 = 256 * (j 0).val + c 0 by omega]

theorem cnt_of (i g t e n : ℕ) (hn : n = 2 ^ (g + 1)) (he : e < 128) : min (pos i t) (n : ℝ) = Re.cnt (256 * i + t) (128 * g + e) := by
  unfold Re.cnt Re.win
  rw [show (128 * g + e) / 128 = g by omega, hn]

theorem min_ne (i t n : ℕ) (hn : 0 < n) : min (pos i t) (n : ℝ) ≠ 0 :=
  ne_of_gt (lt_min (by positivity) (by exact_mod_cast hn))

include hx in
theorem pg (g n : ℕ) (hn : n = 2 ^ (g + 1)) (h16 : n ≤ 16) {num : FVec Ideal S272x128 .f32}
    (hnum : Rd num fun c => ∑ k ∈ Finset.range n, ext S (j 0).val ((c 0 + 272 - k) % 272) (128 * g + c 1))
    {den : FVec Ideal S256x1 .f32} (hd : Rd den fun c => min (pos (j 0).val (c 0)) (n : ℝ)) (hs : S256x512.Slices ![0, 128 * g] S256x128) :
    Rd (truncf .bf16 (subf (divf (extractStridedSlice S256x128 ![16, 0] num slices_S272x128_o16_0_S256x128)
      (broadcastTo S256x128 den broadcasts_S256x1_S256x128)) (extractStridedSlice S256x128 ![0, 128 * g] x hs)) bitsLt_bf16_f32)
      fun c => S.p (256 * (j 0).val + c 0) (128 * g + c 1) := by
  have hp : 0 < n := hn ▸ Nat.pos_of_ne_zero (by positivity)
  refine (((hnum.slice ![16, 0] slices_S272x128_o16_0_S256x128).divf (hd.bcastTo broadcasts_S256x1_S256x128) fun c _ => min_ne _ _ n hp).subf
    (hx.slice ![0, 128 * g] hs)).congr fun c hc => ?_
  have h0 : c 0 < 256 := hc 0
  have h1 : c 1 < 128 := hc 1
  show (∑ k ∈ Finset.range n, ext S (j 0).val ((16 + c 0 + 272 - k) % 272) (128 * g + (0 + c 1))) / min (pos (j 0).val (c 0)) (n : ℝ) -
    S.x (256 * (j 0).val + (0 + c 0)) (128 * g + c 1) = _
  unfold Re.p Re.lag Re.win
  rw [cnt_of (j 0).val g (c 0) (c 1) n hn h1, show (128 * g + c 1) / 128 = g by omega, ← hn, Nat.zero_add, Nat.zero_add]
  refine congrArg (fun y => y / _ - _) (Finset.sum_congr rfl fun k hk => ?_)
  have hk := Finset.mem_range.1 hk
  unfold ext
  by_cases h : k ≤ (256 * (j 0).val + c 0) % 4096
  · rw [if_pos h, if_neg (by omega), show 256 * (j 0).val + (16 + c 0 + 272 - k) % 272 - 16 = 256 * (j 0).val + c 0 - k by omega]
  · rw [if_neg h, if_pos (by omega)]

variable {e : FVec Ideal S272x512 .f32} (he : Rd e fun c => ext S (j 0).val (c 0) (c 1))
  {w : FVec Ideal S256x1 .f32} (hw : Rd w fun c => pos (j 0).val (c 0))

include he in
theorem win1 (g : ℕ) (hs : S272x512.Slices ![0, 128 * g] S272x128) :
    Rd (extractStridedSlice S272x128 ![0, 128 * g] e hs) fun c => ∑ k ∈ Finset.range 1, ext S (j 0).val ((c 0 + 272 - k) % 272) (128 * g + c 1) :=
  down1 (E := fun a c => ext S (j 0).val a (128 * g + c))
    ((he.slice ![0, 128 * g] hs).congr fun c _ => congrArg (fun a => ext S (j 0).val a (128 * g + c 1)) (Nat.zero_add (c 0)))

include hx he hw in
theorem pay38 : Rd (k0_pay38 x e w k0_pay35) fun c => S.p (256 * (j 0).val + c 0) (128 * 0 + c 1) :=
  pg S j hx 0 2 rfl (by omega) (down (E := fun a c => ext S (j 0).val a (128 * 0 + c)) 1 1#32 rfl (by omega) (win1 S j he 0 slices_S272x512_o0_0_S272x128)) (min2 hw) slices_S256x512_o0_0_S256x128
include hx he hw in
theorem pay40 : Rd (k0_pay40 x e w) fun c => S.p (256 * (j 0).val + c 0) (128 * 1 + c 1) :=
  pg S j hx 1 4 rfl (by omega) (down (E := fun a c => ext S (j 0).val a (128 * 1 + c)) 2 2#32 rfl (by omega)
    (down (E := fun a c => ext S (j 0).val a (128 * 1 + c)) 1 1#32 rfl (by omega) (win1 S j he 1 slices_S272x512_o0_128_S272x128))) (min4 hw) slices_S256x512_o0_128_S256x128
include hx he hw in
theorem pay43 : Rd (k0_pay43 x (k0_pay36 w) (k0_pay42 e)) fun c => S.p (256 * (j 0).val + c 0) (128 * 2 + c 1) :=
  pg S j hx 2 8 rfl (by omega) (down (E := fun a c => ext S (j 0).val a (128 * 2 + c)) 4 4#32 rfl (by omega) (down (E := fun a c => ext S (j 0).val a (128 * 2 + c)) 2 2#32 rfl (by omega)
    (down (E := fun a c => ext S (j 0).val a (128 * 2 + c)) 1 1#32 rfl (by omega) (win1 S j he 2 slices_S272x512_o0_256_S272x128)))) (min8 hw) slices_S256x512_o0_256_S256x128
include hx he hw in
theorem pay44 : Rd (k0_pay44 x e (k0_pay37 w)) fun c => S.p (256 * (j 0).val + c 0) (128 * 3 + c 1) :=
  pg S j hx 3 16 rfl (by omega) (down (E := fun a c => ext S (j 0).val a (128 * 3 + c)) 8 8#32 rfl (by omega) (down (E := fun a c => ext S (j 0).val a (128 * 3 + c)) 4 4#32 rfl (by omega)
    (down (E := fun a c => ext S (j 0).val a (128 * 3 + c)) 2 2#32 rfl (by omega)
    (down (E := fun a c => ext S (j 0).val a (128 * 3 + c)) 1 1#32 rfl (by omega) (win1 S j he 3 slices_S272x512_o0_384_S272x128))))) (min16 hw) slices_S256x512_o0_384_S256x128

/-! The pooled values times a head's matrix. -/

theorem plane {m : Vec Ideal S1x128x128 .f32} {F : ℕ → ℕ → ℝ} (hm : Rd m (pl F)) :
    Rd (truncf .bf16 (shapeCast S128x128 m shapeCasts_S1x128x128_S128x128 : FVec Ideal S128x128 .f32) bitsLt_bf16_f32) fun c => F (c 0) (c 1) :=
  hm.castDrop shapeCasts_S1x128x128_S128x128

theorem qg (g : ℕ) {p : FVec Ideal S256x128 .bf16} (hp : Rd p fun c => S.p (256 * (j 0).val + c 0) (128 * g + c 1))
    {m : Vec Ideal S1x128x128 .f32} (hm : Rd m (pl (S.pw g))) :
    Rd (matmul dot_S256x128_S128x128_S256x128_1_0_0_1_n_n none p
      (truncf .bf16 (shapeCast S128x128 m shapeCasts_S1x128x128_S128x128 : FVec Ideal S128x128 .f32) bitsLt_bf16_f32)
      (constant S256x128 .f32 0x00000000#32)) fun c => S.q (256 * (j 0).val + c 0) (128 * g + c 1) :=
  (dot256 hp (plane hm)).congr fun c hc => by
    have h1 : c 1 < 128 := hc 1
    unfold Re.q
    rw [show (128 * g + c 1) / 128 = g by omega, show (128 * g + c 1) % 128 = c 1 by omega]
    rfl

variable {m0 m1 m2 m3 : Vec Ideal S1x128x128 .f32} (h0 : Rd m0 (pl (S.pw 0))) (h1 : Rd m1 (pl (S.pw 1))) (h2 : Rd m2 (pl (S.pw 2))) (h3 : Rd m3 (pl (S.pw 3)))

include hx he hw h0 h1 h2 h3 in
theorem pay45 : Rd (k0_pay45 x e (k0_pay36 w) (k0_pay37 w) (k0_pay39 x e w k0_pay35 m0) (k0_pay41 x e w m1) (k0_pay42 e) m2 m3) (blk (j 0).val S.q) :=
  Rd.cat4 (f := blk (j 0).val S.q) concatenates_S256x128_S256x128_S256x128_S256x128_S256x512_d1 128 256 384 rfl rfl rfl
    ((qg S j 0 (pay38 S j hx he hw) h0).congr fun c _ => congrArg (S.q (256 * (j 0).val + c 0)) (Nat.zero_add (c 1)))
    (qg S j 1 (pay40 S j hx he hw) h1) (qg S j 2 (pay43 S j hx he hw) h2) (qg S j 3 (pay44 S j hx he hw) h3)

variable {db : FVec Ideal S256x512 .f32} (hdb : Rd db (blk (j 0).val S.db))

include hdb in
theorem pay103 {q : FVec Ideal S256x512 .f32} (hq : Rd q (blk (j 0).val S.q)) {F : ℕ → ℝ} {o : Vec Ideal S1x512 .f32} (ho : Rd o (row F)) :
    Rd (k0_pay103 q db o) (row fun c => F c + part (j 0).val fun r => S.db r c * S.q r c) :=
  rowacc (hdb.mulf hq) (ho.castSelf shapeCasts_S1x512_S1x512)

variable {ps : FVec Ideal S1x512 .f32} (hps : Rd ps (row S.ps))

include hdb hps in
theorem pay104 : Rd (k0_pay104 ps db) (blk (j 0).val S.dq) := hdb.mulf (hps.bcastTo broadcasts_S1x512_S256x512)

include hps in
theorem pay105 {n : Vec Ideal S16x512 .bf16} (hn : Rd n fun c => S.db (post (j 0).val (c 0)) (c 1)) :
    Rd (k0_pay106 (k0_pay105 (k0_pay6 j) ps n)) fun c => if (j 0).val % 16 = 15 then 0 else S.dq (256 * (j 0).val + 256 + c 0) (c 1) :=
  (keep (hn.mulf (hps.bcastTo broadcasts_S1x512_S16x512)) (pay6 j)).congr fun c hc => by
    have hi : (j 0).val < 32 := (j 0).isLt
    have h0 : c 0 < 16 := hc 0
    show (if (j 0).val % 16 = 15 then 0 else S.dq (post (j 0).val (c 0)) (c 1)) = _
    by_cases h : (j 0).val % 16 = 15
    · rw [if_pos h, if_pos h]
    · rw [if_neg h, if_neg h]
      unfold post
      rw [show 16 * min (16 * ((j 0).val + 1)) 511 + c 0 = 256 * (j 0).val + 256 + c 0 by omega]

/-! The gradient of the head's matrix. -/

abbrev dpwAdd (g k e : ℕ) : ℝ := part (j 0).val fun r => S.p r (128 * g + k) * S.dq r (128 * g + e)

variable {dq : FVec Ideal S256x512 .bf16} (hdq : Rd dq (blk (j 0).val S.dq))

include hdq in
theorem dpwg (g : ℕ) {p : FVec Ideal S256x128 .bf16} (hp : Rd p fun c => S.p (256 * (j 0).val + c 0) (128 * g + c 1))
    (hs : S256x512.Slices ![0, 128 * g] S256x128) {F : ℕ → ℕ → ℝ} {o : Vec Ideal S1x128x128 .f32} (ho : Rd o (pl F)) :
    Rd (shapeCast S1x128x128 (addf (shapeCast S128x128 o shapeCasts_S1x128x128_S128x128)
      (matmul dot_S256x128_S256x128_S128x128_0_0_1_1_n_n none p (extractStridedSlice S256x128 ![0, 128 * g] dq hs)
        (constant S128x128 .f32 0x00000000#32))) shapeCasts_S128x128_S1x128x128) (pl fun k e => F k e + dpwAdd S j g k e) :=
  ((ho.castDrop shapeCasts_S1x128x128_S128x128).addf (dot256t0 hp (hdq.slice ![0, 128 * g] hs))).castAdd shapeCasts_S128x128_S1x128x128 |>.congr fun c _ =>
    congrArg (F (c 1) (c 2) + ·) (Finset.sum_congr rfl fun t _ => by
      show S.p (256 * (j 0).val + t) (128 * g + c 1) * S.dq (256 * (j 0).val + (0 + t)) (128 * g + c 2) = _
      rw [Nat.zero_add])

section
variable {F : ℕ → ℕ → ℝ} {o : Vec Ideal S1x128x128 .f32} (ho : Rd o (pl F))
include hdq hx he hw ho
theorem pay115 : Rd (k0_pay115 (k0_pay113 o) (k0_pay114 (k0_pay38 x e w k0_pay35) dq)) (pl fun k e => F k e + dpwAdd S j 0 k e) :=
  dpwg S j hdq 0 (pay38 S j hx he hw) slices_S256x512_o0_0_S256x128 ho
theorem pay118 : Rd (k0_pay118 (k0_pay40 x e w) dq o) (pl fun k e => F k e + dpwAdd S j 1 k e) :=
  dpwg S j hdq 1 (pay40 S j hx he hw) slices_S256x512_o0_128_S256x128 ho
theorem pay122 : Rd (k0_pay122 (k0_pay43 x (k0_pay36 w) (k0_pay42 e)) dq o) (pl fun k e => F k e + dpwAdd S j 2 k e) :=
  dpwg S j hdq 2 (pay43 S j hx he hw) slices_S256x512_o0_256_S256x128 ho
theorem pay126 : Rd (k0_pay126 (k0_pay125 (k0_pay44 x e (k0_pay37 w)) dq o)) (pl fun k e => F k e + dpwAdd S j 3 k e) :=
  dpwg S j hdq 3 (pay44 S j hx he hw) slices_S256x512_o0_384_S256x128 ho
end

/-! The gradient of the pooled values, and of what was pooled. -/

variable {dn : FVec Ideal S16x512 .bf16} (hdn : Rd dn fun c => if (j 0).val % 16 = 15 then 0 else S.dq (256 * (j 0).val + 256 + c 0) (c 1))

include hdq in
theorem dpg (g : ℕ) {m : FVec Ideal S128x128 .bf16} (hm : Rd m fun c => S.pw g (c 0) (c 1)) (hs : S256x512.Slices ![0, 128 * g] S256x128) :
    Rd (matmul dot_S256x128_S128x128_S256x128_1_1_0_0_n_n none (extractStridedSlice S256x128 ![0, 128 * g] dq hs) m (constant S256x128 .f32 0x00000000#32))
      fun c => S.dp (256 * (j 0).val + c 0) (128 * g + c 1) :=
  (dot256t1 (hdq.slice ![0, 128 * g] hs) hm).congr fun c hc => by
    have h1 : c 1 < 128 := hc 1
    unfold Re.dp
    rw [show (128 * g + c 1) / 128 = g by omega, show (128 * g + c 1) % 128 = c 1 by omega]
    refine Finset.sum_congr rfl fun k _ => ?_
    show S.dq (256 * (j 0).val + (0 + c 0)) (128 * g + k) * S.pw g (c 1) k = _
    rw [Nat.zero_add]

include hdn in
theorem dpn (g : ℕ) {m : FVec Ideal S128x128 .bf16} (hm : Rd m fun c => S.pw g (c 0) (c 1)) (hs : S16x512.Slices ![0, 128 * g] S16x128) :
    Rd (matmul dot_S16x128_S128x128_S16x128_1_1_0_0_n_n none (extractStridedSlice S16x128 ![0, 128 * g] dn hs) m (constant S16x128 .f32 0x00000000#32))
      fun c => if (j 0).val % 16 = 15 then 0 else S.dp (256 * (j 0).val + 256 + c 0) (128 * g + c 1) :=
  (dot16t1 (hdn.slice ![0, 128 * g] hs) hm).congr fun c hc => by
    have h1 : c 1 < 128 := hc 1
    show (∑ k ∈ Finset.range 128, (if (j 0).val % 16 = 15 then 0 else S.dq (256 * (j 0).val + 256 + (0 + c 0)) (128 * g + k)) * S.pw g (c 1) k) = _
    by_cases h : (j 0).val % 16 = 15
    · rw [if_pos h]; simp only [if_pos h]
      exact Finset.sum_eq_zero fun k _ => zero_mul _
    · rw [if_neg h]; simp only [if_neg h]
      unfold Re.dp
      rw [show (128 * g + c 1) / 128 = g by omega, show (128 * g + c 1) % 128 = c 1 by omega, Nat.zero_add]

/-- The shares of the block's rows and of the sixteen after it. -/
abbrev aft (i a c : ℕ) : ℝ := if i % 16 = 15 ∧ 256 ≤ a then 0 else S.dp (256 * i + a) c / Re.cnt (256 * i + a) c

include hdq hdn in
theorem share (g n : ℕ) (hn : n = 2 ^ (g + 1)) {m : FVec Ideal S128x128 .bf16} (hm : Rd m fun c => S.pw g (c 0) (c 1))
    {den : FVec Ideal S272x1 .f32} (hd : Rd den fun c => min (pos (j 0).val (c 0)) (n : ℝ))
    (hs : S256x512.Slices ![0, 128 * g] S256x128) (hs' : S16x512.Slices ![0, 128 * g] S16x128) :
    Rd (divf (concatenate S272x128 0 [⟨S256x128, matmul dot_S256x128_S128x128_S256x128_1_1_0_0_n_n none (extractStridedSlice S256x128 ![0, 128 * g] dq hs) m (constant S256x128 .f32 0x00000000#32)⟩,
      ⟨S16x128, matmul dot_S16x128_S128x128_S16x128_1_1_0_0_n_n none (extractStridedSlice S16x128 ![0, 128 * g] dn hs') m (constant S16x128 .f32 0x00000000#32)⟩]
      concatenates_S256x128_S16x128_S272x128_d0) (broadcastTo S272x128 den broadcasts_S272x1_S272x128))
      fun c => ∑ k ∈ Finset.range 1, aft S (j 0).val ((c 0 + k) % 272) (128 * g + c 1) := by
  have hp : 0 < n := hn ▸ Nat.pos_of_ne_zero (by positivity)
  have hc : Rd (concatenate S272x128 0 [⟨S256x128, matmul dot_S256x128_S128x128_S256x128_1_1_0_0_n_n none (extractStridedSlice S256x128 ![0, 128 * g] dq hs) m (constant S256x128 .f32 0x00000000#32)⟩,
      ⟨S16x128, matmul dot_S16x128_S128x128_S16x128_1_1_0_0_n_n none (extractStridedSlice S16x128 ![0, 128 * g] dn hs') m (constant S16x128 .f32 0x00000000#32)⟩]
      concatenates_S256x128_S16x128_S272x128_d0) fun c => if (j 0).val % 16 = 15 ∧ 256 ≤ c 0 then 0 else S.dp (256 * (j 0).val + c 0) (128 * g + c 1) := by
    refine Rd.cat2 concatenates_S256x128_S16x128_S272x128_d0 256 rfl ((dpg S j hdq g hm hs).congr fun c hb => ?_) ((dpn S j hdn g hm hs').congr fun c hb => ?_)
    · have h0 : c 0 < 256 := hb 0
      exact (if_neg (by omega)).symm
    · show (if (j 0).val % 16 = 15 then 0 else S.dp (256 * (j 0).val + 256 + c 0) (128 * g + c 1)) =
        if (j 0).val % 16 = 15 ∧ 256 ≤ 256 + c 0 then 0 else S.dp (256 * (j 0).val + (256 + c 0)) (128 * g + c 1)
      by_cases h : (j 0).val % 16 = 15
      · rw [if_pos h, if_pos ⟨h, by omega⟩]
      · rw [if_neg h, if_neg (fun h' : (j 0).val % 16 = 15 ∧ 256 ≤ 256 + c 0 => h h'.1), Nat.add_assoc]
  refine ahead1 (E := fun a c => aft S (j 0).val a (128 * g + c)) ((hc.divf (hd.bcastTo broadcasts_S272x1_S272x128) fun c _ => min_ne _ _ n hp).congr fun c hb => ?_)
  have h1 : c 1 < 128 := hb 1
  show (if (j 0).val % 16 = 15 ∧ 256 ≤ c 0 then 0 else S.dp (256 * (j 0).val + c 0) (128 * g + c 1)) / min (pos (j 0).val (c 0)) (n : ℝ) = aft S (j 0).val (c 0) (128 * g + c 1)
  rw [cnt_of (j 0).val g (c 0) (c 1) n hn h1]
  unfold aft
  by_cases h : (j 0).val % 16 = 15 ∧ 256 ≤ c 0
  · rw [if_pos h, if_pos h, zero_div]
  · rw [if_neg h, if_neg h]

include hdq in
theorem dxg (g n : ℕ) (hn : n = 2 ^ (g + 1)) (h16 : n ≤ 16) {m : FVec Ideal S128x128 .bf16} (hm : Rd m fun c => S.pw g (c 0) (c 1))
    {y : FVec Ideal S272x128 .f32} (hy : Rd y fun c => ∑ k ∈ Finset.range n, aft S (j 0).val ((c 0 + k) % 272) (128 * g + c 1))
    (hs : S256x512.Slices ![0, 128 * g] S256x128) :
    Rd (subf (extractStridedSlice S256x128 ![0, 0] y slices_S272x128_o0_0_S256x128)
      (matmul dot_S256x128_S128x128_S256x128_1_1_0_0_n_n none (extractStridedSlice S256x128 ![0, 128 * g] dq hs) m (constant S256x128 .f32 0x00000000#32)))
      fun c => S.dx (256 * (j 0).val + c 0) (128 * g + c 1) :=
  ((hy.slice ![0, 0] slices_S272x128_o0_0_S256x128).subf (dpg S j hdq g hm hs)).congr fun c hc => by
    have h0 : c 0 < 256 := hc 0
    have h1 : c 1 < 128 := hc 1
    have hi : (j 0).val < 32 := (j 0).isLt
    show (∑ k ∈ Finset.range n, aft S (j 0).val ((0 + c 0 + k) % 272) (128 * g + (0 + c 1))) - _ = _
    unfold Re.dx Re.lead Re.win
    rw [show (128 * g + c 1) / 128 = g by omega, ← hn, Nat.zero_add, Nat.zero_add]
    refine congrArg (· - _) (Finset.sum_congr rfl fun k hk => ?_)
    have hk := Finset.mem_range.1 hk
    unfold aft
    rw [show (c 0 + k) % 272 = c 0 + k by omega]
    by_cases h : (256 * (j 0).val + c 0) % 4096 + k < 4096
    · rw [if_pos h, if_neg (by omega), ← Nat.add_assoc]
    · rw [if_neg h, if_pos (by omega)]

section
variable {ct : FVec Ideal S272x1 .f32}
include hdq hdn

theorem pay116 (h0 : Rd m0 (pl (S.pw 0))) (hc : Rd ct fun c => min (pos (j 0).val (c 0)) (2 : ℕ)) :
    Rd (k0_pay116 dq dn ct (k0_pay112 m0)) fun c => S.dx (256 * (j 0).val + c 0) (128 * 0 + c 1) :=
  dxg S j hdq 0 2 rfl (by omega) (plane h0) (ahead (E := fun a c => aft S (j 0).val a (128 * 0 + c)) 1 271#32 rfl (by omega) (by omega)
    (share S j hdq hdn 0 2 rfl (plane h0) hc slices_S256x512_o0_0_S256x128 slices_S16x512_o0_0_S16x128)) slices_S256x512_o0_0_S256x128
theorem pay121 (h0 : Rd m1 (pl (S.pw 1))) (hc : Rd ct fun c => min (pos (j 0).val (c 0)) (4 : ℕ)) :
    Rd (k0_pay121 (k0_pay119 dq m1) (k0_pay120 dq dn ct m1)) fun c => S.dx (256 * (j 0).val + c 0) (128 * 1 + c 1) :=
  dxg S j hdq 1 4 rfl (by omega) (plane h0) (ahead (E := fun a c => aft S (j 0).val a (128 * 1 + c)) 2 270#32 rfl (by omega) (by omega)
    (ahead (E := fun a c => aft S (j 0).val a (128 * 1 + c)) 1 271#32 rfl (by omega) (by omega)
    (share S j hdq hdn 1 4 rfl (plane h0) hc slices_S256x512_o0_128_S256x128 slices_S16x512_o0_128_S16x128))) slices_S256x512_o0_128_S256x128
theorem pay123 (h0 : Rd m2 (pl (S.pw 2))) (hc : Rd ct fun c => min (pos (j 0).val (c 0)) (8 : ℕ)) :
    Rd (k0_pay123 dq dn ct m2) fun c => S.dx (256 * (j 0).val + c 0) (128 * 2 + c 1) :=
  dxg S j hdq 2 8 rfl (by omega) (plane h0) (ahead (E := fun a c => aft S (j 0).val a (128 * 2 + c)) 4 268#32 rfl (by omega) (by omega)
    (ahead (E := fun a c => aft S (j 0).val a (128 * 2 + c)) 2 270#32 rfl (by omega) (by omega)
    (ahead (E := fun a c => aft S (j 0).val a (128 * 2 + c)) 1 271#32 rfl (by omega) (by omega)
    (share S j hdq hdn 2 8 rfl (plane h0) hc slices_S256x512_o0_256_S256x128 slices_S16x512_o0_256_S16x128)))) slices_S256x512_o0_256_S256x128
theorem pay127 (h0 : Rd m3 (pl (S.pw 3))) (hc : Rd ct fun c => min (pos (j 0).val (c 0)) (16 : ℕ))
    {x0 x1 x2 : FVec Ideal S256x128 .f32} (e0 : Rd x0 fun c => S.dx (256 * (j 0).val + c 0) (128 * 0 + c 1))
    (e1 : Rd x1 fun c => S.dx (256 * (j 0).val + c 0) (128 * 1 + c 1)) (e2 : Rd x2 fun c => S.dx (256 * (j 0).val + c 0) (128 * 2 + c 1)) :
    Rd (k0_pay1 (k0_pay127 dq dn ct x0 x1 x2 (k0_pay124 m3))) (blk (j 0).val S.dx) :=
  Rd.cat4 (f := blk (j 0).val S.dx) concatenates_S256x128_S256x128_S256x128_S256x128_S256x512_d1 128 256 384 rfl rfl rfl
    (e0.congr fun c _ => congrArg (S.dx (256 * (j 0).val + c 0)) (Nat.zero_add (c 1))) e1 e2
    (dxg S j hdq 3 16 rfl (by omega) (plane h0) (ahead (E := fun a c => aft S (j 0).val a (128 * 3 + c)) 8 264#32 rfl (by omega) (by omega)
      (ahead (E := fun a c => aft S (j 0).val a (128 * 3 + c)) 4 268#32 rfl (by omega) (by omega)
      (ahead (E := fun a c => aft S (j 0).val a (128 * 3 + c)) 2 270#32 rfl (by omega) (by omega)
      (ahead (E := fun a c => aft S (j 0).val a (128 * 3 + c)) 1 271#32 rfl (by omega) (by omega)
      (share S j hdq hdn 3 16 rfl (plane h0) hc slices_S256x512_o0_384_S256x128 slices_S16x512_o0_384_S16x128))))) slices_S256x512_o0_384_S256x128)
end

end

end Cert.Ker

end
-- ==== Proof.Block.lean ====
/- One grid point: from the readings of the thirteen blocks it loads, the readings of what it stores. -/
module

public import proofs.«01_k».proof.Proof.RdMem
public import proofs.«01_k».proof.Proof.PayPool
public import proofs.«01_k».proof.Proof.Gen.KernelIdeal.Value
public import Idealize.ShloMosaic.Lib.Pipeline.ReadBack

@[expose] public section

set_option maxRecDepth 16384

noncomputable section

namespace Cert.Ker

open Idealize.ShloMosaic Cert.Rd Cert.Spec Cert.KernelIdeal Cert.KernelIdeal.Gen

/-- The readings of the blocks of point `j`: `S` and `T` are the arrays the point works on, `G` the columns it hands on. -/
structure Ins (S : Re) (T : Cv) (G : ℕ → ℕ → EReal) (j : grid0.Coords) (x0 : Vec Ideal S256x3072 .bf16) (x1 : Vec Ideal S16x512 .bf16)
    (x2 : Vec Ideal S16x1024 .bf16) (x3 : Vec Ideal S16x512 .bf16) (x4 : Vec Ideal S256x1536 .bf16) (x5 x6 : Vec Ideal S16x512 .bf16)
    (x7 : Vec Ideal S256x3072 .bf16) (x8 x9 : Vec Ideal S8x512 .f32) (x10 : Vec Ideal S4x128x128 .f32) (x11 : Vec Ideal S128x128 .f32)
    (x12 : Vec Ideal S4x128x128 .f32) : Prop where
  u : Rd (View.ld x0 (Rect.unit ![0, 0] ![256, 512] inb_S256x3072_S256x512_0_0)) (blk (j 0).val S.u)
  v : Rd (View.ld x0 (Rect.unit ![0, 512] ![256, 512] inb_S256x3072_S256x512_0_512)) (blk (j 0).val S.v)
  x : Rd (View.ld x0 (Rect.unit ![0, 1024] ![256, 512] inb_S256x3072_S256x512_0_1024)) (blk (j 0).val S.x)
  bg : Rd (View.ld x0 (Rect.unit ![0, 1536] ![256, 512] inb_S256x3072_S256x512_0_1536)) (blk (j 0).val T.bg)
  cg : Rd (View.ld x0 (Rect.unit ![0, 2048] ![256, 512] inb_S256x3072_S256x512_0_2048)) (blk (j 0).val T.cg)
  hc : Rd (View.ld x0 (Rect.unit ![0, 2560] ![256, 512] inb_S256x3072_S256x512_0_2560)) (blk (j 0).val T.hc)
  xp : Rd (View.ld x1 (Rect.unit ![0, 0] ![16, 512] inb_S16x512_S16x512_0_0)) fun c => S.x (pre (j 0).val (c 0)) (c 1)
  ch : Rd (View.ld x2 (Rect.unit ![0, 0] ![16, 1024] inb_S16x1024_S16x1024_0_0))
    fun c => if c 1 < 512 then T.cg (pre (j 0).val (c 0)) (c 1) else T.hc (pre (j 0).val (c 0)) (c 1 - 512)
  bn : Rd (View.ld x3 (Rect.unit ![0, 0] ![16, 512] inb_S16x512_S16x512_0_0)) fun c => T.bg (post (j 0).val (c 0)) (c 1)
  da : Rd (k0_pay53 (View.ld x4 (Rect.unit ![0, 0] ![256, 1536] inb_S256x1536_S256x1536_0_0))) (blk (j 0).val S.da)
  db : Rd (k0_pay54 (View.ld x4 (Rect.unit ![0, 0] ![256, 1536] inb_S256x1536_S256x1536_0_0))) (blk (j 0).val S.db)
  dc : Rd (k0_pay55 (View.ld x4 (Rect.unit ![0, 0] ![256, 1536] inb_S256x1536_S256x1536_0_0))) (blk (j 0).val T.dc)
  dbn : Rd (View.ld x5 (Rect.unit ![0, 0] ![16, 512] inb_S16x512_S16x512_0_0)) fun c => S.db (post (j 0).val (c 0)) (c 1)
  dcn : Rd (View.ld x6 (Rect.unit ![0, 0] ![16, 512] inb_S16x512_S16x512_0_0)) fun c => T.dc (post (j 0).val (c 0)) (c 1)
  gl : Rd (View.ld x7 (Rect.unit ![0, 0] ![256, 3072] inb_S256x3072_S256x3072_0_0)) (blk (j 0).val G)
  g : Rd (View.ld x8 (Rect.unit ![0, 0] ![1, 512] inb_S8x512_S1x512_0_0)) (row S.g)
  b : Rd (View.ld x8 (Rect.unit ![1, 0] ![1, 512] inb_S8x512_S1x512_1_0)) (row S.b)
  ps : Rd (View.ld x8 (Rect.unit ![2, 0] ![1, 512] inb_S8x512_S1x512_2_0)) (row S.ps)
  cw0 : Rd (View.ld x9 (Rect.unit ![0, 0] ![1, 512] inb_S8x512_S1x512_0_0)) (row (T.cw 0))
  cw1 : Rd (View.ld x9 (Rect.unit ![1, 0] ![1, 512] inb_S8x512_S1x512_1_0)) (row (T.cw 1))
  cw2 : Rd (View.ld x9 (Rect.unit ![2, 0] ![1, 512] inb_S8x512_S1x512_2_0)) (row (T.cw 2))
  ws0 : Rd (View.ld x10 (Rect.unit ![0, 0, 0] ![1, 128, 128] inb_S4x128x128_S1x128x128_0_0_0)) (pl (S.ws 0))
  ws1 : Rd (View.ld x10 (Rect.unit ![1, 0, 0] ![1, 128, 128] inb_S4x128x128_S1x128x128_1_0_0)) (pl (S.ws 1))
  ws2 : Rd (View.ld x10 (Rect.unit ![2, 0, 0] ![1, 128, 128] inb_S4x128x128_S1x128x128_2_0_0)) (pl (S.ws 2))
  ws3 : Rd (View.ld x10 (Rect.unit ![3, 0, 0] ![1, 128, 128] inb_S4x128x128_S1x128x128_3_0_0)) (pl (S.ws 3))
  bs0 : Rd (View.ld x11 (Rect.unit ![0, 0] ![128, 1] inb_S128x128_S128x1_0_0)) fun c => S.bs 0 (c 0)
  bs1 : Rd (View.ld x11 (Rect.unit ![0, 1] ![128, 1] inb_S128x128_S128x1_0_1)) fun c => S.bs 1 (c 0)
  bs2 : Rd (View.ld x11 (Rect.unit ![0, 2] ![128, 1] inb_S128x128_S128x1_0_2)) fun c => S.bs 2 (c 0)
  bs3 : Rd (View.ld x11 (Rect.unit ![0, 3] ![128, 1] inb_S128x128_S128x1_0_3)) fun c => S.bs 3 (c 0)
  pw0 : Rd (View.ld x12 (Rect.unit ![0, 0, 0] ![1, 128, 128] inb_S4x128x128_S1x128x128_0_0_0)) (pl (S.pw 0))
  pw1 : Rd (View.ld x12 (Rect.unit ![1, 0, 0] ![1, 128, 128] inb_S4x128x128_S1x128x128_1_0_0)) (pl (S.pw 1))
  pw2 : Rd (View.ld x12 (Rect.unit ![2, 0, 0] ![1, 128, 128] inb_S4x128x128_S1x128x128_2_0_0)) (pl (S.pw 2))
  pw3 : Rd (View.ld x12 (Rect.unit ![3, 0, 0] ![1, 128, 128] inb_S4x128x128_S1x128x128_3_0_0)) (pl (S.pw 3))

namespace Ins

variable {S : Re} {T : Cv} {G : ℕ → ℕ → EReal} {j : grid0.Coords} {x0 : Vec Ideal S256x3072 .bf16} {x1 : Vec Ideal S16x512 .bf16}
    {x2 : Vec Ideal S16x1024 .bf16} {x3 : Vec Ideal S16x512 .bf16} {x4 : Vec Ideal S256x1536 .bf16} {x5 x6 : Vec Ideal S16x512 .bf16}
    {x7 : Vec Ideal S256x3072 .bf16} {x8 x9 : Vec Ideal S8x512 .f32} {x10 : Vec Ideal S4x128x128 .f32} {x11 : Vec Ideal S128x128 .f32}
    {x12 : Vec Ideal S4x128x128 .f32} (h : Ins S T G j x0 x1 x2 x3 x4 x5 x6 x7 x8 x9 x10 x11 x12)

/-! The spatial gating unit. -/
def gu := Ker.pay17 h.u
def tv := Ker.pay18 h.v
def hv := Ker.pay19 h.v
def g' := h.g.castSelf shapeCasts_S1x512_S1x512
def b' := h.b.castSelf shapeCasts_S1x512_S1x512
def ps' := h.ps.castSelf shapeCasts_S1x512_S1x512
def vn := Ker.pay23 S (j 0).val h.tv h.hv h.g' h.b'
def vh := Ker.pay22 S (j 0).val h.tv h.hv
def rs := Ker.pay21 S (j 0).val h.tv h.hv
def wt0 := Ker.pay25 S 0 h.ws0
def wt1 := Ker.pay26 S 1 h.ws1
def wt2 := Ker.pay27 S 2 h.ws2
def wt3 := Ker.pay28 S 3 h.ws3
def dvn := Ker.pay83 S (j 0).val h.da h.gu h.wt0 h.wt1 h.wt2 h.wt3
def s0 := Ker.pay29 S (j 0).val h.vn h.wt0 h.wt1 h.wt2 h.bs0 h.bs1 h.bs2 h.bs3 h.ws3
def s := Ker.pay32 S (j 0).val h.vn h.wt0 h.wt1 h.wt2 h.wt3 h.bs0 h.bs1 h.bs2 h.bs3 h.s0
def du := Ker.pay101 S (j 0).val h.u (Ker.pay16 h.u) (Ker.pay61 S (j 0).val h.da h.s)
def dv := Ker.pay102 S (j 0).val h.v h.tv (Ker.pay97 S (j 0).val h.dvn h.vh h.g' h.rs)

/-! The pooling. -/
def ex := Ker.pay33 S j h.x h.xp
def q := Ker.pay45 S j h.x h.ex (Ker.pay34 (j 0)) h.pw0 h.pw1 h.pw2 h.pw3
def dq := Ker.pay104 S j h.db h.ps'
def dqn := Ker.pay105 S j h.ps' h.dbn
def dx := Ker.pay127 S j h.dq h.dqn h.pw3 (min16 (Ker.pay107 (j 0))) (Ker.pay116 S j h.dq h.dqn h.pw0 (min2 (Ker.pay107 (j 0))))
  (Ker.pay121 S j h.dq h.dqn h.pw1 (min4 (Ker.pay107 (j 0)))) (Ker.pay123 S j h.dq h.dqn h.pw2 (min8 (Ker.pay107 (j 0))))

/-! The convolution. -/
def zc := Ker.pay46 T j h.cg h.hc
def z1 := Ker.pay48 T j h.cg h.hc h.ch
def z2 := Ker.pay49 T j h.cg h.hc h.ch
def dbg := Ker.pay128 T j h.dc (Ker.pay51 T j h.cg h.hc h.ch h.cw0 h.cw1 h.cw2)
def dy := Ker.pay129 T j h.bg h.dc
def dcg := Ker.pay134 T j h.bg h.cw0 h.cw1 h.cw2 h.dc h.dcn h.bn h.hc
def dhc := Ker.pay135 T j h.bg h.cw0 h.cw1 h.cw2 h.dc h.dcn h.bn h.cg

end Ins

end Cert.Ker

end
-- ==== Proof.Out.lean ====
/- What a grid point leaves in each of the five results' blocks: the block of `dz`, and the running sums one step further. -/
module

public import proofs.«01_k».proof.Proof.Block

@[expose] public section

set_option maxRecDepth 16384

noncomputable section

namespace Cert.Ker

open Idealize.ShloMosaic Cert.Rd Cert.Spec Cert.KernelIdeal Cert.KernelIdeal.Gen Idealize.ShloMosaic.TcCoe Idealize.SL.Sem

/-- The gradient of the pre-activations, column band by column band. -/
def DZ (S : Re) (T : Cv) (G : ℕ → ℕ → EReal) (r c : ℕ) : EReal :=
  if c < 512 then (S.du r c : ℝ) else if c < 1024 then (S.dv r (c - 512) : ℝ) else if c < 1536 then (S.dx r (c - 1024) : ℝ)
  else if c < 2048 then T.dbg r (c - 1536) else if c < 2560 then T.dcg r (c - 2048) else if c < 3072 then T.dhc r (c - 2560)
  else G r (c - 3072)

/-- The sums over the first `n` blocks of 256 rows. -/
def pvAt (S : Re) (T : Cv) (n r c : ℕ) : EReal :=
  if r = 0 then ((∑ i ∈ Finset.range n, part i fun r => S.dvn r c * S.vh r c : ℝ) : EReal)
  else if r = 1 then ((∑ i ∈ Finset.range n, part i fun r => S.dvn r c : ℝ) : EReal)
  else if r = 2 then ((∑ i ∈ Finset.range n, part i fun r => S.db r c * S.q r c : ℝ) : EReal)
  else if r = 3 then ∑ i ∈ Finset.range n, part i fun r => T.dy r c * T.zs 2 r c
  else if r = 4 then ∑ i ∈ Finset.range n, part i fun r => T.dy r c * T.zs 1 r c
  else if r = 5 then ∑ i ∈ Finset.range n, part i fun r => T.dy r c * T.zc r c
  else 0
def wsAt (S : Re) (n h t k : ℕ) : ℝ := ∑ i ∈ Finset.range n, dwsAdd S i h t k
def bsAt (S : Re) (n t l : ℕ) : ℝ := ∑ i ∈ Finset.range n, dbsAdd S i t l
def pwAt (S : Re) (n g k e : ℕ) : ℝ := ∑ i ∈ Finset.range n, part i fun r => S.p r (128 * g + k) * S.dq r (128 * g + e)

abbrev pl4 (F : ℕ → ℕ → ℕ → ℝ) : (Fin 3 → ℕ) → EReal := fun c => (F (c 0) (c 1) (c 2) : ℝ)
abbrev sq (F : ℕ → ℕ → ℝ) : (Fin 2 → ℕ) → EReal := fun c => (F (c 0) (c 1) : ℝ)

theorem ldRow {α : Type} [AddCommMonoid α] [Mul α] [Emb α] {x : S8x512.Idx → EReal} {P : ℕ → ℕ → EReal} (hx : Rd x fun c => P (c 0) (c 1)) (r : ℕ)
    (inb : ∀ a, (![r, 0] : Fin 2 → ℕ) a + (![1, 512] : Fin 2 → ℕ) a ≤ S8x512.size a) {F : ℕ → α} (e : ∀ c, P r c = Emb.up (F c)) :
    Rd (s := S1x512) (View.ld (Val := Elt Ideal) (e' := .f32) x (Rect.unit ![r, 0] ![1, 512] inb)) (row F) :=
  Rd.real (hx.ld ![r, 0] ![1, 512] inb) fun c hc => by
    have h0 : c 0 < 1 := hc 0
    show P (r + c 0) (0 + c 1) = Emb.up (F (c 1))
    rw [← e, Nat.zero_add, show r + c 0 = r by omega]

theorem ldPlane {x : S4x128x128.Idx → EReal} {P : ℕ → ℕ → ℕ → ℝ} (hx : Rd x (pl4 P)) (g : ℕ)
    (inb : ∀ a, (![g, 0, 0] : Fin 3 → ℕ) a + (![1, 128, 128] : Fin 3 → ℕ) a ≤ S4x128x128.size a) :
    Rd (s := S1x128x128) (View.ld (Val := Elt Ideal) (e' := .f32) x (Rect.unit ![g, 0, 0] ![1, 128, 128] inb)) (pl (P g)) :=
  Rd.real (hx.ld ![g, 0, 0] ![1, 128, 128] inb) fun c hc => by
    have h0 : c 0 < 1 := hc 0
    show ((P (g + c 0) (0 + c 1) (0 + c 2) : ℝ) : EReal) = ((P g (c 1) (c 2) : ℝ) : EReal)
    rw [Nat.zero_add, Nat.zero_add, show g + c 0 = g by omega]

theorem plane_of {P : ℕ → ℕ → ℕ → ℝ} (g : ℕ) {w : S1x128x128.Idx → EReal} (hw : Rd w (pl (P g))) :
    Rd w fun c => pl4 P fun a => (![g, 0, 0] : Fin 3 → ℕ) a + c a :=
  hw.up.congr fun c hc => by
    have h0 : c 0 < 1 := hc 0
    show ((P g (c 1) (c 2) : ℝ) : EReal) = ((P (g + c 0) (0 + c 1) (0 + c 2) : ℝ) : EReal)
    rw [Nat.zero_add, Nat.zero_add, show g + c 0 = g by omega]

theorem row_of {α : Type} [AddCommMonoid α] [Mul α] [Emb α] {P : ℕ → ℕ → EReal} (r : ℕ) {w : S1x512.Idx → EReal} {F : ℕ → α} (hw : Rd w (row F))
    (e : ∀ c, P r c = Emb.up (F c)) : Rd w fun c => (fun c : Fin 2 → ℕ => P (c 0) (c 1)) fun a => (![r, 0] : Fin 2 → ℕ) a + c a :=
  hw.up.congr fun c hc => by
    have h0 : c 0 < 1 := hc 0
    show Emb.up (F (c 1)) = P (r + c 0) (0 + c 1)
    rw [← e, Nat.zero_add, show r + c 0 = r by omega]

theorem band_of {α : Type} [AddCommMonoid α] [Mul α] [Emb α] {i : ℕ} {P : ℕ → ℕ → EReal} (o : ℕ) {w : S256x512.Idx → EReal} {F : ℕ → ℕ → α} (hw : Rd w (blk i F))
    (e : ∀ r c, c < 512 → P r (o + c) = Emb.up (F r c)) : Rd w fun c => blk i P fun a => (![0, o] : Fin 2 → ℕ) a + c a :=
  hw.up.congr fun c hc => by
    show Emb.up (F (256 * i + c 0) (c 1)) = P (256 * i + (0 + c 0)) (o + c 1)
    rw [e _ _ (hc 1), Nat.zero_add]

section Pv
variable (S : Re) (T : Cv) (n c : ℕ)
theorem pvAt_0 : pvAt S T n 0 c = ((∑ i ∈ Finset.range n, part i fun r => S.dvn r c * S.vh r c : ℝ) : EReal) := if_pos rfl
theorem pvAt_1 : pvAt S T n 1 c = ((∑ i ∈ Finset.range n, part i fun r => S.dvn r c : ℝ) : EReal) := by simp [pvAt]
theorem pvAt_2 : pvAt S T n 2 c = ((∑ i ∈ Finset.range n, part i fun r => S.db r c * S.q r c : ℝ) : EReal) := by simp [pvAt]
theorem pvAt_3 : pvAt S T n 3 c = ∑ i ∈ Finset.range n, part i fun r => T.dy r c * T.zs 2 r c := by simp [pvAt]
theorem pvAt_4 : pvAt S T n 4 c = ∑ i ∈ Finset.range n, part i fun r => T.dy r c * T.zs 1 r c := by simp [pvAt]
theorem pvAt_5 : pvAt S T n 5 c = ∑ i ∈ Finset.range n, part i fun r => T.dy r c * T.zc r c := by simp [pvAt]
theorem pvAt_6 (r : ℕ) (h : 6 ≤ r) : pvAt S T n r c = 0 := by
  unfold pvAt
  rw [if_neg (by omega), if_neg (by omega), if_neg (by omega), if_neg (by omega), if_neg (by omega), if_neg (by omega)]
theorem pvAt_zero (r : ℕ) : pvAt S T 0 r c = 0 := by simp [pvAt]
end Pv

theorem up_succ {α : Type} [AddCommMonoid α] [Mul α] [Emb α] (n : ℕ) (f : ℕ → α) :
    Emb.up (∑ i ∈ Finset.range (n + 1), f i) = Emb.up ((∑ i ∈ Finset.range n, f i) + f n) := by rw [Finset.sum_range_succ]

namespace Ins

variable {S : Re} {T : Cv} {G : ℕ → ℕ → EReal} {j : grid0.Coords} {x0 : Vec Ideal S256x3072 .bf16} {x1 : Vec Ideal S16x512 .bf16}
    {x2 : Vec Ideal S16x1024 .bf16} {x3 : Vec Ideal S16x512 .bf16} {x4 : Vec Ideal S256x1536 .bf16} {x5 x6 : Vec Ideal S16x512 .bf16}
    {x7 : Vec Ideal S256x3072 .bf16} {x8 x9 : Vec Ideal S8x512 .f32} {x10 : Vec Ideal S4x128x128 .f32} {x11 : Vec Ideal S128x128 .f32}
    {x12 : Vec Ideal S4x128x128 .f32} (h : Ins S T G j x0 x1 x2 x3 x4 x5 x6 x7 x8 x9 x10 x11 x12)

/-! The seven bands of the block of `dz`. -/
def band0 := band_of (P := DZ S T G) 0 h.du fun r c hc => by
  unfold DZ
  rw [if_pos (by omega), Nat.zero_add]
  rfl
def band1 := band_of (P := DZ S T G) 512 h.dv fun r c hc => by
  unfold DZ
  rw [if_neg (by omega), if_pos (by omega), Nat.add_sub_cancel_left]
  rfl
def band2 := band_of (P := DZ S T G) 1024 h.dx fun r c hc => by
  unfold DZ
  rw [if_neg (by omega), if_neg (by omega), if_pos (by omega), Nat.add_sub_cancel_left]
  rfl
def band3 := band_of (P := DZ S T G) 1536 h.dbg fun r c hc => by
  unfold DZ
  rw [if_neg (by omega), if_neg (by omega), if_neg (by omega), if_pos (by omega), Nat.add_sub_cancel_left]
  rfl
def band4 := band_of (P := DZ S T G) 2048 h.dcg fun r c hc => by
  unfold DZ
  rw [if_neg (by omega), if_neg (by omega), if_neg (by omega), if_neg (by omega), if_pos (by omega), Nat.add_sub_cancel_left]
  rfl
def band5 := band_of (P := DZ S T G) 2560 h.dhc fun r c hc => by
  unfold DZ
  rw [if_neg (by omega), if_neg (by omega), if_neg (by omega), if_neg (by omega), if_neg (by omega), if_pos (by omega), Nat.add_sub_cancel_left]
  rfl
def band6 : Rd (s := S256x3072) (View.ld x7 (Rect.unit ![0, 0] ![256, 3072] inb_S256x3072_S256x3072_0_0)) fun c => blk (j 0).val (DZ S T G) fun a => (![0, 3072] : Fin 2 → ℕ) a + c a :=
  h.gl.congr fun c hc => by
    show G (256 * (j 0).val + c 0) (c 1) = DZ S T G (256 * (j 0).val + (0 + c 0)) (3072 + c 1)
    unfold DZ
    rw [if_neg (by omega), if_neg (by omega), if_neg (by omega), if_neg (by omega), if_neg (by omega), if_neg (by omega), Nat.add_sub_cancel_left, Nat.zero_add]

/-! The rows of sums. -/
variable {o : Vec Ideal S8x512 .f32} (ho : Rd o fun c => pvAt S T (j 0).val (c 0) (c 1))
def row0 := row_of (P := pvAt S T ((j 0).val + 1)) 0 (Ker.pay95 S (j 0).val h.dvn h.vh (ldRow ho 0 inb_S8x512_S1x512_0_0 (F := fun c => ∑ i ∈ Finset.range (j 0).val, part i fun r => S.dvn r c * S.vh r c) (pvAt_0 S T (j 0).val)))
  fun c => (pvAt_0 S T ((j 0).val + 1) c).trans (up_succ (j 0).val fun i => part i fun r => S.dvn r c * S.vh r c)
def row1 := row_of (P := pvAt S T ((j 0).val + 1)) 1 (Ker.pay96 S (j 0).val h.dvn (ldRow ho 1 inb_S8x512_S1x512_1_0 (F := fun c => ∑ i ∈ Finset.range (j 0).val, part i fun r => S.dvn r c) (pvAt_1 S T (j 0).val)))
  fun c => (pvAt_1 S T ((j 0).val + 1) c).trans (up_succ (j 0).val fun i => part i fun r => S.dvn r c)
def row2 := row_of (P := pvAt S T ((j 0).val + 1)) 2 (Ker.pay103 S j h.db h.q (ldRow ho 2 inb_S8x512_S1x512_2_0 (F := fun c => ∑ i ∈ Finset.range (j 0).val, part i fun r => S.db r c * S.q r c) (pvAt_2 S T (j 0).val)))
  fun c => (pvAt_2 S T ((j 0).val + 1) c).trans (up_succ (j 0).val fun i => part i fun r => S.db r c * S.q r c)
def row3 := row_of (P := pvAt S T ((j 0).val + 1)) 3 (Ker.pay130 T j h.bg h.dc (ldRow ho 3 inb_S8x512_S1x512_3_0 (F := fun c => ∑ i ∈ Finset.range (j 0).val, part i fun r => T.dy r c * T.zs 2 r c) (pvAt_3 S T (j 0).val)) h.z2)
  fun c => (pvAt_3 S T ((j 0).val + 1) c).trans (up_succ (j 0).val fun i => part i fun r => T.dy r c * T.zs 2 r c)
def row4 := row_of (P := pvAt S T ((j 0).val + 1)) 4 (Ker.pay131 T j h.bg h.dc (ldRow ho 4 inb_S8x512_S1x512_4_0 (F := fun c => ∑ i ∈ Finset.range (j 0).val, part i fun r => T.dy r c * T.zs 1 r c) (pvAt_4 S T (j 0).val)) h.z1)
  fun c => (pvAt_4 S T ((j 0).val + 1) c).trans (up_succ (j 0).val fun i => part i fun r => T.dy r c * T.zs 1 r c)
def row5 := row_of (P := pvAt S T ((j 0).val + 1)) 5 (Ker.pay132 T j h.bg h.dc (ldRow ho 5 inb_S8x512_S1x512_5_0 (F := fun c => ∑ i ∈ Finset.range (j 0).val, part i fun r => T.dy r c * T.zc r c) (pvAt_5 S T (j 0).val)) h.zc)
  fun c => (pvAt_5 S T ((j 0).val + 1) c).trans (up_succ (j 0).val fun i => part i fun r => T.dy r c * T.zc r c)

/-! The planes of sums. -/
variable {o5 o7 : Vec Ideal S4x128x128 .f32} {o6 : Vec Ideal S128x128 .f32} (h5 : Rd o5 (pl4 (wsAt S (j 0).val))) (h6 : Rd o6 (sq (bsAt S (j 0).val)))
  (h7 : Rd o7 (pl4 (pwAt S (j 0).val)))
def ws_0 := plane_of (P := wsAt S ((j 0).val + 1)) 0 ((Ker.pay85 S (j 0).val h.vn h.da h.gu (ldPlane h5 0 inb_S4x128x128_S1x128x128_0_0_0)).congr
  fun c _ => (Finset.sum_range_succ (fun i => dwsAdd S i 0 (c 1) (c 2)) (j 0).val).symm)
def ws_1 := plane_of (P := wsAt S ((j 0).val + 1)) 1 ((Ker.pay87 S (j 0).val h.vn h.da h.gu (ldPlane h5 1 inb_S4x128x128_S1x128x128_1_0_0)).congr
  fun c _ => (Finset.sum_range_succ (fun i => dwsAdd S i 1 (c 1) (c 2)) (j 0).val).symm)
def ws_2 := plane_of (P := wsAt S ((j 0).val + 1)) 2 ((Ker.pay89 S (j 0).val h.vn h.da h.gu (ldPlane h5 2 inb_S4x128x128_S1x128x128_2_0_0)).congr
  fun c _ => (Finset.sum_range_succ (fun i => dwsAdd S i 2 (c 1) (c 2)) (j 0).val).symm)
def ws_3 := plane_of (P := wsAt S ((j 0).val + 1)) 3 ((Ker.pay91 S (j 0).val h.vn h.da h.gu (ldPlane h5 3 inb_S4x128x128_S1x128x128_3_0_0)).congr
  fun c _ => (Finset.sum_range_succ (fun i => dwsAdd S i 3 (c 1) (c 2)) (j 0).val).symm)
def pw_0 := plane_of (P := pwAt S ((j 0).val + 1)) 0 ((Ker.pay115 S j h.x h.ex (Ker.pay34 (j 0)) h.dq (ldPlane h7 0 inb_S4x128x128_S1x128x128_0_0_0)).congr
  fun c _ => (Finset.sum_range_succ (fun i => part i fun r => S.p r (128 * 0 + c 1) * S.dq r (128 * 0 + c 2)) (j 0).val).symm)
def pw_1 := plane_of (P := pwAt S ((j 0).val + 1)) 1 ((Ker.pay118 S j h.x h.ex (Ker.pay34 (j 0)) h.dq (ldPlane h7 1 inb_S4x128x128_S1x128x128_1_0_0)).congr
  fun c _ => (Finset.sum_range_succ (fun i => part i fun r => S.p r (128 * 1 + c 1) * S.dq r (128 * 1 + c 2)) (j 0).val).symm)
def pw_2 := plane_of (P := pwAt S ((j 0).val + 1)) 2 ((Ker.pay122 S j h.x h.ex (Ker.pay34 (j 0)) h.dq (ldPlane h7 2 inb_S4x128x128_S1x128x128_2_0_0)).congr
  fun c _ => (Finset.sum_range_succ (fun i => part i fun r => S.p r (128 * 2 + c 1) * S.dq r (128 * 2 + c 2)) (j 0).val).symm)
def pw_3 := plane_of (P := pwAt S ((j 0).val + 1)) 3 ((Ker.pay126 S j h.x h.ex (Ker.pay34 (j 0)) h.dq (ldPlane h7 3 inb_S4x128x128_S1x128x128_3_0_0)).congr
  fun c _ => (Finset.sum_range_succ (fun i => part i fun r => S.p r (128 * 3 + c 1) * S.dq r (128 * 3 + c 2)) (j 0).val).symm)
def bs_ := (Ker.pay92 S (j 0).val (Ker.pay75 S (j 0).val h.da h.gu) (F := bsAt S (j 0).val) (o := View.ld o6 (Rect.unit ![0, 0] ![128, 128] inb_S128x128_S128x128_0_0))
    (Rd.real (h6.ld ![0, 0] ![128, 128] inb_S128x128_S128x128_0_0) fun c _ => by
      show ((bsAt S (j 0).val (0 + c 0) (0 + c 1) : ℝ) : EReal) = _
      rw [Nat.zero_add, Nat.zero_add]
      rfl)).up.congr (g := fun c => sq (bsAt S ((j 0).val + 1)) fun a => (![0, 0] : Fin 2 → ℕ) a + c a) fun c _ => by
  show _ = ((bsAt S ((j 0).val + 1) (0 + c 0) (0 + c 1) : ℝ) : EReal)
  rw [Nat.zero_add, Nat.zero_add]
  exact congrArg _ (Finset.sum_range_succ (fun i => dbsAdd S i (c 0) (c 1)) (j 0).val).symm

end Ins

end Cert.Ker

end
-- ==== Proof.Points.lean ====
/- The contents of the five results' staging blocks after each grid point. -/
module

public import proofs.«01_k».proof.Proof.Out

@[expose] public section

set_option maxRecDepth 16384
set_option maxHeartbeats 1000000

noncomputable section

namespace Cert.Ker

open Idealize.ShloMosaic Cert.Rd Cert.Spec Cert.KernelIdeal Cert.KernelIdeal.Gen Idealize.ShloMosaic.TcCoe Idealize.SL.Sem

theorem at_point : ∀ t : Fin grid0.N, (grid0.coords t 0).val = t.val := by decide +kernel

theorem zeros {s : Shape} {α : Type} [AddCommMonoid α] [Mul α] [Emb α] {f : (Fin s.rank → ℕ) → α} (hf : ∀ c, f c = 0) :
    Rd (s := s) (broadcast s (Scalar.ofBits (F := Ideal) .f32 0x00000000#32)) f := fun i => by
  rw [hf]
  exact Consts.f0.trans Emb.up_zero.symm

theorem con16 {s : Shape} {κ : Kind} {sp : Space} {v : View sig κ sp s .bf16} {f : v.ty.Contents (Elt Ideal)} {off size : Fin s.rank → ℕ}
    {inb : ∀ a, off a + size a ≤ s.size a} {w : (Rect.unit off size inb).shape.Idx → Elt Ideal .bf16} {L : List (View.Piece (Elt Ideal) s .bf16)}
    {G : (Fin s.rank → ℕ) → EReal} {P : (Fin s.rank → ℕ) → Prop} (hw : Rd (s := (Rect.unit off size inb).shape) w fun c => G fun a => off a + c a)
    (h : On (s := s) (v.read (Elt Ideal) (v.writes (Elt Ideal) f L)) G fun c => P c ∧ ¬∀ a, off a ≤ c a ∧ c a < off a + size a) :
    On (s := s) (v.read (Elt Ideal) (v.writes (Elt Ideal) f ((⟨Rect.unit off size inb, w⟩ : View.Piece (Elt Ideal) s .bf16) :: L))) G P :=
  On.cons (fun x => x) v f inb w L rfl rfl hw h

theorem con32 {s : Shape} {κ : Kind} {sp : Space} {v : View sig κ sp s .f32} {f : v.ty.Contents (Elt Ideal)} {off size : Fin s.rank → ℕ}
    {inb : ∀ a, off a + size a ≤ s.size a} {w : (Rect.unit off size inb).shape.Idx → Elt Ideal .f32} {L : List (View.Piece (Elt Ideal) s .f32)}
    {G : (Fin s.rank → ℕ) → EReal} {P : (Fin s.rank → ℕ) → Prop} (hw : Rd (s := (Rect.unit off size inb).shape) w fun c => G fun a => off a + c a)
    (h : On (s := s) (v.read (Elt Ideal) (v.writes (Elt Ideal) f L)) G fun c => P c ∧ ¬∀ a, off a ≤ c a ∧ c a < off a + size a) :
    On (s := s) (v.read (Elt Ideal) (v.writes (Elt Ideal) f ((⟨Rect.unit off size inb, w⟩ : View.Piece (Elt Ideal) s .f32) :: L))) G P :=
  On.cons (fun x => x) v f inb w L rfl rfl hw h

theorem zero14 (S : Re) (T : Cv) {n : ℕ} (hn : n = 0) : Rd (s := S8x512) (k0_pay57 (F := Ideal)) fun c => pvAt S T n (c 0) (c 1) := by
  rw [hn]
  exact zeros (α := EReal) fun c => pvAt_zero S T _ _
theorem zero15 (S : Re) {n : ℕ} (hn : n = 0) : Rd (s := S4x128x128) (k0_pay58 (F := Ideal)) (pl4 (wsAt S n)) := by
  rw [hn]
  exact zeros (α := EReal) fun c => by simp [pl4, wsAt]
theorem zero16 (S : Re) {n : ℕ} (hn : n = 0) : Rd (s := S128x128) (k0_pay59 (F := Ideal)) (sq (bsAt S n)) := by
  rw [hn]
  exact zeros (α := EReal) fun c => by simp [sq, bsAt]
theorem zero17 (S : Re) {n : ℕ} (hn : n = 0) : Rd (s := S4x128x128) (k0_pay60 (F := Ideal)) (pl4 (pwAt S n)) := by
  rw [hn]
  exact zeros (α := EReal) fun c => by simp [pl4, pwAt]

section Point

variable (m : (ℓ : Loc nD τ sig) → Buf (Elt Ideal) ℓ) (c : Dev nD) (t : Fin cfg0.N) {S : Re} {T : Cv} {G : ℕ → ℕ → EReal}
  (h : Ins S T G (grid0.coords t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t))
include h

theorem dz_point : Rd (outsAt0 m c t.val t.isLt).1 (blk (grid0.coords t 0).val (DZ S T G)) := by
  by_cases h0 : t.val % 32 = 0
  all_goals
    first
    | rw [outsAt0_A m c t h0]; dsimp only; unfold out0_A_13 kernelRun0_A
    | rw [outsAt0_B m c t h0]; dsimp only; unfold out0_B_13 kernelRun0_B
    dsimp only
    sl_unfold_words
    simp (disch := decide) only [↓View.readCov_skip, View.readCov_fill, View.readAt_eq_ld, Memref.IsWhole.read_unread]
    refine On.all ?_
    refine con16 h.band6 ?_
    refine con16 h.band5 ?_
    refine con16 h.band4 ?_
    refine con16 h.band3 ?_
    refine con16 h.band2 ?_
    refine con16 h.band1 ?_
    refine con16 h.band0 ?_
    exact On.none fun c hc hP => by
      have b0 := hc 0
      have b1 := hc 1
      simp [Fin.forall_fin_two] at hP b0 b1
      omega

theorem pv_A (h0 : t.val % 32 = 0) (hz : (grid0.coords t 0).val = 0) :
    Rd (outsAt0 m c t.val t.isLt).2.1 (fun c => pvAt S T ((grid0.coords t 0).val + 1) (c 0) (c 1)) := by
  rw [outsAt0_A m c t h0]
  dsimp only
  unfold out0_A_14 kernelRun0_A
  dsimp only
  sl_unfold_words
  simp (disch := decide) only [↓View.readCov_skip, View.readCov_fill, View.readAt_eq_ld, Memref.IsWhole.read_unread]
  refine On.all ?_
  refine con32 (h.row5 (zero14 S T hz)) ?_
  refine con32 (h.row4 (zero14 S T hz)) ?_
  refine con32 (h.row3 (zero14 S T hz)) ?_
  refine con32 (h.row2 (zero14 S T hz)) ?_
  refine con32 (h.row1 (zero14 S T hz)) ?_
  refine con32 (h.row0 (zero14 S T hz)) ?_
  exact On.of (F := fun _ => 0) (by
    rw [View.read_writes_junk_eq_canon, View.canon_cons_unit_lit _ _ _ (by decide)]
    exact zeros (α := EReal) fun c => rfl) fun c hc hP => by
    have b0 := hc 0
    have b1 := hc 1
    simp [Fin.forall_fin_two] at hP b0 b1
    exact (pvAt_6 S T _ _ _ (by omega)).symm

theorem pv_B (h0 : ¬t.val % 32 = 0) (ho : Rd (outsAt0 m c (t.val - 1) (by omega)).2.1 (fun c => pvAt S T (grid0.coords t 0).val (c 0) (c 1))) :
    Rd (outsAt0 m c t.val t.isLt).2.1 (fun c => pvAt S T ((grid0.coords t 0).val + 1) (c 0) (c 1)) := by
  rw [outsAt0_B m c t h0]
  dsimp only
  unfold out0_B_14 kernelRun0_B
  dsimp only
  sl_unfold_words
  simp (disch := decide) only [↓View.readCov_skip, View.readCov_fill, View.readAt_eq_ld, Memref.IsWhole.read_unread]
  refine On.all ?_
  refine con32 (h.row5 ho) ?_
  refine con32 (h.row4 ho) ?_
  refine con32 (h.row3 ho) ?_
  refine con32 (h.row2 ho) ?_
  refine con32 (h.row1 ho) ?_
  refine con32 (h.row0 ho) ?_
  refine On.of (F := fun c => pvAt S T (grid0.coords t 0).val (c 0) (c 1)) ((hs0_14 t).read_unread _ ▸ ho) fun c hc hP => ?_
  have b0 := hc 0
  have b1 := hc 1
  simp [Fin.forall_fin_two] at hP b0 b1
  rw [pvAt_6 S T _ _ _ (show 6 ≤ c 0 by omega), pvAt_6 S T _ _ _ (show 6 ≤ c 0 by omega)]

theorem dws_A (h0 : t.val % 32 = 0) (hz : (grid0.coords t 0).val = 0) :
    Rd (outsAt0 m c t.val t.isLt).2.2.1 (pl4 (wsAt S ((grid0.coords t 0).val + 1))) := by
  rw [outsAt0_A m c t h0]
  dsimp only
  unfold out0_A_15 kernelRun0_A
  dsimp only
  sl_unfold_words
  simp (disch := decide) only [↓View.readCov_skip, View.readCov_fill, View.readAt_eq_ld, Memref.IsWhole.read_unread]
  refine On.all ?_
  refine con32 (h.ws_3 (zero15 S hz)) ?_
  refine con32 (h.ws_2 (zero15 S hz)) ?_
  refine con32 (h.ws_1 (zero15 S hz)) ?_
  refine con32 (h.ws_0 (zero15 S hz)) ?_
  exact On.none fun c hc hP => by
    have b0 := hc 0
    have b1 := hc 1
    have b2 := hc 2
    simp [Fin.forall_fin_succ] at hP b0 b1 b2
    omega

theorem dws_B (h0 : ¬t.val % 32 = 0) (ho : Rd (outsAt0 m c (t.val - 1) (by omega)).2.2.1 (pl4 (wsAt S (grid0.coords t 0).val))) :
    Rd (outsAt0 m c t.val t.isLt).2.2.1 (pl4 (wsAt S ((grid0.coords t 0).val + 1))) := by
  rw [outsAt0_B m c t h0]
  dsimp only
  unfold out0_B_15 kernelRun0_B
  dsimp only
  sl_unfold_words
  simp (disch := decide) only [↓View.readCov_skip, View.readCov_fill, View.readAt_eq_ld, Memref.IsWhole.read_unread]
  refine On.all ?_
  refine con32 (h.ws_3 ho) ?_
  refine con32 (h.ws_2 ho) ?_
  refine con32 (h.ws_1 ho) ?_
  refine con32 (h.ws_0 ho) ?_
  exact On.none fun c hc hP => by
    have b0 := hc 0
    have b1 := hc 1
    have b2 := hc 2
    simp [Fin.forall_fin_succ] at hP b0 b1 b2
    omega

theorem dbs_A (h0 : t.val % 32 = 0) (hz : (grid0.coords t 0).val = 0) :
    Rd (outsAt0 m c t.val t.isLt).2.2.2.1 (sq (bsAt S ((grid0.coords t 0).val + 1))) := by
  rw [outsAt0_A m c t h0]
  dsimp only
  unfold out0_A_16 kernelRun0_A
  dsimp only
  sl_unfold_words
  simp (disch := decide) only [↓View.readCov_skip, View.readCov_fill, View.readAt_eq_ld, Memref.IsWhole.read_unread]
  refine On.all ?_
  refine con32 (h.bs_ (zero16 S hz)) ?_
  exact On.none fun c hc hP => by
    have b0 := hc 0
    have b1 := hc 1
    simp [Fin.forall_fin_two] at hP b0 b1
    omega

theorem dbs_B (h0 : ¬t.val % 32 = 0) (ho : Rd (outsAt0 m c (t.val - 1) (by omega)).2.2.2.1 (sq (bsAt S (grid0.coords t 0).val))) :
    Rd (outsAt0 m c t.val t.isLt).2.2.2.1 (sq (bsAt S ((grid0.coords t 0).val + 1))) := by
  rw [outsAt0_B m c t h0]
  dsimp only
  unfold out0_B_16 kernelRun0_B
  dsimp only
  sl_unfold_words
  simp (disch := decide) only [↓View.readCov_skip, View.readCov_fill, View.readAt_eq_ld, Memref.IsWhole.read_unread]
  refine On.all ?_
  refine con32 (h.bs_ ho) ?_
  exact On.none fun c hc hP => by
    have b0 := hc 0
    have b1 := hc 1
    simp [Fin.forall_fin_two] at hP b0 b1
    omega

theorem dpw_A (h0 : t.val % 32 = 0) (hz : (grid0.coords t 0).val = 0) :
    Rd (outsAt0 m c t.val t.isLt).2.2.2.2 (pl4 (pwAt S ((grid0.coords t 0).val + 1))) := by
  rw [outsAt0_A m c t h0]
  dsimp only
  unfold out0_A_17 kernelRun0_A
  dsimp only
  sl_unfold_words
  simp (disch := decide) only [↓View.readCov_skip, View.readCov_fill, View.readAt_eq_ld, Memref.IsWhole.read_unread]
  refine On.all ?_
  refine con32 (h.pw_3 (zero17 S hz)) ?_
  refine con32 (h.pw_2 (zero17 S hz)) ?_
  refine con32 (h.pw_1 (zero17 S hz)) ?_
  refine con32 (h.pw_0 (zero17 S hz)) ?_
  exact On.none fun c hc hP => by
    have b0 := hc 0
    have b1 := hc 1
    have b2 := hc 2
    simp [Fin.forall_fin_succ] at hP b0 b1 b2
    omega

theorem dpw_B (h0 : ¬t.val % 32 = 0) (ho : Rd (outsAt0 m c (t.val - 1) (by omega)).2.2.2.2 (pl4 (pwAt S (grid0.coords t 0).val))) :
    Rd (outsAt0 m c t.val t.isLt).2.2.2.2 (pl4 (pwAt S ((grid0.coords t 0).val + 1))) := by
  rw [outsAt0_B m c t h0]
  dsimp only
  unfold out0_B_17 kernelRun0_B
  dsimp only
  sl_unfold_words
  simp (disch := decide) only [↓View.readCov_skip, View.readCov_fill, View.readAt_eq_ld, Memref.IsWhole.read_unread]
  refine On.all ?_
  refine con32 (h.pw_3 ho) ?_
  refine con32 (h.pw_2 ho) ?_
  refine con32 (h.pw_1 ho) ?_
  refine con32 (h.pw_0 ho) ?_
  exact On.none fun c hc hP => by
    have b0 := hc 0
    have b1 := hc 1
    have b2 := hc 2
    simp [Fin.forall_fin_succ] at hP b0 b1 b2
    omega

end Point

end Cert.Ker

end
-- ==== Proof.Scatter.lean ====
/- The host's packing of the small arrays: a scatter at one index word, read at an entry. -/
module

public import proofs.«01_k».proof.Proof.Points
public import Idealize.ShloMosaic.Lib.Routing.OpsOne

@[expose] public section

set_option maxRecDepth 16384

noncomputable section

namespace Cert.Ker

open Idealize.ShloMosaic Idealize.ShloMosaic.Routing Cert.KernelIdeal Cert.KernelIdeal.Gen

variable {α : Type}

theorem row_lands (idx : IVec S1 32) (k : ℕ) (hk : (idx (ValueIdx.ix1 0)).toInt = k) (j : S512.Idx) (r : Fin 8) (c : Fin 512) :
    scatter_S8x512_S1_S512_0_0_0_0.resultIdx? j idx = some (ValueIdx.ix2 r c) ↔ r.val = k ∧ c.val = (j 0).val := by
  have hs : scatter_S8x512_S1_S512_0_0_0_0.start j idx 0 = k := by
    refine Eq.trans (congrArg (fun i => (idx i).toInt) ?_) hk
    funext b
    match b with
    | ⟨0, _⟩ => exact Subsingleton.elim (α := Fin 1) _ _
  rw [resultIdx?_ix2, hs, show scatter_S8x512_S1_S512_0_0_0_0.start j idx 1 = 0 from rfl,
    show scatter_S8x512_S1_S512_0_0_0_0.window j 0 = 0 from rfl, show scatter_S8x512_S1_S512_0_0_0_0.window j 1 = (j 0).val from rfl]
  omega

/-- `x.at[k].set(u)` on an 8×512 array. -/
theorem scatter_row (x : S8x512.Idx → α) (idx : IVec S1 32) (u : S512.Idx → α) (k : ℕ) (hk : (idx (ValueIdx.ix1 0)).toInt = k) (r : Fin 8) (c : Fin 512) :
    Host.scatter scatter_S8x512_S1_S512_0_0_0_0 (fun _ b => b) x idx u (ValueIdx.ix2 r c) = if r.val = k then u (ValueIdx.ix1 c) else x (ValueIdx.ix2 r c) := by
  by_cases h : r.val = k
  · rw [if_pos h]
    refine scatter_set_hit _ x idx u _ _ (fun j hj => ?_) (ValueIdx.ix1 c) ((row_lands idx k hk _ r c).2 ⟨h, rfl⟩)
    refine congrArg u ((ValueIdx.eq_ix1 j).trans (congrArg ValueIdx.ix1 (Fin.ext ((row_lands idx k hk j r c).1 hj).2.symm)))
  · rw [if_neg h]
    exact scatter_set_miss _ x idx u _ fun j hj => h ((row_lands idx k hk j r c).1 hj).1

theorem rows_lands (idx : IVec S1 32) (hk : (idx (ValueIdx.ix1 0)).toInt = 0) (j : S3x512.Idx) (r : Fin 8) (c : Fin 512) :
    scatter_S8x512_S1_S3x512_01_n_0_0.resultIdx? j idx = some (ValueIdx.ix2 r c) ↔ r.val = (j 0).val ∧ c.val = (j 1).val := by
  have hs : scatter_S8x512_S1_S3x512_01_n_0_0.start j idx 0 = 0 := by
    refine Eq.trans (congrArg (fun i => (idx i).toInt) ?_) hk
    funext b
    match b with
    | ⟨0, _⟩ => exact Subsingleton.elim (α := Fin 1) _ _
  rw [resultIdx?_ix2, hs, show scatter_S8x512_S1_S3x512_01_n_0_0.start j idx 1 = 0 from rfl,
    show scatter_S8x512_S1_S3x512_01_n_0_0.window j 0 = (j 0).val from rfl, show scatter_S8x512_S1_S3x512_01_n_0_0.window j 1 = (j 1).val from rfl]
  omega

/-- `x.at[:3].set(u)` on an 8×512 array. -/
theorem scatter_rows (x : S8x512.Idx → α) (idx : IVec S1 32) (u : S3x512.Idx → α) (hk : (idx (ValueIdx.ix1 0)).toInt = 0) (r : Fin 3) (c : Fin 512) :
    Host.scatter scatter_S8x512_S1_S3x512_01_n_0_0 (fun _ b => b) x idx u (ValueIdx.ix2 (r.castLE (by decide)) c) = u (ValueIdx.ix2 r c) := by
  refine scatter_set_hit _ x idx u _ _ (fun j hj => ?_) (ValueIdx.ix2 r c) ((rows_lands idx hk _ _ c).2 ⟨rfl, rfl⟩)
  have h := (rows_lands idx hk j _ c).1 hj
  exact congrArg u ((ValueIdx.eq_ix2 j).trans (congrArg₂ ValueIdx.ix2 (Fin.ext h.1.symm) (Fin.ext h.2.symm)))

theorem cols_lands (idx : IVec S1 32) (hk : (idx (ValueIdx.ix1 0)).toInt = 0) (j : S128x4.Idx) (r c : Fin 128) :
    scatter_S128x128_S1_S128x4_01_n_1_0.resultIdx? j idx = some (ValueIdx.ix2 r c) ↔ r.val = (j 0).val ∧ c.val = (j 1).val := by
  have hs : scatter_S128x128_S1_S128x4_01_n_1_0.start j idx 1 = 0 := by
    refine Eq.trans (congrArg (fun i => (idx i).toInt) ?_) hk
    funext b
    match b with
    | ⟨0, _⟩ => exact Subsingleton.elim (α := Fin 1) _ _
  rw [resultIdx?_ix2, hs, show scatter_S128x128_S1_S128x4_01_n_1_0.start j idx 0 = 0 from rfl,
    show scatter_S128x128_S1_S128x4_01_n_1_0.window j 0 = (j 0).val from rfl, show scatter_S128x128_S1_S128x4_01_n_1_0.window j 1 = (j 1).val from rfl]
  omega

/-- `x.at[:, :4].set(u)` on a 128×128 array. -/
theorem scatter_cols (x : S128x128.Idx → α) (idx : IVec S1 32) (u : S128x4.Idx → α) (hk : (idx (ValueIdx.ix1 0)).toInt = 0) (r : Fin 128) (c : Fin 4) :
    Host.scatter scatter_S128x128_S1_S128x4_01_n_1_0 (fun _ b => b) x idx u (ValueIdx.ix2 r (c.castLE (by decide))) = u (ValueIdx.ix2 r c) := by
  refine scatter_set_hit _ x idx u _ _ (fun j hj => ?_) (ValueIdx.ix2 r c) ((cols_lands idx hk _ r _).2 ⟨rfl, rfl⟩)
  have h := (cols_lands idx hk j r _).1 hj
  exact congrArg u ((ValueIdx.eq_ix2 j).trans (congrArg₂ ValueIdx.ix2 (Fin.ext h.1.symm) (Fin.ext h.2.symm)))

end Cert.Ker

end
-- ==== Proof.Inputs.lean ====
/- The blocks that a grid point is given, as entries of the launch's arrays. -/
module

public import proofs.«01_k».proof.Proof.Scatter
public import proofs.«01_k».proof.Proof.Arr
public import Idealize.ShloMosaic.Lib.Pipeline.ValueKit

@[expose] public section

set_option maxRecDepth 16384

noncomputable section

namespace Cert.Ker

open Idealize.ShloMosaic Cert.Rd Cert.Spec Cert.KernelIdeal Cert.KernelIdeal.Gen Idealize.ShloMosaic.TcCoe Idealize.SL.Sem

variable (m : (ℓ : Loc nD τ sig) → Buf (Elt Ideal) ℓ) (c : Dev nD)

/-! The packed small arrays. -/
theorem V_v6 : V m c main_v6 = Host.scatter scatter_S8x512_S1_S512_0_0_0_0 (fun _ b => b)
    (Host.scatter scatter_S8x512_S1_S512_0_0_0_0 (fun _ b => b)
      (Host.scatter scatter_S8x512_S1_S512_0_0_0_0 (fun _ b => b) (broadcastInDim S8x512 ![] bcast_S_S8x512 (constant (F := Ideal) S_ .f32 0x00000000#32))
        (broadcastInDim S1 ![] bcast_S_S1 (constantI S_ 32 0#32)) (m ((c : Thread nD τ).loc main_arg3)))
      (broadcastInDim S1 ![] bcast_S_S1 (constantI S_ 32 1#32)) (m ((c : Thread nD τ).loc main_arg4)))
    (broadcastInDim S1 ![] bcast_S_S1 (constantI S_ 32 2#32)) (m ((c : Thread nD τ).loc main_arg8)) := by
  entry_read
  rfl

theorem V_v9 : V m c main_v9 = Host.scatter scatter_S8x512_S1_S3x512_01_n_0_0 (fun _ b => b)
    (broadcastInDim S8x512 ![] bcast_S_S8x512 (constant (F := Ideal) S_ .f32 0x00000000#32))
    (broadcastInDim S1 ![] bcast_S_S1 (constantI S_ 32 0#32)) (m ((c : Thread nD τ).loc main_arg9)) := by
  entry_read
  rfl

theorem V_v13 : V m c main_v13 = Host.scatter scatter_S128x128_S1_S128x4_01_n_1_0 (fun _ b => b)
    (broadcastInDim S128x128 ![] bcast_S_S128x128 (constant (F := Ideal) S_ .f32 0x00000000#32))
    (broadcastInDim S1 ![] bcast_S_S1 (constantI S_ 32 0#32))
    (transpose S128x4 [1, 0] (m ((c : Thread nD τ).loc main_arg6)) transposes_S4x128_S128x4_1_0) := by
  entry_read
  rfl

/-! Where the blocks lie. -/
theorem at0 : ∀ t : Fin grid0.N, win0_0.index t = ![(grid0.coords t 0).val, 0] := by decide +kernel
theorem at1 : ∀ t : Fin grid0.N, win0_1.index t = ![16 * (grid0.coords t 0).val - 1, 2] := by decide +kernel
theorem at2 : ∀ t : Fin grid0.N, win0_2.index t = ![16 * (grid0.coords t 0).val - 1, 2] := by decide +kernel
theorem at3 : ∀ t : Fin grid0.N, win0_3.index t = ![min (16 * ((grid0.coords t 0).val + 1)) 511, 3] := by decide +kernel
theorem at4 : ∀ t : Fin grid0.N, win0_4.index t = ![(grid0.coords t 0).val, 0] := by decide +kernel
theorem at5 : ∀ t : Fin grid0.N, win0_5.index t = ![min (16 * ((grid0.coords t 0).val + 1)) 511, 1] := by decide +kernel
theorem at6 : ∀ t : Fin grid0.N, win0_6.index t = ![min (16 * ((grid0.coords t 0).val + 1)) 511, 2] := by decide +kernel
theorem at7 : ∀ t : Fin grid0.N, win0_7.index t = ![(grid0.coords t 0).val, 0] := by decide +kernel
theorem at8 : ∀ t : Fin grid0.N, win0_8.index t = ![0, 0] := by decide +kernel
theorem at9 : ∀ t : Fin grid0.N, win0_9.index t = ![0, 0] := by decide +kernel
theorem at10 : ∀ t : Fin grid0.N, win0_10.index t = ![0, 0, 0] := by decide +kernel
theorem at11 : ∀ t : Fin grid0.N, win0_11.index t = ![0, 0] := by decide +kernel
theorem at12 : ∀ t : Fin grid0.N, win0_12.index t = ![0, 0, 0] := by decide +kernel

variable (t : Fin cfg0.N)

theorem blk0 : Rd (s := S256x3072) (iblk m c 0 t) fun k => ar (s := S8192x6144) (m ((c : Thread nD τ).loc main_arg0)) ![256 * (grid0.coords t 0).val + k 0, k 1] := fun i => by
  refine (congrFun (V_main_arg0 m c) _).trans (ar_of (s := S8192x6144) _ _ _ fun a => ?_)
  match a with | ⟨0, _⟩ | ⟨1, _⟩ => blk_simp [at0]; simp; try omega

theorem blk1 : Rd (s := S16x512) (iblk m c 1 t) fun k => ar (s := S8192x6144) (m ((c : Thread nD τ).loc main_arg0)) ![pre (grid0.coords t 0).val (k 0), 1024 + k 1] := fun i => by
  refine (congrFun (V_main_arg0 m c) _).trans (ar_of (s := S8192x6144) _ _ _ fun a => ?_)
  match a with | ⟨0, _⟩ | ⟨1, _⟩ => blk_simp [at1]; simp; try omega

theorem blk2 : Rd (s := S16x1024) (iblk m c 2 t) fun k => ar (s := S8192x6144) (m ((c : Thread nD τ).loc main_arg0)) ![pre (grid0.coords t 0).val (k 0), 2048 + k 1] := fun i => by
  refine (congrFun (V_main_arg0 m c) _).trans (ar_of (s := S8192x6144) _ _ _ fun a => ?_)
  match a with | ⟨0, _⟩ | ⟨1, _⟩ => blk_simp [at2]; simp; try omega

theorem blk3 : Rd (s := S16x512) (iblk m c 3 t) fun k => ar (s := S8192x6144) (m ((c : Thread nD τ).loc main_arg0)) ![post (grid0.coords t 0).val (k 0), 1536 + k 1] := fun i => by
  refine (congrFun (V_main_arg0 m c) _).trans (ar_of (s := S8192x6144) _ _ _ fun a => ?_)
  match a with | ⟨0, _⟩ | ⟨1, _⟩ => blk_simp [at3]; simp; try omega

theorem blk4 : Rd (s := S256x1536) (iblk m c 4 t) fun k => ar (s := S8192x1536) (m ((c : Thread nD τ).loc main_arg1)) ![256 * (grid0.coords t 0).val + k 0, k 1] := fun i => by
  refine (congrFun (V_main_arg1 m c) _).trans (ar_of (s := S8192x1536) _ _ _ fun a => ?_)
  match a with | ⟨0, _⟩ | ⟨1, _⟩ => blk_simp [at4]; simp; try omega

theorem blk5 : Rd (s := S16x512) (iblk m c 5 t) fun k => ar (s := S8192x1536) (m ((c : Thread nD τ).loc main_arg1)) ![post (grid0.coords t 0).val (k 0), 512 + k 1] := fun i => by
  refine (congrFun (V_main_arg1 m c) _).trans (ar_of (s := S8192x1536) _ _ _ fun a => ?_)
  match a with | ⟨0, _⟩ | ⟨1, _⟩ => blk_simp [at5]; simp; try omega

theorem blk6 : Rd (s := S16x512) (iblk m c 6 t) fun k => ar (s := S8192x1536) (m ((c : Thread nD τ).loc main_arg1)) ![post (grid0.coords t 0).val (k 0), 1024 + k 1] := fun i => by
  refine (congrFun (V_main_arg1 m c) _).trans (ar_of (s := S8192x1536) _ _ _ fun a => ?_)
  match a with | ⟨0, _⟩ | ⟨1, _⟩ => blk_simp [at6]; simp; try omega

theorem blk7 : Rd (s := S256x3072) (iblk m c 7 t) fun k => ar (s := S8192x3072) (m ((c : Thread nD τ).loc main_arg2)) ![256 * (grid0.coords t 0).val + k 0, k 1] := fun i => by
  refine (congrFun (V_main_arg2 m c) _).trans (ar_of (s := S8192x3072) _ _ _ fun a => ?_)
  match a with | ⟨0, _⟩ | ⟨1, _⟩ => blk_simp [at7]; simp; try omega

theorem blk8 : Rd (s := S8x512) (iblk m c 8 t) fun k => ar (s := S8x512) (V m c main_v6) ![k 0, k 1] := fun i => by
  refine (congrFun (rfl : V m c main_v6 = V m c main_v6) _).trans (ar_of (s := S8x512) _ _ _ fun a => ?_)
  match a with | ⟨0, _⟩ | ⟨1, _⟩ => blk_simp [at8]; simp; try omega

theorem blk9 : Rd (s := S8x512) (iblk m c 9 t) fun k => ar (s := S8x512) (V m c main_v9) ![k 0, k 1] := fun i => by
  refine (congrFun (rfl : V m c main_v9 = V m c main_v9) _).trans (ar_of (s := S8x512) _ _ _ fun a => ?_)
  match a with | ⟨0, _⟩ | ⟨1, _⟩ => blk_simp [at9]; simp; try omega

theorem blk10 : Rd (s := S4x128x128) (iblk m c 10 t) fun k => ar (s := S4x128x128) (m ((c : Thread nD τ).loc main_arg5)) ![k 0, k 1, k 2] := fun i => by
  refine (congrFun (V_main_arg5 m c) _).trans (ar_of (s := S4x128x128) _ _ _ fun a => ?_)
  match a with | ⟨0, _⟩ | ⟨1, _⟩ | ⟨2, _⟩ => blk_simp [at10]; simp; try omega

theorem blk11 : Rd (s := S128x128) (iblk m c 11 t) fun k => ar (s := S128x128) (V m c main_v13) ![k 0, k 1] := fun i => by
  refine (congrFun (rfl : V m c main_v13 = V m c main_v13) _).trans (ar_of (s := S128x128) _ _ _ fun a => ?_)
  match a with | ⟨0, _⟩ | ⟨1, _⟩ => blk_simp [at11]; simp; try omega

theorem blk12 : Rd (s := S4x128x128) (iblk m c 12 t) fun k => ar (s := S4x128x128) (m ((c : Thread nD τ).loc main_arg7)) ![k 0, k 1, k 2] := fun i => by
  refine (congrFun (V_main_arg7 m c) _).trans (ar_of (s := S4x128x128) _ _ _ fun a => ?_)
  match a with | ⟨0, _⟩ | ⟨1, _⟩ | ⟨2, _⟩ => blk_simp [at12]; simp; try omega

end Cert.Ker

end
-- ==== Proof.Ins.lean ====
/- Every grid point's blocks read as the backward pass's arrays. -/
module

public import proofs.«01_k».proof.Proof.Inputs

@[expose] public section

set_option maxRecDepth 16384

noncomputable section

namespace Cert.Ker

open Idealize.ShloMosaic Cert.Rd Cert.Spec Cert.KernelIdeal Cert.KernelIdeal.Gen Idealize.ShloMosaic.TcCoe Idealize.SL.Sem

variable (m : (ℓ : Loc nD τ sig) → Buf (Elt Ideal) ℓ) (c : Dev nD)

/-- The launch's arrays. -/
def args : Args where
  Z r k := ar (s := S8192x6144) (m ((c : Thread nD τ).loc main_arg0)) ![r, k]
  D r k := ar (s := S8192x1536) (m ((c : Thread nD τ).loc main_arg1)) ![r, k]
  G r k := ar (s := S8192x3072) (m ((c : Thread nD τ).loc main_arg2)) ![r, k]
  g k := ar (s := S512) (m ((c : Thread nD τ).loc main_arg3)) ![k]
  b k := ar (s := S512) (m ((c : Thread nD τ).loc main_arg4)) ![k]
  ws h t k := ar (s := S4x128x128) (m ((c : Thread nD τ).loc main_arg5)) ![h, t, k]
  bs h t := ar (s := S4x128) (m ((c : Thread nD τ).loc main_arg6)) ![h, t]
  pw h t k := ar (s := S4x128x128) (m ((c : Thread nD τ).loc main_arg7)) ![h, t, k]
  ps k := ar (s := S512) (m ((c : Thread nD τ).loc main_arg8)) ![k]
  cw j k := ar (s := S3x512) (m ((c : Thread nD τ).loc main_arg9)) ![j, k]

/-! The packed arrays' entries. -/
theorem ar1 {n : ℕ} {x : (⟨1, ![n]⟩ : Shape).Idx → EReal} (k : Fin n) : x (ValueIdx.ix1 k) = ar (s := ⟨1, ![n]⟩) x ![k.val] :=
  ar_of (s := ⟨1, ![n]⟩) x _ _ fun a => match a with | ⟨0, _⟩ => rfl

theorem ar2 {n k : ℕ} {x : (⟨2, ![n, k]⟩ : Shape).Idx → EReal} (i : Fin n) (j : Fin k) :
    x (ValueIdx.ix2 i j) = ar (s := ⟨2, ![n, k]⟩) x ![i.val, j.val] :=
  ar_of (s := ⟨2, ![n, k]⟩) x _ _ fun a => match a with | ⟨0, _⟩ => rfl | ⟨1, _⟩ => rfl

theorem word (k : BitVec 32) : (broadcastInDim S1 ![] bcast_S_S1 (constantI S_ 32 k)) (ValueIdx.ix1 0) = k := rfl

theorem v6_0 (k : ℕ) (hk : k < 512) : ar (s := S8x512) (V m c main_v6) ![0, k] = (args m c).g k := by
  refine (ar2 (n := 8) (k := 512) (x := V m c main_v6) 0 ⟨k, hk⟩).symm.trans ?_
  rw [V_v6, scatter_row _ _ _ 2 (by rw [word]; decide), if_neg (by decide), scatter_row _ _ _ 1 (by rw [word]; decide), if_neg (by decide),
    scatter_row _ _ _ 0 (by rw [word]; decide), if_pos (by decide)]
  exact ar1 (n := 512) _

theorem v6_1 (k : ℕ) (hk : k < 512) : ar (s := S8x512) (V m c main_v6) ![1, k] = (args m c).b k := by
  refine (ar2 (n := 8) (k := 512) (x := V m c main_v6) 1 ⟨k, hk⟩).symm.trans ?_
  rw [V_v6, scatter_row _ _ _ 2 (by rw [word]; decide), if_neg (by decide), scatter_row _ _ _ 1 (by rw [word]; decide), if_pos (by decide)]
  exact ar1 (n := 512) _

theorem v6_2 (k : ℕ) (hk : k < 512) : ar (s := S8x512) (V m c main_v6) ![2, k] = (args m c).ps k := by
  refine (ar2 (n := 8) (k := 512) (x := V m c main_v6) 2 ⟨k, hk⟩).symm.trans ?_
  rw [V_v6, scatter_row _ _ _ 2 (by rw [word]; decide), if_pos (by decide)]
  exact ar1 (n := 512) _

theorem v9 (i k : ℕ) (hi : i < 3) (hk : k < 512) : ar (s := S8x512) (V m c main_v9) ![i, k] = (args m c).cw i k := by
  refine (ar2 (n := 8) (k := 512) (x := V m c main_v9) ⟨i, by omega⟩ ⟨k, hk⟩).symm.trans ?_
  rw [V_v9]
  exact (scatter_rows _ _ _ (by rw [word]; decide) ⟨i, hi⟩ ⟨k, hk⟩).trans (ar2 (n := 3) (k := 512) _ _)

theorem v13 (t h : ℕ) (ht : t < 128) (hh : h < 4) : ar (s := S128x128) (V m c main_v13) ![t, h] = (args m c).bs h t := by
  refine (ar2 (n := 128) (k := 128) (x := V m c main_v13) ⟨t, ht⟩ ⟨h, by omega⟩).symm.trans ?_
  rw [V_v13]
  refine (scatter_cols _ _ _ (by rw [word]; decide) ⟨t, ht⟩ ⟨h, hh⟩).trans ?_
  refine (transpose_apply _ _ _ _ (ValueIdx.ix2 (n0 := 4) (n1 := 128) ⟨h, hh⟩ ⟨t, ht⟩) fun a => ?_).trans (ar2 (n := 4) (k := 128) _ _)
  match a with | ⟨0, _⟩ | ⟨1, _⟩ => rfl

variable {m c} (hr : (args m c).Real) (t : Fin cfg0.N)
include hr

theorem ins : Ins (args m c).S (args m c).T (args m c).G (grid0.coords t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t) where
  u := ((blk0 m c t).ld ![0, 0] ![256, 512] inb_S256x3072_S256x512_0_0).real fun k hk => by
    have h1 : k 1 < 512 := hk 1
    show (args m c).Z (256 * (grid0.coords t 0).val + (0 + k 0)) (0 + k 1) = _
    rw [Nat.zero_add, Nat.zero_add]
    exact hr.z _ _ (by omega)
  v := ((blk0 m c t).ld ![0, 512] ![256, 512] inb_S256x3072_S256x512_0_512).real fun k hk => by
    have h1 : k 1 < 512 := hk 1
    show (args m c).Z (256 * (grid0.coords t 0).val + (0 + k 0)) (512 + k 1) = _
    rw [Nat.zero_add]
    exact hr.z _ _ (by omega)
  x := ((blk0 m c t).ld ![0, 1024] ![256, 512] inb_S256x3072_S256x512_0_1024).real fun k hk => by
    have h1 : k 1 < 512 := hk 1
    show (args m c).Z (256 * (grid0.coords t 0).val + (0 + k 0)) (1024 + k 1) = _
    rw [Nat.zero_add]
    exact hr.z _ _ (by omega)
  bg := ((blk0 m c t).ld ![0, 1536] ![256, 512] inb_S256x3072_S256x512_0_1536).real fun k hk => by
    show (args m c).Z (256 * (grid0.coords t 0).val + (0 + k 0)) (1536 + k 1) = _
    rw [Nat.zero_add]
    rfl
  cg := ((blk0 m c t).ld ![0, 2048] ![256, 512] inb_S256x3072_S256x512_0_2048).real fun k hk => by
    show (args m c).Z (256 * (grid0.coords t 0).val + (0 + k 0)) (2048 + k 1) = _
    rw [Nat.zero_add]
    rfl
  hc := ((blk0 m c t).ld ![0, 2560] ![256, 512] inb_S256x3072_S256x512_0_2560).real fun k hk => by
    show (args m c).Z (256 * (grid0.coords t 0).val + (0 + k 0)) (2560 + k 1) = _
    rw [Nat.zero_add]
    rfl
  xp := ((blk1 m c t).ld ![0, 0] ![16, 512] inb_S16x512_S16x512_0_0).real fun k hk => by
    have h1 : k 1 < 512 := hk 1
    show (args m c).Z (pre (grid0.coords t 0).val (0 + k 0)) (1024 + (0 + k 1)) = _
    rw [Nat.zero_add, Nat.zero_add]
    exact hr.z _ _ (by omega)
  ch := ((blk2 m c t).ld ![0, 0] ![16, 1024] inb_S16x1024_S16x1024_0_0).real fun k hk => by
    show (args m c).Z (pre (grid0.coords t 0).val (0 + k 0)) (2048 + (0 + k 1)) = _
    rw [Nat.zero_add, Nat.zero_add]
    split
    · rfl
    · show _ = (args m c).Z (pre (grid0.coords t 0).val (k 0)) (2560 + (k 1 - 512))
      rw [show 2560 + (k 1 - 512) = 2048 + k 1 by omega]
  bn := ((blk3 m c t).ld ![0, 0] ![16, 512] inb_S16x512_S16x512_0_0).real fun k hk => by
    show (args m c).Z (post (grid0.coords t 0).val (0 + k 0)) (1536 + (0 + k 1)) = _
    rw [Nat.zero_add, Nat.zero_add]
    rfl
  da := (Rd.slice (n := 2) (e := ![256, 512]) (Rd.extf ((blk4 m c t).ld ![0, 0] ![256, 1536] inb_S256x1536_S256x1536_0_0) bitsLt_bf16_f32) ![0, 0] slices_S256x1536_o0_0_S256x512).real fun k hk => by
    have h1 : k 1 < 512 := hk 1
    show (args m c).D (256 * (grid0.coords t 0).val + (0 + (0 + k 0))) (0 + (0 + k 1)) = _
    simp only [Nat.zero_add]
    exact hr.d _ _ (by omega)
  db := (Rd.slice (n := 2) (e := ![256, 512]) (Rd.extf ((blk4 m c t).ld ![0, 0] ![256, 1536] inb_S256x1536_S256x1536_0_0) bitsLt_bf16_f32) ![0, 512] slices_S256x1536_o0_512_S256x512).real fun k hk => by
    have h1 : k 1 < 512 := hk 1
    show (args m c).D (256 * (grid0.coords t 0).val + (0 + (0 + k 0))) (0 + (512 + k 1)) = _
    simp only [Nat.zero_add]
    exact hr.d _ _ (by omega)
  dc := (Rd.slice (n := 2) (e := ![256, 512]) (Rd.extf ((blk4 m c t).ld ![0, 0] ![256, 1536] inb_S256x1536_S256x1536_0_0) bitsLt_bf16_f32) ![0, 1024] slices_S256x1536_o0_1024_S256x512).real fun k hk => by
    show (args m c).D (256 * (grid0.coords t 0).val + (0 + (0 + k 0))) (0 + (1024 + k 1)) = _
    simp only [Nat.zero_add]
    rfl
  dbn := ((blk5 m c t).ld ![0, 0] ![16, 512] inb_S16x512_S16x512_0_0).real fun k hk => by
    have h1 : k 1 < 512 := hk 1
    show (args m c).D (post (grid0.coords t 0).val (0 + k 0)) (512 + (0 + k 1)) = _
    rw [Nat.zero_add, Nat.zero_add]
    exact hr.d _ _ (by omega)
  dcn := ((blk6 m c t).ld ![0, 0] ![16, 512] inb_S16x512_S16x512_0_0).real fun k hk => by
    show (args m c).D (post (grid0.coords t 0).val (0 + k 0)) (1024 + (0 + k 1)) = _
    rw [Nat.zero_add, Nat.zero_add]
    rfl
  gl := ((blk7 m c t).ld ![0, 0] ![256, 3072] inb_S256x3072_S256x3072_0_0).real fun k hk => by
    show (args m c).G (256 * (grid0.coords t 0).val + (0 + k 0)) (0 + k 1) = _
    rw [Nat.zero_add, Nat.zero_add]
    rfl
  g := ((blk8 m c t).ld ![0, 0] ![1, 512] inb_S8x512_S1x512_0_0).real fun k hk => by
    have h0 : k 0 = 0 := by have : k 0 < 1 := hk 0; omega
    have h1 : k 1 < 512 := hk 1
    show ar (s := S8x512) (V m c main_v6) ![0 + k 0, 0 + k 1] = _
    simp only [h0, Nat.zero_add, Nat.add_zero]
    exact (v6_0 m c _ h1).trans (hr.g _)
  b := ((blk8 m c t).ld ![1, 0] ![1, 512] inb_S8x512_S1x512_1_0).real fun k hk => by
    have h0 : k 0 = 0 := by have : k 0 < 1 := hk 0; omega
    have h1 : k 1 < 512 := hk 1
    show ar (s := S8x512) (V m c main_v6) ![1 + k 0, 0 + k 1] = _
    simp only [h0, Nat.zero_add, Nat.add_zero]
    exact (v6_1 m c _ h1).trans (hr.b _)
  ps := ((blk8 m c t).ld ![2, 0] ![1, 512] inb_S8x512_S1x512_2_0).real fun k hk => by
    have h0 : k 0 = 0 := by have : k 0 < 1 := hk 0; omega
    have h1 : k 1 < 512 := hk 1
    show ar (s := S8x512) (V m c main_v6) ![2 + k 0, 0 + k 1] = _
    simp only [h0, Nat.zero_add, Nat.add_zero]
    exact (v6_2 m c _ h1).trans (hr.ps _)
  cw0 := ((blk9 m c t).ld ![0, 0] ![1, 512] inb_S8x512_S1x512_0_0).real fun k hk => by
    have h0 : k 0 = 0 := by have : k 0 < 1 := hk 0; omega
    have h1 : k 1 < 512 := hk 1
    show ar (s := S8x512) (V m c main_v9) ![0 + k 0, 0 + k 1] = _
    simp only [h0, Nat.zero_add, Nat.add_zero]
    exact v9 m c 0 _ (by decide) h1
  cw1 := ((blk9 m c t).ld ![1, 0] ![1, 512] inb_S8x512_S1x512_1_0).real fun k hk => by
    have h0 : k 0 = 0 := by have : k 0 < 1 := hk 0; omega
    have h1 : k 1 < 512 := hk 1
    show ar (s := S8x512) (V m c main_v9) ![1 + k 0, 0 + k 1] = _
    simp only [h0, Nat.zero_add, Nat.add_zero]
    exact v9 m c 1 _ (by decide) h1
  cw2 := ((blk9 m c t).ld ![2, 0] ![1, 512] inb_S8x512_S1x512_2_0).real fun k hk => by
    have h0 : k 0 = 0 := by have : k 0 < 1 := hk 0; omega
    have h1 : k 1 < 512 := hk 1
    show ar (s := S8x512) (V m c main_v9) ![2 + k 0, 0 + k 1] = _
    simp only [h0, Nat.zero_add, Nat.add_zero]
    exact v9 m c 2 _ (by decide) h1
  ws0 := ((blk10 m c t).ld ![0, 0, 0] ![1, 128, 128] inb_S4x128x128_S1x128x128_0_0_0).real fun k hk => by
    have h0 : k 0 = 0 := by have : k 0 < 1 := hk 0; omega
    show (args m c).ws (0 + k 0) (0 + k 1) (0 + k 2) = _
    simp only [h0, Nat.zero_add, Nat.add_zero]
    exact hr.ws _ _ _
  ws1 := ((blk10 m c t).ld ![1, 0, 0] ![1, 128, 128] inb_S4x128x128_S1x128x128_1_0_0).real fun k hk => by
    have h0 : k 0 = 0 := by have : k 0 < 1 := hk 0; omega
    show (args m c).ws (1 + k 0) (0 + k 1) (0 + k 2) = _
    simp only [h0, Nat.zero_add, Nat.add_zero]
    exact hr.ws _ _ _
  ws2 := ((blk10 m c t).ld ![2, 0, 0] ![1, 128, 128] inb_S4x128x128_S1x128x128_2_0_0).real fun k hk => by
    have h0 : k 0 = 0 := by have : k 0 < 1 := hk 0; omega
    show (args m c).ws (2 + k 0) (0 + k 1) (0 + k 2) = _
    simp only [h0, Nat.zero_add, Nat.add_zero]
    exact hr.ws _ _ _
  ws3 := ((blk10 m c t).ld ![3, 0, 0] ![1, 128, 128] inb_S4x128x128_S1x128x128_3_0_0).real fun k hk => by
    have h0 : k 0 = 0 := by have : k 0 < 1 := hk 0; omega
    show (args m c).ws (3 + k 0) (0 + k 1) (0 + k 2) = _
    simp only [h0, Nat.zero_add, Nat.add_zero]
    exact hr.ws _ _ _
  bs0 := ((blk11 m c t).ld ![0, 0] ![128, 1] inb_S128x128_S128x1_0_0).real fun k hk => by
    have h0 : k 0 < 128 := hk 0
    have h1 : k 1 = 0 := by have : k 1 < 1 := hk 1; omega
    show ar (s := S128x128) (V m c main_v13) ![0 + k 0, 0 + k 1] = _
    rw [h1, Nat.zero_add]
    exact (v13 m c _ 0 h0 (by decide)).trans (hr.bs _ _)
  bs1 := ((blk11 m c t).ld ![0, 1] ![128, 1] inb_S128x128_S128x1_0_1).real fun k hk => by
    have h0 : k 0 < 128 := hk 0
    have h1 : k 1 = 0 := by have : k 1 < 1 := hk 1; omega
    show ar (s := S128x128) (V m c main_v13) ![0 + k 0, 1 + k 1] = _
    rw [h1, Nat.zero_add]
    exact (v13 m c _ 1 h0 (by decide)).trans (hr.bs _ _)
  bs2 := ((blk11 m c t).ld ![0, 2] ![128, 1] inb_S128x128_S128x1_0_2).real fun k hk => by
    have h0 : k 0 < 128 := hk 0
    have h1 : k 1 = 0 := by have : k 1 < 1 := hk 1; omega
    show ar (s := S128x128) (V m c main_v13) ![0 + k 0, 2 + k 1] = _
    rw [h1, Nat.zero_add]
    exact (v13 m c _ 2 h0 (by decide)).trans (hr.bs _ _)
  bs3 := ((blk11 m c t).ld ![0, 3] ![128, 1] inb_S128x128_S128x1_0_3).real fun k hk => by
    have h0 : k 0 < 128 := hk 0
    have h1 : k 1 = 0 := by have : k 1 < 1 := hk 1; omega
    show ar (s := S128x128) (V m c main_v13) ![0 + k 0, 3 + k 1] = _
    rw [h1, Nat.zero_add]
    exact (v13 m c _ 3 h0 (by decide)).trans (hr.bs _ _)
  pw0 := ((blk12 m c t).ld ![0, 0, 0] ![1, 128, 128] inb_S4x128x128_S1x128x128_0_0_0).real fun k hk => by
    have h0 : k 0 = 0 := by have : k 0 < 1 := hk 0; omega
    show (args m c).pw (0 + k 0) (0 + k 1) (0 + k 2) = _
    simp only [h0, Nat.zero_add, Nat.add_zero]
    exact hr.pw _ _ _
  pw1 := ((blk12 m c t).ld ![1, 0, 0] ![1, 128, 128] inb_S4x128x128_S1x128x128_1_0_0).real fun k hk => by
    have h0 : k 0 = 0 := by have : k 0 < 1 := hk 0; omega
    show (args m c).pw (1 + k 0) (0 + k 1) (0 + k 2) = _
    simp only [h0, Nat.zero_add, Nat.add_zero]
    exact hr.pw _ _ _
  pw2 := ((blk12 m c t).ld ![2, 0, 0] ![1, 128, 128] inb_S4x128x128_S1x128x128_2_0_0).real fun k hk => by
    have h0 : k 0 = 0 := by have : k 0 < 1 := hk 0; omega
    show (args m c).pw (2 + k 0) (0 + k 1) (0 + k 2) = _
    simp only [h0, Nat.zero_add, Nat.add_zero]
    exact hr.pw _ _ _
  pw3 := ((blk12 m c t).ld ![3, 0, 0] ![1, 128, 128] inb_S4x128x128_S1x128x128_3_0_0).real fun k hk => by
    have h0 : k 0 = 0 := by have : k 0 < 1 := hk 0; omega
    show (args m c).pw (3 + k 0) (0 + k 1) (0 + k 2) = _
    simp only [h0, Nat.zero_add, Nat.add_zero]
    exact hr.pw _ _ _

end Cert.Ker

end
-- ==== Proof.Kernel.lean ====
/- The kernel's five results after the launch, entry by entry. -/
module

public import proofs.«01_k».proof.Proof.Ins

@[expose] public section

set_option maxRecDepth 16384

noncomputable section

namespace Cert.Ker

open Idealize.ShloMosaic Cert.Rd Cert.Spec Cert.KernelIdeal Cert.KernelIdeal.Gen Idealize.ShloMosaic.TcCoe Idealize.SL.Sem
open Idealize.ShloMosaic.Pipeline (Dat)

/-- The rows of the packed vector gradients. -/
def PV (S : Re) (T : Cv) (r c : ℕ) : EReal :=
  if r = 0 then (S.pvG c : ℝ) else if r = 1 then (S.pvB c : ℝ) else if r = 2 then (S.pvS c : ℝ)
  else if r = 3 then T.pv2 c else if r = 4 then T.pv1 c else if r = 5 then T.pv0 c else 0

/-- The gradient of the mixing biases, four columns of 128. -/
def BS (S : Re) (t l : ℕ) : ℝ := if l < 4 then S.dbs t l else 0

theorem sum_part {α : Type} [AddCommMonoid α] (F : ℕ → α) (n : ℕ) : (∑ i ∈ Finset.range n, part i F) = ∑ r ∈ Finset.range (256 * n), F r := by
  induction n with
  | zero => rfl
  | succ n ih => rw [Finset.sum_range_succ, ih, Nat.mul_succ, Finset.sum_range_add]

theorem sum_two (F : ℕ → ℝ) (n : ℕ) : (∑ i ∈ Finset.range n, two i F) = ∑ r ∈ Finset.range (2 * n), F r := by
  induction n with
  | zero => rfl
  | succ n ih => rw [Finset.sum_range_succ, ih, Nat.mul_succ, Finset.sum_range_succ, Finset.sum_range_succ, add_assoc]

variable (S : Re) (T : Cv)

theorem pv_end (r c : ℕ) : pvAt S T 32 r c = PV S T r c := by
  unfold pvAt PV
  simp only [sum_part]
  rfl

theorem ws_end (h t k : ℕ) : wsAt S 32 h t k = S.dws h t k := by
  unfold wsAt dwsAdd Re.dws
  by_cases e : k ≤ t
  · simp only [if_pos e]; exact sum_two _ 32
  · simp only [if_neg e]; exact Finset.sum_const_zero

theorem bs_end (t l : ℕ) : bsAt S 32 t l = BS S t l := by
  unfold bsAt dbsAdd BS Re.dbs
  by_cases e : l < 4
  · simp only [if_pos e]; exact sum_two _ 32
  · simp only [if_neg e]; exact Finset.sum_const_zero

theorem pw_end (g k e : ℕ) : pwAt S 32 g k e = S.dpw g k e := sum_part _ 32

variable (m : (ℓ : Loc nD τ sig) → Buf (Elt Ideal) ℓ) (c : Dev nD)

/-- Where the blocks of `dz` lie. -/
theorem at13 : ∀ t : Fin grid0.N, win0_13.index t = ![(grid0.coords t 0).val, 0] := by decide +kernel

/-- The last point writes the whole of each accumulated array. -/
theorem whole14 : ∃ t : Fin cfg0.N, t.val = 31 ∧ (cfg0.win 14).WholeAt t := ⟨⟨31, by decide⟩, rfl, by decide +kernel⟩
theorem whole15 : ∃ t : Fin cfg0.N, t.val = 31 ∧ (cfg0.win 15).WholeAt t := ⟨⟨31, by decide⟩, rfl, by decide +kernel⟩
theorem whole16 : ∃ t : Fin cfg0.N, t.val = 31 ∧ (cfg0.win 16).WholeAt t := ⟨⟨31, by decide⟩, rfl, by decide +kernel⟩
theorem whole17 : ∃ t : Fin cfg0.N, t.val = 31 ∧ (cfg0.win 17).WholeAt t := ⟨⟨31, by decide⟩, rfl, by decide +kernel⟩

theorem points (n : ℕ) (h : n < cfg0.N) : n < 32 := h

variable {S T m c} {G : ℕ → ℕ → EReal}
  (I : ∀ t : Fin cfg0.N, Ins S T G (grid0.coords t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t))
include I

theorem pv_all : ∀ (n : ℕ) (hn : n < cfg0.N), Rd (outsAt0 m c n hn).2.1 (fun k => pvAt S T (n + 1) (k 0) (k 1))
  | 0, hn => by
    have e := at_point ⟨0, hn⟩
    have := pv_A m c ⟨0, hn⟩ (I ⟨0, hn⟩) rfl e
    rwa [e] at this
  | n + 1, hn => by
    have e := at_point ⟨n + 1, hn⟩
    have h32 := points _ hn
    have := pv_B m c ⟨n + 1, hn⟩ (I ⟨n + 1, hn⟩) (by show ¬(n + 1) % 32 = 0; omega)
    rw [e] at this
    exact this (pv_all n (by omega))

theorem dws_all : ∀ (n : ℕ) (hn : n < cfg0.N), Rd (outsAt0 m c n hn).2.2.1 (pl4 (wsAt S (n + 1)))
  | 0, hn => by
    have e := at_point ⟨0, hn⟩
    have := dws_A m c ⟨0, hn⟩ (I ⟨0, hn⟩) rfl e
    rwa [e] at this
  | n + 1, hn => by
    have e := at_point ⟨n + 1, hn⟩
    have h32 := points _ hn
    have := dws_B m c ⟨n + 1, hn⟩ (I ⟨n + 1, hn⟩) (by show ¬(n + 1) % 32 = 0; omega)
    rw [e] at this
    exact this (dws_all n (by omega))

theorem dbs_all : ∀ (n : ℕ) (hn : n < cfg0.N), Rd (outsAt0 m c n hn).2.2.2.1 (sq (bsAt S (n + 1)))
  | 0, hn => by
    have e := at_point ⟨0, hn⟩
    have := dbs_A m c ⟨0, hn⟩ (I ⟨0, hn⟩) rfl e
    rwa [e] at this
  | n + 1, hn => by
    have e := at_point ⟨n + 1, hn⟩
    have h32 := points _ hn
    have := dbs_B m c ⟨n + 1, hn⟩ (I ⟨n + 1, hn⟩) (by show ¬(n + 1) % 32 = 0; omega)
    rw [e] at this
    exact this (dbs_all n (by omega))

theorem dpw_all : ∀ (n : ℕ) (hn : n < cfg0.N), Rd (outsAt0 m c n hn).2.2.2.2 (pl4 (pwAt S (n + 1)))
  | 0, hn => by
    have e := at_point ⟨0, hn⟩
    have := dpw_A m c ⟨0, hn⟩ (I ⟨0, hn⟩) rfl e
    rwa [e] at this
  | n + 1, hn => by
    have e := at_point ⟨n + 1, hn⟩
    have h32 := points _ hn
    have := dpw_B m c ⟨n + 1, hn⟩ (I ⟨n + 1, hn⟩) (by show ¬(n + 1) % 32 = 0; omega)
    rw [e] at this
    exact this (dpw_all n (by omega))

/-! The arrays after the launch. -/
theorem dz_arr : Rd (s := S8192x6144) ((dats m 0 c).arrAt 13 cfg0.N) fun k => DZ S T G (k 0) (k 1) := fun i => by
  refine (dats m 0 c).arrAt_forall_of_covers 13 (fun i v => v = DZ S T G (i 0).val (i 1).val) (by decide +kernel) (fun t hf y => ?_) i
  rw [after0_13]
  refine (dz_point m c t (I t) _).trans ?_
  refine congrArg₂ (DZ S T G) ?_ ?_
  · blk_simp [at13]; simp; omega
  · blk_simp [at13]

theorem pv_last (t : Fin cfg0.N) (ht : t.val = 31) : Rd (outsAt0 m c t.val t.isLt).2.1 (fun k => PV S T (k 0) (k 1)) := by
  have h := pv_all I t.val t.isLt
  rw [show t.val + 1 = 32 by omega] at h
  exact h.congr fun k _ => pv_end S T _ _

theorem pv_arr : Rd (s := S8x512) ((dats m 0 c).arrAt 14 cfg0.N) (fun k => PV S T (k 0) (k 1)) := fun i => by
  obtain ⟨t, ht, hw⟩ := whole14
  refine ((dats m 0 c).arrAt_emb_eq_after_last 14 t hw i).trans ?_
  rw [after0_14]
  exact pv_last I t ht i

theorem dws_last (t : Fin cfg0.N) (ht : t.val = 31) : Rd (outsAt0 m c t.val t.isLt).2.2.1 (pl4 S.dws) := by
  have h := dws_all I t.val t.isLt
  rw [show t.val + 1 = 32 by omega] at h
  exact h.congr fun k _ => congrArg (fun r : ℝ => (r : EReal)) (ws_end S _ _ _)

theorem dws_arr : Rd (s := S4x128x128) ((dats m 0 c).arrAt 15 cfg0.N) (pl4 S.dws) := fun i => by
  obtain ⟨t, ht, hw⟩ := whole15
  refine ((dats m 0 c).arrAt_emb_eq_after_last 15 t hw i).trans ?_
  rw [after0_15]
  exact dws_last I t ht i

theorem dbs_last (t : Fin cfg0.N) (ht : t.val = 31) : Rd (outsAt0 m c t.val t.isLt).2.2.2.1 (sq (BS S)) := by
  have h := dbs_all I t.val t.isLt
  rw [show t.val + 1 = 32 by omega] at h
  exact h.congr fun k _ => congrArg (fun r : ℝ => (r : EReal)) (bs_end S _ _)

theorem dbs_arr : Rd (s := S128x128) ((dats m 0 c).arrAt 16 cfg0.N) (sq (BS S)) := fun i => by
  obtain ⟨t, ht, hw⟩ := whole16
  refine ((dats m 0 c).arrAt_emb_eq_after_last 16 t hw i).trans ?_
  rw [after0_16]
  exact dbs_last I t ht i

theorem dpw_last (t : Fin cfg0.N) (ht : t.val = 31) : Rd (outsAt0 m c t.val t.isLt).2.2.2.2 (pl4 S.dpw) := by
  have h := dpw_all I t.val t.isLt
  rw [show t.val + 1 = 32 by omega] at h
  exact h.congr fun k _ => congrArg (fun r : ℝ => (r : EReal)) (pw_end S _ _ _)

theorem dpw_arr : Rd (s := S4x128x128) ((dats m 0 c).arrAt 17 cfg0.N) (pl4 S.dpw) := fun i => by
  obtain ⟨t, ht, hw⟩ := whole17
  refine ((dats m 0 c).arrAt_emb_eq_after_last 17 t hw i).trans ?_
  rw [after0_17]
  exact dpw_last I t ht i

end Cert.Ker

end
-- ==== Proof.RefOut.lean ====
/- The five results of the reference. -/
module

public import proofs.«01_k».proof.Proof.RefGateB
public import proofs.«01_k».proof.Proof.RefPoolB
public import proofs.«01_k».proof.Proof.RefConv
public import proofs.«01_k».proof.Proof.Kernel

@[expose] public section

set_option maxRecDepth 16384

noncomputable section

namespace Cert.Rf

open Idealize.ShloMosaic Cert.Rd Cert.Spec Cert.Consts Cert.ReferenceIdeal Cert.ReferenceIdeal.Gen Cert.ReferenceIdeal.Read

theorem pv_conv (S : Re) (T : Cv) (j c : ℕ) (hj : j < 3) : pvRow T j c = Ker.PV S T (3 + j) c := by
  interval_cases j <;> simp [pvRow, Ker.PV]
theorem pv_rest (S : Re) (T : Cv) (j c : ℕ) : 0 = Ker.PV S T (6 + j) c := by
  unfold Ker.PV
  rw [if_neg (by omega), if_neg (by omega), if_neg (by omega), if_neg (by omega), if_neg (by omega), if_neg (by omega)]

variable {A : Args} {x0 : (⟨S8192x6144, .bf16⟩ : BufTy).Contents (Elt Ideal)} {x1 : (⟨S8192x1536, .bf16⟩ : BufTy).Contents (Elt Ideal)}
  {x2 : (⟨S8192x3072, .bf16⟩ : BufTy).Contents (Elt Ideal)} {x3 x4 : (⟨S512, .f32⟩ : BufTy).Contents (Elt Ideal)}
  {x5 : (⟨S4x128x128, .f32⟩ : BufTy).Contents (Elt Ideal)} {x6 : (⟨S4x128, .f32⟩ : BufTy).Contents (Elt Ideal)}
  {x7 : (⟨S4x128x128, .f32⟩ : BufTy).Contents (Elt Ideal)} {x8 : (⟨S512, .f32⟩ : BufTy).Contents (Elt Ideal)}
  {x9 : (⟨S3x512, .f32⟩ : BufTy).Contents (Elt Ideal)} (I : In A x0 x1 x2 x3 x4 x5 x6 x7 x8 x9) (hr : A.Real)
include I hr

theorem v404 : Rd (s := S2x4096x6144) (val_main_v404 (F := Ideal) x0 x1 x2 x3 x4 x5 x6 x7 x8 x9) (fun c : Fin 3 → ℕ => (Ker.DZ A.S A.T A.G) (4096*c 0+c 1) (c 2)) :=
  ((((((padCol (v8 I hr) 3072 0 z0E _ _).addf (padCol (v246 I hr) 2560 3072 z0E _ _)).addf (padCol (v247 I hr) 2048 3584 z0E _ _)).addf (padCol (v212 I hr) 1536 4096 z0E _ _)).addf (padCol (v321 I hr).up 1024 4608 z0E _ _)).addf (padCol (v380 I hr).up 512 5120 z0E _ _)).addf (padCol (v392 I hr).up 0 5632 z0E _ _) |>.congr fun c hc => seven (c 2) (hc 2)

theorem v413 : Rd (s := S8192x6144) (val_main_v413 (F := Ideal) x0 x1 x2 x3 x4 x5 x6 x7 x8 x9) (fun c : Fin 2 → ℕ => (Ker.DZ A.S A.T A.G) (c 0) (c 1)) :=
  Rd.of_apply (v404 I hr) (val_main_v413_apply x0 x1 x2 x3 x4 x5 x6 x7 x8 x9) fun i => by have h0 : (i 0).val < 8192 := (i 0).isLt; have h1 : (i 1).val < 6144 := (i 1).isLt; exact cg2 (Ker.DZ A.S A.T A.G) (show 4096*(((i 0).val * 6144 + (i 1).val) / 25165824)+(((i 0).val * 6144 + (i 1).val) / 6144 % 4096) = (i 0).val by omega) (show (((i 0).val * 6144 + (i 1).val) % 6144) = (i 1).val by omega)

theorem v414 : Rd (s := S8192x6144) (val_main_v414 (F := Ideal) x0 x1 x2 x3 x4 x5 x6 x7 x8 x9) (fun c : Fin 2 → ℕ => (Ker.DZ A.S A.T A.G) (c 0) (c 1)) :=
  (v413 I hr).truncf _

theorem v405 : Rd (s := S1x512) (val_main_v405 (F := Ideal) x0 x1 x5) (fun c : Fin 2 → ℕ => (A.S.pvG) (c 1)) :=
  Rd.of_apply (v344 I hr) (val_main_v405_apply x0 x1 x5) fun i => rfl

theorem v406 : Rd (s := S1x512) (val_main_v406 (F := Ideal) x0 x1 x5) (fun c : Fin 2 → ℕ => (A.S.pvB) (c 1)) :=
  Rd.of_apply (v338 I hr) (val_main_v406_apply x0 x1 x5) fun i => rfl

theorem v407 : Rd (s := S1x512) (val_main_v407 (F := Ideal) x0 x1 x7) (fun c : Fin 2 → ℕ => (A.S.pvS) (c 1)) :=
  Rd.of_apply (v253 I hr) (val_main_v407_apply x0 x1 x7) fun i => rfl

theorem v409 : Rd (s := S8x512) (val_main_v409 (F := Ideal) x0 x1 x5 x7) (fun c : Fin 2 → ℕ => (Ker.PV A.S A.T) (c 0) (c 1)) :=
  fun i => by
    have h : (i 0).val < 8 := (i 0).isLt
    by_cases c1 : (i 0).val < 1
    · exact Rd.piece (n := 2) (e := ![8, 512]) (a := 0) (f := fun c => Ker.PV A.S A.T (c 0) (c 1)) [⟨S1x512, (val_main_v405 (F := Ideal) x0 x1 x5)⟩, ⟨S1x512, (val_main_v406 (F := Ideal) x0 x1 x5)⟩, ⟨S1x512, (val_main_v407 (F := Ideal) x0 x1 x7)⟩, ⟨S3x512, (val_main_v243 (F := Ideal) x0 x1)⟩, ⟨S2x512, (val_main_v408 (F := Ideal))⟩] concatenates_S1x512_S1x512_S1x512_S3x512_S2x512_S8x512_d0 i 0 (by show 0 < 5; omega) ![1, 512] _ rfl 0 rfl (fun b hb => by match b with | ⟨0, _⟩ => exact absurd rfl hb | ⟨1, _⟩ => rfl) (by omega) (by show _ < 0 + 1; omega) ((v405 I hr).up.congr fun c hc => by have h : c 0 < 1 := hc 0; show _ = Ker.PV A.S A.T (0 + c 0) (c 1); rw [show 0 + c 0 = 0 by omega]; rfl)
    by_cases c2 : (i 0).val < 2
    · exact Rd.piece (n := 2) (e := ![8, 512]) (a := 0) (f := fun c => Ker.PV A.S A.T (c 0) (c 1)) [⟨S1x512, (val_main_v405 (F := Ideal) x0 x1 x5)⟩, ⟨S1x512, (val_main_v406 (F := Ideal) x0 x1 x5)⟩, ⟨S1x512, (val_main_v407 (F := Ideal) x0 x1 x7)⟩, ⟨S3x512, (val_main_v243 (F := Ideal) x0 x1)⟩, ⟨S2x512, (val_main_v408 (F := Ideal))⟩] concatenates_S1x512_S1x512_S1x512_S3x512_S2x512_S8x512_d0 i 1 (by show 1 < 5; omega) ![1, 512] _ rfl 1 rfl (fun b hb => by match b with | ⟨0, _⟩ => exact absurd rfl hb | ⟨1, _⟩ => rfl) (by omega) (by show _ < 1 + 1; omega) ((v406 I hr).up.congr fun c hc => by have h : c 0 < 1 := hc 0; show _ = Ker.PV A.S A.T (1 + c 0) (c 1); rw [show 1 + c 0 = 1 by omega]; rfl)
    by_cases c3 : (i 0).val < 3
    · exact Rd.piece (n := 2) (e := ![8, 512]) (a := 0) (f := fun c => Ker.PV A.S A.T (c 0) (c 1)) [⟨S1x512, (val_main_v405 (F := Ideal) x0 x1 x5)⟩, ⟨S1x512, (val_main_v406 (F := Ideal) x0 x1 x5)⟩, ⟨S1x512, (val_main_v407 (F := Ideal) x0 x1 x7)⟩, ⟨S3x512, (val_main_v243 (F := Ideal) x0 x1)⟩, ⟨S2x512, (val_main_v408 (F := Ideal))⟩] concatenates_S1x512_S1x512_S1x512_S3x512_S2x512_S8x512_d0 i 2 (by show 2 < 5; omega) ![1, 512] _ rfl 2 rfl (fun b hb => by match b with | ⟨0, _⟩ => exact absurd rfl hb | ⟨1, _⟩ => rfl) (by omega) (by show _ < 2 + 1; omega) ((v407 I hr).up.congr fun c hc => by have h : c 0 < 1 := hc 0; show _ = Ker.PV A.S A.T (2 + c 0) (c 1); rw [show 2 + c 0 = 2 by omega]; rfl)
    by_cases c4 : (i 0).val < 6
    · exact Rd.piece (n := 2) (e := ![8, 512]) (a := 0) (f := fun c => Ker.PV A.S A.T (c 0) (c 1)) [⟨S1x512, (val_main_v405 (F := Ideal) x0 x1 x5)⟩, ⟨S1x512, (val_main_v406 (F := Ideal) x0 x1 x5)⟩, ⟨S1x512, (val_main_v407 (F := Ideal) x0 x1 x7)⟩, ⟨S3x512, (val_main_v243 (F := Ideal) x0 x1)⟩, ⟨S2x512, (val_main_v408 (F := Ideal))⟩] concatenates_S1x512_S1x512_S1x512_S3x512_S2x512_S8x512_d0 i 3 (by show 3 < 5; omega) ![3, 512] _ rfl 3 rfl (fun b hb => by match b with | ⟨0, _⟩ => exact absurd rfl hb | ⟨1, _⟩ => rfl) (by omega) (by show _ < 3 + 3; omega) ((v243 I hr).congr fun c hc => pv_conv A.S A.T (c 0) (c 1) (hc 0))
    · exact Rd.piece (n := 2) (e := ![8, 512]) (a := 0) (f := fun c => Ker.PV A.S A.T (c 0) (c 1)) [⟨S1x512, (val_main_v405 (F := Ideal) x0 x1 x5)⟩, ⟨S1x512, (val_main_v406 (F := Ideal) x0 x1 x5)⟩, ⟨S1x512, (val_main_v407 (F := Ideal) x0 x1 x7)⟩, ⟨S3x512, (val_main_v243 (F := Ideal) x0 x1)⟩, ⟨S2x512, (val_main_v408 (F := Ideal))⟩] concatenates_S1x512_S1x512_S1x512_S3x512_S2x512_S8x512_d0 i 4 (by show 4 < 5; omega) ![2, 512] _ rfl 6 rfl (fun b hb => by match b with | ⟨0, _⟩ => exact absurd rfl hb | ⟨1, _⟩ => rfl) (by omega) (by show _ < 6 + 2; omega) ((scal z0E _).congr fun c hc => pv_rest A.S A.T (c 0) (c 1))

end Cert.Rf

end
-- ==== Proof.Pre.lean ====
/- What the precondition says: the entries it names are real. -/
module

public import proofs.«01_k».proof.Proof.Ins
public import proofs.«01_k».proof.Defs
public import Idealize.ShloMosaic.Lib.ReduceAll

@[expose] public section

set_option maxRecDepth 16384

noncomputable section

namespace Cert.Ker

open Idealize.ShloMosaic Cert.Rd Cert.Spec Cert.KernelIdeal Idealize.ShloMosaic.TcCoe Idealize.SL.Sem

theorem pre_facts : Cert.Pre_finite.Facts where
  slices_S8192x6144_S8192x1536_0_0 := by decide
  bitsLt_bf16_f32 := by decide
  bcast_S_S8192x1536 := by decide
  reducesTo_S8192x1536_S_d0_1 := by decide
  h_S_ := by decide
  slices_S8192x1536_S8192x1024_0_0 := by decide
  bcast_S_S8192x1024 := by decide
  reducesTo_S8192x1024_S_d0_1 := by decide
  bcast_S_S512 := by decide
  reducesTo_S512_S_d0 := by decide
  bcast_S_S4x128x128 := by decide
  reducesTo_S4x128x128_S_d0_1_2 := by decide
  bcast_S_S4x128 := by decide
  reducesTo_S4x128_S_d0_1 := by decide

theorem inf_word : Ideal.ofBits .f32 0x7F800000#32 = (⊤ : EReal) := by
  simp [Ideal.ofBits, Ideal.ieee]

/-- Every entry's absolute value is below infinity. -/
theorem fin_of_all {s u : Shape} {axes : List (Fin s.rank)} (x : FVec Ideal s .f32) (y : FVec Ideal s .f32) (hy : ∀ i, y i = ⊤)
    (v : IVec u 1) (h : s.ReducesTo axes ⟨0, ![]⟩) (hu : 0 < u.numel) (j : (⟨0, ![]⟩ : Shape).Idx)
    (e : Host.reduce IntOp.andi (cmpf .olt (Host.absf x) y) v h hu j = 1#1) : Fin' x := fun i => by
  haveI : Subsingleton (⟨0, ![]⟩ : Shape).Idx := ⟨fun a b => funext fun k => k.elim0⟩
  have h1 := Host.reduce_andi_all _ _ _ _ _ e i
  have h2 : max (x i) (-(x i)) < (⊤ : EReal) := by
    have h3 : (BitVec.ofBool (decide (max (x i) (-(x i)) < y i))) = 1#1 := h1
    rw [hy] at h3
    exact of_decide_eq_true ((WordCmp.ofBool_eq_one_iff _).1 h3)
  constructor
  · intro h0
    rw [h0] at h2
    simp at h2
  · intro h0
    rw [h0] at h2
    simp at h2

variable {m : (ℓ : Loc nD τ sig) → Buf (Elt Ideal) ℓ}

theorem real_of_pre (h : @Pre_KernelIdeal_finite pre_facts m) (c : Dev nD) : (args m c).Real := by
  letI := pre_facts
  have hc := congrFun (h c) ValueIdx.ix0
  unfold Pre_finite.fn Pre_finite.fn_part1 Pre_finite.fn_part2 at hc
  dsimp only at hc
  obtain ⟨hc, e8⟩ := IntOp.andi_eq_one.1 hc
  obtain ⟨hc, e7⟩ := IntOp.andi_eq_one.1 hc
  obtain ⟨hc, e6⟩ := IntOp.andi_eq_one.1 hc
  obtain ⟨hc, e5⟩ := IntOp.andi_eq_one.1 hc
  obtain ⟨hc, e4⟩ := IntOp.andi_eq_one.1 hc
  obtain ⟨hc, e3⟩ := IntOp.andi_eq_one.1 hc
  obtain ⟨e0, e1⟩ := IntOp.andi_eq_one.1 hc
  have top : ∀ {s : Shape} (hb : (⟨0, ![]⟩ : Shape).BroadcastsInDim s ![]) (i : s.Idx),
      broadcastInDim s ![] hb (constant (F := Ideal) ⟨0, ![]⟩ .f32 0x7F800000#32) i = (⊤ : EReal) := fun _ _ => inf_word
  have f0 := fin_of_all _ _ (top _) _ _ _ _ e0
  have f1 := fin_of_all _ _ (top _) _ _ _ _ e1
  have f3 := fin_of_all _ _ (top _) _ _ _ _ e3
  have f4 := fin_of_all _ _ (top _) _ _ _ _ e4
  have f5 := fin_of_all _ _ (top _) _ _ _ _ e5
  have f6 := fin_of_all _ _ (top _) _ _ _ _ e6
  have f7 := fin_of_all _ _ (top _) _ _ _ _ e7
  have f8 := fin_of_all _ _ (top _) _ _ _ _ e8
  refine ⟨fun r k hk => ?_, fun r k hk => ?_, fun k => ar_real f3 _, fun k => ar_real f4 _, fun k => ar_real f8 _, fun _ _ _ => ar_real f5 _,
    fun _ _ _ => ar_real f7 _, fun _ _ => ar_real f6 _⟩
  · show ar (s := S8192x6144) _ _ = _
    by_cases hr : r < 8192
    · have h1 := Rd.Rd.slice (e := ![8192, 1536]) (Rd.Rd.ar (s := S8192x6144) (m ((c : Thread nD τ).loc main_arg0))) ![0, 0] pre_facts.slices_S8192x6144_S8192x1536_0_0 (ix2 ⟨r, hr⟩ ⟨k, hk⟩)
      have h2 := f0 (ix2 ⟨r, hr⟩ ⟨k, hk⟩)
      have h3 : ar (s := S8192x6144) (m ((c : Thread nD τ).loc main_arg0)) ![r, k] = _ := (congrArg (ar (s := S8192x6144) (m ((c : Thread nD τ).loc main_arg0)))
        (funext fun a => by match a with | ⟨0, _⟩ => exact (Nat.zero_add r).symm | ⟨1, _⟩ => exact (Nat.zero_add k).symm)).trans h1.symm
      show _ = (((args m c).Z r k).toReal : EReal)
      rw [show (args m c).Z r k = _ from h3]
      exact h3.trans (EReal.coe_toReal h2.2 h2.1).symm
    · have h0 : ar (s := S8192x6144) (m ((c : Thread nD τ).loc main_arg0)) ![r, k] = 0 := dif_neg fun h => hr (h 0)
      show _ = (((args m c).Z r k).toReal : EReal)
      rw [show (args m c).Z r k = 0 from h0]
      exact h0
  · show ar (s := S8192x1536) _ _ = _
    by_cases hr : r < 8192
    · have h1 := Rd.Rd.slice (e := ![8192, 1024]) (Rd.Rd.ar (s := S8192x1536) (m ((c : Thread nD τ).loc main_arg1))) ![0, 0] pre_facts.slices_S8192x1536_S8192x1024_0_0 (ix2 ⟨r, hr⟩ ⟨k, hk⟩)
      have h2 := f1 (ix2 ⟨r, hr⟩ ⟨k, hk⟩)
      have h3 : ar (s := S8192x1536) (m ((c : Thread nD τ).loc main_arg1)) ![r, k] = _ := (congrArg (ar (s := S8192x1536) (m ((c : Thread nD τ).loc main_arg1)))
        (funext fun a => by match a with | ⟨0, _⟩ => exact (Nat.zero_add r).symm | ⟨1, _⟩ => exact (Nat.zero_add k).symm)).trans h1.symm
      show _ = (((args m c).D r k).toReal : EReal)
      rw [show (args m c).D r k = _ from h3]
      exact h3.trans (EReal.coe_toReal h2.2 h2.1).symm
    · have h0 : ar (s := S8192x1536) (m ((c : Thread nD τ).loc main_arg1)) ![r, k] = 0 := dif_neg fun h => hr (h 0)
      show _ = (((args m c).D r k).toReal : EReal)
      rw [show (args m c).D r k = 0 from h0]
      exact h0

end Cert.Ker

end
-- ==== Proof.Final.lean ====
/- The kernel's results are the reference's. -/
module

public import proofs.«01_k».proof.Proof.RefOut
public import proofs.«01_k».proof.Proof.Pre

@[expose] public section

set_option maxRecDepth 16384

noncomputable section

namespace Cert.Final

open Idealize.ShloMosaic Cert.Rd Cert.Spec Cert.KernelIdeal Cert.KernelIdeal.Gen Idealize.ShloMosaic.TcCoe Idealize.SL.Sem

theorem rd1 {n : ℕ} (x : (⟨1, ![n]⟩ : Shape).Idx → EReal) : Rd (s := ⟨1, ![n]⟩) x fun c => ar (s := ⟨1, ![n]⟩) x ![c 0] :=
  fun i => ar_of _ i _ fun a => match a with | ⟨0, _⟩ => rfl
theorem rd2 {n k : ℕ} (x : (⟨2, ![n, k]⟩ : Shape).Idx → EReal) : Rd (s := ⟨2, ![n, k]⟩) x fun c => ar (s := ⟨2, ![n, k]⟩) x ![c 0, c 1] :=
  fun i => ar_of _ i _ fun a => match a with | ⟨0, _⟩ => rfl | ⟨1, _⟩ => rfl
theorem rd3 {n k l : ℕ} (x : (⟨3, ![n, k, l]⟩ : Shape).Idx → EReal) :
    Rd (s := ⟨3, ![n, k, l]⟩) x fun c => ar (s := ⟨3, ![n, k, l]⟩) x ![c 0, c 1, c 2] :=
  fun i => ar_of _ i _ fun a => match a with | ⟨0, _⟩ => rfl | ⟨1, _⟩ => rfl | ⟨2, _⟩ => rfl

/-- Two arrays of one reading are equal. -/
theorem same {s : Shape} {α β : Type} [AddCommMonoid α] [Mul α] [AddCommMonoid β] [Mul β] [Emb α] [Emb β] {x y : s.Idx → EReal} {f : (Fin s.rank → ℕ) → α} {g : (Fin s.rank → ℕ) → β}
    (hx : Rd x f) (hy : Rd y g) (h : ∀ c, Emb.up (f c) = Emb.up (g c)) : x = y :=
  funext fun i => (hx i).trans ((h _).trans (hy i).symm)

variable {m : (ℓ : Loc nD τ sig) → Buf (Elt Ideal) ℓ}
  {m' : (ℓ : Loc Cert.ReferenceIdeal.nD Cert.ReferenceIdeal.τ Cert.ReferenceIdeal.sig) → Buf (Elt Ideal) ℓ}

/-- The two launches hold the same ten arguments. -/
def Agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)
  ∧ m' ((c.tc : Thread Cert.ReferenceIdeal.nD Cert.ReferenceIdeal.τ).loc Cert.ReferenceIdeal.main_arg9) = m ((c.tc : Thread nD τ).loc main_arg9)

theorem inputs {c : Dev nD} (h : Agree m m' c) : Rf.In (Ker.args m c)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9)) := by
  obtain ⟨h0, h1, h2, h3, h4, h5, h6, h7, h8, h9⟩ := h
  rw [h0, h1]
  rw [h2, h3]
  rw [h4, h5]
  rw [h6, h7]
  rw [h8, h9]
  exact {
    z := rd2 _
    d := rd2 _
    gl := rd2 _
    g := rd1 _
    b := rd1 _
    ws := rd3 _
    bs := rd2 _
    pw := rd3 _
    ps := rd1 _
    cw := rd2 _ }

theorem claim [hPre : Cert.Pre_finite.Facts] : Cert.algebraic_KernelIdeal_ReferenceIdeal_pre_finite := fun m g m' g' hp hag => by
  have hr : ∀ c, (Ker.args m c).Real := fun c => Ker.real_of_pre hp c
  have hi := fun c => inputs (hag c)
  refine ⟨fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N,
    Value.run_blocks m g, ?_⟩
  refine (θ_run Cert.ReferenceIdeal.defs _ _).mono (fun r h c => ?_) (Cert.ReferenceIdeal.Value.run (F := Ideal) m' g')
  obtain ⟨e0, e1, e2, e3, e4, e⟩ := h c
  refine ⟨e0.trans ?_, e1.trans ?_, e2.trans ?_, e3.trans ?_, e4.trans ?_, e⟩
  · exact (Cert.ReferenceIdeal.Read.val_main_v414_eq (StableHlo.launchContents m' c)).trans
      (same (Rf.v414 (hi c) (hr c)) (Ker.dz_arr (Ker.ins (hr c))) fun _ => rfl)
  · exact (Cert.ReferenceIdeal.Read.val_main_v409_eq (StableHlo.launchContents m' c)).trans
      (same (Rf.v409 (hi c) (hr c)) (Ker.pv_arr (Ker.ins (hr c))) fun _ => rfl)
  · exact (Cert.ReferenceIdeal.Read.val_main_v334_eq (StableHlo.launchContents m' c)).trans
      (same (Rf.v334 (hi c) (hr c)) (Ker.dws_arr (Ker.ins (hr c))) fun _ => rfl)
  · exact (Cert.ReferenceIdeal.Read.val_main_v412_eq (StableHlo.launchContents m' c)).trans
      (same (Rf.v412 (hi c) (hr c)) (Ker.dbs_arr (Ker.ins (hr c))) fun _ => rfl)
  · exact (Cert.ReferenceIdeal.Read.val_main_v259_eq (StableHlo.launchContents m' c)).trans
      (same (Rf.v259 (hi c) (hr c)) (Ker.dpw_arr (Ker.ins (hr c))) fun _ => rfl)

end Cert.Final

end
-- ==== Proof.Norm.lean ====
/- The gradient through the modulated RMS norm that feeds a product, over the extended reals.

   `Nb` collects, by row and channel, the gradient `dh` of the norm's output, the norm's input `x`, the gradient `dr` that
   reaches `x` beside the norm, the gain `g`, and per sequence of 4096 rows the shift `sh` and the scale `sc`. -/
module

public import proofs.«01_k».proof.Proof.Spec

@[expose] public section

noncomputable section

namespace Cert.Spec

open Idealize.ShloMosaic

structure Nb where
  (dh x dr : ℕ → ℕ → EReal)
  (g : ℕ → EReal)
  (sh sc : ℕ → ℕ → EReal)

namespace Nb
variable (S : Nb)

/-- The mean square of a row, and the reciprocal of its root. -/
def v (r : ℕ) : EReal := Ideal.div (∑ k ∈ Finset.range 1024, S.x r k * S.x r k) ((1024 : ℝ) : EReal) + (eps : EReal)
def rs (r : ℕ) : EReal := Ideal.rsqrt (S.v r)
def xh (r k : ℕ) : EReal := S.x r k * S.rs r
def a (r k : ℕ) : EReal := S.xh r k * S.g k
def mo (q k : ℕ) : EReal := ((1 : ℝ) : EReal) + S.sc q k
def h (r k : ℕ) : EReal := S.a r k * S.mo (r / 4096) k + S.sh (r / 4096) k
def dn (r k : ℕ) : EReal := S.dh r k * S.mo (r / 4096) k
def dxh (r k : ℕ) : EReal := S.dn r k * S.g k
/-- The gradient of `x`. -/
def dx (r k : ℕ) : EReal := S.dr r k + S.rs r * (S.dxh r k
  - S.xh r k * Ideal.div (∑ j ∈ Finset.range 1024, S.dxh r j * S.xh r j) ((1024 : ℝ) : EReal))
/-- The gradients of a sequence's shift and scale, and of the gain. -/
def dsh (q k : ℕ) : EReal := ∑ t ∈ Finset.range 4096, S.dh (4096 * q + t) k
def dsc (q k : ℕ) : EReal := ∑ t ∈ Finset.range 4096, S.dh (4096 * q + t) k * S.a (4096 * q + t) k
def dg (k : ℕ) : EReal := ∑ r ∈ Finset.range 8192, S.dn r k * S.xh r k

/-- The rows of the two arrays of small gradients. -/
def PB (q r k : ℕ) : EReal := if r = 0 then S.dsh q k else if r = 1 then S.dsc q k else 0
def PG (r k : ℕ) : EReal := if r = 0 then S.dg k else 0

/-- The gradient of `x` as differentiation of the formula gives it. -/
def rc (r : ℕ) : EReal := Ideal.div ((∑ j ∈ Finset.range 1024, S.x r j * S.dxh r j)
  * (((-(1 / 2) : ℝ) : EReal) * Ideal.div (S.rs r) (S.v r))) ((1024 : ℝ) : EReal)
def dxR (r k : ℕ) : EReal := S.dr r k + S.dxh r k * S.rs r + S.x r k * S.rc r + S.rc r * S.x r k

theorem sq_nonneg' (x : EReal) : 0 ≤ x * x := by
  rcases le_total 0 x with h | h
  · exact mul_nonneg h h
  · exact EReal.mul_nonneg_iff.2 (Or.inr ⟨h, h⟩)

theorem v_pos (r : ℕ) : 0 < S.v r := by
  have h : 0 ≤ ∑ k ∈ Finset.range 1024, S.x r k * S.x r k := Finset.sum_nonneg fun _ _ => sq_nonneg' _
  have e : (0 : EReal) < (eps : EReal) := by unfold eps; exact_mod_cast (by norm_num : (0 : ℝ) < 8796093 / 8796093022208)
  unfold v
  rw [Ideal.div_coe (by norm_num)]
  exact lt_of_lt_of_le e (le_add_of_nonneg_left (mul_nonneg h (by exact_mod_cast (by norm_num : (0 : ℝ) ≤ 1 / 1024))))

/-- The reciprocal root is a real number, and divided by the mean square it is its own cube. -/
theorem rs_real (r : ℕ) : ∃ q : ℝ, 0 ≤ q ∧ S.rs r = (q : EReal) ∧ Ideal.div (S.rs r) (S.v r) = ((q * q * q : ℝ) : EReal) := by
  have hv := S.v_pos r
  unfold rs
  generalize S.v r = v at hv ⊢
  induction v using EReal.rec with
  | bot => exact absurd hv (by simp)
  | top => exact ⟨0, le_refl _, rfl, by simp [Ideal.div]⟩
  | coe u =>
    have hu : 0 < u := by exact_mod_cast hv
    have e : Ideal.rsqrt (u : EReal) = (((Real.sqrt u)⁻¹ : ℝ) : EReal) := by
      rw [Ideal.rsqrt_coe, if_neg (not_lt.2 hu.le), if_neg hu.ne']
    refine ⟨(Real.sqrt u)⁻¹, by positivity, e, ?_⟩
    rw [e, Ideal.div_coe hu.ne', ← EReal.coe_mul]
    congr 1
    have h2 : Real.sqrt u * Real.sqrt u = u := Real.mul_self_sqrt hu.le
    have h0 : Real.sqrt u ≠ 0 := (Real.sqrt_pos.2 hu).ne'
    nth_rw 2 [← h2]
    field_simp

theorem mul_sum_real (q : ℝ) (hq : 0 ≤ q) (n : ℕ) (f : ℕ → EReal) :
    (∑ j ∈ Finset.range n, (q : EReal) * f j) = (q : EReal) * ∑ j ∈ Finset.range n, f j := by
  induction n with
  | zero => simp
  | succ n ih =>
    rw [Finset.sum_range_succ, Finset.sum_range_succ, ih,
      EReal.left_distrib_of_nonneg_of_ne_top (by exact_mod_cast hq) (EReal.coe_ne_top q)]

theorem dx_eq (r k : ℕ) : S.dxR r k = S.dx r k := by
  obtain ⟨q, hq, e, e3⟩ := S.rs_real r
  have hs : (∑ j ∈ Finset.range 1024, S.dxh r j * S.xh r j) = (q : EReal) * ∑ j ∈ Finset.range 1024, S.x r j * S.dxh r j := by
    rw [← mul_sum_real q hq]
    refine Finset.sum_congr rfl fun j _ => ?_
    unfold xh
    rw [e]
    ac_rfl
  unfold dxR dx rc xh
  rw [show (∑ j ∈ Finset.range 1024, S.dxh r j * (S.x r j * S.rs r)) = _ from hs, e3, e]
  generalize (∑ j ∈ Finset.range 1024, S.x r j * S.dxh r j) = s
  generalize S.dxh r k = d
  generalize S.x r k = x
  rw [Ideal.div_coe (by norm_num), Ideal.div_coe (by norm_num), sub_eq_add_neg,
    EReal.left_distrib_of_nonneg_of_ne_top (by exact_mod_cast hq) (EReal.coe_ne_top q), add_assoc (S.dr r k + _), add_assoc (S.dr r k)]
  congr 1
  rw [mul_comm d]
  congr 1
  have t : ∀ y : EReal, y + y = ((2 : ℝ) : EReal) * y := fun y => by
    rw [show ((2 : ℝ) : EReal) = ((1 : ℝ) : EReal) + ((1 : ℝ) : EReal) by rw [← EReal.coe_add]; norm_num,
      EReal.right_distrib_of_nonneg (by norm_num) (by norm_num), EReal.coe_one, one_mul]
  rw [mul_comm (s * _ * _) x, t]
  have e1 : ((2 : ℝ) : EReal) * (x * (s * (((-(1 / 2) : ℝ) : EReal) * ((q * q * q : ℝ) : EReal)) * ((1 / 1024 : ℝ) : EReal)))
      = x * s * (((2 : ℝ) : EReal) * ((-(1 / 2) : ℝ) : EReal) * ((q * q * q : ℝ) : EReal) * ((1 / 1024 : ℝ) : EReal)) := by ac_rfl
  have e2 : (q : EReal) * -(x * (q : EReal) * ((q : EReal) * s * ((1 / 1024 : ℝ) : EReal)))
      = x * s * -((q : EReal) * (q : EReal) * (q : EReal) * ((1 / 1024 : ℝ) : EReal)) := by
    rw [mul_neg, mul_neg]
    congr 1
    ac_rfl
  rw [e1, e2]
  congr 1
  rw [← EReal.coe_mul, ← EReal.coe_mul, ← EReal.coe_mul, ← EReal.coe_mul, ← EReal.coe_mul, ← EReal.coe_mul, ← EReal.coe_neg]
  congr 1
  ring

/-! Sums over tiles of 512 rows. -/
def tile (F : ℕ → EReal) (n : ℕ) : EReal := ∑ t ∈ Finset.range 512, F (512 * n + t)

theorem sum_tile (F : ℕ → EReal) (b n : ℕ) : (∑ j ∈ Finset.range n, tile F (b + j)) = ∑ t ∈ Finset.range (512 * n), F (512 * b + t) := by
  induction n with
  | zero => rfl
  | succ n ih =>
    rw [Finset.sum_range_succ, ih, Nat.mul_succ, Finset.sum_range_add]
    refine congrArg _ (Finset.sum_congr rfl fun t _ => congrArg F (by ring))

/-- The two arrays after `n` tiles. -/
def pbAt (q n r k : ℕ) : EReal :=
  if r = 0 then ∑ j ∈ Finset.range n, tile (fun r => S.dh r k) (8 * q + j)
  else if r = 1 then ∑ j ∈ Finset.range n, tile (fun r => S.dh r k * S.a r k) (8 * q + j) else 0
def pgAt (n r k : ℕ) : EReal := if r = 0 then ∑ j ∈ Finset.range n, tile (fun r => S.dn r k * S.xh r k) j else 0

theorem pbAt_zero (q r k : ℕ) : S.pbAt q 0 r k = 0 := by simp [pbAt]
theorem pgAt_zero (r k : ℕ) : S.pgAt 0 r k = 0 := by simp [pgAt]
theorem pbAt_2 (q n r k : ℕ) (h : 2 ≤ r) : S.pbAt q n r k = 0 := by unfold pbAt; rw [if_neg (by omega), if_neg (by omega)]
theorem pgAt_1 (n r k : ℕ) (h : 1 ≤ r) : S.pgAt n r k = 0 := by unfold pgAt; rw [if_neg (by omega)]
theorem pbAt_row0 (q n k i : ℕ) (e : 8 * q + n = i) : S.pbAt q n 0 k + tile (fun r => S.dh r k) i = S.pbAt q (n + 1) 0 k := by
  simp [pbAt, Finset.sum_range_succ, e]
theorem pbAt_row1 (q n k i : ℕ) (e : 8 * q + n = i) : S.pbAt q n 1 k + tile (fun r => S.dh r k * S.a r k) i = S.pbAt q (n + 1) 1 k := by
  simp [pbAt, Finset.sum_range_succ, e]
theorem pgAt_row0 (n k : ℕ) : S.pgAt n 0 k + tile (fun r => S.dn r k * S.xh r k) n = S.pgAt (n + 1) 0 k := by
  simp [pgAt, Finset.sum_range_succ]
theorem pbAt_8 (q r k : ℕ) : S.pbAt q 8 r k = S.PB q r k := by
  unfold pbAt PB dsh dsc
  simp only [sum_tile]
  rw [show 512 * (8 * q) = 4096 * q by ring]
theorem pgAt_16 (r k : ℕ) : S.pgAt 16 r k = S.PG r k := by
  unfold pgAt PG dg
  have := sum_tile (fun r => S.dn r k * S.xh r k) 0 16
  simp only [Nat.zero_add, Nat.mul_zero] at this
  rw [this]

end Nb
end Cert.Spec

end
-- ==== Proof.NormRd.lean ====
/- Readings over the extended reals of the operations of a norm's gradient, and of stores of any program. -/
module

public import proofs.«01_k».proof.Proof.RdMem
public import proofs.«01_k».proof.Proof.Norm
public import proofs.«01_k».proof.Proof.Consts

@[expose] public section

set_option maxRecDepth 16384

noncomputable section

namespace Cert.Rd

open Idealize.ShloMosaic

theorem f1024 : Ideal.ofBits .f32 0x44800000#32 = ((1024 : ℝ) : EReal) := by
  simp [Ideal.ofBits, Ideal.ieee, -EReal.coe_mul]; norm_num

section
variable {s : Shape} {φ : FTy} {x y : FVec Ideal s φ} {f g : (Fin s.rank → ℕ) → EReal}

theorem Rd.esubf (hx : Rd x f) (hy : Rd y g) : Rd (Idealize.ShloMosaic.subf x y) fun c => f c - g c := fun i => by
  show x i - y i = _; rw [hx i, hy i]; rfl
theorem Rd.edivf (hx : Rd x f) (hy : Rd y g) : Rd (Idealize.ShloMosaic.divf x y) fun c => Ideal.div (f c) (g c) := fun i => by
  show Ideal.div (x i) (y i) = _; rw [hx i, hy i]; rfl
theorem Rd.hedivf (hx : Rd x f) (hy : Rd y g) : Rd (Host.divf x y) fun c => Ideal.div (f c) (g c) := fun i => by
  show Ideal.div (x i) (y i) = _; rw [hx i, hy i]; rfl
theorem Rd.ersqrt (hx : Rd x f) : Rd (Idealize.ShloMosaic.rsqrt x) fun c => Ideal.rsqrt (f c) := fun i => by
  show Ideal.rsqrt (x i) = _; rw [hx i]; rfl
theorem Rd.hersqrt (hx : Rd x f) : Rd (Host.rsqrt x) fun c => Ideal.rsqrt (f c) := fun i => by
  show Ideal.rsqrt (x i) = _; rw [hx i]; rfl
end

/-! A block of 512 rows, a column of it, and a row that all rows share. -/
abbrev bk (i : ℕ) (F : ℕ → ℕ → EReal) : (Fin 2 → ℕ) → EReal := fun c => F (512 * i + c 0) (c 1)
abbrev cl (i : ℕ) (F : ℕ → EReal) : (Fin 2 → ℕ) → EReal := fun c => F (512 * i + c 0)
abbrev ln (F : ℕ → EReal) : (Fin 2 → ℕ) → EReal := fun c => F (c 1)
abbrev ln3 (F : ℕ → EReal) : (Fin 3 → ℕ) → EReal := fun c => F (c 2)

theorem bcol {x : (⟨2, ![512, 1]⟩ : Shape).Idx → EReal} {i : ℕ} {F : ℕ → EReal} (hx : Rd x (cl i F))
    (h : (⟨2, ![512, 1]⟩ : Shape).Broadcasts ⟨2, ![512, 1024]⟩) : Rd (broadcastTo ⟨2, ![512, 1024]⟩ x h) (bk i fun r _ => F r) :=
  (hx.bcastTo h).congr fun c _ => rfl

theorem brow {x : (⟨2, ![1, 1024]⟩ : Shape).Idx → EReal} {F : ℕ → EReal} (hx : Rd x (ln F))
    (h : (⟨2, ![1, 1024]⟩ : Shape).Broadcasts ⟨2, ![512, 1024]⟩) : Rd (broadcastTo ⟨2, ![512, 1024]⟩ x h) fun c => F (c 1) :=
  (hx.bcastTo h).congr fun c _ => rfl

/-- A row that a sequence's tokens share. -/
theorem bseq {x : (⟨2, ![1, 1024]⟩ : Shape).Idx → EReal} {i : ℕ} {F : ℕ → ℕ → EReal} (hx : Rd x (ln (F (i / 8))))
    (h : (⟨2, ![1, 1024]⟩ : Shape).Broadcasts ⟨2, ![512, 1024]⟩) :
    Rd (broadcastTo ⟨2, ![512, 1024]⟩ x h) (bk i fun r k => F (r / 4096) k) :=
  (brow hx h).congr fun c hc => by
    have b0 := hc 0
    simp at b0
    show F _ _ = F _ _
    rw [show (512 * i + c 0) / 4096 = i / 8 by omega]

section
variable {sig : RefSig} {s : Shape} {κ : Kind} {sp : Space} {off size : Fin s.rank → ℕ} {inb : ∀ a, off a + size a ≤ s.size a}
  {G : (Fin s.rank → ℕ) → EReal} {P : (Fin s.rank → ℕ) → Prop}

theorem st16 {v : View sig κ sp s .bf16} {f : v.ty.Contents (Elt Ideal)} {w : (Rect.unit off size inb).shape.Idx → Elt Ideal .bf16}
    {L : List (View.Piece (Elt Ideal) s .bf16)} (hw : Rd (s := (Rect.unit off size inb).shape) w fun c => G fun a => off a + c a)
    (h : On (s := s) (v.read (Elt Ideal) (v.writes (Elt Ideal) f L)) G fun c => P c ∧ ¬∀ a, off a ≤ c a ∧ c a < off a + size a) :
    On (s := s) (v.read (Elt Ideal) (v.writes (Elt Ideal) f ((⟨Rect.unit off size inb, w⟩ : View.Piece (Elt Ideal) s .bf16) :: L))) G P :=
  On.cons (fun x => x) v f inb w L rfl rfl hw h

theorem st32 {v : View sig κ sp s .f32} {f : v.ty.Contents (Elt Ideal)} {w : (Rect.unit off size inb).shape.Idx → Elt Ideal .f32}
    {L : List (View.Piece (Elt Ideal) s .f32)} (hw : Rd (s := (Rect.unit off size inb).shape) w fun c => G fun a => off a + c a)
    (h : On (s := s) (v.read (Elt Ideal) (v.writes (Elt Ideal) f L)) G fun c => P c ∧ ¬∀ a, off a ≤ c a ∧ c a < off a + size a) :
    On (s := s) (v.read (Elt Ideal) (v.writes (Elt Ideal) f ((⟨Rect.unit off size inb, w⟩ : View.Piece (Elt Ideal) s .f32) :: L))) G P :=
  On.cons (fun x => x) v f inb w L rfl rfl hw h
end

theorem zeros' {s : Shape} {f : (Fin s.rank → ℕ) → EReal} (hf : ∀ c, f c = 0) :
    Rd (s := s) (broadcast s (Scalar.ofBits (F := Ideal) .f32 0x00000000#32)) f := fun i => by
  rw [hf]
  exact Consts.f0.trans Emb.up_zero.symm

/-! Loads and stores of whole blocks and of single rows. -/
theorem ldW {d : Fin 2 → ℕ} {x : (⟨2, d⟩ : Shape).Idx → EReal} {f : (Fin 2 → ℕ) → EReal} (h : Rd x f)
    (inb : ∀ a, (![0, 0] : Fin 2 → ℕ) a + d a ≤ d a) :
    Rd (s := ⟨2, d⟩) (fun i => x ((Rect.unit (s := ⟨2, d⟩) ![0, 0] d inb).idx i)) f :=
  (h.ld ![0, 0] d inb).congr fun c _ => congrArg f (funext fun a => by fin_cases a <;> exact Nat.zero_add _)

theorem stW {d : Fin 2 → ℕ} {x : (⟨2, d⟩ : Shape).Idx → EReal} {f : (Fin 2 → ℕ) → EReal} (h : Rd x f) :
    Rd (s := ⟨2, d⟩) x fun c => f fun a => (![0, 0] : Fin 2 → ℕ) a + c a :=
  h.congr fun c _ => (congrArg f (funext fun a => by fin_cases a <;> exact Nat.zero_add _)).symm

theorem ldR3 {x : (⟨3, ![1, 8, 1024]⟩ : Shape).Idx → EReal} {P : ℕ → ℕ → EReal} (h : Rd (s := ⟨3, ![1, 8, 1024]⟩) x fun c => P (c 1) (c 2)) (r : ℕ)
    (inb : ∀ a, (![0, r, 0] : Fin 3 → ℕ) a + (![1, 1, 1024] : Fin 3 → ℕ) a ≤ (![1, 8, 1024] : Fin 3 → ℕ) a) :
    Rd (s := ⟨3, ![1, 1, 1024]⟩) (fun i => x ((Rect.unit (s := ⟨3, ![1, 8, 1024]⟩) ![0, r, 0] ![1, 1, 1024] inb).idx i)) (ln3 (P r)) :=
  (h.ld ![0, r, 0] ![1, 1, 1024] inb).congr fun c hc => by
    have h1 : c 1 < 1 := hc 1
    show P (r + c 1) (0 + c 2) = P r (c 2)
    rw [Nat.zero_add, show r + c 1 = r by omega]

theorem stR3 {x : (⟨3, ![1, 1, 1024]⟩ : Shape).Idx → EReal} {F : ℕ → EReal} (h : Rd (s := ⟨3, ![1, 1, 1024]⟩) x (ln3 F)) (P : ℕ → ℕ → EReal) (r : ℕ)
    (e : ∀ k, F k = P r k) : Rd (s := ⟨3, ![1, 1, 1024]⟩) x fun c => (fun c : Fin 3 → ℕ => P (c 1) (c 2)) fun a => (![0, r, 0] : Fin 3 → ℕ) a + c a :=
  h.congr fun c hc => by
    have h1 : c 1 < 1 := hc 1
    show F (c 2) = P (r + c 1) (0 + c 2)
    rw [Nat.zero_add, show r + c 1 = r by omega, e]

theorem ldR2 {x : (⟨2, ![8, 1024]⟩ : Shape).Idx → EReal} {P : ℕ → ℕ → EReal} (h : Rd (s := ⟨2, ![8, 1024]⟩) x fun c => P (c 0) (c 1)) (r : ℕ)
    (inb : ∀ a, (![r, 0] : Fin 2 → ℕ) a + (![1, 1024] : Fin 2 → ℕ) a ≤ (![8, 1024] : Fin 2 → ℕ) a) :
    Rd (s := ⟨2, ![1, 1024]⟩) (fun i => x ((Rect.unit (s := ⟨2, ![8, 1024]⟩) ![r, 0] ![1, 1024] inb).idx i)) (ln (P r)) :=
  (h.ld ![r, 0] ![1, 1024] inb).congr fun c hc => by
    have h1 : c 0 < 1 := hc 0
    show P (r + c 0) (0 + c 1) = P r (c 1)
    rw [Nat.zero_add, show r + c 0 = r by omega]

theorem stR2 {x : (⟨2, ![1, 1024]⟩ : Shape).Idx → EReal} {F : ℕ → EReal} (h : Rd (s := ⟨2, ![1, 1024]⟩) x (ln F)) (P : ℕ → ℕ → EReal) (r : ℕ)
    (e : ∀ k, F k = P r k) : Rd (s := ⟨2, ![1, 1024]⟩) x fun c => (fun c : Fin 2 → ℕ => P (c 0) (c 1)) fun a => (![r, 0] : Fin 2 → ℕ) a + c a :=
  h.congr fun c hc => by
    have h1 : c 0 < 1 := hc 0
    show F (c 1) = P (r + c 0) (0 + c 1)
    rw [Nat.zero_add, show r + c 0 = r by omega, e]

/-- Nothing is left outside a store of a whole block. -/
theorem all2 {d : Fin 2 → ℕ} {c : Fin 2 → ℕ} (hc : ∀ a, c a < d a) : ∀ a, (![0, 0] : Fin 2 → ℕ) a ≤ c a ∧ c a < (![0, 0] : Fin 2 → ℕ) a + d a := fun a => by
  have := hc a
  match a with
  | ⟨0, _⟩ => exact ⟨Nat.zero_le _, by show c 0 < 0 + d 0; rw [Nat.zero_add]; exact this⟩
  | ⟨1, _⟩ => exact ⟨Nat.zero_le _, by show c 1 < 0 + d 1; rw [Nat.zero_add]; exact this⟩

section
variable {d : Fin 2 → ℕ} {inb : ∀ a, (![0, 0] : Fin 2 → ℕ) a + d a ≤ d a} {sig : RefSig} {κ : Kind} {sp : Space} {G : (Fin 2 → ℕ) → EReal}

/-- Blocks that a store leaves whole. -/
theorem full16 {v : View sig κ sp ⟨2, d⟩ .bf16} {f : v.ty.Contents (Elt Ideal)} {w : (Rect.unit (s := ⟨2, d⟩) ![0, 0] d inb).shape.Idx → Elt Ideal .bf16}
    (hw : Rd (s := ⟨2, d⟩) w G) : Rd (s := ⟨2, d⟩) (v.read (Elt Ideal) (v.writes (Elt Ideal) f [⟨Rect.unit ![0, 0] d inb, w⟩])) G :=
  On.all (st16 (inb := inb) (stW hw) (On.none fun c hc hP => hP.2 (all2 hc)))

theorem full32 {v : View sig κ sp ⟨2, d⟩ .f32} {f : v.ty.Contents (Elt Ideal)} {w : (Rect.unit (s := ⟨2, d⟩) ![0, 0] d inb).shape.Idx → Elt Ideal .f32}
    (hw : Rd (s := ⟨2, d⟩) w G) : Rd (s := ⟨2, d⟩) (v.read (Elt Ideal) (v.writes (Elt Ideal) f [⟨Rect.unit ![0, 0] d inb, w⟩])) G :=
  On.all (st32 (inb := inb) (stW hw) (On.none fun c hc hP => hP.2 (all2 hc)))
end

/-- What the stores of the first rows leave of a block. -/
theorem rest3 {x : (⟨3, ![1, 8, 1024]⟩ : Shape).Idx → EReal} {F G : (Fin 3 → ℕ) → EReal} (hx : Rd (s := ⟨3, ![1, 8, 1024]⟩) x F) (h : ∀ c : Fin 3 → ℕ, 2 ≤ c 1 → F c = G c) :
    On (s := ⟨3, ![1, 8, 1024]⟩) x G fun c => (True ∧ ¬∀ a, (![0, 1, 0] : Fin 3 → ℕ) a ≤ c a ∧ c a < (![0, 1, 0] : Fin 3 → ℕ) a + (![1, 1, 1024] : Fin 3 → ℕ) a)
      ∧ ¬∀ a, (![0, 0, 0] : Fin 3 → ℕ) a ≤ c a ∧ c a < (![0, 0, 0] : Fin 3 → ℕ) a + (![1, 1, 1024] : Fin 3 → ℕ) a :=
  On.of hx fun c hc hP => by
    have b0 := hc 0
    have b1 := hc 1
    have b2 := hc 2
    simp [Fin.forall_fin_succ] at hP b0 b1 b2
    exact h c (by omega)

theorem rest2 {x : (⟨2, ![8, 1024]⟩ : Shape).Idx → EReal} {F G : (Fin 2 → ℕ) → EReal} (hx : Rd (s := ⟨2, ![8, 1024]⟩) x F) (h : ∀ c : Fin 2 → ℕ, 1 ≤ c 0 → F c = G c) :
    On (s := ⟨2, ![8, 1024]⟩) x G fun c => True ∧ ¬∀ a, (![0, 0] : Fin 2 → ℕ) a ≤ c a ∧ c a < (![0, 0] : Fin 2 → ℕ) a + (![1, 1024] : Fin 2 → ℕ) a :=
  On.of hx fun c hc hP => by
    have b0 := hc 0
    have b1 := hc 1
    simp [Fin.forall_fin_two] at hP b0 b1
    exact h c (by omega)

end Cert.Rd

end
-- ==== Proof.InPay.lean ====
/- What a grid point of the gradient of the input projection computes of the blocks it loads. -/
module

public import proofs.«01_k».proof.Proof.NormRd
public import proofs.«01_k».proof.Proof.Gen.Kernel2Ideal.Skeleton

@[expose] public section

set_option maxRecDepth 16384

noncomputable section

namespace Cert.In

open Idealize.ShloMosaic Cert.Rd Cert.Spec Cert.Kernel2Ideal Cert.Kernel2Ideal.Gen Idealize.ShloMosaic.TcCoe

/-- The gradient of the norm's output is the gradient of the product times the transposed weights; rows 0 and 1 of the
    modulation are shift and scale. -/
def nb (Z W x dr : ℕ → ℕ → EReal) (g : ℕ → EReal) (M : ℕ → ℕ → ℕ → EReal) : Nb where
  dh r k := ∑ j ∈ Finset.range 6144, Z r j * W k j
  x := x
  dr := dr
  g := g
  sh q k := M q 0 k
  sc q k := M q 1 k

/-- The blocks of tile `i`. -/
structure Ins (Z W x dr : ℕ → ℕ → EReal) (g : ℕ → EReal) (M : ℕ → ℕ → ℕ → EReal) (i : ℕ) (x0 : FVec Ideal S512x6144 .bf16)
    (x1 : FVec Ideal S1024x6144 .bf16) (x2 x3 : FVec Ideal S512x1024 .f32) (x4 : FVec Ideal S1x1024 .f32)
    (x5 : FVec Ideal S1x8x1024 .f32) : Prop where
  hZ : Rd (s := S512x6144) x0 (bk i Z)
  hW : Rd (s := S1024x6144) x1 fun c => W (c 0) (c 1)
  hx : Rd (s := S512x1024) x2 (bk i x)
  hdr : Rd (s := S512x1024) x3 (bk i dr)
  hg : Rd (s := S1x1024) x4 (ln g)
  hM : Rd (s := S1x8x1024) x5 fun c => M (i / 8) (c 1) (c 2)

section
variable {Z W x dr : ℕ → ℕ → EReal} {g : ℕ → EReal} {M : ℕ → ℕ → ℕ → EReal} {i : ℕ}
  {v0 : FVec Ideal S512x6144 .bf16} {v1 : FVec Ideal S1024x6144 .bf16} {v3 v36 : FVec Ideal S512x1024 .f32} {v4 : FVec Ideal S1x1024 .f32}
  {v6 v41 : FVec Ideal S1x1x1024 .f32}
  (h0 : Rd (s := S512x6144) v0 (bk i Z)) (h1 : Rd (s := S1024x6144) v1 fun c => W (c 0) (c 1)) (h3 : Rd (s := S512x1024) v3 (bk i x)) (h36 : Rd (s := S512x1024) v36 (bk i dr)) (h4 : Rd (s := S1x1024) v4 (ln g))
  (h6 : Rd (s := S1x1x1024) v6 (ln3 (M (i / 8) 1))) (h41 : Rd (s := S1x1x1024) v41 (ln3 (M (i / 8) 0)))

include h0 h1 in
theorem pay3 : Rd (s := S512x1024) (k0_pay3 (F := Ideal) v0 v1) (bk i (nb Z W x dr g M).dh) :=
  (Rd.dot dot_S512x6144_S1024x6144_S512x1024_1_1_0_0_n_n none 6144 (fun c k => ![c 0, k]) (fun c k => ![c 1, k])
    h0 h1
    (Rd.const Consts.f0 : Rd (α := EReal) _ fun _ => 0)).congr fun c _ => zero_add _

include h4 in
theorem pay4 : Rd (s := S1x1024) (k0_pay4 (F := Ideal) v4) (ln g) := h4.castSelf _

include h6 in
theorem pay5 : Rd (s := S1x1024) (k0_pay5 (F := Ideal) v6) (ln ((nb Z W x dr g M).mo (i / 8))) :=
  (Rd.splat (s := S1x1024) Consts.f1 : Rd (α := EReal) _ fun _ => ((1 : ℝ) : EReal)).addf (h6.castDrop shapeCasts_S1x1x1024_S1x1024)

include h3 in
theorem pay6 : Rd (s := S512x1) (k0_pay6 (F := Ideal) v3) (cl i (nb Z W x dr g M).rs) :=
  ((((((h3.mulf h3).red1 _ reduces_S512x1024_S512 (.inl rfl) rfl).castCol shapeCasts_S512_S512x1).edivf
    (Rd.splat f1024 : Rd (α := EReal) _ fun _ => ((1024 : ℝ) : EReal))).addf
    (Rd.splat Consts.feps : Rd (α := EReal) _ fun _ => (eps : EReal))).ersqrt :)

include h3 in
theorem pay7 : Rd (s := S512x1024) (k0_pay7 (F := Ideal) v3) (bk i (nb Z W x dr g M).xh) := h3.mulf (bcol (pay6 (Z := Z) (W := W) (dr := dr) (g := g) (M := M) h3) broadcasts_S512x1_S512x1024)

include h3 h4 in
theorem pay8 : Rd (s := S512x1024) (k0_pay8 (F := Ideal) v3 v4) (bk i (nb Z W x dr g M).a) :=
  (pay7 (Z := Z) (W := W) (dr := dr) (g := g) (M := M) h3).mulf (brow (pay4 h4) broadcasts_S1x1024_S512x1024)

include h0 h1 h6 in
theorem pay9 : Rd (s := S512x1024) (k0_pay9 (F := Ideal) v0 v1 v6) (bk i (nb Z W x dr g M).dn) :=
  (pay3 (x := x) (dr := dr) (g := g) (M := M) h0 h1).mulf
    (bseq (F := (nb Z W x dr g M).mo) (pay5 (Z := Z) (W := W) (x := x) (dr := dr) (g := g) (M := M) h6) broadcasts_S1x1024_S512x1024)

include h0 h1 h3 h4 h6 h36 in
theorem pay10 : Rd (s := S512x1024) (k0_pay10 (F := Ideal) v0 v1 v3 v4 v6 v36) (bk i (nb Z W x dr g M).dx) := by
  have h25 : Rd (s := S512x1024) (mulf (k0_pay9 (F := Ideal) v0 v1 v6) (broadcastTo S512x1024 (k0_pay4 (F := Ideal) v4) broadcasts_S1x1024_S512x1024)) (bk i (nb Z W x dr g M).dxh) :=
    (pay9 (x := x) (dr := dr) (g := g) (M := M) h0 h1 h6).mulf (brow (pay4 h4) broadcasts_S1x1024_S512x1024)
  have h7 := pay7 (Z := Z) (W := W) (dr := dr) (g := g) (M := M) h3
  have h31 := bcol (F := fun r => Ideal.div (∑ j ∈ Finset.range 1024, (nb Z W x dr g M).dxh r j * (nb Z W x dr g M).xh r j) ((1024 : ℝ) : EReal))
    (Rd.edivf (φ := .f32) (((h25.mulf h7).red1 0x00000000#32 reduces_S512x1024_S512 (.inl rfl) rfl).castCol shapeCasts_S512_S512x1)
      (Rd.splat f1024 : Rd (α := EReal) _ fun _ => ((1024 : ℝ) : EReal))) broadcasts_S512x1_S512x1024
  exact h36.addf ((bcol (pay6 (Z := Z) (W := W) (dr := dr) (g := g) (M := M) h3) broadcasts_S512x1_S512x1024).mulf (h25.esubf (h7.mulf h31)))

include h3 h4 h6 h41 in
theorem pay11 : Rd (s := S512x1024) (k0_pay11 (F := Ideal) (k0_pay5 (F := Ideal) v6) (k0_pay8 (F := Ideal) v3 v4) v41) (bk i (nb Z W x dr g M).h) :=
  ((pay8 (Z := Z) (W := W) (dr := dr) (M := M) h3 h4).mulf
    (bseq (F := (nb Z W x dr g M).mo) (pay5 (Z := Z) (W := W) (x := x) (dr := dr) (g := g) (M := M) h6) broadcasts_S1x1024_S512x1024)).addf
    (bseq (F := (nb Z W x dr g M).sh) (h41.castDrop shapeCasts_S1x1x1024_S1x1024) broadcasts_S1x1024_S512x1024)

/-! The rows that add up: each point adds its tile's column sums to what the row held. -/
variable {F : ℕ → EReal} {vo : FVec Ideal S1x1x1024 .f32} {vg : FVec Ideal S1x1024 .f32}

include h0 h1 in
theorem pay14 (ho : Rd (s := S1x1x1024) vo (ln3 F)) : Rd (s := S1x1x1024) (k0_pay14 (F := Ideal) (k0_pay3 (F := Ideal) v0 v1) vo) (ln3 fun k => F k + Nb.tile (fun r => (nb Z W x dr g M).dh r k) i) :=
  (((ho.castDrop shapeCasts_S1x1x1024_S1x1024).addf
    (((pay3 (x := x) (dr := dr) (g := g) (M := M) h0 h1).red0 0x00000000#32 reduces_S512x1024_S1024 (.inl rfl) rfl).castRow
      shapeCasts_S1024_S1x1024)).castAdd shapeCasts_S1x1024_S1x1x1024 :)

include h0 h1 h3 h4 in
theorem pay1 (ho : Rd (s := S1x1x1024) vo (ln3 F)) :
    Rd (s := S1x1x1024) (k0_pay1 (F := Ideal) (k0_pay3 (F := Ideal) v0 v1) (k0_pay8 (F := Ideal) v3 v4) vo) (ln3 fun k => F k + Nb.tile (fun r => (nb Z W x dr g M).dh r k * (nb Z W x dr g M).a r k) i) :=
  (((ho.castDrop shapeCasts_S1x1x1024_S1x1024).addf
    ((((pay3 (x := x) (dr := dr) (g := g) (M := M) h0 h1).mulf (pay8 (Z := Z) (W := W) (dr := dr) (M := M) h3 h4)).red0 0x00000000#32
      reduces_S512x1024_S1024 (.inl rfl) rfl).castRow shapeCasts_S1024_S1x1024)).castAdd shapeCasts_S1x1024_S1x1x1024 :)

include h0 h1 h3 h6 in
theorem pay2 (ho : Rd (s := S1x1024) vg (ln F)) :
    Rd (s := S1x1024) (k0_pay2 (F := Ideal) (k0_pay7 (F := Ideal) v3) (k0_pay9 (F := Ideal) v0 v1 v6) vg) (ln fun k => F k + Nb.tile (fun r => (nb Z W x dr g M).dn r k * (nb Z W x dr g M).xh r k) i) :=
  ((ho.castSelf shapeCasts_S1x1024_S1x1024).addf
    ((((pay9 (x := x) (dr := dr) (g := g) (M := M) h0 h1 h6).mulf (pay7 (Z := Z) (W := W) (dr := dr) (g := g) (M := M) h3)).red0 0x00000000#32
      reduces_S512x1024_S1024 (.inl rfl) rfl).castRow shapeCasts_S1024_S1x1024) :)
end

end Cert.In

end
-- ==== Proof.InPoints.lean ====
/- The contents of the four results' staging blocks after each grid point. -/
module

public import proofs.«01_k».proof.Proof.InPay
public import proofs.«01_k».proof.Proof.Gen.Kernel2Ideal.Value
public import Idealize.ShloMosaic.Lib.Pipeline.ReadBack

@[expose] public section

set_option maxRecDepth 16384
set_option maxHeartbeats 1000000

noncomputable section

namespace Cert.In

open Idealize.ShloMosaic Cert.Rd Cert.Spec Cert.Kernel2Ideal Cert.Kernel2Ideal.Gen Idealize.ShloMosaic.TcCoe Idealize.SL.Sem

section Stores
variable {Z W x dr : ℕ → ℕ → EReal} {g : ℕ → EReal} {M : ℕ → ℕ → ℕ → EReal} {i : ℕ} {x0 : FVec Ideal S512x6144 .bf16}
  {x1 : FVec Ideal S1024x6144 .bf16} {x2 x3 : FVec Ideal S512x1024 .f32} {x4 : FVec Ideal S1x1024 .f32} {x5 : FVec Ideal S1x8x1024 .f32}
  (h : Ins Z W x dr g M i x0 x1 x2 x3 x4 x5)
include h

def Ins.l0 := ldW h.hZ inb_S512x6144_S512x6144_0_0
def Ins.l1 := ldW (f := fun c => W (c 0) (c 1)) h.hW inb_S1024x6144_S1024x6144_0_0
def Ins.l2 := ldW h.hx inb_S512x1024_S512x1024_0_0
def Ins.l3 := ldW h.hdr inb_S512x1024_S512x1024_0_0
def Ins.l4 := ldW h.hg inb_S1x1024_S1x1024_0_0
def Ins.l5 := ldR3 (P := M (i / 8)) h.hM 1 inb_S1x8x1024_S1x1x1024_0_1_0
def Ins.l6 := ldR3 (P := M (i / 8)) h.hM 0 inb_S1x8x1024_S1x1x1024_0_0_0

def Ins.dx := pay10 h.l0 h.l1 h.l2 h.l3 h.l4 h.l5
def Ins.ho := pay11 (Z := Z) (W := W) (dr := dr) h.l2 h.l4 h.l5 h.l6

variable {q n : ℕ} (e : 8 * q + n = i) {p : FVec Ideal S1x8x1024 .f32} (hp : Rd (s := S1x8x1024) p fun c => (nb Z W x dr g M).pbAt q n (c 1) (c 2))
  {u : FVec Ideal S8x1024 .f32} (hu : Rd (s := S8x1024) u fun c => (nb Z W x dr g M).pgAt i (c 0) (c 1))
def Ins.row0 := stR3 (pay14 (x := x) (dr := dr) (g := g) (M := M) h.l0 h.l1
  (ldR3 (P := fun r k => (nb Z W x dr g M).pbAt q n r k) hp 0 inb_S1x8x1024_S1x1x1024_0_0_0)) ((nb Z W x dr g M).pbAt q (n + 1)) 0
  fun k => (nb Z W x dr g M).pbAt_row0 q n k i e
def Ins.row1 := stR3 (pay1 (dr := dr) (M := M) h.l0 h.l1 h.l2 h.l4
  (ldR3 (P := fun r k => (nb Z W x dr g M).pbAt q n r k) hp 1 inb_S1x8x1024_S1x1x1024_0_1_0)) ((nb Z W x dr g M).pbAt q (n + 1)) 1
  fun k => (nb Z W x dr g M).pbAt_row1 q n k i e
def Ins.row := stR2 (pay2 (dr := dr) (g := g) h.l0 h.l1 h.l2 h.l5
  (ldR2 (P := fun r k => (nb Z W x dr g M).pgAt i r k) hu 0 inb_S8x1024_S1x1024_0_0)) ((nb Z W x dr g M).pgAt (i + 1)) 0
  fun k => (nb Z W x dr g M).pgAt_row0 i k
end Stores

theorem zero8 (S : Nb) (q : ℕ) {n : ℕ} (hn : n = 0) : Rd (s := S1x8x1024) (k0_pay12 (F := Ideal)) fun c => S.pbAt q n (c 1) (c 2) := by
  rw [hn]
  exact zeros' fun c => S.pbAt_zero _ _ _
theorem zero9 (S : Nb) {n : ℕ} (hn : n = 0) : Rd (s := S8x1024) (k0_pay13 (F := Ideal)) fun c => S.pgAt n (c 0) (c 1) := by
  rw [hn]
  exact zeros' fun c => S.pgAt_zero _ _

/-- The three kinds of points. -/
theorem cases3 (t : Fin cfg0.N) : (t.val % 8 = 0 ∧ t.val % 16 = 0) ∨ (¬t.val % 8 = 0 ∧ ¬t.val % 16 = 0) ∨ (t.val % 8 = 0 ∧ ¬t.val % 16 = 0) := by omega

section Point
variable (m : (ℓ : Loc nD τ sig) → Buf (Elt Ideal) ℓ) (c : Dev nD) (t : Fin cfg0.N) {Z W x dr : ℕ → ℕ → EReal} {g : ℕ → EReal}
  {M : ℕ → ℕ → ℕ → EReal} (h : Ins Z W x dr g M t.val (iblk m c 0 t) (iblk m c 1 t) (iblk m c 2 t) (iblk m c 3 t) (iblk m c 4 t) (iblk m c 5 t))
include h

theorem dx_point : Rd (s := S512x1024) (outsAt0 m c t.val t.isLt).1 (bk t.val (nb Z W x dr g M).dx) := by
  rcases cases3 t with ⟨h0, h1⟩ | ⟨h0, h1⟩ | ⟨h0, h1⟩
  all_goals
    first
    | rw [outsAt0_A m c t h0 h1]; dsimp only; unfold out0_A_6 kernelRun0_A
    | rw [outsAt0_B m c t h0 h1]; dsimp only; unfold out0_B_6 kernelRun0_B
    | rw [outsAt0_C m c t h0 h1]; dsimp only; unfold out0_C_6 kernelRun0_C
    dsimp only
    sl_unfold_words
    simp (disch := decide) only [↓View.readCov_skip, View.readCov_fill, View.readAt_eq_ld, Memref.IsWhole.read_unread]
    exact full32 h.dx

theorem h_point : Rd (s := S512x1024) (outsAt0 m c t.val t.isLt).2.1 (bk t.val (nb Z W x dr g M).h) := by
  rcases cases3 t with ⟨h0, h1⟩ | ⟨h0, h1⟩ | ⟨h0, h1⟩
  all_goals
    first
    | rw [outsAt0_A m c t h0 h1]; dsimp only; unfold out0_A_7 kernelRun0_A
    | rw [outsAt0_B m c t h0 h1]; dsimp only; unfold out0_B_7 kernelRun0_B
    | rw [outsAt0_C m c t h0 h1]; dsimp only; unfold out0_C_7 kernelRun0_C
    dsimp only
    sl_unfold_words
    simp (disch := decide) only [↓View.readCov_skip, View.readCov_fill, View.readAt_eq_ld, Memref.IsWhole.read_unread]
    exact full16 h.ho

theorem pb_Z (h0 : t.val % 8 = 0) {q n : ℕ} (e : 8 * q + n = t.val) (hn : n = 0) :
    Rd (s := S1x8x1024) (outsAt0 m c t.val t.isLt).2.2.1 fun c => (nb Z W x dr g M).pbAt q (n + 1) (c 1) (c 2) := by
  by_cases h1 : t.val % 16 = 0
  all_goals
    first
    | rw [outsAt0_A m c t h0 h1]; dsimp only; unfold out0_A_8 kernelRun0_A
    | rw [outsAt0_C m c t h0 h1]; dsimp only; unfold out0_C_8 kernelRun0_C
    dsimp only
    sl_unfold_words
    simp (disch := decide) only [↓View.readCov_skip, View.readCov_fill, View.readAt_eq_ld, Memref.IsWhole.read_unread]
    refine On.all (st32 (h.row1 e (zero8 _ q hn)) (st32 (h.row0 e (zero8 _ q hn)) (rest3 (F := fun _ => 0) ?_ fun c b => ((nb Z W x dr g M).pbAt_2 _ _ _ _ b).symm)))
    rw [View.read_writes_junk_eq_canon, View.canon_cons_unit_lit _ _ _ (by decide)]
    exact zeros' fun c => rfl

theorem pb_B (h0 : ¬t.val % 8 = 0) {q n : ℕ} (e : 8 * q + n = t.val)
    (ho : Rd (s := S1x8x1024) (outsAt0 m c (t.val - 1) (by omega)).2.2.1 fun c => (nb Z W x dr g M).pbAt q n (c 1) (c 2)) :
    Rd (s := S1x8x1024) (outsAt0 m c t.val t.isLt).2.2.1 fun c => (nb Z W x dr g M).pbAt q (n + 1) (c 1) (c 2) := by
  rw [outsAt0_B m c t h0 (by omega)]
  dsimp only
  unfold out0_B_8 kernelRun0_B
  dsimp only
  sl_unfold_words
  simp (disch := decide) only [↓View.readCov_skip, View.readCov_fill, View.readAt_eq_ld, Memref.IsWhole.read_unread]
  refine On.all (st32 (h.row1 e ho) (st32 (h.row0 e ho) (rest3 (F := fun c => (nb Z W x dr g M).pbAt q n (c 1) (c 2)) ?_ fun c b => (Nb.pbAt_2 _ _ _ _ _ b).trans (Nb.pbAt_2 _ _ _ _ _ b).symm)))
  exact (hs0_8 t).read_unread _ ▸ ho

theorem pg_A (hn : t.val = 0) : Rd (s := S8x1024) (outsAt0 m c t.val t.isLt).2.2.2 fun c => (nb Z W x dr g M).pgAt (t.val + 1) (c 0) (c 1) := by
  rw [outsAt0_A m c t (by omega) (by omega)]
  dsimp only
  unfold out0_A_9 kernelRun0_A
  dsimp only
  sl_unfold_words
  simp (disch := decide) only [↓View.readCov_skip, View.readCov_fill, View.readAt_eq_ld, Memref.IsWhole.read_unread]
  refine On.all (st32 (h.row (zero9 _ hn)) (rest2 (F := fun _ => 0) ?_ fun c b => ((nb Z W x dr g M).pgAt_1 _ _ _ b).symm))
  rw [View.read_writes_junk_eq_canon, View.canon_cons_unit_lit _ _ _ (by decide)]
  exact zeros' fun c => rfl

theorem pg_S (h1 : ¬t.val % 16 = 0)
    (ho : Rd (s := S8x1024) (outsAt0 m c (t.val - 1) (by omega)).2.2.2 fun c => (nb Z W x dr g M).pgAt t.val (c 0) (c 1)) :
    Rd (s := S8x1024) (outsAt0 m c t.val t.isLt).2.2.2 fun c => (nb Z W x dr g M).pgAt (t.val + 1) (c 0) (c 1) := by
  by_cases h0 : t.val % 8 = 0
  all_goals
    first
    | rw [outsAt0_C m c t h0 h1]; dsimp only; unfold out0_C_9 kernelRun0_C
    | rw [outsAt0_B m c t h0 h1]; dsimp only; unfold out0_B_9 kernelRun0_B
    dsimp only
    sl_unfold_words
    simp (disch := decide) only [↓View.readCov_skip, View.readCov_fill, View.readAt_eq_ld, Memref.IsWhole.read_unread]
    refine On.all (st32 (h.row ho) (rest2 (F := fun c => (nb Z W x dr g M).pgAt t.val (c 0) (c 1)) ?_ fun c b => (Nb.pgAt_1 _ _ _ _ b).trans (Nb.pgAt_1 _ _ _ _ b).symm))
    exact (hs0_9 t).read_unread _ ▸ ho

end Point

end Cert.In

end
-- ==== Proof.Gate.lean ====
/- The gradient through a gated product: what it is, and how tiles of rows add up its gate's part. -/
module

public import proofs.«01_k».proof.Proof.NormRd

@[expose] public section

noncomputable section

namespace Cert.Gate

open Idealize.ShloMosaic Cert.Rd Cert.Spec

/-- The gradient of the product: `X` times the gate of the token's sequence. -/
def dp (X G : ℕ → ℕ → EReal) (r k : ℕ) : EReal := X r k * G (r / 4096) k
/-- The gradient of the product's left factor. -/
def du (X G W : ℕ → ℕ → EReal) (r k : ℕ) : EReal := ∑ j ∈ Finset.range 1024, dp X G r j * W k j
/-- The gradient of the gate, in the first of eight rows. -/
def pb (X P : ℕ → ℕ → EReal) (q r k : ℕ) : EReal := if r = 0 then ∑ t ∈ Finset.range 4096, X (4096 * q + t) k * P (4096 * q + t) k else 0

def tl (s : ℕ) (F : ℕ → EReal) (i : ℕ) : EReal := ∑ t ∈ Finset.range s, F (s * i + t)

theorem sum_tl (s : ℕ) (F : ℕ → EReal) (b n : ℕ) : (∑ j ∈ Finset.range n, tl s F (b + j)) = ∑ t ∈ Finset.range (s * n), F (s * b + t) := by
  induction n with
  | zero => rfl
  | succ n ih =>
    rw [Finset.sum_range_succ, ih, Nat.mul_succ, Finset.sum_range_add]
    refine congrArg _ (Finset.sum_congr rfl fun t _ => congrArg F (by ring))

/-- The gate's gradient after `n` of a sequence's `p` tiles of `s` rows. -/
def pbAt (s p : ℕ) (X P : ℕ → ℕ → EReal) (q n r k : ℕ) : EReal := if r = 0 then ∑ j ∈ Finset.range n, tl s (fun r => X r k * P r k) (p * q + j) else 0

section
variable (s p : ℕ) (X P : ℕ → ℕ → EReal)
theorem pbAt_zero (q r k : ℕ) : pbAt s p X P q 0 r k = 0 := by simp [pbAt]
theorem pbAt_1 (q n r k : ℕ) (h : 1 ≤ r) : pbAt s p X P q n r k = 0 := by unfold pbAt; rw [if_neg (by omega)]
theorem pbAt_row (q n k i : ℕ) (e : p * q + n = i) : pbAt s p X P q n 0 k + tl s (fun r => X r k * P r k) i = pbAt s p X P q (n + 1) 0 k := by
  simp [pbAt, Finset.sum_range_succ, e]
theorem pbAt_all (h : s * p = 4096) (q r k : ℕ) : pbAt s p X P q p r k = pb X P q r k := by
  unfold pbAt pb
  rw [sum_tl, h, ← Nat.mul_assoc, h]
end

/-! The logistic function, as the kernels write it and as the references do. -/
theorem lg_tanh (x : EReal) : ((1 / 2 : ℝ) : EReal) * Ideal.tanh (((1 / 2 : ℝ) : EReal) * x) + ((1 / 2 : ℝ) : EReal) = Ideal.logistic x := by
  have hp : (0 : ℝ) < 1 / 2 := by norm_num
  induction x with
  | bot => rw [EReal.coe_mul_bot_of_pos hp, Ideal.tanh_bot, Ideal.logistic_bot, ← EReal.coe_one, ← EReal.coe_neg, ← EReal.coe_mul, ← EReal.coe_add]; norm_num
  | top => rw [EReal.coe_mul_top_of_pos hp, Ideal.tanh_top, Ideal.logistic_top, ← EReal.coe_one, ← EReal.coe_mul, ← EReal.coe_add]; norm_num
  | coe r =>
    rw [← EReal.coe_mul, Ideal.tanh_coe, Ideal.logistic_coe, ← EReal.coe_mul, ← EReal.coe_add, EReal.coe_eq_coe_iff, Real.tanh_eq_sinh_div_cosh, Real.sinh_eq, Real.cosh_eq,
      show -r = -(1 / 2 * r) + -(1 / 2 * r) by ring, Real.exp_add, Real.exp_neg]
    have h := Real.exp_pos (1 / 2 * r)
    field_simp
    ring

theorem Rd.lg {s : Shape} {x : FVec Ideal s .bf16} {f : (Fin s.rank → ℕ) → EReal} (hx : Rd x f) :
    Rd (addf (mulf (broadcast s (Scalar.ofBits (F := Ideal) .bf16 0x3F00#16)) (tanh (mulf (broadcast s (Scalar.ofBits (F := Ideal) .bf16 0x3F00#16)) x)))
      (broadcast s (Scalar.ofBits (F := Ideal) .bf16 0x3F00#16))) fun c => Ideal.logistic (f c) := fun i => by
  show Ideal.ofBits .bf16 0x3F00#16 * Ideal.tanh (Ideal.ofBits .bf16 0x3F00#16 * x i) + Ideal.ofBits .bf16 0x3F00#16 = _
  rw [Consts.hhalf, hx i]
  exact lg_tanh _

theorem Rd.hlg {s : Shape} {x a b : FVec Ideal s .f32} {f : (Fin s.rank → ℕ) → EReal} (hx : Rd x f) (ha : Rd a fun _ => (1 : EReal)) (hb : Rd b fun _ => (1 : EReal)) :
    Rd (Host.divf a (addf b (Host.exp (Host.negf x)))) fun c => Ideal.logistic (f c) := fun i => by
  show Ideal.div (a i) (b i + Ideal.exp (-(x i))) = _
  rw [ha i, hb i, hx i]
  rfl

/-- A block of `s` rows. -/
abbrev bk (s i : ℕ) (F : ℕ → ℕ → EReal) : (Fin 2 → ℕ) → EReal := fun c => F (s * i + c 0) (c 1)

/-- A row that a sequence's tokens share. -/
theorem bseq {s p : ℕ} (hs : s * p = 4096) {x : (⟨2, ![1, 1024]⟩ : Shape).Idx → EReal} {i : ℕ} {F : ℕ → ℕ → EReal} (hx : Rd x (ln (F (i / p))))
    (h : (⟨2, ![1, 1024]⟩ : Shape).Broadcasts ⟨2, ![s, 1024]⟩) : Rd (broadcastTo ⟨2, ![s, 1024]⟩ x h) (bk s i fun r k => F (r / 4096) k) :=
  (hx.bcastTo h).congr fun c hc => by
    have b0 : c 0 < s := hc 0
    show F (i / p) _ = F _ _
    have e : (s * i + c 0) / s = i := by
      rw [Nat.mul_add_div (by omega), Nat.div_eq_of_lt b0, Nat.add_zero]
    rw [← hs, ← Nat.div_div_eq_div_mul, e]
    rfl

/-! Tokens numbered through both sequences, and by sequence. -/
section
variable {n : ℕ} {F : ℕ → ℕ → EReal}
theorem Rd.seq {x : (⟨2, ![8192, n]⟩ : Shape).Idx → EReal} (hx : Rd (s := ⟨2, ![8192, n]⟩) x fun c => F (c 0) (c 1)) (h : (⟨2, ![8192, n]⟩ : Shape).ShapeCasts ⟨3, ![2, 4096, n]⟩) :
    Rd (s := ⟨3, ![2, 4096, n]⟩) (shapeCast _ x h) fun c => F (4096 * c 0 + c 1) (c 2) := fun i => by
  have b0 : (i 0).val < 2 := (i 0).isLt
  have b1 : (i 1).val < 4096 := (i 1).isLt
  refine (shapeCast_apply x h i (ix2 ⟨4096 * (i 0).val + (i 1).val, by omega⟩ (i 2)) ?_).trans (hx _)
  rw [Shape.rowMajor_val_two, Shape.rowMajor_val_three]
  show (4096 * (i 0).val + (i 1).val) * n + (i 2).val = ((i 0).val * 4096 + (i 1).val) * n + (i 2).val
  rw [Nat.mul_comm 4096]

theorem Rd.unseq {x : (⟨3, ![2, 4096, n]⟩ : Shape).Idx → EReal} (hx : Rd (s := ⟨3, ![2, 4096, n]⟩) x fun c => F (4096 * c 0 + c 1) (c 2)) (h : (⟨3, ![2, 4096, n]⟩ : Shape).ShapeCasts ⟨2, ![8192, n]⟩) :
    Rd (s := ⟨2, ![8192, n]⟩) (shapeCast _ x h) fun c => F (c 0) (c 1) := fun i => by
  have b0 : (i 0).val < 8192 := (i 0).isLt
  have e : 4096 * ((i 0).val / 4096) + (i 0).val % 4096 = (i 0).val := Nat.div_add_mod _ _
  refine (shapeCast_apply x h i (ix3 ⟨(i 0).val / 4096, by omega⟩ ⟨(i 0).val % 4096, by omega⟩ (i 1)) ?_).trans ((hx _).trans ?_)
  · rw [Shape.rowMajor_val_two, Shape.rowMajor_val_three]
    show ((i 0).val / 4096 * 4096 + (i 0).val % 4096) * n + (i 1).val = (i 0).val * n + (i 1).val
    rw [Nat.mul_comm _ 4096, e]
  · show F (4096 * ((i 0).val / 4096) + (i 0).val % 4096) (i 1).val = F (i 0).val (i 1).val
    rw [e]
end

/-- A block written whole. -/
theorem st2 {sig : RefSig} {κ : Kind} {sp : Space} {d : Fin 2 → ℕ} {v : View sig κ sp ⟨2, d⟩ .bf16} {f : v.ty.Contents (Elt Ideal)}
    {inb : ∀ a, (![0, 0] : Fin 2 → ℕ) a + d a ≤ d a} {w : (Rect.unit (s := ⟨2, d⟩) ![0, 0] d inb).shape.Idx → Elt Ideal .bf16} {L : List (View.Piece (Elt Ideal) ⟨2, d⟩ .bf16)}
    {G : (Fin 2 → ℕ) → EReal} (hw : Rd (s := ⟨2, d⟩) w G) :
    Rd (s := ⟨2, d⟩) (v.read (Elt Ideal) (v.writes (Elt Ideal) f ((⟨Rect.unit ![0, 0] d inb, w⟩ : View.Piece (Elt Ideal) ⟨2, d⟩ .bf16) :: L))) G :=
  On.all (st16 (stW hw) (On.none fun c hc h => h.2 fun a => by
    have := hc a
    fin_cases a <;> simpa using this))

end Cert.Gate

end
-- ==== Proof.Fwd.lean ====
/- The forward pass's normed products and gated sums: what they are, and the readings their calls and references share. -/
module

public import proofs.«01_k».proof.Proof.Gate
public import proofs.«01_k».proof.Proof.RefBase

@[expose] public section

noncomputable section

namespace Cert.Fwd

open Idealize.ShloMosaic Cert.Rd Cert.Spec Cert.Gate

/-- A product over `n` inner columns. -/
def mm (n : ℕ) (X W : ℕ → ℕ → EReal) (r k : ℕ) : EReal := ∑ j ∈ Finset.range n, X r j * W j k
/-- The residual stream after a gated branch. -/
def res (n : ℕ) (R G X W : ℕ → ℕ → EReal) (r k : ℕ) : EReal := R r k + G (r / 4096) k * mm n X W r k
/-- The norm's input, gain, shift and scale; no gradient. -/
def nf (X : ℕ → ℕ → EReal) (g : ℕ → EReal) (sh sc : ℕ → ℕ → EReal) : Nb where
  dh _ _ := 0
  x := X
  dr _ _ := 0
  g := g
  sh := sh
  sc := sc

/-- The modulation, padded with two rows of zeros. -/
def mod (x : (⟨3, ![2, 6, 1024]⟩ : Shape).Idx → EReal) (q r k : ℕ) : EReal := if r < 6 then ar (s := ⟨3, ![2, 6, 1024]⟩) x ![q, r, k] else 0

theorem rd_mod (x : (⟨3, ![2, 6, 1024]⟩ : Shape).Idx → EReal) : Rd (s := ⟨3, ![2, 6, 1024]⟩) x fun k => mod x (k 0) (k 1) (k 2) := fun i => by
  have b : (i 1).val < 6 := (i 1).isLt
  refine (ar_of (s := ⟨3, ![2, 6, 1024]⟩) x i ![(i 0).val, (i 1).val, (i 2).val] fun a => match a with | ⟨0, _⟩ => rfl | ⟨1, _⟩ => rfl | ⟨2, _⟩ => rfl).trans ?_
  exact (if_pos b).symm

def padded (x : FVec Ideal ⟨3, ![2, 6, 1024]⟩ .f32) : FVec Ideal ⟨3, ![2, 8, 1024]⟩ .f32 :=
  pad ⟨3, ![2, 8, 1024]⟩ ![0, 0, 0] ![0, 2, 0] ![0, 0, 0] x (sitofp (F := Ideal) .f32 (constantI ⟨0, ![]⟩ 32 0#32)) (by decide) (by decide)

theorem rd_pad (x : FVec Ideal ⟨3, ![2, 6, 1024]⟩ .f32) : Rd (s := ⟨3, ![2, 8, 1024]⟩) (padded x) fun k => mod x (k 0) (k 1) (k 2) := by
  refine (Rf.padMid (m := 2) (n := 6) (k := 1024) (e := 8) (rd_mod x) 0 2
    (fun i => by show ((((0#32 : BitVec 32).toInt : ℝ)) : EReal) = _; simp; rfl) (by decide) (by decide)).congr fun k _ => ?_
  by_cases b : k 1 < 6
  · rw [if_pos ⟨Nat.zero_le _, by omega⟩]; rfl
  · rw [if_neg (by omega)]; exact (if_neg b).symm

/-- A block of the modulation holds one sequence's rows. -/
theorem rows (f : ℕ → ℕ → ℕ → EReal) {x : (⟨3, ![2, 8, 1024]⟩ : Shape).Idx} {y : (⟨3, ![1, 8, 1024]⟩ : Shape).Idx} {p : ℕ}
    (h0 : (x 0).val = p) (h1 : (x 1).val = (y 1).val) (h2 : (x 2).val = (y 2).val) : f (at' x 0) (at' x 1) (at' x 2) = f p (at' y 1) (at' y 2) :=
  Rf.cg3 f h0 h1 h2

/-! Blocks that a store leaves whole. -/
section
variable {d : Fin 2 → ℕ} {inb : ∀ a, (![0, 0] : Fin 2 → ℕ) a + d a ≤ d a} {G : (Fin 2 → ℕ) → EReal}

theorem whole {w : (⟨2, d⟩ : Shape).Idx → EReal} (hw : Rd (s := ⟨2, d⟩) w G) (x : (⟨2, d⟩ : Shape).Idx) :
    w x = G (at' ((Rect.unit (s := ⟨2, d⟩) ![0, 0] d inb).emb x)) :=
  (hw x).trans (congrArg G (funext fun a => by
    fin_cases a
    · show (x 0).val = 0 + 1 * (x 0).val; omega
    · show (x 1).val = 0 + 1 * (x 1).val; omega))

theorem cn16 {w : (Rect.unit (s := ⟨2, d⟩) ![0, 0] d inb).shape.Idx → Elt Ideal .bf16} (hw : Rd (s := ⟨2, d⟩) w G)
    (hc : ∀ y, ∃ pc ∈ ([⟨Rect.unit ![0, 0] d inb, w⟩] : List (View.Piece (Elt Ideal) ⟨2, d⟩ .bf16)), y ∈ pc.1.set) :
    Rd (s := ⟨2, d⟩) (View.canon [(⟨Rect.unit ![0, 0] d inb, w⟩ : View.Piece (Elt Ideal) ⟨2, d⟩ .bf16)]) G := fun i =>
  View.canon_apply_of_pieces (Val := Elt Ideal) (e := .bf16) (fun y => G (at' y)) _ (fun p hp x => by
    rcases List.mem_singleton.mp hp with rfl
    exact whole (d := d) (inb := inb) hw x) i (hc i)

theorem cn32 {w : (Rect.unit (s := ⟨2, d⟩) ![0, 0] d inb).shape.Idx → Elt Ideal .f32} (hw : Rd (s := ⟨2, d⟩) w G)
    (hc : ∀ y, ∃ pc ∈ ([⟨Rect.unit ![0, 0] d inb, w⟩] : List (View.Piece (Elt Ideal) ⟨2, d⟩ .f32)), y ∈ pc.1.set) :
    Rd (s := ⟨2, d⟩) (View.canon [(⟨Rect.unit ![0, 0] d inb, w⟩ : View.Piece (Elt Ideal) ⟨2, d⟩ .f32)]) G := fun i =>
  View.canon_apply_of_pieces (Val := Elt Ideal) (e := .f32) (fun y => G (at' y)) _ (fun p hp x => by
    rcases List.mem_singleton.mp hp with rfl
    exact whole (d := d) (inb := inb) hw x) i (hc i)
end

/-! What the calls compute of a tile of `s` rows, `p` tiles to a sequence. -/
section
variable {s p i : ℕ} {S : Nb} {x : FVec Ideal ⟨2, ![s, 1024]⟩ .f32} {g : FVec Ideal ⟨2, ![1, 1024]⟩ .f32} {a b : FVec Ideal ⟨3, ![1, 1, 1024]⟩ .f32}

/-- The norm of a tile. -/
theorem normed (hs : s * p = 4096) (h0 : 1 < s) (hx : Rd (s := ⟨2, ![s, 1024]⟩) x (bk s i S.x)) (hg : Rd (s := ⟨2, ![1, 1024]⟩) g (ln S.g))
    (ha : Rd (s := ⟨3, ![1, 1, 1024]⟩) a (ln3 (S.sc (i / p)))) (hb : Rd (s := ⟨3, ![1, 1, 1024]⟩) b (ln3 (S.sh (i / p))))
    (h1 : (⟨2, ![s, 1024]⟩ : Shape).Reduces [1] ⟨1, ![s]⟩) (h2 h3) (h4 : (⟨1, ![s]⟩ : Shape).ShapeCasts ⟨2, ![s, 1]⟩) (h5 : (⟨2, ![s, 1]⟩ : Shape).Broadcasts ⟨2, ![s, 1024]⟩)
    (h6 : (⟨2, ![1, 1024]⟩ : Shape).ShapeCasts ⟨2, ![1, 1024]⟩) (h7 : (⟨2, ![1, 1024]⟩ : Shape).Broadcasts ⟨2, ![s, 1024]⟩) (h8 : (⟨3, ![1, 1, 1024]⟩ : Shape).ShapeCasts ⟨2, ![1, 1024]⟩)
    (h9 : FTy.bf16.bits < FTy.f32.bits) (h10 : (⟨2, ![s, 1024]⟩ : Shape).ShapeCasts ⟨2, ![s, 1024]⟩) :
    Rd (s := ⟨2, ![s, 1024]⟩) (shapeCast ⟨2, ![s, 1024]⟩ (truncf .bf16 (addf (mulf (mulf (mulf x (broadcastTo ⟨2, ![s, 1024]⟩
      (rsqrt (addf (divf (shapeCast ⟨2, ![s, 1]⟩ (multiReduction .add [1] ⟨1, ![s]⟩ (mulf x x) 0x00000000#32 h1 h2 h3) h4) (broadcast ⟨2, ![s, 1]⟩ (Scalar.ofBits (F := Ideal) .f32 0x44800000#32)))
        (broadcast ⟨2, ![s, 1]⟩ (Scalar.ofBits (F := Ideal) .f32 0x358637BD#32)))) h5))
      (broadcastTo ⟨2, ![s, 1024]⟩ (shapeCast ⟨2, ![1, 1024]⟩ g h6) h7))
      (broadcastTo ⟨2, ![s, 1024]⟩ (addf (broadcast ⟨2, ![1, 1024]⟩ (Scalar.ofBits (F := Ideal) .f32 0x3F800000#32)) (shapeCast ⟨2, ![1, 1024]⟩ a h8)) h7))
      (broadcastTo ⟨2, ![s, 1024]⟩ (shapeCast ⟨2, ![1, 1024]⟩ b h8) h7)) h9) h10) (bk s i S.h) := by
  have q := Rd.ersqrt (φ := .f32) (Rd.addf (φ := .f32) (Rd.edivf (φ := .f32) (((hx.mulf hx).red1 0x00000000#32 h1 h2 h3).castCol h4)
    (Rd.splat f1024 : Rd (α := EReal) _ fun _ => ((1024 : ℝ) : EReal))) (Rd.splat Consts.feps : Rd (α := EReal) _ fun _ => (eps : EReal)))
  have q' := (q.bcastTo h5).congr (g := fun c => S.rs (s * i + c 0)) fun c _ => by
    show S.rs (s * i + if s = 1 then 0 else c 0) = _
    rw [if_neg (by omega)]
  have e := Rd.addf (φ := .f32) (Rd.splat (s := ⟨2, ![1, 1024]⟩) Consts.f1 : Rd (α := EReal) _ fun _ => ((1 : ℝ) : EReal)) (ha.castDrop h8)
  exact ((((((hx.mulf q').mulf ((hg.castSelf h6).bcastTo h7)).mulf (bseq (F := S.mo) hs e h7)).addf (bseq (F := S.sh) hs (hb.castDrop h8) h7)).truncf h9).castSelf h10 :)
end

/-! What the references compute of both sequences. -/
section
variable {F : ℕ → ℕ → EReal} {M : ℕ → ℕ → ℕ → EReal}

theorem row {x : (⟨3, ![2, 6, 1024]⟩ : Shape).Idx → EReal} (hx : Rd (s := ⟨3, ![2, 6, 1024]⟩) x fun c => M (c 0) (c 1) (c 2)) (q : ℕ)
    (h : (⟨3, ![2, 6, 1024]⟩ : Shape).Slices ![0, q, 0] ⟨3, ![2, 1, 1024]⟩) (h' : (⟨3, ![2, 1, 1024]⟩ : Shape).ShapeCasts ⟨2, ![2, 1024]⟩) :
    Rd (s := ⟨2, ![2, 1024]⟩) (shapeCast ⟨2, ![2, 1024]⟩ (extractStridedSlice ⟨3, ![2, 1, 1024]⟩ ![0, q, 0] x h) h') fun c => M (c 0) q (c 1) := fun i => by
  refine (shapeCast_apply _ h' i (ix3 (i 0) ⟨0, Nat.one_pos⟩ (i 1)) ?_).trans ((hx.slice ![0, q, 0] h _).trans ?_)
  · rw [Shape.rowMajor_val_two, Shape.rowMajor_val_three]
    show ((i 0).val * 1 + 0) * 1024 + (i 1).val = (i 0).val * 1024 + (i 1).val
    omega
  · show M (0 + (i 0).val) (q + 0) (0 + (i 1).val) = M (i 0).val q (i 1).val
    rw [Nat.zero_add, Nat.zero_add, Nat.add_zero]

theorem up1 {x : (⟨2, ![2, 1024]⟩ : Shape).Idx → EReal} (hx : Rd (s := ⟨2, ![2, 1024]⟩) x fun c => F (c 0) (c 1)) (h : (⟨2, ![2, 1024]⟩ : Shape).BroadcastsInDim ⟨3, ![2, 1, 1024]⟩ ![0, 2]) :
    Rd (s := ⟨3, ![2, 1, 1024]⟩) (broadcastInDim ⟨3, ![2, 1, 1024]⟩ ![0, 2] h x) fun c => F (c 0) (c 2) := fun i =>
  (broadcastInDim_apply _ h x i (ix2 (i 0) (i 2)) fun a => match a with | ⟨0, _⟩ => rfl | ⟨1, _⟩ => rfl).trans (hx _)

theorem seq1 {x : (⟨3, ![2, 1, 1024]⟩ : Shape).Idx → EReal} (hx : Rd (s := ⟨3, ![2, 1, 1024]⟩) x fun c => F (c 0) (c 2))
    (h : (⟨3, ![2, 1, 1024]⟩ : Shape).BroadcastsInDim ⟨3, ![2, 4096, 1024]⟩ ![0, 1, 2]) :
    Rd (s := ⟨3, ![2, 4096, 1024]⟩) (broadcastInDim ⟨3, ![2, 4096, 1024]⟩ ![0, 1, 2] h x) fun c => F ((4096 * c 0 + c 1) / 4096) (c 2) := fun i => by
  have b : (i 1).val < 4096 := (i 1).isLt
  refine (broadcastInDim_apply _ h x i (ix3 (i 0) ⟨0, Nat.one_pos⟩ (i 2)) fun a => match a with | ⟨0, _⟩ => rfl | ⟨1, _⟩ => rfl | ⟨2, _⟩ => rfl).trans ((hx _).trans ?_)
  show F (i 0).val (i 2).val = F ((4096 * (i 0).val + (i 1).val) / 4096) (i 2).val
  rw [show (4096 * (i 0).val + (i 1).val) / 4096 = (i 0).val by omega]

theorem col1 {f : ℕ → EReal} {x : (⟨2, ![2, 4096]⟩ : Shape).Idx → EReal} (hx : Rd (s := ⟨2, ![2, 4096]⟩) x fun c => f (4096 * c 0 + c 1))
    (h : (⟨2, ![2, 4096]⟩ : Shape).BroadcastsInDim ⟨3, ![2, 4096, 1]⟩ ![0, 1]) :
    Rd (s := ⟨3, ![2, 4096, 1]⟩) (broadcastInDim ⟨3, ![2, 4096, 1]⟩ ![0, 1] h x) fun c => f (4096 * c 0 + c 1) := fun i =>
  (broadcastInDim_apply _ h x i (ix2 (i 0) (i 1)) fun a => match a with | ⟨0, _⟩ => rfl | ⟨1, _⟩ => rfl).trans (hx _)

theorem cols {f : ℕ → EReal} {x : (⟨3, ![2, 4096, 1]⟩ : Shape).Idx → EReal} (hx : Rd (s := ⟨3, ![2, 4096, 1]⟩) x fun c => f (4096 * c 0 + c 1))
    (h : (⟨3, ![2, 4096, 1]⟩ : Shape).BroadcastsInDim ⟨3, ![2, 4096, 1024]⟩ ![0, 1, 2]) :
    Rd (s := ⟨3, ![2, 4096, 1024]⟩) (broadcastInDim ⟨3, ![2, 4096, 1024]⟩ ![0, 1, 2] h x) fun c => f (4096 * c 0 + c 1) := fun i =>
  (broadcastInDim_apply _ h x i (ix3 (i 0) (i 1) ⟨0, Nat.one_pos⟩) fun a => match a with | ⟨0, _⟩ => rfl | ⟨1, _⟩ => rfl | ⟨2, _⟩ => rfl).trans (hx _)

theorem gain {f : ℕ → EReal} {x : (⟨1, ![1024]⟩ : Shape).Idx → EReal} (hx : Rd (s := ⟨1, ![1024]⟩) x fun c => f (c 0)) (h : (⟨1, ![1024]⟩ : Shape).BroadcastsInDim ⟨3, ![1, 1, 1024]⟩ ![2])
    (h' : (⟨3, ![1, 1, 1024]⟩ : Shape).BroadcastsInDim ⟨3, ![2, 4096, 1024]⟩ ![0, 1, 2]) :
    Rd (s := ⟨3, ![2, 4096, 1024]⟩) (broadcastInDim ⟨3, ![2, 4096, 1024]⟩ ![0, 1, 2] h' (broadcastInDim ⟨3, ![1, 1, 1024]⟩ ![2] h x)) fun c => f (c 2) := fun i =>
  (broadcastInDim_apply _ h' _ i (ix3 ⟨0, Nat.one_pos⟩ ⟨0, Nat.one_pos⟩ (i 2)) fun a => match a with | ⟨0, _⟩ => rfl | ⟨1, _⟩ => rfl | ⟨2, _⟩ => rfl).trans
    ((broadcastInDim_apply _ h x _ (ValueIdx.ix1 (i 2)) fun a => match a with | ⟨0, _⟩ => rfl).trans (hx _))

theorem sums {x : FVec Ideal ⟨3, ![2, 4096, 1024]⟩ .f32} (hx : Rd (s := ⟨3, ![2, 4096, 1024]⟩) x fun c => F (4096 * c 0 + c 1) (c 2)) (h : (⟨3, ![2, 4096, 1024]⟩ : Shape).ReducesTo [2] ⟨2, ![2, 4096]⟩)
    (hu : 0 < (⟨0, ![]⟩ : Shape).numel) : Rd (s := ⟨2, ![2, 4096]⟩) (Host.reduceAdd x (constant (F := Ideal) ⟨0, ![]⟩ .f32 0x00000000#32) h hu) fun c => ∑ k ∈ Finset.range 1024, F (4096 * c 0 + c 1) k := by
  refine Rd.of_sum (K := 1024) hx Consts.f0 (idx := fun i k => ix3 (i 0) (i 1) k) (fun i => ?_) (fun c k => F (4096 * c 0 + c 1) k) fun i k => rfl
  simp only [Host.reduceAdd, Ideal.hostReduceAdd_def]
  rw [Ideal.hostReduceAdd_single h (by decide)]
  refine congrArg (_ + ·) (Finset.sum_congr rfl fun k _ => ?_)
  exact congrArg x (funext fun a => Fin.ext (by match a with | ⟨0, _⟩ => rfl | ⟨1, _⟩ => rfl | ⟨2, _⟩ => rfl))

variable {S : Nb} {x : FVec Ideal ⟨3, ![2, 4096, 1024]⟩ .f32} {g : FVec Ideal ⟨1, ![1024]⟩ .f32} {a b : FVec Ideal ⟨2, ![2, 1024]⟩ .f32}

/-- The norm of both sequences. -/
theorem hnormed (hx : Rd (s := ⟨3, ![2, 4096, 1024]⟩) x fun c => S.x (4096 * c 0 + c 1) (c 2)) (hg : Rd (s := ⟨1, ![1024]⟩) g fun c => S.g (c 0))
    (ha : Rd (s := ⟨2, ![2, 1024]⟩) a fun c => S.sc (c 0) (c 1)) (hb : Rd (s := ⟨2, ![2, 1024]⟩) b fun c => S.sh (c 0) (c 1))
    (h1 : (⟨3, ![2, 4096, 1024]⟩ : Shape).ReducesTo [2] ⟨2, ![2, 4096]⟩) (hu : 0 < (⟨0, ![]⟩ : Shape).numel) (h2 : (⟨2, ![2, 4096]⟩ : Shape).BroadcastsInDim ⟨3, ![2, 4096, 1]⟩ ![0, 1])
    (h3 : (⟨0, ![]⟩ : Shape).BroadcastsInDim ⟨3, ![2, 4096, 1]⟩ ![]) (h4 : (⟨3, ![2, 4096, 1]⟩ : Shape).BroadcastsInDim ⟨3, ![2, 4096, 1024]⟩ ![0, 1, 2])
    (h5 : (⟨1, ![1024]⟩ : Shape).BroadcastsInDim ⟨3, ![1, 1, 1024]⟩ ![2]) (h6 : (⟨3, ![1, 1, 1024]⟩ : Shape).BroadcastsInDim ⟨3, ![2, 4096, 1024]⟩ ![0, 1, 2])
    (h7 : (⟨0, ![]⟩ : Shape).BroadcastsInDim ⟨3, ![2, 1, 1024]⟩ ![]) (h8 : (⟨2, ![2, 1024]⟩ : Shape).BroadcastsInDim ⟨3, ![2, 1, 1024]⟩ ![0, 2])
    (h9 : (⟨3, ![2, 1, 1024]⟩ : Shape).BroadcastsInDim ⟨3, ![2, 4096, 1024]⟩ ![0, 1, 2]) :
    Rd (s := ⟨3, ![2, 4096, 1024]⟩) (addf (mulf (mulf (mulf x (broadcastInDim ⟨3, ![2, 4096, 1024]⟩ ![0, 1, 2] h4
      (Host.rsqrt (addf (Host.divf (broadcastInDim ⟨3, ![2, 4096, 1]⟩ ![0, 1] h2 (Host.reduceAdd (mulf x x) (constant (F := Ideal) ⟨0, ![]⟩ .f32 0x00000000#32) h1 hu))
        (broadcastInDim ⟨3, ![2, 4096, 1]⟩ ![] h3 (constant (F := Ideal) ⟨0, ![]⟩ .f32 0x44800000#32))) (broadcastInDim ⟨3, ![2, 4096, 1]⟩ ![] h3 (constant (F := Ideal) ⟨0, ![]⟩ .f32 0x358637BD#32))))))
      (broadcastInDim ⟨3, ![2, 4096, 1024]⟩ ![0, 1, 2] h6 (broadcastInDim ⟨3, ![1, 1, 1024]⟩ ![2] h5 g)))
      (broadcastInDim ⟨3, ![2, 4096, 1024]⟩ ![0, 1, 2] h9 (addf (broadcastInDim ⟨3, ![2, 1, 1024]⟩ ![] h7 (constant (F := Ideal) ⟨0, ![]⟩ .f32 0x3F800000#32)) (broadcastInDim ⟨3, ![2, 1, 1024]⟩ ![0, 2] h8 a))))
      (broadcastInDim ⟨3, ![2, 4096, 1024]⟩ ![0, 1, 2] h9 (broadcastInDim ⟨3, ![2, 1, 1024]⟩ ![0, 2] h8 b))) fun c => S.h (4096 * c 0 + c 1) (c 2) := by
  have v : Rd (s := ⟨3, ![2, 4096, 1]⟩) _ fun c => S.v (4096 * c 0 + c 1) :=
    Rd.addf (φ := .f32) (Rd.hedivf (col1 (f := fun r => ∑ k ∈ Finset.range 1024, S.x r k * S.x r k) (sums (F := fun r k => S.x r k * S.x r k) (hx.mulf hx) h1 hu) h2) (Rf.scal (fun _ => f1024) h3)) (Rf.scal (fun _ => Consts.feps) h3)
  have e := seq1 (F := S.mo) (Rd.addf (φ := .f32) (Rf.scal (fun _ => Consts.f1) h7) (up1 ha h8)) h9
  exact (((hx.mulf (cols (f := S.rs) (Rd.hersqrt v) h4)).mulf (gain hg h5 h6)).mulf e).addf (seq1 (F := S.sh) (up1 hb h8) h9)
end

end Cert.Fwd

end
-- ==== Proof.InArr.lean ====
/- The blocks of every grid point as the launch's arrays, and the kernel's four results after the launch, entry by entry. -/
module

public import proofs.«01_k».proof.Proof.InPoints
public import proofs.«01_k».proof.Proof.Fwd
public import Idealize.ShloMosaic.Lib.Pipeline.ValueKit

@[expose] public section

set_option maxRecDepth 16384

noncomputable section

namespace Cert.In

open Idealize.ShloMosaic Cert.Rd Cert.Spec Cert.Kernel2Ideal Cert.Kernel2Ideal.Gen Idealize.ShloMosaic.TcCoe Idealize.SL.Sem
open Idealize.ShloMosaic.Pipeline (Dat)

variable (m : (ℓ : Loc nD τ sig) → Buf (Elt Ideal) ℓ) (c : Dev nD)

/-! The launch's arrays. -/
def aZ (r k : ℕ) : EReal := ar (s := S8192x6144) (m ((c : Thread nD τ).loc main_arg0)) ![r, k]
def aW (r k : ℕ) : EReal := ar (s := S1024x6144) (m ((c : Thread nD τ).loc main_arg1)) ![r, k]
def ax (r k : ℕ) : EReal := ar (s := S8192x1024) (m ((c : Thread nD τ).loc main_arg2)) ![r, k]
def adr (r k : ℕ) : EReal := ar (s := S8192x1024) (m ((c : Thread nD τ).loc main_arg3)) ![r, k]
def ag (k : ℕ) : EReal := ar (s := S1024) (m ((c : Thread nD τ).loc main_arg4)) ![k]
def aM : ℕ → ℕ → ℕ → EReal := Fwd.mod (m ((c : Thread nD τ).loc main_arg5))
/-- The gradient of the norm over them. -/
abbrev S : Nb := nb (aZ m c) (aW m c) (ax m c) (adr m c) (ag m c) (aM m c)

theorem V_v0 : V m c main_v0 = Fwd.padded (m ((c : Thread nD τ).loc main_arg5)) := by
  entry_read
  rfl

theorem V_v1 : V m c main_v1 = shapeCast S1x1024 (m ((c : Thread nD τ).loc main_arg4)) shapeCasts_S1024_S1x1024 := by
  entry_read
  rfl

theorem rd_v1 : Rd (s := S1x1024) (V m c main_v1) (ln (ag m c)) := by
  rw [V_v1]
  exact (Cert.Rd.Rd.ar (s := S1024) (m ((c : Thread nD τ).loc main_arg4))).castRow shapeCasts_S1024_S1x1024 |>.congr fun _ _ => rfl

theorem rd_v0 : Rd (s := S2x8x1024) (V m c main_v0) fun k => aM m c (k 0) (k 1) (k 2) := by
  rw [V_v0]
  exact Fwd.rd_pad _

/-! Where the blocks lie. -/
theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![t.val, 0] := by decide +kernel
theorem at3 : ∀ t : Fin grid0.N, win0_3.index t = ![t.val, 0] := by decide +kernel
theorem at4 : ∀ t : Fin grid0.N, win0_4.index t = ![0, 0] := by decide +kernel
theorem at5 : ∀ t : Fin grid0.N, win0_5.index t = ![t.val / 8, 0, 0] := by decide +kernel
theorem at6 : ∀ t : Fin grid0.N, win0_6.index t = ![t.val, 0] := by decide +kernel
theorem at7 : ∀ t : Fin grid0.N, win0_7.index t = ![t.val, 0] := by decide +kernel
theorem at8 : ∀ t : Fin grid0.N, win0_8.index t = ![t.val / 8, 0, 0] := by decide +kernel

variable (t : Fin cfg0.N)

theorem blk0 : Rd (s := S512x6144) (iblk m c 0 t) (bk t.val (aZ m c)) := fun i => by
  refine (congrFun (V_main_arg0 m c) _).trans (ar_of (s := S8192x6144) _ _ _ fun a => ?_)
  match a with | ⟨0, _⟩ | ⟨1, _⟩ => blk_simp [at0]; simp; try omega

theorem blk1 : Rd (s := S1024x6144) (iblk m c 1 t) fun k => aW m c (k 0) (k 1) := fun i => by
  refine (congrFun (V_main_arg1 m c) _).trans (ar_of (s := S1024x6144) _ _ _ fun a => ?_)
  match a with | ⟨0, _⟩ | ⟨1, _⟩ => blk_simp [at1]; simp; try omega

theorem blk2 : Rd (s := S512x1024) (iblk m c 2 t) (bk t.val (ax m c)) := fun i => by
  refine (congrFun (V_main_arg2 m c) _).trans (ar_of (s := S8192x1024) _ _ _ fun a => ?_)
  match a with | ⟨0, _⟩ | ⟨1, _⟩ => blk_simp [at2]; simp; try omega

theorem blk3 : Rd (s := S512x1024) (iblk m c 3 t) (bk t.val (adr m c)) := fun i => by
  refine (congrFun (V_main_arg3 m c) _).trans (ar_of (s := S8192x1024) _ _ _ fun a => ?_)
  match a with | ⟨0, _⟩ | ⟨1, _⟩ => blk_simp [at3]; simp; try omega

theorem blk4 : Rd (s := S1x1024) (iblk m c 4 t) (ln (ag m c)) := fun i => by
  refine (rd_v1 m c _).trans (congrArg (ag m c) ?_)
  show ((win0_4.rect t).emb i 1).val = (i 1).val
  blk_simp [at4]; simp; try omega

theorem blk5 : Rd (s := S1x8x1024) (iblk m c 5 t) fun k => aM m c (t.val / 8) (k 1) (k 2) := fun i => by
  refine (rd_v0 m c _).trans (Fwd.rows (aM m c) ?_ ?_ ?_) <;> blk_simp [at5] <;> (try simp) <;> omega

theorem ins : Ins (aZ m c) (aW m c) (ax m c) (adr m c) (ag m c) (aM m c) t.val
    (iblk m c 0 t) (iblk m c 1 t) (iblk m c 2 t) (iblk m c 3 t) (iblk m c 4 t) (iblk m c 5 t) where
  hZ := blk0 m c t
  hW := blk1 m c t
  hx := blk2 m c t
  hdr := blk3 m c t
  hg := blk4 m c t
  hM := blk5 m c t

theorem points (n : ℕ) (h : n < cfg0.N) : n < 16 := h

theorem pb_all (q : ℕ) : ∀ (n : ℕ) (hn : 8 * q + n < cfg0.N), n < 8 →
    Rd (s := S1x8x1024) (outsAt0 m c (8 * q + n) hn).2.2.1 fun k => (S m c).pbAt q (n + 1) (k 1) (k 2)
  | 0, hn, _ => pb_Z m c ⟨8 * q + 0, hn⟩ (ins m c _) (by show (8 * q + 0) % 8 = 0; omega) (q := q) (n := 0) rfl rfl
  | n + 1, hn, h8 =>
    pb_B m c ⟨8 * q + (n + 1), hn⟩ (ins m c _) (by show ¬(8 * q + (n + 1)) % 8 = 0; omega) (q := q) (n := n + 1) rfl (pb_all q n (by omega) (by omega))

theorem pg_all : ∀ (n : ℕ) (hn : n < cfg0.N), Rd (s := S8x1024) (outsAt0 m c n hn).2.2.2 fun k => (S m c).pgAt (n + 1) (k 0) (k 1)
  | 0, hn => pg_A m c ⟨0, hn⟩ (ins m c _) rfl
  | n + 1, hn => by
    have h16 := points _ hn
    exact pg_S m c ⟨n + 1, hn⟩ (ins m c _) (by show ¬(n + 1) % 16 = 0; omega) (pg_all n (by omega))

/-! The arrays after the launch. -/
theorem dx_arr : Rd (s := S8192x1024) ((dats m 0 c).arrAt 6 cfg0.N) fun k => (S m c).dx (k 0) (k 1) := fun i => by
  refine (dats m 0 c).arrAt_forall_of_covers 6 (fun i v => v = (S m c).dx (i 0).val (i 1).val) (by decide +kernel) (fun t hf y => ?_) i
  rw [after0_6]
  refine (dx_point m c t (ins m c t) _).trans ?_
  refine congrArg₂ (S m c).dx ?_ ?_
  · blk_simp [at6]; simp; omega
  · blk_simp [at6]

theorem h_arr : Rd (s := S8192x1024) ((dats m 0 c).arrAt 7 cfg0.N) fun k => (S m c).h (k 0) (k 1) := fun i => by
  refine (dats m 0 c).arrAt_forall_of_covers 7 (fun i v => v = (S m c).h (i 0).val (i 1).val) (by decide +kernel) (fun t hf y => ?_) i
  rw [after0_7]
  refine (h_point m c t (ins m c t) _).trans ?_
  refine congrArg₂ (S m c).h ?_ ?_
  · blk_simp [at7]; simp; omega
  · blk_simp [at7]

theorem last8 : ∀ t : Fin cfg0.N, (cfg0.win 8).flush t = true → t.val % 8 = 7 := by decide +kernel

theorem pb_last (t : Fin cfg0.N) (h : t.val % 8 = 7) :
    Rd (s := S1x8x1024) (outsAt0 m c t.val t.isLt).2.2.1 fun k => (S m c).PB (t.val / 8) (k 1) (k 2) := by
  have e : ∀ (n : ℕ) (hn : n < cfg0.N) (_ : n = 8 * (t.val / 8) + 7), Rd (s := S1x8x1024) (outsAt0 m c n hn).2.2.1 fun k => (S m c).PB (t.val / 8) (k 1) (k 2) := by
    intro n hn en
    subst en
    exact (pb_all m c (t.val / 8) 7 hn (by omega)).congr fun k _ => (S m c).pbAt_8 _ _ _
  exact e t.val t.isLt (by omega)

theorem pb_arr : Rd (s := S2x8x1024) ((dats m 0 c).arrAt 8 cfg0.N) fun k => (S m c).PB (k 0) (k 1) (k 2) := fun i => by
  refine (dats m 0 c).arrAt_forall_of_covers 8 (fun i v => v = (S m c).PB (i 0).val (i 1).val (i 2).val) (by decide +kernel) (fun t hf y => ?_) i
  rw [after0_8]
  refine (pb_last m c t (last8 t hf) _).trans ?_
  refine Rf.cg3 (S m c).PB ?_ ?_ ?_
  · blk_simp [at8] <;> (try simp) <;> omega
  all_goals blk_simp [at8] <;> (try simp) <;> omega

theorem whole9 : ∃ t : Fin cfg0.N, t.val = 15 ∧ (cfg0.win 9).WholeAt t := ⟨⟨15, by decide⟩, rfl, by decide +kernel⟩

theorem pg_last (t : Fin cfg0.N) (ht : t.val = 15) : Rd (s := S8x1024) (outsAt0 m c t.val t.isLt).2.2.2 fun k => (S m c).PG (k 0) (k 1) := by
  have h := pg_all m c t.val t.isLt
  rw [show t.val + 1 = 16 by omega] at h
  exact h.congr fun k _ => (S m c).pgAt_16 _ _

theorem pg_arr : Rd (s := S8x1024) ((dats m 0 c).arrAt 9 cfg0.N) fun k => (S m c).PG (k 0) (k 1) := fun i => by
  obtain ⟨t, ht, hw⟩ := whole9
  refine ((dats m 0 c).arrAt_emb_eq_after_last 9 t hw i).trans ?_
  rw [after0_9]
  exact pg_last m c t ht i

end Cert.In

end
-- ==== Proof.NbRef.lean ====
/- What the references of the calls that end in a norm's gradient compute from the gradient of the normed stream: their values and the readings of these. -/
module

public import proofs.«01_k».proof.Proof.Fwd
public import proofs.«01_k».proof.Proof.Gen.Reference2Ideal.Read

@[expose] public section

set_option maxRecDepth 16384

noncomputable section

namespace Cert.NbRef

open Idealize.ShloMosaic Cert.Rd Cert.Spec Cert.Consts Cert.Rf Cert.Gate Cert.Fwd Cert.Reference2Ideal Cert.Reference2Ideal.Gen Cert.Reference2Ideal.Read

abbrev V (s : Shape) := FVec Ideal s .f32
abbrev T := V S2x4096x1024
abbrev cz : V S_ := constant (F := Ideal) S_ .f32 0x00000000#32
abbrev cn : V S2x4096x1 := broadcastInDim S2x4096x1 ![] bcast_S_S2x4096x1 (constant (F := Ideal) S_ .f32 0x44800000#32)

section Values
variable (x dh dr y : T) (g w : V S1024) (a b q : V S2x1024) (c : V S2x4096x1)

def ms : V S2x4096x1 := addf (Host.divf (broadcastInDim S2x4096x1 ![0, 1] bcast_S2x4096_S2x4096x1_0_1 (Host.reduceAdd (mulf x x) cz reducesTo_S2x4096x1024_S2x4096_d2 h_S_)) cn)
  (broadcastInDim S2x4096x1 ![] bcast_S_S2x4096x1 (constant (F := Ideal) S_ .f32 0x358637BD#32))
def rt : V S2x4096x1 := Host.rsqrt (ms x)
def cols : T := broadcastInDim S2x4096x1024 ![0, 1, 2] bcast_S2x4096x1_S2x4096x1024_0_1_2 c
def xh : T := mulf x (cols (rt x))
def gains : T := broadcastInDim S2x4096x1024 ![0, 1, 2] bcast_S1x1x1024_S2x4096x1024_0_1_2 (broadcastInDim S1x1x1024 ![2] bcast_S1024_S1x1x1024_2 g)
def an : T := mulf (xh x) (gains g)
def up : V S2x1x1024 := broadcastInDim S2x1x1024 ![0, 2] bcast_S2x1024_S2x1x1024_0_2 q
def mo : T := broadcastInDim S2x4096x1024 ![0, 1, 2] bcast_S2x1x1024_S2x4096x1024_0_1_2 (addf (broadcastInDim S2x1x1024 ![] bcast_S_S2x1x1024 (constant (F := Ideal) S_ .f32 0x3F800000#32)) (up a))
def h : T := addf (mulf (an x g) (mo a)) (broadcastInDim S2x4096x1024 ![0, 1, 2] bcast_S2x1x1024_S2x4096x1024_0_1_2 (up b))
def toks : V S2x1024 := Host.reduceAdd (shapeCast S2x1x1024 (Host.reduceAdd y cz reducesTo_S2x4096x1024_S2x1024_d1 h_S_) shapeCasts_S2x1024_S2x1x1024) cz reducesTo_S2x1x1024_S2x1024_d1 h_S_
def pb : V S2x8x1024 := concatenate S2x8x1024 1 [⟨S2x1x1024, up (toks dh)⟩, ⟨S2x1x1024, up (toks (mulf (an x g) dh))⟩, ⟨S2x6x1024, broadcastInDim S2x6x1024 ![] bcast_S_S2x6x1024 cz⟩]
  concatenates_S2x1x1024_S2x1x1024_S2x6x1024_S2x8x1024_d1
def dn : T := mulf dh (mo a)
def dg : V S1024 := Host.reduceAdd (shapeCast S1x1x1024 (Host.reduceAdd (mulf (xh x) (dn dh a)) cz reducesTo_S2x4096x1024_S1024_d0_1 h_S_) shapeCasts_S1024_S1x1x1024) cz reducesTo_S1x1x1024_S1024_d0_1 h_S_
def pg : V S8x1024 := concatenate S8x1024 0 [⟨S1x1024, broadcastInDim S1x1024 ![1] bcast_S1024_S1x1024_1 (dg x dh a)⟩, ⟨S7x1024, broadcastInDim S7x1024 ![] bcast_S_S7x1024 cz⟩]
  concatenates_S1x1024_S7x1024_S8x1024_d0
def dxh : T := mulf (dn dh a) (gains g)
def rc : V S2x4096x1 := Host.divf (mulf (shapeCast S2x4096x1 (Host.reduceAdd (mulf x (dxh dh g a)) cz reducesTo_S2x4096x1024_S2x4096_d2 h_S_) shapeCasts_S2x4096_S2x4096x1)
  (mulf (broadcastInDim S2x4096x1 ![] bcast_S_S2x4096x1 (constant (F := Ideal) S_ .f32 0xBF000000#32)) (Host.divf (rt x) (ms x)))) cn
def rcs : T := broadcastInDim S2x4096x1024 ![0, 1] bcast_S2x4096_S2x4096x1024_0_1 (Host.reduceAdd (rc x dh g a) cz reducesTo_S2x4096x1_S2x4096_d2 h_S_)
def dx : T := addf (addf (addf dr (mulf (dxh dh g a) (cols (rt x)))) (mulf x (rcs x dh g a))) (mulf (rcs x dh g a) x)
end Values

/-- A sum over one axis of three. -/
theorem sum1 {n : ℕ} {f : (Fin 3 → ℕ) → EReal} {x : V ⟨3, ![2, n, 1024]⟩} (hx : Rd (s := ⟨3, ![2, n, 1024]⟩) x f) (h : (⟨3, ![2, n, 1024]⟩ : Shape).ReducesTo [1] S2x1024)
    (hr : (⟨3, ![2, n, 1024]⟩ : Shape).Reduces [1] S2x1024) :
    Rd (s := S2x1024) (Host.reduceAdd x cz h h_S_) fun c => ∑ k ∈ Finset.range n, f ![c 0, k, c 1] := by
  refine Rd.of_sum (K := n) hx f0 (idx := fun i k => ix3 (i 0) k (i 1)) (fun i => ?_) (fun c k => f ![c 0, k, c 1]) fun i k => congrArg f (funext fun a => by match a with | ⟨0, _⟩ | ⟨1, _⟩ | ⟨2, _⟩ => rfl)
  simp only [Host.reduceAdd, Ideal.hostReduceAdd_def]
  rw [Ideal.hostReduceAdd_single h hr]
  refine congrArg (_ + ·) (Finset.sum_congr rfl fun k _ => ?_)
  exact congrArg x (funext fun a => Fin.ext (by match a with | ⟨0, _⟩ | ⟨1, _⟩ | ⟨2, _⟩ => rfl))

/-- A sum over all tokens, taken in the reference's two steps. -/
theorem chsum {F : ℕ → ℕ → EReal} {x : T} (hx : Rd x (tok F)) (h1 : S2x4096x1024.ReducesTo [0, 1] S1024) (h2 : S1024.ShapeCasts S1x1x1024) (h3 : S1x1x1024.ReducesTo [0, 1] S1024) :
    Rd (s := S1024) (Host.reduceAdd (shapeCast S1x1x1024 (Host.reduceAdd x cz h1 h_S_) h2) cz h3 h_S_) (vec fun c => ∑ r ∈ Finset.range 8192, F r c) := by
  have e1 := Rd.hred01 (m := 2) (n := 4096) (k := 1024) hx z0E h1 h_S_
  have e2 : Rd (s := S1x1x1024) (shapeCast S1x1x1024 (Host.reduceAdd x cz h1 h_S_) h2) (lane fun c => ∑ r ∈ Finset.range 8192, F r c) := fun i => by
    have b0 : (i 0).val < 1 := (i 0).isLt
    have b1 : (i 1).val < 1 := (i 1).isLt
    rw [shapeCast_apply _ h2 i (ValueIdx.ix1 (i 2)) (by
      rw [Shape.rowMajor_val_three, Shape.rowMajor_val_one]
      show (i 2).val = ((i 0).val * 1 + (i 1).val) * 1024 + (i 2).val; omega), e1 _]
    exact congrArg Emb.up (sum_tok fun r => F r (i 2).val)
  refine (Rd.hred01 (m := 1) (n := 1) (k := 1024) e2 z0E h3 h_S_).congr fun c _ => ?_
  simp only [Finset.sum_range_one]
  rfl

theorem rtoks {F : ℕ → ℕ → EReal} {y : T} (hy : Rd (s := S2x4096x1024) y (tok F)) : Rd (s := S2x1024) (toks y) fun c => ∑ t ∈ Finset.range 4096, F (4096 * c 0 + t) (c 1) := by
  have e : Rd (s := S2x1x1024) (shapeCast S2x1x1024 (Host.reduceAdd y cz reducesTo_S2x4096x1024_S2x1024_d1 h_S_) shapeCasts_S2x1024_S2x1x1024)
      fun c => ∑ t ∈ Finset.range 4096, F (4096 * c 0 + t) (c 2) := fun i => by
    have b1 : (i 1).val < 1 := (i 1).isLt
    refine (shapeCast_apply _ shapeCasts_S2x1024_S2x1x1024 i (ix2 (i 0) (i 2)) ?_).trans (sum1 hy _ (by decide) _)
    rw [Shape.rowMajor_val_three, Shape.rowMajor_val_two]
    show (i 0).val * 1024 + (i 2).val = ((i 0).val * 1 + (i 1).val) * 1024 + (i 2).val; omega
  exact (sum1 (n := 1) e _ (by decide)).congr fun c _ => Finset.sum_range_one _

section
variable {S : Nb} {x dh dr : T} {g : V S1024} {a b : V S2x1024}
variable (hx : Rd (s := S2x4096x1024) x (tok S.x)) (hg : Rd (s := S1024) g (vec S.g)) (ha : Rd (s := S2x1024) a fun c => S.sc (c 0) (c 1))
  (hd : Rd (s := S2x4096x1024) dh (tok S.dh))

include hx in
theorem rms : Rd (s := S2x4096x1) (ms x) (col S.v) :=
  (Rd.hedivf (col1 (f := fun r => ∑ k ∈ Finset.range 1024, S.x r k * S.x r k) (sums (F := fun r k => S.x r k * S.x r k) (hx.mulf hx) _ _) _) (scal (fun _ => f1024) _)).addf (scal (fun _ => feps) _)

include hx in
theorem rxh : Rd (s := S2x4096x1024) (xh x) (tok S.xh) := hx.mulf (Fwd.cols (f := S.rs) (Rd.hersqrt (rms hx)) _)

include hx hg in
theorem ran : Rd (s := S2x4096x1024) (an x g) (tok S.a) := (rxh hx).mulf (gain hg _ _)

include ha in
theorem rmo : Rd (s := S2x4096x1024) (mo a) (tok fun r => S.mo (r / 4096)) := seq1 (F := S.mo) ((scal (fun _ => f1) _).addf (up1 ha _)) _

include hx hg ha in
theorem rh (hb : Rd (s := S2x1024) b fun c => S.sh (c 0) (c 1)) : Rd (s := S2x4096x1024) (h x g a b) (tok S.h) :=
  ((ran hx hg).mulf (rmo ha)).addf (seq1 (F := S.sh) (up1 hb _) _)

include hx hg hd in
theorem rpb : Rd (s := S2x8x1024) (pb x dh g) (pln S.PB) := fun i => by
  have h : (i 1).val < 8 := (i 1).isLt
  have p := Rd.piece (n := 3) (e := ![2, 8, 1024]) (a := 1) (f := fun c => S.PB (c 0) (c 1) (c 2)) [⟨S2x1x1024, up (toks dh)⟩, ⟨S2x1x1024, up (toks (mulf (an x g) dh))⟩,
    ⟨S2x6x1024, broadcastInDim S2x6x1024 ![] bcast_S_S2x6x1024 cz⟩] concatenates_S2x1x1024_S2x1x1024_S2x6x1024_S2x8x1024_d1 i
  have z : ∀ n, ∀ b : Fin 3, b ≠ 1 → (![2, n, 1024] : Fin 3 → ℕ) b = (![2, 8, 1024] : Fin 3 → ℕ) b := fun n b hb => by
    match b with
    | ⟨0, _⟩ | ⟨2, _⟩ => rfl
    | ⟨1, _⟩ => exact absurd rfl hb
  by_cases c1 : (i 1).val < 1
  · exact p 0 (by show 0 < 3; omega) ![2, 1, 1024] _ rfl 0 rfl (z 1) (Nat.zero_le _) (by show _ < 0 + 1; omega) ((up1 (F := S.dsh) (rtoks hd) _).congr fun c hc => by
      have h : c 1 < 1 := hc 1
      show _ = S.PB (c 0) (0 + c 1) (c 2)
      rw [show 0 + c 1 = 0 by omega]; rfl)
  by_cases c2 : (i 1).val < 2
  · exact p 1 (by show 1 < 3; omega) ![2, 1, 1024] _ rfl 1 rfl (z 1) (by omega) (by show _ < 1 + 1; omega) ((up1 (F := S.dsc) (rtoks (F := fun r k => S.dh r k * S.a r k) (((ran hx hg).mulf hd).congr fun c _ => mul_comm _ _)) _).congr fun c hc => by
      have h : c 1 < 1 := hc 1
      show _ = S.PB (c 0) (1 + c 1) (c 2)
      rw [show 1 + c 1 = 1 by omega]; rfl)
  · exact p 2 (by show 2 < 3; omega) ![2, 6, 1024] _ rfl 2 rfl (z 6) (by omega) (by show _ < 2 + 6; omega) ((scal z0E _).congr fun c hc => by
      show _ = S.PB (c 0) (2 + c 1) (c 2)
      unfold Nb.PB; rw [if_neg (by omega), if_neg (by omega)])

include hx ha hd in
theorem rpg : Rd (s := S8x1024) (pg x dh a) fun c => S.PG (c 0) (c 1) := by
  have e : Rd (s := S1024) (dg x dh a) (vec S.dg) := chsum (F := fun r k => S.dn r k * S.xh r k) (((rxh hx).mulf (hd.mulf (rmo ha))).congr fun c _ => mul_comm _ _) _ _ _
  have e' : Rd (s := S1x1024) (broadcastInDim S1x1024 ![1] bcast_S1024_S1x1024_1 (dg x dh a)) fun c => S.dg (c 1) := fun i =>
    (broadcastInDim_apply _ _ _ i (ValueIdx.ix1 (i 1)) fun a => match a with | ⟨0, _⟩ => rfl).trans (e _)
  exact Rd.cat2 (n := 2) (a := 0) (d₁ := ![1, 1024]) (d₂ := ![7, 1024]) (e := ![8, 1024]) _ 1 rfl
    (e'.congr fun c hc => by have h : c 0 < 1 := hc 0; show _ = S.PG (c 0) (c 1); rw [show c 0 = 0 by omega]; rfl)
    ((scal z0E _).congr fun c hc => by show _ = S.PG (1 + c 0) (c 1); unfold Nb.PG; rw [if_neg (by omega)])

include hx hg ha hd in
theorem rdx (hr : Rd (s := S2x4096x1024) dr (tok S.dr)) : Rd (s := S2x4096x1024) (dx x dh dr g a) (tok S.dx) := by
  have d : Rd (s := S2x4096x1024) (dxh dh g a) (tok S.dxh) := (hd.mulf (rmo ha)).mulf (gain hg _ _)
  have s : Rd (s := S2x4096x1) (shapeCast S2x4096x1 (Host.reduceAdd (mulf x (dxh dh g a)) cz reducesTo_S2x4096x1024_S2x4096_d2 h_S_) shapeCasts_S2x4096_S2x4096x1)
      (col fun r => ∑ k ∈ Finset.range 1024, S.x r k * S.dxh r k) := fun i => by
    have b2 : (i 2).val < 1 := (i 2).isLt
    refine (shapeCast_apply _ shapeCasts_S2x4096_S2x4096x1 i (ix2 (i 0) (i 1)) ?_).trans (sums (F := fun r k => S.x r k * S.dxh r k) (hx.mulf d) _ _ _)
    rw [Shape.rowMajor_val_three, Shape.rowMajor_val_two]
    show (i 0).val * 4096 + (i 1).val = ((i 0).val * 4096 + (i 1).val) * 1 + (i 2).val; omega
  have c : Rd (s := S2x4096x1) (rc x dh g a) (col S.rc) := Rd.hedivf (s.mulf ((scal (fun _ => fmhalf) _).mulf (Rd.hedivf (Rd.hersqrt (rms hx)) (rms hx)))) (scal (fun _ => f1024) _)
  have e : Rd (s := S2x4096) (Host.reduceAdd (rc x dh g a) cz reducesTo_S2x4096x1_S2x4096_d2 h_S_) fun c => S.rc (4096 * c 0 + c 1) := fun i => by
    simp only [Host.reduceAdd, Ideal.hostReduceAdd_def]
    rw [Ideal.hostReduceAdd_single reducesTo_S2x4096x1_S2x4096_d2 (by decide)]
    exact (congrArg (_ + ·) (Fin.sum_univ_one _)).trans ((congrArg (· + _) f0).trans ((zero_add _).trans (c _)))
  have cs : Rd (s := S2x4096x1024) (rcs x dh g a) fun c => S.rc (4096 * c 0 + c 1) := fun i =>
    (broadcastInDim_apply _ _ _ i (ix2 (i 0) (i 1)) fun a => match a with | ⟨0, _⟩ => rfl | ⟨1, _⟩ => rfl).trans (e _)
  exact (((hr.addf (d.mulf (Fwd.cols (f := S.rs) (Rd.hersqrt (rms hx)) _))).addf (hx.mulf cs)).addf (cs.mulf hx)).congr fun c _ => S.dx_eq _ _
end

end Cert.NbRef

end
-- ==== Proof.InRef.lean ====
/- The readings of the reference's stages, from its arguments to its four results. -/
module

public import proofs.«01_k».proof.Proof.InPay
public import proofs.«01_k».proof.Proof.NbRef

@[expose] public section

set_option maxRecDepth 16384

noncomputable section

namespace Cert.InRef

open Idealize.ShloMosaic Cert.Rd Cert.Spec Cert.Consts Cert.Rf Cert.Gate Cert.Fwd Cert.In Cert.Reference2Ideal Cert.Reference2Ideal.Gen Cert.Reference2Ideal.Read

structure Args (Z W x dr : ℕ → ℕ → EReal) (g : ℕ → EReal) (M : ℕ → ℕ → ℕ → EReal) (x0 : (⟨S8192x6144, .bf16⟩ : BufTy).Contents (Elt Ideal))
    (x1 : (⟨S1024x6144, .bf16⟩ : BufTy).Contents (Elt Ideal)) (x2 x3 : (⟨S8192x1024, .f32⟩ : BufTy).Contents (Elt Ideal))
    (x4 : (⟨S1024, .f32⟩ : BufTy).Contents (Elt Ideal)) (x5 : (⟨S2x6x1024, .f32⟩ : BufTy).Contents (Elt Ideal)) : Prop where
  z : Rd (s := S8192x6144) x0 fun c => Z (c 0) (c 1)
  w : Rd (s := S1024x6144) x1 fun c => W (c 0) (c 1)
  x : Rd (s := S8192x1024) x2 fun c => x (c 0) (c 1)
  dr : Rd (s := S8192x1024) x3 fun c => dr (c 0) (c 1)
  g : Rd (s := S1024) x4 fun c => g (c 0)
  m : Rd (s := S2x6x1024) x5 fun c => M (c 0) (c 1) (c 2)

variable {Z W x dr : ℕ → ℕ → EReal} {g : ℕ → EReal} {M : ℕ → ℕ → ℕ → EReal} {x0 : (⟨S8192x6144, .bf16⟩ : BufTy).Contents (Elt Ideal)}
  {x1 : (⟨S1024x6144, .bf16⟩ : BufTy).Contents (Elt Ideal)} {x2 x3 : (⟨S8192x1024, .f32⟩ : BufTy).Contents (Elt Ideal)}
  {x4 : (⟨S1024, .f32⟩ : BufTy).Contents (Elt Ideal)} {x5 : (⟨S2x6x1024, .f32⟩ : BufTy).Contents (Elt Ideal)} (I : Args Z W x dr g M x0 x1 x2 x3 x4 x5)
include I

theorem x3d : Rd (s := S2x4096x1024) (val_main_v8 (F := Ideal) x2) (tok (nb Z W x dr g M).x) := Rd.seq I.x _

theorem sh2 : Rd (s := S2x1024) (val_main_v2 (F := Ideal) x5) fun c => (nb Z W x dr g M).sh (c 0) (c 1) := row I.m 0 _ _

theorem sc2 : Rd (s := S2x1024) (val_main_v4 (F := Ideal) x5) fun c => (nb Z W x dr g M).sc (c 0) (c 1) := row I.m 1 _ _

theorem v34 : Rd (s := S2x4096x1024) (val_main_v34 (F := Ideal) x0 x1) (tok (nb Z W x dr g M).dh) :=
  Rd.of_dot (Rd.seq (I.z.extf _) shapeCasts_S8192x6144_S2x4096x6144) (I.w.extf _) (val_main_v34_apply x0 x1) (fun c k => Z (4096*c 0+c 1) k * W (c 2) k) fun i k => rfl

theorem v68 : Rd (s := S2x8x1024) (val_main_v68 (F := Ideal) x0 x1 x2 x4) (pln (nb Z W x dr g M).PB) := NbRef.rpb (S := nb Z W x dr g M) (x3d I) I.g (v34 I)

theorem v71 : Rd (s := S8x1024) (val_main_v71 (F := Ideal) x0 x1 x2 x5) fun c => (nb Z W x dr g M).PG (c 0) (c 1) := NbRef.rpg (S := nb Z W x dr g M) (x3d I) (sc2 I) (v34 I)

theorem v72 : Rd (s := S8192x1024) (val_main_v72 (F := Ideal) x0 x1 x2 x3 x4 x5) fun c => (nb Z W x dr g M).dx (c 0) (c 1) :=
  Rd.unseq (NbRef.rdx (S := nb Z W x dr g M) (x3d I) I.g (sc2 I) (v34 I) (Rd.seq I.dr _)) _

theorem v74 : Rd (s := S8192x1024) (val_main_v74 (F := Ideal) x2 x4 x5) fun c => (nb Z W x dr g M).h (c 0) (c 1) :=
  (Rd.unseq (NbRef.rh (S := nb Z W x dr g M) (x3d I) I.g (sc2 I) (sh2 I)) shapeCasts_S2x4096x1024_S8192x1024).truncf _

end Cert.InRef

end
-- ==== Proof.InFinal.lean ====
/- The gradient of the input projection's input: the kernel's four results are the reference's. -/
module

public import proofs.«01_k».proof.Proof.InArr
public import proofs.«01_k».proof.Proof.InRef
public import proofs.«01_k».proof.Proof.Final

@[expose] public section

set_option maxRecDepth 16384

noncomputable section

namespace Cert.In

open Idealize.ShloMosaic Cert.Rd Cert.Spec Cert.Kernel2Ideal Cert.Kernel2Ideal.Gen Cert.Final Idealize.ShloMosaic.TcCoe Idealize.SL.Sem

theorem claim : Cert.algebraic_Kernel2Ideal_Reference2Ideal := fun m g m' g' _ hag => by
  have hi : ∀ c : Dev nD, InRef.Args (aZ m c) (aW m c) (ax m c) (adr m c) (ag m c) (aM m c)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5)) := fun c => by
    obtain ⟨h0, h1, h2, h3, h4, h5⟩ := hag c
    rw [h0, h1]
    rw [h2, h3]
    rw [h4, h5]
    exact {
      z := rd2 _
      w := rd2 _
      x := rd2 _
      dr := rd2 _
      g := rd1 _
      m := (rd3 (n := 2) (k := 6) (l := 1024) _).congr fun k hk => (if_pos (show k 1 < 6 from hk 1)).symm }
  refine ⟨fun c => (dats m 0 c).arrAt 6 cfg0.N, fun c => (dats m 0 c).arrAt 7 cfg0.N, fun c => (dats m 0 c).arrAt 8 cfg0.N, fun c => (dats m 0 c).arrAt 9 cfg0.N,
    Value.run_blocks m g, ?_⟩
  refine (θ_run Cert.Reference2Ideal.defs _ _).mono (fun r h c => ?_) (Cert.Reference2Ideal.Value.run (F := Ideal) m' g')
  obtain ⟨e0, e1, e2, e3, e⟩ := h c
  refine ⟨e0.trans ?_, e1.trans ?_, e2.trans ?_, e3.trans ?_, e⟩
  · exact (Cert.Reference2Ideal.Read.val_main_v72_eq m' c).trans
      (same (InRef.v72 (hi c)) (dx_arr m c) fun _ => rfl)
  · exact (Cert.Reference2Ideal.Read.val_main_v74_eq _ _ _).trans
      (same (InRef.v74 (hi c)) (h_arr m c) fun _ => rfl)
  · exact (Cert.Reference2Ideal.Read.val_main_v68_eq _ _ _ _).trans
      (same (InRef.v68 (hi c)) (pb_arr m c) fun _ => rfl)
  · exact (Cert.Reference2Ideal.Read.val_main_v71_eq _ _ _ _).trans
      (same (InRef.v71 (hi c)) (pg_arr m c) fun _ => rfl)

end Cert.In

end
-- ==== Proof.UpPay.lean ====
/- What a grid point of the gradient of the feed-forward network's first product computes of the blocks it loads. -/
module

public import proofs.«01_k».proof.Proof.NormRd
public import proofs.«01_k».proof.Proof.Gen.Kernel3Ideal.Skeleton

@[expose] public section

set_option maxRecDepth 16384

noncomputable section

namespace Cert.Up

open Idealize.ShloMosaic Cert.Rd Cert.Spec Cert.Kernel3Ideal Cert.Kernel3Ideal.Gen Idealize.ShloMosaic.TcCoe

/-- The gradient of the norm's output is the gradients of the product's two halves times the transposed weights; rows 3 and 4
    of the modulation are shift and scale. -/
def nb (A B W x dr : ℕ → ℕ → EReal) (g : ℕ → EReal) (M : ℕ → ℕ → ℕ → EReal) : Nb where
  dh r k := (∑ j ∈ Finset.range 2816, A r j * W k j) + ∑ j ∈ Finset.range 2816, B r j * W k (2816 + j)
  x := x
  dr := dr
  g := g
  sh q k := M q 3 k
  sc q k := M q 4 k

/-- The blocks of tile `i`. -/
structure Ins (A B W x dr : ℕ → ℕ → EReal) (g : ℕ → EReal) (M : ℕ → ℕ → ℕ → EReal) (i : ℕ) (x0 x1 : FVec Ideal S512x2816 .bf16)
    (x2 x3 : FVec Ideal S1024x2816 .bf16) (x4 x5 : FVec Ideal S512x1024 .f32) (x6 : FVec Ideal S1x1024 .f32)
    (x7 : FVec Ideal S1x8x1024 .f32) : Prop where
  hA : Rd (s := S512x2816) x0 (bk i A)
  hB : Rd (s := S512x2816) x1 (bk i B)
  hW : Rd (s := S1024x2816) x2 fun c => W (c 0) (c 1)
  hV : Rd (s := S1024x2816) x3 fun c => W (c 0) (2816 + c 1)
  hx : Rd (s := S512x1024) x4 (bk i x)
  hdr : Rd (s := S512x1024) x5 (bk i dr)
  hg : Rd (s := S1x1024) x6 (ln g)
  hM : Rd (s := S1x8x1024) x7 fun c => M (i / 8) (c 1) (c 2)

section
variable {A B W x dr : ℕ → ℕ → EReal} {g : ℕ → EReal} {M : ℕ → ℕ → ℕ → EReal} {i : ℕ}
  {v0 v3 : FVec Ideal S512x2816 .bf16} {v1 v4 : FVec Ideal S1024x2816 .bf16} {v7 v40 : FVec Ideal S512x1024 .f32} {v8 : FVec Ideal S1x1024 .f32}
  {v10 v45 : FVec Ideal S1x1x1024 .f32}
  (h0 : Rd (s := S512x2816) v0 (bk i A)) (h1 : Rd (s := S1024x2816) v1 fun c => W (c 0) (c 1))
  (h3 : Rd (s := S512x2816) v3 (bk i B)) (h4 : Rd (s := S1024x2816) v4 fun c => W (c 0) (2816 + c 1))
  (h7 : Rd (s := S512x1024) v7 (bk i x)) (h40 : Rd (s := S512x1024) v40 (bk i dr)) (h8 : Rd (s := S1x1024) v8 (ln g))
  (h10 : Rd (s := S1x1x1024) v10 (ln3 (M (i / 8) 4))) (h45 : Rd (s := S1x1x1024) v45 (ln3 (M (i / 8) 3)))

/-- A block times a transposed block. -/
theorem mm {v : FVec Ideal S512x2816 .bf16} {w : FVec Ideal S1024x2816 .bf16} {f g : (Fin 2 → ℕ) → EReal} (hv : Rd (s := S512x2816) v f) (hw : Rd (s := S1024x2816) w g) :
    Rd (s := S512x1024) (matmul (F := Ideal) dot_S512x2816_S1024x2816_S512x1024_1_1_0_0_n_n none v w (constant S512x1024 .f32 0x00000000#32))
      fun c => ∑ j ∈ Finset.range 2816, f ![c 0, j] * g ![c 1, j] :=
  (Rd.dot dot_S512x2816_S1024x2816_S512x1024_1_1_0_0_n_n none 2816 (fun c k => ![c 0, k]) (fun c k => ![c 1, k])
    hv hw
    (Rd.const Consts.f0 : Rd (α := EReal) _ fun _ => 0)).congr fun c _ => zero_add _

include h0 h1 h3 h4 in
theorem pay4 : Rd (s := S512x1024) (k0_pay4 (F := Ideal) v0 v1 v3 v4) (bk i (nb A B W x dr g M).dh) := (mm h0 h1).addf (mm h3 h4)

include h8 in
theorem pay5 : Rd (s := S1x1024) (k0_pay5 (F := Ideal) v8) (ln g) := h8.castSelf _

include h10 in
theorem pay6 : Rd (s := S1x1024) (k0_pay6 (F := Ideal) v10) (ln ((nb A B W x dr g M).mo (i / 8))) :=
  (Rd.splat (s := S1x1024) Consts.f1 : Rd (α := EReal) _ fun _ => ((1 : ℝ) : EReal)).addf (h10.castDrop shapeCasts_S1x1x1024_S1x1024)

include h7 in
theorem pay7 : Rd (s := S512x1) (k0_pay7 (F := Ideal) v7) (cl i (nb A B W x dr g M).rs) :=
  ((((((h7.mulf h7).red1 _ reduces_S512x1024_S512 (.inl rfl) rfl).castCol shapeCasts_S512_S512x1).edivf
    (Rd.splat f1024 : Rd (α := EReal) _ fun _ => ((1024 : ℝ) : EReal))).addf
    (Rd.splat Consts.feps : Rd (α := EReal) _ fun _ => (eps : EReal))).ersqrt :)

include h7 in
theorem pay8 : Rd (s := S512x1024) (k0_pay8 (F := Ideal) v7) (bk i (nb A B W x dr g M).xh) := h7.mulf (bcol (pay7 (A := A) (B := B) (W := W) (dr := dr) (g := g) (M := M) h7) broadcasts_S512x1_S512x1024)

include h7 h8 in
theorem pay9 : Rd (s := S512x1024) (k0_pay9 (F := Ideal) v7 v8) (bk i (nb A B W x dr g M).a) :=
  (pay8 (A := A) (B := B) (W := W) (dr := dr) (g := g) (M := M) h7).mulf (brow (pay5 h8) broadcasts_S1x1024_S512x1024)

include h0 h1 h3 h4 h10 in
theorem pay10 : Rd (s := S512x1024) (k0_pay10 (F := Ideal) v0 v1 v3 v4 v10) (bk i (nb A B W x dr g M).dn) :=
  (pay4 (x := x) (dr := dr) (g := g) (M := M) h0 h1 h3 h4).mulf
    (bseq (F := (nb A B W x dr g M).mo) (pay6 (A := A) (B := B) (W := W) (x := x) (dr := dr) (g := g) (M := M) h10) broadcasts_S1x1024_S512x1024)

include h0 h1 h3 h4 h8 h10 in
theorem pay11 : Rd (s := S512x1024) (k0_pay11 (F := Ideal) v0 v1 v3 v4 v8 v10) (bk i (nb A B W x dr g M).dxh) :=
  (pay10 (x := x) (dr := dr) (g := g) (M := M) h0 h1 h3 h4 h10).mulf (brow (pay5 h8) broadcasts_S1x1024_S512x1024)

include h0 h1 h3 h4 h7 h8 h10 h40 in
theorem pay13 : Rd (s := S512x1024) (k0_pay13 (F := Ideal) (k0_pay7 (F := Ideal) v7) (k0_pay8 (F := Ideal) v7) (k0_pay11 (F := Ideal) v0 v1 v3 v4 v8 v10)
    (k0_pay12 (F := Ideal) v0 v1 v3 v4 v7 v8 v10) v40) (bk i (nb A B W x dr g M).dx) := by
  have h29 := pay11 (x := x) (dr := dr) (g := g) (M := M) h0 h1 h3 h4 h8 h10
  have h23 := pay8 (A := A) (B := B) (W := W) (dr := dr) (g := g) (M := M) h7
  have h35 := bcol (F := fun r => Ideal.div (∑ j ∈ Finset.range 1024, (nb A B W x dr g M).dxh r j * (nb A B W x dr g M).xh r j) ((1024 : ℝ) : EReal))
    (Rd.edivf (φ := .f32) (((h29.mulf h23).red1 0x00000000#32 reduces_S512x1024_S512 (.inl rfl) rfl).castCol shapeCasts_S512_S512x1)
      (Rd.splat f1024 : Rd (α := EReal) _ fun _ => ((1024 : ℝ) : EReal))) broadcasts_S512x1_S512x1024
  exact h40.addf ((bcol (pay7 (A := A) (B := B) (W := W) (dr := dr) (g := g) (M := M) h7) broadcasts_S512x1_S512x1024).mulf (h29.esubf (h23.mulf h35)))

include h7 h8 h10 h45 in
theorem pay14 : Rd (s := S512x1024) (k0_pay14 (F := Ideal) (k0_pay6 (F := Ideal) v10) (k0_pay9 (F := Ideal) v7 v8) v45) (bk i (nb A B W x dr g M).h) :=
  ((pay9 (A := A) (B := B) (W := W) (dr := dr) (M := M) h7 h8).mulf
    (bseq (F := (nb A B W x dr g M).mo) (pay6 (A := A) (B := B) (W := W) (x := x) (dr := dr) (g := g) (M := M) h10) broadcasts_S1x1024_S512x1024)).addf
    (bseq (F := (nb A B W x dr g M).sh) (h45.castDrop shapeCasts_S1x1x1024_S1x1024) broadcasts_S1x1024_S512x1024)

/-! The rows that add up: each point adds its tile's column sums to what the row held. -/
variable {F : ℕ → EReal} {vo : FVec Ideal S1x1x1024 .f32} {vg : FVec Ideal S1x1024 .f32}

include h0 h1 h3 h4 in
theorem pay1 (ho : Rd (s := S1x1x1024) vo (ln3 F)) : Rd (s := S1x1x1024) (k0_pay1 (F := Ideal) (k0_pay4 (F := Ideal) v0 v1 v3 v4) (k0_pay17 (F := Ideal) vo)) (ln3 fun k => F k + Nb.tile (fun r => (nb A B W x dr g M).dh r k) i) :=
  (((ho.castDrop shapeCasts_S1x1x1024_S1x1024).addf
    (((pay4 (x := x) (dr := dr) (g := g) (M := M) h0 h1 h3 h4).red0 0x00000000#32 reduces_S512x1024_S1024 (.inl rfl) rfl).castRow
      shapeCasts_S1024_S1x1024)).castAdd shapeCasts_S1x1024_S1x1x1024 :)

include h0 h1 h3 h4 h7 h8 in
theorem pay2 (ho : Rd (s := S1x1x1024) vo (ln3 F)) :
    Rd (s := S1x1x1024) (k0_pay2 (F := Ideal) (k0_pay4 (F := Ideal) v0 v1 v3 v4) (k0_pay9 (F := Ideal) v7 v8) vo) (ln3 fun k => F k + Nb.tile (fun r => (nb A B W x dr g M).dh r k * (nb A B W x dr g M).a r k) i) :=
  (((ho.castDrop shapeCasts_S1x1x1024_S1x1024).addf
    ((((pay4 (x := x) (dr := dr) (g := g) (M := M) h0 h1 h3 h4).mulf (pay9 (A := A) (B := B) (W := W) (dr := dr) (M := M) h7 h8)).red0 0x00000000#32
      reduces_S512x1024_S1024 (.inl rfl) rfl).castRow shapeCasts_S1024_S1x1024)).castAdd shapeCasts_S1x1024_S1x1x1024 :)

include h0 h1 h3 h4 h7 h10 in
theorem pay3 (ho : Rd (s := S1x1024) vg (ln F)) :
    Rd (s := S1x1024) (k0_pay3 (F := Ideal) (k0_pay8 (F := Ideal) v7) (k0_pay10 (F := Ideal) v0 v1 v3 v4 v10) vg) (ln fun k => F k + Nb.tile (fun r => (nb A B W x dr g M).dn r k * (nb A B W x dr g M).xh r k) i) :=
  ((ho.castSelf shapeCasts_S1x1024_S1x1024).addf
    ((((pay10 (x := x) (dr := dr) (g := g) (M := M) h0 h1 h3 h4 h10).mulf (pay8 (A := A) (B := B) (W := W) (dr := dr) (g := g) (M := M) h7)).red0 0x00000000#32
      reduces_S512x1024_S1024 (.inl rfl) rfl).castRow shapeCasts_S1024_S1x1024) :)
end

end Cert.Up

end
-- ==== Proof.UpPoints.lean ====
/- The contents of the four results' staging blocks after each grid point. -/
module

public import proofs.«01_k».proof.Proof.UpPay
public import proofs.«01_k».proof.Proof.Gen.Kernel3Ideal.Value
public import Idealize.ShloMosaic.Lib.Pipeline.ReadBack

@[expose] public section

set_option maxRecDepth 16384
set_option maxHeartbeats 1000000

noncomputable section

namespace Cert.Up

open Idealize.ShloMosaic Cert.Rd Cert.Spec Cert.Kernel3Ideal Cert.Kernel3Ideal.Gen Idealize.ShloMosaic.TcCoe Idealize.SL.Sem

section Stores
variable {A B W x dr : ℕ → ℕ → EReal} {g : ℕ → EReal} {M : ℕ → ℕ → ℕ → EReal} {i : ℕ} {x0 x1 : FVec Ideal S512x2816 .bf16}
  {x2 x3 : FVec Ideal S1024x2816 .bf16} {x4 x5 : FVec Ideal S512x1024 .f32} {x6 : FVec Ideal S1x1024 .f32} {x7 : FVec Ideal S1x8x1024 .f32}
  (h : Ins A B W x dr g M i x0 x1 x2 x3 x4 x5 x6 x7)
include h

def Ins.l0 := ldW h.hA inb_S512x2816_S512x2816_0_0
def Ins.l3 := ldW h.hB inb_S512x2816_S512x2816_0_0
def Ins.l1 := ldW (f := fun c => W (c 0) (c 1)) h.hW inb_S1024x2816_S1024x2816_0_0
def Ins.l4 := ldW (f := fun c => W (c 0) (2816 + c 1)) h.hV inb_S1024x2816_S1024x2816_0_0
def Ins.l7 := ldW h.hx inb_S512x1024_S512x1024_0_0
def Ins.l40 := ldW h.hdr inb_S512x1024_S512x1024_0_0
def Ins.l8 := ldW h.hg inb_S1x1024_S1x1024_0_0
def Ins.l10 := ldR3 (P := M (i / 8)) h.hM 4 inb_S1x8x1024_S1x1x1024_0_4_0
def Ins.l45 := ldR3 (P := M (i / 8)) h.hM 3 inb_S1x8x1024_S1x1x1024_0_3_0

def Ins.dx := pay13 h.l0 h.l1 h.l3 h.l4 h.l7 h.l40 h.l8 h.l10
def Ins.ho := pay14 (A := A) (B := B) (W := W) (dr := dr) h.l7 h.l8 h.l10 h.l45

variable {q n : ℕ} (e : 8 * q + n = i) {p : FVec Ideal S1x8x1024 .f32} (hp : Rd (s := S1x8x1024) p fun c => (nb A B W x dr g M).pbAt q n (c 1) (c 2))
  {u : FVec Ideal S8x1024 .f32} (hu : Rd (s := S8x1024) u fun c => (nb A B W x dr g M).pgAt i (c 0) (c 1))
def Ins.row0 := stR3 (pay1 (x := x) (dr := dr) (g := g) (M := M) h.l0 h.l1 h.l3 h.l4
  (ldR3 (P := fun r k => (nb A B W x dr g M).pbAt q n r k) hp 0 inb_S1x8x1024_S1x1x1024_0_0_0)) ((nb A B W x dr g M).pbAt q (n + 1)) 0
  fun k => (nb A B W x dr g M).pbAt_row0 q n k i e
def Ins.row1 := stR3 (pay2 (dr := dr) (M := M) h.l0 h.l1 h.l3 h.l4 h.l7 h.l8
  (ldR3 (P := fun r k => (nb A B W x dr g M).pbAt q n r k) hp 1 inb_S1x8x1024_S1x1x1024_0_1_0)) ((nb A B W x dr g M).pbAt q (n + 1)) 1
  fun k => (nb A B W x dr g M).pbAt_row1 q n k i e
def Ins.row := stR2 (pay3 (dr := dr) (g := g) h.l0 h.l1 h.l3 h.l4 h.l7 h.l10
  (ldR2 (P := fun r k => (nb A B W x dr g M).pgAt i r k) hu 0 inb_S8x1024_S1x1024_0_0)) ((nb A B W x dr g M).pgAt (i + 1)) 0
  fun k => (nb A B W x dr g M).pgAt_row0 i k
end Stores

theorem zero8 (S : Nb) (q : ℕ) {n : ℕ} (hn : n = 0) : Rd (s := S1x8x1024) (k0_pay15 (F := Ideal)) fun c => S.pbAt q n (c 1) (c 2) := by
  rw [hn]
  exact zeros' fun c => S.pbAt_zero _ _ _
theorem zero9 (S : Nb) {n : ℕ} (hn : n = 0) : Rd (s := S8x1024) (k0_pay16 (F := Ideal)) fun c => S.pgAt n (c 0) (c 1) := by
  rw [hn]
  exact zeros' fun c => S.pgAt_zero _ _

/-- The three kinds of points. -/
theorem cases3 (t : Fin cfg0.N) : (t.val % 8 = 0 ∧ t.val % 16 = 0) ∨ (¬t.val % 8 = 0 ∧ ¬t.val % 16 = 0) ∨ (t.val % 8 = 0 ∧ ¬t.val % 16 = 0) := by omega

section Point
variable (m : (ℓ : Loc nD τ sig) → Buf (Elt Ideal) ℓ) (c : Dev nD) (t : Fin cfg0.N) {A B W x dr : ℕ → ℕ → EReal} {g : ℕ → EReal}
  {M : ℕ → ℕ → ℕ → EReal} (h : Ins A B W x dr g M t.val (iblk m c 0 t) (iblk m c 1 t) (iblk m c 2 t) (iblk m c 3 t) (iblk m c 4 t) (iblk m c 5 t) (iblk m c 6 t) (iblk m c 7 t))
include h

theorem dx_point : Rd (s := S512x1024) (outsAt0 m c t.val t.isLt).1 (bk t.val (nb A B W x dr g M).dx) := by
  rcases cases3 t with ⟨h0, h1⟩ | ⟨h0, h1⟩ | ⟨h0, h1⟩
  all_goals
    first
    | rw [outsAt0_A m c t h0 h1]; dsimp only; unfold out0_A_8 kernelRun0_A
    | rw [outsAt0_B m c t h0 h1]; dsimp only; unfold out0_B_8 kernelRun0_B
    | rw [outsAt0_C m c t h0 h1]; dsimp only; unfold out0_C_8 kernelRun0_C
    dsimp only
    sl_unfold_words
    simp (disch := decide) only [↓View.readCov_skip, View.readCov_fill, View.readAt_eq_ld, Memref.IsWhole.read_unread]
    exact full32 h.dx

theorem h_point : Rd (s := S512x1024) (outsAt0 m c t.val t.isLt).2.1 (bk t.val (nb A B W x dr g M).h) := by
  rcases cases3 t with ⟨h0, h1⟩ | ⟨h0, h1⟩ | ⟨h0, h1⟩
  all_goals
    first
    | rw [outsAt0_A m c t h0 h1]; dsimp only; unfold out0_A_9 kernelRun0_A
    | rw [outsAt0_B m c t h0 h1]; dsimp only; unfold out0_B_9 kernelRun0_B
    | rw [outsAt0_C m c t h0 h1]; dsimp only; unfold out0_C_9 kernelRun0_C
    dsimp only
    sl_unfold_words
    simp (disch := decide) only [↓View.readCov_skip, View.readCov_fill, View.readAt_eq_ld, Memref.IsWhole.read_unread]
    exact full16 h.ho

theorem pb_Z (h0 : t.val % 8 = 0) {q n : ℕ} (e : 8 * q + n = t.val) (hn : n = 0) :
    Rd (s := S1x8x1024) (outsAt0 m c t.val t.isLt).2.2.1 fun c => (nb A B W x dr g M).pbAt q (n + 1) (c 1) (c 2) := by
  by_cases h1 : t.val % 16 = 0
  all_goals
    first
    | rw [outsAt0_A m c t h0 h1]; dsimp only; unfold out0_A_10 kernelRun0_A
    | rw [outsAt0_C m c t h0 h1]; dsimp only; unfold out0_C_10 kernelRun0_C
    dsimp only
    sl_unfold_words
    simp (disch := decide) only [↓View.readCov_skip, View.readCov_fill, View.readAt_eq_ld, Memref.IsWhole.read_unread]
    refine On.all (st32 (h.row1 e (zero8 _ q hn)) (st32 (h.row0 e (zero8 _ q hn)) (rest3 (F := fun _ => 0) ?_ fun c b => ((nb A B W x dr g M).pbAt_2 _ _ _ _ b).symm)))
    rw [View.read_writes_junk_eq_canon, View.canon_cons_unit_lit _ _ _ (by decide)]
    exact zeros' fun c => rfl

theorem pb_B (h0 : ¬t.val % 8 = 0) {q n : ℕ} (e : 8 * q + n = t.val)
    (ho : Rd (s := S1x8x1024) (outsAt0 m c (t.val - 1) (by omega)).2.2.1 fun c => (nb A B W x dr g M).pbAt q n (c 1) (c 2)) :
    Rd (s := S1x8x1024) (outsAt0 m c t.val t.isLt).2.2.1 fun c => (nb A B W x dr g M).pbAt q (n + 1) (c 1) (c 2) := by
  rw [outsAt0_B m c t h0 (by omega)]
  dsimp only
  unfold out0_B_10 kernelRun0_B
  dsimp only
  sl_unfold_words
  simp (disch := decide) only [↓View.readCov_skip, View.readCov_fill, View.readAt_eq_ld, Memref.IsWhole.read_unread]
  refine On.all (st32 (h.row1 e ho) (st32 (h.row0 e ho) (rest3 (F := fun c => (nb A B W x dr g M).pbAt q n (c 1) (c 2)) ?_ fun c b => (Nb.pbAt_2 _ _ _ _ _ b).trans (Nb.pbAt_2 _ _ _ _ _ b).symm)))
  exact (hs0_10 t).read_unread _ ▸ ho

theorem pg_A (hn : t.val = 0) : Rd (s := S8x1024) (outsAt0 m c t.val t.isLt).2.2.2 fun c => (nb A B W x dr g M).pgAt (t.val + 1) (c 0) (c 1) := by
  rw [outsAt0_A m c t (by omega) (by omega)]
  dsimp only
  unfold out0_A_11 kernelRun0_A
  dsimp only
  sl_unfold_words
  simp (disch := decide) only [↓View.readCov_skip, View.readCov_fill, View.readAt_eq_ld, Memref.IsWhole.read_unread]
  refine On.all (st32 (h.row (zero9 _ hn)) (rest2 (F := fun _ => 0) ?_ fun c b => ((nb A B W x dr g M).pgAt_1 _ _ _ b).symm))
  rw [View.read_writes_junk_eq_canon, View.canon_cons_unit_lit _ _ _ (by decide)]
  exact zeros' fun c => rfl

theorem pg_S (h1 : ¬t.val % 16 = 0)
    (ho : Rd (s := S8x1024) (outsAt0 m c (t.val - 1) (by omega)).2.2.2 fun c => (nb A B W x dr g M).pgAt t.val (c 0) (c 1)) :
    Rd (s := S8x1024) (outsAt0 m c t.val t.isLt).2.2.2 fun c => (nb A B W x dr g M).pgAt (t.val + 1) (c 0) (c 1) := by
  by_cases h0 : t.val % 8 = 0
  all_goals
    first
    | rw [outsAt0_C m c t h0 h1]; dsimp only; unfold out0_C_11 kernelRun0_C
    | rw [outsAt0_B m c t h0 h1]; dsimp only; unfold out0_B_11 kernelRun0_B
    dsimp only
    sl_unfold_words
    simp (disch := decide) only [↓View.readCov_skip, View.readCov_fill, View.readAt_eq_ld, Memref.IsWhole.read_unread]
    refine On.all (st32 (h.row ho) (rest2 (F := fun c => (nb A B W x dr g M).pgAt t.val (c 0) (c 1)) ?_ fun c b => (Nb.pgAt_1 _ _ _ _ b).trans (Nb.pgAt_1 _ _ _ _ b).symm))
    exact (hs0_11 t).read_unread _ ▸ ho

end Point

end Cert.Up

end
-- ==== Proof.UpArr.lean ====
/- The blocks of every grid point as the launch's arrays, and the kernel's four results after the launch, entry by entry. -/
module

public import proofs.«01_k».proof.Proof.UpPoints
public import proofs.«01_k».proof.Proof.Fwd
public import Idealize.ShloMosaic.Lib.Pipeline.ValueKit

@[expose] public section

set_option maxRecDepth 16384

noncomputable section

namespace Cert.Up

open Idealize.ShloMosaic Cert.Rd Cert.Spec Cert.Kernel3Ideal Cert.Kernel3Ideal.Gen Idealize.ShloMosaic.TcCoe Idealize.SL.Sem
open Idealize.ShloMosaic.Pipeline (Dat)

variable (m : (ℓ : Loc nD τ sig) → Buf (Elt Ideal) ℓ) (c : Dev nD)

/-! The launch's arrays. -/
def aA (r k : ℕ) : EReal := ar (s := S8192x2816) (m ((c : Thread nD τ).loc main_arg0)) ![r, k]
def aB (r k : ℕ) : EReal := ar (s := S8192x2816) (m ((c : Thread nD τ).loc main_arg1)) ![r, k]
def aW (r k : ℕ) : EReal := ar (s := S1024x5632) (m ((c : Thread nD τ).loc main_arg2)) ![r, k]
def ax (r k : ℕ) : EReal := ar (s := S8192x1024) (m ((c : Thread nD τ).loc main_arg3)) ![r, k]
def adr (r k : ℕ) : EReal := ar (s := S8192x1024) (m ((c : Thread nD τ).loc main_arg4)) ![r, k]
def ag (k : ℕ) : EReal := ar (s := S1024) (m ((c : Thread nD τ).loc main_arg5)) ![k]
def aM : ℕ → ℕ → ℕ → EReal := Fwd.mod (m ((c : Thread nD τ).loc main_arg6))
/-- The gradient of the norm over them. -/
abbrev S : Nb := nb (aA m c) (aB m c) (aW m c) (ax m c) (adr m c) (ag m c) (aM m c)

theorem V_v0 : V m c main_v0 = Fwd.padded (m ((c : Thread nD τ).loc main_arg6)) := by
  entry_read
  rfl

theorem V_v1 : V m c main_v1 = shapeCast S1x1024 (m ((c : Thread nD τ).loc main_arg5)) shapeCasts_S1024_S1x1024 := by
  entry_read
  rfl

theorem rd_v1 : Rd (s := S1x1024) (V m c main_v1) (ln (ag m c)) := by
  rw [V_v1]
  exact (Cert.Rd.Rd.ar (s := S1024) (m ((c : Thread nD τ).loc main_arg5))).castRow shapeCasts_S1024_S1x1024 |>.congr fun _ _ => rfl

theorem rd_v0 : Rd (s := S2x8x1024) (V m c main_v0) fun k => aM m c (k 0) (k 1) (k 2) := by
  rw [V_v0]
  exact Fwd.rd_pad _

/-! Where the blocks lie. -/
theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![0, 0] := by decide +kernel
theorem at3 : ∀ t : Fin grid0.N, win0_3.index t = ![0, 1] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![0, 0] := by decide +kernel
theorem at7 : ∀ t : Fin grid0.N, win0_7.index t = ![t.val / 8, 0, 0] := by decide +kernel
theorem at8 : ∀ t : Fin grid0.N, win0_8.index t = ![t.val, 0] := by decide +kernel
theorem at9 : ∀ t : Fin grid0.N, win0_9.index t = ![t.val, 0] := by decide +kernel
theorem at10 : ∀ t : Fin grid0.N, win0_10.index t = ![t.val / 8, 0, 0] := by decide +kernel

variable (t : Fin cfg0.N)

theorem blk0 : Rd (s := S512x2816) (iblk m c 0 t) (bk t.val (aA m c)) := fun i => by
  refine (congrFun (V_main_arg0 m c) _).trans (ar_of (s := S8192x2816) _ _ _ fun a => ?_)
  match a with | ⟨0, _⟩ | ⟨1, _⟩ => blk_simp [at0] <;> (try simp) <;> omega

theorem blk1 : Rd (s := S512x2816) (iblk m c 1 t) (bk t.val (aB m c)) := fun i => by
  refine (congrFun (V_main_arg1 m c) _).trans (ar_of (s := S8192x2816) _ _ _ fun a => ?_)
  match a with | ⟨0, _⟩ | ⟨1, _⟩ => blk_simp [at1] <;> (try simp) <;> omega

theorem blk2 : Rd (s := S1024x2816) (iblk m c 2 t) fun k => aW m c (k 0) (k 1) := fun i => by
  refine (congrFun (V_main_arg2 m c) _).trans (ar_of (s := S1024x5632) _ _ _ fun a => ?_)
  match a with | ⟨0, _⟩ | ⟨1, _⟩ => blk_simp [at2] <;> (try simp) <;> omega

theorem blk3 : Rd (s := S1024x2816) (iblk m c 3 t) fun k => aW m c (k 0) (2816 + k 1) := fun i => by
  refine (congrFun (V_main_arg2 m c) _).trans (ar_of (s := S1024x5632) _ _ _ fun a => ?_)
  match a with | ⟨0, _⟩ | ⟨1, _⟩ => blk_simp [at3] <;> (try simp) <;> omega

theorem blk4 : Rd (s := S512x1024) (iblk m c 4 t) (bk t.val (ax m c)) := fun i => by
  refine (congrFun (V_main_arg3 m c) _).trans (ar_of (s := S8192x1024) _ _ _ fun a => ?_)
  match a with | ⟨0, _⟩ | ⟨1, _⟩ => blk_simp [at4] <;> (try simp) <;> omega

theorem blk5 : Rd (s := S512x1024) (iblk m c 5 t) (bk t.val (adr m c)) := fun i => by
  refine (congrFun (V_main_arg4 m c) _).trans (ar_of (s := S8192x1024) _ _ _ fun a => ?_)
  match a with | ⟨0, _⟩ | ⟨1, _⟩ => blk_simp [at5] <;> (try simp) <;> omega

theorem blk6 : Rd (s := S1x1024) (iblk m c 6 t) (ln (ag m c)) := fun i => by
  refine (rd_v1 m c _).trans (congrArg (ag m c) ?_)
  show ((win0_6.rect t).emb i 1).val = (i 1).val
  blk_simp [at6]; simp; try omega

theorem blk7 : Rd (s := S1x8x1024) (iblk m c 7 t) fun k => aM m c (t.val / 8) (k 1) (k 2) := fun i => by
  refine (rd_v0 m c _).trans (Fwd.rows (aM m c) ?_ ?_ ?_) <;> blk_simp [at7] <;> (try simp) <;> omega

theorem ins : Ins (aA m c) (aB m c) (aW m c) (ax m c) (adr m c) (ag m c) (aM m c) t.val
    (iblk m c 0 t) (iblk m c 1 t) (iblk m c 2 t) (iblk m c 3 t) (iblk m c 4 t) (iblk m c 5 t) (iblk m c 6 t) (iblk m c 7 t) where
  hA := blk0 m c t
  hB := blk1 m c t
  hW := blk2 m c t
  hV := blk3 m c t
  hx := blk4 m c t
  hdr := blk5 m c t
  hg := blk6 m c t
  hM := blk7 m c t

theorem points (n : ℕ) (h : n < cfg0.N) : n < 16 := h

theorem pb_all (q : ℕ) : ∀ (n : ℕ) (hn : 8 * q + n < cfg0.N), n < 8 →
    Rd (s := S1x8x1024) (outsAt0 m c (8 * q + n) hn).2.2.1 fun k => (S m c).pbAt q (n + 1) (k 1) (k 2)
  | 0, hn, _ => pb_Z m c ⟨8 * q + 0, hn⟩ (ins m c _) (by show (8 * q + 0) % 8 = 0; omega) (q := q) (n := 0) rfl rfl
  | n + 1, hn, h8 =>
    pb_B m c ⟨8 * q + (n + 1), hn⟩ (ins m c _) (by show ¬(8 * q + (n + 1)) % 8 = 0; omega) (q := q) (n := n + 1) rfl (pb_all q n (by omega) (by omega))

theorem pg_all : ∀ (n : ℕ) (hn : n < cfg0.N), Rd (s := S8x1024) (outsAt0 m c n hn).2.2.2 fun k => (S m c).pgAt (n + 1) (k 0) (k 1)
  | 0, hn => pg_A m c ⟨0, hn⟩ (ins m c _) rfl
  | n + 1, hn => by
    have h16 := points _ hn
    exact pg_S m c ⟨n + 1, hn⟩ (ins m c _) (by show ¬(n + 1) % 16 = 0; omega) (pg_all n (by omega))

/-! The arrays after the launch. -/
theorem dx_arr : Rd (s := S8192x1024) ((dats m 0 c).arrAt 8 cfg0.N) fun k => (S m c).dx (k 0) (k 1) := fun i => by
  refine (dats m 0 c).arrAt_forall_of_covers 8 (fun i v => v = (S m c).dx (i 0).val (i 1).val) (by decide +kernel) (fun t hf y => ?_) i
  rw [after0_8]
  refine (dx_point m c t (ins m c t) _).trans ?_
  refine congrArg₂ (S m c).dx ?_ ?_
  · blk_simp [at8]; simp; omega
  · blk_simp [at8]

theorem h_arr : Rd (s := S8192x1024) ((dats m 0 c).arrAt 9 cfg0.N) fun k => (S m c).h (k 0) (k 1) := fun i => by
  refine (dats m 0 c).arrAt_forall_of_covers 9 (fun i v => v = (S m c).h (i 0).val (i 1).val) (by decide +kernel) (fun t hf y => ?_) i
  rw [after0_9]
  refine (h_point m c t (ins m c t) _).trans ?_
  refine congrArg₂ (S m c).h ?_ ?_
  · blk_simp [at9]; simp; omega
  · blk_simp [at9]

theorem last10 : ∀ t : Fin cfg0.N, (cfg0.win 10).flush t = true → t.val % 8 = 7 := by decide +kernel

theorem pb_last (t : Fin cfg0.N) (h : t.val % 8 = 7) :
    Rd (s := S1x8x1024) (outsAt0 m c t.val t.isLt).2.2.1 fun k => (S m c).PB (t.val / 8) (k 1) (k 2) := by
  have e : ∀ (n : ℕ) (hn : n < cfg0.N) (_ : n = 8 * (t.val / 8) + 7), Rd (s := S1x8x1024) (outsAt0 m c n hn).2.2.1 fun k => (S m c).PB (t.val / 8) (k 1) (k 2) := by
    intro n hn en
    subst en
    exact (pb_all m c (t.val / 8) 7 hn (by omega)).congr fun k _ => (S m c).pbAt_8 _ _ _
  exact e t.val t.isLt (by omega)

theorem pb_arr : Rd (s := S2x8x1024) ((dats m 0 c).arrAt 10 cfg0.N) fun k => (S m c).PB (k 0) (k 1) (k 2) := fun i => by
  refine (dats m 0 c).arrAt_forall_of_covers 10 (fun i v => v = (S m c).PB (i 0).val (i 1).val (i 2).val) (by decide +kernel) (fun t hf y => ?_) i
  rw [after0_10]
  refine (pb_last m c t (last10 t hf) _).trans ?_
  refine Rf.cg3 (S m c).PB ?_ ?_ ?_
  · blk_simp [at10] <;> (try simp) <;> omega
  all_goals blk_simp [at10] <;> (try simp) <;> omega

theorem whole11 : ∃ t : Fin cfg0.N, t.val = 15 ∧ (cfg0.win 11).WholeAt t := ⟨⟨15, by decide⟩, rfl, by decide +kernel⟩

theorem pg_last (t : Fin cfg0.N) (ht : t.val = 15) : Rd (s := S8x1024) (outsAt0 m c t.val t.isLt).2.2.2 fun k => (S m c).PG (k 0) (k 1) := by
  have h := pg_all m c t.val t.isLt
  rw [show t.val + 1 = 16 by omega] at h
  exact h.congr fun k _ => (S m c).pgAt_16 _ _

theorem pg_arr : Rd (s := S8x1024) ((dats m 0 c).arrAt 11 cfg0.N) fun k => (S m c).PG (k 0) (k 1) := fun i => by
  obtain ⟨t, ht, hw⟩ := whole11
  refine ((dats m 0 c).arrAt_emb_eq_after_last 11 t hw i).trans ?_
  rw [after0_11]
  exact pg_last m c t ht i

end Cert.Up

end
-- ==== Proof.Halves.lean ====
/- Two rows side by side: as the sum of the two padded with zeros, and the sum of its products. -/
module

public import proofs.«01_k».proof.Proof.RefBase

@[expose] public section

set_option maxRecDepth 16384

noncomputable section

namespace Cert.Wg

/-- `a` up to `n`, then `b`. -/
def two (n : ℕ) (a b : ℕ → EReal) (k : ℕ) : EReal := if k < n then a k else b (k - n)

theorem two_lo {n : ℕ} {a b : ℕ → EReal} {k : ℕ} (h : k < n) : two n a b k = a k := if_pos h
theorem two_hi (n : ℕ) (a b : ℕ → EReal) (k : ℕ) : two n a b (n + k) = b k := by unfold two; rw [if_neg (by omega)]; congr 1; omega

theorem two_pad {n m : ℕ} {a b : ℕ → EReal} {k : ℕ} (h : k < n + m) :
    (if n ≤ k ∧ k < n + m then b (k - n) else 0) + (if 0 ≤ k ∧ k < 0 + n then a (k - 0) else 0) = two n a b k := by
  unfold two
  by_cases c : k < n
  · rw [if_neg (by omega), if_pos ⟨Nat.zero_le _, by omega⟩, if_pos c, zero_add]; rfl
  · rw [if_pos ⟨by omega, h⟩, if_neg (by omega), if_neg c, add_zero]

theorem sum_two (n m : ℕ) (a b w : ℕ → EReal) :
    ∑ k ∈ Finset.range (n + m), two n a b k * w k = (∑ k ∈ Finset.range n, a k * w k) + ∑ k ∈ Finset.range m, b k * w (n + k) := by
  rw [Finset.sum_range_add]
  exact congrArg₂ (· + ·) (Finset.sum_congr rfl fun k h => by rw [two_lo (Finset.mem_range.1 h)]) (Finset.sum_congr rfl fun k _ => by rw [two_hi])

end Cert.Wg

end
-- ==== Proof.UpRef.lean ====
/- The readings of the reference's stages, from its arguments to its four results. -/
module

public import proofs.«01_k».proof.Proof.UpPay
public import proofs.«01_k».proof.Proof.NbRef
public import proofs.«01_k».proof.Proof.Halves
public import proofs.«01_k».proof.Proof.Gen.Reference3Ideal.Read

@[expose] public section

set_option maxRecDepth 16384

noncomputable section

namespace Cert.UpRef

open Idealize.ShloMosaic Cert.Rd Cert.Spec Cert.Consts Cert.Rf Cert.Gate Cert.Fwd Cert.Up Cert.Wg Cert.Reference3Ideal Cert.Reference3Ideal.Gen Cert.Reference3Ideal.Read

structure Args (A B W x dr : ℕ → ℕ → EReal) (g : ℕ → EReal) (M : ℕ → ℕ → ℕ → EReal) (x0 x1 : (⟨S8192x2816, .bf16⟩ : BufTy).Contents (Elt Ideal))
    (x2 : (⟨S1024x5632, .bf16⟩ : BufTy).Contents (Elt Ideal)) (x3 x4 : (⟨S8192x1024, .f32⟩ : BufTy).Contents (Elt Ideal))
    (x5 : (⟨S1024, .f32⟩ : BufTy).Contents (Elt Ideal)) (x6 : (⟨S2x6x1024, .f32⟩ : BufTy).Contents (Elt Ideal)) : Prop where
  a : Rd (s := S8192x2816) x0 fun c => A (c 0) (c 1)
  b : Rd (s := S8192x2816) x1 fun c => B (c 0) (c 1)
  w : Rd (s := S1024x5632) x2 fun c => W (c 0) (c 1)
  x : Rd (s := S8192x1024) x3 fun c => x (c 0) (c 1)
  dr : Rd (s := S8192x1024) x4 fun c => dr (c 0) (c 1)
  g : Rd (s := S1024) x5 fun c => g (c 0)
  m : Rd (s := S2x6x1024) x6 fun c => M (c 0) (c 1) (c 2)

variable {A B W x dr : ℕ → ℕ → EReal} {g : ℕ → EReal} {M : ℕ → ℕ → ℕ → EReal} {x0 x1 : (⟨S8192x2816, .bf16⟩ : BufTy).Contents (Elt Ideal)}
  {x2 : (⟨S1024x5632, .bf16⟩ : BufTy).Contents (Elt Ideal)} {x3 x4 : (⟨S8192x1024, .f32⟩ : BufTy).Contents (Elt Ideal)}
  {x5 : (⟨S1024, .f32⟩ : BufTy).Contents (Elt Ideal)} {x6 : (⟨S2x6x1024, .f32⟩ : BufTy).Contents (Elt Ideal)} (I : Args A B W x dr g M x0 x1 x2 x3 x4 x5 x6)
include I

theorem x3d : Rd (s := S2x4096x1024) (val_main_v10 (F := Ideal) x3) (tok (nb A B W x dr g M).x) := Rd.seq I.x _

theorem sh2 : Rd (s := S2x1024) (val_main_v2 (F := Ideal) x6) fun c => (nb A B W x dr g M).sh (c 0) (c 1) := row I.m 3 _ _

theorem sc2 : Rd (s := S2x1024) (val_main_v4 (F := Ideal) x6) fun c => (nb A B W x dr g M).sc (c 0) (c 1) := row I.m 4 _ _

theorem v40 : Rd (s := S2x4096x5632) (val_main_v40 (F := Ideal) x0 x1) (fun c : Fin 3 → ℕ => two 2816 (A (4096*c 0+c 1)) (B (4096*c 0+c 1)) (c 2)) :=
  ((padCol (Rd.seq (I.b.extf _) shapeCasts_S8192x2816_S2x4096x2816) 2816 0 (fun _ => f0) _ _).addf (padCol (Rd.seq (I.a.extf _) shapeCasts_S8192x2816_S2x4096x2816) 0 2816 (fun _ => f0) _ _)).congr
    fun c hc => two_pad (n := 2816) (m := 2816) (a := A (4096*c 0+c 1)) (b := B (4096*c 0+c 1)) (hc 2)

theorem v41 : Rd (s := S2x4096x1024) (val_main_v41 (F := Ideal) x0 x1 x2) (tok (nb A B W x dr g M).dh) :=
  (Rd.of_dot (v40 I) (I.w.extf _) (val_main_v41_apply x0 x1 x2) (fun c k => two 2816 (A (4096*c 0+c 1)) (B (4096*c 0+c 1)) k * W (c 2) k) fun i k => rfl).congr fun c _ => sum_two 2816 2816 _ _ _

theorem v75 : Rd (s := S2x8x1024) (val_main_v75 (F := Ideal) x0 x1 x2 x3 x5) (pln (nb A B W x dr g M).PB) := NbRef.rpb (S := nb A B W x dr g M) (x3d I) I.g (v41 I)

theorem v78 : Rd (s := S8x1024) (val_main_v78 (F := Ideal) x0 x1 x2 x3 x6) fun c => (nb A B W x dr g M).PG (c 0) (c 1) := NbRef.rpg (S := nb A B W x dr g M) (x3d I) (sc2 I) (v41 I)

theorem v79 : Rd (s := S8192x1024) (val_main_v79 (F := Ideal) x0 x1 x2 x3 x4 x5 x6) fun c => (nb A B W x dr g M).dx (c 0) (c 1) :=
  Rd.unseq (NbRef.rdx (S := nb A B W x dr g M) (x3d I) I.g (sc2 I) (v41 I) (Rd.seq I.dr _)) _

theorem v81 : Rd (s := S8192x1024) (val_main_v81 (F := Ideal) x3 x5 x6) fun c => (nb A B W x dr g M).h (c 0) (c 1) :=
  (Rd.unseq (NbRef.rh (S := nb A B W x dr g M) (x3d I) I.g (sc2 I) (sh2 I)) shapeCasts_S2x4096x1024_S8192x1024).truncf _

end Cert.UpRef

end
-- ==== Proof.UpFinal.lean ====
/- The gradient of the feed-forward's two upper projections' input: the kernel's four results are the reference's. -/
module

public import proofs.«01_k».proof.Proof.UpArr
public import proofs.«01_k».proof.Proof.UpRef
public import proofs.«01_k».proof.Proof.Final

@[expose] public section

set_option maxRecDepth 16384

noncomputable section

namespace Cert.Up

open Idealize.ShloMosaic Cert.Rd Cert.Spec Cert.Kernel3Ideal Cert.Kernel3Ideal.Gen Cert.Final Idealize.ShloMosaic.TcCoe Idealize.SL.Sem

theorem claim : Cert.algebraic_Kernel3Ideal_Reference3Ideal := fun m g m' g' _ hag => by
  have hi : ∀ c : Dev nD, UpRef.Args (aA m c) (aB m c) (aW m c) (ax m c) (adr m c) (ag m c) (aM m c)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6)) := fun c => by
    obtain ⟨h0, h1, h2, h3, h4, h5, h6⟩ := hag c
    rw [h0, h1]
    rw [h2, h3]
    rw [h4, h5, h6]
    exact {
      a := rd2 _
      b := rd2 _
      w := rd2 _
      x := rd2 _
      dr := rd2 _
      g := rd1 _
      m := (rd3 (n := 2) (k := 6) (l := 1024) _).congr fun k hk => (if_pos (show k 1 < 6 from hk 1)).symm }
  refine ⟨fun c => (dats m 0 c).arrAt 8 cfg0.N, fun c => (dats m 0 c).arrAt 9 cfg0.N, fun c => (dats m 0 c).arrAt 10 cfg0.N, fun c => (dats m 0 c).arrAt 11 cfg0.N,
    Value.run_blocks m g, ?_⟩
  refine (θ_run Cert.Reference3Ideal.defs _ _).mono (fun r h c => ?_) (Cert.Reference3Ideal.Value.run (F := Ideal) m' g')
  obtain ⟨e0, e1, e2, e3, e⟩ := h c
  refine ⟨e0.trans ?_, e1.trans ?_, e2.trans ?_, e3.trans ?_, e⟩
  · exact (Cert.Reference3Ideal.Read.val_main_v79_eq m' c).trans
      (same (UpRef.v79 (hi c)) (dx_arr m c) fun _ => rfl)
  · exact (Cert.Reference3Ideal.Read.val_main_v81_eq _ _ _).trans
      (same (UpRef.v81 (hi c)) (h_arr m c) fun _ => rfl)
  · exact (Cert.Reference3Ideal.Read.val_main_v75_eq _ _ _ _ _).trans
      (same (UpRef.v75 (hi c)) (pb_arr m c) fun _ => rfl)
  · exact (Cert.Reference3Ideal.Read.val_main_v78_eq _ _ _ _ _).trans
      (same (UpRef.v78 (hi c)) (pg_arr m c) fun _ => rfl)

end Cert.Up

end
-- ==== Proof.Wg.lean ====
/- The gradient of a product's weights: a sum over the tokens, which a kernel adds up chunk by chunk. -/
module

public import proofs.«01_k».proof.Proof.Gate
public import proofs.«01_k».proof.Proof.Final

@[expose] public section

set_option maxRecDepth 16384

noncomputable section

namespace Cert.Wg

open Idealize.ShloMosaic Cert.Rd Cert.Gate

/-- The sum over the first `n` tokens of the products of two columns. -/
def wg (A B : ℕ → ℕ → EReal) (n i j : ℕ) : EReal := ∑ t ∈ Finset.range n, A t i * B t j

/-- One more chunk. -/
theorem wg_add (A B : ℕ → ℕ → EReal) (n d i j : ℕ) : wg A B n i j + ∑ t ∈ Finset.range d, A (n + t) i * B (n + t) j = wg A B (n + d) i j :=
  (Finset.sum_range_add _ _ _).symm

theorem wg_zero (A B : ℕ → ℕ → EReal) (d i j : ℕ) : (∑ t ∈ Finset.range d, A (0 + t) i * B (0 + t) j) = wg A B d i j := by
  simp only [Nat.zero_add]; rfl

/-- The reference's order: by sequence, then by token, the factors exchanged. -/
theorem wg_tok (A B : ℕ → ℕ → EReal) (i j : ℕ) :
    (∑ a ∈ Finset.range 2, ∑ b ∈ Finset.range 4096, B (4096 * a + b) j * A (4096 * a + b) i) = wg A B 8192 i j := by
  refine Eq.trans ?_ (Rf.sum_tok fun t => A t i * B t j)
  exact Finset.sum_congr rfl fun a _ => Finset.sum_congr rfl fun b _ => mul_comm _ _

/-- A block of an array whose first entry is at `o`, `p`. -/
abbrev bl (F : ℕ → ℕ → EReal) (o p : ℕ) : (Fin 2 → ℕ) → EReal := fun c => F (o + c 0) (p + c 1)

/-! The chunk's product in a kernel, and how it is kept. -/
section Body
variable {d a b n p q : ℕ} {A B : ℕ → ℕ → EReal} {x : FVec Ideal ⟨2, ![d, a]⟩ .bf16} {y : FVec Ideal ⟨2, ![d, b]⟩ .bf16} {w : FVec Ideal ⟨2, ![a, b]⟩ .f32}

/-- The product of a chunk. -/
abbrev chunk (x : FVec Ideal ⟨2, ![d, a]⟩ .bf16) (y : FVec Ideal ⟨2, ![d, b]⟩ .bf16) (hw : DotDims.WF ⟨2, ![d, a]⟩ ⟨2, ![d, b]⟩ ⟨2, ![a, b]⟩ [0] [0] [1] [1] [] []) : FVec Ideal ⟨2, ![a, b]⟩ .f32 :=
  matmul ⟨[0], [0], [1], [1], [], [], hw⟩ none x y (constant ⟨2, ![a, b]⟩ .f32 0x00000000#32)

variable (h0 : Rd (s := ⟨2, ![d, a]⟩) x (bl A n p)) (h1 : Rd (s := ⟨2, ![d, b]⟩) y (bl B n q)) (hw : DotDims.WF ⟨2, ![d, a]⟩ ⟨2, ![d, b]⟩ ⟨2, ![a, b]⟩ [0] [0] [1] [1] [] [])
  (hc : (⟨2, ![a, b]⟩ : Shape).ShapeCasts ⟨2, ![a, b]⟩)
include h0 h1

theorem pay1 : Rd (s := ⟨2, ![a, b]⟩) (chunk x y hw) fun c => ∑ t ∈ Finset.range d, A (n + t) (p + c 0) * B (n + t) (q + c 1) :=
  (Rd.dot ⟨[0], [0], [1], [1], [], [], hw⟩ none d (fun c k => ![k, c 0]) (fun c k => ![k, c 1])
    h0 h1
    (Rd.const Consts.f0 : Rd (α := EReal) _ fun _ => 0)).congr fun c _ => zero_add _

/-- The first chunk. -/
theorem pay2 (hn : n = 0) : Rd (s := ⟨2, ![a, b]⟩) (shapeCast ⟨2, ![a, b]⟩ (chunk x y hw) hc) (bl (wg A B d) p q) := by
  subst hn
  exact ((pay1 h0 h1 hw).castSelf _).congr fun c _ => wg_zero A B _ _ _

/-- Any later one. -/
theorem pay3 (h : Rd (s := ⟨2, ![a, b]⟩) w (bl (wg A B n) p q)) : Rd (s := ⟨2, ![a, b]⟩) (shapeCast ⟨2, ![a, b]⟩ (addf w (chunk x y hw)) hc) (bl (wg A B (n + d)) p q) :=
  ((h.addf (pay1 h0 h1 hw)).castSelf _).congr fun c _ => wg_add A B _ _ _ _
end Body

/-! The reference's contraction over both sequences. -/
section Ref
variable {a b : ℕ} {A B : ℕ → ℕ → EReal}

theorem con {x : FVec Ideal ⟨3, ![2, 4096, a]⟩ .f32} {y : FVec Ideal ⟨3, ![2, 4096, b]⟩ .f32} (hx : Rd (s := ⟨3, ![2, 4096, a]⟩) x fun c => A (4096 * c 0 + c 1) (c 2))
    (hy : Rd (s := ⟨3, ![2, 4096, b]⟩) y fun c => B (4096 * c 0 + c 1) (c 2)) (hw : DotDims.WF ⟨3, ![2, 4096, b]⟩ ⟨3, ![2, 4096, a]⟩ ⟨2, ![b, a]⟩ [0, 1] [0, 1] [2] [2] [] [])
    (ht : (⟨2, ![b, a]⟩ : Shape).Transposes [1, 0] ⟨2, ![a, b]⟩) (hb : FTy.bf16.bits < FTy.f32.bits) :
    Rd (s := ⟨2, ![a, b]⟩) (truncf .bf16 (transpose ⟨2, ![a, b]⟩ [1, 0] (Host.dotGeneral ⟨[0, 1], [0, 1], [2], [2], [], [], hw⟩ none y x) ht) hb) fun c => wg A B 8192 (c 0) (c 1) := by
  have e : Rd (s := ⟨2, ![b, a]⟩) (Host.dotGeneral ⟨[0, 1], [0, 1], [2], [2], [], [], hw⟩ none y x) fun c => wg A B 8192 (c 1) (c 0) :=
    (Rd.hdot2 ⟨[0, 1], [0, 1], [2], [2], [], [], hw⟩ none 2 4096 rfl rfl rfl (fun c a b => ![a, b, c 0]) (fun c a b => ![a, b, c 1])
      (fun j k => funext fun a => by match a with | ⟨0, _⟩ => rfl | ⟨1, _⟩ => rfl | ⟨2, _⟩ => rfl)
      (fun j k => funext fun a => by match a with | ⟨0, _⟩ => rfl | ⟨1, _⟩ => rfl | ⟨2, _⟩ => rfl) hy hx).congr fun c _ => wg_tok A B _ _
  refine Rd.truncf (fun i => ?_) hb
  exact (transpose_apply [1, 0] _ ht i (ValueIdx.ix2 (i 1) (i 0)) fun a => match a with | ⟨0, _⟩ => rfl | ⟨1, _⟩ => rfl).trans (e _)

/-- A run of columns. -/
theorem cut {n k e : ℕ} {x : (⟨2, ![n, k]⟩ : Shape).Idx → EReal} (hx : Rd (s := ⟨2, ![n, k]⟩) x fun c => A (c 0) (c 1)) (o : ℕ) (h : (⟨2, ![n, k]⟩ : Shape).Slices ![0, o] ⟨2, ![n, e]⟩) :
    Rd (s := ⟨2, ![n, e]⟩) (extractStridedSlice ⟨2, ![n, e]⟩ ![0, o] x h) fun c => A (c 0) (o + c 1) :=
  (hx.slice ![0, o] h).congr fun c _ => by
    show A (0 + c 0) (o + c 1) = _
    rw [Nat.zero_add]

/-- Both of its arguments cast and cut into sequences. -/
theorem ref {x : FVec Ideal ⟨2, ![8192, a]⟩ .bf16} {y : FVec Ideal ⟨2, ![8192, b]⟩ .bf16} (hx : Rd (s := ⟨2, ![8192, a]⟩) x fun c => A (c 0) (c 1)) (hy : Rd (s := ⟨2, ![8192, b]⟩) y fun c => B (c 0) (c 1))
    (hw : DotDims.WF ⟨3, ![2, 4096, b]⟩ ⟨3, ![2, 4096, a]⟩ ⟨2, ![b, a]⟩ [0, 1] [0, 1] [2] [2] [] []) (ht : (⟨2, ![b, a]⟩ : Shape).Transposes [1, 0] ⟨2, ![a, b]⟩) (hb : FTy.bf16.bits < FTy.f32.bits)
    (h1 : (⟨2, ![8192, a]⟩ : Shape).ShapeCasts ⟨3, ![2, 4096, a]⟩) (h2 : (⟨2, ![8192, b]⟩ : Shape).ShapeCasts ⟨3, ![2, 4096, b]⟩) :
    Rd (s := ⟨2, ![a, b]⟩) (truncf .bf16 (transpose ⟨2, ![a, b]⟩ [1, 0] (Host.dotGeneral ⟨[0, 1], [0, 1], [2], [2], [], [], hw⟩ none
      (shapeCast ⟨3, ![2, 4096, b]⟩ (extf .f32 y hb) h2) (shapeCast ⟨3, ![2, 4096, a]⟩ (extf .f32 x hb) h1)) ht) hb) fun c => wg A B 8192 (c 0) (c 1) :=
  con (Rd.seq (hx.extf _) h1) (Rd.seq (hy.extf _) h2) hw ht hb
end Ref

end Cert.Wg

end
-- ==== Proof.InW.lean ====
/- The gradient of the input projection's weights: what the kernel accumulates, and the reference's sum. -/
module

public import proofs.«01_k».proof.Proof.Wg
public import proofs.«01_k».proof.Proof.Gen.Kernel4Ideal.Value
public import proofs.«01_k».proof.Proof.Gen.Reference4Ideal.Read

@[expose] public section

set_option maxRecDepth 16384
set_option maxHeartbeats 1000000

noncomputable section

namespace Cert.InW

open Idealize.ShloMosaic Cert.Rd Cert.Wg Cert.Kernel4Ideal Cert.Kernel4Ideal.Gen Idealize.ShloMosaic.TcCoe Idealize.SL.Sem
open Idealize.ShloMosaic.Pipeline (Dat)

variable (m : (ℓ : Loc nD τ sig) → Buf (Elt Ideal) ℓ) (c : Dev nD)

def aA (r k : ℕ) : EReal := ar (s := S8192x1024) (m ((c : Thread nD τ).loc main_arg0)) ![r, k]
def aB (r k : ℕ) : EReal := ar (s := S8192x6144) (m ((c : Thread nD τ).loc main_arg1)) ![r, k]

theorem at0 : ∀ t : Fin grid0.N, win0_0.index t = ![t.val % 2, 0] := by decide +kernel
theorem at1 : ∀ t : Fin grid0.N, win0_1.index t = ![t.val % 2, t.val / 2] := by decide +kernel
theorem at2 : ∀ t : Fin grid0.N, win0_2.index t = ![0, t.val / 2] := by decide +kernel

variable (t : Fin cfg0.N)

theorem blk0 : Rd (s := S4096x1024) (iblk m c 0 t) (bl (aA m c) (4096 * (t.val % 2)) 0) := fun i => by
  refine (congrFun (V_main_arg0 m c) _).trans (ar_of (s := S8192x1024) _ _ _ fun a => ?_)
  match a with | ⟨0, _⟩ | ⟨1, _⟩ => blk_simp [at0] <;> (try simp) <;> omega

theorem blk1 : Rd (s := S4096x1024) (iblk m c 1 t) (bl (aB m c) (4096 * (t.val % 2)) (1024 * (t.val / 2))) := fun i => by
  refine (congrFun (V_main_arg1 m c) _).trans (ar_of (s := S8192x6144) _ _ _ fun a => ?_)
  match a with | ⟨0, _⟩ | ⟨1, _⟩ => blk_simp [at1] <;> (try simp) <;> omega

theorem sc_A (h0 : t.val % 2 = 0) : Rd (s := S1024x1024) (outsAt0 m c t.val t.isLt).2 (bl (wg (aA m c) (aB m c) 4096) 0 (1024 * (t.val / 2))) := by
  rw [outsAt0_A m c t h0 (by omega) (by omega)]
  dsimp only
  unfold sout0_A_0 kernelRun0_A
  dsimp only
  sl_unfold_words
  simp (disch := decide) only [↓View.readCov_skip, View.readCov_fill, View.readAt_eq_ld, Memref.IsWhole.read_unread]
  exact full32 (pay2 (ldW (blk0 m c t) inb_S4096x1024_S4096x1024_0_0) (ldW (blk1 m c t) inb_S4096x1024_S4096x1024_0_0) _ _ (by omega))

theorem out_B (h0 : t.val % 2 = 1) (ho : Rd (s := S1024x1024) (outsAt0 m c (t.val - 1) (by omega)).2 (bl (wg (aA m c) (aB m c) 4096) 0 (1024 * (t.val / 2)))) :
    Rd (s := S1024x1024) (outsAt0 m c t.val t.isLt).1 (bl (wg (aA m c) (aB m c) 8192) 0 (1024 * (t.val / 2))) := by
  have e : 4096 * (t.val % 2) = 4096 := by omega
  have b0 := blk0 m c t
  have b1 := blk1 m c t
  rw [e] at b0 b1
  rw [outsAt0_B m c t (by omega) h0 h0]
  dsimp only
  unfold out0_B_2 kernelRun0_B
  dsimp only
  sl_unfold_words
  simp (disch := decide) only [↓View.readCov_skip, View.readCov_fill, View.readAt_eq_ld, Memref.IsWhole.read_unread, (Memref.isWhole_whole _).read_unread]
  exact full16 ((ldW (pay3 (ldW b0 inb_S4096x1024_S4096x1024_0_0) (ldW b1 inb_S4096x1024_S4096x1024_0_0) _ _ (ldW ho inb_S1024x1024_S1024x1024_0_0)) inb_S1024x1024_S1024x1024_0_0).truncf _)

theorem out_last (h0 : t.val % 2 = 1) : Rd (s := S1024x1024) (outsAt0 m c t.val t.isLt).1 (bl (wg (aA m c) (aB m c) 8192) 0 (1024 * (t.val / 2))) := by
  refine out_B m c t h0 ?_
  have h := sc_A m c ⟨t.val - 1, by omega⟩ (by show (t.val - 1) % 2 = 0; omega)
  rw [show (⟨t.val - 1, by omega⟩ : Fin cfg0.N).val / 2 = t.val / 2 by show (t.val - 1) / 2 = t.val / 2; omega] at h
  exact h

theorem arr : Rd (s := S1024x6144) ((dats m 0 c).arrAt 2 cfg0.N) fun k => wg (aA m c) (aB m c) 8192 (k 0) (k 1) := fun i => by
  refine (dats m 0 c).arrAt_forall_of_covers 2 (fun i v => v = wg (aA m c) (aB m c) 8192 (i 0).val (i 1).val) (by decide +kernel) (fun t hf y => ?_) i
  rw [after0_2]
  refine (out_last m c t ((flush0_2 t).mp hf) _).trans ?_
  refine congrArg₂ (wg (aA m c) (aB m c) 8192) ?_ ?_ <;> blk_simp [at2] <;> (try simp) <;> omega

theorem claim : Cert.algebraic_Kernel4Ideal_Reference4Ideal := fun m g m' g' _ hag => by
  refine ⟨fun c => (dats m 0 c).arrAt 2 cfg0.N, Value.run_blocks m g, ?_⟩
  refine (θ_run Cert.Reference4Ideal.defs _ _).mono (fun r h c => ?_) (Cert.Reference4Ideal.Value.run (F := Ideal) m' g')
  obtain ⟨e0, e⟩ := h c
  refine ⟨e0.trans ?_, e⟩
  obtain ⟨h0, h1⟩ := hag c
  refine (Cert.Reference4Ideal.Read.val_main_v6_eq _ _).trans ?_
  rw [h0, h1]
  exact Final.same (ref (A := aA m c) (B := aB m c) (Final.rd2 _) (Final.rd2 _) _ _ _ _ _) (arr m c) fun _ => rfl

end Cert.InW

end
-- ==== Proof.UpW.lean ====
/- The gradient of the weights of the feed-forward's two upper projections, side by side: what the kernel accumulates, and the
   reference's sum. -/
module

public import proofs.«01_k».proof.Proof.Wg
public import proofs.«01_k».proof.Proof.Halves
public import proofs.«01_k».proof.Proof.Gen.Kernel5Ideal.Frame
public import proofs.«01_k».proof.Proof.Gen.Reference5Ideal.Read

@[expose] public section

set_option maxRecDepth 16384
set_option maxHeartbeats 1000000

noncomputable section

namespace Cert.UpW

open Idealize.ShloMosaic Cert.Rd Cert.Gate Cert.Wg Cert.Kernel5Ideal Cert.Kernel5Ideal.Gen Idealize.ShloMosaic.TcCoe Idealize.SL.Sem
open Idealize.ShloMosaic.Pipeline (Dat)

variable (m : (ℓ : Loc nD τ sig) → Buf (Elt Ideal) ℓ) (c : Dev nD)

def aH (r k : ℕ) : EReal := ar (s := S8192x1024) (m ((c : Thread nD τ).loc main_arg0)) ![r, k]
def aA (r k : ℕ) : EReal := ar (s := S8192x2816) (m ((c : Thread nD τ).loc main_arg1)) ![r, k]
def aB (r k : ℕ) : EReal := ar (s := S8192x2816) (m ((c : Thread nD τ).loc main_arg2)) ![r, k]
/-- The gradients of the two projections' outputs, side by side. -/
def aG (r k : ℕ) : EReal := two 2816 (aA m c r) (aB m c r) k

theorem at0 : ∀ t : Fin grid0.N, win0_0.index t = ![t.val % 4, 0] := by decide +kernel
theorem at1 : ∀ t : Fin grid0.N, t.val < 8 → win0_1.index t = ![t.val % 4, t.val / 4] := by decide +kernel
theorem at2 : ∀ t : Fin grid0.N, 8 ≤ t.val → win0_2.index t = ![t.val % 4, t.val / 4 - 2] := by decide +kernel
theorem at3 : ∀ t : Fin grid0.N, win0_3.index t = ![0, t.val / 4] := by decide +kernel

variable (t : Fin cfg0.N)

theorem blk0 : Rd (s := S2048x1024) (iblk m c 0 t) (bl (aH m c) (2048 * (t.val % 4)) 0) := fun i => by
  refine (congrFun (V_main_arg0 m c) _).trans (ar_of (s := S8192x1024) _ _ _ fun a => ?_)
  match a with | ⟨0, _⟩ | ⟨1, _⟩ => blk_simp [at0] <;> (try simp) <;> omega

theorem blk1 (h : t.val < 8) : Rd (s := S2048x1408) (iblk m c 1 t) (bl (aG m c) (2048 * (t.val % 4)) (1408 * (t.val / 4))) := by
  have e : Rd (s := S2048x1408) (iblk m c 1 t) (bl (aA m c) (2048 * (t.val % 4)) (1408 * (t.val / 4))) := fun i => by
    refine (congrFun (V_main_arg1 m c) _).trans (ar_of (s := S8192x2816) _ _ _ fun a => ?_)
    match a with | ⟨0, _⟩ | ⟨1, _⟩ => blk_simp [at1 t h] <;> (try simp) <;> omega
  refine e.congr fun k hk => ?_
  have b : k 1 < 1408 := hk 1
  exact (two_lo (show 1408 * (t.val / 4) + k 1 < 2816 by omega)).symm

theorem blk2 (h : 8 ≤ t.val) : Rd (s := S2048x1408) (iblk m c 2 t) (bl (aG m c) (2048 * (t.val % 4)) (1408 * (t.val / 4))) := by
  have e : Rd (s := S2048x1408) (iblk m c 2 t) (bl (aB m c) (2048 * (t.val % 4)) (1408 * (t.val / 4 - 2))) := fun i => by
    refine (congrFun (V_main_arg2 m c) _).trans (ar_of (s := S8192x2816) _ _ _ fun a => ?_)
    match a with | ⟨0, _⟩ | ⟨1, _⟩ => blk_simp [at2 t h] <;> (try simp) <;> omega
  refine e.congr fun k hk => ?_
  refine (two_hi 2816 (aA m c _) (aB m c _) _).symm.trans (congrArg (two 2816 _ _) ?_)
  omega

theorem sc_A (h8 : t.val < 8) (h0 : t.val % 4 = 0) : Rd (s := S1024x1408) (outsAt0 m c t.val t.isLt).2 (bl (wg (aH m c) (aG m c) 2048) 0 (1408 * (t.val / 4))) := by
  rw [outsAt0_A m c t h8 h0 (by omega) (by omega) (by omega)]
  dsimp only
  unfold sout0_A_0 kernelRun0_A
  dsimp only
  sl_unfold_words
  simp (disch := decide) only [↓View.readCov_skip, View.readCov_fill, View.readAt_eq_ld, Memref.IsWhole.read_unread]
  exact full32 (pay2 (ldW (blk0 m c t) inb_S2048x1024_S2048x1024_0_0) (ldW (blk1 m c t h8) inb_S2048x1408_S2048x1408_0_0) _ _ (by omega))

/-- The scratch with one more chunk, at a point that is not a column's first. -/
theorem step1 (h8 : t.val < 8) (ho : Rd (s := S1024x1408) (outsAt0 m c (t.val - 1) (by omega)).2 (bl (wg (aH m c) (aG m c) (2048 * (t.val % 4))) 0 (1408 * (t.val / 4)))) :
    Rd (s := S1024x1408) (k0_pay3 (F := Ideal) (View.ld (iblk m c 0 t) (Rect.unit ![0, 0] ![2048, 1024] inb_S2048x1024_S2048x1024_0_0))
      (View.ld (iblk m c 1 t) (Rect.unit ![0, 0] ![2048, 1408] inb_S2048x1408_S2048x1408_0_0))
      (View.ld (outsAt0 m c (t.val - 1) (by omega)).2 (Rect.unit ![0, 0] ![1024, 1408] inb_S1024x1408_S1024x1408_0_0)))
      (bl (wg (aH m c) (aG m c) (2048 * (t.val % 4 + 1))) 0 (1408 * (t.val / 4))) := by
  rw [show 2048 * (t.val % 4 + 1) = 2048 * (t.val % 4) + 2048 by omega]
  exact pay3 (ldW (blk0 m c t) inb_S2048x1024_S2048x1024_0_0) (ldW (blk1 m c t h8) inb_S2048x1408_S2048x1408_0_0) _ _ (ldW ho inb_S1024x1408_S1024x1408_0_0)

theorem sc_B (h8 : t.val < 8) (h0 : ¬t.val % 4 = 0) (h1 : ¬t.val % 4 = 3) (ho : Rd (s := S1024x1408) (outsAt0 m c (t.val - 1) (by omega)).2 (bl (wg (aH m c) (aG m c) (2048 * (t.val % 4))) 0 (1408 * (t.val / 4)))) :
    Rd (s := S1024x1408) (outsAt0 m c t.val t.isLt).2 (bl (wg (aH m c) (aG m c) (2048 * (t.val % 4 + 1))) 0 (1408 * (t.val / 4))) := by
  rw [outsAt0_B m c t h8 h0 (by omega) (by omega) h1]
  dsimp only
  unfold sout0_B_0 kernelRun0_B
  dsimp only
  sl_unfold_words
  simp (disch := decide) only [↓View.readCov_skip, View.readCov_fill, View.readAt_eq_ld, Memref.IsWhole.read_unread, (Memref.isWhole_whole _).read_unread]
  exact full32 (step1 m c t h8 ho)

theorem out_C (h8 : t.val < 8) (h0 : t.val % 4 = 3) (ho : Rd (s := S1024x1408) (outsAt0 m c (t.val - 1) (by omega)).2 (bl (wg (aH m c) (aG m c) (2048 * (t.val % 4))) 0 (1408 * (t.val / 4)))) :
    Rd (s := S1024x1408) (outsAt0 m c t.val t.isLt).1 (bl (wg (aH m c) (aG m c) 8192) 0 (1408 * (t.val / 4))) := by
  have h := step1 m c t h8 ho
  rw [show 2048 * (t.val % 4 + 1) = 8192 by omega] at h
  rw [outsAt0_C m c t h8 (by omega) (by omega) (by omega) h0]
  dsimp only
  unfold out0_C_3 kernelRun0_C
  dsimp only
  sl_unfold_words
  simp (disch := decide) only [↓View.readCov_skip, View.readCov_fill, View.readAt_eq_ld, Memref.IsWhole.read_unread, (Memref.isWhole_whole _).read_unread]
  exact full16 ((ldW h inb_S1024x1408_S1024x1408_0_0).truncf _)

theorem sc_D (h8 : 8 ≤ t.val) (h0 : t.val % 4 = 0) : Rd (s := S1024x1408) (outsAt0 m c t.val t.isLt).2 (bl (wg (aH m c) (aG m c) 2048) 0 (1408 * (t.val / 4))) := by
  rw [outsAt0_D m c t (by omega) h8 (by omega) h0 (by omega)]
  dsimp only
  unfold sout0_D_0 kernelRun0_D
  dsimp only
  sl_unfold_words
  simp (disch := decide) only [↓View.readCov_skip, View.readCov_fill, View.readAt_eq_ld, Memref.IsWhole.read_unread]
  exact full32 (pay2 (ldW (blk0 m c t) inb_S2048x1024_S2048x1024_0_0) (ldW (blk2 m c t h8) inb_S2048x1408_S2048x1408_0_0) _ _ (by omega))

/-- The scratch with one more chunk, at a point that is not a column's first. -/
theorem step2 (h8 : 8 ≤ t.val) (ho : Rd (s := S1024x1408) (outsAt0 m c (t.val - 1) (by omega)).2 (bl (wg (aH m c) (aG m c) (2048 * (t.val % 4))) 0 (1408 * (t.val / 4)))) :
    Rd (s := S1024x1408) (k0_pay6 (F := Ideal) (View.ld (iblk m c 0 t) (Rect.unit ![0, 0] ![2048, 1024] inb_S2048x1024_S2048x1024_0_0))
      (View.ld (iblk m c 2 t) (Rect.unit ![0, 0] ![2048, 1408] inb_S2048x1408_S2048x1408_0_0))
      (View.ld (outsAt0 m c (t.val - 1) (by omega)).2 (Rect.unit ![0, 0] ![1024, 1408] inb_S1024x1408_S1024x1408_0_0)))
      (bl (wg (aH m c) (aG m c) (2048 * (t.val % 4 + 1))) 0 (1408 * (t.val / 4))) := by
  rw [show 2048 * (t.val % 4 + 1) = 2048 * (t.val % 4) + 2048 by omega]
  exact pay3 (ldW (blk0 m c t) inb_S2048x1024_S2048x1024_0_0) (ldW (blk2 m c t h8) inb_S2048x1408_S2048x1408_0_0) _ _ (ldW ho inb_S1024x1408_S1024x1408_0_0)

theorem sc_E (h8 : 8 ≤ t.val) (h0 : ¬t.val % 4 = 0) (h1 : ¬t.val % 4 = 3) (ho : Rd (s := S1024x1408) (outsAt0 m c (t.val - 1) (by omega)).2 (bl (wg (aH m c) (aG m c) (2048 * (t.val % 4))) 0 (1408 * (t.val / 4)))) :
    Rd (s := S1024x1408) (outsAt0 m c t.val t.isLt).2 (bl (wg (aH m c) (aG m c) (2048 * (t.val % 4 + 1))) 0 (1408 * (t.val / 4))) := by
  rw [outsAt0_E m c t (by omega) h8 h1 h0 (by omega)]
  dsimp only
  unfold sout0_E_0 kernelRun0_E
  dsimp only
  sl_unfold_words
  simp (disch := decide) only [↓View.readCov_skip, View.readCov_fill, View.readAt_eq_ld, Memref.IsWhole.read_unread, (Memref.isWhole_whole _).read_unread]
  exact full32 (step2 m c t h8 ho)

theorem out_F (h8 : 8 ≤ t.val) (h0 : t.val % 4 = 3) (ho : Rd (s := S1024x1408) (outsAt0 m c (t.val - 1) (by omega)).2 (bl (wg (aH m c) (aG m c) (2048 * (t.val % 4))) 0 (1408 * (t.val / 4)))) :
    Rd (s := S1024x1408) (outsAt0 m c t.val t.isLt).1 (bl (wg (aH m c) (aG m c) 8192) 0 (1408 * (t.val / 4))) := by
  have h := step2 m c t h8 ho
  rw [show 2048 * (t.val % 4 + 1) = 8192 by omega] at h
  rw [outsAt0_F m c t (by omega) h8 h0 (by omega) (by omega)]
  dsimp only
  unfold out0_F_3 kernelRun0_F
  dsimp only
  sl_unfold_words
  simp (disch := decide) only [↓View.readCov_skip, View.readCov_fill, View.readAt_eq_ld, Memref.IsWhole.read_unread, (Memref.isWhole_whole _).read_unread]
  exact full16 ((ldW h inb_S1024x1408_S1024x1408_0_0).truncf _)

theorem sc_first (h0 : t.val % 4 = 0) : Rd (s := S1024x1408) (outsAt0 m c t.val t.isLt).2 (bl (wg (aH m c) (aG m c) 2048) 0 (1408 * (t.val / 4))) :=
  if h8 : t.val < 8 then sc_A m c t h8 h0 else sc_D m c t (by omega) h0

theorem sc_next (h0 : ¬t.val % 4 = 0) (h1 : ¬t.val % 4 = 3) (ho : Rd (s := S1024x1408) (outsAt0 m c (t.val - 1) (by omega)).2 (bl (wg (aH m c) (aG m c) (2048 * (t.val % 4))) 0 (1408 * (t.val / 4)))) :
    Rd (s := S1024x1408) (outsAt0 m c t.val t.isLt).2 (bl (wg (aH m c) (aG m c) (2048 * (t.val % 4 + 1))) 0 (1408 * (t.val / 4))) :=
  if h8 : t.val < 8 then sc_B m c t h8 h0 h1 ho else sc_E m c t (by omega) h0 h1 ho

theorem sc_all (q : ℕ) : ∀ (n : ℕ) (hn : 4 * q + n < cfg0.N), n < 3 →
    Rd (s := S1024x1408) (outsAt0 m c (4 * q + n) hn).2 (bl (wg (aH m c) (aG m c) (2048 * (n + 1))) 0 (1408 * q))
  | 0, hn, _ => by
    have h := sc_first m c ⟨4 * q + 0, hn⟩ (by show (4 * q + 0) % 4 = 0; omega)
    rw [show (⟨4 * q + 0, hn⟩ : Fin cfg0.N).val / 4 = q by show (4 * q + 0) / 4 = q; omega] at h
    exact h
  | n + 1, hn, h3 => by
    have e4 : (4 * q + (n + 1)) / 4 = q := by omega
    have e : (4 * q + (n + 1)) % 4 = n + 1 := by omega
    have h := sc_next m c ⟨4 * q + (n + 1), hn⟩ (by show ¬(4 * q + (n + 1)) % 4 = 0; omega) (by show ¬(4 * q + (n + 1)) % 4 = 3; omega)
    simp only [e, e4] at h
    exact h (sc_all q n (by omega) (by omega))

theorem out_last (h0 : t.val % 4 = 3) : Rd (s := S1024x1408) (outsAt0 m c t.val t.isLt).1 (bl (wg (aH m c) (aG m c) 8192) 0 (1408 * (t.val / 4))) := by
  have e : ∀ (n : ℕ) (hn : n < cfg0.N) (_ : n = 4 * (t.val / 4) + 2), Rd (s := S1024x1408) (outsAt0 m c n hn).2 (bl (wg (aH m c) (aG m c) (2048 * (t.val % 4))) 0 (1408 * (t.val / 4))) := by
    intro n hn en
    subst en
    rw [h0]
    exact sc_all m c (t.val / 4) 2 hn (by omega)
  by_cases h8 : t.val < 8
  · exact out_C m c t h8 h0 (e _ _ (by omega))
  · exact out_F m c t (by omega) h0 (e _ _ (by omega))

theorem arr : Rd (s := S1024x5632) ((dats m 0 c).arrAt 3 cfg0.N) fun k => wg (aH m c) (aG m c) 8192 (k 0) (k 1) := fun i => by
  refine (dats m 0 c).arrAt_forall_of_covers 3 (fun i v => v = wg (aH m c) (aG m c) 8192 (i 0).val (i 1).val) (by decide +kernel) (fun t hf y => ?_) i
  rw [after0_3]
  refine (out_last m c t ((flush0_3 t).mp hf) _).trans ?_
  refine congrArg₂ (wg (aH m c) (aG m c) 8192) ?_ ?_ <;> blk_simp [at3] <;> (try simp) <;> omega

/-! The reference. -/
section Ref
open Cert.Reference5Ideal.Read
variable {H A B : ℕ → ℕ → EReal} {x0 : (⟨Cert.Reference5Ideal.S8192x1024, .bf16⟩ : BufTy).Contents (Elt Ideal)} {x1 x2 : (⟨Cert.Reference5Ideal.S8192x2816, .bf16⟩ : BufTy).Contents (Elt Ideal)}
  (hh : Rd (s := Cert.Reference5Ideal.S8192x1024) x0 fun c => H (c 0) (c 1)) (ha : Rd (s := Cert.Reference5Ideal.S8192x2816) x1 fun c => A (c 0) (c 1))
  (hb : Rd (s := Cert.Reference5Ideal.S8192x2816) x2 fun c => B (c 0) (c 1))

include ha hb in
theorem v8 : Rd (s := Cert.Reference5Ideal.S2x4096x5632) (val_main_v8 (F := Ideal) x1 x2) (fun c : Fin 3 → ℕ => two 2816 (A (4096 * c 0 + c 1)) (B (4096 * c 0 + c 1)) (c 2)) :=
  ((Rf.padCol (Rd.seq (hb.extf _) Cert.Reference5Ideal.Facts₀.shapeCasts_S8192x2816_S2x4096x2816) 2816 0 (fun _ => Consts.f0) _ _).addf
    (Rf.padCol (Rd.seq (ha.extf _) Cert.Reference5Ideal.Facts₀.shapeCasts_S8192x2816_S2x4096x2816) 0 2816 (fun _ => Consts.f0) _ _)).congr fun c hc =>
    two_pad (n := 2816) (m := 2816) (a := A (4096 * c 0 + c 1)) (b := B (4096 * c 0 + c 1)) (hc 2)

include hh ha hb in
theorem v11 : Rd (s := Cert.Reference5Ideal.S1024x5632) (val_main_v11 (F := Ideal) x0 x1 x2) (fun c : Fin 2 → ℕ => wg H (fun r => two 2816 (A r) (B r)) 8192 (c 0) (c 1)) :=
  con (B := fun r => two 2816 (A r) (B r)) (Rd.seq (hh.extf _) _) (v8 ha hb) _ _ _
end Ref

theorem claim : Cert.algebraic_Kernel5Ideal_Reference5Ideal := fun m g m' g' _ hag => by
  refine ⟨fun c => (dats m 0 c).arrAt 3 cfg0.N, (θ_run defs _ _).mono (fun r h c => ⟨(h c).1 3,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m g), ?_⟩
  refine (θ_run Cert.Reference5Ideal.defs _ _).mono (fun r h c => ?_) (Cert.Reference5Ideal.Value.run (F := Ideal) m' g')
  obtain ⟨e0, e⟩ := h c
  refine ⟨e0.trans ?_, e⟩
  obtain ⟨h0, h1, h2⟩ := hag c
  refine (Cert.Reference5Ideal.Read.val_main_v11_eq _ _ _).trans ?_
  rw [h0, h1, h2]
  exact Final.same (v11 (H := aH m c) (A := aA m c) (B := aB m c) (Final.rd2 _) (Final.rd2 _) (Final.rd2 _)) (arr m c) fun _ => rfl

end Cert.UpW

end
-- ==== Proof.GateF.lean ====
/- The gradient through the second feed-forward product and the SwiGLU: what the kernel computes, the reference, and the claim. -/
module

public import proofs.«01_k».proof.Proof.Fwd
public import proofs.«01_k».proof.Proof.Final
public import proofs.«01_k».proof.Proof.Gen.Kernel6Ideal.Value
public import proofs.«01_k».proof.Proof.Gen.Reference6Ideal.Read

@[expose] public section

set_option maxRecDepth 16384
set_option maxHeartbeats 1000000

noncomputable section

namespace Cert.GateF

open Idealize.ShloMosaic Cert.Rd Cert.Spec Cert.Gate Cert.Kernel6Ideal Cert.Kernel6Ideal.Gen Idealize.ShloMosaic.TcCoe Idealize.SL.Sem
open Idealize.ShloMosaic.Pipeline (Dat)

/-! `silu`'s product and its derivative. -/
section Spec
variable (X G W A B : ℕ → ℕ → EReal) (r k : ℕ)
/-- The gradient of the linear factor. -/
def db : EReal := du X G W r k * Ideal.logistic (A r k) * A r k
/-- The gradient of `silu`'s argument. -/
def da : EReal := du X G W r k * Ideal.logistic (A r k) * B r k * (1 + A r k * (1 - Ideal.logistic (A r k)))
end Spec

theorem lg_real (a : EReal) : ∃ s : ℝ, Ideal.logistic a = (s : EReal) := by
  induction a with
  | bot => exact ⟨0, Ideal.logistic_bot⟩
  | top => exact ⟨1, Ideal.logistic_top⟩
  | coe x => exact ⟨_, Ideal.logistic_coe x⟩

/-- The derivative of `silu`, distributed over a real factor. -/
theorem dsilu (a : EReal) (x : ℝ) : (x : EReal) * Ideal.logistic a * (1 + a * (1 - Ideal.logistic a)) =
    (x : EReal) * Ideal.logistic a + a * (x : EReal) * (Ideal.logistic a * (1 - Ideal.logistic a)) := by
  have e0 : (1 : EReal) - 1 = 0 := by rw [← EReal.coe_one, ← EReal.coe_sub, sub_self, EReal.coe_zero]
  induction a with
  | bot => simp [Ideal.logistic_bot]
  | top => simp [Ideal.logistic_top, e0]
  | coe r =>
    obtain ⟨s, hs⟩ := lg_real (r : EReal)
    rw [hs]
    norm_cast
    ring

section Body
variable {X P G W A B : ℕ → ℕ → EReal} {i : ℕ} {v27 : FVec Ideal S256x1024 .f32} {v52 : FVec Ideal S256x1024 .bf16} {v28 : FVec Ideal S1x1x1024 .f32} {v4 : FVec Ideal S2816x1024 .bf16}
  {v3 : FVec Ideal S256x1024 .bf16} {v7 v8 : FVec Ideal S256x2816 .bf16} (hX : Rd (s := S256x1024) v27 (bk 256 i X)) (hP : Rd (s := S256x1024) v52 (bk 256 i P))
  (hG : Rd (s := S1x1x1024) v28 (ln3 (G (i / 16)))) (hW : Rd (s := S2816x1024) v4 fun c => W (c 0) (c 1)) (h3 : Rd (s := S256x1024) v3 (bk 256 i (dp X G)))
  (hA : Rd (s := S256x2816) v7 (bk 256 i A)) (hB : Rd (s := S256x2816) v8 (bk 256 i B))

include hX hG in
theorem pay6 : Rd (s := S256x1024) (k0_pay6 (F := Ideal) v27 v28) (bk 256 i (dp X G)) :=
  (hX.mulf (bseq (s := 256) (p := 16) rfl (hG.castDrop shapeCasts_S1x1x1024_S1x1024) broadcasts_S1x1024_S256x1024)).truncf _

include hX hG in
theorem pay7 : Rd (s := S256x1024) (k0_pay7 (F := Ideal) v27 v28) (bk 256 i (dp X G)) := (pay6 hX hG).castSelf _

include hA in
theorem pay2 : Rd (s := S256x2816) (k0_pay2 (F := Ideal) v7) (bk 256 i fun r k => Ideal.logistic (A r k)) := Rd.lg hA

include hW h3 hA in
theorem pay3 : Rd (s := S256x2816) (k0_pay3 (F := Ideal) v3 v4 v7) (bk 256 i fun r k => du X G W r k * Ideal.logistic (A r k)) :=
  (((Rd.dot dot_S256x1024_S2816x1024_S256x2816_1_1_0_0_n_n none 1024 (fun c k => ![c 0, k]) (fun c k => ![c 1, k])
    h3 hW
    (Rd.const Consts.f0 : Rd (α := EReal) _ fun _ => 0)).congr fun c _ => zero_add _).truncf _).mulf (pay2 hA)

include hW h3 hA hB in
theorem pay4 : Rd (s := S256x2816) (k0_pay4 (F := Ideal) v3 v4 v7 v8) (bk 256 i (da X G W A B)) :=
  ((pay3 hW h3 hA).mulf hB).mulf ((Rd.splat (α := EReal) Consts.h1).addf (hA.mulf ((Rd.splat (α := EReal) Consts.h1).esubf (pay2 hA))))

include hW h3 hA in
theorem pay5 : Rd (s := S256x2816) (k0_pay5 (F := Ideal) v3 v4 v7) (bk 256 i (db X G W A)) := (pay3 hW h3 hA).mulf hA

include hX hP in
theorem row {F : ℕ → EReal} {vo : FVec Ideal S1x1x1024 .f32} (ho : Rd (s := S1x1x1024) vo (ln3 F)) :
    Rd (s := S1x1x1024) (k0_pay1 (F := Ideal) (k0_pay9 (F := Ideal) v27 vo v52)) (ln3 fun k => F k + tl 256 (fun r => X r k * P r k) i) :=
  (((ho.castDrop shapeCasts_S1x1x1024_S1x1024).addf
    (((hX.mulf (hP.extf _)).red0 0x00000000#32 reduces_S256x1024_S1024 (.inl rfl) rfl).castRow shapeCasts_S1024_S1x1024)).castAdd shapeCasts_S1x1024_S1x1x1024 :)
end Body

variable (m : (ℓ : Loc nD τ sig) → Buf (Elt Ideal) ℓ) (c : Dev nD)

def aX (r k : ℕ) : EReal := ar (s := S8192x1024) (m ((c : Thread nD τ).loc main_arg0)) ![r, k]
def aP (r k : ℕ) : EReal := ar (s := S8192x1024) (m ((c : Thread nD τ).loc main_arg1)) ![r, k]
def aA (r k : ℕ) : EReal := ar (s := S8192x2816) (m ((c : Thread nD τ).loc main_arg2)) ![r, k]
def aB (r k : ℕ) : EReal := ar (s := S8192x2816) (m ((c : Thread nD τ).loc main_arg3)) ![r, k]
def aW (r k : ℕ) : EReal := ar (s := S2816x1024) (m ((c : Thread nD τ).loc main_arg4)) ![r, k]
def aM : ℕ → ℕ → ℕ → EReal := Fwd.mod (m ((c : Thread nD τ).loc main_arg5))
/-- The gate: row 5 of the modulation. -/
def aG (q k : ℕ) : EReal := aM m c q 5 k

theorem V_v0 : V m c main_v0 = Fwd.padded (m ((c : Thread nD τ).loc main_arg5)) := by
  entry_read
  rfl

theorem rd_v0 : Rd (s := S2x8x1024) (V m c main_v0) fun k => aM m c (k 0) (k 1) (k 2) := by
  rw [V_v0]
  exact Fwd.rd_pad _

theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val / 16, 0, 0] := by decide +kernel
theorem at3 : ∀ t : Fin grid0.N, win0_3.index t = ![0, 0] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![t.val, 0] := by decide +kernel
theorem at7 : ∀ t : Fin grid0.N, win0_7.index t = ![t.val / 16, 0, 0] := by decide +kernel
theorem at8 : ∀ t : Fin grid0.N, win0_8.index t = ![t.val, 0] := by decide +kernel
theorem at9 : ∀ t : Fin grid0.N, win0_9.index t = ![t.val, 0] := by decide +kernel

variable (t : Fin cfg0.N)

theorem blk0 : Rd (s := S256x1024) (iblk m c 0 t) (bk 256 t.val (aX m c)) := fun i => by
  refine (congrFun (V_main_arg0 m c) _).trans (ar_of (s := S8192x1024) _ _ _ fun a => ?_)
  match a with | ⟨0, _⟩ | ⟨1, _⟩ => blk_simp [at0] <;> (try simp) <;> omega

theorem blk1 : Rd (s := S256x1024) (iblk m c 1 t) (bk 256 t.val (aP m c)) := fun i => by
  refine (congrFun (V_main_arg1 m c) _).trans (ar_of (s := S8192x1024) _ _ _ fun a => ?_)
  match a with | ⟨0, _⟩ | ⟨1, _⟩ => blk_simp [at1] <;> (try simp) <;> omega

theorem blk4 : Rd (s := S256x2816) (iblk m c 4 t) (bk 256 t.val (aA m c)) := fun i => by
  refine (congrFun (V_main_arg2 m c) _).trans (ar_of (s := S8192x2816) _ _ _ fun a => ?_)
  match a with | ⟨0, _⟩ | ⟨1, _⟩ => blk_simp [at4] <;> (try simp) <;> omega

theorem blk5 : Rd (s := S256x2816) (iblk m c 5 t) (bk 256 t.val (aB m c)) := fun i => by
  refine (congrFun (V_main_arg3 m c) _).trans (ar_of (s := S8192x2816) _ _ _ fun a => ?_)
  match a with | ⟨0, _⟩ | ⟨1, _⟩ => blk_simp [at5] <;> (try simp) <;> omega

theorem blk3 : Rd (s := S2816x1024) (iblk m c 3 t) fun k => aW m c (k 0) (k 1) := fun i => by
  refine (congrFun (V_main_arg4 m c) _).trans (ar_of (s := S2816x1024) _ _ _ fun a => ?_)
  match a with | ⟨0, _⟩ | ⟨1, _⟩ => blk_simp [at3] <;> (try simp) <;> omega

theorem blk2 : Rd (s := S1x8x1024) (iblk m c 2 t) fun k => aM m c (t.val / 16) (k 1) (k 2) := fun i => by
  refine (rd_v0 m c _).trans (Fwd.rows (aM m c) ?_ ?_ ?_) <;> blk_simp [at2] <;> (try simp) <;> omega

/-! The blocks as a grid point loads them. -/
def l0 := ldW (blk0 m c t) inb_S256x1024_S256x1024_0_0
def l1 := ldW (blk1 m c t) inb_S256x1024_S256x1024_0_0
def l2 := ldR3 (P := aM m c (t.val / 16)) (blk2 m c t) 5 inb_S1x8x1024_S1x1x1024_0_5_0
def l3 := ldW (f := fun k => aW m c (k 0) (k 1)) (blk3 m c t) inb_S2816x1024_S2816x1024_0_0
def l4 := ldW (blk4 m c t) inb_S256x2816_S256x2816_0_0
def l5 := ldW (blk5 m c t) inb_S256x2816_S256x2816_0_0
/-- The gated gradient as the product reads it. -/
def ls := ldW (pay7 (G := aG m c) (l0 m c t) (l2 m c t)) inb_S256x1024_S256x1024_0_0

theorem dp_A (h0 : t.val % 16 = 0) : Rd (s := S256x1024) (outsAt0 m c t.val t.isLt).1 (bk 256 t.val (dp (aX m c) (aG m c))) := by
  rw [outsAt0_A m c t h0]
  dsimp only
  unfold out0_A_6 kernelRun0_A
  dsimp only
  sl_unfold_words
  simp (disch := decide) only [↓View.readCov_skip, View.readCov_fill, View.readAt_eq_ld, Memref.IsWhole.read_unread]
  exact st2 (pay6 (G := aG m c) (l0 m c t) (l2 m c t))

theorem dp_B (h0 : ¬t.val % 16 = 0) : Rd (s := S256x1024) (outsAt0 m c t.val t.isLt).1 (bk 256 t.val (dp (aX m c) (aG m c))) := by
  rw [outsAt0_B m c t h0]
  dsimp only
  unfold out0_B_6 kernelRun0_B
  dsimp only
  sl_unfold_words
  simp (disch := decide) only [↓View.readCov_skip, View.readCov_fill, View.readAt_eq_ld, Memref.IsWhole.read_unread]
  exact st2 (pay6 (G := aG m c) (l0 m c t) (l2 m c t))

theorem da_A (h0 : t.val % 16 = 0) : Rd (s := S256x2816) (outsAt0 m c t.val t.isLt).2.2.1 (bk 256 t.val (da (aX m c) (aG m c) (aW m c) (aA m c) (aB m c))) := by
  rw [outsAt0_A m c t h0]
  dsimp only
  unfold out0_A_8 kernelRun0_A
  dsimp only
  sl_unfold_words
  simp (disch := decide) only [↓View.readCov_skip, View.readCov_fill, View.readAt_eq_ld, Memref.IsWhole.read_unread]
  exact st2 (pay4 (l3 m c t) (ls m c t) (l4 m c t) (l5 m c t))

theorem da_B (h0 : ¬t.val % 16 = 0) : Rd (s := S256x2816) (outsAt0 m c t.val t.isLt).2.2.1 (bk 256 t.val (da (aX m c) (aG m c) (aW m c) (aA m c) (aB m c))) := by
  rw [outsAt0_B m c t h0]
  dsimp only
  unfold out0_B_8 kernelRun0_B
  dsimp only
  sl_unfold_words
  simp (disch := decide) only [↓View.readCov_skip, View.readCov_fill, View.readAt_eq_ld, Memref.IsWhole.read_unread]
  exact st2 (pay4 (l3 m c t) (ls m c t) (l4 m c t) (l5 m c t))

theorem db_A (h0 : t.val % 16 = 0) : Rd (s := S256x2816) (outsAt0 m c t.val t.isLt).2.2.2 (bk 256 t.val (db (aX m c) (aG m c) (aW m c) (aA m c))) := by
  rw [outsAt0_A m c t h0]
  dsimp only
  unfold out0_A_9 kernelRun0_A
  dsimp only
  sl_unfold_words
  simp (disch := decide) only [↓View.readCov_skip, View.readCov_fill, View.readAt_eq_ld, Memref.IsWhole.read_unread]
  exact st2 (pay5 (l3 m c t) (ls m c t) (l4 m c t))

theorem db_B (h0 : ¬t.val % 16 = 0) : Rd (s := S256x2816) (outsAt0 m c t.val t.isLt).2.2.2 (bk 256 t.val (db (aX m c) (aG m c) (aW m c) (aA m c))) := by
  rw [outsAt0_B m c t h0]
  dsimp only
  unfold out0_B_9 kernelRun0_B
  dsimp only
  sl_unfold_words
  simp (disch := decide) only [↓View.readCov_skip, View.readCov_fill, View.readAt_eq_ld, Memref.IsWhole.read_unread]
  exact st2 (pay5 (l3 m c t) (ls m c t) (l4 m c t))

theorem pb_A (h0 : t.val % 16 = 0) {q n : ℕ} (e : 16 * q + n = t.val) (hn : n = 0) :
    Rd (s := S1x8x1024) (outsAt0 m c t.val t.isLt).2.1 fun k => pbAt 256 16 (aX m c) (aP m c) q (n + 1) (k 1) (k 2) := by
  rw [outsAt0_A m c t h0]
  dsimp only
  unfold out0_A_7 kernelRun0_A
  dsimp only
  sl_unfold_words
  simp (disch := decide) only [↓View.readCov_skip, View.readCov_fill, View.readAt_eq_ld, Memref.IsWhole.read_unread]
  refine On.all ?_
  have z : Rd (s := S1x8x1024) (k0_pay8 (F := Ideal)) fun k => pbAt 256 16 (aX m c) (aP m c) q n (k 1) (k 2) := by
    rw [hn]
    exact zeros' fun k => pbAt_zero _ _ _ _ _ _ _
  refine st32 (stR3 (row (l0 m c t) (l1 m c t) (ldR3 (P := fun r k => pbAt 256 16 (aX m c) (aP m c) q n r k) z 0 inb_S1x8x1024_S1x1x1024_0_0_0))
    (pbAt 256 16 (aX m c) (aP m c) q (n + 1)) 0 fun k => pbAt_row _ _ _ _ q n k _ e) ?_
  exact On.of (F := fun _ => 0) (by
    rw [View.read_writes_junk_eq_canon, View.canon_cons_unit_lit _ _ _ (by decide)]
    exact zeros' fun c => rfl) fun c hc hP => by
    have b0 := hc 0
    have b1 := hc 1
    have b2 := hc 2
    simp [Fin.forall_fin_succ] at hP b0 b1 b2
    exact (pbAt_1 _ _ _ _ _ _ _ _ (by omega)).symm

theorem pb_B (h0 : ¬t.val % 16 = 0) {q n : ℕ} (e : 16 * q + n = t.val)
    (ho : Rd (s := S1x8x1024) (outsAt0 m c (t.val - 1) (by omega)).2.1 fun k => pbAt 256 16 (aX m c) (aP m c) q n (k 1) (k 2)) :
    Rd (s := S1x8x1024) (outsAt0 m c t.val t.isLt).2.1 fun k => pbAt 256 16 (aX m c) (aP m c) q (n + 1) (k 1) (k 2) := by
  rw [outsAt0_B m c t h0]
  dsimp only
  unfold out0_B_7 kernelRun0_B
  dsimp only
  sl_unfold_words
  simp (disch := decide) only [↓View.readCov_skip, View.readCov_fill, View.readAt_eq_ld, Memref.IsWhole.read_unread]
  refine On.all ?_
  refine st32 (stR3 (row (l0 m c t) (l1 m c t) (ldR3 (P := fun r k => pbAt 256 16 (aX m c) (aP m c) q n r k) ho 0 inb_S1x8x1024_S1x1x1024_0_0_0))
    (pbAt 256 16 (aX m c) (aP m c) q (n + 1)) 0 fun k => pbAt_row _ _ _ _ q n k _ e) ?_
  refine On.of (F := fun k => pbAt 256 16 (aX m c) (aP m c) q n (k 1) (k 2)) ((hs0_7 t).read_unread _ ▸ ho) fun c hc hP => ?_
  have b0 := hc 0
  have b1 := hc 1
  have b2 := hc 2
  simp [Fin.forall_fin_succ] at hP b0 b1 b2
  rw [pbAt_1 _ _ _ _ _ _ _ _ (show 1 ≤ c 1 by omega), pbAt_1 _ _ _ _ _ _ _ _ (show 1 ≤ c 1 by omega)]

theorem pb_all (q : ℕ) : ∀ (n : ℕ) (hn : 16 * q + n < cfg0.N), n < 16 →
    Rd (s := S1x8x1024) (outsAt0 m c (16 * q + n) hn).2.1 fun k => pbAt 256 16 (aX m c) (aP m c) q (n + 1) (k 1) (k 2)
  | 0, hn, _ => pb_A m c ⟨16 * q + 0, hn⟩ (by show (16 * q + 0) % 16 = 0; omega) (q := q) (n := 0) rfl rfl
  | n + 1, hn, h8 =>
    pb_B m c ⟨16 * q + (n + 1), hn⟩ (by show ¬(16 * q + (n + 1)) % 16 = 0; omega) (q := q) (n := n + 1) rfl (pb_all q n (by omega) (by omega))

/-! The arrays after the launch. -/
theorem dp_arr : Rd (s := S8192x1024) ((dats m 0 c).arrAt 6 cfg0.N) fun k => dp (aX m c) (aG m c) (k 0) (k 1) := fun i => by
  refine (dats m 0 c).arrAt_forall_of_covers 6 (fun i v => v = dp (aX m c) (aG m c) (i 0).val (i 1).val) (by decide +kernel) (fun t hf y => ?_) i
  rw [after0_6]
  refine ((if h : t.val % 16 = 0 then dp_A m c t h else dp_B m c t h : Rd (s := S256x1024) _ _) _).trans ?_
  refine congrArg₂ (dp (aX m c) (aG m c)) ?_ ?_ <;> blk_simp [at6] <;> (try simp) <;> omega

theorem da_arr : Rd (s := S8192x2816) ((dats m 0 c).arrAt 8 cfg0.N) fun k => da (aX m c) (aG m c) (aW m c) (aA m c) (aB m c) (k 0) (k 1) := fun i => by
  refine (dats m 0 c).arrAt_forall_of_covers 8 (fun i v => v = da (aX m c) (aG m c) (aW m c) (aA m c) (aB m c) (i 0).val (i 1).val) (by decide +kernel) (fun t hf y => ?_) i
  rw [after0_8]
  refine ((if h : t.val % 16 = 0 then da_A m c t h else da_B m c t h : Rd (s := S256x2816) _ _) _).trans ?_
  refine congrArg₂ (da (aX m c) (aG m c) (aW m c) (aA m c) (aB m c)) ?_ ?_ <;> blk_simp [at8] <;> (try simp) <;> omega

theorem db_arr : Rd (s := S8192x2816) ((dats m 0 c).arrAt 9 cfg0.N) fun k => db (aX m c) (aG m c) (aW m c) (aA m c) (k 0) (k 1) := fun i => by
  refine (dats m 0 c).arrAt_forall_of_covers 9 (fun i v => v = db (aX m c) (aG m c) (aW m c) (aA m c) (i 0).val (i 1).val) (by decide +kernel) (fun t hf y => ?_) i
  rw [after0_9]
  refine ((if h : t.val % 16 = 0 then db_A m c t h else db_B m c t h : Rd (s := S256x2816) _ _) _).trans ?_
  refine congrArg₂ (db (aX m c) (aG m c) (aW m c) (aA m c)) ?_ ?_ <;> blk_simp [at9] <;> (try simp) <;> omega

theorem pb_last (h : t.val % 16 = 15) : Rd (s := S1x8x1024) (outsAt0 m c t.val t.isLt).2.1 fun k => pb (aX m c) (aP m c) (t.val / 16) (k 1) (k 2) := by
  have e : ∀ (n : ℕ) (hn : n < cfg0.N) (_ : n = 16 * (t.val / 16) + 15), Rd (s := S1x8x1024) (outsAt0 m c n hn).2.1 fun k => pb (aX m c) (aP m c) (t.val / 16) (k 1) (k 2) := by
    intro n hn en
    subst en
    exact (pb_all m c (t.val / 16) 15 hn (by omega)).congr fun k _ => pbAt_all 256 16 _ _ rfl _ _ _
  exact e t.val t.isLt (by omega)

theorem pb_arr : Rd (s := S2x8x1024) ((dats m 0 c).arrAt 7 cfg0.N) fun k => pb (aX m c) (aP m c) (k 0) (k 1) (k 2) := fun i => by
  refine (dats m 0 c).arrAt_forall_of_covers 7 (fun i v => v = pb (aX m c) (aP m c) (i 0).val (i 1).val (i 2).val) (by decide +kernel) (fun t hf y => ?_) i
  rw [after0_7]
  refine (pb_last m c t ((flush0_7 t).mp hf) _).trans ?_
  refine Rf.cg3 (pb (aX m c) (aP m c)) ?_ ?_ ?_
  · blk_simp [at7] <;> (try simp) <;> omega
  all_goals blk_simp [at7] <;> (try simp) <;> omega

/-! The reference. -/
section Ref
open Cert.Reference6Ideal.Read
variable {X P A B W : ℕ → ℕ → EReal} {M : ℕ → ℕ → ℕ → EReal} {x0 : (⟨Cert.Reference6Ideal.S8192x1024, .f32⟩ : BufTy).Contents (Elt Ideal)} {x1 : (⟨Cert.Reference6Ideal.S8192x1024, .bf16⟩ : BufTy).Contents (Elt Ideal)}
  {x2 x3 : (⟨Cert.Reference6Ideal.S8192x2816, .bf16⟩ : BufTy).Contents (Elt Ideal)} {x4 : (⟨Cert.Reference6Ideal.S2816x1024, .bf16⟩ : BufTy).Contents (Elt Ideal)} {x5 : (⟨Cert.Reference6Ideal.S2x6x1024, .f32⟩ : BufTy).Contents (Elt Ideal)}
  (hx : Rd (s := Cert.Reference6Ideal.S8192x1024) x0 fun c => X (c 0) (c 1)) (hp : Rd (s := Cert.Reference6Ideal.S8192x1024) x1 fun c => P (c 0) (c 1))
  (ha : Rd (s := Cert.Reference6Ideal.S8192x2816) x2 fun c => A (c 0) (c 1)) (hb : Rd (s := Cert.Reference6Ideal.S8192x2816) x3 fun c => B (c 0) (c 1))
  (hw : Rd (s := Cert.Reference6Ideal.S2816x1024) x4 fun c => W (c 0) (c 1)) (hm : Rd (s := Cert.Reference6Ideal.S2x6x1024) x5 fun c => M (c 0) (c 1) (c 2))

include hm in
theorem v8 : Rd (s := Cert.Reference6Ideal.S2x1024) (val_main_v8 (F := Ideal) x5) (fun c : Fin 2 → ℕ => M (c 0) 5 (c 1)) := by
  have v7 : Rd (s := Cert.Reference6Ideal.S2x1x1024) (val_main_v7 (F := Ideal) x5) (fun c : Fin 3 → ℕ => M (c 0) 5 (c 2)) :=
    Rd.of_apply (t := Cert.Reference6Ideal.S2x1x1024) (g := fun c : Fin 3 → ℕ => M (c 0) 5 (c 2)) hm (val_main_v7_apply x5) fun i => by
      have b0 : (i 0).val < 2 := (i 0).isLt; have b1 : (i 1).val < 1 := (i 1).isLt; have b2 : (i 2).val < 1024 := (i 2).isLt; exact Rf.cg3 M rfl (show 5 + (i 1).val = 5 by omega) rfl
  exact Rd.of_apply (t := Cert.Reference6Ideal.S2x1024) (g := fun c : Fin 2 → ℕ => M (c 0) 5 (c 1)) v7 (val_main_v8_apply x5) fun i => by
    have b0 : (i 0).val < 2 := (i 0).isLt; have b1 : (i 1).val < 1024 := (i 1).isLt; exact Rf.cg3 M (show ((i 0).val * 1024 + (i 1).val) / 1024 = (i 0).val by omega) rfl
      (show ((i 0).val * 1024 + (i 1).val) % 1024 = (i 1).val by omega)

include hm in
theorem v13 : Rd (s := Cert.Reference6Ideal.S2x4096x1024) (val_main_v13 (F := Ideal) x5) (fun c : Fin 3 → ℕ => M ((4096 * c 0 + c 1) / 4096) 5 (c 2)) := by
  have v9 : Rd (s := Cert.Reference6Ideal.S2x1x1024) (val_main_v9 (F := Ideal) x5) (fun c : Fin 3 → ℕ => M (c 0) 5 (c 2)) :=
    Rd.of_apply (t := Cert.Reference6Ideal.S2x1x1024) (g := fun c : Fin 3 → ℕ => M (c 0) 5 (c 2)) (v8 hm) (val_main_v9_apply x5) fun i => rfl
  refine (Rd.of_apply (t := Cert.Reference6Ideal.S2x4096x1024) (g := fun c : Fin 3 → ℕ => M (c 0) 5 (c 2)) v9 (val_main_v13_apply x5) fun i => rfl).congr fun c hc => ?_
  have h1 : c 1 < 4096 := hc 1
  rw [show (4096 * c 0 + c 1) / 4096 = c 0 by omega]

include hp in
theorem v2 : Rd (s := Cert.Reference6Ideal.S2x4096x1024) (val_main_v2 (F := Ideal) x1) (fun c : Fin 3 → ℕ => P (4096 * c 0 + c 1) (c 2)) :=
  Rd.seq (hp.extf _) _

include hx in
theorem v12 : Rd (s := Cert.Reference6Ideal.S2x4096x1024) (val_main_v12 (F := Ideal) x0) (fun c : Fin 3 → ℕ => X (4096 * c 0 + c 1) (c 2)) := Rd.seq hx _

include hx hm in
theorem v14 : Rd (s := Cert.Reference6Ideal.S2x4096x1024) (val_main_v14 (F := Ideal) x0 x5) (fun c : Fin 3 → ℕ => dp X (fun q k => M q 5 k) (4096 * c 0 + c 1) (c 2)) :=
  ((v13 hm).mulf (v12 hx)).congr fun c _ => mul_comm _ _

include hx hm in
theorem v30 : Rd (s := Cert.Reference6Ideal.S8192x1024) (val_main_v30 (F := Ideal) x0 x5) (fun c : Fin 2 → ℕ => dp X (fun q k => M q 5 k) (c 0) (c 1)) :=
  (Rd.unseq (v14 hx hm) _).truncf _

include hx hw hm in
theorem v22 : Rd (s := Cert.Reference6Ideal.S2x4096x2816) (val_main_v22 (F := Ideal) x0 x4 x5) (fun c : Fin 3 → ℕ => du X (fun q k => M q 5 k) W (4096 * c 0 + c 1) (c 2)) :=
  Rd.of_dot (v14 hx hm) (hw.extf _) (val_main_v22_apply x0 x4 x5) (fun c k => dp X (fun q k => M q 5 k) (4096 * c 0 + c 1) k * W (c 2) k) fun i k => rfl

include ha in
theorem v4 : Rd (s := Cert.Reference6Ideal.S2x4096x2816) (val_main_v4 (F := Ideal) x2) (fun c : Fin 3 → ℕ => A (4096 * c 0 + c 1) (c 2)) := Rd.seq (ha.extf _) _

include ha in
theorem v19 : Rd (s := Cert.Reference6Ideal.S2x4096x2816) (val_main_v19_2 (F := Ideal) x2) (fun c : Fin 3 → ℕ => Ideal.logistic (A (4096 * c 0 + c 1) (c 2))) :=
  Rd.hlg (v4 ha) (Rf.scal (fun _ => Consts.f1) _) (Rf.scal (fun _ => Consts.f1) _)

include hx ha hw hm in
theorem v34 : Rd (s := Cert.Reference6Ideal.S8192x2816) (val_main_v34 (F := Ideal) x0 x2 x4 x5) (fun c : Fin 2 → ℕ => db X (fun q k => M q 5 k) W A (c 0) (c 1)) := by
  have v23 : Rd (s := Cert.Reference6Ideal.S2x4096x2816) (val_main_v23 (F := Ideal) x0 x2 x4 x5) (fun c : Fin 3 → ℕ => db X (fun q k => M q 5 k) W A (4096 * c 0 + c 1) (c 2)) :=
    (((v4 ha).mulf (v19 ha)).mulf (v22 hx hw hm)).congr fun c _ => by unfold db; ac_rfl
  exact (Rd.unseq v23 _).truncf _

include hx ha hb hw hm in
theorem v32 (hr : ∀ r k, r < 8192 → k < 2816 → ∃ x : ℝ, du X (fun q k => M q 5 k) W r k * B r k = (x : EReal)) :
    Rd (s := Cert.Reference6Ideal.S8192x2816) (val_main_v32 (F := Ideal) x0 x2 x3 x4 x5) (fun c : Fin 2 → ℕ => da X (fun q k => M q 5 k) W A B (c 0) (c 1)) := by
  have v24 : Rd (s := Cert.Reference6Ideal.S2x4096x2816) (val_main_v24 (F := Ideal) x0 x3 x4 x5) (fun c : Fin 3 → ℕ => du X (fun q k => M q 5 k) W (4096 * c 0 + c 1) (c 2) * B (4096 * c 0 + c 1) (c 2)) :=
    (v22 hx hw hm).mulf (Rd.seq (hb.extf _) _)
  have v25 : Rd (s := Cert.Reference6Ideal.S2x4096x2816) (val_main_v25 (F := Ideal) x0 x2 x3 x4 x5) (fun c : Fin 3 → ℕ => da X (fun q k => M q 5 k) W A B (4096 * c 0 + c 1) (c 2)) :=
    ((v24.mulf (v19 ha)).addf (((v4 ha).mulf v24).mulf ((v19 ha).mulf ((Rf.scal (r := (1 : EReal)) (fun _ => Consts.f1) _).esubf (v19 ha))))).congr fun c hc => by
      have c0 : c 0 < 2 := hc 0
      have c1 : c 1 < 4096 := hc 1
      obtain ⟨x, e⟩ := hr (4096 * c 0 + c 1) (c 2) (by omega) (hc 2)
      unfold da
      rw [mul_right_comm (du X (fun q k => M q 5 k) W (4096 * c 0 + c 1) (c 2)) (Ideal.logistic _), e]
      exact (dsilu _ x).symm
  exact (Rd.unseq v25 _).truncf _

include hx hp in
theorem v28 : Rd (s := Cert.Reference6Ideal.S2x8x1024) (val_main_v28 (F := Ideal) x0 x1) (fun c : Fin 3 → ℕ => pb X P (c 0) (c 1) (c 2)) := by
  have v16 : Rd (s := Cert.Reference6Ideal.S2x1024) (val_main_v16 (F := Ideal) x0 x1) (fun c : Fin 2 → ℕ => pb X P (c 0) 0 (c 1)) :=
    (Rd.of_sum ((v12 hx).mulf (v2 hp)) Consts.f0 (val_main_v16_apply x0 x1) (fun c k => X (4096 * c 0 + k) (c 1) * P (4096 * c 0 + k) (c 1)) fun i k => rfl).congr fun c _ => (if_pos rfl).symm
  have v17 : Rd (s := Cert.Reference6Ideal.S2x1x1024) (val_main_v17 (F := Ideal) x0 x1) (fun c : Fin 3 → ℕ => pb X P (c 0) 0 (c 2)) :=
    Rd.of_apply (t := Cert.Reference6Ideal.S2x1x1024) (g := fun c : Fin 3 → ℕ => pb X P (c 0) 0 (c 2)) v16 (val_main_v17_apply x0 x1) fun i => by
      have b0 : (i 0).val < 2 := (i 0).isLt; have b1 : (i 1).val < 1 := (i 1).isLt; have b2 : (i 2).val < 1024 := (i 2).isLt; exact Rf.cg3 (pb X P) (show (((i 0).val * 1 + (i 1).val) * 1024 + (i 2).val) / 1024 = (i 0).val by omega) rfl
        (show (((i 0).val * 1 + (i 1).val) * 1024 + (i 2).val) % 1024 = (i 2).val by omega)
  have v18 : Rd (s := Cert.Reference6Ideal.S2x1024) (val_main_v18 (F := Ideal) x0 x1) (fun c : Fin 2 → ℕ => pb X P (c 0) 0 (c 1)) :=
    (Rd.of_sum v17 Consts.f0 (val_main_v18_apply x0 x1) (K := 1) (fun c _ => pb X P (c 0) 0 (c 1)) fun i k => rfl).congr fun c _ => Finset.sum_range_one _
  have v26 : Rd (s := Cert.Reference6Ideal.S2x1x1024) (val_main_v26 (F := Ideal) x0 x1) (fun c : Fin 3 → ℕ => pb X P (c 0) 0 (c 2)) :=
    Rd.of_apply (t := Cert.Reference6Ideal.S2x1x1024) (g := fun c : Fin 3 → ℕ => pb X P (c 0) 0 (c 2)) v18 (val_main_v26_apply x0 x1) fun i => rfl
  exact Rd.cat2 (n := 3) (a := 1) (d₁ := ![2, 1, 1024]) (d₂ := ![2, 7, 1024]) (e := ![2, 8, 1024]) _ 1 rfl
    (v26.congr fun c hc => by have h : c 1 < 1 := hc 1; show _ = pb X P (c 0) (c 1) (c 2); rw [show c 1 = 0 by omega])
    ((Rf.scal Rf.z0E _).congr fun c hc => by show _ = pb X P (c 0) (1 + c 1) (c 2); unfold pb; rw [if_neg (by omega)])
end Ref

/-! The precondition. -/
theorem pre_facts : Cert.Pre_finite_ffn.Facts where
  bcast_S_S8192x1024 := by decide
  reducesTo_S8192x1024_S_d0_1 := by decide
  h_S_ := by decide
  slices_S2x6x1024_S2x1x1024_0_5_0 := by decide
  bcast_S_S2x1x1024 := by decide
  reducesTo_S2x1x1024_S_d0_1_2 := by decide
  bitsLt_bf16_f32 := by decide
  bcast_S_S8192x2816 := by decide
  reducesTo_S8192x2816_S_d0_1 := by decide
  bcast_S_S2816x1024 := by decide
  reducesTo_S2816x1024_S_d0_1 := by decide

variable {m}

theorem real_of_pre (h : @Pre_Kernel6Ideal_finite_ffn pre_facts m) (r k : ℕ) (hr : r < 8192) : ∃ x : ℝ, du (aX m c) (aG m c) (aW m c) r k * aB m c r k = (x : EReal) := by
  letI := pre_facts
  have hc := congrFun (h c) ValueIdx.ix0
  unfold Pre_finite_ffn.fn Pre_finite_ffn.fn_part1 at hc
  dsimp only at hc
  obtain ⟨hc, e4⟩ := IntOp.andi_eq_one.1 hc
  obtain ⟨hc, e3⟩ := IntOp.andi_eq_one.1 hc
  obtain ⟨e0, e5⟩ := IntOp.andi_eq_one.1 hc
  have top : ∀ {s : Shape} (hb : (⟨0, ![]⟩ : Shape).BroadcastsInDim s ![]) (i : s.Idx),
      broadcastInDim s ![] hb (constant (F := Ideal) ⟨0, ![]⟩ .f32 0x7F800000#32) i = (⊤ : EReal) := fun _ _ => Ker.inf_word
  have f0 := Ker.fin_of_all _ _ (top _) _ _ _ _ e0
  have f5 := Ker.fin_of_all _ _ (top _) _ _ _ _ e5
  have f3 := Ker.fin_of_all _ _ (top _) _ _ _ _ e3
  have f4 := Ker.fin_of_all _ _ (top _) _ _ _ _ e4
  have hX : ∀ j, ∃ x : ℝ, aX m c r j = (x : EReal) := fun j => ⟨_, ar_real f0 _⟩
  have hB : ∃ x : ℝ, aB m c r k = (x : EReal) := ⟨_, ar_real f3 _⟩
  have hW : ∀ j, ∃ x : ℝ, aW m c k j = (x : EReal) := fun j => ⟨_, ar_real f4 _⟩
  have hG : ∀ j, j < 1024 → ∃ x : ℝ, aG m c (r / 4096) j = (x : EReal) := fun j hj => by
    have h1 := Rd.Rd.slice (e := ![2, 1, 1024]) (Rd.Rd.ar (s := S2x6x1024) (m ((c : Thread nD τ).loc main_arg5))) ![0, 5, 0] pre_facts.slices_S2x6x1024_S2x1x1024_0_5_0
      (ValueIdx.ix3 ⟨r / 4096, by omega⟩ 0 ⟨j, hj⟩)
    have h2 := f5 (ValueIdx.ix3 ⟨r / 4096, by omega⟩ 0 ⟨j, hj⟩)
    have h3 : aG m c (r / 4096) j = ar (s := S2x6x1024) (m ((c : Thread nD τ).loc main_arg5)) ![r / 4096, 5, j] := by unfold aG aM; exact if_pos (by decide)
    have h4 : ar (s := S2x6x1024) (m ((c : Thread nD τ).loc main_arg5)) ![r / 4096, 5, j] = _ := (congrArg (ar (s := S2x6x1024) (m ((c : Thread nD τ).loc main_arg5)))
      (funext fun a => by match a with | ⟨0, _⟩ => exact (Nat.zero_add (r / 4096)).symm | ⟨1, _⟩ => rfl | ⟨2, _⟩ => exact (Nat.zero_add j).symm)).trans h1.symm
    exact ⟨_, (h3.trans h4).trans (EReal.coe_toReal h2.2 h2.1).symm⟩
  have hS : ∀ n ≤ 1024, ∃ x : ℝ, (∑ j ∈ Finset.range n, dp (aX m c) (aG m c) r j * aW m c k j) = (x : EReal) := fun n => by
    induction n with
    | zero => exact fun _ => ⟨0, rfl⟩
    | succ n ih =>
      intro hn
      obtain ⟨u, hu⟩ := ih (by omega)
      obtain ⟨x, hx⟩ := hX n
      obtain ⟨g, hg⟩ := hG n (by omega)
      obtain ⟨w, hw⟩ := hW n
      refine ⟨u + x * g * w, ?_⟩
      rw [Finset.sum_range_succ, hu, hw]
      unfold dp
      rw [hx, hg, EReal.coe_add, EReal.coe_mul, EReal.coe_mul]
  obtain ⟨u, hu⟩ := hS 1024 le_rfl
  obtain ⟨b, hb⟩ := hB
  exact ⟨u * b, by unfold du; rw [hu, hb, EReal.coe_mul]⟩

theorem claim [hPre : Cert.Pre_finite_ffn.Facts] : Cert.algebraic_Kernel6Ideal_Reference6Ideal_pre_finite_ffn := fun m g m' g' hpre hag => by
  refine ⟨fun c => (dats m 0 c).arrAt 6 cfg0.N, fun c => (dats m 0 c).arrAt 7 cfg0.N, fun c => (dats m 0 c).arrAt 8 cfg0.N, fun c => (dats m 0 c).arrAt 9 cfg0.N, Value.run_blocks m g, ?_⟩
  refine (θ_run Cert.Reference6Ideal.defs _ _).mono (fun r h c => ?_) (Cert.Reference6Ideal.Value.run (F := Ideal) m' g')
  obtain ⟨e0, e1, e2, e3, e⟩ := h c
  have hm : Rd (s := Cert.Reference6Ideal.S2x6x1024) (m ((c : Thread nD τ).loc main_arg5)) fun k => aM m c (k 0) (k 1) (k 2) :=
    (Final.rd3 (n := 2) (k := 6) (l := 1024) _).congr fun k hk => (if_pos (show k 1 < 6 from hk 1)).symm
  obtain ⟨h0, h1, h2, h3, h4, h5⟩ := hag c
  refine ⟨e0.trans ?_, e1.trans ?_, e2.trans ?_, e3.trans ?_, e⟩
  · refine (Cert.Reference6Ideal.Read.val_main_v30_eq _ _).trans ?_
    rw [h0, h5]
    exact Final.same (v30 (X := aX m c) (M := aM m c) (Final.rd2 _) hm) (dp_arr m c) fun _ => rfl
  · refine (Cert.Reference6Ideal.Read.val_main_v28_eq _ _).trans ?_
    rw [h0, h1]
    exact Final.same (v28 (X := aX m c) (P := aP m c) (Final.rd2 _) (Final.rd2 _)) (pb_arr m c) fun _ => rfl
  · refine (Cert.Reference6Ideal.Read.val_main_v32_eq _ _ _ _ _).trans ?_
    rw [h0, h2]
    rw [h3, h4, h5]
    exact Final.same (v32 (X := aX m c) (A := aA m c) (B := aB m c) (W := aW m c) (M := aM m c) (Final.rd2 _) (Final.rd2 _) (Final.rd2 _) (Final.rd2 _) hm
      fun r k hr _ => real_of_pre c hpre r k hr) (da_arr m c) fun _ => rfl
  · refine (Cert.Reference6Ideal.Read.val_main_v34_eq _ _ _ _).trans ?_
    rw [h0, h2]
    rw [h4, h5]
    exact Final.same (v34 (X := aX m c) (A := aA m c) (W := aW m c) (M := aM m c) (Final.rd2 _) (Final.rd2 _) (Final.rd2 _) hm) (db_arr m c) fun _ => rfl

end Cert.GateF

end
-- ==== Proof.DownW.lean ====
/- The gradient of the feed-forward network's second product's weights: what the kernel accumulates, and the reference's sum. -/
module

public import proofs.«01_k».proof.Proof.Wg
public import proofs.«01_k».proof.Proof.Gen.Kernel7Ideal.Value
public import proofs.«01_k».proof.Proof.Gen.Reference7Ideal.Read

@[expose] public section

set_option maxRecDepth 16384
set_option maxHeartbeats 1000000

noncomputable section

namespace Cert.DownW

open Idealize.ShloMosaic Cert.Rd Cert.Wg Cert.Kernel7Ideal Cert.Kernel7Ideal.Gen Idealize.ShloMosaic.TcCoe Idealize.SL.Sem
open Idealize.ShloMosaic.Pipeline (Dat)

variable (m : (ℓ : Loc nD τ sig) → Buf (Elt Ideal) ℓ) (c : Dev nD)

def aA (r k : ℕ) : EReal := ar (s := S8192x2816) (m ((c : Thread nD τ).loc main_arg0)) ![r, k]
def aB (r k : ℕ) : EReal := ar (s := S8192x1024) (m ((c : Thread nD τ).loc main_arg1)) ![r, k]

theorem at0 : ∀ t : Fin grid0.N, win0_0.index t = ![t.val % 4, t.val / 4] := by decide +kernel
theorem at1 : ∀ t : Fin grid0.N, win0_1.index t = ![t.val % 4, 0] := by decide +kernel
theorem at2 : ∀ t : Fin grid0.N, win0_2.index t = ![t.val / 4, 0] := by decide +kernel

variable (t : Fin cfg0.N)

theorem blk0 : Rd (s := S2048x1408) (iblk m c 0 t) (bl (aA m c) (2048 * (t.val % 4)) (1408 * (t.val / 4))) := fun i => by
  refine (congrFun (V_main_arg0 m c) _).trans (ar_of (s := S8192x2816) _ _ _ fun a => ?_)
  match a with | ⟨0, _⟩ | ⟨1, _⟩ => blk_simp [at0] <;> (try simp) <;> omega

theorem blk1 : Rd (s := S2048x1024) (iblk m c 1 t) (bl (aB m c) (2048 * (t.val % 4)) 0) := fun i => by
  refine (congrFun (V_main_arg1 m c) _).trans (ar_of (s := S8192x1024) _ _ _ fun a => ?_)
  match a with | ⟨0, _⟩ | ⟨1, _⟩ => blk_simp [at1] <;> (try simp) <;> omega

theorem sc_A (h0 : t.val % 4 = 0) : Rd (s := S1408x1024) (outsAt0 m c t.val t.isLt).2 (bl (wg (aA m c) (aB m c) 2048) (1408 * (t.val / 4)) 0) := by
  rw [outsAt0_A m c t h0 (by omega) (by omega)]
  dsimp only
  unfold sout0_A_0 kernelRun0_A
  dsimp only
  sl_unfold_words
  simp (disch := decide) only [↓View.readCov_skip, View.readCov_fill, View.readAt_eq_ld, Memref.IsWhole.read_unread]
  exact full32 (pay2 (ldW (blk0 m c t) inb_S2048x1408_S2048x1408_0_0) (ldW (blk1 m c t) inb_S2048x1024_S2048x1024_0_0) _ _ (by omega))

/-- The scratch with one more chunk, at a point that is not a column's first. -/
theorem step (ho : Rd (s := S1408x1024) (outsAt0 m c (t.val - 1) (by omega)).2 (bl (wg (aA m c) (aB m c) (2048 * (t.val % 4))) (1408 * (t.val / 4)) 0)) :
    Rd (s := S1408x1024) (k0_pay3 (F := Ideal) (View.ld (iblk m c 0 t) (Rect.unit ![0, 0] ![2048, 1408] inb_S2048x1408_S2048x1408_0_0))
      (View.ld (iblk m c 1 t) (Rect.unit ![0, 0] ![2048, 1024] inb_S2048x1024_S2048x1024_0_0))
      (View.ld (outsAt0 m c (t.val - 1) (by omega)).2 (Rect.unit ![0, 0] ![1408, 1024] inb_S1408x1024_S1408x1024_0_0)))
      (bl (wg (aA m c) (aB m c) (2048 * (t.val % 4 + 1))) (1408 * (t.val / 4)) 0) := by
  rw [show 2048 * (t.val % 4 + 1) = 2048 * (t.val % 4) + 2048 by omega]
  exact pay3 (ldW (blk0 m c t) inb_S2048x1408_S2048x1408_0_0) (ldW (blk1 m c t) inb_S2048x1024_S2048x1024_0_0) _ _ (ldW ho inb_S1408x1024_S1408x1024_0_0)

theorem sc_B (h0 : ¬t.val % 4 = 0) (h1 : ¬t.val % 4 = 3) (ho : Rd (s := S1408x1024) (outsAt0 m c (t.val - 1) (by omega)).2 (bl (wg (aA m c) (aB m c) (2048 * (t.val % 4))) (1408 * (t.val / 4)) 0)) :
    Rd (s := S1408x1024) (outsAt0 m c t.val t.isLt).2 (bl (wg (aA m c) (aB m c) (2048 * (t.val % 4 + 1))) (1408 * (t.val / 4)) 0) := by
  rw [outsAt0_B m c t h0 (by omega) h1]
  dsimp only
  unfold sout0_B_0 kernelRun0_B
  dsimp only
  sl_unfold_words
  simp (disch := decide) only [↓View.readCov_skip, View.readCov_fill, View.readAt_eq_ld, Memref.IsWhole.read_unread, (Memref.isWhole_whole _).read_unread]
  exact full32 (step m c t ho)

theorem out_C (h0 : t.val % 4 = 3) (ho : Rd (s := S1408x1024) (outsAt0 m c (t.val - 1) (by omega)).2 (bl (wg (aA m c) (aB m c) (2048 * (t.val % 4))) (1408 * (t.val / 4)) 0)) :
    Rd (s := S1408x1024) (outsAt0 m c t.val t.isLt).1 (bl (wg (aA m c) (aB m c) 8192) (1408 * (t.val / 4)) 0) := by
  have h := step m c t ho
  rw [show 2048 * (t.val % 4 + 1) = 8192 by omega] at h
  rw [outsAt0_C m c t (by omega) (by omega) h0]
  dsimp only
  unfold out0_C_2 kernelRun0_C
  dsimp only
  sl_unfold_words
  simp (disch := decide) only [↓View.readCov_skip, View.readCov_fill, View.readAt_eq_ld, Memref.IsWhole.read_unread, (Memref.isWhole_whole _).read_unread]
  exact full16 ((ldW h inb_S1408x1024_S1408x1024_0_0).truncf _)

theorem sc_all (q : ℕ) : ∀ (n : ℕ) (hn : 4 * q + n < cfg0.N), n < 3 →
    Rd (s := S1408x1024) (outsAt0 m c (4 * q + n) hn).2 (bl (wg (aA m c) (aB m c) (2048 * (n + 1))) (1408 * q) 0)
  | 0, hn, _ => by
    have h := sc_A m c ⟨4 * q + 0, hn⟩ (by show (4 * q + 0) % 4 = 0; omega)
    rw [show (⟨4 * q + 0, hn⟩ : Fin cfg0.N).val / 4 = q by show (4 * q + 0) / 4 = q; omega] at h
    exact h
  | n + 1, hn, h3 => by
    have e4 : (4 * q + (n + 1)) / 4 = q := by omega
    have e : (4 * q + (n + 1)) % 4 = n + 1 := by omega
    have h := sc_B m c ⟨4 * q + (n + 1), hn⟩ (by show ¬(4 * q + (n + 1)) % 4 = 0; omega) (by show ¬(4 * q + (n + 1)) % 4 = 3; omega)
    simp only [e, e4] at h
    exact h (sc_all q n (by omega) (by omega))

theorem out_last (h0 : t.val % 4 = 3) : Rd (s := S1408x1024) (outsAt0 m c t.val t.isLt).1 (bl (wg (aA m c) (aB m c) 8192) (1408 * (t.val / 4)) 0) := by
  have e : ∀ (n : ℕ) (hn : n < cfg0.N) (_ : n = 4 * (t.val / 4) + 2), Rd (s := S1408x1024) (outsAt0 m c n hn).2 (bl (wg (aA m c) (aB m c) (2048 * (t.val % 4))) (1408 * (t.val / 4)) 0) := by
    intro n hn en
    subst en
    rw [h0]
    exact sc_all m c (t.val / 4) 2 hn (by omega)
  exact out_C m c t h0 (e _ _ (by omega))

theorem arr : Rd (s := S2816x1024) ((dats m 0 c).arrAt 2 cfg0.N) fun k => wg (aA m c) (aB m c) 8192 (k 0) (k 1) := fun i => by
  refine (dats m 0 c).arrAt_forall_of_covers 2 (fun i v => v = wg (aA m c) (aB m c) 8192 (i 0).val (i 1).val) (by decide +kernel) (fun t hf y => ?_) i
  rw [after0_2]
  refine (out_last m c t ((flush0_2 t).mp hf) _).trans ?_
  refine congrArg₂ (wg (aA m c) (aB m c) 8192) ?_ ?_ <;> blk_simp [at2] <;> (try simp) <;> omega

theorem claim : Cert.algebraic_Kernel7Ideal_Reference7Ideal := fun m g m' g' _ hag => by
  refine ⟨fun c => (dats m 0 c).arrAt 2 cfg0.N, Value.run_blocks m g, ?_⟩
  refine (θ_run Cert.Reference7Ideal.defs _ _).mono (fun r h c => ?_) (Cert.Reference7Ideal.Value.run (F := Ideal) m' g')
  obtain ⟨e0, e⟩ := h c
  refine ⟨e0.trans ?_, e⟩
  obtain ⟨h0, h1⟩ := hag c
  refine (Cert.Reference7Ideal.Read.val_main_v6_eq _ _).trans ?_
  rw [h0, h1]
  exact Final.same (ref (A := aA m c) (B := aB m c) (Final.rd2 _) (Final.rd2 _) _ _ _ _ _) (arr m c) fun _ => rfl

end Cert.DownW

end
-- ==== Proof.GateO.lean ====
/- The gradient through the output projection and the mixer's gate: what the kernel computes, the reference, and the claim. -/
module

public import proofs.«01_k».proof.Proof.Fwd
public import proofs.«01_k».proof.Proof.Final
public import proofs.«01_k».proof.Proof.Gen.Kernel8Ideal.Value
public import proofs.«01_k».proof.Proof.Gen.Reference8Ideal.Read

@[expose] public section

set_option maxRecDepth 16384
set_option maxHeartbeats 1000000

noncomputable section

namespace Cert.GateO

open Idealize.ShloMosaic Cert.Rd Cert.Spec Cert.Gate Cert.Kernel8Ideal Cert.Kernel8Ideal.Gen Idealize.ShloMosaic.TcCoe Idealize.SL.Sem
open Idealize.ShloMosaic.Pipeline (Dat)

section Body
variable {X P W G : ℕ → ℕ → EReal} {i : ℕ} {v8 : FVec Ideal S512x1024 .f32} {v33 : FVec Ideal S512x1024 .bf16} {v9 : FVec Ideal S1x1x1024 .f32}
  {v4 : FVec Ideal S1024x1024 .bf16} (hX : Rd (s := S512x1024) v8 (bk 512 i X)) (hP : Rd (s := S512x1024) v33 (bk 512 i P))
  (hG : Rd (s := S1x1x1024) v9 (ln3 (G (i / 8)))) (hW : Rd (s := S1024x1024) v4 fun c => W (c 0) (c 1))

include hX hG in
theorem pay3 : Rd (s := S512x1024) (k0_pay3 (F := Ideal) v8 v9) (bk 512 i (dp X G)) :=
  (hX.mulf (bseq (s := 512) (p := 8) rfl (hG.castDrop shapeCasts_S1x1x1024_S1x1024) broadcasts_S1x1024_S512x1024)).truncf _

include hX hG in
theorem pay4 : Rd (s := S512x1024) (k0_pay4 (F := Ideal) v8 v9) (bk 512 i (dp X G)) := (pay3 hX hG).castSelf _

include hW in
theorem pay2 {v3 : FVec Ideal S512x1024 .bf16} (h3 : Rd (s := S512x1024) v3 (bk 512 i (dp X G))) : Rd (s := S512x1024) (k0_pay2 (F := Ideal) v3 v4) (bk 512 i (du X G W)) :=
  ((Rd.dot dot_S512x1024_S1024x1024_S512x1024_1_1_0_0_n_n none 1024 (fun c k => ![c 0, k]) (fun c k => ![c 1, k])
    h3 hW
    (Rd.const Consts.f0 : Rd (α := EReal) _ fun _ => 0)).congr fun c _ => zero_add _).truncf _

include hX hP in
theorem row {F : ℕ → EReal} {vo : FVec Ideal S1x1x1024 .f32} (ho : Rd (s := S1x1x1024) vo (ln3 F)) :
    Rd (s := S1x1x1024) (k0_pay1 (F := Ideal) (k0_pay6 (F := Ideal) v8 vo v33)) (ln3 fun k => F k + tl 512 (fun r => X r k * P r k) i) :=
  (((ho.castDrop shapeCasts_S1x1x1024_S1x1024).addf
    (((hX.mulf (hP.extf _)).red0 0x00000000#32 reduces_S512x1024_S1024 (.inl rfl) rfl).castRow shapeCasts_S1024_S1x1024)).castAdd shapeCasts_S1x1024_S1x1x1024 :)
end Body

variable (m : (ℓ : Loc nD τ sig) → Buf (Elt Ideal) ℓ) (c : Dev nD)

def aX (r k : ℕ) : EReal := ar (s := S8192x1024) (m ((c : Thread nD τ).loc main_arg0)) ![r, k]
def aP (r k : ℕ) : EReal := ar (s := S8192x1024) (m ((c : Thread nD τ).loc main_arg1)) ![r, k]
def aW (r k : ℕ) : EReal := ar (s := S1024x1024) (m ((c : Thread nD τ).loc main_arg2)) ![r, k]
def aM : ℕ → ℕ → ℕ → EReal := Fwd.mod (m ((c : Thread nD τ).loc main_arg3))
/-- The gate: row 2 of the modulation. -/
def aG (q k : ℕ) : EReal := aM m c q 2 k

theorem V_v0 : V m c main_v0 = Fwd.padded (m ((c : Thread nD τ).loc main_arg3)) := by
  entry_read
  rfl

theorem rd_v0 : Rd (s := S2x8x1024) (V m c main_v0) fun k => aM m c (k 0) (k 1) (k 2) := by
  rw [V_v0]
  exact Fwd.rd_pad _

theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val / 8, 0, 0] := by decide +kernel
theorem at3 : ∀ t : Fin grid0.N, win0_3.index t = ![0, 0] := by decide +kernel
theorem at4 : ∀ t : Fin grid0.N, win0_4.index t = ![t.val, 0] := by decide +kernel
theorem at5 : ∀ t : Fin grid0.N, win0_5.index t = ![t.val / 8, 0, 0] := by decide +kernel
theorem at6 : ∀ t : Fin grid0.N, win0_6.index t = ![t.val, 0] := by decide +kernel

variable (t : Fin cfg0.N)

theorem blk0 : Rd (s := S512x1024) (iblk m c 0 t) (bk 512 t.val (aX m c)) := fun i => by
  refine (congrFun (V_main_arg0 m c) _).trans (ar_of (s := S8192x1024) _ _ _ fun a => ?_)
  match a with | ⟨0, _⟩ | ⟨1, _⟩ => blk_simp [at0] <;> (try simp) <;> omega

theorem blk1 : Rd (s := S512x1024) (iblk m c 1 t) (bk 512 t.val (aP m c)) := fun i => by
  refine (congrFun (V_main_arg1 m c) _).trans (ar_of (s := S8192x1024) _ _ _ fun a => ?_)
  match a with | ⟨0, _⟩ | ⟨1, _⟩ => blk_simp [at1] <;> (try simp) <;> omega

theorem blk2 : Rd (s := S1x8x1024) (iblk m c 2 t) fun k => aM m c (t.val / 8) (k 1) (k 2) := fun i => by
  refine (rd_v0 m c _).trans (Fwd.rows (aM m c) ?_ ?_ ?_) <;> blk_simp [at2] <;> (try simp) <;> omega

theorem blk3 : Rd (s := S1024x1024) (iblk m c 3 t) fun k => aW m c (k 0) (k 1) := fun i => by
  refine (congrFun (V_main_arg2 m c) _).trans (ar_of (s := S1024x1024) _ _ _ fun a => ?_)
  match a with | ⟨0, _⟩ | ⟨1, _⟩ => blk_simp [at3] <;> (try simp) <;> omega

/-! The blocks as a grid point loads them. -/
def l0 := ldW (blk0 m c t) inb_S512x1024_S512x1024_0_0
def l1 := ldW (blk1 m c t) inb_S512x1024_S512x1024_0_0
def l2 := ldR3 (P := aM m c (t.val / 8)) (blk2 m c t) 2 inb_S1x8x1024_S1x1x1024_0_2_0
def l3 := ldW (f := fun k => aW m c (k 0) (k 1)) (blk3 m c t) inb_S1024x1024_S1024x1024_0_0

theorem dp_A (h0 : t.val % 8 = 0) : Rd (s := S512x1024) (outsAt0 m c t.val t.isLt).1 (bk 512 t.val (dp (aX m c) (aG m c))) := by
  rw [outsAt0_A m c t h0]
  dsimp only
  unfold out0_A_4 kernelRun0_A
  dsimp only
  sl_unfold_words
  simp (disch := decide) only [↓View.readCov_skip, View.readCov_fill, View.readAt_eq_ld, Memref.IsWhole.read_unread]
  exact st2 (pay3 (G := aG m c) (l0 m c t) (l2 m c t))

theorem dp_B (h0 : ¬t.val % 8 = 0) : Rd (s := S512x1024) (outsAt0 m c t.val t.isLt).1 (bk 512 t.val (dp (aX m c) (aG m c))) := by
  rw [outsAt0_B m c t h0]
  dsimp only
  unfold out0_B_4 kernelRun0_B
  dsimp only
  sl_unfold_words
  simp (disch := decide) only [↓View.readCov_skip, View.readCov_fill, View.readAt_eq_ld, Memref.IsWhole.read_unread]
  exact st2 (pay3 (G := aG m c) (l0 m c t) (l2 m c t))

theorem du_A (h0 : t.val % 8 = 0) : Rd (s := S512x1024) (outsAt0 m c t.val t.isLt).2.2 (bk 512 t.val (du (aX m c) (aG m c) (aW m c))) := by
  rw [outsAt0_A m c t h0]
  dsimp only
  unfold out0_A_6 kernelRun0_A
  dsimp only
  sl_unfold_words
  simp (disch := decide) only [↓View.readCov_skip, View.readCov_fill, View.readAt_eq_ld, Memref.IsWhole.read_unread]
  exact st2 (pay2 (l3 m c t) (ldW (pay4 (G := aG m c) (l0 m c t) (l2 m c t)) inb_S512x1024_S512x1024_0_0))

theorem du_B (h0 : ¬t.val % 8 = 0) : Rd (s := S512x1024) (outsAt0 m c t.val t.isLt).2.2 (bk 512 t.val (du (aX m c) (aG m c) (aW m c))) := by
  rw [outsAt0_B m c t h0]
  dsimp only
  unfold out0_B_6 kernelRun0_B
  dsimp only
  sl_unfold_words
  simp (disch := decide) only [↓View.readCov_skip, View.readCov_fill, View.readAt_eq_ld, Memref.IsWhole.read_unread]
  exact st2 (pay2 (l3 m c t) (ldW (pay4 (G := aG m c) (l0 m c t) (l2 m c t)) inb_S512x1024_S512x1024_0_0))

theorem pb_A (h0 : t.val % 8 = 0) {q n : ℕ} (e : 8 * q + n = t.val) (hn : n = 0) :
    Rd (s := S1x8x1024) (outsAt0 m c t.val t.isLt).2.1 fun k => pbAt 512 8 (aX m c) (aP m c) q (n + 1) (k 1) (k 2) := by
  rw [outsAt0_A m c t h0]
  dsimp only
  unfold out0_A_5 kernelRun0_A
  dsimp only
  sl_unfold_words
  simp (disch := decide) only [↓View.readCov_skip, View.readCov_fill, View.readAt_eq_ld, Memref.IsWhole.read_unread]
  refine On.all ?_
  have z : Rd (s := S1x8x1024) (k0_pay5 (F := Ideal)) fun k => pbAt 512 8 (aX m c) (aP m c) q n (k 1) (k 2) := by
    rw [hn]
    exact zeros' fun k => pbAt_zero _ _ _ _ _ _ _
  refine st32 (stR3 (row (l0 m c t) (l1 m c t) (ldR3 (P := fun r k => pbAt 512 8 (aX m c) (aP m c) q n r k) z 0 inb_S1x8x1024_S1x1x1024_0_0_0))
    (pbAt 512 8 (aX m c) (aP m c) q (n + 1)) 0 fun k => pbAt_row _ _ _ _ q n k _ e) ?_
  exact On.of (F := fun _ => 0) (by
    rw [View.read_writes_junk_eq_canon, View.canon_cons_unit_lit _ _ _ (by decide)]
    exact zeros' fun c => rfl) fun c hc hP => by
    have b0 := hc 0
    have b1 := hc 1
    have b2 := hc 2
    simp [Fin.forall_fin_succ] at hP b0 b1 b2
    exact (pbAt_1 _ _ _ _ _ _ _ _ (by omega)).symm

theorem pb_B (h0 : ¬t.val % 8 = 0) {q n : ℕ} (e : 8 * q + n = t.val)
    (ho : Rd (s := S1x8x1024) (outsAt0 m c (t.val - 1) (by omega)).2.1 fun k => pbAt 512 8 (aX m c) (aP m c) q n (k 1) (k 2)) :
    Rd (s := S1x8x1024) (outsAt0 m c t.val t.isLt).2.1 fun k => pbAt 512 8 (aX m c) (aP m c) q (n + 1) (k 1) (k 2) := by
  rw [outsAt0_B m c t h0]
  dsimp only
  unfold out0_B_5 kernelRun0_B
  dsimp only
  sl_unfold_words
  simp (disch := decide) only [↓View.readCov_skip, View.readCov_fill, View.readAt_eq_ld, Memref.IsWhole.read_unread]
  refine On.all ?_
  refine st32 (stR3 (row (l0 m c t) (l1 m c t) (ldR3 (P := fun r k => pbAt 512 8 (aX m c) (aP m c) q n r k) ho 0 inb_S1x8x1024_S1x1x1024_0_0_0))
    (pbAt 512 8 (aX m c) (aP m c) q (n + 1)) 0 fun k => pbAt_row _ _ _ _ q n k _ e) ?_
  refine On.of (F := fun k => pbAt 512 8 (aX m c) (aP m c) q n (k 1) (k 2)) ((hs0_5 t).read_unread _ ▸ ho) fun c hc hP => ?_
  have b0 := hc 0
  have b1 := hc 1
  have b2 := hc 2
  simp [Fin.forall_fin_succ] at hP b0 b1 b2
  rw [pbAt_1 _ _ _ _ _ _ _ _ (show 1 ≤ c 1 by omega), pbAt_1 _ _ _ _ _ _ _ _ (show 1 ≤ c 1 by omega)]

theorem pb_all (q : ℕ) : ∀ (n : ℕ) (hn : 8 * q + n < cfg0.N), n < 8 →
    Rd (s := S1x8x1024) (outsAt0 m c (8 * q + n) hn).2.1 fun k => pbAt 512 8 (aX m c) (aP m c) q (n + 1) (k 1) (k 2)
  | 0, hn, _ => pb_A m c ⟨8 * q + 0, hn⟩ (by show (8 * q + 0) % 8 = 0; omega) (q := q) (n := 0) rfl rfl
  | n + 1, hn, h8 =>
    pb_B m c ⟨8 * q + (n + 1), hn⟩ (by show ¬(8 * q + (n + 1)) % 8 = 0; omega) (q := q) (n := n + 1) rfl (pb_all q n (by omega) (by omega))

/-! The arrays after the launch. -/
theorem dp_arr : Rd (s := S8192x1024) ((dats m 0 c).arrAt 4 cfg0.N) fun k => dp (aX m c) (aG m c) (k 0) (k 1) := fun i => by
  refine (dats m 0 c).arrAt_forall_of_covers 4 (fun i v => v = dp (aX m c) (aG m c) (i 0).val (i 1).val) (by decide +kernel) (fun t hf y => ?_) i
  rw [after0_4]
  refine ((if h : t.val % 8 = 0 then dp_A m c t h else dp_B m c t h : Rd (s := S512x1024) _ _) _).trans ?_
  refine congrArg₂ (dp (aX m c) (aG m c)) ?_ ?_ <;> blk_simp [at4] <;> (try simp) <;> omega

theorem du_arr : Rd (s := S8192x1024) ((dats m 0 c).arrAt 6 cfg0.N) fun k => du (aX m c) (aG m c) (aW m c) (k 0) (k 1) := fun i => by
  refine (dats m 0 c).arrAt_forall_of_covers 6 (fun i v => v = du (aX m c) (aG m c) (aW m c) (i 0).val (i 1).val) (by decide +kernel) (fun t hf y => ?_) i
  rw [after0_6]
  refine ((if h : t.val % 8 = 0 then du_A m c t h else du_B m c t h : Rd (s := S512x1024) _ _) _).trans ?_
  refine congrArg₂ (du (aX m c) (aG m c) (aW m c)) ?_ ?_ <;> blk_simp [at6] <;> (try simp) <;> omega

theorem pb_last (h : t.val % 8 = 7) : Rd (s := S1x8x1024) (outsAt0 m c t.val t.isLt).2.1 fun k => pb (aX m c) (aP m c) (t.val / 8) (k 1) (k 2) := by
  have e : ∀ (n : ℕ) (hn : n < cfg0.N) (_ : n = 8 * (t.val / 8) + 7), Rd (s := S1x8x1024) (outsAt0 m c n hn).2.1 fun k => pb (aX m c) (aP m c) (t.val / 8) (k 1) (k 2) := by
    intro n hn en
    subst en
    exact (pb_all m c (t.val / 8) 7 hn (by omega)).congr fun k _ => pbAt_all 512 8 _ _ rfl _ _ _
  exact e t.val t.isLt (by omega)

theorem pb_arr : Rd (s := S2x8x1024) ((dats m 0 c).arrAt 5 cfg0.N) fun k => pb (aX m c) (aP m c) (k 0) (k 1) (k 2) := fun i => by
  refine (dats m 0 c).arrAt_forall_of_covers 5 (fun i v => v = pb (aX m c) (aP m c) (i 0).val (i 1).val (i 2).val) (by decide +kernel) (fun t hf y => ?_) i
  rw [after0_5]
  refine (pb_last m c t ((flush0_5 t).mp hf) _).trans ?_
  refine Rf.cg3 (pb (aX m c) (aP m c)) ?_ ?_ ?_
  · blk_simp [at5] <;> (try simp) <;> omega
  all_goals blk_simp [at5] <;> (try simp) <;> omega

/-! The reference. -/
section Ref
open Cert.Reference8Ideal.Read
variable {X P W : ℕ → ℕ → EReal} {M : ℕ → ℕ → ℕ → EReal} {x0 : (⟨Cert.Reference8Ideal.S8192x1024, .f32⟩ : BufTy).Contents (Elt Ideal)} {x1 : (⟨Cert.Reference8Ideal.S8192x1024, .bf16⟩ : BufTy).Contents (Elt Ideal)}
  {x2 : (⟨Cert.Reference8Ideal.S1024x1024, .bf16⟩ : BufTy).Contents (Elt Ideal)} {x3 : (⟨Cert.Reference8Ideal.S2x6x1024, .f32⟩ : BufTy).Contents (Elt Ideal)}
  (hx : Rd (s := Cert.Reference8Ideal.S8192x1024) x0 fun c => X (c 0) (c 1)) (hp : Rd (s := Cert.Reference8Ideal.S8192x1024) x1 fun c => P (c 0) (c 1))
  (hw : Rd (s := Cert.Reference8Ideal.S1024x1024) x2 fun c => W (c 0) (c 1)) (hm : Rd (s := Cert.Reference8Ideal.S2x6x1024) x3 fun c => M (c 0) (c 1) (c 2))

include hm in
theorem v2 : Rd (s := Cert.Reference8Ideal.S2x1024) (val_main_v2 (F := Ideal) x3) (fun c : Fin 2 → ℕ => M (c 0) 2 (c 1)) := by
  have v1 : Rd (s := Cert.Reference8Ideal.S2x1x1024) (val_main_v1 (F := Ideal) x3) (fun c : Fin 3 → ℕ => M (c 0) 2 (c 2)) :=
    Rd.of_apply (t := Cert.Reference8Ideal.S2x1x1024) (g := fun c : Fin 3 → ℕ => M (c 0) 2 (c 2)) hm (val_main_v1_apply x3) fun i => by
      have b0 : (i 0).val < 2 := (i 0).isLt; have b1 : (i 1).val < 1 := (i 1).isLt; have b2 : (i 2).val < 1024 := (i 2).isLt; exact Rf.cg3 M rfl (show 2 + (i 1).val = 2 by omega) rfl
  exact Rd.of_apply (t := Cert.Reference8Ideal.S2x1024) (g := fun c : Fin 2 → ℕ => M (c 0) 2 (c 1)) v1 (val_main_v2_apply x3) fun i => by
    have b0 : (i 0).val < 2 := (i 0).isLt; have b1 : (i 1).val < 1024 := (i 1).isLt; exact Rf.cg3 M (show ((i 0).val * 1024 + (i 1).val) / 1024 = (i 0).val by omega) rfl
      (show ((i 0).val * 1024 + (i 1).val) % 1024 = (i 1).val by omega)

include hm in
theorem v9 : Rd (s := Cert.Reference8Ideal.S2x4096x1024) (val_main_v9 (F := Ideal) x3) (fun c : Fin 3 → ℕ => M ((4096 * c 0 + c 1) / 4096) 2 (c 2)) := by
  have v5 : Rd (s := Cert.Reference8Ideal.S2x1x1024) (val_main_v5 (F := Ideal) x3) (fun c : Fin 3 → ℕ => M (c 0) 2 (c 2)) :=
    Rd.of_apply (t := Cert.Reference8Ideal.S2x1x1024) (g := fun c : Fin 3 → ℕ => M (c 0) 2 (c 2)) (v2 hm) (val_main_v5_apply x3) fun i => rfl
  refine (Rd.of_apply (t := Cert.Reference8Ideal.S2x4096x1024) (g := fun c : Fin 3 → ℕ => M (c 0) 2 (c 2)) v5 (val_main_v9_apply x3) fun i => rfl).congr fun c hc => ?_
  have h1 : c 1 < 4096 := hc 1
  rw [show (4096 * c 0 + c 1) / 4096 = c 0 by omega]

include hp in
theorem v4 : Rd (s := Cert.Reference8Ideal.S2x4096x1024) (val_main_v4 (F := Ideal) x1) (fun c : Fin 3 → ℕ => P (4096 * c 0 + c 1) (c 2)) :=
  Rd.seq (hp.extf _) _

include hx in
theorem v8 : Rd (s := Cert.Reference8Ideal.S2x4096x1024) (val_main_v8 (F := Ideal) x0) (fun c : Fin 3 → ℕ => X (4096 * c 0 + c 1) (c 2)) := Rd.seq hx _

include hx hm in
theorem v10 : Rd (s := Cert.Reference8Ideal.S2x4096x1024) (val_main_v10 (F := Ideal) x0 x3) (fun c : Fin 3 → ℕ => dp X (fun q k => M q 2 k) (4096 * c 0 + c 1) (c 2)) :=
  ((v9 hm).mulf (v8 hx)).congr fun c _ => mul_comm _ _

include hx hm in
theorem v20 : Rd (s := Cert.Reference8Ideal.S8192x1024) (val_main_v20 (F := Ideal) x0 x3) (fun c : Fin 2 → ℕ => dp X (fun q k => M q 2 k) (c 0) (c 1)) :=
  (Rd.unseq (v10 hx hm) _).truncf _

include hx hw hm in
theorem v22 : Rd (s := Cert.Reference8Ideal.S8192x1024) (val_main_v22 (F := Ideal) x0 x2 x3) (fun c : Fin 2 → ℕ => du X (fun q k => M q 2 k) W (c 0) (c 1)) := by
  have v15 : Rd (s := Cert.Reference8Ideal.S2x4096x1024) (val_main_v15 (F := Ideal) x0 x2 x3) (fun c : Fin 3 → ℕ => du X (fun q k => M q 2 k) W (4096 * c 0 + c 1) (c 2)) :=
    Rd.of_dot (v10 hx hm) (hw.extf _) (val_main_v15_apply x0 x2 x3) (fun c k => dp X (fun q k => M q 2 k) (4096 * c 0 + c 1) k * W (c 2) k) fun i k => rfl
  exact (Rd.unseq v15 _).truncf _

include hx hp in
theorem v18 : Rd (s := Cert.Reference8Ideal.S2x8x1024) (val_main_v18 (F := Ideal) x0 x1) (fun c : Fin 3 → ℕ => pb X P (c 0) (c 1) (c 2)) := by
  have v12 : Rd (s := Cert.Reference8Ideal.S2x1024) (val_main_v12 (F := Ideal) x0 x1) (fun c : Fin 2 → ℕ => pb X P (c 0) 0 (c 1)) :=
    (Rd.of_sum ((v8 hx).mulf (v4 hp)) Consts.f0 (val_main_v12_apply x0 x1) (fun c k => X (4096 * c 0 + k) (c 1) * P (4096 * c 0 + k) (c 1)) fun i k => rfl).congr fun c _ => (if_pos rfl).symm
  have v13 : Rd (s := Cert.Reference8Ideal.S2x1x1024) (val_main_v13 (F := Ideal) x0 x1) (fun c : Fin 3 → ℕ => pb X P (c 0) 0 (c 2)) :=
    Rd.of_apply (t := Cert.Reference8Ideal.S2x1x1024) (g := fun c : Fin 3 → ℕ => pb X P (c 0) 0 (c 2)) v12 (val_main_v13_apply x0 x1) fun i => by
      have b0 : (i 0).val < 2 := (i 0).isLt; have b1 : (i 1).val < 1 := (i 1).isLt; have b2 : (i 2).val < 1024 := (i 2).isLt; exact Rf.cg3 (pb X P) (show (((i 0).val * 1 + (i 1).val) * 1024 + (i 2).val) / 1024 = (i 0).val by omega) rfl
        (show (((i 0).val * 1 + (i 1).val) * 1024 + (i 2).val) % 1024 = (i 2).val by omega)
  have v14 : Rd (s := Cert.Reference8Ideal.S2x1024) (val_main_v14 (F := Ideal) x0 x1) (fun c : Fin 2 → ℕ => pb X P (c 0) 0 (c 1)) :=
    (Rd.of_sum v13 Consts.f0 (val_main_v14_apply x0 x1) (K := 1) (fun c _ => pb X P (c 0) 0 (c 1)) fun i k => rfl).congr fun c _ => Finset.sum_range_one _
  have v16 : Rd (s := Cert.Reference8Ideal.S2x1x1024) (val_main_v16 (F := Ideal) x0 x1) (fun c : Fin 3 → ℕ => pb X P (c 0) 0 (c 2)) :=
    Rd.of_apply (t := Cert.Reference8Ideal.S2x1x1024) (g := fun c : Fin 3 → ℕ => pb X P (c 0) 0 (c 2)) v14 (val_main_v16_apply x0 x1) fun i => rfl
  exact Rd.cat2 (n := 3) (a := 1) (d₁ := ![2, 1, 1024]) (d₂ := ![2, 7, 1024]) (e := ![2, 8, 1024]) _ 1 rfl
    (v16.congr fun c hc => by have h : c 1 < 1 := hc 1; show _ = pb X P (c 0) (c 1) (c 2); rw [show c 1 = 0 by omega])
    ((Rf.scal Rf.z0E _).congr fun c hc => by show _ = pb X P (c 0) (1 + c 1) (c 2); unfold pb; rw [if_neg (by omega)])
end Ref

theorem claim : Cert.algebraic_Kernel8Ideal_Reference8Ideal := fun m g m' g' _ hag => by
  refine ⟨fun c => (dats m 0 c).arrAt 4 cfg0.N, fun c => (dats m 0 c).arrAt 5 cfg0.N, fun c => (dats m 0 c).arrAt 6 cfg0.N, Value.run_blocks m g, ?_⟩
  refine (θ_run Cert.Reference8Ideal.defs _ _).mono (fun r h c => ?_) (Cert.Reference8Ideal.Value.run (F := Ideal) m' g')
  obtain ⟨e0, e1, e2, e⟩ := h c
  have hm : Rd (s := Cert.Reference8Ideal.S2x6x1024) (m ((c : Thread nD τ).loc main_arg3)) fun k => aM m c (k 0) (k 1) (k 2) :=
    (Final.rd3 (n := 2) (k := 6) (l := 1024) _).congr fun k hk => (if_pos (show k 1 < 6 from hk 1)).symm
  obtain ⟨h0, h1, h2, h3⟩ := hag c
  refine ⟨e0.trans ?_, e1.trans ?_, e2.trans ?_, e⟩
  · refine (Cert.Reference8Ideal.Read.val_main_v20_eq _ _).trans ?_
    rw [h0, h3]
    exact Final.same (v20 (X := aX m c) (M := aM m c) (Final.rd2 _) hm) (dp_arr m c) fun _ => rfl
  · refine (Cert.Reference8Ideal.Read.val_main_v18_eq _ _).trans ?_
    rw [h0, h1]
    exact Final.same (v18 (X := aX m c) (P := aP m c) (Final.rd2 _) (Final.rd2 _)) (pb_arr m c) fun _ => rfl
  · refine (Cert.Reference8Ideal.Read.val_main_v22_eq _ _ _).trans ?_
    rw [h0, h2, h3]
    exact Final.same (v22 (X := aX m c) (W := aW m c) (M := aM m c) (Final.rd2 _) (Final.rd2 _) hm) (du_arr m c) fun _ => rfl

end Cert.GateO

end
-- ==== Proof.OutW.lean ====
/- The gradient of the output projection's weights: what the kernel accumulates, and the reference's sum. -/
module

public import proofs.«01_k».proof.Proof.Wg
public import proofs.«01_k».proof.Proof.Gen.Kernel9Ideal.Value
public import proofs.«01_k».proof.Proof.Gen.Reference9Ideal.Read

@[expose] public section

set_option maxRecDepth 16384
set_option maxHeartbeats 1000000

noncomputable section

namespace Cert.OutW

open Idealize.ShloMosaic Cert.Rd Cert.Wg Cert.Kernel9Ideal Cert.Kernel9Ideal.Gen Idealize.ShloMosaic.TcCoe Idealize.SL.Sem
open Idealize.ShloMosaic.Pipeline (Dat)

variable (m : (ℓ : Loc nD τ sig) → Buf (Elt Ideal) ℓ) (c : Dev nD)

def aA (r k : ℕ) : EReal := ar (s := S8192x1024) (m ((c : Thread nD τ).loc main_arg0)) ![r, k]
def aB (r k : ℕ) : EReal := ar (s := S8192x1024) (m ((c : Thread nD τ).loc main_arg1)) ![r, k]

theorem at0 : ∀ t : Fin grid0.N, win0_0.index t = ![t.val % 2, 0] := by decide +kernel
theorem at1 : ∀ t : Fin grid0.N, win0_1.index t = ![t.val % 2, t.val / 2] := by decide +kernel
theorem at2 : ∀ t : Fin grid0.N, win0_2.index t = ![0, t.val / 2] := by decide +kernel

variable (t : Fin cfg0.N)

theorem blk0 : Rd (s := S4096x1024) (iblk m c 0 t) (bl (aA m c) (4096 * (t.val % 2)) 0) := fun i => by
  refine (congrFun (V_main_arg0 m c) _).trans (ar_of (s := S8192x1024) _ _ _ fun a => ?_)
  match a with | ⟨0, _⟩ | ⟨1, _⟩ => blk_simp [at0] <;> (try simp) <;> omega

theorem blk1 : Rd (s := S4096x1024) (iblk m c 1 t) (bl (aB m c) (4096 * (t.val % 2)) (1024 * (t.val / 2))) := fun i => by
  refine (congrFun (V_main_arg1 m c) _).trans (ar_of (s := S8192x1024) _ _ _ fun a => ?_)
  match a with | ⟨0, _⟩ | ⟨1, _⟩ => blk_simp [at1] <;> (try simp) <;> omega

theorem sc_A (h0 : t.val % 2 = 0) : Rd (s := S1024x1024) (outsAt0 m c t.val t.isLt).2 (bl (wg (aA m c) (aB m c) 4096) 0 (1024 * (t.val / 2))) := by
  rw [outsAt0_A m c t h0 (by omega) (by omega)]
  dsimp only
  unfold sout0_A_0 kernelRun0_A
  dsimp only
  sl_unfold_words
  simp (disch := decide) only [↓View.readCov_skip, View.readCov_fill, View.readAt_eq_ld, Memref.IsWhole.read_unread]
  exact full32 (pay2 (ldW (blk0 m c t) inb_S4096x1024_S4096x1024_0_0) (ldW (blk1 m c t) inb_S4096x1024_S4096x1024_0_0) _ _ (by omega))

theorem out_B (h0 : t.val % 2 = 1) (ho : Rd (s := S1024x1024) (outsAt0 m c (t.val - 1) (by omega)).2 (bl (wg (aA m c) (aB m c) 4096) 0 (1024 * (t.val / 2)))) :
    Rd (s := S1024x1024) (outsAt0 m c t.val t.isLt).1 (bl (wg (aA m c) (aB m c) 8192) 0 (1024 * (t.val / 2))) := by
  have e : 4096 * (t.val % 2) = 4096 := by omega
  have b0 := blk0 m c t
  have b1 := blk1 m c t
  rw [e] at b0 b1
  rw [outsAt0_B m c t (by omega) h0 h0]
  dsimp only
  unfold out0_B_2 kernelRun0_B
  dsimp only
  sl_unfold_words
  simp (disch := decide) only [↓View.readCov_skip, View.readCov_fill, View.readAt_eq_ld, Memref.IsWhole.read_unread, (Memref.isWhole_whole _).read_unread]
  exact full16 ((ldW (pay3 (ldW b0 inb_S4096x1024_S4096x1024_0_0) (ldW b1 inb_S4096x1024_S4096x1024_0_0) _ _ (ldW ho inb_S1024x1024_S1024x1024_0_0)) inb_S1024x1024_S1024x1024_0_0).truncf _)

theorem out_last (h0 : t.val % 2 = 1) : Rd (s := S1024x1024) (outsAt0 m c t.val t.isLt).1 (bl (wg (aA m c) (aB m c) 8192) 0 (1024 * (t.val / 2))) := by
  refine out_B m c t h0 ?_
  have h := sc_A m c ⟨t.val - 1, by omega⟩ (by show (t.val - 1) % 2 = 0; omega)
  rw [show (⟨t.val - 1, by omega⟩ : Fin cfg0.N).val / 2 = t.val / 2 by show (t.val - 1) / 2 = t.val / 2; omega] at h
  exact h

theorem arr : Rd (s := S1024x1024) ((dats m 0 c).arrAt 2 cfg0.N) fun k => wg (aA m c) (aB m c) 8192 (k 0) (k 1) := fun i => by
  refine (dats m 0 c).arrAt_forall_of_covers 2 (fun i v => v = wg (aA m c) (aB m c) 8192 (i 0).val (i 1).val) (by decide +kernel) (fun t hf y => ?_) i
  rw [after0_2]
  refine (out_last m c t ((flush0_2 t).mp hf) _).trans ?_
  refine congrArg₂ (wg (aA m c) (aB m c) 8192) ?_ ?_ <;> blk_simp [at2] <;> (try simp) <;> omega

theorem claim : Cert.algebraic_Kernel9Ideal_Reference9Ideal := fun m g m' g' _ hag => by
  refine ⟨fun c => (dats m 0 c).arrAt 2 cfg0.N, Value.run_blocks m g, ?_⟩
  refine (θ_run Cert.Reference9Ideal.defs _ _).mono (fun r h c => ?_) (Cert.Reference9Ideal.Value.run (F := Ideal) m' g')
  obtain ⟨e0, e⟩ := h c
  refine ⟨e0.trans ?_, e⟩
  obtain ⟨h0, h1⟩ := hag c
  refine (Cert.Reference9Ideal.Read.val_main_v6_eq _ _).trans ?_
  rw [h0, h1]
  exact Final.same (ref (A := aA m c) (B := aB m c) (Final.rd2 _) (Final.rd2 _) _ _ _ _ _) (arr m c) fun _ => rfl

end Cert.OutW

end
-- ==== Proof.Pj.lean ====
/- The gradient through the branch projections and gates: what it is, what the kernel computes, the reference, and the claim. -/
module

public import proofs.«01_k».proof.Proof.Gate
public import proofs.«01_k».proof.Proof.Final
public import proofs.«01_k».proof.Proof.Gen.Kernel10Ideal.Value
public import proofs.«01_k».proof.Proof.Gen.Reference10Ideal.Read

@[expose] public section

set_option maxRecDepth 16384
set_option maxHeartbeats 1000000

noncomputable section

namespace Cert.Pj

open Idealize.ShloMosaic Cert.Rd Cert.Spec Cert.Gate Cert.Kernel10Ideal Cert.Kernel10Ideal.Gen Idealize.ShloMosaic.TcCoe Idealize.SL.Sem
open Idealize.ShloMosaic.Pipeline (Dat)

section Spec
variable (D C Z : ℕ → ℕ → EReal) (W : ℕ → ℕ → ℕ → EReal)
/-- The gradient of the projections' outputs: the merge's gradient times each branch's gate. -/
def dy (r k : ℕ) : EReal := D r (k % 1024) * Ideal.logistic (Z r k)
/-- The projections' outputs. -/
def pr (r k : ℕ) : EReal := ∑ j ∈ Finset.range 512, C r (512 * (k / 1024) + j) * W (k / 1024) j (k % 1024)
/-- The gradient of the gates. -/
def dg (r k : ℕ) : EReal := dy D Z r k * pr C W r k * (1 - Ideal.logistic (Z r k))
/-- The gradient of the branches. -/
def dc (r j : ℕ) : EReal := ∑ k ∈ Finset.range 1024, dy D Z r (1024 * (j / 512) + k) * W (j / 512) (j % 512) k

variable {D C Z W} (r b k : ℕ)
theorem dy_at (h : k < 1024) : D r k * Ideal.logistic (Z r (1024 * b + k)) = dy D Z r (1024 * b + k) := by
  unfold dy
  rw [show (1024 * b + k) % 1024 = k by omega]
theorem pr_at (h : k < 1024) : (∑ j ∈ Finset.range 512, C r (512 * b + j) * W b j k) = pr C W r (1024 * b + k) := by
  unfold pr
  rw [show (1024 * b + k) / 1024 = b by omega, show (1024 * b + k) % 1024 = k by omega]
theorem dc_at (h : k < 512) : (∑ j ∈ Finset.range 1024, dy D Z r (1024 * b + j) * W b k j) = dc D Z W r (512 * b + k) := by
  unfold dc
  rw [show (512 * b + k) / 512 = b by omega, show (512 * b + k) % 512 = k by omega]
theorem dg_eq : D r (k % 1024) * pr C W r k * (Ideal.logistic (Z r k) * (1 - Ideal.logistic (Z r k))) = dg D C Z W r k := by
  unfold dg dy
  ac_rfl
end Spec

/-- The three weights. -/
def wt (A B C : ℕ → ℕ → EReal) : ℕ → ℕ → ℕ → EReal
  | 0 => A
  | 1 => B
  | _ => C

section Body
variable {D C Z : ℕ → ℕ → EReal} {W : ℕ → ℕ → ℕ → EReal} {i b : ℕ} {v0 v1 v5 : FVec Ideal S512x1024 .bf16} {v2 : FVec Ideal S512x512 .bf16}
  (hD : Rd (s := S512x1024) v0 (bk 512 i D)) (hZ : Rd (s := S512x1024) v5 (bk 512 i fun r k => Z r (1024 * b + k)))
  (hC : Rd (s := S512x512) v2 (bk 512 i fun r k => C r (512 * b + k))) (hW : Rd (s := S512x1024) v1 fun c => W b (c 0) (c 1))

include hD hZ in
theorem pay4 : Rd (s := S512x1024) (k0_pay4 (F := Ideal) v0 v5) (bk 512 i fun r k => dy D Z r (1024 * b + k)) :=
  (hD.mulf (Rd.lg hZ)).congr fun c hc => dy_at _ _ _ (hc 1)

include hD hZ hC hW in
theorem pay5 : Rd (s := S512x1024) (k0_pay5 (F := Ideal) v0 v1 v2 v5) (bk 512 i fun r k => dg D C Z W r (1024 * b + k)) := by
  have h4 : Rd (s := S512x1024) (truncf (F := Ideal) .bf16 (matmul dot_S512x512_S512x1024_S512x1024_1_0_0_1_n_n none v2 v1 (constant S512x1024 .f32 0x00000000#32)) bitsLt_bf16_f32)
      (bk 512 i fun r k => pr C W r (1024 * b + k)) :=
    ((Rd.dot dot_S512x512_S512x1024_S512x1024_1_0_0_1_n_n none 512 (fun c k => ![c 0, k]) (fun c k => ![k, c 1])
      hC hW
      (Rd.const Consts.f0 : Rd (α := EReal) _ fun _ => 0)).congr fun c hc => (zero_add _).trans (pr_at _ _ _ (hc 1))).truncf _
  have h1 : Rd (s := S512x1024) (broadcast S512x1024 (Scalar.ofBits (F := Ideal) .bf16 0x3F80#16)) fun _ => (1 : EReal) := fun _ => Consts.h1
  exact (((pay4 hD hZ).mulf h4).mulf (h1.esubf (Rd.lg hZ)) :)

include hD hZ hW in
theorem pay6 : Rd (s := S512x512) (k0_pay6 (F := Ideal) v0 v1 v5) (bk 512 i fun r k => dc D Z W r (512 * b + k)) :=
  ((Rd.dot dot_S512x1024_S512x1024_S512x512_1_1_0_0_n_n none 1024 (fun c k => ![c 0, k]) (fun c k => ![c 1, k])
    (pay4 hD hZ) hW
    (Rd.const Consts.f0 : Rd (α := EReal) _ fun _ => 0)).congr fun c hc => (zero_add _).trans (dc_at _ _ _ (hc 1))).truncf _
end Body

variable (m : (ℓ : Loc nD τ sig) → Buf (Elt Ideal) ℓ) (c : Dev nD)

def aD (r k : ℕ) : EReal := ar (s := S8192x1024) (m ((c : Thread nD τ).loc main_arg0)) ![r, k]
def aC (r k : ℕ) : EReal := ar (s := S8192x1536) (m ((c : Thread nD τ).loc main_arg1)) ![r, k]
/-- The gates' columns of the input projection's output. -/
def aZ (r k : ℕ) : EReal := ar (s := S8192x6144) (m ((c : Thread nD τ).loc main_arg2)) ![r, 3072 + k]
def aW : ℕ → ℕ → ℕ → EReal := wt (fun r k => ar (s := S512x1024) (m ((c : Thread nD τ).loc main_arg3)) ![r, k])
  (fun r k => ar (s := S512x1024) (m ((c : Thread nD τ).loc main_arg4)) ![r, k]) fun r k => ar (s := S512x1024) (m ((c : Thread nD τ).loc main_arg5)) ![r, k]

theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val, 1] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel
theorem at6 : ∀ t : Fin grid0.N, win0_6.index t = ![t.val, 0] := by decide +kernel
theorem at7 : ∀ t : Fin grid0.N, win0_7.index t = ![t.val, 0] := by decide +kernel
theorem at8 : ∀ t : Fin grid0.N, win0_8.index t = ![t.val, 0] := by decide +kernel

variable (t : Fin cfg0.N)

theorem blk0 : Rd (s := S512x1024) (iblk m c 0 t) (bk 512 t.val (aD m c)) := fun i => by
  refine (congrFun (V_main_arg0 m c) _).trans (ar_of (s := S8192x1024) _ _ _ fun a => ?_)
  match a with | ⟨0, _⟩ | ⟨1, _⟩ => blk_simp [at0] <;> (try simp) <;> omega

theorem blk1 : Rd (s := S512x1536) (iblk m c 1 t) (bk 512 t.val (aC m c)) := fun i => by
  refine (congrFun (V_main_arg1 m c) _).trans (ar_of (s := S8192x1536) _ _ _ fun a => ?_)
  match a with | ⟨0, _⟩ | ⟨1, _⟩ => blk_simp [at1] <;> (try simp) <;> omega

theorem blk2 : Rd (s := S512x3072) (iblk m c 2 t) (bk 512 t.val (aZ m c)) := fun i => by
  refine (congrFun (V_main_arg2 m c) _).trans (ar_of (s := S8192x6144) _ _ _ fun a => ?_)
  match a with | ⟨0, _⟩ | ⟨1, _⟩ => blk_simp [at2] <;> (try simp) <;> omega

theorem blk3 : Rd (s := S512x1024) (iblk m c 3 t) fun k => aW m c 0 (k 0) (k 1) := fun i => by
  refine (congrFun (V_main_arg3 m c) _).trans (ar_of (s := S512x1024) _ _ _ fun a => ?_)
  match a with | ⟨0, _⟩ | ⟨1, _⟩ => blk_simp [at3] <;> (try simp) <;> omega

theorem blk4 : Rd (s := S512x1024) (iblk m c 4 t) fun k => aW m c 1 (k 0) (k 1) := fun i => by
  refine (congrFun (V_main_arg4 m c) _).trans (ar_of (s := S512x1024) _ _ _ fun a => ?_)
  match a with | ⟨0, _⟩ | ⟨1, _⟩ => blk_simp [at4] <;> (try simp) <;> omega

theorem blk5 : Rd (s := S512x1024) (iblk m c 5 t) fun k => aW m c 2 (k 0) (k 1) := fun i => by
  refine (congrFun (V_main_arg5 m c) _).trans (ar_of (s := S512x1024) _ _ _ fun a => ?_)
  match a with | ⟨0, _⟩ | ⟨1, _⟩ => blk_simp [at5] <;> (try simp) <;> omega

/-! The blocks as a grid point loads them. -/
def l0 := ldW (blk0 m c t) inb_S512x1024_S512x1024_0_0
def w0 := ldW (f := fun k => aW m c 0 (k 0) (k 1)) (blk3 m c t) inb_S512x1024_S512x1024_0_0
def w1 := ldW (f := fun k => aW m c 1 (k 0) (k 1)) (blk4 m c t) inb_S512x1024_S512x1024_0_0
def w2 := ldW (f := fun k => aW m c 2 (k 0) (k 1)) (blk5 m c t) inb_S512x1024_S512x1024_0_0

theorem lcol {d e : ℕ} {x : (⟨2, ![512, d]⟩ : Shape).Idx → EReal} {i : ℕ} {F : ℕ → ℕ → EReal} (h : Rd (s := ⟨2, ![512, d]⟩) x (bk 512 i F)) (o : ℕ)
    (inb : ∀ a, (![0, o] : Fin 2 → ℕ) a + (![512, e] : Fin 2 → ℕ) a ≤ (![512, d] : Fin 2 → ℕ) a) :
    Rd (s := ⟨2, ![512, e]⟩) (fun i => x ((Rect.unit (s := ⟨2, ![512, d]⟩) ![0, o] ![512, e] inb).idx i)) (bk 512 i fun r k => F r (o + k)) :=
  (h.ld ![0, o] ![512, e] inb).congr fun c _ => by
    show F (512 * i + (0 + c 0)) (o + c 1) = F (512 * i + c 0) (o + c 1)
    rw [Nat.zero_add]

def z0 := lcol (blk2 m c t) 0 inb_S512x3072_S512x1024_0_0
def z1 := lcol (blk2 m c t) 1024 inb_S512x3072_S512x1024_0_1024
def z2 := lcol (blk2 m c t) 2048 inb_S512x3072_S512x1024_0_2048
def c0 := lcol (blk1 m c t) 0 inb_S512x1536_S512x512_0_0
def c1 := lcol (blk1 m c t) 512 inb_S512x1536_S512x512_0_512
def c2 := lcol (blk1 m c t) 1024 inb_S512x1536_S512x512_0_1024

/-- A stored column block, in the window's own columns. -/
theorem tile {d e o i : ℕ} {F : ℕ → ℕ → EReal} {w : (⟨2, ![512, e]⟩ : Shape).Idx → EReal} (h : Rd (s := ⟨2, ![512, e]⟩) w (bk 512 i fun r k => F r (o + k)))
    (inb : ∀ a, (![0, o] : Fin 2 → ℕ) a + (![512, e] : Fin 2 → ℕ) a ≤ (![512, d] : Fin 2 → ℕ) a) (x : (⟨2, ![512, e]⟩ : Shape).Idx) :
    w x = (fun y : (⟨2, ![512, d]⟩ : Shape).Idx => F (512 * i + (y 0).val) (y 1).val) ((Rect.unit (s := ⟨2, ![512, d]⟩) ![0, o] ![512, e] inb).emb x) := by
  rw [h x]
  show F (512 * i + (x 0).val) (o + (x 1).val) = F (512 * i + (0 + 1 * (x 0).val)) (o + 1 * (x 1).val)
  rw [Nat.zero_add, Nat.one_mul, Nat.one_mul]

theorem dy_blk : Rd (s := S512x3072) ((dats m 0 c).after 6 t) (bk 512 t.val (dy (aD m c) (aZ m c))) := fun i => by
  rw [after0_6]
  unfold out0_6
  refine View.canon_apply_of_pieces (Val := Elt Ideal) (e := .bf16) (fun y : S512x3072.Idx => dy (aD m c) (aZ m c) (512 * t.val + (y 0).val) (y 1).val) _ (fun p hp x => ?_) i (cover0_6 _ _ _ i)
  rcases List.mem_cons.mp hp with rfl | hp
  · exact tile (d := 3072) (o := 2048) (pay4 (b := 2) (l0 m c t) (z2 m c t)) inb_S512x3072_S512x1024_0_2048 x
  rcases List.mem_cons.mp hp with rfl | hp
  · exact tile (d := 3072) (o := 1024) (pay4 (b := 1) (l0 m c t) (z1 m c t)) inb_S512x3072_S512x1024_0_1024 x
  rcases List.mem_singleton.mp hp with rfl
  exact tile (d := 3072) (o := 0) (pay4 (b := 0) (l0 m c t) (z0 m c t)) inb_S512x3072_S512x1024_0_0 x

theorem dy_arr : Rd (s := S8192x3072) ((dats m 0 c).arrAt 6 cfg0.N) fun k => dy (aD m c) (aZ m c) (k 0) (k 1) := fun i => by
  refine (dats m 0 c).arrAt_forall_of_covers 6 (fun i v => v = dy (aD m c) (aZ m c) (i 0).val (i 1).val) (by decide +kernel) (fun t hf y => ?_) i
  refine (dy_blk m c t _).trans ?_
  refine congrArg₂ (dy (aD m c) (aZ m c)) ?_ ?_ <;> blk_simp [at6] <;> (try simp) <;> omega

theorem dg_blk : Rd (s := S512x3072) ((dats m 0 c).after 7 t) (bk 512 t.val (dg (aD m c) (aC m c) (aZ m c) (aW m c))) := fun i => by
  rw [after0_7]
  unfold out0_7
  refine View.canon_apply_of_pieces (Val := Elt Ideal) (e := .bf16) (fun y : S512x3072.Idx => dg (aD m c) (aC m c) (aZ m c) (aW m c) (512 * t.val + (y 0).val) (y 1).val) _ (fun p hp x => ?_) i (cover0_7 _ _ _ i)
  rcases List.mem_cons.mp hp with rfl | hp
  · exact tile (d := 3072) (o := 2048) (pay5 (b := 2) (l0 m c t) (z2 m c t) (c2 m c t) (w2 m c t)) inb_S512x3072_S512x1024_0_2048 x
  rcases List.mem_cons.mp hp with rfl | hp
  · exact tile (d := 3072) (o := 1024) (pay5 (b := 1) (l0 m c t) (z1 m c t) (c1 m c t) (w1 m c t)) inb_S512x3072_S512x1024_0_1024 x
  rcases List.mem_singleton.mp hp with rfl
  exact tile (d := 3072) (o := 0) (pay5 (b := 0) (l0 m c t) (z0 m c t) (c0 m c t) (w0 m c t)) inb_S512x3072_S512x1024_0_0 x

theorem dg_arr : Rd (s := S8192x3072) ((dats m 0 c).arrAt 7 cfg0.N) fun k => dg (aD m c) (aC m c) (aZ m c) (aW m c) (k 0) (k 1) := fun i => by
  refine (dats m 0 c).arrAt_forall_of_covers 7 (fun i v => v = dg (aD m c) (aC m c) (aZ m c) (aW m c) (i 0).val (i 1).val) (by decide +kernel) (fun t hf y => ?_) i
  refine (dg_blk m c t _).trans ?_
  refine congrArg₂ (dg (aD m c) (aC m c) (aZ m c) (aW m c)) ?_ ?_ <;> blk_simp [at7] <;> (try simp) <;> omega

theorem dc_blk : Rd (s := S512x1536) ((dats m 0 c).after 8 t) (bk 512 t.val (dc (aD m c) (aZ m c) (aW m c))) := fun i => by
  rw [after0_8]
  unfold out0_8
  refine View.canon_apply_of_pieces (Val := Elt Ideal) (e := .bf16) (fun y : S512x1536.Idx => dc (aD m c) (aZ m c) (aW m c) (512 * t.val + (y 0).val) (y 1).val) _ (fun p hp x => ?_) i (cover0_8 _ _ _ i)
  rcases List.mem_cons.mp hp with rfl | hp
  · exact tile (d := 1536) (o := 1024) (pay6 (b := 2) (l0 m c t) (z2 m c t) (w2 m c t)) inb_S512x1536_S512x512_0_1024 x
  rcases List.mem_cons.mp hp with rfl | hp
  · exact tile (d := 1536) (o := 512) (pay6 (b := 1) (l0 m c t) (z1 m c t) (w1 m c t)) inb_S512x1536_S512x512_0_512 x
  rcases List.mem_singleton.mp hp with rfl
  exact tile (d := 1536) (o := 0) (pay6 (b := 0) (l0 m c t) (z0 m c t) (w0 m c t)) inb_S512x1536_S512x512_0_0 x

theorem dc_arr : Rd (s := S8192x1536) ((dats m 0 c).arrAt 8 cfg0.N) fun k => dc (aD m c) (aZ m c) (aW m c) (k 0) (k 1) := fun i => by
  refine (dats m 0 c).arrAt_forall_of_covers 8 (fun i v => v = dc (aD m c) (aZ m c) (aW m c) (i 0).val (i 1).val) (by decide +kernel) (fun t hf y => ?_) i
  refine (dc_blk m c t _).trans ?_
  refine congrArg₂ (dc (aD m c) (aZ m c) (aW m c)) ?_ ?_ <;> blk_simp [at8] <;> (try simp) <;> omega

/-! The reference. -/
section Ref
open Cert.Reference10Ideal (S2x4096x1024 S2x4096x1536 S2x4096x1x1024 S2x4096x3072 S2x4096x3x1024 S2x4096x512 S_)
open Cert.Reference10Ideal.Read

/-- A branch's gate, of the three side by side. -/
theorem gate {F : ℕ → ℕ → EReal} {x : S2x4096x3x1024.Idx → EReal} (hx : Rd (s := S2x4096x3x1024) x fun c : Fin 4 → ℕ => F (4096 * c 0 + c 1) (1024 * c 2 + c 3)) (b : ℕ)
    (h : S2x4096x3x1024.Slices ![0, 0, b, 0] S2x4096x1x1024) (h' : S2x4096x1x1024.ShapeCasts S2x4096x1024) :
    Rd (s := S2x4096x1024) (shapeCast S2x4096x1024 (extractStridedSlice S2x4096x1x1024 ![0, 0, b, 0] x h) h') fun c : Fin 3 → ℕ => F (4096 * c 0 + c 1) (1024 * b + c 2) := fun i => by
  refine (shapeCast_apply _ h' i (fun a => match a with | ⟨0, _⟩ => i 0 | ⟨1, _⟩ => i 1 | ⟨2, _⟩ => ⟨0, Nat.one_pos⟩ | ⟨3, _⟩ => i 2) ?_).trans ((Rd.slice (n := 4) (d := ![2, 4096, 3, 1024]) (e := ![2, 4096, 1, 1024]) hx ![0, 0, b, 0] h _).trans ?_)
  · rw [Shape.rowMajor_val_three, Shape.rowMajor_val_four]
    show (((i 0).val * 4096 + (i 1).val) * 1 + 0) * 1024 + (i 2).val = ((i 0).val * 4096 + (i 1).val) * 1024 + (i 2).val
    omega
  · show F (4096 * (0 + (i 0).val) + (0 + (i 1).val)) (1024 * (b + 0) + (0 + (i 2).val)) = F (4096 * (i 0).val + (i 1).val) (1024 * b + (i 2).val)
    simp only [Nat.zero_add, Nat.add_zero]

/-- A branch's columns, of the three side by side. -/
theorem part {C : ℕ → ℕ → EReal} {x : S2x4096x1536.Idx → EReal} (hx : Rd (s := S2x4096x1536) x fun c : Fin 3 → ℕ => C (4096 * c 0 + c 1) (c 2)) (o : ℕ) (h : S2x4096x1536.Slices ![0, 0, o] S2x4096x512) :
    Rd (s := S2x4096x512) (extractStridedSlice S2x4096x512 ![0, 0, o] x h) fun c : Fin 3 → ℕ => C (4096 * c 0 + c 1) (o + c 2) :=
  (Rd.slice (n := 3) (d := ![2, 4096, 1536]) (e := ![2, 4096, 512]) hx ![0, 0, o] h).congr fun c _ => by
    show C (4096 * (0 + c 0) + (0 + c 1)) (o + c 2) = _
    simp only [Nat.zero_add]

/-- Three pieces of one shape along an axis. -/
theorem cat3 {n : ℕ} {d e : Fin n → ℕ} {a : Fin n} {f : (Fin n → ℕ) → EReal} {x y z : (⟨n, d⟩ : Shape).Idx → EReal} (h : Shape.Concatenates [⟨n, d⟩, ⟨n, d⟩, ⟨n, d⟩] ⟨n, e⟩ a) (p : ℕ)
    (hp : d a = p) (h1 : Rd x f) (h2 : Rd y fun c => f fun b => if b = a then p + c b else c b) (h3 : Rd z fun c => f fun b => if b = a then 2 * p + c b else c b) :
    Rd (concatenate ⟨n, e⟩ a [⟨⟨n, d⟩, x⟩, ⟨⟨n, d⟩, y⟩, ⟨⟨n, d⟩, z⟩] h) f := fun i => by
  subst hp
  have hz : ∀ b, b ≠ a → d b = e b := (h.2.1 ⟨n, d⟩ (by simp)).2
  have hs : d a + (d a + d a) = e a := by have := h.2.2; simpa using this
  have hi : (i a).val < e a := (i a).isLt
  by_cases g1 : (i a).val < d a
  · exact Rf.Rd.piece [⟨⟨n, d⟩, x⟩, ⟨⟨n, d⟩, y⟩, ⟨⟨n, d⟩, z⟩] h i 0 (by simp) d x rfl 0 rfl hz (by omega) (by omega)
      (h1.congr fun c _ => congrArg f (funext fun b => by split <;> simp))
  by_cases g2 : (i a).val < 2 * d a
  · exact Rf.Rd.piece [⟨⟨n, d⟩, x⟩, ⟨⟨n, d⟩, y⟩, ⟨⟨n, d⟩, z⟩] h i 1 (by simp) d y rfl (d a) (by simp) hz (by omega) (by omega) h2
  · exact Rf.Rd.piece [⟨⟨n, d⟩, x⟩, ⟨⟨n, d⟩, y⟩, ⟨⟨n, d⟩, z⟩] h i 2 (by simp) d z rfl (2 * d a) (by simp; omega) hz (by omega) (by omega) h3

/-- One of three gates' gradients, beside zeros. -/
theorem pd {F : ℕ → ℕ → EReal} (b hi : ℕ) {x : S2x4096x1x1024.Idx → EReal} (hx : Rd (s := S2x4096x1x1024) x fun c : Fin 4 → ℕ => F (4096 * c 0 + c 1) (c 3)) {v : S_.Idx → EReal} (hv : ∀ i, v i = Emb.up (0 : EReal))
    (h : S2x4096x1x1024.Pads ![0, 0, b, 0] ![0, 0, hi, 0] ![0, 0, 0, 0] S2x4096x3x1024) (hu : 0 < S_.numel) :
    Rd (s := S2x4096x3x1024) (pad S2x4096x3x1024 ![0, 0, b, 0] ![0, 0, hi, 0] ![0, 0, 0, 0] x v h hu) fun c : Fin 4 → ℕ => if c 2 = b then F (4096 * c 0 + c 1) (c 3) else 0 :=
  (Rd.pad (n := 4) (d := ![2, 4096, 1, 1024]) (e := ![2, 4096, 3, 1024]) hx ![0, 0, b, 0] ![0, 0, hi, 0] (fun a => by match a with | ⟨0, _⟩ => rfl | ⟨1, _⟩ => rfl | ⟨2, _⟩ => rfl | ⟨3, _⟩ => rfl) hv h hu).congr fun c hc => by
    have h0 : c 0 < 2 := hc 0
    have h1 : c 1 < 4096 := hc 1
    have h3 : c 3 < 1024 := hc 3
    refine if_congr ⟨fun q => ?_, fun q a => ?_⟩ rfl rfl
    · have q2 : b ≤ c 2 ∧ c 2 < b + 1 := q 2
      omega
    · match a with
      | ⟨0, _⟩ => exact ⟨Nat.zero_le _, by show c 0 < 0 + 2; omega⟩
      | ⟨1, _⟩ => exact ⟨Nat.zero_le _, by show c 1 < 0 + 4096; omega⟩
      | ⟨2, _⟩ => exact ⟨by show b ≤ c 2; omega, by show c 2 < b + 1; omega⟩
      | ⟨3, _⟩ => exact ⟨Nat.zero_le _, by show c 3 < 0 + 1024; omega⟩

variable {D C Z : ℕ → ℕ → EReal} {W : ℕ → ℕ → ℕ → EReal} {x0 : (⟨S8192x1024, .bf16⟩ : BufTy).Contents (Elt Ideal)} {x1 : (⟨S8192x1536, .bf16⟩ : BufTy).Contents (Elt Ideal)}
  {x2 : (⟨S8192x6144, .bf16⟩ : BufTy).Contents (Elt Ideal)} {x3 x4 x5 : (⟨S512x1024, .bf16⟩ : BufTy).Contents (Elt Ideal)}

/-- The arguments as functions of token and column. -/
structure Args (D C Z : ℕ → ℕ → EReal) (W : ℕ → ℕ → ℕ → EReal) (x0 : (⟨S8192x1024, .bf16⟩ : BufTy).Contents (Elt Ideal)) (x1 : (⟨S8192x1536, .bf16⟩ : BufTy).Contents (Elt Ideal))
    (x2 : (⟨S8192x6144, .bf16⟩ : BufTy).Contents (Elt Ideal)) (x3 x4 x5 : (⟨S512x1024, .bf16⟩ : BufTy).Contents (Elt Ideal)) : Prop where
  d : Rd (s := S8192x1024) x0 fun k => D (k 0) (k 1)
  c : Rd (s := S8192x1536) x1 fun k => C (k 0) (k 1)
  z : ∃ F : ℕ → ℕ → EReal, Rd (s := S8192x6144) x2 (fun k => F (k 0) (k 1)) ∧ ∀ r k, F r (3072 + k) = Z r k
  w0 : Rd (s := S512x1024) x3 fun k => W 0 (k 0) (k 1)
  w1 : Rd (s := S512x1024) x4 fun k => W 1 (k 0) (k 1)
  w2 : Rd (s := S512x1024) x5 fun k => W 2 (k 0) (k 1)

variable (I : Args D C Z W x0 x1 x2 x3 x4 x5)

include I in
theorem v20 : Rd (s := S2x4096x3072) (val_main_v20 (F := Ideal) x2) (fun c : Fin 3 → ℕ => Ideal.logistic (Z (4096 * c 0 + c 1) (c 2))) := by
  obtain ⟨F, hF, e⟩ := I.z
  have v13 : Rd (s := S8192x3072) (val_main_v13 (F := Ideal) x2) (fun c : Fin 2 → ℕ => Z (c 0) (c 1)) :=
    Rd.of_apply (t := S8192x3072) (g := fun c : Fin 2 → ℕ => Z (c 0) (c 1)) (hF.extf _) (val_main_v13_apply x2) fun i => e _ _
  have v14 : Rd (s := S2x4096x3072) (val_main_v14 (F := Ideal) x2) (fun c : Fin 3 → ℕ => Z (4096 * c 0 + c 1) (c 2)) :=
    Rd.seq v13 _
  exact Rd.hlg v14 (Rf.scal (fun _ => Consts.f1) _) (Rf.scal (fun _ => Consts.f1) _)

include I in
theorem v36 : Rd (s := S2x4096x1024) (val_main_v36 (F := Ideal) x0) (fun c : Fin 3 → ℕ => D (4096 * c 0 + c 1) (c 2)) := Rd.seq (I.d.extf _) _

include I in
theorem v6 : Rd (s := S2x4096x1536) (val_main_v6 (F := Ideal) x1) (fun c : Fin 3 → ℕ => C (4096 * c 0 + c 1) (c 2)) := Rd.seq (I.c.extf _) _

include I in
theorem v24 : Rd (s := S2x4096x3x1024) (val_main_v24 (F := Ideal) x2) (fun c : Fin 4 → ℕ => Ideal.logistic (Z (4096 * c 0 + c 1) (1024 * c 2 + c 3))) :=
  Rd.of_apply (t := S2x4096x3x1024) (g := fun c : Fin 4 → ℕ => Ideal.logistic (Z (4096 * c 0 + c 1) (1024 * c 2 + c 3))) (v20 I) (val_main_v24_apply x2) fun i => by
    have b0 : (i 0).val < 2 := (i 0).isLt; have b1 : (i 1).val < 4096 := (i 1).isLt; have b2 : (i 2).val < 3 := (i 2).isLt; have b3 : (i 3).val < 1024 := (i 3).isLt; exact congrArg Ideal.logistic (Rf.cg2 Z (show 4096 * (((((i 0).val * 4096 + (i 1).val) * 3 + (i 2).val) * 1024 + (i 3).val) / 12582912) + ((((i 0).val * 4096 + (i 1).val) * 3 + (i 2).val) * 1024 + (i 3).val) / 3072 % 4096 = 4096 * (i 0).val + (i 1).val by omega)
      (show ((((i 0).val * 4096 + (i 1).val) * 3 + (i 2).val) * 1024 + (i 3).val) % 3072 = 1024 * (i 2).val + (i 3).val by omega))

include I in
theorem v46 : Rd (s := S2x4096x1024) (val_main_v46 (F := Ideal) x0 x2) (fun c : Fin 3 → ℕ => dy D Z (4096 * c 0 + c 1) (1024 * 0 + c 2)) :=
  ((gate (F := fun r k => Ideal.logistic (Z r k)) (v24 I) 0 Cert.Reference10Ideal.Facts₀.slices_S2x4096x3x1024_S2x4096x1x1024_0_0_0_0 _).mulf (v36 I)).congr fun c hc => (mul_comm _ _).trans (dy_at _ _ _ (hc 2))

include I in
theorem v49 : Rd (s := S2x4096x3x1024) (val_main_v49 (F := Ideal) x0 x1 x3) (fun c : Fin 4 → ℕ => if c 2 = 0 then D (4096 * c 0 + c 1) (c 3) * pr C W (4096 * c 0 + c 1) (1024 * 0 + c 3) else 0) := by
  have v7 : Rd (s := S2x4096x512) (val_main_v7 (F := Ideal) x1) (fun c : Fin 3 → ℕ => C (4096 * c 0 + c 1) (512 * 0 + c 2)) := part (v6 I) _ _
  have v10 : Rd (s := S2x4096x1024) (val_main_v10 (F := Ideal) x1 x3) (fun c : Fin 3 → ℕ => pr C W (4096 * c 0 + c 1) (1024 * 0 + c 2)) :=
    (Rd.of_dot v7 (I.w0.extf _) (val_main_v10_apply x1 x3) (fun c k => C (4096 * c 0 + c 1) (512 * 0 + k) * W 0 k (c 2)) fun i k => rfl).congr fun c hc => pr_at _ _ _ (hc 2)
  have v48 : Rd (s := S2x4096x1x1024) (val_main_v48 (F := Ideal) x0 x1 x3) (fun c : Fin 4 → ℕ => D (4096 * c 0 + c 1) (c 3) * pr C W (4096 * c 0 + c 1) (1024 * 0 + c 3)) :=
    Rd.of_apply (t := S2x4096x1x1024) (g := fun c : Fin 4 → ℕ => D (4096 * c 0 + c 1) (c 3) * pr C W (4096 * c 0 + c 1) (1024 * 0 + c 3)) ((v36 I).mulf v10) (val_main_v48_apply x0 x1 x3) fun i => rfl
  exact pd (F := fun r k => D r k * pr C W r (1024 * 0 + k)) 0 2 v48 Rf.z0E _ _

include I in
theorem v55 : Rd (s := S2x4096x512) (val_main_v55 (F := Ideal) x0 x2 x3) (fun c : Fin 3 → ℕ => dc D Z W (4096 * c 0 + c 1) (512 * 0 + c 2)) :=
  (Rd.of_dot (v46 I) (I.w0.extf _) (val_main_v55_apply x0 x2 x3) (fun c k => dy D Z (4096 * c 0 + c 1) (1024 * 0 + k) * W 0 (c 2) k) fun i k => rfl).congr fun c hc => dc_at _ _ _ (hc 2)

include I in
theorem v41 : Rd (s := S2x4096x1024) (val_main_v41 (F := Ideal) x0 x2) (fun c : Fin 3 → ℕ => dy D Z (4096 * c 0 + c 1) (1024 * 1 + c 2)) :=
  ((gate (F := fun r k => Ideal.logistic (Z r k)) (v24 I) 1 Cert.Reference10Ideal.Facts₀.slices_S2x4096x3x1024_S2x4096x1x1024_0_0_1_0 _).mulf (v36 I)).congr fun c hc => (mul_comm _ _).trans (dy_at _ _ _ (hc 2))

include I in
theorem v44 : Rd (s := S2x4096x3x1024) (val_main_v44 (F := Ideal) x0 x1 x4) (fun c : Fin 4 → ℕ => if c 2 = 1 then D (4096 * c 0 + c 1) (c 3) * pr C W (4096 * c 0 + c 1) (1024 * 1 + c 3) else 0) := by
  have v8 : Rd (s := S2x4096x512) (val_main_v8 (F := Ideal) x1) (fun c : Fin 3 → ℕ => C (4096 * c 0 + c 1) (512 * 1 + c 2)) := part (v6 I) _ _
  have v11 : Rd (s := S2x4096x1024) (val_main_v11 (F := Ideal) x1 x4) (fun c : Fin 3 → ℕ => pr C W (4096 * c 0 + c 1) (1024 * 1 + c 2)) :=
    (Rd.of_dot v8 (I.w1.extf _) (val_main_v11_apply x1 x4) (fun c k => C (4096 * c 0 + c 1) (512 * 1 + k) * W 1 k (c 2)) fun i k => rfl).congr fun c hc => pr_at _ _ _ (hc 2)
  have v43 : Rd (s := S2x4096x1x1024) (val_main_v43 (F := Ideal) x0 x1 x4) (fun c : Fin 4 → ℕ => D (4096 * c 0 + c 1) (c 3) * pr C W (4096 * c 0 + c 1) (1024 * 1 + c 3)) :=
    Rd.of_apply (t := S2x4096x1x1024) (g := fun c : Fin 4 → ℕ => D (4096 * c 0 + c 1) (c 3) * pr C W (4096 * c 0 + c 1) (1024 * 1 + c 3)) ((v36 I).mulf v11) (val_main_v43_apply x0 x1 x4) fun i => rfl
  exact pd (F := fun r k => D r k * pr C W r (1024 * 1 + k)) 1 1 v43 Rf.z0E _ _

include I in
theorem v54 : Rd (s := S2x4096x512) (val_main_v54 (F := Ideal) x0 x2 x4) (fun c : Fin 3 → ℕ => dc D Z W (4096 * c 0 + c 1) (512 * 1 + c 2)) :=
  (Rd.of_dot (v41 I) (I.w1.extf _) (val_main_v54_apply x0 x2 x4) (fun c k => dy D Z (4096 * c 0 + c 1) (1024 * 1 + k) * W 1 (c 2) k) fun i k => rfl).congr fun c hc => dc_at _ _ _ (hc 2)

include I in
theorem v37 : Rd (s := S2x4096x1024) (val_main_v37 (F := Ideal) x0 x2) (fun c : Fin 3 → ℕ => dy D Z (4096 * c 0 + c 1) (1024 * 2 + c 2)) :=
  ((gate (F := fun r k => Ideal.logistic (Z r k)) (v24 I) 2 Cert.Reference10Ideal.Facts₀.slices_S2x4096x3x1024_S2x4096x1x1024_0_0_2_0 _).mulf (v36 I)).congr fun c hc => (mul_comm _ _).trans (dy_at _ _ _ (hc 2))

include I in
theorem v40 : Rd (s := S2x4096x3x1024) (val_main_v40 (F := Ideal) x0 x1 x5) (fun c : Fin 4 → ℕ => if c 2 = 2 then D (4096 * c 0 + c 1) (c 3) * pr C W (4096 * c 0 + c 1) (1024 * 2 + c 3) else 0) := by
  have v9 : Rd (s := S2x4096x512) (val_main_v9 (F := Ideal) x1) (fun c : Fin 3 → ℕ => C (4096 * c 0 + c 1) (512 * 2 + c 2)) := part (v6 I) _ _
  have v12 : Rd (s := S2x4096x1024) (val_main_v12 (F := Ideal) x1 x5) (fun c : Fin 3 → ℕ => pr C W (4096 * c 0 + c 1) (1024 * 2 + c 2)) :=
    (Rd.of_dot v9 (I.w2.extf _) (val_main_v12_apply x1 x5) (fun c k => C (4096 * c 0 + c 1) (512 * 2 + k) * W 2 k (c 2)) fun i k => rfl).congr fun c hc => pr_at _ _ _ (hc 2)
  have v39 : Rd (s := S2x4096x1x1024) (val_main_v39 (F := Ideal) x0 x1 x5) (fun c : Fin 4 → ℕ => D (4096 * c 0 + c 1) (c 3) * pr C W (4096 * c 0 + c 1) (1024 * 2 + c 3)) :=
    Rd.of_apply (t := S2x4096x1x1024) (g := fun c : Fin 4 → ℕ => D (4096 * c 0 + c 1) (c 3) * pr C W (4096 * c 0 + c 1) (1024 * 2 + c 3)) ((v36 I).mulf v12) (val_main_v39_apply x0 x1 x5) fun i => rfl
  exact pd (F := fun r k => D r k * pr C W r (1024 * 2 + k)) 2 0 v39 Rf.z0E _ _

include I in
theorem v53 : Rd (s := S2x4096x512) (val_main_v53 (F := Ideal) x0 x2 x5) (fun c : Fin 3 → ℕ => dc D Z W (4096 * c 0 + c 1) (512 * 2 + c 2)) :=
  (Rd.of_dot (v37 I) (I.w2.extf _) (val_main_v53_apply x0 x2 x5) (fun c k => dy D Z (4096 * c 0 + c 1) (1024 * 2 + k) * W 2 (c 2) k) fun i k => rfl).congr fun c hc => dc_at _ _ _ (hc 2)

include I in
theorem v59 : Rd (s := S8192x3072) (val_main_v59 (F := Ideal) x0 x2) (fun c : Fin 2 → ℕ => dy D Z (c 0) (c 1)) := by
  have v56 : Rd (s := S2x4096x3072) (val_main_v56 (F := Ideal) x0 x2) (fun c : Fin 3 → ℕ => dy D Z (4096 * c 0 + c 1) (c 2)) :=
    cat3 (n := 3) (a := 2) (d := ![2, 4096, 1024]) (e := ![2, 4096, 3072]) _ 1024 rfl ((v46 I).congr fun c _ => Rf.cg2 (dy D Z) rfl (Nat.zero_add _)) (v41 I) (v37 I)
  exact (Rd.unseq v56 _).truncf _

include I in
theorem v63 : Rd (s := S8192x1536) (val_main_v63 (F := Ideal) x0 x2 x3 x4 x5) (fun c : Fin 2 → ℕ => dc D Z W (c 0) (c 1)) := by
  have v57 : Rd (s := S2x4096x1536) (val_main_v57 (F := Ideal) x0 x2 x3 x4 x5) (fun c : Fin 3 → ℕ => dc D Z W (4096 * c 0 + c 1) (c 2)) :=
    cat3 (n := 3) (a := 2) (d := ![2, 4096, 512]) (e := ![2, 4096, 1536]) _ 512 rfl ((v55 I).congr fun c _ => Rf.cg2 (dc D Z W) rfl (Nat.zero_add _)) (v54 I) (v53 I)
  exact (Rd.unseq v57 _).truncf _

include I in
theorem v61 : Rd (s := S8192x3072) (val_main_v61 (F := Ideal) x0 x1 x2 x3 x4 x5) (fun c : Fin 2 → ℕ => dg D C Z W (c 0) (c 1)) := by
  have v50 : Rd (s := S2x4096x3x1024) (val_main_v50 (F := Ideal) x0 x1 x3 x4 x5) (fun c : Fin 4 → ℕ => D (4096 * c 0 + c 1) (c 3) * pr C W (4096 * c 0 + c 1) (1024 * c 2 + c 3)) :=
    (((v40 I).addf (v44 I)).addf (v49 I)).congr fun c hc => by
      have h2 : c 2 < 3 := hc 2
      rcases (by omega : c 2 = 0 ∨ c 2 = 1 ∨ c 2 = 2) with h | h | h <;> rw [h] <;> simp
  have v51 : Rd (s := S2x4096x3072) (val_main_v51 (F := Ideal) x0 x1 x3 x4 x5) (fun c : Fin 3 → ℕ => D (4096 * c 0 + c 1) (c 2 % 1024) * pr C W (4096 * c 0 + c 1) (c 2)) :=
    Rd.of_apply (t := S2x4096x3072) (g := fun c : Fin 3 → ℕ => D (4096 * c 0 + c 1) (c 2 % 1024) * pr C W (4096 * c 0 + c 1) (c 2)) v50 (val_main_v51_apply x0 x1 x3 x4 x5) fun i => by
      have b0 : (i 0).val < 2 := (i 0).isLt; have b1 : (i 1).val < 4096 := (i 1).isLt; have b2 : (i 2).val < 3072 := (i 2).isLt; have e : 4096 * ((((i 0).val * 4096 + (i 1).val) * 3072 + (i 2).val) / 12582912) + (((i 0).val * 4096 + (i 1).val) * 3072 + (i 2).val) / 3072 % 4096 = 4096 * (i 0).val + (i 1).val := by omega
      exact congrArg₂ (· * ·) (Rf.cg2 D e (show (((i 0).val * 4096 + (i 1).val) * 3072 + (i 2).val) % 1024 = (i 2).val % 1024 by omega))
        (Rf.cg2 (pr C W) e (show 1024 * ((((i 0).val * 4096 + (i 1).val) * 3072 + (i 2).val) / 1024 % 3) + (((i 0).val * 4096 + (i 1).val) * 3072 + (i 2).val) % 1024 = (i 2).val by omega))
  have v22 : Rd (s := S2x4096x3072) (val_main_v22 (F := Ideal) x2) (fun c : Fin 3 → ℕ => 1 - Ideal.logistic (Z (4096 * c 0 + c 1) (c 2))) :=
    (Rf.scal (r := (1 : EReal)) (fun _ => Consts.f1) _).esubf (v20 I)
  have v52 : Rd (s := S2x4096x3072) (val_main_v52 (F := Ideal) x0 x1 x2 x3 x4 x5) (fun c : Fin 3 → ℕ => dg D C Z W (4096 * c 0 + c 1) (c 2)) :=
    (v51.mulf ((v20 I).mulf v22)).congr fun c _ => dg_eq _ _
  exact (Rd.unseq v52 _).truncf _
end Ref

theorem claim : Cert.algebraic_Kernel10Ideal_Reference10Ideal := fun m g m' g' _ hag => by
  refine ⟨fun c => (dats m 0 c).arrAt 6 cfg0.N, fun c => (dats m 0 c).arrAt 7 cfg0.N, fun c => (dats m 0 c).arrAt 8 cfg0.N, Value.run_blocks m g, ?_⟩
  refine (θ_run Cert.Reference10Ideal.defs _ _).mono (fun r h c => ?_) (Cert.Reference10Ideal.Value.run (F := Ideal) m' g')
  obtain ⟨e0, e1, e2, e⟩ := h c
  have I : Args (aD m c) (aC m c) (aZ m c) (aW m c) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) :=
    ⟨Final.rd2 _, Final.rd2 _, ⟨fun r k => ar (s := S8192x6144) (m ((c : Thread nD τ).loc main_arg2)) ![r, k], Final.rd2 _, fun _ _ => rfl⟩, Final.rd2 _, Final.rd2 _, Final.rd2 _⟩
  obtain ⟨h0, h1, h2, h3, h4, h5⟩ := hag c
  refine ⟨e0.trans ?_, e1.trans ?_, e2.trans ?_, e⟩
  · refine (Cert.Reference10Ideal.Read.val_main_v59_eq _ _).trans ?_
    rw [h0, h2]
    exact Final.same (v59 I) (dy_arr m c) fun _ => rfl
  · refine (Cert.Reference10Ideal.Read.val_main_v61_eq _ _ _ _ _ _).trans ?_
    rw [h0, h1]
    rw [h2, h3]
    rw [h4, h5]
    exact Final.same (v61 I) (dg_arr m c) fun _ => rfl
  · refine (Cert.Reference10Ideal.Read.val_main_v63_eq _ _ _ _ _).trans ?_
    rw [h0, h2]
    rw [h3, h4, h5]
    exact Final.same (v63 I) (dc_arr m c) fun _ => rfl

end Cert.Pj

end
-- ==== Proof.ProjWa.lean ====
/- The gradient of the first branch's projection weights: what the kernel accumulates, and the reference's sum. -/
module

public import proofs.«01_k».proof.Proof.Wg
public import proofs.«01_k».proof.Proof.Gen.Kernel11Ideal.Value
public import proofs.«01_k».proof.Proof.Gen.Reference11Ideal.Read

@[expose] public section

set_option maxRecDepth 16384
set_option maxHeartbeats 1000000

noncomputable section

namespace Cert.ProjWa

open Idealize.ShloMosaic Cert.Rd Cert.Wg Cert.Kernel11Ideal Cert.Kernel11Ideal.Gen Idealize.ShloMosaic.TcCoe Idealize.SL.Sem
open Idealize.ShloMosaic.Pipeline (Dat)

variable (m : (ℓ : Loc nD τ sig) → Buf (Elt Ideal) ℓ) (c : Dev nD)

def aA (r k : ℕ) : EReal := ar (s := S8192x1536) (m ((c : Thread nD τ).loc main_arg0)) ![r, k]
def aB (r k : ℕ) : EReal := ar (s := S8192x3072) (m ((c : Thread nD τ).loc main_arg1)) ![r, k]

theorem at0 : ∀ t : Fin grid0.N, win0_0.index t = ![t.val % 2, 0] := by decide +kernel
theorem at1 : ∀ t : Fin grid0.N, win0_1.index t = ![t.val % 2, 0] := by decide +kernel
theorem at2 : ∀ t : Fin grid0.N, win0_2.index t = ![0, 0] := by decide +kernel

variable (t : Fin cfg0.N)

theorem blk0 : Rd (s := S4096x512) (iblk m c 0 t) (bl (aA m c) (4096 * (t.val % 2)) 0) := fun i => by
  refine (congrFun (V_main_arg0 m c) _).trans (ar_of (s := S8192x1536) _ _ _ fun a => ?_)
  match a with | ⟨0, _⟩ | ⟨1, _⟩ => blk_simp [at0] <;> (try simp) <;> omega

theorem blk1 : Rd (s := S4096x1024) (iblk m c 1 t) (bl (aB m c) (4096 * (t.val % 2)) 0) := fun i => by
  refine (congrFun (V_main_arg1 m c) _).trans (ar_of (s := S8192x3072) _ _ _ fun a => ?_)
  match a with | ⟨0, _⟩ | ⟨1, _⟩ => blk_simp [at1] <;> (try simp) <;> omega

theorem sc_A (h0 : t.val % 2 = 0) : Rd (s := S512x1024) (outsAt0 m c t.val t.isLt).2 (bl (wg (aA m c) (aB m c) 4096) 0 0) := by
  rw [outsAt0_A m c t h0 (by omega) (by omega)]
  dsimp only
  unfold sout0_A_0 kernelRun0_A
  dsimp only
  sl_unfold_words
  simp (disch := decide) only [↓View.readCov_skip, View.readCov_fill, View.readAt_eq_ld, Memref.IsWhole.read_unread]
  exact full32 (pay2 (ldW (blk0 m c t) inb_S4096x512_S4096x512_0_0) (ldW (blk1 m c t) inb_S4096x1024_S4096x1024_0_0) _ _ (by omega))

theorem out_B (h0 : t.val % 2 = 1) (ho : Rd (s := S512x1024) (outsAt0 m c (t.val - 1) (by omega)).2 (bl (wg (aA m c) (aB m c) 4096) 0 0)) :
    Rd (s := S512x1024) (outsAt0 m c t.val t.isLt).1 (bl (wg (aA m c) (aB m c) 8192) 0 0) := by
  have e : 4096 * (t.val % 2) = 4096 := by omega
  have b0 := blk0 m c t
  have b1 := blk1 m c t
  rw [e] at b0 b1
  rw [outsAt0_B m c t (by omega) h0 h0]
  dsimp only
  unfold out0_B_2 kernelRun0_B
  dsimp only
  sl_unfold_words
  simp (disch := decide) only [↓View.readCov_skip, View.readCov_fill, View.readAt_eq_ld, Memref.IsWhole.read_unread, (Memref.isWhole_whole _).read_unread]
  exact full16 ((ldW (pay3 (ldW b0 inb_S4096x512_S4096x512_0_0) (ldW b1 inb_S4096x1024_S4096x1024_0_0) _ _ (ldW ho inb_S512x1024_S512x1024_0_0)) inb_S512x1024_S512x1024_0_0).truncf _)

theorem out_last (h0 : t.val % 2 = 1) : Rd (s := S512x1024) (outsAt0 m c t.val t.isLt).1 (bl (wg (aA m c) (aB m c) 8192) 0 0) :=
  out_B m c t h0 (sc_A m c ⟨t.val - 1, by omega⟩ (by show (t.val - 1) % 2 = 0; omega))

theorem arr : Rd (s := S512x1024) ((dats m 0 c).arrAt 2 cfg0.N) (bl (wg (aA m c) (aB m c) 8192) 0 0) := fun i => by
  refine (dats m 0 c).arrAt_forall_of_covers 2 (fun i v => v = wg (aA m c) (aB m c) 8192 (0 + (i 0).val) (0 + (i 1).val)) (by decide +kernel) (fun t hf y => ?_) i
  rw [after0_2]
  refine (out_last m c t ((flush0_2 t).mp hf) _).trans ?_
  refine congrArg₂ (wg (aA m c) (aB m c) 8192) ?_ ?_ <;> blk_simp [at2] <;> (try simp) <;> omega

theorem claim : Cert.algebraic_Kernel11Ideal_Reference11Ideal := fun m g m' g' _ hag => by
  refine ⟨fun c => (dats m 0 c).arrAt 2 cfg0.N, Value.run_blocks m g, ?_⟩
  refine (θ_run Cert.Reference11Ideal.defs _ _).mono (fun r h c => ?_) (Cert.Reference11Ideal.Value.run (F := Ideal) m' g')
  obtain ⟨e0, e⟩ := h c
  refine ⟨e0.trans ?_, e⟩
  obtain ⟨h0, h1⟩ := hag c
  refine (Cert.Reference11Ideal.Read.val_main_v8_eq _ _).trans ?_
  rw [h0, h1]
  exact Final.same (ref (A := fun r k => aA m c r (0 + k)) (B := fun r k => aB m c r (0 + k)) (cut (Final.rd2 _) 0 _) (cut (Final.rd2 _) 0 _) _ _ _ _ _) (arr m c) fun _ => rfl

end Cert.ProjWa

end
-- ==== Proof.ProjWb.lean ====
/- The gradient of the second branch's projection weights: what the kernel accumulates, and the reference's sum. -/
module

public import proofs.«01_k».proof.Proof.Wg
public import proofs.«01_k».proof.Proof.Gen.Kernel12Ideal.Value
public import proofs.«01_k».proof.Proof.Gen.Reference12Ideal.Read

@[expose] public section

set_option maxRecDepth 16384
set_option maxHeartbeats 1000000

noncomputable section

namespace Cert.ProjWb

open Idealize.ShloMosaic Cert.Rd Cert.Wg Cert.Kernel12Ideal Cert.Kernel12Ideal.Gen Idealize.ShloMosaic.TcCoe Idealize.SL.Sem
open Idealize.ShloMosaic.Pipeline (Dat)

variable (m : (ℓ : Loc nD τ sig) → Buf (Elt Ideal) ℓ) (c : Dev nD)

def aA (r k : ℕ) : EReal := ar (s := S8192x1536) (m ((c : Thread nD τ).loc main_arg0)) ![r, k]
def aB (r k : ℕ) : EReal := ar (s := S8192x3072) (m ((c : Thread nD τ).loc main_arg1)) ![r, k]

theorem at0 : ∀ t : Fin grid0.N, win0_0.index t = ![t.val % 2, 1] := by decide +kernel
theorem at1 : ∀ t : Fin grid0.N, win0_1.index t = ![t.val % 2, 1] := by decide +kernel
theorem at2 : ∀ t : Fin grid0.N, win0_2.index t = ![0, 0] := by decide +kernel

variable (t : Fin cfg0.N)

theorem blk0 : Rd (s := S4096x512) (iblk m c 0 t) (bl (aA m c) (4096 * (t.val % 2)) 512) := fun i => by
  refine (congrFun (V_main_arg0 m c) _).trans (ar_of (s := S8192x1536) _ _ _ fun a => ?_)
  match a with | ⟨0, _⟩ | ⟨1, _⟩ => blk_simp [at0] <;> (try simp) <;> omega

theorem blk1 : Rd (s := S4096x1024) (iblk m c 1 t) (bl (aB m c) (4096 * (t.val % 2)) 1024) := fun i => by
  refine (congrFun (V_main_arg1 m c) _).trans (ar_of (s := S8192x3072) _ _ _ fun a => ?_)
  match a with | ⟨0, _⟩ | ⟨1, _⟩ => blk_simp [at1] <;> (try simp) <;> omega

theorem sc_A (h0 : t.val % 2 = 0) : Rd (s := S512x1024) (outsAt0 m c t.val t.isLt).2 (bl (wg (aA m c) (aB m c) 4096) 512 1024) := by
  rw [outsAt0_A m c t h0 (by omega) (by omega)]
  dsimp only
  unfold sout0_A_0 kernelRun0_A
  dsimp only
  sl_unfold_words
  simp (disch := decide) only [↓View.readCov_skip, View.readCov_fill, View.readAt_eq_ld, Memref.IsWhole.read_unread]
  exact full32 (pay2 (ldW (blk0 m c t) inb_S4096x512_S4096x512_0_0) (ldW (blk1 m c t) inb_S4096x1024_S4096x1024_0_0) _ _ (by omega))

theorem out_B (h0 : t.val % 2 = 1) (ho : Rd (s := S512x1024) (outsAt0 m c (t.val - 1) (by omega)).2 (bl (wg (aA m c) (aB m c) 4096) 512 1024)) :
    Rd (s := S512x1024) (outsAt0 m c t.val t.isLt).1 (bl (wg (aA m c) (aB m c) 8192) 512 1024) := by
  have e : 4096 * (t.val % 2) = 4096 := by omega
  have b0 := blk0 m c t
  have b1 := blk1 m c t
  rw [e] at b0 b1
  rw [outsAt0_B m c t (by omega) h0 h0]
  dsimp only
  unfold out0_B_2 kernelRun0_B
  dsimp only
  sl_unfold_words
  simp (disch := decide) only [↓View.readCov_skip, View.readCov_fill, View.readAt_eq_ld, Memref.IsWhole.read_unread, (Memref.isWhole_whole _).read_unread]
  exact full16 ((ldW (pay3 (ldW b0 inb_S4096x512_S4096x512_0_0) (ldW b1 inb_S4096x1024_S4096x1024_0_0) _ _ (ldW ho inb_S512x1024_S512x1024_0_0)) inb_S512x1024_S512x1024_0_0).truncf _)

theorem out_last (h0 : t.val % 2 = 1) : Rd (s := S512x1024) (outsAt0 m c t.val t.isLt).1 (bl (wg (aA m c) (aB m c) 8192) 512 1024) :=
  out_B m c t h0 (sc_A m c ⟨t.val - 1, by omega⟩ (by show (t.val - 1) % 2 = 0; omega))

theorem arr : Rd (s := S512x1024) ((dats m 0 c).arrAt 2 cfg0.N) (bl (wg (aA m c) (aB m c) 8192) 512 1024) := fun i => by
  refine (dats m 0 c).arrAt_forall_of_covers 2 (fun i v => v = wg (aA m c) (aB m c) 8192 (512 + (i 0).val) (1024 + (i 1).val)) (by decide +kernel) (fun t hf y => ?_) i
  rw [after0_2]
  refine (out_last m c t ((flush0_2 t).mp hf) _).trans ?_
  refine congrArg₂ (wg (aA m c) (aB m c) 8192) ?_ ?_ <;> blk_simp [at2] <;> (try simp) <;> omega

theorem claim : Cert.algebraic_Kernel12Ideal_Reference12Ideal := fun m g m' g' _ hag => by
  refine ⟨fun c => (dats m 0 c).arrAt 2 cfg0.N, Value.run_blocks m g, ?_⟩
  refine (θ_run Cert.Reference12Ideal.defs _ _).mono (fun r h c => ?_) (Cert.Reference12Ideal.Value.run (F := Ideal) m' g')
  obtain ⟨e0, e⟩ := h c
  refine ⟨e0.trans ?_, e⟩
  obtain ⟨h0, h1⟩ := hag c
  refine (Cert.Reference12Ideal.Read.val_main_v8_eq _ _).trans ?_
  rw [h0, h1]
  exact Final.same (ref (A := fun r k => aA m c r (512 + k)) (B := fun r k => aB m c r (1024 + k)) (cut (Final.rd2 _) 512 _) (cut (Final.rd2 _) 1024 _) _ _ _ _ _) (arr m c) fun _ => rfl

end Cert.ProjWb

end
-- ==== Proof.ProjWc.lean ====
/- The gradient of the third branch's projection weights: what the kernel accumulates, and the reference's sum. -/
module

public import proofs.«01_k».proof.Proof.Wg
public import proofs.«01_k».proof.Proof.Gen.Kernel13Ideal.Value
public import proofs.«01_k».proof.Proof.Gen.Reference13Ideal.Read

@[expose] public section

set_option maxRecDepth 16384
set_option maxHeartbeats 1000000

noncomputable section

namespace Cert.ProjWc

open Idealize.ShloMosaic Cert.Rd Cert.Wg Cert.Kernel13Ideal Cert.Kernel13Ideal.Gen Idealize.ShloMosaic.TcCoe Idealize.SL.Sem
open Idealize.ShloMosaic.Pipeline (Dat)

variable (m : (ℓ : Loc nD τ sig) → Buf (Elt Ideal) ℓ) (c : Dev nD)

def aA (r k : ℕ) : EReal := ar (s := S8192x1536) (m ((c : Thread nD τ).loc main_arg0)) ![r, k]
def aB (r k : ℕ) : EReal := ar (s := S8192x3072) (m ((c : Thread nD τ).loc main_arg1)) ![r, k]

theorem at0 : ∀ t : Fin grid0.N, win0_0.index t = ![t.val % 2, 2] := by decide +kernel
theorem at1 : ∀ t : Fin grid0.N, win0_1.index t = ![t.val % 2, 2] := by decide +kernel
theorem at2 : ∀ t : Fin grid0.N, win0_2.index t = ![0, 0] := by decide +kernel

variable (t : Fin cfg0.N)

theorem blk0 : Rd (s := S4096x512) (iblk m c 0 t) (bl (aA m c) (4096 * (t.val % 2)) 1024) := fun i => by
  refine (congrFun (V_main_arg0 m c) _).trans (ar_of (s := S8192x1536) _ _ _ fun a => ?_)
  match a with | ⟨0, _⟩ | ⟨1, _⟩ => blk_simp [at0] <;> (try simp) <;> omega

theorem blk1 : Rd (s := S4096x1024) (iblk m c 1 t) (bl (aB m c) (4096 * (t.val % 2)) 2048) := fun i => by
  refine (congrFun (V_main_arg1 m c) _).trans (ar_of (s := S8192x3072) _ _ _ fun a => ?_)
  match a with | ⟨0, _⟩ | ⟨1, _⟩ => blk_simp [at1] <;> (try simp) <;> omega

theorem sc_A (h0 : t.val % 2 = 0) : Rd (s := S512x1024) (outsAt0 m c t.val t.isLt).2 (bl (wg (aA m c) (aB m c) 4096) 1024 2048) := by
  rw [outsAt0_A m c t h0 (by omega) (by omega)]
  dsimp only
  unfold sout0_A_0 kernelRun0_A
  dsimp only
  sl_unfold_words
  simp (disch := decide) only [↓View.readCov_skip, View.readCov_fill, View.readAt_eq_ld, Memref.IsWhole.read_unread]
  exact full32 (pay2 (ldW (blk0 m c t) inb_S4096x512_S4096x512_0_0) (ldW (blk1 m c t) inb_S4096x1024_S4096x1024_0_0) _ _ (by omega))

theorem out_B (h0 : t.val % 2 = 1) (ho : Rd (s := S512x1024) (outsAt0 m c (t.val - 1) (by omega)).2 (bl (wg (aA m c) (aB m c) 4096) 1024 2048)) :
    Rd (s := S512x1024) (outsAt0 m c t.val t.isLt).1 (bl (wg (aA m c) (aB m c) 8192) 1024 2048) := by
  have e : 4096 * (t.val % 2) = 4096 := by omega
  have b0 := blk0 m c t
  have b1 := blk1 m c t
  rw [e] at b0 b1
  rw [outsAt0_B m c t (by omega) h0 h0]
  dsimp only
  unfold out0_B_2 kernelRun0_B
  dsimp only
  sl_unfold_words
  simp (disch := decide) only [↓View.readCov_skip, View.readCov_fill, View.readAt_eq_ld, Memref.IsWhole.read_unread, (Memref.isWhole_whole _).read_unread]
  exact full16 ((ldW (pay3 (ldW b0 inb_S4096x512_S4096x512_0_0) (ldW b1 inb_S4096x1024_S4096x1024_0_0) _ _ (ldW ho inb_S512x1024_S512x1024_0_0)) inb_S512x1024_S512x1024_0_0).truncf _)

theorem out_last (h0 : t.val % 2 = 1) : Rd (s := S512x1024) (outsAt0 m c t.val t.isLt).1 (bl (wg (aA m c) (aB m c) 8192) 1024 2048) :=
  out_B m c t h0 (sc_A m c ⟨t.val - 1, by omega⟩ (by show (t.val - 1) % 2 = 0; omega))

theorem arr : Rd (s := S512x1024) ((dats m 0 c).arrAt 2 cfg0.N) (bl (wg (aA m c) (aB m c) 8192) 1024 2048) := fun i => by
  refine (dats m 0 c).arrAt_forall_of_covers 2 (fun i v => v = wg (aA m c) (aB m c) 8192 (1024 + (i 0).val) (2048 + (i 1).val)) (by decide +kernel) (fun t hf y => ?_) i
  rw [after0_2]
  refine (out_last m c t ((flush0_2 t).mp hf) _).trans ?_
  refine congrArg₂ (wg (aA m c) (aB m c) 8192) ?_ ?_ <;> blk_simp [at2] <;> (try simp) <;> omega

theorem claim : Cert.algebraic_Kernel13Ideal_Reference13Ideal := fun m g m' g' _ hag => by
  refine ⟨fun c => (dats m 0 c).arrAt 2 cfg0.N, Value.run_blocks m g, ?_⟩
  refine (θ_run Cert.Reference13Ideal.defs _ _).mono (fun r h c => ?_) (Cert.Reference13Ideal.Value.run (F := Ideal) m' g')
  obtain ⟨e0, e⟩ := h c
  refine ⟨e0.trans ?_, e⟩
  obtain ⟨h0, h1⟩ := hag c
  refine (Cert.Reference13Ideal.Read.val_main_v8_eq _ _).trans ?_
  rw [h0, h1]
  exact Final.same (ref (A := fun r k => aA m c r (1024 + k)) (B := fun r k => aB m c r (2048 + k)) (cut (Final.rd2 _) 1024 _) (cut (Final.rd2 _) 2048 _) _ _ _ _ _) (arr m c) fun _ => rfl

end Cert.ProjWc

end
-- ==== Proof.InF.lean ====
/- The mixer's input projection of the normed residual stream: what the kernel computes, the reference, and the claim. -/
module

public import proofs.«01_k».proof.Proof.Fwd
public import proofs.«01_k».proof.Proof.Final
public import proofs.«01_k».proof.Proof.Gen.Kernel14Ideal.Value
public import proofs.«01_k».proof.Proof.Gen.Reference14Ideal.Read

@[expose] public section

set_option maxRecDepth 16384
set_option maxHeartbeats 1000000

noncomputable section

namespace Cert.InF

open Idealize.ShloMosaic Cert.Rd Cert.Spec Cert.Gate Cert.Fwd Cert.Kernel14Ideal Cert.Kernel14Ideal.Gen Idealize.ShloMosaic.TcCoe Idealize.SL.Sem
open Idealize.ShloMosaic.Pipeline (Dat)

section Body
variable {S : Nb} {W : ℕ → ℕ → EReal} {i : ℕ} {v8 : FVec Ideal S1024x1024 .f32} {v19 : FVec Ideal S1x1024 .f32} {v23 v29 : FVec Ideal S1x1x1024 .f32}
  {v3 : FVec Ideal S1024x1024 .bf16} {v4 : FVec Ideal S1024x1536 .bf16}
  (hx : Rd (s := S1024x1024) v8 (bk 1024 i S.x)) (hg : Rd (s := S1x1024) v19 (ln S.g)) (ha : Rd (s := S1x1x1024) v23 (ln3 (S.sc (i / 4)))) (hb : Rd (s := S1x1x1024) v29 (ln3 (S.sh (i / 4))))
  (hh : Rd (s := S1024x1024) v3 (bk 1024 i S.h)) (hW : Rd (s := S1024x1536) v4 fun c => W (c 0) (c 1))

include hx hg ha hb in
theorem pay1 : Rd (s := S1024x1024) (k0_pay1 (F := Ideal) v8 v19 v23 v29) (bk 1024 i S.h) :=
  normed (s := 1024) (p := 4) rfl (by decide) hx hg ha hb _ _ _ _ _ _ _ _ _ _

include hh hW in
theorem pay2 : Rd (s := S1024x1536) (k0_pay2 (F := Ideal) v3 v4) (bk 1024 i (mm 1024 S.h W)) :=
  (((Rd.dot dot_S1024x1024_S1024x1536_S1024x1536_1_0_0_1_n_n none 1024 (fun c k => ![c 0, k]) (fun c k => ![k, c 1])
    hh hW
    (Rd.const Consts.f0 : Rd (α := EReal) _ fun _ => 0)).congr fun c _ => zero_add _ : Rd (s := S1024x1536) _ (bk 1024 i (mm 1024 S.h W))).truncf _ :)
end Body

variable (m : (ℓ : Loc nD τ sig) → Buf (Elt Ideal) ℓ) (c : Dev nD)

def aX (r k : ℕ) : EReal := ar (s := S8192x1024) (m ((c : Thread nD τ).loc main_arg0)) ![r, k]
def ag (k : ℕ) : EReal := ar (s := S1024) (m ((c : Thread nD τ).loc main_arg1)) ![k]
def aM : ℕ → ℕ → ℕ → EReal := mod (m ((c : Thread nD τ).loc main_arg2))
def aW (r k : ℕ) : EReal := ar (s := S1024x6144) (m ((c : Thread nD τ).loc main_arg3)) ![r, k]
/-- The norm's arrays. -/
abbrev nb : Nb := nf (aX m c) (ag m c) (fun q k => aM m c q 0 k) fun q k => aM m c q 1 k

theorem rd_v0 : Rd (s := S2x8x1024) (V m c main_v0) fun k => aM m c (k 0) (k 1) (k 2) := by
  have e : V m c main_v0 = Fwd.padded (m ((c : Thread nD τ).loc main_arg2)) := by
    entry_read
    rfl
  rw [e]
  exact rd_pad _

theorem rd_v1 : Rd (s := S1x1024) (V m c main_v1) (ln (ag m c)) := by
  have e : V m c main_v1 = shapeCast S1x1024 (m ((c : Thread nD τ).loc main_arg1)) shapeCasts_S1024_S1x1024 := by
    entry_read
    rfl
  rw [e]
  exact (Cert.Rd.Rd.ar (s := S1024) (m ((c : Thread nD τ).loc main_arg1))).castRow shapeCasts_S1024_S1x1024 |>.congr fun _ _ => rfl

theorem at0 : ∀ t : Fin grid0.N, win0_0.index t = ![t.val / 4, 0] := by decide +kernel
theorem at1 : ∀ t : Fin grid0.N, win0_1.index t = ![0, 0] := by decide +kernel
theorem at2 : ∀ t : Fin grid0.N, win0_2.index t = ![t.val / 4 / 4, 0, 0] := by decide +kernel
theorem at3 : ∀ t : Fin grid0.N, win0_3.index t = ![0, t.val % 4] := by decide +kernel
theorem at4 : ∀ t : Fin grid0.N, win0_4.index t = ![t.val / 4, t.val % 4] := by decide +kernel

variable (t : Fin cfg0.N)

theorem blk0 : Rd (s := S1024x1024) (iblk m c 0 t) (bk 1024 (t.val / 4) (aX m c)) := fun i => by
  refine (congrFun (V_main_arg0 m c) _).trans (ar_of (s := S8192x1024) _ _ _ fun a => ?_)
  match a with | ⟨0, _⟩ | ⟨1, _⟩ => blk_simp [at0] <;> (try simp) <;> omega

theorem blk1 : Rd (s := S1x1024) (iblk m c 1 t) (ln (ag m c)) := fun i => by
  refine (rd_v1 m c _).trans (congrArg (ag m c) ?_)
  show ((win0_1.rect t).emb i 1).val = (i 1).val
  blk_simp [at1] <;> (try simp) <;> omega

theorem blk2 : Rd (s := S1x8x1024) (iblk m c 2 t) fun k => aM m c (t.val / 4 / 4) (k 1) (k 2) := fun i => by
  refine (rd_v0 m c _).trans (Fwd.rows (aM m c) ?_ ?_ ?_) <;> blk_simp [at2] <;> (try simp) <;> omega

theorem blk3 : Rd (s := S1024x1536) (iblk m c 3 t) fun k => aW m c (k 0) (1536 * (t.val % 4) + k 1) := fun i => by
  refine (congrFun (V_main_arg3 m c) _).trans (ar_of (s := S1024x6144) _ _ _ fun a => ?_)
  match a with | ⟨0, _⟩ | ⟨1, _⟩ => blk_simp [at3] <;> (try simp) <;> omega

/-! The blocks as a grid point loads them, and the normed tile. -/
def l0 := ldW (blk0 m c t) inb_S1024x1024_S1024x1024_0_0
def l1 := ldW (f := ln (ag m c)) (blk1 m c t) inb_S1x1024_S1x1024_0_0
def lb := ldR3 (P := aM m c (t.val / 4 / 4)) (blk2 m c t) 0 inb_S1x8x1024_S1x1x1024_0_0_0
def la := ldR3 (P := aM m c (t.val / 4 / 4)) (blk2 m c t) 1 inb_S1x8x1024_S1x1x1024_0_1_0
def l3 := ldW (f := fun k => aW m c (k 0) (1536 * (t.val % 4) + k 1)) (blk3 m c t) inb_S1024x1536_S1024x1536_0_0
def tile := pay1 (S := nb m c) (l0 m c t) (l1 m c t) (la m c t) (lb m c t)

/-! The scratch holds the normed tile from a row's first point on. -/
theorem h_A (h0 : t.val % 4 = 0) : Rd (s := S1024x1024) (outsAt0 m c t.val t.isLt).2 (bk 1024 (t.val / 4) (nb m c).h) := by
  rw [outsAt0_A m c t h0]
  dsimp only
  unfold sout0_A_0 kernelRun0_A
  dsimp only
  sl_unfold_words
  simp (disch := decide) only [↓View.readCov_skip, View.readCov_fill, View.readAt_eq_ld, Memref.IsWhole.read_unread]
  exact st2 (tile m c t)

theorem h_all (q : ℕ) : ∀ (n : ℕ) (hn : 4 * q + n < cfg0.N), n < 4 → Rd (s := S1024x1024) (outsAt0 m c (4 * q + n) hn).2 (bk 1024 q (nb m c).h)
  | 0, hn, _ => by
    have := h_A m c ⟨4 * q, hn⟩ (by show 4 * q % 4 = 0; omega)
    rwa [show (⟨4 * q, hn⟩ : Fin cfg0.N).val / 4 = q by show 4 * q / 4 = q; omega] at this
  | n + 1, hn, h => by
    have e := outsAt0_B m c ⟨4 * q + (n + 1), hn⟩ (by show ¬(4 * q + (n + 1)) % 4 = 0; omega)
    have p := h_all q n (by omega) (by omega)
    rw [show outsAt0 m c (4 * q + (n + 1)) hn = _ from e]
    unfold sout0_B_0
    exact p

theorem o_A (h0 : t.val % 4 = 0) : Rd (s := S1024x1536) (outsAt0 m c t.val t.isLt).1 (bk 1024 (t.val / 4) (mm 1024 (nb m c).h fun r k => aW m c r (1536 * (t.val % 4) + k))) := by
  rw [outsAt0_A m c t h0]
  dsimp only
  unfold out0_A_4 kernelRun0_A
  dsimp only
  sl_unfold_words
  simp (disch := decide) only [↓View.readCov_skip, View.readCov_fill, View.readAt_eq_ld, Memref.IsWhole.read_unread]
  exact st2 (pay2 (W := fun r k => aW m c r (1536 * (t.val % 4) + k)) (ldW (tile m c t) inb_S1024x1024_S1024x1024_0_0) (l3 m c t))

theorem o_B (h0 : ¬t.val % 4 = 0) : Rd (s := S1024x1536) (outsAt0 m c t.val t.isLt).1 (bk 1024 (t.val / 4) (mm 1024 (nb m c).h fun r k => aW m c r (1536 * (t.val % 4) + k))) := by
  have p : Rd (s := S1024x1024) (outsAt0 m c (t.val - 1) (Nat.lt_of_le_of_lt (Nat.sub_le _ _) t.isLt)).2 (bk 1024 (t.val / 4) (nb m c).h) := by
    have e : ∀ (n : ℕ) (hn : n < cfg0.N), n = 4 * (t.val / 4) + (t.val % 4 - 1) → Rd (s := S1024x1024) (outsAt0 m c n hn).2 (bk 1024 (t.val / 4) (nb m c).h) := by
      intro n hn en
      subst en
      exact h_all m c _ _ hn (by omega)
    exact e _ _ (by omega)
  rw [outsAt0_B m c t h0]
  dsimp only
  unfold out0_B_4 kernelRun0_B
  dsimp only
  sl_unfold_words
  simp (disch := decide) only [↓View.readCov_skip, View.readCov_fill, View.readAt_eq_ld, Memref.IsWhole.read_unread, (Memref.isWhole_whole _).read_unread]
  exact st2 (pay2 (W := fun r k => aW m c r (1536 * (t.val % 4) + k)) (ldW p inb_S1024x1024_S1024x1024_0_0) (l3 m c t))

/-! The array after the launch. -/
theorem o_arr : Rd (s := S8192x6144) ((dats m 0 c).arrAt 4 cfg0.N) fun k => mm 1024 (nb m c).h (aW m c) (k 0) (k 1) := fun i => by
  refine (dats m 0 c).arrAt_forall_of_covers 4 (fun i v => v = mm 1024 (nb m c).h (aW m c) (i 0).val (i 1).val) (by decide +kernel) (fun t hf y => ?_) i
  rw [after0_4]
  refine ((if h : t.val % 4 = 0 then o_A m c t h else o_B m c t h : Rd (s := S1024x1536) _ _) _).trans ?_
  refine congrArg₂ (mm 1024 (nb m c).h (aW m c)) ?_ ?_ <;> blk_simp [at4] <;> (try simp) <;> omega

/-! The reference. -/
section Ref
open Cert.Reference14Ideal (S2x4096x1024 S2x4096x6144 S2x1024)
open Cert.Reference14Ideal.Read
variable {X W : ℕ → ℕ → EReal} {g : ℕ → EReal} {M : ℕ → ℕ → ℕ → EReal} {x0 : (⟨S8192x1024, .f32⟩ : BufTy).Contents (Elt Ideal)} {x1 : (⟨S1024, .f32⟩ : BufTy).Contents (Elt Ideal)}
  {x2 : (⟨S2x6x1024, .f32⟩ : BufTy).Contents (Elt Ideal)} {x3 : (⟨S1024x6144, .bf16⟩ : BufTy).Contents (Elt Ideal)} {S : Nb} (hS : S = nf X g (fun q k => M q 0 k) fun q k => M q 1 k)
  (hx : Rd (s := S8192x1024) x0 fun c => X (c 0) (c 1)) (hg : Rd (s := S1024) x1 fun c => g (c 0))
  (hm : Rd (s := S2x6x1024) x2 fun c => M (c 0) (c 1) (c 2)) (hw : Rd (s := S1024x6144) x3 fun c => W (c 0) (c 1))

include hS hx hg hm in
theorem v26 : Rd (s := S2x4096x1024) (val_main_v26 (F := Ideal) x0 x1 x2) (fun c : Fin 3 → ℕ => S.h (4096 * c 0 + c 1) (c 2)) := by
  subst hS
  have v16 : Rd (s := S2x1024) (val_main_v16 (F := Ideal) x2) (fun c : Fin 2 → ℕ => M (c 0) 0 (c 1)) := row hm 0 _ _
  have v18 : Rd (s := S2x1024) (val_main_v18 (F := Ideal) x2) (fun c : Fin 2 → ℕ => M (c 0) 1 (c 1)) := row hm 1 _ _
  have v1 : Rd (s := S2x4096x1024) (val_main_v1 (F := Ideal) x0) (fun c : Fin 3 → ℕ => X (4096 * c 0 + c 1) (c 2)) := Rd.seq hx _
  exact hnormed (S := nf X g (fun q k => M q 0 k) fun q k => M q 1 k) v1 hg v18 v16 _ _ _ _ _ _ _ _ _ _

include hS hx hg hm hw in
theorem v27 : Rd (s := S2x4096x6144) (val_main_v27 (F := Ideal) x0 x1 x2 x3) (fun c : Fin 3 → ℕ => mm 1024 S.h W (4096 * c 0 + c 1) (c 2)) :=
  Rd.of_dot (v26 hS hx hg hm) (hw.extf _) (val_main_v27_apply x0 x1 x2 x3) (fun c k => S.h (4096 * c 0 + c 1) k * W k (c 2)) fun i k => rfl

end Ref

theorem claim : Cert.algebraic_Kernel14Ideal_Reference14Ideal := fun m g m' g' _ hag => by
  refine ⟨fun c => (dats m 0 c).arrAt 4 cfg0.N, Value.run_blocks m g, ?_⟩
  refine (θ_run Cert.Reference14Ideal.defs _ _).mono (fun r h c => ?_) (Cert.Reference14Ideal.Value.run (F := Ideal) m' g')
  obtain ⟨e0, e⟩ := h c
  obtain ⟨h0, h1, h2, h3⟩ := hag c
  refine ⟨e0.trans ?_, e⟩
  refine (Cert.Reference14Ideal.Read.val_main_v29_eq _ _ _ _).trans ?_
  rw [h0, h1]
  rw [h2, h3]
  exact Final.same ((Rd.unseq (F := mm 1024 (nb m c).h (aW m c)) (v27 (S := nb m c) rfl (Final.rd2 _) (Final.rd1 _) (rd_mod _) (Final.rd2 _)) _).truncf _) (o_arr m c) fun _ => rfl

end Cert.InF

end
-- ==== Proof.UpF.lean ====
/- SwiGLU's upper projections of the normed residual stream: what the kernel computes, the reference, and the claim. -/
module

public import proofs.«01_k».proof.Proof.Fwd
public import proofs.«01_k».proof.Proof.Final
public import proofs.«01_k».proof.Proof.Gen.Kernel15Ideal.Value
public import proofs.«01_k».proof.Proof.Gen.Reference15Ideal.Read

@[expose] public section

set_option maxRecDepth 16384
set_option maxHeartbeats 1000000

noncomputable section

namespace Cert.UpF

open Idealize.ShloMosaic Cert.Rd Cert.Spec Cert.Gate Cert.Fwd Cert.Kernel15Ideal Cert.Kernel15Ideal.Gen Idealize.ShloMosaic.TcCoe Idealize.SL.Sem
open Idealize.ShloMosaic.Pipeline (Dat)

/-- What the upper projections give together. -/
def sw (a b : ℕ → ℕ → EReal) (r k : ℕ) : EReal := a r k * Ideal.logistic (a r k) * b r k

section Body
variable {S : Nb} {A B : ℕ → ℕ → EReal} {i : ℕ} {v22 : FVec Ideal S512x1024 .f32} {v33 : FVec Ideal S1x1024 .f32} {v37 v43 : FVec Ideal S1x1x1024 .f32}
  {v3 : FVec Ideal S512x1024 .bf16} {v4 v7 : FVec Ideal S1024x2816 .bf16}
  (hx : Rd (s := S512x1024) v22 (bk 512 i S.x)) (hg : Rd (s := S1x1024) v33 (ln S.g)) (ha : Rd (s := S1x1x1024) v37 (ln3 (S.sc (i / 8)))) (hb : Rd (s := S1x1x1024) v43 (ln3 (S.sh (i / 8))))
  (hh : Rd (s := S512x1024) v3 (bk 512 i S.h)) (hA : Rd (s := S1024x2816) v4 fun c => A (c 0) (c 1)) (hB : Rd (s := S1024x2816) v7 fun c => B (c 0) (c 1))

include hx hg ha hb in
theorem pay1 : Rd (s := S512x1024) (k0_pay1 (F := Ideal) v22 v33 v37 v43) (bk 512 i S.h) :=
  normed (s := 512) (p := 8) rfl (by decide) hx hg ha hb _ _ _ _ _ _ _ _ _ _

include hh hA in
theorem pay2 : Rd (s := S512x2816) (k0_pay2 (F := Ideal) v3 v4) (bk 512 i (mm 1024 S.h A)) :=
  (((Rd.dot dot_S512x1024_S1024x2816_S512x2816_1_0_0_1_n_n none 1024 (fun c k => ![c 0, k]) (fun c k => ![k, c 1])
    hh hA
    (Rd.const Consts.f0 : Rd (α := EReal) _ fun _ => 0)).congr fun c _ => zero_add _ : Rd (s := S512x2816) _ (bk 512 i (mm 1024 S.h A))).truncf _ :)

include hh hB in
theorem pay3 : Rd (s := S512x2816) (k0_pay3 (F := Ideal) v3 v7) (bk 512 i (mm 1024 S.h B)) := pay2 hh hB

include hh hA hB in
theorem pay4 : Rd (s := S512x2816) (k0_pay4 (F := Ideal) v3 v4 v7) (bk 512 i (sw (mm 1024 S.h A) (mm 1024 S.h B))) :=
  ((pay2 hh hA).mulf (Rd.lg (pay2 hh hA))).mulf (pay3 hh hB)
end Body

variable (m : (ℓ : Loc nD τ sig) → Buf (Elt Ideal) ℓ) (c : Dev nD)

def aX (r k : ℕ) : EReal := ar (s := S8192x1024) (m ((c : Thread nD τ).loc main_arg0)) ![r, k]
def ag (k : ℕ) : EReal := ar (s := S1024) (m ((c : Thread nD τ).loc main_arg1)) ![k]
def aM : ℕ → ℕ → ℕ → EReal := mod (m ((c : Thread nD τ).loc main_arg2))
def aW (r k : ℕ) : EReal := ar (s := S1024x5632) (m ((c : Thread nD τ).loc main_arg3)) ![r, k]
/-- The norm's arrays, and the two projections. -/
abbrev nb : Nb := nf (aX m c) (ag m c) (fun q k => aM m c q 3 k) fun q k => aM m c q 4 k
abbrev pa : ℕ → ℕ → EReal := mm 1024 (nb m c).h (aW m c)
abbrev pb : ℕ → ℕ → EReal := mm 1024 (nb m c).h fun r k => aW m c r (2816 + k)

theorem rd_v0 : Rd (s := S2x8x1024) (V m c main_v0) fun k => aM m c (k 0) (k 1) (k 2) := by
  have e : V m c main_v0 = Fwd.padded (m ((c : Thread nD τ).loc main_arg2)) := by
    entry_read
    rfl
  rw [e]
  exact rd_pad _

theorem rd_v1 : Rd (s := S1x1024) (V m c main_v1) (ln (ag m c)) := by
  have e : V m c main_v1 = shapeCast S1x1024 (m ((c : Thread nD τ).loc main_arg1)) shapeCasts_S1024_S1x1024 := by
    entry_read
    rfl
  rw [e]
  exact (Cert.Rd.Rd.ar (s := S1024) (m ((c : Thread nD τ).loc main_arg1))).castRow shapeCasts_S1024_S1x1024 |>.congr fun _ _ => rfl

theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![t.val / 8, 0, 0] := by decide +kernel
theorem at3 : ∀ t : Fin grid0.N, win0_3.index t = ![0, 0] := by decide +kernel
theorem at4 : ∀ t : Fin grid0.N, win0_4.index t = ![0, 1] := by decide +kernel
theorem at5 : ∀ t : Fin grid0.N, win0_5.index t = ![t.val, 0] := by decide +kernel
theorem at6 : ∀ t : Fin grid0.N, win0_6.index t = ![t.val, 0] := by decide +kernel
theorem at7 : ∀ t : Fin grid0.N, win0_7.index t = ![t.val, 0] := by decide +kernel

variable (t : Fin cfg0.N)

theorem blk0 : Rd (s := S512x1024) (iblk m c 0 t) (bk 512 t.val (aX m c)) := fun i => by
  refine (congrFun (V_main_arg0 m c) _).trans (ar_of (s := S8192x1024) _ _ _ fun a => ?_)
  match a with | ⟨0, _⟩ | ⟨1, _⟩ => blk_simp [at0] <;> (try simp) <;> omega

theorem blk1 : Rd (s := S1x1024) (iblk m c 1 t) (ln (ag m c)) := fun i => by
  refine (rd_v1 m c _).trans (congrArg (ag m c) ?_)
  show ((win0_1.rect t).emb i 1).val = (i 1).val
  blk_simp [at1] <;> (try simp) <;> omega

theorem blk2 : Rd (s := S1x8x1024) (iblk m c 2 t) fun k => aM m c (t.val / 8) (k 1) (k 2) := fun i => by
  refine (rd_v0 m c _).trans (Fwd.rows (aM m c) ?_ ?_ ?_) <;> blk_simp [at2] <;> (try simp) <;> omega

theorem blk3 : Rd (s := S1024x2816) (iblk m c 3 t) fun k => aW m c (k 0) (k 1) := fun i => by
  refine (congrFun (V_main_arg3 m c) _).trans (ar_of (s := S1024x5632) _ _ _ fun a => ?_)
  match a with | ⟨0, _⟩ | ⟨1, _⟩ => blk_simp [at3] <;> (try simp) <;> omega

theorem blk4 : Rd (s := S1024x2816) (iblk m c 4 t) fun k => aW m c (k 0) (2816 + k 1) := fun i => by
  refine (congrFun (V_main_arg3 m c) _).trans (ar_of (s := S1024x5632) _ _ _ fun a => ?_)
  match a with | ⟨0, _⟩ | ⟨1, _⟩ => blk_simp [at4] <;> (try simp) <;> omega

/-! The blocks as a grid point loads them, and the normed tile. -/
def l0 := ldW (blk0 m c t) inb_S512x1024_S512x1024_0_0
def l1 := ldW (f := ln (ag m c)) (blk1 m c t) inb_S1x1024_S1x1024_0_0
def lb := ldR3 (P := aM m c (t.val / 8)) (blk2 m c t) 3 inb_S1x8x1024_S1x1x1024_0_3_0
def la := ldR3 (P := aM m c (t.val / 8)) (blk2 m c t) 4 inb_S1x8x1024_S1x1x1024_0_4_0
def l3 := ldW (f := fun k => aW m c (k 0) (k 1)) (blk3 m c t) inb_S1024x2816_S1024x2816_0_0
def l4 := ldW (f := fun k => aW m c (k 0) (2816 + k 1)) (blk4 m c t) inb_S1024x2816_S1024x2816_0_0
def lh := ldW (pay1 (S := nb m c) (l0 m c t) (l1 m c t) (la m c t) (lb m c t)) inb_S512x1024_S512x1024_0_0

/-! The arrays after the launch. -/
theorem a_out : Rd (s := S512x2816) (outsAt0 m c t).1 (bk 512 t.val (pa m c)) := by
  unfold outsAt0 out0_A_5 kernelRun0_A
  dsimp only
  sl_unfold_words
  simp (disch := decide) only [↓View.readCov_skip, View.readCov_fill, View.readAt_eq_ld, Memref.IsWhole.read_unread]
  exact st2 (pay2 (lh m c t) (l3 m c t))

theorem a_arr : Rd (s := S8192x2816) ((dats m 0 c).arrAt 5 cfg0.N) fun k => pa m c (k 0) (k 1) := fun i => by
  refine (dats m 0 c).arrAt_forall_of_covers 5 (fun i v => v = pa m c (i 0).val (i 1).val) (by decide +kernel) (fun t hf y => ?_) i
  rw [after0_5]
  refine (a_out m c t _).trans ?_
  refine congrArg₂ (pa m c) ?_ ?_ <;> blk_simp [at5] <;> (try simp) <;> omega

theorem b_out : Rd (s := S512x2816) (outsAt0 m c t).2.1 (bk 512 t.val (pb m c)) := by
  unfold outsAt0 out0_A_6 kernelRun0_A
  dsimp only
  sl_unfold_words
  simp (disch := decide) only [↓View.readCov_skip, View.readCov_fill, View.readAt_eq_ld, Memref.IsWhole.read_unread]
  exact st2 (pay3 (B := fun r k => aW m c r (2816 + k)) (lh m c t) (l4 m c t))

theorem b_arr : Rd (s := S8192x2816) ((dats m 0 c).arrAt 6 cfg0.N) fun k => pb m c (k 0) (k 1) := fun i => by
  refine (dats m 0 c).arrAt_forall_of_covers 6 (fun i v => v = pb m c (i 0).val (i 1).val) (by decide +kernel) (fun t hf y => ?_) i
  rw [after0_6]
  refine (b_out m c t _).trans ?_
  refine congrArg₂ (pb m c) ?_ ?_ <;> blk_simp [at6] <;> (try simp) <;> omega

theorem h_out : Rd (s := S512x2816) (outsAt0 m c t).2.2 (bk 512 t.val (sw (pa m c) (pb m c))) := by
  unfold outsAt0 out0_A_7 kernelRun0_A
  dsimp only
  sl_unfold_words
  simp (disch := decide) only [↓View.readCov_skip, View.readCov_fill, View.readAt_eq_ld, Memref.IsWhole.read_unread]
  exact st2 (pay4 (B := fun r k => aW m c r (2816 + k)) (lh m c t) (l3 m c t) (l4 m c t))

theorem h_arr : Rd (s := S8192x2816) ((dats m 0 c).arrAt 7 cfg0.N) fun k => sw (pa m c) (pb m c) (k 0) (k 1) := fun i => by
  refine (dats m 0 c).arrAt_forall_of_covers 7 (fun i v => v = sw (pa m c) (pb m c) (i 0).val (i 1).val) (by decide +kernel) (fun t hf y => ?_) i
  rw [after0_7]
  refine (h_out m c t _).trans ?_
  refine congrArg₂ (sw (pa m c) (pb m c)) ?_ ?_ <;> blk_simp [at7] <;> (try simp) <;> omega

/-! The reference. -/
section Ref
open Cert.Reference15Ideal (S2x4096x1024 S2x4096x5632 S2x4096x2816 S2x1024)
open Cert.Reference15Ideal.Read
variable {X W : ℕ → ℕ → EReal} {g : ℕ → EReal} {M : ℕ → ℕ → ℕ → EReal} {x0 : (⟨S8192x1024, .f32⟩ : BufTy).Contents (Elt Ideal)} {x1 : (⟨S1024, .f32⟩ : BufTy).Contents (Elt Ideal)}
  {x2 : (⟨S2x6x1024, .f32⟩ : BufTy).Contents (Elt Ideal)} {x3 : (⟨S1024x5632, .bf16⟩ : BufTy).Contents (Elt Ideal)} {S : Nb} (hS : S = nf X g (fun q k => M q 3 k) fun q k => M q 4 k)
  (hx : Rd (s := S8192x1024) x0 fun c => X (c 0) (c 1)) (hg : Rd (s := S1024) x1 fun c => g (c 0))
  (hm : Rd (s := S2x6x1024) x2 fun c => M (c 0) (c 1) (c 2)) (hw : Rd (s := S1024x5632) x3 fun c => W (c 0) (c 1))

include hS hx hg hm in
theorem v26 : Rd (s := S2x4096x1024) (val_main_v26 (F := Ideal) x0 x1 x2) (fun c : Fin 3 → ℕ => S.h (4096 * c 0 + c 1) (c 2)) := by
  subst hS
  have v16 : Rd (s := S2x1024) (val_main_v16 (F := Ideal) x2) (fun c : Fin 2 → ℕ => M (c 0) 3 (c 1)) := row hm 3 _ _
  have v18 : Rd (s := S2x1024) (val_main_v18 (F := Ideal) x2) (fun c : Fin 2 → ℕ => M (c 0) 4 (c 1)) := row hm 4 _ _
  have v1 : Rd (s := S2x4096x1024) (val_main_v1 (F := Ideal) x0) (fun c : Fin 3 → ℕ => X (4096 * c 0 + c 1) (c 2)) := Rd.seq hx _
  exact hnormed (S := nf X g (fun q k => M q 3 k) fun q k => M q 4 k) v1 hg v18 v16 _ _ _ _ _ _ _ _ _ _

include hS hx hg hm hw in
theorem v27 : Rd (s := S2x4096x5632) (val_main_v27 (F := Ideal) x0 x1 x2 x3) (fun c : Fin 3 → ℕ => mm 1024 S.h W (4096 * c 0 + c 1) (c 2)) :=
  Rd.of_dot (v26 hS hx hg hm) (hw.extf _) (val_main_v27_apply x0 x1 x2 x3) (fun c k => S.h (4096 * c 0 + c 1) k * W k (c 2)) fun i k => rfl

include hS hx hg hm hw in
theorem v28 : Rd (s := S2x4096x2816) (val_main_v28 (F := Ideal) x0 x1 x2 x3) (fun c : Fin 3 → ℕ => mm 1024 S.h W (4096 * c 0 + c 1) (c 2)) :=
  ((v27 hS hx hg hm hw).slice ![0, 0, 0] _).congr fun c _ => by
    show mm 1024 S.h W (4096 * (0 + c 0) + (0 + c 1)) (0 + c 2) = _
    simp only [Nat.zero_add]

include hS hx hg hm hw in
theorem v29 : Rd (s := S2x4096x2816) (val_main_v29 (F := Ideal) x0 x1 x2 x3) (fun c : Fin 3 → ℕ => mm 1024 S.h (fun r k => W r (2816 + k)) (4096 * c 0 + c 1) (c 2)) :=
  ((v27 hS hx hg hm hw).slice ![0, 0, 2816] _).congr fun c _ => by
    show mm 1024 S.h W (4096 * (0 + c 0) + (0 + c 1)) (2816 + c 2) = _
    simp only [Nat.zero_add]
    rfl

include hS hx hg hm hw in
theorem v31 : Rd (s := S2x4096x2816) (val_main_v31 (F := Ideal) x0 x1 x2 x3)
    (fun c : Fin 3 → ℕ => sw (mm 1024 S.h W) (mm 1024 S.h fun r k => W r (2816 + k)) (4096 * c 0 + c 1) (c 2)) :=
  ((v28 hS hx hg hm hw).mulf (Rd.hlg (v28 hS hx hg hm hw) (Rf.scal (fun _ => Consts.f1) _) (Rf.scal (fun _ => Consts.f1) _))).mulf (v29 hS hx hg hm hw)
end Ref

theorem claim : Cert.algebraic_Kernel15Ideal_Reference15Ideal := fun m g m' g' _ hag => by
  refine ⟨fun c => (dats m 0 c).arrAt 5 cfg0.N, fun c => (dats m 0 c).arrAt 6 cfg0.N, fun c => (dats m 0 c).arrAt 7 cfg0.N, Value.run_blocks m g, ?_⟩
  refine (θ_run Cert.Reference15Ideal.defs _ _).mono (fun r h c => ?_) (Cert.Reference15Ideal.Value.run (F := Ideal) m' g')
  obtain ⟨e0, e1, e2, e⟩ := h c
  obtain ⟨h0, h1, h2, h3⟩ := hag c
  refine ⟨e0.trans ?_, e1.trans ?_, e2.trans ?_, e⟩
  · refine (Cert.Reference15Ideal.Read.val_main_v33_eq _ _ _ _).trans ?_
    rw [h0, h1]
    rw [h2, h3]
    exact Final.same ((Rd.unseq (F := pa m c) (v28 (S := nb m c) rfl (Final.rd2 _) (Final.rd1 _) (rd_mod _) (Final.rd2 _)) _).truncf _) (a_arr m c) fun _ => rfl
  · refine (Cert.Reference15Ideal.Read.val_main_v35_eq _ _ _ _).trans ?_
    rw [h0, h1]
    rw [h2, h3]
    exact Final.same ((Rd.unseq (F := pb m c) (v29 (S := nb m c) (W := aW m c) rfl (Final.rd2 _) (Final.rd1 _) (rd_mod _) (Final.rd2 _)) _).truncf _) (b_arr m c) fun _ => rfl
  · refine (Cert.Reference15Ideal.Read.val_main_v37_eq _ _).trans ?_
    rw [h0, h1]
    rw [h2, h3]
    exact Final.same ((Rd.unseq (F := sw (pa m c) (pb m c)) (v31 (S := nb m c) (W := aW m c) rfl (Final.rd2 _) (Final.rd1 _) (rd_mod _) (Final.rd2 _)) _).truncf _) (h_arr m c) fun _ => rfl

end Cert.UpF

end
-- ==== Proof.DownF.lean ====
/- SwiGLU's lower projection and the residual stream after it: what the kernel computes, the reference, and the claim. -/
module

public import proofs.«01_k».proof.Proof.Fwd
public import proofs.«01_k».proof.Proof.Final
public import proofs.«01_k».proof.Proof.Gen.Kernel16Ideal.Value
public import proofs.«01_k».proof.Proof.Gen.Reference16Ideal.Read

@[expose] public section

set_option maxRecDepth 16384
set_option maxHeartbeats 1000000

noncomputable section

namespace Cert.DownF

open Idealize.ShloMosaic Cert.Rd Cert.Spec Cert.Gate Cert.Fwd Cert.Kernel16Ideal Cert.Kernel16Ideal.Gen Idealize.ShloMosaic.TcCoe Idealize.SL.Sem
open Idealize.ShloMosaic.Pipeline (Dat)

section Body
variable {R X W G : ℕ → ℕ → EReal} {i : ℕ} {v0 : FVec Ideal S512x2816 .bf16} {v1 : FVec Ideal S2816x1024 .bf16} {v3 : FVec Ideal S512x1024 .f32} {v4 : FVec Ideal S1x1x1024 .f32}
  (hX : Rd (s := S512x2816) v0 (bk 512 i X)) (hW : Rd (s := S2816x1024) v1 fun c => W (c 0) (c 1)) (hR : Rd (s := S512x1024) v3 (bk 512 i R)) (hG : Rd (s := S1x1x1024) v4 (ln3 (G (i / 8))))

include hX hW in
theorem pay1 : Rd (s := S512x1024) (k0_pay1 (F := Ideal) v0 v1) (bk 512 i (mm 2816 X W)) :=
  (Rd.dot dot_S512x2816_S2816x1024_S512x1024_1_0_0_1_n_n none 2816 (fun c k => ![c 0, k]) (fun c k => ![k, c 1])
    hX hW
    (Rd.const Consts.f0 : Rd (α := EReal) _ fun _ => 0)).congr fun c _ => zero_add _

include hX hW hR hG in
theorem pay2 : Rd (s := S512x1024) (k0_pay2 (F := Ideal) v0 v1 v3 v4) (bk 512 i (res 2816 R G X W)) :=
  hR.addf ((bseq (s := 512) (p := 8) rfl (hG.castDrop shapeCasts_S1x1x1024_S1x1024) broadcasts_S1x1024_S512x1024).mulf (pay1 hX hW))
end Body

variable (m : (ℓ : Loc nD τ sig) → Buf (Elt Ideal) ℓ) (c : Dev nD)

def aX (r k : ℕ) : EReal := ar (s := S8192x2816) (m ((c : Thread nD τ).loc main_arg0)) ![r, k]
def aW (r k : ℕ) : EReal := ar (s := S2816x1024) (m ((c : Thread nD τ).loc main_arg1)) ![r, k]
def aR (r k : ℕ) : EReal := ar (s := S8192x1024) (m ((c : Thread nD τ).loc main_arg2)) ![r, k]
def aM : ℕ → ℕ → ℕ → EReal := mod (m ((c : Thread nD τ).loc main_arg3))

theorem rd_v0 : Rd (s := S2x8x1024) (V m c main_v0) fun k => aM m c (k 0) (k 1) (k 2) := by
  have e : V m c main_v0 = Fwd.padded (m ((c : Thread nD τ).loc main_arg3)) := by
    entry_read
    rfl
  rw [e]
  exact rd_pad _

theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![t.val, 0] := by decide +kernel
theorem at3 : ∀ t : Fin grid0.N, win0_3.index t = ![t.val / 8, 0, 0] := by decide +kernel
theorem at4 : ∀ t : Fin grid0.N, win0_4.index t = ![t.val, 0] := by decide +kernel
theorem at5 : ∀ t : Fin grid0.N, win0_5.index t = ![t.val, 0] := by decide +kernel

variable (t : Fin cfg0.N)

theorem blk0 : Rd (s := S512x2816) (iblk m c 0 t) (bk 512 t.val (aX m c)) := fun i => by
  refine (congrFun (V_main_arg0 m c) _).trans (ar_of (s := S8192x2816) _ _ _ fun a => ?_)
  match a with | ⟨0, _⟩ | ⟨1, _⟩ => blk_simp [at0] <;> (try simp) <;> omega

theorem blk1 : Rd (s := S2816x1024) (iblk m c 1 t) fun k => aW m c (k 0) (k 1) := fun i => by
  refine (congrFun (V_main_arg1 m c) _).trans (ar_of (s := S2816x1024) _ _ _ fun a => ?_)
  match a with | ⟨0, _⟩ | ⟨1, _⟩ => blk_simp [at1] <;> (try simp) <;> omega

theorem blk2 : Rd (s := S512x1024) (iblk m c 2 t) (bk 512 t.val (aR m c)) := fun i => by
  refine (congrFun (V_main_arg2 m c) _).trans (ar_of (s := S8192x1024) _ _ _ fun a => ?_)
  match a with | ⟨0, _⟩ | ⟨1, _⟩ => blk_simp [at2] <;> (try simp) <;> omega

theorem blk3 : Rd (s := S1x8x1024) (iblk m c 3 t) fun k => aM m c (t.val / 8) (k 1) (k 2) := fun i => by
  refine (rd_v0 m c _).trans (Fwd.rows (aM m c) ?_ ?_ ?_) <;> blk_simp [at3] <;> (try simp) <;> omega

/-! The blocks as a grid point loads them. -/
def l0 := ldW (blk0 m c t) inb_S512x2816_S512x2816_0_0
def l1 := ldW (f := fun k => aW m c (k 0) (k 1)) (blk1 m c t) inb_S2816x1024_S2816x1024_0_0
def l2 := ldW (blk2 m c t) inb_S512x1024_S512x1024_0_0
def l3 := ldR3 (P := aM m c (t.val / 8)) (blk3 m c t) 5 inb_S1x8x1024_S1x1x1024_0_5_0

/-! The arrays after the launch. -/
theorem x_arr : Rd (s := S8192x1024) ((dats m 0 c).arrAt 4 cfg0.N) fun k => res 2816 (aR m c) (fun q k => aM m c q 5 k) (aX m c) (aW m c) (k 0) (k 1) := fun i => by
  refine (dats m 0 c).arrAt_forall_of_covers 4 (fun i v => v = res 2816 (aR m c) (fun q k => aM m c q 5 k) (aX m c) (aW m c) (i 0).val (i 1).val) (by decide +kernel) (fun t hf y => ?_) i
  rw [after0_4]
  unfold out0_4
  refine (cn32 (pay2 (G := fun q k => aM m c q 5 k) (l0 m c t) (l1 m c t) (l2 m c t) (l3 m c t)) (cover0_4 _) _).trans ?_
  refine congrArg₂ (res 2816 (aR m c) (fun q k => aM m c q 5 k) (aX m c) (aW m c)) ?_ ?_ <;> blk_simp [at4] <;> (try simp) <;> omega

theorem y_arr : Rd (s := S8192x1024) ((dats m 0 c).arrAt 5 cfg0.N) fun k => mm 2816 (aX m c) (aW m c) (k 0) (k 1) := fun i => by
  refine (dats m 0 c).arrAt_forall_of_covers 5 (fun i v => v = mm 2816 (aX m c) (aW m c) (i 0).val (i 1).val) (by decide +kernel) (fun t hf y => ?_) i
  rw [after0_5]
  unfold out0_5
  refine (cn16 ((pay1 (l0 m c t) (l1 m c t)).truncf _) (cover0_5 _) _).trans ?_
  refine congrArg₂ (mm 2816 (aX m c) (aW m c)) ?_ ?_ <;> blk_simp [at5] <;> (try simp) <;> omega

/-! The reference. -/
section Ref
open Cert.Reference16Ideal (S2x4096x1024)
open Cert.Reference16Ideal.Read
variable {R X W : ℕ → ℕ → EReal} {M : ℕ → ℕ → ℕ → EReal} {x0 : (⟨S8192x2816, .bf16⟩ : BufTy).Contents (Elt Ideal)} {x1 : (⟨S2816x1024, .bf16⟩ : BufTy).Contents (Elt Ideal)}
  {x2 : (⟨S8192x1024, .f32⟩ : BufTy).Contents (Elt Ideal)} {x3 : (⟨S2x6x1024, .f32⟩ : BufTy).Contents (Elt Ideal)}
  (hx : Rd (s := S8192x2816) x0 fun c => X (c 0) (c 1)) (hw : Rd (s := S2816x1024) x1 fun c => W (c 0) (c 1))
  (hr : Rd (s := S8192x1024) x2 fun c => R (c 0) (c 1)) (hm : Rd (s := S2x6x1024) x3 fun c => M (c 0) (c 1) (c 2))

include hx hw in
theorem v3 : Rd (s := S2x4096x1024) (val_main_v3 (F := Ideal) x0 x1) (fun c : Fin 3 → ℕ => mm 2816 X W (4096 * c 0 + c 1) (c 2)) :=
  Rd.of_dot (Rd.seq (hx.extf _) _) (hw.extf _) (val_main_v3_apply x0 x1) (fun c k => X (4096 * c 0 + c 1) k * W k (c 2)) fun i k => rfl

include hx hw in
theorem v13 : Rd (s := S8192x1024) (val_main_v13 (F := Ideal) x0 x1) (fun c : Fin 2 → ℕ => mm 2816 X W (c 0) (c 1)) := (Rd.unseq (v3 hx hw) _).truncf _

include hm in
theorem v8 : Rd (s := S2x4096x1024) (val_main_v8 (F := Ideal) x3) (fun c : Fin 3 → ℕ => M ((4096 * c 0 + c 1) / 4096) 5 (c 2)) := by
  have v6 : Rd (s := ⟨2, ![2, 1024]⟩) (val_main_v6 (F := Ideal) x3) (fun c : Fin 2 → ℕ => M (c 0) 5 (c 1)) := row hm 5 _ _
  exact seq1 (F := fun q k => M q 5 k) (up1 (F := fun q k => M q 5 k) v6 _) _

include hx hw hr hm in
theorem v11 : Rd (s := S8192x1024) (val_main_v11 (F := Ideal) x0 x1 x2 x3) (fun c : Fin 2 → ℕ => res 2816 R (fun q k => M q 5 k) X W (c 0) (c 1)) :=
  Rd.unseq (F := res 2816 R (fun q k => M q 5 k) X W) ((Rd.seq hr _).addf ((v8 hm).mulf (v3 hx hw))) _
end Ref

theorem claim : Cert.algebraic_Kernel16Ideal_Reference16Ideal := fun m g m' g' _ hag => by
  refine ⟨fun c => (dats m 0 c).arrAt 4 cfg0.N, fun c => (dats m 0 c).arrAt 5 cfg0.N, Value.run_blocks m g, ?_⟩
  refine (θ_run Cert.Reference16Ideal.defs _ _).mono (fun r h c => ?_) (Cert.Reference16Ideal.Value.run (F := Ideal) m' g')
  obtain ⟨e0, e1, e⟩ := h c
  obtain ⟨h0, h1, h2, h3⟩ := hag c
  refine ⟨e0.trans ?_, e1.trans ?_, e⟩
  · refine (Cert.Reference16Ideal.Read.val_main_v11_eq _ _ _ _).trans ?_
    rw [h0, h1]
    rw [h2, h3]
    exact Final.same (v11 (R := aR m c) (X := aX m c) (W := aW m c) (M := aM m c) (Final.rd2 _) (Final.rd2 _) (Final.rd2 _) (rd_mod _)) (x_arr m c) fun _ => rfl
  · refine (Cert.Reference16Ideal.Read.val_main_v13_eq _ _).trans ?_
    rw [h0, h1]
    exact Final.same (v13 (X := aX m c) (W := aW m c) (Final.rd2 _) (Final.rd2 _)) (y_arr m c) fun _ => rfl

end Cert.DownF

end
-- ==== Proof.OutF.lean ====
/- The mixer's output projection and the residual stream after it: what the kernel computes, the reference, and the claim. -/
module

public import proofs.«01_k».proof.Proof.Fwd
public import proofs.«01_k».proof.Proof.Final
public import proofs.«01_k».proof.Proof.Gen.Kernel17Ideal.Value
public import proofs.«01_k».proof.Proof.Gen.Reference17Ideal.Read

@[expose] public section

set_option maxRecDepth 16384
set_option maxHeartbeats 1000000

noncomputable section

namespace Cert.OutF

open Idealize.ShloMosaic Cert.Rd Cert.Spec Cert.Gate Cert.Fwd Cert.Kernel17Ideal Cert.Kernel17Ideal.Gen Idealize.ShloMosaic.TcCoe Idealize.SL.Sem
open Idealize.ShloMosaic.Pipeline (Dat)

section Body
variable {R X W G : ℕ → ℕ → EReal} {i : ℕ} {v0 : FVec Ideal S1024x1024 .bf16} {v1 : FVec Ideal S1024x1024 .bf16} {v3 : FVec Ideal S1024x1024 .f32} {v4 : FVec Ideal S1x1x1024 .f32}
  (hX : Rd (s := S1024x1024) v0 (bk 1024 i X)) (hW : Rd (s := S1024x1024) v1 fun c => W (c 0) (c 1)) (hR : Rd (s := S1024x1024) v3 (bk 1024 i R)) (hG : Rd (s := S1x1x1024) v4 (ln3 (G (i / 4))))

include hX hW in
theorem pay1 : Rd (s := S1024x1024) (k0_pay1 (F := Ideal) v0 v1) (bk 1024 i (mm 1024 X W)) :=
  (Rd.dot dot_S1024x1024_S1024x1024_S1024x1024_1_0_0_1_n_n none 1024 (fun c k => ![c 0, k]) (fun c k => ![k, c 1])
    hX hW
    (Rd.const Consts.f0 : Rd (α := EReal) _ fun _ => 0)).congr fun c _ => zero_add _

include hX hW hR hG in
theorem pay2 : Rd (s := S1024x1024) (k0_pay2 (F := Ideal) v0 v1 v3 v4) (bk 1024 i (res 1024 R G X W)) :=
  hR.addf ((bseq (s := 1024) (p := 4) rfl (hG.castDrop shapeCasts_S1x1x1024_S1x1024) broadcasts_S1x1024_S1024x1024).mulf (pay1 hX hW))
end Body

variable (m : (ℓ : Loc nD τ sig) → Buf (Elt Ideal) ℓ) (c : Dev nD)

def aX (r k : ℕ) : EReal := ar (s := S8192x1024) (m ((c : Thread nD τ).loc main_arg0)) ![r, k]
def aW (r k : ℕ) : EReal := ar (s := S1024x1024) (m ((c : Thread nD τ).loc main_arg1)) ![r, k]
def aR (r k : ℕ) : EReal := ar (s := S8192x1024) (m ((c : Thread nD τ).loc main_arg2)) ![r, k]
def aM : ℕ → ℕ → ℕ → EReal := mod (m ((c : Thread nD τ).loc main_arg3))

theorem rd_v0 : Rd (s := S2x8x1024) (V m c main_v0) fun k => aM m c (k 0) (k 1) (k 2) := by
  have e : V m c main_v0 = Fwd.padded (m ((c : Thread nD τ).loc main_arg3)) := by
    entry_read
    rfl
  rw [e]
  exact rd_pad _

theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![t.val, 0] := by decide +kernel
theorem at3 : ∀ t : Fin grid0.N, win0_3.index t = ![t.val / 4, 0, 0] := by decide +kernel
theorem at4 : ∀ t : Fin grid0.N, win0_4.index t = ![t.val, 0] := by decide +kernel
theorem at5 : ∀ t : Fin grid0.N, win0_5.index t = ![t.val, 0] := by decide +kernel

variable (t : Fin cfg0.N)

theorem blk0 : Rd (s := S1024x1024) (iblk m c 0 t) (bk 1024 t.val (aX m c)) := fun i => by
  refine (congrFun (V_main_arg0 m c) _).trans (ar_of (s := S8192x1024) _ _ _ fun a => ?_)
  match a with | ⟨0, _⟩ | ⟨1, _⟩ => blk_simp [at0] <;> (try simp) <;> omega

theorem blk1 : Rd (s := S1024x1024) (iblk m c 1 t) fun k => aW m c (k 0) (k 1) := fun i => by
  refine (congrFun (V_main_arg1 m c) _).trans (ar_of (s := S1024x1024) _ _ _ fun a => ?_)
  match a with | ⟨0, _⟩ | ⟨1, _⟩ => blk_simp [at1] <;> (try simp) <;> omega

theorem blk2 : Rd (s := S1024x1024) (iblk m c 2 t) (bk 1024 t.val (aR m c)) := fun i => by
  refine (congrFun (V_main_arg2 m c) _).trans (ar_of (s := S8192x1024) _ _ _ fun a => ?_)
  match a with | ⟨0, _⟩ | ⟨1, _⟩ => blk_simp [at2] <;> (try simp) <;> omega

theorem blk3 : Rd (s := S1x8x1024) (iblk m c 3 t) fun k => aM m c (t.val / 4) (k 1) (k 2) := fun i => by
  refine (rd_v0 m c _).trans (Fwd.rows (aM m c) ?_ ?_ ?_) <;> blk_simp [at3] <;> (try simp) <;> omega

/-! The blocks as a grid point loads them. -/
def l0 := ldW (blk0 m c t) inb_S1024x1024_S1024x1024_0_0
def l1 := ldW (f := fun k => aW m c (k 0) (k 1)) (blk1 m c t) inb_S1024x1024_S1024x1024_0_0
def l2 := ldW (blk2 m c t) inb_S1024x1024_S1024x1024_0_0
def l3 := ldR3 (P := aM m c (t.val / 4)) (blk3 m c t) 2 inb_S1x8x1024_S1x1x1024_0_2_0

/-! The arrays after the launch. -/
theorem x_arr : Rd (s := S8192x1024) ((dats m 0 c).arrAt 4 cfg0.N) fun k => res 1024 (aR m c) (fun q k => aM m c q 2 k) (aX m c) (aW m c) (k 0) (k 1) := fun i => by
  refine (dats m 0 c).arrAt_forall_of_covers 4 (fun i v => v = res 1024 (aR m c) (fun q k => aM m c q 2 k) (aX m c) (aW m c) (i 0).val (i 1).val) (by decide +kernel) (fun t hf y => ?_) i
  rw [after0_4]
  unfold out0_4
  refine (cn32 (pay2 (G := fun q k => aM m c q 2 k) (l0 m c t) (l1 m c t) (l2 m c t) (l3 m c t)) (cover0_4 _) _).trans ?_
  refine congrArg₂ (res 1024 (aR m c) (fun q k => aM m c q 2 k) (aX m c) (aW m c)) ?_ ?_ <;> blk_simp [at4] <;> (try simp) <;> omega

theorem y_arr : Rd (s := S8192x1024) ((dats m 0 c).arrAt 5 cfg0.N) fun k => mm 1024 (aX m c) (aW m c) (k 0) (k 1) := fun i => by
  refine (dats m 0 c).arrAt_forall_of_covers 5 (fun i v => v = mm 1024 (aX m c) (aW m c) (i 0).val (i 1).val) (by decide +kernel) (fun t hf y => ?_) i
  rw [after0_5]
  unfold out0_5
  refine (cn16 ((pay1 (l0 m c t) (l1 m c t)).truncf _) (cover0_5 _) _).trans ?_
  refine congrArg₂ (mm 1024 (aX m c) (aW m c)) ?_ ?_ <;> blk_simp [at5] <;> (try simp) <;> omega

/-! The reference. -/
section Ref
open Cert.Reference17Ideal (S2x4096x1024)
open Cert.Reference17Ideal.Read
variable {R X W : ℕ → ℕ → EReal} {M : ℕ → ℕ → ℕ → EReal} {x0 : (⟨S8192x1024, .bf16⟩ : BufTy).Contents (Elt Ideal)} {x1 : (⟨S1024x1024, .bf16⟩ : BufTy).Contents (Elt Ideal)}
  {x2 : (⟨S8192x1024, .f32⟩ : BufTy).Contents (Elt Ideal)} {x3 : (⟨S2x6x1024, .f32⟩ : BufTy).Contents (Elt Ideal)}
  (hx : Rd (s := S8192x1024) x0 fun c => X (c 0) (c 1)) (hw : Rd (s := S1024x1024) x1 fun c => W (c 0) (c 1))
  (hr : Rd (s := S8192x1024) x2 fun c => R (c 0) (c 1)) (hm : Rd (s := S2x6x1024) x3 fun c => M (c 0) (c 1) (c 2))

include hx hw in
theorem v3 : Rd (s := S2x4096x1024) (val_main_v3 (F := Ideal) x0 x1) (fun c : Fin 3 → ℕ => mm 1024 X W (4096 * c 0 + c 1) (c 2)) :=
  Rd.of_dot (Rd.seq (hx.extf _) _) (hw.extf _) (val_main_v3_apply x0 x1) (fun c k => X (4096 * c 0 + c 1) k * W k (c 2)) fun i k => rfl

include hx hw in
theorem v13 : Rd (s := S8192x1024) (val_main_v13 (F := Ideal) x0 x1) (fun c : Fin 2 → ℕ => mm 1024 X W (c 0) (c 1)) := (Rd.unseq (v3 hx hw) _).truncf _

include hm in
theorem v8 : Rd (s := S2x4096x1024) (val_main_v8 (F := Ideal) x3) (fun c : Fin 3 → ℕ => M ((4096 * c 0 + c 1) / 4096) 2 (c 2)) := by
  have v6 : Rd (s := ⟨2, ![2, 1024]⟩) (val_main_v6 (F := Ideal) x3) (fun c : Fin 2 → ℕ => M (c 0) 2 (c 1)) := row hm 2 _ _
  exact seq1 (F := fun q k => M q 2 k) (up1 (F := fun q k => M q 2 k) v6 _) _

include hx hw hr hm in
theorem v11 : Rd (s := S8192x1024) (val_main_v11 (F := Ideal) x0 x1 x2 x3) (fun c : Fin 2 → ℕ => res 1024 R (fun q k => M q 2 k) X W (c 0) (c 1)) :=
  Rd.unseq (F := res 1024 R (fun q k => M q 2 k) X W) ((Rd.seq hr _).addf ((v8 hm).mulf (v3 hx hw))) _
end Ref

theorem claim : Cert.algebraic_Kernel17Ideal_Reference17Ideal := fun m g m' g' _ hag => by
  refine ⟨fun c => (dats m 0 c).arrAt 4 cfg0.N, fun c => (dats m 0 c).arrAt 5 cfg0.N, Value.run_blocks m g, ?_⟩
  refine (θ_run Cert.Reference17Ideal.defs _ _).mono (fun r h c => ?_) (Cert.Reference17Ideal.Value.run (F := Ideal) m' g')
  obtain ⟨e0, e1, e⟩ := h c
  obtain ⟨h0, h1, h2, h3⟩ := hag c
  refine ⟨e0.trans ?_, e1.trans ?_, e⟩
  · refine (Cert.Reference17Ideal.Read.val_main_v11_eq _ _ _ _).trans ?_
    rw [h0, h1]
    rw [h2, h3]
    exact Final.same (v11 (R := aR m c) (X := aX m c) (W := aW m c) (M := aM m c) (Final.rd2 _) (Final.rd2 _) (Final.rd2 _) (rd_mod _)) (x_arr m c) fun _ => rfl
  · refine (Cert.Reference17Ideal.Read.val_main_v13_eq _ _).trans ?_
    rw [h0, h1]
    exact Final.same (v13 (X := aX m c) (W := aW m c) (Final.rd2 _) (Final.rd2 _)) (y_arr m c) fun _ => rfl

end Cert.OutF

end
-- ==== Proof.ProjF.lean ====
/- The branches' gated projections: what the kernel computes, the reference, and the claim. -/
module

public import proofs.«01_k».proof.Proof.Fwd
public import proofs.«01_k».proof.Proof.Pj
public import proofs.«01_k».proof.Proof.Gen.Kernel18Ideal.Value
public import proofs.«01_k».proof.Proof.Gen.Reference18Ideal.Read

@[expose] public section

set_option maxRecDepth 16384
set_option maxHeartbeats 1000000

noncomputable section

namespace Cert.ProjF

open Cert.Pj (lcol wt gate part)
open Idealize.ShloMosaic Cert.Rd Cert.Spec Cert.Gate Cert.Fwd Cert.Kernel18Ideal Cert.Kernel18Ideal.Gen Idealize.ShloMosaic.TcCoe Idealize.SL.Sem
open Idealize.ShloMosaic.Pipeline (Dat)

/-- A branch's projection times its gate, and the sum of the three. -/
def br (C Z : ℕ → ℕ → EReal) (W : ℕ → ℕ → ℕ → EReal) (b r k : ℕ) : EReal := Ideal.logistic (Z r (1024 * b + k)) * mm 512 (fun r j => C r (512 * b + j)) (W b) r k
def pf (C Z : ℕ → ℕ → EReal) (W : ℕ → ℕ → ℕ → EReal) (r k : ℕ) : EReal := br C Z W 0 r k + br C Z W 1 r k + br C Z W 2 r k

section Body
variable {C Z : ℕ → ℕ → EReal} {W : ℕ → ℕ → ℕ → EReal} {i b : ℕ} {v1 v15 v29 : FVec Ideal S512x512 .bf16} {v2 v4 v16 v18 v30 v32 : FVec Ideal S512x1024 .bf16}
  (h1 : Rd (s := S512x512) v1 (bk 512 i fun r k => C r (512 * 0 + k))) (h15 : Rd (s := S512x512) v15 (bk 512 i fun r k => C r (512 * 1 + k))) (h29 : Rd (s := S512x512) v29 (bk 512 i fun r k => C r (512 * b + k)))
  (h2 : Rd (s := S512x1024) v2 fun c => W 0 (c 0) (c 1)) (h16 : Rd (s := S512x1024) v16 fun c => W 1 (c 0) (c 1)) (h30 : Rd (s := S512x1024) v30 fun c => W b (c 0) (c 1))
  (h4 : Rd (s := S512x1024) v4 (bk 512 i fun r k => Z r (1024 * 0 + k))) (h18 : Rd (s := S512x1024) v18 (bk 512 i fun r k => Z r (1024 * 1 + k))) (h32 : Rd (s := S512x1024) v32 (bk 512 i fun r k => Z r (1024 * 2 + k)))

include h29 h30 in
theorem pay3 : Rd (s := S512x1024) (k0_pay3 (F := Ideal) v29 v30) (bk 512 i (mm 512 (fun r j => C r (512 * b + j)) (W b))) :=
  (Rd.dot dot_S512x512_S512x1024_S512x1024_1_0_0_1_n_n none 512 (fun c k => ![c 0, k]) (fun c k => ![k, c 1])
    h29 h30
    (Rd.const Consts.f0 : Rd (α := EReal) _ fun _ => 0)).congr fun c _ => zero_add _

include h1 h15 h2 h16 h4 h18 in
theorem pay2 : Rd (s := S512x1024) (k0_pay2 (F := Ideal) v1 v2 v4 v15 v16 v18) (bk 512 i fun r k => br C Z W 0 r k + br C Z W 1 r k) := by
  have e0 : Rd (s := S512x1024) (broadcast S512x1024 (Scalar.ofBits (F := Ideal) .f32 0x00000000#32)) fun _ => (0 : EReal) := fun _ => Consts.f0
  have e := (e0.addf (((Rd.lg h4).extf (φ := .bf16) (ψ := .f32) bitsLt_bf16_f32).mulf (pay3 h1 h2))).addf (((Rd.lg h18).extf (φ := .bf16) (ψ := .f32) bitsLt_bf16_f32).mulf (pay3 h15 h16))
  exact Rd.congr (g := bk 512 i fun r k => br C Z W 0 r k + br C Z W 1 r k) e fun c _ => congrArg (· + _) (zero_add _)

variable {v28 v31 : FVec Ideal S512x1024 .f32} (h28 : Rd (s := S512x1024) v28 (bk 512 i fun r k => br C Z W 0 r k + br C Z W 1 r k))
  (h31 : Rd (s := S512x1024) v31 (bk 512 i (mm 512 (fun r j => C r (512 * 2 + j)) (W 2))))
include h28 h31 h32 in
theorem pay1 : Rd (s := S512x1024) (k0_pay1 (F := Ideal) v28 v31 v32) (bk 512 i (pf C Z W)) :=
  (h28.addf (((Rd.lg h32).extf (φ := .bf16) (ψ := .f32) bitsLt_bf16_f32).mulf h31)).truncf _
end Body

variable (m : (ℓ : Loc nD τ sig) → Buf (Elt Ideal) ℓ) (c : Dev nD)

def aC (r k : ℕ) : EReal := ar (s := S8192x1536) (m ((c : Thread nD τ).loc main_arg0)) ![r, k]
def aF (r k : ℕ) : EReal := ar (s := S8192x6144) (m ((c : Thread nD τ).loc main_arg1)) ![r, k]
/-- The gates' columns of the input projection's output. -/
def aZ (r k : ℕ) : EReal := aF m c r (3072 + k)
def aW : ℕ → ℕ → ℕ → EReal := wt (fun r k => ar (s := S512x1024) (m ((c : Thread nD τ).loc main_arg2)) ![r, k])
  (fun r k => ar (s := S512x1024) (m ((c : Thread nD τ).loc main_arg3)) ![r, k]) fun r k => ar (s := S512x1024) (m ((c : Thread nD τ).loc main_arg4)) ![r, k]

theorem at0 : ∀ t : Fin grid0.N, win0_0.index t = ![t.val, 0] := by decide +kernel
theorem at1 : ∀ t : Fin grid0.N, win0_1.index t = ![t.val, 1] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![t.val, 0] := by decide +kernel

variable (t : Fin cfg0.N)

theorem blk0 : Rd (s := S512x1536) (iblk m c 0 t) (bk 512 t.val (aC m c)) := fun i => by
  refine (congrFun (V_main_arg0 m c) _).trans (ar_of (s := S8192x1536) _ _ _ fun a => ?_)
  match a with | ⟨0, _⟩ | ⟨1, _⟩ => blk_simp [at0] <;> (try simp) <;> omega

theorem blk1 : Rd (s := S512x3072) (iblk m c 1 t) (bk 512 t.val (aZ m c)) := fun i => by
  refine (congrFun (V_main_arg1 m c) _).trans (ar_of (s := S8192x6144) _ _ _ fun a => ?_)
  match a with | ⟨0, _⟩ | ⟨1, _⟩ => blk_simp [at1] <;> (try simp) <;> omega

theorem blk2 : Rd (s := S512x1024) (iblk m c 2 t) fun k => aW m c 0 (k 0) (k 1) := fun i => by
  refine (congrFun (V_main_arg2 m c) _).trans (ar_of (s := S512x1024) _ _ _ fun a => ?_)
  match a with | ⟨0, _⟩ | ⟨1, _⟩ => blk_simp [at2] <;> (try simp) <;> omega

theorem blk3 : Rd (s := S512x1024) (iblk m c 3 t) fun k => aW m c 1 (k 0) (k 1) := fun i => by
  refine (congrFun (V_main_arg3 m c) _).trans (ar_of (s := S512x1024) _ _ _ fun a => ?_)
  match a with | ⟨0, _⟩ | ⟨1, _⟩ => blk_simp [at3] <;> (try simp) <;> omega

theorem blk4 : Rd (s := S512x1024) (iblk m c 4 t) fun k => aW m c 2 (k 0) (k 1) := fun i => by
  refine (congrFun (V_main_arg4 m c) _).trans (ar_of (s := S512x1024) _ _ _ fun a => ?_)
  match a with | ⟨0, _⟩ | ⟨1, _⟩ => blk_simp [at4] <;> (try simp) <;> omega

/-! The blocks as a grid point loads them. -/
def w0 := ldW (f := fun k => aW m c 0 (k 0) (k 1)) (blk2 m c t) inb_S512x1024_S512x1024_0_0
def w1 := ldW (f := fun k => aW m c 1 (k 0) (k 1)) (blk3 m c t) inb_S512x1024_S512x1024_0_0
def w2 := ldW (f := fun k => aW m c 2 (k 0) (k 1)) (blk4 m c t) inb_S512x1024_S512x1024_0_0
def z0 := lcol (blk1 m c t) 0 inb_S512x3072_S512x1024_0_0
def z1 := lcol (blk1 m c t) 1024 inb_S512x3072_S512x1024_0_1024
def z2 := lcol (blk1 m c t) 2048 inb_S512x3072_S512x1024_0_2048
def c0 := lcol (blk0 m c t) 0 inb_S512x1536_S512x512_0_0
def c1 := lcol (blk0 m c t) 512 inb_S512x1536_S512x512_0_512
def c2 := lcol (blk0 m c t) 1024 inb_S512x1536_S512x512_0_1024

/-! The array after the launch. -/
theorem o_arr : Rd (s := S8192x1024) ((dats m 0 c).arrAt 5 cfg0.N) fun k => pf (aC m c) (aZ m c) (aW m c) (k 0) (k 1) := fun i => by
  refine (dats m 0 c).arrAt_forall_of_covers 5 (fun i v => v = pf (aC m c) (aZ m c) (aW m c) (i 0).val (i 1).val) (by decide +kernel) (fun t hf y => ?_) i
  rw [after0_5]
  unfold out0_5
  refine (cn16 (pay1 (C := aC m c) (Z := aZ m c) (W := aW m c) (z2 m c t) (pay2 (c0 m c t) (c1 m c t) (w0 m c t) (w1 m c t) (z0 m c t) (z1 m c t)) (pay3 (b := 2) (c2 m c t) (w2 m c t))) (cover0_5 _) _).trans ?_
  refine congrArg₂ (pf (aC m c) (aZ m c) (aW m c)) ?_ ?_ <;> blk_simp [at5] <;> (try simp) <;> omega

/-! The reference. -/
section Ref
open Cert.Reference18Ideal (S2x4096x512 S2x4096x1024 S2x4096x1536 S2x4096x3x1024 S2x4096x1x1024 S8192x3072)
open Cert.Reference18Ideal.Read

variable {C F Z : ℕ → ℕ → EReal} {W : ℕ → ℕ → ℕ → EReal} {x0 : (⟨S8192x1536, .bf16⟩ : BufTy).Contents (Elt Ideal)} {x1 : (⟨S8192x6144, .bf16⟩ : BufTy).Contents (Elt Ideal)}
  {x2 x3 x4 : (⟨S512x1024, .bf16⟩ : BufTy).Contents (Elt Ideal)}
  (hc : Rd (s := S8192x1536) x0 fun k => C (k 0) (k 1)) (hz : Rd (s := S8192x6144) x1 fun k => F (k 0) (k 1)) (hZ : ∀ r k, F r (3072 + k) = Z r k)
  (h0 : Rd (s := S512x1024) x2 fun k => W 0 (k 0) (k 1)) (h1 : Rd (s := S512x1024) x3 fun k => W 1 (k 0) (k 1)) (h2 : Rd (s := S512x1024) x4 fun k => W 2 (k 0) (k 1))

include hz hZ in
theorem v19 : Rd (s := S2x4096x3x1024) (val_main_v19 (F := Ideal) x1) (fun c : Fin 4 → ℕ => Ideal.logistic (Z (4096 * c 0 + c 1) (1024 * c 2 + c 3))) := by
  have v12 : Rd (s := S8192x3072) (val_main_v12 (F := Ideal) x1) (fun c : Fin 2 → ℕ => Z (c 0) (c 1)) :=
    Rd.of_apply (t := S8192x3072) (g := fun c : Fin 2 → ℕ => Z (c 0) (c 1)) (hz.extf _) (val_main_v12_apply x1) fun i => hZ _ _
  have v18 : Rd (s := S8192x3072) (val_main_v18 (F := Ideal) x1) (fun c : Fin 2 → ℕ => Ideal.logistic (Z (c 0) (c 1))) :=
    Rd.hlg v12 (Rf.scal (fun _ => Consts.f1) _) (Rf.scal (fun _ => Consts.f1) _)
  exact Rd.of_apply (t := S2x4096x3x1024) (g := fun c : Fin 4 → ℕ => Ideal.logistic (Z (4096 * c 0 + c 1) (1024 * c 2 + c 3))) v18 (val_main_v19_apply x1) fun i => by
    have b0 : (i 0).val < 2 := (i 0).isLt; have b1 : (i 1).val < 4096 := (i 1).isLt; have b2 : (i 2).val < 3 := (i 2).isLt; have b3 : (i 3).val < 1024 := (i 3).isLt
    exact congrArg Ideal.logistic (Rf.cg2 Z (show ((((i 0).val * 4096 + (i 1).val) * 3 + (i 2).val) * 1024 + (i 3).val) / 3072 = 4096 * (i 0).val + (i 1).val by omega)
      (show ((((i 0).val * 4096 + (i 1).val) * 3 + (i 2).val) * 1024 + (i 3).val) % 3072 = 1024 * (i 2).val + (i 3).val by omega))

include hc hz hZ h0 h1 h2 in
theorem v32 : Rd (s := S8192x1024) (val_main_v32 (F := Ideal) x0 x1 x2 x3 x4) (fun c : Fin 2 → ℕ => pf C Z W (c 0) (c 1)) := by
  have v5 : Rd (s := S2x4096x1536) (val_main_v5 (F := Ideal) x0) (fun c : Fin 3 → ℕ => C (4096 * c 0 + c 1) (c 2)) := Rd.seq (hc.extf _) _
  have v7 : Rd (s := S2x4096x1024) (val_main_v7 (F := Ideal) x0 x2) (fun c : Fin 3 → ℕ => mm 512 (fun r j => C r (512 * 0 + j)) (W 0) (4096 * c 0 + c 1) (c 2)) :=
    Rd.of_dot (part v5 (512 * 0) _) (h0.extf _) (val_main_v7_apply x0 x2) (fun c k => C (4096 * c 0 + c 1) (512 * 0 + k) * W 0 k (c 2)) fun i k => rfl
  have v9 : Rd (s := S2x4096x1024) (val_main_v9 (F := Ideal) x0 x3) (fun c : Fin 3 → ℕ => mm 512 (fun r j => C r (512 * 1 + j)) (W 1) (4096 * c 0 + c 1) (c 2)) :=
    Rd.of_dot (part v5 (512 * 1) _) (h1.extf _) (val_main_v9_apply x0 x3) (fun c k => C (4096 * c 0 + c 1) (512 * 1 + k) * W 1 k (c 2)) fun i k => rfl
  have v11 : Rd (s := S2x4096x1024) (val_main_v11 (F := Ideal) x0 x4) (fun c : Fin 3 → ℕ => mm 512 (fun r j => C r (512 * 2 + j)) (W 2) (4096 * c 0 + c 1) (c 2)) :=
    Rd.of_dot (part v5 (512 * 2) _) (h2.extf _) (val_main_v11_apply x0 x4) (fun c k => C (4096 * c 0 + c 1) (512 * 2 + k) * W 2 k (c 2)) fun i k => rfl
  have g (b : ℕ) := gate (F := fun r k => Ideal.logistic (Z r k)) (v19 hz hZ) b
  have v30 : Rd (s := S2x4096x1024) (val_main_v30 (F := Ideal) x0 x1 x2 x3 x4) (fun c : Fin 3 → ℕ => pf C Z W (4096 * c 0 + c 1) (c 2)) :=
    (((g 0 _ _).mulf v7).addf ((g 1 _ _).mulf v9)).addf ((g 2 _ _).mulf v11)
  exact (Rd.unseq v30 _).truncf _
end Ref

theorem claim : Cert.algebraic_Kernel18Ideal_Reference18Ideal := fun m g m' g' _ hag => by
  refine ⟨fun c => (dats m 0 c).arrAt 5 cfg0.N, Value.run_blocks m g, ?_⟩
  refine (θ_run Cert.Reference18Ideal.defs _ _).mono (fun r h c => ?_) (Cert.Reference18Ideal.Value.run (F := Ideal) m' g')
  obtain ⟨e0, e⟩ := h c
  obtain ⟨h0, h1, h2, h3, h4⟩ := hag c
  refine ⟨e0.trans ?_, e⟩
  refine (Cert.Reference18Ideal.Read.val_main_v32_eq _ _ _ _ _).trans ?_
  rw [h0, h1]
  rw [h2, h3, h4]
  exact Final.same (v32 (C := aC m c) (F := aF m c) (Z := aZ m c) (W := aW m c) (Final.rd2 _) (Final.rd2 _) (fun _ _ => rfl) (Final.rd2 _) (Final.rd2 _) (Final.rd2 _)) (o_arr m c) fun _ => rfl

end Cert.ProjF

end
-- ==== Proof.lean ====
module

public import proofs.«01_k».proof.Defs
public import proofs.«01_k».proof.Proof.Gen.Pre_finite
public import proofs.«01_k».proof.Proof.Gen.Pre_finite_ffn
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Final
public import proofs.«01_k».proof.Proof.InFinal
public import proofs.«01_k».proof.Proof.UpFinal
public import proofs.«01_k».proof.Proof.InW
public import proofs.«01_k».proof.Proof.UpW
public import proofs.«01_k».proof.Proof.GateF
public import proofs.«01_k».proof.Proof.DownW
public import proofs.«01_k».proof.Proof.GateO
public import proofs.«01_k».proof.Proof.OutW
public import proofs.«01_k».proof.Proof.Pj
public import proofs.«01_k».proof.Proof.ProjWa
public import proofs.«01_k».proof.Proof.ProjWb
public import proofs.«01_k».proof.Proof.ProjWc
public import proofs.«01_k».proof.Proof.InF
public import proofs.«01_k».proof.Proof.UpF
public import proofs.«01_k».proof.Proof.DownF
public import proofs.«01_k».proof.Proof.OutF
public import proofs.«01_k».proof.Proof.ProjF
public import Idealize.ShloMosaic.Adequacy
public import Idealize.ShloMosaic.Init

@[expose] public section

noncomputable section

namespace Cert.Proof

open Idealize.ShloMosaic Idealize.SL.Sem Cert.Kernel

/-- The reference runs, leaves its arguments and ends with every counter at zero: it has no counters. -/
theorem frame_ri : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The kernel computes the reference's gradients: equal extended reals, element by element. -/
theorem algebraic : Cert.algebraic_KernelIdeal_ReferenceIdeal_pre_finite := Cert.Final.claim

theorem frame_ri2 : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

theorem frame_ri3 : Cert.quiescent_Reference3Ideal := fun m ρ _ =>
  (θ_run Cert.Reference3Ideal.defs _ _).mono
    (fun r h => ⟨fun c => (h c).2.2.2.2, sem_eq_zero_of_no_sems (by decide) r.2⟩)
    (Cert.Reference3Ideal.Value.run (F := Ideal) m ρ)

theorem frame_ri4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem frame_ri5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

theorem frame_ri6 : Cert.quiescent_Reference6Ideal := fun m ρ _ =>
  (θ_run Cert.Reference6Ideal.defs _ _).mono
    (fun r h => ⟨fun c => (h c).2.2.2.2, sem_eq_zero_of_no_sems (by decide) r.2⟩)
    (Cert.Reference6Ideal.Value.run (F := Ideal) m ρ)

theorem frame_ri7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

theorem frame_ri8 : Cert.quiescent_Reference8Ideal := fun m ρ _ =>
  (θ_run Cert.Reference8Ideal.defs _ _).mono
    (fun r h => ⟨fun c => (h c).2.2.2, sem_eq_zero_of_no_sems (by decide) r.2⟩)
    (Cert.Reference8Ideal.Value.run (F := Ideal) m ρ)

theorem frame_ri9 : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

theorem frame_ri10 : Cert.quiescent_Reference10Ideal := fun m ρ _ =>
  (θ_run Cert.Reference10Ideal.defs _ _).mono
    (fun r h => ⟨fun c => (h c).2.2.2, sem_eq_zero_of_no_sems (by decide) r.2⟩)
    (Cert.Reference10Ideal.Value.run (F := Ideal) m ρ)

theorem frame_ri11 : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

theorem frame_ri12 : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

theorem frame_ri13 : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

theorem frame_ri14 : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run (F := Ideal) m ρ)

theorem frame_ri15 : Cert.quiescent_Reference15Ideal := fun m ρ _ =>
  (θ_run Cert.Reference15Ideal.defs _ _).mono
    (fun r h => ⟨fun c => (h c).2.2.2, sem_eq_zero_of_no_sems (by decide) r.2⟩)
    (Cert.Reference15Ideal.Value.run (F := Ideal) m ρ)

theorem frame_ri16 : Cert.quiescent_Reference16Ideal := fun m ρ _ =>
  (θ_run Cert.Reference16Ideal.defs _ _).mono
    (fun r h => ⟨fun c => (h c).2.2, sem_eq_zero_of_no_sems (by decide) r.2⟩)
    (Cert.Reference16Ideal.Value.run (F := Ideal) m ρ)

theorem frame_ri17 : Cert.quiescent_Reference17Ideal := fun m ρ _ =>
  (θ_run Cert.Reference17Ideal.defs _ _).mono
    (fun r h => ⟨fun c => (h c).2.2, sem_eq_zero_of_no_sems (by decide) r.2⟩)
    (Cert.Reference17Ideal.Value.run (F := Ideal) m ρ)

theorem frame_ri18 : Cert.quiescent_Reference18Ideal := fun m ρ _ =>
  (θ_run Cert.Reference18Ideal.defs _ _).mono
    (fun r h => ⟨fun c => (h c).2, sem_eq_zero_of_no_sems (by decide) r.2⟩)
    (Cert.Reference18Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Pre_finite.Gen.facts, Cert.Pre_finite_ffn.Gen.facts,
  fun m ρ _ => Cert.Kernel.Gen.frame m ρ, fun m ρ _ => Cert.KernelIdeal.Gen.frame m ρ,
  fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ,
  fun m ρ _ => Cert.Kernel6Ideal.Gen.frame m ρ, frame_ri6, fun m ρ _ => frame_ri6 m ρ trivial,
  fun m ρ _ => Cert.Kernel7.Gen.frame m ρ, fun m ρ _ => Cert.Kernel7Ideal.Gen.frame m ρ, frame_ri7,
  fun m ρ _ => Cert.Kernel8.Gen.frame m ρ, fun m ρ _ => Cert.Kernel8Ideal.Gen.frame m ρ, frame_ri8,
  fun m ρ _ => Cert.Kernel9.Gen.frame m ρ, fun m ρ _ => Cert.Kernel9Ideal.Gen.frame m ρ, frame_ri9,
  fun m ρ _ => Cert.Kernel10.Gen.frame m ρ, fun m ρ _ => Cert.Kernel10Ideal.Gen.frame m ρ, frame_ri10,
  fun m ρ _ => Cert.Kernel11.Gen.frame m ρ, fun m ρ _ => Cert.Kernel11Ideal.Gen.frame m ρ, frame_ri11,
  fun m ρ _ => Cert.Kernel12.Gen.frame m ρ, fun m ρ _ => Cert.Kernel12Ideal.Gen.frame m ρ, frame_ri12,
  fun m ρ _ => Cert.Kernel13.Gen.frame m ρ, fun m ρ _ => Cert.Kernel13Ideal.Gen.frame m ρ, frame_ri13,
  fun m ρ _ => Cert.Kernel14.Gen.frame m ρ, fun m ρ _ => Cert.Kernel14Ideal.Gen.frame m ρ, frame_ri14,
  fun m ρ _ => Cert.Kernel15.Gen.frame m ρ, fun m ρ _ => Cert.Kernel15Ideal.Gen.frame m ρ, frame_ri15,
  fun m ρ _ => Cert.Kernel16.Gen.frame m ρ, fun m ρ _ => Cert.Kernel16Ideal.Gen.frame m ρ, frame_ri16,
  fun m ρ _ => Cert.Kernel17.Gen.frame m ρ, fun m ρ _ => Cert.Kernel17Ideal.Gen.frame m ρ, frame_ri17,
  fun m ρ _ => Cert.Kernel18.Gen.frame m ρ, fun m ρ _ => Cert.Kernel18Ideal.Gen.frame m ρ, frame_ri18,
  ⟨IdealRules.named_const.statement Cert.KernelIdeal.κ "gelu_c" .bf16 0x3D37#16 _ rfl,
    IdealRules.named_const.statement Cert.KernelIdeal.κ "gelu_k" .bf16 0x3F4C#16 _ rfl,
    IdealRules.named_const.statement Cert.KernelIdeal.κ "gelu_3c" .bf16 0x3E09#16 _ rfl⟩,
  algebraic, trivial, Cert.In.claim,
  trivial, Cert.Up.claim,
  trivial, Cert.InW.claim,
  trivial, Cert.UpW.claim,
  trivial, Cert.GateF.claim,
  trivial, Cert.DownW.claim,
  trivial, Cert.GateO.claim,
  trivial, Cert.OutW.claim,
  trivial, Cert.Pj.claim,
  trivial, Cert.ProjWa.claim,
  trivial, Cert.ProjWb.claim,
  trivial, Cert.ProjWc.claim,
  trivial, Cert.InF.claim,
  trivial, Cert.UpF.claim,
  trivial, Cert.DownF.claim,
  trivial, Cert.OutF.claim,
  trivial, Cert.ProjF.claim⟩

end Cert.Proof

end
